-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_ReferenceActIdeal (m : (ℓ : Loc Cert.ReferenceActIdeal.nD Cert.ReferenceActIdeal.τ Cert.ReferenceActIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelWin (m : (ℓ : Loc Cert.KernelWin.nD Cert.KernelWin.τ Cert.KernelWin.sig) → Buf (Elt Bits) ℓ) : Prop :=
  True

def Pre_KernelWinIdeal (m : (ℓ : Loc Cert.KernelWinIdeal.nD Cert.KernelWinIdeal.τ Cert.KernelWinIdeal.sig) → Buf (Elt Ideal) ℓ) : Prop :=
  True

def Pre_ReferenceWinIdeal (m : (ℓ : Loc Cert.ReferenceWinIdeal.nD Cert.ReferenceWinIdeal.τ Cert.ReferenceWinIdeal.sig) → Buf (Elt Ideal) ℓ) : Prop :=
  True

def Pre_KernelWout (m : (ℓ : Loc Cert.KernelWout.nD Cert.KernelWout.τ Cert.KernelWout.sig) → Buf (Elt Bits) ℓ) : Prop :=
  True

def Pre_KernelWoutIdeal (m : (ℓ : Loc Cert.KernelWoutIdeal.nD Cert.KernelWoutIdeal.τ Cert.KernelWoutIdeal.sig) → Buf (Elt Ideal) ℓ) : Prop :=
  True

def Pre_ReferenceWoutIdeal (m : (ℓ : Loc Cert.ReferenceWoutIdeal.nD Cert.ReferenceWoutIdeal.τ Cert.ReferenceWoutIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelMlp (m : (ℓ : Loc Cert.KernelMlp.nD Cert.KernelMlp.τ Cert.KernelMlp.sig) → Buf (Elt Bits) ℓ) : Prop :=
  True

def Pre_KernelMlpIdeal (m : (ℓ : Loc Cert.KernelMlpIdeal.nD Cert.KernelMlpIdeal.τ Cert.KernelMlpIdeal.sig) → Buf (Elt Ideal) ℓ) : Prop :=
  True

def Pre_ReferenceMlpIdeal (m : (ℓ : Loc Cert.ReferenceMlpIdeal.nD Cert.ReferenceMlpIdeal.τ Cert.ReferenceMlpIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_ReferenceFwdIdeal (m : (ℓ : Loc Cert.ReferenceFwdIdeal.nD Cert.ReferenceFwdIdeal.τ Cert.ReferenceFwdIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelWin [hKernelWin : Cert.KernelWin.Facts] : Prop :=
  ∀ (m : (ℓ : Loc Cert.KernelWin.nD Cert.KernelWin.τ Cert.KernelWin.sig) → Buf (Elt Bits) ℓ) (g : Dev Cert.KernelWin.nD → PrngReg), Pre_KernelWin m →
    θ_run (Cert.KernelWin.defs (F := Bits)) (onTc (τ := Cert.KernelWin.τ) (Cert.KernelWin.main (F := Bits))) ⟨m, fun _ => 0, g⟩ (fun r => (∀ c : Dev Cert.KernelWin.nD,
      r.2.mem ((c.tc : Thread Cert.KernelWin.nD Cert.KernelWin.τ).loc Cert.KernelWin.main_arg0) = m ((c.tc : Thread Cert.KernelWin.nD Cert.KernelWin.τ).loc Cert.KernelWin.main_arg0)
      ∧ r.2.mem ((c.tc : Thread Cert.KernelWin.nD Cert.KernelWin.τ).loc Cert.KernelWin.main_arg1) = m ((c.tc : Thread Cert.KernelWin.nD Cert.KernelWin.τ).loc Cert.KernelWin.main_arg1))
      ∧ r.2.sem = fun _ => 0)

def quiescent_KernelWinIdeal [hKernelWinIdeal : Cert.KernelWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ r.2.sem = fun _ => 0)

def quiescent_ReferenceWinIdeal [hReferenceWinIdeal : Cert.ReferenceWinIdeal.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1))
      ∧ r.2.sem = fun _ => 0)

def quiescent_KernelWout [hKernelWout : Cert.KernelWout.Facts] : Prop :=
  ∀ (m : (ℓ : Loc Cert.KernelWout.nD Cert.KernelWout.τ Cert.KernelWout.sig) → Buf (Elt Bits) ℓ) (g : Dev Cert.KernelWout.nD → PrngReg), Pre_KernelWout m →
    θ_run (Cert.KernelWout.defs (F := Bits)) (onTc (τ := Cert.KernelWout.τ) (Cert.KernelWout.main (F := Bits))) ⟨m, fun _ => 0, g⟩ (fun r => (∀ c : Dev Cert.KernelWout.nD,
      r.2.mem ((c.tc : Thread Cert.KernelWout.nD Cert.KernelWout.τ).loc Cert.KernelWout.main_arg0) = m ((c.tc : Thread Cert.KernelWout.nD Cert.KernelWout.τ).loc Cert.KernelWout.main_arg0)
      ∧ r.2.mem ((c.tc : Thread Cert.KernelWout.nD Cert.KernelWout.τ).loc Cert.KernelWout.main_arg1) = m ((c.tc : Thread Cert.KernelWout.nD Cert.KernelWout.τ).loc Cert.KernelWout.main_arg1))
      ∧ r.2.sem = fun _ => 0)

def quiescent_KernelWoutIdeal [hKernelWoutIdeal : Cert.KernelWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg), Pre_KernelWoutIdeal m →
    θ_run (Cert.KernelWoutIdeal.defs (F := Ideal)) (onTc (τ := Cert.KernelWoutIdeal.τ) (Cert.KernelWoutIdeal.main (F := Ideal))) ⟨m, fun _ => 0, g⟩ (fun r => (∀ c : Dev Cert.KernelWoutIdeal.nD,
      r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
      ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1))
      ∧ r.2.sem = fun _ => 0)

def quiescent_ReferenceWoutIdeal [hReferenceWoutIdeal : Cert.ReferenceWoutIdeal.Facts] : Prop :=
  ∀ (m : (ℓ : Loc Cert.ReferenceWoutIdeal.nD Cert.ReferenceWoutIdeal.τ Cert.ReferenceWoutIdeal.sig) → Buf (Elt Ideal) ℓ) (g : Dev Cert.ReferenceWoutIdeal.nD → PrngReg), Pre_ReferenceWoutIdeal m →
    θ_run (Cert.ReferenceWoutIdeal.defs (F := Ideal)) (onTc (τ := Cert.ReferenceWoutIdeal.τ) (Cert.ReferenceWoutIdeal.main (F := Ideal))) ⟨m, fun _ => 0, g⟩ (fun r => (∀ c : Dev Cert.ReferenceWoutIdeal.nD,
      r.2.mem ((c.tc : Thread Cert.ReferenceWoutIdeal.nD Cert.ReferenceWoutIdeal.τ).loc Cert.ReferenceWoutIdeal.main_arg0) = m ((c.tc : Thread Cert.ReferenceWoutIdeal.nD Cert.ReferenceWoutIdeal.τ).loc Cert.ReferenceWoutIdeal.main_arg0)
      ∧ r.2.mem ((c.tc : Thread Cert.ReferenceWoutIdeal.nD Cert.ReferenceWoutIdeal.τ).loc Cert.ReferenceWoutIdeal.main_arg1) = m ((c.tc : Thread Cert.ReferenceWoutIdeal.nD Cert.ReferenceWoutIdeal.τ).loc Cert.ReferenceWoutIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_KernelMlp [hKernelMlp : Cert.KernelMlp.Facts] : Prop :=
  ∀ (m : (ℓ : Loc Cert.KernelMlp.nD Cert.KernelMlp.τ Cert.KernelMlp.sig) → Buf (Elt Bits) ℓ) (g : Dev Cert.KernelMlp.nD → PrngReg), Pre_KernelMlp m →
    θ_run (Cert.KernelMlp.defs (F := Bits)) (onTc (τ := Cert.KernelMlp.τ) (Cert.KernelMlp.main (F := Bits))) ⟨m, fun _ => 0, g⟩ (fun r => (∀ c : Dev Cert.KernelMlp.nD,
      r.2.mem ((c.tc : Thread Cert.KernelMlp.nD Cert.KernelMlp.τ).loc Cert.KernelMlp.main_arg0) = m ((c.tc : Thread Cert.KernelMlp.nD Cert.KernelMlp.τ).loc Cert.KernelMlp.main_arg0)
      ∧ r.2.mem ((c.tc : Thread Cert.KernelMlp.nD Cert.KernelMlp.τ).loc Cert.KernelMlp.main_arg1) = m ((c.tc : Thread Cert.KernelMlp.nD Cert.KernelMlp.τ).loc Cert.KernelMlp.main_arg1)
      ∧ r.2.mem ((c.tc : Thread Cert.KernelMlp.nD Cert.KernelMlp.τ).loc Cert.KernelMlp.main_arg2) = m ((c.tc : Thread Cert.KernelMlp.nD Cert.KernelMlp.τ).loc Cert.KernelMlp.main_arg2)
      ∧ r.2.mem ((c.tc : Thread Cert.KernelMlp.nD Cert.KernelMlp.τ).loc Cert.KernelMlp.main_arg3) = m ((c.tc : Thread Cert.KernelMlp.nD Cert.KernelMlp.τ).loc Cert.KernelMlp.main_arg3)
      ∧ r.2.mem ((c.tc : Thread Cert.KernelMlp.nD Cert.KernelMlp.τ).loc Cert.KernelMlp.main_arg4) = m ((c.tc : Thread Cert.KernelMlp.nD Cert.KernelMlp.τ).loc Cert.KernelMlp.main_arg4)
      ∧ r.2.mem ((c.tc : Thread Cert.KernelMlp.nD Cert.KernelMlp.τ).loc Cert.KernelMlp.main_arg5) = m ((c.tc : Thread Cert.KernelMlp.nD Cert.KernelMlp.τ).loc Cert.KernelMlp.main_arg5)
      ∧ r.2.mem ((c.tc : Thread Cert.KernelMlp.nD Cert.KernelMlp.τ).loc Cert.KernelMlp.main_arg6) = m ((c.tc : Thread Cert.KernelMlp.nD Cert.KernelMlp.τ).loc Cert.KernelMlp.main_arg6)
      ∧ r.2.mem ((c.tc : Thread Cert.KernelMlp.nD Cert.KernelMlp.τ).loc Cert.KernelMlp.main_arg7) = m ((c.tc : Thread Cert.KernelMlp.nD Cert.KernelMlp.τ).loc Cert.KernelMlp.main_arg7))
      ∧ r.2.sem = fun _ => 0)

def quiescent_KernelMlpIdeal [hKernelMlpIdeal : Cert.KernelMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg), Pre_KernelMlpIdeal m →
    θ_run (Cert.KernelMlpIdeal.defs (F := Ideal)) (onTc (τ := Cert.KernelMlpIdeal.τ) (Cert.KernelMlpIdeal.main (F := Ideal))) ⟨m, fun _ => 0, g⟩ (fun r => (∀ c : Dev Cert.KernelMlpIdeal.nD,
      r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
      ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
      ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
      ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
      ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
      ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5)
      ∧ r.2.mem ((c.tc : Thread Cert.KernelMlpIdeal.nD Cert.KernelMlpIdeal.τ).loc Cert.KernelMlpIdeal.main_arg6) = m ((c.tc : Thread Cert.KernelMlpIdeal.nD Cert.KernelMlpIdeal.τ).loc Cert.KernelMlpIdeal.main_arg6)
      ∧ r.2.mem ((c.tc : Thread Cert.KernelMlpIdeal.nD Cert.KernelMlpIdeal.τ).loc Cert.KernelMlpIdeal.main_arg7) = m ((c.tc : Thread Cert.KernelMlpIdeal.nD Cert.KernelMlpIdeal.τ).loc Cert.KernelMlpIdeal.main_arg7))
      ∧ r.2.sem = fun _ => 0)

def quiescent_ReferenceMlpIdeal [hReferenceMlpIdeal : Cert.ReferenceMlpIdeal.Facts] : Prop :=
  ∀ (m : (ℓ : Loc Cert.ReferenceMlpIdeal.nD Cert.ReferenceMlpIdeal.τ Cert.ReferenceMlpIdeal.sig) → Buf (Elt Ideal) ℓ) (g : Dev Cert.ReferenceMlpIdeal.nD → PrngReg), Pre_ReferenceMlpIdeal m →
    θ_run (Cert.ReferenceMlpIdeal.defs (F := Ideal)) (onTc (τ := Cert.ReferenceMlpIdeal.τ) (Cert.ReferenceMlpIdeal.main (F := Ideal))) ⟨m, fun _ => 0, g⟩ (fun r => (∀ c : Dev Cert.ReferenceMlpIdeal.nD,
      r.2.mem ((c.tc : Thread Cert.ReferenceMlpIdeal.nD Cert.ReferenceMlpIdeal.τ).loc Cert.ReferenceMlpIdeal.main_arg0) = m ((c.tc : Thread Cert.ReferenceMlpIdeal.nD Cert.ReferenceMlpIdeal.τ).loc Cert.ReferenceMlpIdeal.main_arg0)
      ∧ r.2.mem ((c.tc : Thread Cert.ReferenceMlpIdeal.nD Cert.ReferenceMlpIdeal.τ).loc Cert.ReferenceMlpIdeal.main_arg1) = m ((c.tc : Thread Cert.ReferenceMlpIdeal.nD Cert.ReferenceMlpIdeal.τ).loc Cert.ReferenceMlpIdeal.main_arg1)
      ∧ r.2.mem ((c.tc : Thread Cert.ReferenceMlpIdeal.nD Cert.ReferenceMlpIdeal.τ).loc Cert.ReferenceMlpIdeal.main_arg2) = m ((c.tc : Thread Cert.ReferenceMlpIdeal.nD Cert.ReferenceMlpIdeal.τ).loc Cert.ReferenceMlpIdeal.main_arg2)
      ∧ r.2.mem ((c.tc : Thread Cert.ReferenceMlpIdeal.nD Cert.ReferenceMlpIdeal.τ).loc Cert.ReferenceMlpIdeal.main_arg3) = m ((c.tc : Thread Cert.ReferenceMlpIdeal.nD Cert.ReferenceMlpIdeal.τ).loc Cert.ReferenceMlpIdeal.main_arg3)
      ∧ r.2.mem ((c.tc : Thread Cert.ReferenceMlpIdeal.nD Cert.ReferenceMlpIdeal.τ).loc Cert.ReferenceMlpIdeal.main_arg4) = m ((c.tc : Thread Cert.ReferenceMlpIdeal.nD Cert.ReferenceMlpIdeal.τ).loc Cert.ReferenceMlpIdeal.main_arg4)
      ∧ r.2.mem ((c.tc : Thread Cert.ReferenceMlpIdeal.nD Cert.ReferenceMlpIdeal.τ).loc Cert.ReferenceMlpIdeal.main_arg5) = m ((c.tc : Thread Cert.ReferenceMlpIdeal.nD Cert.ReferenceMlpIdeal.τ).loc Cert.ReferenceMlpIdeal.main_arg5)
      ∧ r.2.mem ((c.tc : Thread Cert.ReferenceMlpIdeal.nD Cert.ReferenceMlpIdeal.τ).loc Cert.ReferenceMlpIdeal.main_arg6) = m ((c.tc : Thread Cert.ReferenceMlpIdeal.nD Cert.ReferenceMlpIdeal.τ).loc Cert.ReferenceMlpIdeal.main_arg6)
      ∧ r.2.mem ((c.tc : Thread Cert.ReferenceMlpIdeal.nD Cert.ReferenceMlpIdeal.τ).loc Cert.ReferenceMlpIdeal.main_arg7) = m ((c.tc : Thread Cert.ReferenceMlpIdeal.nD Cert.ReferenceMlpIdeal.τ).loc Cert.ReferenceMlpIdeal.main_arg7))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3)
      ∧ r.2.mem ((c.tc : Thread Cert.KernelAdamUp.nD Cert.KernelAdamUp.τ).loc Cert.KernelAdamUp.main_arg4) = m ((c.tc : Thread Cert.KernelAdamUp.nD Cert.KernelAdamUp.τ).loc Cert.KernelAdamUp.main_arg4))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3)
      ∧ r.2.mem ((c.tc : Thread Cert.KernelAdamUpIdeal.nD Cert.KernelAdamUpIdeal.τ).loc Cert.KernelAdamUpIdeal.main_arg4) = m ((c.tc : Thread Cert.KernelAdamUpIdeal.nD Cert.KernelAdamUpIdeal.τ).loc Cert.KernelAdamUpIdeal.main_arg4))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3)
      ∧ r.2.mem ((c.tc : Thread Cert.ReferenceAdamUpIdeal.nD Cert.ReferenceAdamUpIdeal.τ).loc Cert.ReferenceAdamUpIdeal.main_arg4) = m ((c.tc : Thread Cert.ReferenceAdamUpIdeal.nD Cert.ReferenceAdamUpIdeal.τ).loc Cert.ReferenceAdamUpIdeal.main_arg4))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3)
      ∧ r.2.mem ((c.tc : Thread Cert.KernelAdamDown.nD Cert.KernelAdamDown.τ).loc Cert.KernelAdamDown.main_arg4) = m ((c.tc : Thread Cert.KernelAdamDown.nD Cert.KernelAdamDown.τ).loc Cert.KernelAdamDown.main_arg4))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
      ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3)
      ∧ r.2.mem ((c.tc : Thread Cert.ReferenceAdamDownIdeal.nD Cert.ReferenceAdamDownIdeal.τ).loc Cert.ReferenceAdamDownIdeal.main_arg4) = m ((c.tc : Thread Cert.ReferenceAdamDownIdeal.nD Cert.ReferenceAdamDownIdeal.τ).loc Cert.ReferenceAdamDownIdeal.main_arg4))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3)
      ∧ r.2.mem ((c.tc : Thread Cert.KernelAdamOut.nD Cert.KernelAdamOut.τ).loc Cert.KernelAdamOut.main_arg4) = m ((c.tc : Thread Cert.KernelAdamOut.nD Cert.KernelAdamOut.τ).loc Cert.KernelAdamOut.main_arg4))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
      ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3)
      ∧ r.2.mem ((c.tc : Thread Cert.ReferenceAdamOutIdeal.nD Cert.ReferenceAdamOutIdeal.τ).loc Cert.ReferenceAdamOutIdeal.main_arg4) = m ((c.tc : Thread Cert.ReferenceAdamOutIdeal.nD Cert.ReferenceAdamOutIdeal.τ).loc Cert.ReferenceAdamOutIdeal.main_arg4))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3)
      ∧ r.2.mem ((c.tc : Thread Cert.KernelAdamIn.nD Cert.KernelAdamIn.τ).loc Cert.KernelAdamIn.main_arg4) = m ((c.tc : Thread Cert.KernelAdamIn.nD Cert.KernelAdamIn.τ).loc Cert.KernelAdamIn.main_arg4))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
      ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3)
      ∧ r.2.mem ((c.tc : Thread Cert.ReferenceAdamInIdeal.nD Cert.ReferenceAdamInIdeal.τ).loc Cert.ReferenceAdamInIdeal.main_arg4) = m ((c.tc : Thread Cert.ReferenceAdamInIdeal.nD Cert.ReferenceAdamInIdeal.τ).loc Cert.ReferenceAdamInIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelAct_KernelActIdeal : Prop :=
  True

def algebraic_KernelActIdeal_ReferenceActIdeal [hKernelActIdeal : Cert.KernelActIdeal.Facts] [hReferenceActIdeal : Cert.ReferenceActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)) →
    ∃ (v0 : (c : Dev Cert.KernelActIdeal.nD) → Buf (Elt Ideal) ((c.tc : Thread Cert.KernelActIdeal.nD Cert.KernelActIdeal.τ).loc Cert.KernelActIdeal.main_v0)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v0) = v0 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v15) = v0 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v9) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v9) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelWin_KernelWinIdeal : Prop :=
  True

def algebraic_KernelWinIdeal_ReferenceWinIdeal [hKernelWinIdeal : Cert.KernelWinIdeal.Facts] [hReferenceWinIdeal : Cert.ReferenceWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg)
    (m' : (ℓ : Loc Cert.ReferenceWinIdeal.nD Cert.ReferenceWinIdeal.τ Cert.ReferenceWinIdeal.sig) → Buf (Elt Ideal) ℓ) (g' : Dev Cert.ReferenceWinIdeal.nD → PrngReg), Pre_KernelWinIdeal m →
    (∀ c : Dev Cert.KernelWinIdeal.nD,
      m' ((c.tc : Thread Cert.ReferenceWinIdeal.nD Cert.ReferenceWinIdeal.τ).loc Cert.ReferenceWinIdeal.main_arg0) = m ((c.tc : Thread Cert.KernelWinIdeal.nD Cert.KernelWinIdeal.τ).loc Cert.KernelWinIdeal.main_arg0)
      ∧ m' ((c.tc : Thread Cert.ReferenceWinIdeal.nD Cert.ReferenceWinIdeal.τ).loc Cert.ReferenceWinIdeal.main_arg1) = m ((c.tc : Thread Cert.KernelWinIdeal.nD Cert.KernelWinIdeal.τ).loc Cert.KernelWinIdeal.main_arg1)) →
    ∃ (v0 : (c : Dev Cert.KernelWinIdeal.nD) → Buf (Elt Ideal) ((c.tc : Thread Cert.KernelWinIdeal.nD Cert.KernelWinIdeal.τ).loc Cert.KernelWinIdeal.main_v0)),
      θ_run (Cert.KernelWinIdeal.defs (F := Ideal)) (onTc (τ := Cert.KernelWinIdeal.τ) (Cert.KernelWinIdeal.main (F := Ideal))) ⟨m, fun _ => 0, g⟩ (fun r => ∀ c : Dev Cert.KernelWinIdeal.nD,
          r.2.mem ((c.tc : Thread Cert.KernelWinIdeal.nD Cert.KernelWinIdeal.τ).loc Cert.KernelWinIdeal.main_v0) = v0 c
          ∧ r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
          ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ θ_run (Cert.ReferenceWinIdeal.defs (F := Ideal)) (onTc (τ := Cert.ReferenceWinIdeal.τ) (Cert.ReferenceWinIdeal.main (F := Ideal))) ⟨m', fun _ => 0, g'⟩ (fun r => ∀ c : Dev Cert.ReferenceWinIdeal.nD,
          r.2.mem ((c.tc : Thread Cert.ReferenceWinIdeal.nD Cert.ReferenceWinIdeal.τ).loc Cert.ReferenceWinIdeal.main_v10) = v0 c
          ∧ r.2.mem ((c.tc : Thread Cert.ReferenceWinIdeal.nD Cert.ReferenceWinIdeal.τ).loc Cert.ReferenceWinIdeal.main_arg0) = m' ((c.tc : Thread Cert.ReferenceWinIdeal.nD Cert.ReferenceWinIdeal.τ).loc Cert.ReferenceWinIdeal.main_arg0)
          ∧ r.2.mem ((c.tc : Thread Cert.ReferenceWinIdeal.nD Cert.ReferenceWinIdeal.τ).loc Cert.ReferenceWinIdeal.main_arg1) = m' ((c.tc : Thread Cert.ReferenceWinIdeal.nD Cert.ReferenceWinIdeal.τ).loc Cert.ReferenceWinIdeal.main_arg1))

def preserves_KernelWout_KernelWoutIdeal : Prop :=
  True

def algebraic_KernelWoutIdeal_ReferenceWoutIdeal [hKernelWoutIdeal : Cert.KernelWoutIdeal.Facts] [hReferenceWoutIdeal : Cert.ReferenceWoutIdeal.Facts] : Prop :=
  ∀ (m : (ℓ : Loc Cert.KernelWoutIdeal.nD Cert.KernelWoutIdeal.τ Cert.KernelWoutIdeal.sig) → Buf (Elt Ideal) ℓ) (g : Dev Cert.KernelWoutIdeal.nD → PrngReg)
    (m' : (ℓ : Loc Cert.ReferenceWoutIdeal.nD Cert.ReferenceWoutIdeal.τ Cert.ReferenceWoutIdeal.sig) → Buf (Elt Ideal) ℓ) (g' : Dev Cert.ReferenceWoutIdeal.nD → PrngReg), Pre_KernelWoutIdeal m →
    (∀ c : Dev Cert.KernelWoutIdeal.nD,
      m' ((c.tc : Thread Cert.ReferenceWoutIdeal.nD Cert.ReferenceWoutIdeal.τ).loc Cert.ReferenceWoutIdeal.main_arg0) = m ((c.tc : Thread Cert.KernelWoutIdeal.nD Cert.KernelWoutIdeal.τ).loc Cert.KernelWoutIdeal.main_arg0)
      ∧ m' ((c.tc : Thread Cert.ReferenceWoutIdeal.nD Cert.ReferenceWoutIdeal.τ).loc Cert.ReferenceWoutIdeal.main_arg1) = m ((c.tc : Thread Cert.KernelWoutIdeal.nD Cert.KernelWoutIdeal.τ).loc Cert.KernelWoutIdeal.main_arg1)) →
    ∃ (v0 : (c : Dev Cert.KernelWoutIdeal.nD) → Buf (Elt Ideal) ((c.tc : Thread Cert.KernelWoutIdeal.nD Cert.KernelWoutIdeal.τ).loc Cert.KernelWoutIdeal.main_v0)),
      θ_run (Cert.KernelWoutIdeal.defs (F := Ideal)) (onTc (τ := Cert.KernelWoutIdeal.τ) (Cert.KernelWoutIdeal.main (F := Ideal))) ⟨m, fun _ => 0, g⟩ (fun r => ∀ c : Dev Cert.KernelWoutIdeal.nD,
          r.2.mem ((c.tc : Thread Cert.KernelWoutIdeal.nD Cert.KernelWoutIdeal.τ).loc Cert.KernelWoutIdeal.main_v0) = v0 c
          ∧ r.2.mem ((c.tc : Thread Cert.KernelWoutIdeal.nD Cert.KernelWoutIdeal.τ).loc Cert.KernelWoutIdeal.main_arg0) = m ((c.tc : Thread Cert.KernelWoutIdeal.nD Cert.KernelWoutIdeal.τ).loc Cert.KernelWoutIdeal.main_arg0)
          ∧ r.2.mem ((c.tc : Thread Cert.KernelWoutIdeal.nD Cert.KernelWoutIdeal.τ).loc Cert.KernelWoutIdeal.main_arg1) = m ((c.tc : Thread Cert.KernelWoutIdeal.nD Cert.KernelWoutIdeal.τ).loc Cert.KernelWoutIdeal.main_arg1))
      ∧ θ_run (Cert.ReferenceWoutIdeal.defs (F := Ideal)) (onTc (τ := Cert.ReferenceWoutIdeal.τ) (Cert.ReferenceWoutIdeal.main (F := Ideal))) ⟨m', fun _ => 0, g'⟩ (fun r => ∀ c : Dev Cert.ReferenceWoutIdeal.nD,
          r.2.mem ((c.tc : Thread Cert.ReferenceWoutIdeal.nD Cert.ReferenceWoutIdeal.τ).loc Cert.ReferenceWoutIdeal.main_v7) = v0 c
          ∧ r.2.mem ((c.tc : Thread Cert.ReferenceWoutIdeal.nD Cert.ReferenceWoutIdeal.τ).loc Cert.ReferenceWoutIdeal.main_arg0) = m' ((c.tc : Thread Cert.ReferenceWoutIdeal.nD Cert.ReferenceWoutIdeal.τ).loc Cert.ReferenceWoutIdeal.main_arg0)
          ∧ r.2.mem ((c.tc : Thread Cert.ReferenceWoutIdeal.nD Cert.ReferenceWoutIdeal.τ).loc Cert.ReferenceWoutIdeal.main_arg1) = m' ((c.tc : Thread Cert.ReferenceWoutIdeal.nD Cert.ReferenceWoutIdeal.τ).loc Cert.ReferenceWoutIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)) →
    ∃ (v0 : (c : Dev Cert.KernelInIdeal.nD) → Buf (Elt Ideal) ((c.tc : Thread Cert.KernelInIdeal.nD Cert.KernelInIdeal.τ).loc Cert.KernelInIdeal.main_v0_0)) (v1 : (c : Dev Cert.KernelInIdeal.nD) → Buf (Elt Ideal) ((c.tc : Thread Cert.KernelInIdeal.nD Cert.KernelInIdeal.τ).loc Cert.KernelInIdeal.main_v0_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0_0) = v0 c
          ∧ r.2.mem ((c.tc : Thread Cert.KernelInIdeal.nD Cert.KernelInIdeal.τ).loc Cert.KernelInIdeal.main_v0_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v42) = v0 c
          ∧ r.2.mem ((c.tc : Thread Cert.ReferenceInIdeal.nD Cert.ReferenceInIdeal.τ).loc Cert.ReferenceInIdeal.main_v43) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5))

def preserves_KernelMlp_KernelMlpIdeal : Prop :=
  True

def algebraic_KernelMlpIdeal_ReferenceMlpIdeal [hKernelMlpIdeal : Cert.KernelMlpIdeal.Facts] [hReferenceMlpIdeal : Cert.ReferenceMlpIdeal.Facts] : Prop :=
  ∀ (m : (ℓ : Loc Cert.KernelMlpIdeal.nD Cert.KernelMlpIdeal.τ Cert.KernelMlpIdeal.sig) → Buf (Elt Ideal) ℓ) (g : Dev Cert.KernelMlpIdeal.nD → PrngReg)
    (m' : (ℓ : Loc Cert.ReferenceMlpIdeal.nD Cert.ReferenceMlpIdeal.τ Cert.ReferenceMlpIdeal.sig) → Buf (Elt Ideal) ℓ) (g' : Dev Cert.ReferenceMlpIdeal.nD → PrngReg), Pre_KernelMlpIdeal m →
    (∀ c : Dev Cert.KernelMlpIdeal.nD,
      m' ((c.tc : Thread Cert.ReferenceMlpIdeal.nD Cert.ReferenceMlpIdeal.τ).loc Cert.ReferenceMlpIdeal.main_arg0) = m ((c.tc : Thread Cert.KernelMlpIdeal.nD Cert.KernelMlpIdeal.τ).loc Cert.KernelMlpIdeal.main_arg0)
      ∧ m' ((c.tc : Thread Cert.ReferenceMlpIdeal.nD Cert.ReferenceMlpIdeal.τ).loc Cert.ReferenceMlpIdeal.main_arg1) = m ((c.tc : Thread Cert.KernelMlpIdeal.nD Cert.KernelMlpIdeal.τ).loc Cert.KernelMlpIdeal.main_arg1)
      ∧ m' ((c.tc : Thread Cert.ReferenceMlpIdeal.nD Cert.ReferenceMlpIdeal.τ).loc Cert.ReferenceMlpIdeal.main_arg2) = m ((c.tc : Thread Cert.KernelMlpIdeal.nD Cert.KernelMlpIdeal.τ).loc Cert.KernelMlpIdeal.main_arg2)
      ∧ m' ((c.tc : Thread Cert.ReferenceMlpIdeal.nD Cert.ReferenceMlpIdeal.τ).loc Cert.ReferenceMlpIdeal.main_arg3) = m ((c.tc : Thread Cert.KernelMlpIdeal.nD Cert.KernelMlpIdeal.τ).loc Cert.KernelMlpIdeal.main_arg3)
      ∧ m' ((c.tc : Thread Cert.ReferenceMlpIdeal.nD Cert.ReferenceMlpIdeal.τ).loc Cert.ReferenceMlpIdeal.main_arg4) = m ((c.tc : Thread Cert.KernelMlpIdeal.nD Cert.KernelMlpIdeal.τ).loc Cert.KernelMlpIdeal.main_arg4)
      ∧ m' ((c.tc : Thread Cert.ReferenceMlpIdeal.nD Cert.ReferenceMlpIdeal.τ).loc Cert.ReferenceMlpIdeal.main_arg5) = m ((c.tc : Thread Cert.KernelMlpIdeal.nD Cert.KernelMlpIdeal.τ).loc Cert.KernelMlpIdeal.main_arg5)
      ∧ m' ((c.tc : Thread Cert.ReferenceMlpIdeal.nD Cert.ReferenceMlpIdeal.τ).loc Cert.ReferenceMlpIdeal.main_arg6) = m ((c.tc : Thread Cert.KernelMlpIdeal.nD Cert.KernelMlpIdeal.τ).loc Cert.KernelMlpIdeal.main_arg6)
      ∧ m' ((c.tc : Thread Cert.ReferenceMlpIdeal.nD Cert.ReferenceMlpIdeal.τ).loc Cert.ReferenceMlpIdeal.main_arg7) = m ((c.tc : Thread Cert.KernelMlpIdeal.nD Cert.KernelMlpIdeal.τ).loc Cert.KernelMlpIdeal.main_arg7)) →
    ∃ (v0 : (c : Dev Cert.KernelMlpIdeal.nD) → Buf (Elt Ideal) ((c.tc : Thread Cert.KernelMlpIdeal.nD Cert.KernelMlpIdeal.τ).loc Cert.KernelMlpIdeal.main_v0_0)) (v1 : (c : Dev Cert.KernelMlpIdeal.nD) → Buf (Elt Ideal) ((c.tc : Thread Cert.KernelMlpIdeal.nD Cert.KernelMlpIdeal.τ).loc Cert.KernelMlpIdeal.main_v0_1)) (v2 : (c : Dev Cert.KernelMlpIdeal.nD) → Buf (Elt Ideal) ((c.tc : Thread Cert.KernelMlpIdeal.nD Cert.KernelMlpIdeal.τ).loc Cert.KernelMlpIdeal.main_v0_2)) (v3 : (c : Dev Cert.KernelMlpIdeal.nD) → Buf (Elt Ideal) ((c.tc : Thread Cert.KernelMlpIdeal.nD Cert.KernelMlpIdeal.τ).loc Cert.KernelMlpIdeal.main_v0_3)),
      θ_run (Cert.KernelMlpIdeal.defs (F := Ideal)) (onTc (τ := Cert.KernelMlpIdeal.τ) (Cert.KernelMlpIdeal.main (F := Ideal))) ⟨m, fun _ => 0, g⟩ (fun r => ∀ c : Dev Cert.KernelMlpIdeal.nD,
          r.2.mem ((c.tc : Thread Cert.KernelMlpIdeal.nD Cert.KernelMlpIdeal.τ).loc Cert.KernelMlpIdeal.main_v0_0) = v0 c
          ∧ r.2.mem ((c.tc : Thread Cert.KernelMlpIdeal.nD Cert.KernelMlpIdeal.τ).loc Cert.KernelMlpIdeal.main_v0_1) = v1 c
          ∧ r.2.mem ((c.tc : Thread Cert.KernelMlpIdeal.nD Cert.KernelMlpIdeal.τ).loc Cert.KernelMlpIdeal.main_v0_2) = v2 c
          ∧ r.2.mem ((c.tc : Thread Cert.KernelMlpIdeal.nD Cert.KernelMlpIdeal.τ).loc Cert.KernelMlpIdeal.main_v0_3) = v3 c
          ∧ r.2.mem ((c.tc : Thread Cert.KernelMlpIdeal.nD Cert.KernelMlpIdeal.τ).loc Cert.KernelMlpIdeal.main_arg0) = m ((c.tc : Thread Cert.KernelMlpIdeal.nD Cert.KernelMlpIdeal.τ).loc Cert.KernelMlpIdeal.main_arg0)
          ∧ r.2.mem ((c.tc : Thread Cert.KernelMlpIdeal.nD Cert.KernelMlpIdeal.τ).loc Cert.KernelMlpIdeal.main_arg1) = m ((c.tc : Thread Cert.KernelMlpIdeal.nD Cert.KernelMlpIdeal.τ).loc Cert.KernelMlpIdeal.main_arg1)
          ∧ r.2.mem ((c.tc : Thread Cert.KernelMlpIdeal.nD Cert.KernelMlpIdeal.τ).loc Cert.KernelMlpIdeal.main_arg2) = m ((c.tc : Thread Cert.KernelMlpIdeal.nD Cert.KernelMlpIdeal.τ).loc Cert.KernelMlpIdeal.main_arg2)
          ∧ r.2.mem ((c.tc : Thread Cert.KernelMlpIdeal.nD Cert.KernelMlpIdeal.τ).loc Cert.KernelMlpIdeal.main_arg3) = m ((c.tc : Thread Cert.KernelMlpIdeal.nD Cert.KernelMlpIdeal.τ).loc Cert.KernelMlpIdeal.main_arg3)
          ∧ r.2.mem ((c.tc : Thread Cert.KernelMlpIdeal.nD Cert.KernelMlpIdeal.τ).loc Cert.KernelMlpIdeal.main_arg4) = m ((c.tc : Thread Cert.KernelMlpIdeal.nD Cert.KernelMlpIdeal.τ).loc Cert.KernelMlpIdeal.main_arg4)
          ∧ r.2.mem ((c.tc : Thread Cert.KernelMlpIdeal.nD Cert.KernelMlpIdeal.τ).loc Cert.KernelMlpIdeal.main_arg5) = m ((c.tc : Thread Cert.KernelMlpIdeal.nD Cert.KernelMlpIdeal.τ).loc Cert.KernelMlpIdeal.main_arg5)
          ∧ r.2.mem ((c.tc : Thread Cert.KernelMlpIdeal.nD Cert.KernelMlpIdeal.τ).loc Cert.KernelMlpIdeal.main_arg6) = m ((c.tc : Thread Cert.KernelMlpIdeal.nD Cert.KernelMlpIdeal.τ).loc Cert.KernelMlpIdeal.main_arg6)
          ∧ r.2.mem ((c.tc : Thread Cert.KernelMlpIdeal.nD Cert.KernelMlpIdeal.τ).loc Cert.KernelMlpIdeal.main_arg7) = m ((c.tc : Thread Cert.KernelMlpIdeal.nD Cert.KernelMlpIdeal.τ).loc Cert.KernelMlpIdeal.main_arg7))
      ∧ θ_run (Cert.ReferenceMlpIdeal.defs (F := Ideal)) (onTc (τ := Cert.ReferenceMlpIdeal.τ) (Cert.ReferenceMlpIdeal.main (F := Ideal))) ⟨m', fun _ => 0, g'⟩ (fun r => ∀ c : Dev Cert.ReferenceMlpIdeal.nD,
          r.2.mem ((c.tc : Thread Cert.ReferenceMlpIdeal.nD Cert.ReferenceMlpIdeal.τ).loc Cert.ReferenceMlpIdeal.main_v42) = v0 c
          ∧ r.2.mem ((c.tc : Thread Cert.ReferenceMlpIdeal.nD Cert.ReferenceMlpIdeal.τ).loc Cert.ReferenceMlpIdeal.main_v80) = v1 c
          ∧ r.2.mem ((c.tc : Thread Cert.ReferenceMlpIdeal.nD Cert.ReferenceMlpIdeal.τ).loc Cert.ReferenceMlpIdeal.main_v81) = v2 c
          ∧ r.2.mem ((c.tc : Thread Cert.ReferenceMlpIdeal.nD Cert.ReferenceMlpIdeal.τ).loc Cert.ReferenceMlpIdeal.main_v82) = v3 c
          ∧ r.2.mem ((c.tc : Thread Cert.ReferenceMlpIdeal.nD Cert.ReferenceMlpIdeal.τ).loc Cert.ReferenceMlpIdeal.main_arg0) = m' ((c.tc : Thread Cert.ReferenceMlpIdeal.nD Cert.ReferenceMlpIdeal.τ).loc Cert.ReferenceMlpIdeal.main_arg0)
          ∧ r.2.mem ((c.tc : Thread Cert.ReferenceMlpIdeal.nD Cert.ReferenceMlpIdeal.τ).loc Cert.ReferenceMlpIdeal.main_arg1) = m' ((c.tc : Thread Cert.ReferenceMlpIdeal.nD Cert.ReferenceMlpIdeal.τ).loc Cert.ReferenceMlpIdeal.main_arg1)
          ∧ r.2.mem ((c.tc : Thread Cert.ReferenceMlpIdeal.nD Cert.ReferenceMlpIdeal.τ).loc Cert.ReferenceMlpIdeal.main_arg2) = m' ((c.tc : Thread Cert.ReferenceMlpIdeal.nD Cert.ReferenceMlpIdeal.τ).loc Cert.ReferenceMlpIdeal.main_arg2)
          ∧ r.2.mem ((c.tc : Thread Cert.ReferenceMlpIdeal.nD Cert.ReferenceMlpIdeal.τ).loc Cert.ReferenceMlpIdeal.main_arg3) = m' ((c.tc : Thread Cert.ReferenceMlpIdeal.nD Cert.ReferenceMlpIdeal.τ).loc Cert.ReferenceMlpIdeal.main_arg3)
          ∧ r.2.mem ((c.tc : Thread Cert.ReferenceMlpIdeal.nD Cert.ReferenceMlpIdeal.τ).loc Cert.ReferenceMlpIdeal.main_arg4) = m' ((c.tc : Thread Cert.ReferenceMlpIdeal.nD Cert.ReferenceMlpIdeal.τ).loc Cert.ReferenceMlpIdeal.main_arg4)
          ∧ r.2.mem ((c.tc : Thread Cert.ReferenceMlpIdeal.nD Cert.ReferenceMlpIdeal.τ).loc Cert.ReferenceMlpIdeal.main_arg5) = m' ((c.tc : Thread Cert.ReferenceMlpIdeal.nD Cert.ReferenceMlpIdeal.τ).loc Cert.ReferenceMlpIdeal.main_arg5)
          ∧ r.2.mem ((c.tc : Thread Cert.ReferenceMlpIdeal.nD Cert.ReferenceMlpIdeal.τ).loc Cert.ReferenceMlpIdeal.main_arg6) = m' ((c.tc : Thread Cert.ReferenceMlpIdeal.nD Cert.ReferenceMlpIdeal.τ).loc Cert.ReferenceMlpIdeal.main_arg6)
          ∧ r.2.mem ((c.tc : Thread Cert.ReferenceMlpIdeal.nD Cert.ReferenceMlpIdeal.τ).loc Cert.ReferenceMlpIdeal.main_arg7) = m' ((c.tc : Thread Cert.ReferenceMlpIdeal.nD Cert.ReferenceMlpIdeal.τ).loc Cert.ReferenceMlpIdeal.main_arg7))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)) →
    ∃ (v0 : (c : Dev Cert.KernelProjIdeal.nD) → Buf (Elt Ideal) ((c.tc : Thread Cert.KernelProjIdeal.nD Cert.KernelProjIdeal.τ).loc Cert.KernelProjIdeal.main_v0_0)) (v1 : (c : Dev Cert.KernelProjIdeal.nD) → Buf (Elt Ideal) ((c.tc : Thread Cert.KernelProjIdeal.nD Cert.KernelProjIdeal.τ).loc Cert.KernelProjIdeal.main_v0_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0_0) = v0 c
          ∧ r.2.mem ((c.tc : Thread Cert.KernelProjIdeal.nD Cert.KernelProjIdeal.τ).loc Cert.KernelProjIdeal.main_v0_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v16) = v0 c
          ∧ r.2.mem ((c.tc : Thread Cert.ReferenceProjIdeal.nD Cert.ReferenceProjIdeal.τ).loc Cert.ReferenceProjIdeal.main_v17) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3))

def preserves_KernelFwd_KernelFwdIdeal : Prop :=
  True

def algebraic_KernelFwdIdeal_ReferenceFwdIdeal [hKernelFwdIdeal : Cert.KernelFwdIdeal.Facts] [hReferenceFwdIdeal : Cert.ReferenceFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)) →
    ∃ (v0 : (c : Dev Cert.KernelFwdIdeal.nD) → Buf (Elt Ideal) ((c.tc : Thread Cert.KernelFwdIdeal.nD Cert.KernelFwdIdeal.τ).loc Cert.KernelFwdIdeal.main_v0)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v0) = v0 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v4) = v0 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)) (v3 : (c : Dev Cert.KernelLossIdeal.nD) → Buf (Elt Ideal) ((c.tc : Thread Cert.KernelLossIdeal.nD Cert.KernelLossIdeal.τ).loc Cert.KernelLossIdeal.main_v0_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_v0_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v58) = v0 c
          ∧ r.2.mem ((c.tc : Thread Cert.ReferenceLossIdeal.nD Cert.ReferenceLossIdeal.τ).loc Cert.ReferenceLossIdeal.main_v37) = v1 c
          ∧ r.2.mem ((c.tc : Thread Cert.ReferenceLossIdeal.nD Cert.ReferenceLossIdeal.τ).loc Cert.ReferenceLossIdeal.main_v59) = v2 c
          ∧ r.2.mem ((c.tc : Thread Cert.ReferenceLossIdeal.nD Cert.ReferenceLossIdeal.τ).loc Cert.ReferenceLossIdeal.main_v60) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4))

def preserves_KernelAdamUp_KernelAdamUpIdeal : Prop :=
  True

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)
      ∧ m' ((c.tc : Thread Cert.ReferenceAdamUpIdeal.nD Cert.ReferenceAdamUpIdeal.τ).loc Cert.ReferenceAdamUpIdeal.main_arg4) = m ((c.tc : Thread Cert.KernelAdamUpIdeal.nD Cert.KernelAdamUpIdeal.τ).loc Cert.KernelAdamUpIdeal.main_arg4)) →
    ∃ (v0 : (c : Dev Cert.KernelAdamUpIdeal.nD) → Buf (Elt Ideal) ((c.tc : Thread Cert.KernelAdamUpIdeal.nD Cert.KernelAdamUpIdeal.τ).loc Cert.KernelAdamUpIdeal.main_v5_0)) (v1 : (c : Dev Cert.KernelAdamUpIdeal.nD) → Buf (Elt Ideal) ((c.tc : Thread Cert.KernelAdamUpIdeal.nD Cert.KernelAdamUpIdeal.τ).loc Cert.KernelAdamUpIdeal.main_v5_1)) (v2 : (c : Dev Cert.KernelAdamUpIdeal.nD) → Buf (Elt Ideal) ((c.tc : Thread Cert.KernelAdamUpIdeal.nD Cert.KernelAdamUpIdeal.τ).loc Cert.KernelAdamUpIdeal.main_v5_2)) (v3 : (c : Dev Cert.KernelAdamUpIdeal.nD) → Buf (Elt Ideal) ((c.tc : Thread Cert.KernelAdamUpIdeal.nD Cert.KernelAdamUpIdeal.τ).loc Cert.KernelAdamUpIdeal.main_v5_3)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v5_0) = v0 c
          ∧ r.2.mem ((c.tc : Thread Cert.KernelAdamUpIdeal.nD Cert.KernelAdamUpIdeal.τ).loc Cert.KernelAdamUpIdeal.main_v5_1) = v1 c
          ∧ r.2.mem ((c.tc : Thread Cert.KernelAdamUpIdeal.nD Cert.KernelAdamUpIdeal.τ).loc Cert.KernelAdamUpIdeal.main_v5_2) = v2 c
          ∧ r.2.mem ((c.tc : Thread Cert.KernelAdamUpIdeal.nD Cert.KernelAdamUpIdeal.τ).loc Cert.KernelAdamUpIdeal.main_v5_3) = v3 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3)
          ∧ r.2.mem ((c.tc : Thread Cert.KernelAdamUpIdeal.nD Cert.KernelAdamUpIdeal.τ).loc Cert.KernelAdamUpIdeal.main_arg4) = m ((c.tc : Thread Cert.KernelAdamUpIdeal.nD Cert.KernelAdamUpIdeal.τ).loc Cert.KernelAdamUpIdeal.main_arg4))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_v6) = v0 c
          ∧ r.2.mem ((c.tc : Thread Cert.ReferenceAdamUpIdeal.nD Cert.ReferenceAdamUpIdeal.τ).loc Cert.ReferenceAdamUpIdeal.main_v30) = v1 c
          ∧ r.2.mem ((c.tc : Thread Cert.ReferenceAdamUpIdeal.nD Cert.ReferenceAdamUpIdeal.τ).loc Cert.ReferenceAdamUpIdeal.main_v11) = v2 c
          ∧ r.2.mem ((c.tc : Thread Cert.ReferenceAdamUpIdeal.nD Cert.ReferenceAdamUpIdeal.τ).loc Cert.ReferenceAdamUpIdeal.main_v17) = v3 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3)
          ∧ r.2.mem ((c.tc : Thread Cert.ReferenceAdamUpIdeal.nD Cert.ReferenceAdamUpIdeal.τ).loc Cert.ReferenceAdamUpIdeal.main_arg4) = m' ((c.tc : Thread Cert.ReferenceAdamUpIdeal.nD Cert.ReferenceAdamUpIdeal.τ).loc Cert.ReferenceAdamUpIdeal.main_arg4))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)
      ∧ m' ((c.tc : Thread Cert.ReferenceAdamDownIdeal.nD Cert.ReferenceAdamDownIdeal.τ).loc Cert.ReferenceAdamDownIdeal.main_arg4) = m ((c.tc : Thread Cert.KernelAdamDownIdeal.nD Cert.KernelAdamDownIdeal.τ).loc Cert.KernelAdamDownIdeal.main_arg4)) →
    ∃ (v0 : (c : Dev Cert.KernelAdamDownIdeal.nD) → Buf (Elt Ideal) ((c.tc : Thread Cert.KernelAdamDownIdeal.nD Cert.KernelAdamDownIdeal.τ).loc Cert.KernelAdamDownIdeal.main_v5_0)) (v1 : (c : Dev Cert.KernelAdamDownIdeal.nD) → Buf (Elt Ideal) ((c.tc : Thread Cert.KernelAdamDownIdeal.nD Cert.KernelAdamDownIdeal.τ).loc Cert.KernelAdamDownIdeal.main_v5_1)) (v2 : (c : Dev Cert.KernelAdamDownIdeal.nD) → Buf (Elt Ideal) ((c.tc : Thread Cert.KernelAdamDownIdeal.nD Cert.KernelAdamDownIdeal.τ).loc Cert.KernelAdamDownIdeal.main_v5_2)) (v3 : (c : Dev Cert.KernelAdamDownIdeal.nD) → Buf (Elt Ideal) ((c.tc : Thread Cert.KernelAdamDownIdeal.nD Cert.KernelAdamDownIdeal.τ).loc Cert.KernelAdamDownIdeal.main_v5_3)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v5_0) = v0 c
          ∧ r.2.mem ((c.tc : Thread Cert.KernelAdamDownIdeal.nD Cert.KernelAdamDownIdeal.τ).loc Cert.KernelAdamDownIdeal.main_v5_1) = v1 c
          ∧ r.2.mem ((c.tc : Thread Cert.KernelAdamDownIdeal.nD Cert.KernelAdamDownIdeal.τ).loc Cert.KernelAdamDownIdeal.main_v5_2) = v2 c
          ∧ r.2.mem ((c.tc : Thread Cert.KernelAdamDownIdeal.nD Cert.KernelAdamDownIdeal.τ).loc Cert.KernelAdamDownIdeal.main_v5_3) = v3 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3)
          ∧ r.2.mem ((c.tc : Thread Cert.KernelAdamDownIdeal.nD Cert.KernelAdamDownIdeal.τ).loc Cert.KernelAdamDownIdeal.main_arg4) = m ((c.tc : Thread Cert.KernelAdamDownIdeal.nD Cert.KernelAdamDownIdeal.τ).loc Cert.KernelAdamDownIdeal.main_arg4))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v6) = v0 c
          ∧ r.2.mem ((c.tc : Thread Cert.ReferenceAdamDownIdeal.nD Cert.ReferenceAdamDownIdeal.τ).loc Cert.ReferenceAdamDownIdeal.main_v30) = v1 c
          ∧ r.2.mem ((c.tc : Thread Cert.ReferenceAdamDownIdeal.nD Cert.ReferenceAdamDownIdeal.τ).loc Cert.ReferenceAdamDownIdeal.main_v11) = v2 c
          ∧ r.2.mem ((c.tc : Thread Cert.ReferenceAdamDownIdeal.nD Cert.ReferenceAdamDownIdeal.τ).loc Cert.ReferenceAdamDownIdeal.main_v17) = v3 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3)
          ∧ r.2.mem ((c.tc : Thread Cert.ReferenceAdamDownIdeal.nD Cert.ReferenceAdamDownIdeal.τ).loc Cert.ReferenceAdamDownIdeal.main_arg4) = m' ((c.tc : Thread Cert.ReferenceAdamDownIdeal.nD Cert.ReferenceAdamDownIdeal.τ).loc Cert.ReferenceAdamDownIdeal.main_arg4))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)
      ∧ m' ((c.tc : Thread Cert.ReferenceAdamOutIdeal.nD Cert.ReferenceAdamOutIdeal.τ).loc Cert.ReferenceAdamOutIdeal.main_arg4) = m ((c.tc : Thread Cert.KernelAdamOutIdeal.nD Cert.KernelAdamOutIdeal.τ).loc Cert.KernelAdamOutIdeal.main_arg4)) →
    ∃ (v0 : (c : Dev Cert.KernelAdamOutIdeal.nD) → Buf (Elt Ideal) ((c.tc : Thread Cert.KernelAdamOutIdeal.nD Cert.KernelAdamOutIdeal.τ).loc Cert.KernelAdamOutIdeal.main_v5_0)) (v1 : (c : Dev Cert.KernelAdamOutIdeal.nD) → Buf (Elt Ideal) ((c.tc : Thread Cert.KernelAdamOutIdeal.nD Cert.KernelAdamOutIdeal.τ).loc Cert.KernelAdamOutIdeal.main_v5_1)) (v2 : (c : Dev Cert.KernelAdamOutIdeal.nD) → Buf (Elt Ideal) ((c.tc : Thread Cert.KernelAdamOutIdeal.nD Cert.KernelAdamOutIdeal.τ).loc Cert.KernelAdamOutIdeal.main_v5_2)) (v3 : (c : Dev Cert.KernelAdamOutIdeal.nD) → Buf (Elt Ideal) ((c.tc : Thread Cert.KernelAdamOutIdeal.nD Cert.KernelAdamOutIdeal.τ).loc Cert.KernelAdamOutIdeal.main_v5_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v5_0) = v0 c
          ∧ r.2.mem ((c.tc : Thread Cert.KernelAdamOutIdeal.nD Cert.KernelAdamOutIdeal.τ).loc Cert.KernelAdamOutIdeal.main_v5_1) = v1 c
          ∧ r.2.mem ((c.tc : Thread Cert.KernelAdamOutIdeal.nD Cert.KernelAdamOutIdeal.τ).loc Cert.KernelAdamOutIdeal.main_v5_2) = v2 c
          ∧ r.2.mem ((c.tc : Thread Cert.KernelAdamOutIdeal.nD Cert.KernelAdamOutIdeal.τ).loc Cert.KernelAdamOutIdeal.main_v5_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3)
          ∧ r.2.mem ((c.tc : Thread Cert.KernelAdamOutIdeal.nD Cert.KernelAdamOutIdeal.τ).loc Cert.KernelAdamOutIdeal.main_arg4) = m ((c.tc : Thread Cert.KernelAdamOutIdeal.nD Cert.KernelAdamOutIdeal.τ).loc Cert.KernelAdamOutIdeal.main_arg4))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v6) = v0 c
          ∧ r.2.mem ((c.tc : Thread Cert.ReferenceAdamOutIdeal.nD Cert.ReferenceAdamOutIdeal.τ).loc Cert.ReferenceAdamOutIdeal.main_v30) = v1 c
          ∧ r.2.mem ((c.tc : Thread Cert.ReferenceAdamOutIdeal.nD Cert.ReferenceAdamOutIdeal.τ).loc Cert.ReferenceAdamOutIdeal.main_v11) = v2 c
          ∧ r.2.mem ((c.tc : Thread Cert.ReferenceAdamOutIdeal.nD Cert.ReferenceAdamOutIdeal.τ).loc Cert.ReferenceAdamOutIdeal.main_v17) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3)
          ∧ r.2.mem ((c.tc : Thread Cert.ReferenceAdamOutIdeal.nD Cert.ReferenceAdamOutIdeal.τ).loc Cert.ReferenceAdamOutIdeal.main_arg4) = m' ((c.tc : Thread Cert.ReferenceAdamOutIdeal.nD Cert.ReferenceAdamOutIdeal.τ).loc Cert.ReferenceAdamOutIdeal.main_arg4))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)
      ∧ m' ((c.tc : Thread Cert.ReferenceAdamInIdeal.nD Cert.ReferenceAdamInIdeal.τ).loc Cert.ReferenceAdamInIdeal.main_arg4) = m ((c.tc : Thread Cert.KernelAdamInIdeal.nD Cert.KernelAdamInIdeal.τ).loc Cert.KernelAdamInIdeal.main_arg4)) →
    ∃ (v0 : (c : Dev Cert.KernelAdamInIdeal.nD) → Buf (Elt Ideal) ((c.tc : Thread Cert.KernelAdamInIdeal.nD Cert.KernelAdamInIdeal.τ).loc Cert.KernelAdamInIdeal.main_v2_0)) (v1 : (c : Dev Cert.KernelAdamInIdeal.nD) → Buf (Elt Ideal) ((c.tc : Thread Cert.KernelAdamInIdeal.nD Cert.KernelAdamInIdeal.τ).loc Cert.KernelAdamInIdeal.main_v2_1)) (v2 : (c : Dev Cert.KernelAdamInIdeal.nD) → Buf (Elt Ideal) ((c.tc : Thread Cert.KernelAdamInIdeal.nD Cert.KernelAdamInIdeal.τ).loc Cert.KernelAdamInIdeal.main_v2_2)) (v3 : (c : Dev Cert.KernelAdamInIdeal.nD) → Buf (Elt Ideal) ((c.tc : Thread Cert.KernelAdamInIdeal.nD Cert.KernelAdamInIdeal.τ).loc Cert.KernelAdamInIdeal.main_v2_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v2_0) = v0 c
          ∧ r.2.mem ((c.tc : Thread Cert.KernelAdamInIdeal.nD Cert.KernelAdamInIdeal.τ).loc Cert.KernelAdamInIdeal.main_v2_1) = v1 c
          ∧ r.2.mem ((c.tc : Thread Cert.KernelAdamInIdeal.nD Cert.KernelAdamInIdeal.τ).loc Cert.KernelAdamInIdeal.main_v2_2) = v2 c
          ∧ r.2.mem ((c.tc : Thread Cert.KernelAdamInIdeal.nD Cert.KernelAdamInIdeal.τ).loc Cert.KernelAdamInIdeal.main_v2_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3)
          ∧ r.2.mem ((c.tc : Thread Cert.KernelAdamInIdeal.nD Cert.KernelAdamInIdeal.τ).loc Cert.KernelAdamInIdeal.main_arg4) = m ((c.tc : Thread Cert.KernelAdamInIdeal.nD Cert.KernelAdamInIdeal.τ).loc Cert.KernelAdamInIdeal.main_arg4))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v6) = v0 c
          ∧ r.2.mem ((c.tc : Thread Cert.ReferenceAdamInIdeal.nD Cert.ReferenceAdamInIdeal.τ).loc Cert.ReferenceAdamInIdeal.main_v30) = v1 c
          ∧ r.2.mem ((c.tc : Thread Cert.ReferenceAdamInIdeal.nD Cert.ReferenceAdamInIdeal.τ).loc Cert.ReferenceAdamInIdeal.main_v11) = v2 c
          ∧ r.2.mem ((c.tc : Thread Cert.ReferenceAdamInIdeal.nD Cert.ReferenceAdamInIdeal.τ).loc Cert.ReferenceAdamInIdeal.main_v17) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3)
          ∧ r.2.mem ((c.tc : Thread Cert.ReferenceAdamInIdeal.nD Cert.ReferenceAdamInIdeal.τ).loc Cert.ReferenceAdamInIdeal.main_arg4) = m' ((c.tc : Thread Cert.ReferenceAdamInIdeal.nD Cert.ReferenceAdamInIdeal.τ).loc Cert.ReferenceAdamInIdeal.main_arg4))

def Claim : Prop :=
  ∃ (hKernel : Cert.Kernel.Facts) (hKernelIdeal : Cert.KernelIdeal.Facts) (hReferenceIdeal : Cert.ReferenceIdeal.Facts) (hKernelAct : Cert.KernelAct.Facts) (hKernelActIdeal : Cert.KernelActIdeal.Facts) (hReferenceActIdeal : Cert.ReferenceActIdeal.Facts) (hKernelDown : Cert.KernelDown.Facts) (hKernelDownIdeal : Cert.KernelDownIdeal.Facts) (hReferenceDownIdeal : Cert.ReferenceDownIdeal.Facts) (hKernelUp : Cert.KernelUp.Facts) (hKernelUpIdeal : Cert.KernelUpIdeal.Facts) (hReferenceUpIdeal : Cert.ReferenceUpIdeal.Facts) (hKernelWin : Cert.KernelWin.Facts) (hKernelWinIdeal : Cert.KernelWinIdeal.Facts) (hReferenceWinIdeal : Cert.ReferenceWinIdeal.Facts) (hKernelWout : Cert.KernelWout.Facts) (hKernelWoutIdeal : Cert.KernelWoutIdeal.Facts) (hReferenceWoutIdeal : Cert.ReferenceWoutIdeal.Facts) (hKernelIn : Cert.KernelIn.Facts) (hKernelInIdeal : Cert.KernelInIdeal.Facts) (hReferenceInIdeal : Cert.ReferenceInIdeal.Facts) (hKernelMlp : Cert.KernelMlp.Facts) (hKernelMlpIdeal : Cert.KernelMlpIdeal.Facts) (hReferenceMlpIdeal : Cert.ReferenceMlpIdeal.Facts) (hKernelProj : Cert.KernelProj.Facts) (hKernelProjIdeal : Cert.KernelProjIdeal.Facts) (hReferenceProjIdeal : Cert.ReferenceProjIdeal.Facts) (hKernelFwd : Cert.KernelFwd.Facts) (hKernelFwdIdeal : Cert.KernelFwdIdeal.Facts) (hReferenceFwdIdeal : Cert.ReferenceFwdIdeal.Facts) (hKernelLoss : Cert.KernelLoss.Facts) (hKernelLossIdeal : Cert.KernelLossIdeal.Facts) (hReferenceLossIdeal : Cert.ReferenceLossIdeal.Facts) (hKernelAdamUp : Cert.KernelAdamUp.Facts) (hKernelAdamUpIdeal : Cert.KernelAdamUpIdeal.Facts) (hReferenceAdamUpIdeal : Cert.ReferenceAdamUpIdeal.Facts) (hKernelAdamDown : Cert.KernelAdamDown.Facts) (hKernelAdamDownIdeal : Cert.KernelAdamDownIdeal.Facts) (hReferenceAdamDownIdeal : Cert.ReferenceAdamDownIdeal.Facts) (hKernelAdamOut : Cert.KernelAdamOut.Facts) (hKernelAdamOutIdeal : Cert.KernelAdamOutIdeal.Facts) (hReferenceAdamOutIdeal : Cert.ReferenceAdamOutIdeal.Facts) (hKernelAdamIn : Cert.KernelAdamIn.Facts) (hKernelAdamInIdeal : Cert.KernelAdamInIdeal.Facts) (hReferenceAdamInIdeal : Cert.ReferenceAdamInIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelAct (hKernelAct := hKernelAct)
    ∧ quiescent_KernelActIdeal (hKernelActIdeal := hKernelActIdeal)
    ∧ quiescent_ReferenceActIdeal (hReferenceActIdeal := hReferenceActIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelWin (hKernelWin := hKernelWin)
    ∧ quiescent_KernelWinIdeal (hKernelWinIdeal := hKernelWinIdeal)
    ∧ quiescent_ReferenceWinIdeal (hReferenceWinIdeal := hReferenceWinIdeal)
    ∧ quiescent_KernelWout (hKernelWout := hKernelWout)
    ∧ quiescent_KernelWoutIdeal (hKernelWoutIdeal := hKernelWoutIdeal)
    ∧ quiescent_ReferenceWoutIdeal (hReferenceWoutIdeal := hReferenceWoutIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelMlp (hKernelMlp := hKernelMlp)
    ∧ quiescent_KernelMlpIdeal (hKernelMlpIdeal := hKernelMlpIdeal)
    ∧ quiescent_ReferenceMlpIdeal (hReferenceMlpIdeal := hReferenceMlpIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelFwd (hKernelFwd := hKernelFwd)
    ∧ quiescent_KernelFwdIdeal (hKernelFwdIdeal := hKernelFwdIdeal)
    ∧ quiescent_ReferenceFwdIdeal (hReferenceFwdIdeal := hReferenceFwdIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelAct_KernelActIdeal
    ∧ algebraic_KernelActIdeal_ReferenceActIdeal (hKernelActIdeal := hKernelActIdeal) (hReferenceActIdeal := hReferenceActIdeal)
    ∧ preserves_KernelDown_KernelDownIdeal
    ∧ algebraic_KernelDownIdeal_ReferenceDownIdeal (hKernelDownIdeal := hKernelDownIdeal) (hReferenceDownIdeal := hReferenceDownIdeal)
    ∧ preserves_KernelUp_KernelUpIdeal
    ∧ algebraic_KernelUpIdeal_ReferenceUpIdeal (hKernelUpIdeal := hKernelUpIdeal) (hReferenceUpIdeal := hReferenceUpIdeal)
    ∧ preserves_KernelWin_KernelWinIdeal
    ∧ algebraic_KernelWinIdeal_ReferenceWinIdeal (hKernelWinIdeal := hKernelWinIdeal) (hReferenceWinIdeal := hReferenceWinIdeal)
    ∧ preserves_KernelWout_KernelWoutIdeal
    ∧ algebraic_KernelWoutIdeal_ReferenceWoutIdeal (hKernelWoutIdeal := hKernelWoutIdeal) (hReferenceWoutIdeal := hReferenceWoutIdeal)
    ∧ preserves_KernelIn_KernelInIdeal
    ∧ algebraic_KernelInIdeal_ReferenceInIdeal (hKernelInIdeal := hKernelInIdeal) (hReferenceInIdeal := hReferenceInIdeal)
    ∧ preserves_KernelMlp_KernelMlpIdeal
    ∧ algebraic_KernelMlpIdeal_ReferenceMlpIdeal (hKernelMlpIdeal := hKernelMlpIdeal) (hReferenceMlpIdeal := hReferenceMlpIdeal)
    ∧ preserves_KernelProj_KernelProjIdeal
    ∧ algebraic_KernelProjIdeal_ReferenceProjIdeal (hKernelProjIdeal := hKernelProjIdeal) (hReferenceProjIdeal := hReferenceProjIdeal)
    ∧ preserves_KernelFwd_KernelFwdIdeal
    ∧ algebraic_KernelFwdIdeal_ReferenceFwdIdeal (hKernelFwdIdeal := hKernelFwdIdeal) (hReferenceFwdIdeal := hReferenceFwdIdeal)
    ∧ preserves_KernelLoss_KernelLossIdeal
    ∧ algebraic_KernelLossIdeal_ReferenceLossIdeal (hKernelLossIdeal := hKernelLossIdeal) (hReferenceLossIdeal := hReferenceLossIdeal)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
-- ==== Pre_finite.lean ====
abbrev S2048x3712 : Shape := ⟨2, ![2048, 3712]⟩
abbrev S128x2048 : Shape := ⟨2, ![128, 2048]⟩
abbrev S2048x512 : Shape := ⟨2, ![2048, 512]⟩
abbrev S8x128 : Shape := ⟨2, ![8, 128]⟩
abbrev S2048x1536 : Shape := ⟨2, ![2048, 1536]⟩
abbrev S_ : Shape := ⟨0, ![]⟩
abbrev S8x2048 : Shape := ⟨2, ![8, 2048]⟩

class Facts : Prop where
  slices_S2048x3712_S2048x1536_0_0 : S2048x3712.Slices ![0, 0] S2048x1536
  bcast_S_S2048x1536 : S_.BroadcastsInDim S2048x1536 (![] : Fin 0 → Fin S2048x1536.rank)
  slices_S128x2048_S8x2048_0_0 : S128x2048.Slices ![0, 0] S8x2048
  bcast_S_S8x2048 : S_.BroadcastsInDim S8x2048 (![] : Fin 0 → Fin S8x2048.rank)
  bcast_S_S2048x512 : S_.BroadcastsInDim S2048x512 (![] : Fin 0 → Fin S2048x512.rank)

variable [Facts]

def fn {F : FTy → Type} [FloatOps F] (main_arg0 : FVec F S2048x3712 .f32) (main_arg1 : FVec F S128x2048 .f32) (main_arg2 : FVec F S2048x512 .f32) (main_arg3 : FVec F S2048x3712 .bf16) (main_arg4 : FVec F S8x128 .f32) : IVec S2048x1536 1 × IVec S8x2048 1 × IVec S2048x512 1 :=
  let main_v0 : FVec F S2048x1536 .f32 := (extractStridedSlice S2048x1536 ![0, 0] · slices_S2048x3712_S2048x1536_0_0) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_v4 : FVec F S8x2048 .f32 := (extractStridedSlice S8x2048 ![0, 0] · slices_S128x2048_S8x2048_0_0) main_arg1
  let main_v5 : FVec F S8x2048 .f32 := Host.absf main_v4
  let main_cst_0 : FVec F S_ .f32 := constant S_ .f32 0x7F800000#32
  let main_v6 : FVec F S8x2048 .f32 := broadcastInDim S8x2048 ![] bcast_S_S8x2048 main_cst_0
  let main_v7 : IVec S8x2048 1 := cmpf .olt main_v5 main_v6
  let main_v8 : FVec F S2048x512 .f32 := Host.absf main_arg2
  let main_cst_1 : FVec F S_ .f32 := constant S_ .f32 0x7F800000#32
  let main_v9 : FVec F S2048x512 .f32 := broadcastInDim S2048x512 ![] bcast_S_S2048x512 main_cst_1
  let main_v10 : IVec S2048x512 1 := cmpf .olt main_v8 main_v9
  (main_v3, main_v7, main_v10)
-- ==== Kernel.lean ====
abbrev S2048x3712 : Shape := ⟨2, ![2048, 3712]⟩
abbrev S128x2048 : Shape := ⟨2, ![128, 2048]⟩
abbrev S2048x512 : Shape := ⟨2, ![2048, 512]⟩
abbrev S8x128 : Shape := ⟨2, ![8, 128]⟩
abbrev S2048x1536 : Shape := ⟨2, ![2048, 1536]⟩
abbrev S2048x4x3x128 : Shape := ⟨4, ![2048, 4, 3, 128]⟩
abbrev S2048x4x1x128 : Shape := ⟨4, ![2048, 4, 1, 128]⟩
abbrev S2048x4x128 : Shape := ⟨3, ![2048, 4, 128]⟩
abbrev S2048x8x64 : Shape := ⟨3, ![2048, 8, 64]⟩
abbrev S8x2048 : Shape := ⟨2, ![8, 2048]⟩
abbrev S8x2048x2048 : Shape := ⟨3, ![8, 2048, 2048]⟩
abbrev S_ : Shape := ⟨0, ![]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048x1 : Shape := ⟨3, ![8, 2048, 1]⟩
abbrev S8x64x2048 : Shape := ⟨3, ![8, 64, 2048]⟩
abbrev S2048x8 : Shape := ⟨2, ![2048, 8]⟩
abbrev S2048x8x1 : Shape := ⟨3, ![2048, 8, 1]⟩
abbrev S2048x128 : Shape := ⟨2, ![2048, 128]⟩
abbrev S2048x384 : Shape := ⟨2, ![2048, 384]⟩
abbrev S1x128 : Shape := ⟨2, ![1, 128]⟩
abbrev S256x128 : Shape := ⟨2, ![256, 128]⟩
abbrev S512x128 : Shape := ⟨2, ![512, 128]⟩
abbrev S256 : Shape := ⟨1, ![256]⟩
abbrev S256x1 : Shape := ⟨2, ![256, 1]⟩
abbrev S512x1 : Shape := ⟨2, ![512, 1]⟩
abbrev S512x256 : Shape := ⟨2, ![512, 256]⟩
abbrev S1x256 : Shape := ⟨2, ![1, 256]⟩
abbrev S512 : Shape := ⟨1, ![512]⟩
abbrev S256x256 : Shape := ⟨2, ![256, 256]⟩
abbrev S512x512 : Shape := ⟨2, ![512, 512]⟩
abbrev S1x512 : Shape := ⟨2, ![1, 512]⟩
abbrev S768x128 : Shape := ⟨2, ![768, 128]⟩
abbrev S512x768 : Shape := ⟨2, ![512, 768]⟩
abbrev S1x768 : Shape := ⟨2, ![1, 768]⟩
abbrev S256x512 : Shape := ⟨2, ![256, 512]⟩
abbrev S1024x128 : Shape := ⟨2, ![1024, 128]⟩
abbrev S512x1024 : Shape := ⟨2, ![512, 1024]⟩
abbrev S1x1024 : Shape := ⟨2, ![1, 1024]⟩
abbrev S256x768 : Shape := ⟨2, ![256, 768]⟩
abbrev S768 : Shape := ⟨1, ![768]⟩
abbrev S1280x128 : Shape := ⟨2, ![1280, 128]⟩
abbrev S512x1280 : Shape := ⟨2, ![512, 1280]⟩
abbrev S1x1280 : Shape := ⟨2, ![1, 1280]⟩
abbrev S256x1024 : Shape := ⟨2, ![256, 1024]⟩
abbrev S1024 : Shape := ⟨1, ![1024]⟩
abbrev S1536x128 : Shape := ⟨2, ![1536, 128]⟩
abbrev S512x1536 : Shape := ⟨2, ![512, 1536]⟩
abbrev S1x1536 : Shape := ⟨2, ![1, 1536]⟩
abbrev S256x1280 : Shape := ⟨2, ![256, 1280]⟩
abbrev S1280 : Shape := ⟨1, ![1280]⟩
abbrev S1792x128 : Shape := ⟨2, ![1792, 128]⟩
abbrev S512x1792 : Shape := ⟨2, ![512, 1792]⟩
abbrev S1x1792 : Shape := ⟨2, ![1, 1792]⟩
abbrev S256x1536 : Shape := ⟨2, ![256, 1536]⟩
abbrev S1536 : Shape := ⟨1, ![1536]⟩
abbrev S512x2048 : Shape := ⟨2, ![512, 2048]⟩
abbrev S256x1792 : Shape := ⟨2, ![256, 1792]⟩
abbrev S1792 : Shape := ⟨1, ![1792]⟩

abbrev nBuf : Space → Nat
  | .hbm => 59
  | .vmem => 19
  | .smem => 0
  | _ => 0

abbrev bufTy : (tb : Table) → Fin (tcTables nBuf tb) → BufTy
  | .hbm, ⟨0, _⟩ => ⟨S2048x3712, .f32⟩
  | .hbm, ⟨1, _⟩ => ⟨S128x2048, .f32⟩
  | .hbm, ⟨2, _⟩ => ⟨S2048x512, .f32⟩
  | .hbm, ⟨3, _⟩ => ⟨S2048x3712, .bf16⟩
  | .hbm, ⟨4, _⟩ => ⟨S8x128, .f32⟩
  | .hbm, ⟨5, _⟩ => ⟨S2048x1536, .f32⟩
  | .hbm, ⟨6, _⟩ => ⟨S2048x4x3x128, .f32⟩
  | .hbm, ⟨7, _⟩ => ⟨S2048x4x1x128, .f32⟩
  | .hbm, ⟨8, _⟩ => ⟨S2048x4x128, .f32⟩
  | .hbm, ⟨9, _⟩ => ⟨S2048x8x64, .f32⟩
  | .hbm, ⟨10, _⟩ => ⟨S2048x4x1x128, .f32⟩
  | .hbm, ⟨11, _⟩ => ⟨S2048x4x128, .f32⟩
  | .hbm, ⟨12, _⟩ => ⟨S2048x8x64, .f32⟩
  | .hbm, ⟨13, _⟩ => ⟨S2048x4x1x128, .f32⟩
  | .hbm, ⟨14, _⟩ => ⟨S2048x4x128, .f32⟩
  | .hbm, ⟨15, _⟩ => ⟨S2048x8x64, .f32⟩
  | .hbm, ⟨16, _⟩ => ⟨S8x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S8x1x2048, .f32⟩
  | .hbm, ⟨22, _⟩ => ⟨S8x2048x2048, .f32⟩
  | .hbm, ⟨23, _⟩ => ⟨S8x2048x2048, .f32⟩
  | .hbm, ⟨24, _⟩ => ⟨S2048, .i32⟩
  | .hbm, ⟨25, _⟩ => ⟨S1x2048, .i32⟩
  | .hbm, ⟨26, _⟩ => ⟨S2048, .i32⟩
  | .hbm, ⟨27, _⟩ => ⟨S2048x1, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S8x2048x2048, .i1⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S8x2048x2048, .f32⟩
  | .hbm, ⟨46, _⟩ => ⟨S8x2048x2048, .f32⟩
  | .hbm, ⟨47, _⟩ => ⟨S8x64x2048, .f32⟩
  | .hbm, ⟨48, _⟩ => ⟨S2048x8x64, .f32⟩
  | .hbm, ⟨49, _⟩ => ⟨S8x2048, .f32⟩
  | .hbm, ⟨50, _⟩ => ⟨S8x2048, .f32⟩
  | .hbm, ⟨51, _⟩ => ⟨S2048x8, .f32⟩
  | .hbm, ⟨52, _⟩ => ⟨S2048x8x1, .f32⟩
  | .hbm, ⟨53, _⟩ => ⟨S2048x8x64, .f32⟩
  | .hbm, ⟨54, _⟩ => ⟨S2048x512, .f32⟩
  | .hbm, ⟨55, _⟩ => ⟨S2048x512, .f32⟩
  | .hbm, ⟨56, _⟩ => ⟨S2048x3712, .bf16⟩
  | .hbm, ⟨57, _⟩ => ⟨S2048x128, .f32⟩
  | .hbm, ⟨58, _⟩ => ⟨S128x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x2048, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x384, .bf16⟩
  | .local _ .vmem, ⟨14, _⟩ => ⟨S2048x384, .bf16⟩
  | .local _ .vmem, ⟨15, _⟩ => ⟨S2048x128, .f32⟩
  | .local _ .vmem, ⟨16, _⟩ => ⟨S128x2048, .f32⟩
  | .local _ .vmem, ⟨17, _⟩ => ⟨S2048x128, .f32⟩
  | .local _ .vmem, ⟨18, _⟩ => ⟨S2048x128, .f32⟩
  | _, _ => ⟨S2048x3712, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_2 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44_0 : Ref sig .tc := ⟨.hbm, 56, rfl⟩
abbrev main_v44_1 : Ref sig .tc := ⟨.hbm, 57, rfl⟩
abbrev main_v44_2 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c2_i32 : BitVec 32 := 2#32
  let arg0 : BitVec 32 := BitVec.ofNat 32 (i 0).val
  let v71 : BitVec 32 := Scalar.muli c2_i32 arg0
  let v72 : Index := Scalar.indexCast v71
  let c0_29 : Index := 0#32
  ![v72.toNat, 0]
def k0_off2 (i : grid0.Coords) : Fin 2 → Nat :=
  let c2_i32_30 : BitVec 32 := 2#32
  let arg0 : BitVec 32 := BitVec.ofNat 32 (i 0).val
  let v74 : BitVec 32 := Scalar.muli c2_i32_30 arg0
  let c1_i32 : BitVec 32 := 1#32
  let v75 : BitVec 32 := Scalar.addi v74 c1_i32
  let v76 : Index := Scalar.indexCast v75
  let c0_31 : Index := 0#32
  ![v76.toNat, 0]
def k0_off3 (i : grid0.Coords) : Fin 2 → Nat :=
  let c2_i32_92 : BitVec 32 := 2#32
  let arg0 : BitVec 32 := BitVec.ofNat 32 (i 0).val
  let v241 : BitVec 32 := Scalar.muli c2_i32_92 arg0
  let v242 : Index := Scalar.indexCast v241
  let c0_93 : Index := 0#32
  ![v242.toNat, 0]
def k0_off4 (i : grid0.Coords) : Fin 2 → Nat :=
  let c2_i32_94 : BitVec 32 := 2#32
  let arg0 : BitVec 32 := BitVec.ofNat 32 (i 0).val
  let v244 : BitVec 32 := Scalar.muli c2_i32_94 arg0
  let c1_i32_95 : BitVec 32 := 1#32
  let v245 : BitVec 32 := Scalar.addi v244 c1_i32_95
  let v246 : Index := Scalar.indexCast v245
  let c0_96 : Index := 0#32
  ![v246.toNat, 0]
def k0_off5 (i : grid0.Coords) : Fin 2 → Nat :=
  let c2_i32_139 : BitVec 32 := 2#32
  let arg0 : BitVec 32 := BitVec.ofNat 32 (i 0).val
  let v356 : BitVec 32 := Scalar.muli c2_i32_139 arg0
  let v357 : Index := Scalar.indexCast v356
  let c256_140 : Index := 256#32
  ![v357.toNat, 256]
def k0_off6 (i : grid0.Coords) : Fin 2 → Nat :=
  let c2_i32_143 : BitVec 32 := 2#32
  let arg0 : BitVec 32 := BitVec.ofNat 32 (i 0).val
  let v366 : BitVec 32 := Scalar.muli c2_i32_143 arg0
  let c1_i32_144 : BitVec 32 := 1#32
  let v367 : BitVec 32 := Scalar.addi v366 c1_i32_144
  let v368 : Index := Scalar.indexCast v367
  let c256_145 : Index := 256#32
  ![v368.toNat, 256]
def k0_off7 (i : grid0.Coords) : Fin 2 → Nat :=
  let c2_i32_179 : BitVec 32 := 2#32
  let arg0 : BitVec 32 := BitVec.ofNat 32 (i 0).val
  let v462 : BitVec 32 := Scalar.muli c2_i32_179 arg0
  let v463 : Index := Scalar.indexCast v462
  let c0_180 : Index := 0#32
  ![v463.toNat, 0]
def k0_off8 (i : grid0.Coords) : Fin 2 → Nat :=
  let c2_i32_181 : BitVec 32 := 2#32
  let arg0 : BitVec 32 := BitVec.ofNat 32 (i 0).val
  let v465 : BitVec 32 := Scalar.muli c2_i32_181 arg0
  let c1_i32_182 : BitVec 32 := 1#32
  let v466 : BitVec 32 := Scalar.addi v465 c1_i32_182
  let v467 : Index := Scalar.indexCast v466
  let c0_183 : Index := 0#32
  ![v467.toNat, 0]
def k0_off9 (i : grid0.Coords) : Fin 2 → Nat :=
  let c2_i32_226 : BitVec 32 := 2#32
  let arg0 : BitVec 32 := BitVec.ofNat 32 (i 0).val
  let v577 : BitVec 32 := Scalar.muli c2_i32_226 arg0
  let v578 : Index := Scalar.indexCast v577
  let c512_227 : Index := 512#32
  ![v578.toNat, 512]
def k0_off10 (i : grid0.Coords) : Fin 2 → Nat :=
  let c2_i32_230 : BitVec 32 := 2#32
  let arg0 : BitVec 32 := BitVec.ofNat 32 (i 0).val
  let v587 : BitVec 32 := Scalar.muli c2_i32_230 arg0
  let c1_i32_231 : BitVec 32 := 1#32
  let v588 : BitVec 32 := Scalar.addi v587 c1_i32_231
  let v589 : Index := Scalar.indexCast v588
  let c512_232 : Index := 512#32
  ![v589.toNat, 512]
def k0_off11 (i : grid0.Coords) : Fin 2 → Nat :=
  let c2_i32_266 : BitVec 32 := 2#32
  let arg0 : BitVec 32 := BitVec.ofNat 32 (i 0).val
  let v683 : BitVec 32 := Scalar.muli c2_i32_266 arg0
  let v684 : Index := Scalar.indexCast v683
  let c0_267 : Index := 0#32
  ![v684.toNat, 0]
def k0_off12 (i : grid0.Coords) : Fin 2 → Nat :=
  let c2_i32_268 : BitVec 32 := 2#32
  let arg0 : BitVec 32 := BitVec.ofNat 32 (i 0).val
  let v686 : BitVec 32 := Scalar.muli c2_i32_268 arg0
  let c1_i32_269 : BitVec 32 := 1#32
  let v687 : BitVec 32 := Scalar.addi v686 c1_i32_269
  let v688 : Index := Scalar.indexCast v687
  let c0_270 : Index := 0#32
  ![v688.toNat, 0]
def k0_off13 (i : grid0.Coords) : Fin 2 → Nat :=
  let c2_i32_313 : BitVec 32 := 2#32
  let arg0 : BitVec 32 := BitVec.ofNat 32 (i 0).val
  let v798 : BitVec 32 := Scalar.muli c2_i32_313 arg0
  let v799 : Index := Scalar.indexCast v798
  let c768_314 : Index := 768#32
  ![v799.toNat, 768]
def k0_off14 (i : grid0.Coords) : Fin 2 → Nat :=
  let c2_i32_317 : BitVec 32 := 2#32
  let arg0 : BitVec 32 := BitVec.ofNat 32 (i 0).val
  let v808 : BitVec 32 := Scalar.muli c2_i32_317 arg0
  let c1_i32_318 : BitVec 32 := 1#32
  let v809 : BitVec 32 := Scalar.addi v808 c1_i32_318
  let v810 : Index := Scalar.indexCast v809
  let c768_319 : Index := 768#32
  ![v810.toNat, 768]
def k0_off15 (i : grid0.Coords) : Fin 2 → Nat :=
  let c2_i32_353 : BitVec 32 := 2#32
  let arg0 : BitVec 32 := BitVec.ofNat 32 (i 0).val
  let v904 : BitVec 32 := Scalar.muli c2_i32_353 arg0
  let v905 : Index := Scalar.indexCast v904
  let c0_354 : Index := 0#32
  ![v905.toNat, 0]
def k0_off16 (i : grid0.Coords) : Fin 2 → Nat :=
  let c2_i32_355 : BitVec 32 := 2#32
  let arg0 : BitVec 32 := BitVec.ofNat 32 (i 0).val
  let v907 : BitVec 32 := Scalar.muli c2_i32_355 arg0
  let c1_i32_356 : BitVec 32 := 1#32
  let v908 : BitVec 32 := Scalar.addi v907 c1_i32_356
  let v909 : Index := Scalar.indexCast v908
  let c0_357 : Index := 0#32
  ![v909.toNat, 0]
def k0_off17 (i : grid0.Coords) : Fin 2 → Nat :=
  let c2_i32_400 : BitVec 32 := 2#32
  let arg0 : BitVec 32 := BitVec.ofNat 32 (i 0).val
  let v1019 : BitVec 32 := Scalar.muli c2_i32_400 arg0
  let v1020 : Index := Scalar.indexCast v1019
  let c1024_401 : Index := 1024#32
  ![v1020.toNat, 1024]
def k0_off18 (i : grid0.Coords) : Fin 2 → Nat :=
  let c2_i32_404 : BitVec 32 := 2#32
  let arg0 : BitVec 32 := BitVec.ofNat 32 (i 0).val
  let v1029 : BitVec 32 := Scalar.muli c2_i32_404 arg0
  let c1_i32_405 : BitVec 32 := 1#32
  let v1030 : BitVec 32 := Scalar.addi v1029 c1_i32_405
  let v1031 : Index := Scalar.indexCast v1030
  let c1024_406 : Index := 1024#32
  ![v1031.toNat, 1024]
def k0_off19 (i : grid0.Coords) : Fin 2 → Nat :=
  let c2_i32_440 : BitVec 32 := 2#32
  let arg0 : BitVec 32 := BitVec.ofNat 32 (i 0).val
  let v1125 : BitVec 32 := Scalar.muli c2_i32_440 arg0
  let v1126 : Index := Scalar.indexCast v1125
  let c0_441 : Index := 0#32
  ![v1126.toNat, 0]
def k0_off20 (i : grid0.Coords) : Fin 2 → Nat :=
  let c2_i32_442 : BitVec 32 := 2#32
  let arg0 : BitVec 32 := BitVec.ofNat 32 (i 0).val
  let v1128 : BitVec 32 := Scalar.muli c2_i32_442 arg0
  let c1_i32_443 : BitVec 32 := 1#32
  let v1129 : BitVec 32 := Scalar.addi v1128 c1_i32_443
  let v1130 : Index := Scalar.indexCast v1129
  let c0_444 : Index := 0#32
  ![v1130.toNat, 0]
def k0_off21 (i : grid0.Coords) : Fin 2 → Nat :=
  let c2_i32_487 : BitVec 32 := 2#32
  let arg0 : BitVec 32 := BitVec.ofNat 32 (i 0).val
  let v1240 : BitVec 32 := Scalar.muli c2_i32_487 arg0
  let v1241 : Index := Scalar.indexCast v1240
  let c1280_488 : Index := 1280#32
  ![v1241.toNat, 1280]
def k0_off22 (i : grid0.Coords) : Fin 2 → Nat :=
  let c2_i32_491 : BitVec 32 := 2#32
  let arg0 : BitVec 32 := BitVec.ofNat 32 (i 0).val
  let v1250 : BitVec 32 := Scalar.muli c2_i32_491 arg0
  let c1_i32_492 : BitVec 32 := 1#32
  let v1251 : BitVec 32 := Scalar.addi v1250 c1_i32_492
  let v1252 : Index := Scalar.indexCast v1251
  let c1280_493 : Index := 1280#32
  ![v1252.toNat, 1280]
def k0_off23 (i : grid0.Coords) : Fin 2 → Nat :=
  let c2_i32_527 : BitVec 32 := 2#32
  let arg0 : BitVec 32 := BitVec.ofNat 32 (i 0).val
  let v1346 : BitVec 32 := Scalar.muli c2_i32_527 arg0
  let v1347 : Index := Scalar.indexCast v1346
  let c0_528 : Index := 0#32
  ![v1347.toNat, 0]
def k0_off24 (i : grid0.Coords) : Fin 2 → Nat :=
  let c2_i32_529 : BitVec 32 := 2#32
  let arg0 : BitVec 32 := BitVec.ofNat 32 (i 0).val
  let v1349 : BitVec 32 := Scalar.muli c2_i32_529 arg0
  let c1_i32_530 : BitVec 32 := 1#32
  let v1350 : BitVec 32 := Scalar.addi v1349 c1_i32_530
  let v1351 : Index := Scalar.indexCast v1350
  let c0_531 : Index := 0#32
  ![v1351.toNat, 0]
def k0_off25 (i : grid0.Coords) : Fin 2 → Nat :=
  let c2_i32_574 : BitVec 32 := 2#32
  let arg0 : BitVec 32 := BitVec.ofNat 32 (i 0).val
  let v1461 : BitVec 32 := Scalar.muli c2_i32_574 arg0
  let v1462 : Index := Scalar.indexCast v1461
  let c1536_575 : Index := 1536#32
  ![v1462.toNat, 1536]
def k0_off26 (i : grid0.Coords) : Fin 2 → Nat :=
  let c2_i32_578 : BitVec 32 := 2#32
  let arg0 : BitVec 32 := BitVec.ofNat 32 (i 0).val
  let v1471 : BitVec 32 := Scalar.muli c2_i32_578 arg0
  let c1_i32_579 : BitVec 32 := 1#32
  let v1472 : BitVec 32 := Scalar.addi v1471 c1_i32_579
  let v1473 : Index := Scalar.indexCast v1472
  let c1536_580 : Index := 1536#32
  ![v1473.toNat, 1536]
def k0_off27 (i : grid0.Coords) : Fin 2 → Nat :=
  let c2_i32_614 : BitVec 32 := 2#32
  let arg0 : BitVec 32 := BitVec.ofNat 32 (i 0).val
  let v1566 : BitVec 32 := Scalar.muli c2_i32_614 arg0
  let v1567 : Index := Scalar.indexCast v1566
  let c0_615 : Index := 0#32
  ![v1567.toNat, 0]
def k0_off28 (i : grid0.Coords) : Fin 2 → Nat :=
  let c2_i32_616 : BitVec 32 := 2#32
  let arg0 : BitVec 32 := BitVec.ofNat 32 (i 0).val
  let v1569 : BitVec 32 := Scalar.muli c2_i32_616 arg0
  let c1_i32_617 : BitVec 32 := 1#32
  let v1570 : BitVec 32 := Scalar.addi v1569 c1_i32_617
  let v1571 : Index := Scalar.indexCast v1570
  let c0_618 : Index := 0#32
  ![v1571.toNat, 0]
def k0_off29 (i : grid0.Coords) : Fin 2 → Nat :=
  let c2_i32_661 : BitVec 32 := 2#32
  let arg0 : BitVec 32 := BitVec.ofNat 32 (i 0).val
  let v1681 : BitVec 32 := Scalar.muli c2_i32_661 arg0
  let v1682 : Index := Scalar.indexCast v1681
  let c1792_662 : Index := 1792#32
  ![v1682.toNat, 1792]
def k0_off30 (i : grid0.Coords) : Fin 2 → Nat :=
  let c2_i32_665 : BitVec 32 := 2#32
  let arg0 : BitVec 32 := BitVec.ofNat 32 (i 0).val
  let v1691 : BitVec 32 := Scalar.muli c2_i32_665 arg0
  let c1_i32_666 : BitVec 32 := 1#32
  let v1692 : BitVec 32 := Scalar.addi v1691 c1_i32_666
  let v1693 : Index := Scalar.indexCast v1692
  let c1792_667 : Index := 1792#32
  ![v1693.toNat, 1792]
def cc0_transform_1 (i : grid0.Coords) : Fin 2 → Nat :=
  let arg0 : BitVec 32 := BitVec.ofNat 32 (i 0).val
  let c3_i32 : BitVec 32 := 3#32
  let v0 : BitVec 32 := Scalar.muli c3_i32 arg0
  let c0_i32 : BitVec 32 := 0#32
  let v1 : BitVec 32 := Scalar.addi c0_i32 v0
  let c0_i32_0 : BitVec 32 := 0#32
  let v2 : BitVec 32 := Scalar.addi v1 c0_i32_0
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let c3_i32 : BitVec 32 := 3#32
  let v0 : BitVec 32 := Scalar.muli c3_i32 arg0
  let c0_i32 : BitVec 32 := 0#32
  let v1 : BitVec 32 := Scalar.addi c0_i32 v0
  let c1_i32 : BitVec 32 := 1#32
  let v2 : BitVec 32 := Scalar.addi v1 c1_i32
  let c0_i32_0 : BitVec 32 := 0#32
  let c0_i32_1 : BitVec 32 := 0#32
  ![c0_i32_0.toNat, v2.toNat]

def cc0_transform_3 (i : grid0.Coords) : Fin 2 → Nat :=
  let arg0 : BitVec 32 := BitVec.ofNat 32 (i 0).val
  let c3_i32 : BitVec 32 := 3#32
  let v0 : BitVec 32 := Scalar.muli c3_i32 arg0
  let c0_i32 : BitVec 32 := 0#32
  let v1 : BitVec 32 := Scalar.addi c0_i32 v0
  let c2_i32 : BitVec 32 := 2#32
  let v2 : BitVec 32 := Scalar.addi v1 c2_i32
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2048x3712 : Shape := ⟨2, ![2048, 3712]⟩
abbrev S128x2048 : Shape := ⟨2, ![128, 2048]⟩
abbrev S2048x512 : Shape := ⟨2, ![2048, 512]⟩
abbrev S8x128 : Shape := ⟨2, ![8, 128]⟩
abbrev S2048x1536 : Shape := ⟨2, ![2048, 1536]⟩
abbrev S2048x4x3x128 : Shape := ⟨4, ![2048, 4, 3, 128]⟩
abbrev S2048x4x1x128 : Shape := ⟨4, ![2048, 4, 1, 128]⟩
abbrev S2048x4x128 : Shape := ⟨3, ![2048, 4, 128]⟩
abbrev S2048x8x64 : Shape := ⟨3, ![2048, 8, 64]⟩
abbrev S8x2048 : Shape := ⟨2, ![8, 2048]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩
abbrev S8x2048x64 : Shape := ⟨3, ![8, 2048, 64]⟩
abbrev S2048x2176 : Shape := ⟨2, ![2048, 2176]⟩
abbrev S2048x8 : Shape := ⟨2, ![2048, 8]⟩
abbrev S2048x128 : Shape := ⟨2, ![2048, 128]⟩

abbrev nBuf : Space → Nat
  | .hbm => 140
  | .vmem => 0
  | .smem => 0
  | _ => 0

abbrev hbmTy0_0 (i : Nat) : BufTy := match i % 128 with
  | 0 => ⟨S2048x3712, .f32⟩
  | 1 => ⟨S128x2048, .f32⟩
  | 2 => ⟨S2048x512, .f32⟩
  | 3 => ⟨S2048x3712, .bf16⟩
  | 4 => ⟨S8x128, .f32⟩
  | 5 => ⟨S2048x1536, .f32⟩
  | 6 => ⟨S2048x4x3x128, .f32⟩
  | 7 => ⟨S2048x4x1x128, .f32⟩
  | 8 => ⟨S2048x4x128, .f32⟩
  | 9 => ⟨S2048x8x64, .f32⟩
  | 10 => ⟨S2048x4x1x128, .f32⟩
  | 11 => ⟨S2048x4x128, .f32⟩
  | 12 => ⟨S2048x8x64, .f32⟩
  | 13 => ⟨S2048x4x1x128, .f32⟩
  | 14 => ⟨S2048x4x128, .f32⟩
  | 15 => ⟨S2048x8x64, .f32⟩
  | 16 => ⟨S8x2048, .f32⟩
  | 17 => ⟨S8x2048x2048, .f32⟩
  | 18 => ⟨S_, .f32⟩
  | 19 => ⟨S8x2048x2048, .f32⟩
  | 20 => ⟨S8x2048x2048, .f32⟩
  | 21 => ⟨S8x2048x1, .f32⟩
  | 22 => ⟨S8x2048x2048, .f32⟩
  | 23 => ⟨S8x2048x2048, .f32⟩
  | 24 => ⟨S8x1x2048, .f32⟩
  | 25 => ⟨S8x2048x2048, .f32⟩
  | 26 => ⟨S8x2048x2048, .f32⟩
  | 27 => ⟨S2048, .i32⟩
  | 28 => ⟨S1x2048, .i32⟩
  | 29 => ⟨S2048, .i32⟩
  | 30 => ⟨S2048x1, .i32⟩
  | 31 => ⟨S2048x2048, .i32⟩
  | 32 => ⟨S2048x2048, .i32⟩
  | 33 => ⟨S2048x2048, .i1⟩
  | 34 => ⟨S_, .f32⟩
  | 35 => ⟨S_, .f32⟩
  | 36 => ⟨S8x2048x2048, .i1⟩
  | 37 => ⟨S8x2048x2048, .f32⟩
  | 38 => ⟨S8x2048x2048, .f32⟩
  | 39 => ⟨S_, .f32⟩
  | 40 => ⟨S8x2048x2048, .f32⟩
  | 41 => ⟨S_, .f32⟩
  | 42 => ⟨S8x2048, .f32⟩
  | 43 => ⟨S8x2048x1, .f32⟩
  | 44 => ⟨S8x2048x2048, .f32⟩
  | 45 => ⟨S8x2048x2048, .i1⟩
  | 46 => ⟨S8x2048x2048, .f32⟩
  | 47 => ⟨S_, .f32⟩
  | 48 => ⟨S8x2048, .f32⟩
  | 49 => ⟨S_, .f32⟩
  | 50 => ⟨S8x2048, .f32⟩
  | 51 => ⟨S8x2048, .f32⟩
  | 52 => ⟨S_, .f32⟩
  | 53 => ⟨S8x2048, .f32⟩
  | 54 => ⟨S8x2048, .i1⟩
  | 55 => ⟨S_, .f32⟩
  | 56 => ⟨S8x2048, .f32⟩
  | 57 => ⟨S8x2048, .i1⟩
  | 58 => ⟨S_, .f32⟩
  | 59 => ⟨S8x2048, .f32⟩
  | 60 => ⟨S_, .f32⟩
  | 61 => ⟨S8x2048, .f32⟩
  | 62 => ⟨S_, .f32⟩
  | 63 => ⟨S8x2048, .f32⟩
  | 64 => ⟨S8x2048, .f32⟩
  | 65 => ⟨S8x2048, .f32⟩
  | 66 => ⟨S8x2048x1, .f32⟩
  | 67 => ⟨S8x2048x2048, .f32⟩
  | 68 => ⟨S8x2048x2048, .f32⟩
  | 69 => ⟨S8x2048x2048, .f32⟩
  | 70 => ⟨S_, .f32⟩
  | 71 => ⟨S8x2048, .f32⟩
  | 72 => ⟨S8x2048x1, .f32⟩
  | 73 => ⟨S8x2048x2048, .f32⟩
  | 74 => ⟨S8x2048x2048, .f32⟩
  | 75 => ⟨S8x2048x1, .f32⟩
  | 76 => ⟨S_, .f32⟩
  | 77 => ⟨S8x2048x1, .f32⟩
  | 78 => ⟨S8x2048x1, .f32⟩
  | 79 => ⟨S8x64x2048, .f32⟩
  | 80 => ⟨S2048x8x64, .f32⟩
  | 81 => ⟨S2048x8x64, .f32⟩
  | 82 => ⟨S8x64x2048, .f32⟩
  | 83 => ⟨S8x2048x2048, .f32⟩
  | 84 => ⟨S8x64x2048, .f32⟩
  | 85 => ⟨S2048x8x64, .f32⟩
  | 86 => ⟨S8x2048x2048, .f32⟩
  | 87 => ⟨S8x2048x2048, .f32⟩
  | 88 => ⟨S8x2048x2048, .f32⟩
  | 89 => ⟨S_, .f32⟩
  | 90 => ⟨S8x2048, .f32⟩
  | 91 => ⟨S8x2048x1, .f32⟩
  | 92 => ⟨S8x2048x1, .f32⟩
  | 93 => ⟨S8x2048x2048, .f32⟩
  | 94 => ⟨S8x2048x2048, .f32⟩
  | 95 => ⟨S_, .f32⟩
  | 96 => ⟨S8x2048, .f32⟩
  | 97 => ⟨S8x2048x2048, .f32⟩
  | 98 => ⟨S8x2048x2048, .f32⟩
  | 99 => ⟨S8x2048x2048, .f32⟩
  | 100 => ⟨S_, .f32⟩
  | 101 => ⟨S8x2048x2048, .f32⟩
  | 102 => ⟨S8x2048x2048, .f32⟩
  | 103 => ⟨S8x2048x2048, .f32⟩
  | 104 => ⟨S_, .f32⟩
  | 105 => ⟨S8x2048, .f32⟩
  | 106 => ⟨S8x1x2048, .f32⟩
  | 107 => ⟨S_, .f32⟩
  | 108 => ⟨S8x2048, .f32⟩
  | 109 => ⟨S_, .f32⟩
  | 110 => ⟨S8x2048, .f32⟩
  | 111 => ⟨S8x2048x1, .f32⟩
  | 112 => ⟨S_, .f32⟩
  | 113 => ⟨S8x2048, .f32⟩
  | 114 => ⟨S_, .f32⟩
  | 115 => ⟨S8x2048x2048, .f32⟩
  | 116 => ⟨S8x2048x2048, .f32⟩
  | 117 => ⟨S8x2048x64, .f32⟩
  | 118 => ⟨S2048x8x64, .f32⟩
  | 119 => ⟨S8x2048x64, .f32⟩
  | 120 => ⟨S2048x8x64, .f32⟩
  | 121 => ⟨S2048x4x128, .f32⟩
  | 122 => ⟨S2048x4x128, .f32⟩
  | 123 => ⟨S2048x4x128, .f32⟩
  | 124 => ⟨S2048x4x1x128, .f32⟩
  | 125 => ⟨S2048x4x1x128, .f32⟩
  | 126 => ⟨S2048x4x1x128, .f32⟩
  | 127 => ⟨S2048x4x3x128, .f32⟩
  | _ => ⟨S2048x3712, .f32⟩

abbrev hbmTy0_1 (i : Nat) : BufTy := match i % 128 with
  | 0 => ⟨S2048x1536, .f32⟩
  | 1 => ⟨S2048x1536, .bf16⟩
  | 2 => ⟨S2048x2176, .bf16⟩
  | 3 => ⟨S2048x3712, .bf16⟩
  | 4 => ⟨S2048x8, .f32⟩
  | 5 => ⟨S_, .i32⟩
  | 6 => ⟨S_, .f32⟩
  | 7 => ⟨S2048x128, .f32⟩
  | 8 => ⟨S8x2048, .f32⟩
  | 9 => ⟨S_, .i32⟩
  | 10 => ⟨S_, .f32⟩
  | 11 => ⟨S128x2048, .f32⟩
  | _ => ⟨S2048x3712, .f32⟩

abbrev hbmTy (i : Nat) : BufTy := match i / 128 with
  | 0 => hbmTy0_0 i
  | 1 => hbmTy0_1 i
  | _ => ⟨S2048x3712, .f32⟩

abbrev bufTy : (tb : Table) → Fin (tcTables nBuf tb) → BufTy
  | .hbm, ⟨i, _⟩ => hbmTy i
  | _, _ => ⟨S2048x3712, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_0 : Ref sig .tc := ⟨.hbm, 34, rfl⟩
abbrev main_call0_v0 : Ref sig .tc := ⟨.hbm, 35, rfl⟩
abbrev main_v28_1 : Ref sig .tc := ⟨.hbm, 36, rfl⟩
abbrev main_call0_v2 : Ref sig .tc := ⟨.hbm, 37, rfl⟩
abbrev main_v28_0 : Ref sig .tc := ⟨.hbm, 38, rfl⟩
abbrev main_call0_cst : Ref sig .tc := ⟨.hbm, 39, rfl⟩
abbrev main_v28_2 : Ref sig .tc := ⟨.hbm, 40, rfl⟩
abbrev main_cst_1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_2 : Ref sig .tc := ⟨.hbm, 47, rfl⟩
abbrev main_v34 : Ref sig .tc := ⟨.hbm, 48, rfl⟩
abbrev main_cst_3 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_11 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_12 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_call1_cst : Ref sig .tc := ⟨.hbm, 100, rfl⟩
abbrev main_call1_v0 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_cst_14 : Ref sig .tc := ⟨.hbm, 107, rfl⟩
abbrev main_v80 : Ref sig .tc := ⟨.hbm, 108, rfl⟩
abbrev main_cst_15 : Ref sig .tc := ⟨.hbm, 109, rfl⟩
abbrev main_v81 : Ref sig .tc := ⟨.hbm, 110, rfl⟩
abbrev main_v82 : Ref sig .tc := ⟨.hbm, 111, rfl⟩
abbrev main_cst_16 : Ref sig .tc := ⟨.hbm, 112, rfl⟩
abbrev main_v83 : Ref sig .tc := ⟨.hbm, 113, rfl⟩
abbrev main_cst_17 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c : Ref sig .tc := ⟨.hbm, 133, rfl⟩
abbrev main_call2_v0 : Ref sig .tc := ⟨.hbm, 134, rfl⟩
abbrev main_v102 : Ref sig .tc := ⟨.hbm, 135, rfl⟩
abbrev main_v103 : Ref sig .tc := ⟨.hbm, 136, rfl⟩
abbrev main_c_18 : Ref sig .tc := ⟨.hbm, 137, rfl⟩
abbrev main_call3_v0 : Ref sig .tc := ⟨.hbm, 138, rfl⟩
abbrev main_v104 : Ref sig .tc := ⟨.hbm, 139, rfl⟩

abbrev nD : Nat := 1
abbrev τ : Topo := Topo.v7x

variable {F : FTy → Type} [FloatOps F]
-- ==== KernelAct.lean ====
abbrev S2048x1024 : Shape := ⟨2, ![2048, 1024]⟩
abbrev S4096x1024 : Shape := ⟨2, ![4096, 1024]⟩
abbrev S2048x4096 : Shape := ⟨2, ![2048, 4096]⟩
abbrev S512x1024 : Shape := ⟨2, ![512, 1024]⟩
abbrev S512x4096 : Shape := ⟨2, ![512, 4096]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .bf16⟩
  | .hbm, ⟨3, _⟩ => ⟨S2048x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceActIdeal.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .bf16⟩
  | .hbm, ⟨3, _⟩ => ⟨S4096x1024, .f32⟩
  | .hbm, ⟨4, _⟩ => ⟨S2048x4096, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S_, .f32⟩
  | .hbm, ⟨9, _⟩ => ⟨S2048x4096, .f32⟩
  | .hbm, ⟨10, _⟩ => ⟨S2048x4096, .i1⟩
  | .hbm, ⟨11, _⟩ => ⟨S_, .f32⟩
  | .hbm, ⟨12, _⟩ => ⟨S2048x4096, .f32⟩
  | .hbm, ⟨13, _⟩ => ⟨S2048x4096, .f32⟩
  | .hbm, ⟨14, _⟩ => ⟨S_, .f32⟩
  | .hbm, ⟨15, _⟩ => ⟨S2048x4096, .f32⟩
  | .hbm, ⟨16, _⟩ => ⟨S2048x4096, .f32⟩
  | .hbm, ⟨17, _⟩ => ⟨S2048x1024, .f32⟩
  | .hbm, ⟨18, _⟩ => ⟨S2048x1024, .f32⟩
  | .hbm, ⟨19, _⟩ => ⟨S2048x4096, .f32⟩
  | .hbm, ⟨20, _⟩ => ⟨S2048x4096, .f32⟩
  | .hbm, ⟨21, _⟩ => ⟨S_, .f32⟩
  | .hbm, ⟨22, _⟩ => ⟨S2048x4096, .f32⟩
  | .hbm, ⟨23, _⟩ => ⟨S2048x4096, .f32⟩
  | .hbm, ⟨24, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== KernelDown.lean ====
abbrev S2048x4096 : Shape := ⟨2, ![2048, 4096]⟩
abbrev S2048x1024 : Shape := ⟨2, ![2048, 1024]⟩
abbrev S8x512x1024 : Shape := ⟨3, ![8, 512, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S8x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceDownIdeal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩
abbrev S8x512x1024 : Shape := ⟨3, ![8, 512, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S2048x4096, .f32⟩
  | .hbm, ⟨3, _⟩ => ⟨S_, .f32⟩
  | .hbm, ⟨4, _⟩ => ⟨S4096x1024, .f32⟩
  | .hbm, ⟨5, _⟩ => ⟨S_, .f32⟩
  | .hbm, ⟨6, _⟩ => ⟨S2048x4096, .f32⟩
  | .hbm, ⟨7, _⟩ => ⟨S2048x4096, .f32⟩
  | .hbm, ⟨8, _⟩ => ⟨S2048x4096, .f32⟩
  | .hbm, ⟨9, _⟩ => ⟨S2048x1024, .f32⟩
  | .hbm, ⟨10, _⟩ => ⟨S2048x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | .hbm, ⟨14, _⟩ => ⟨S8x512x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== KernelUp.lean ====
abbrev S1024x2048 : Shape := ⟨2, ![1024, 2048]⟩
abbrev S2048x4096 : Shape := ⟨2, ![2048, 4096]⟩
abbrev S8x1024x512 : Shape := ⟨3, ![8, 1024, 512]⟩
abbrev S2048x512 : Shape := ⟨2, ![2048, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x2048, .bf16⟩
  | .hbm, ⟨1, _⟩ => ⟨S2048x4096, .bf16⟩
  | .hbm, ⟨2, _⟩ => ⟨S8x1024x512, .bf16⟩
  | .local _ .vmem, ⟨0, _⟩ => ⟨S1024x2048, .bf16⟩
  | .local _ .vmem, ⟨1, _⟩ => ⟨S2048x512, .bf16⟩
  | .local _ .vmem, ⟨2, _⟩ => ⟨S2048x512, .bf16⟩
  | .local _ .vmem, ⟨3, _⟩ => ⟨S1x1024x512, .bf16⟩
  | .local _ .vmem, ⟨4, _⟩ => ⟨S1x1024x512, .bf16⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceUpIdeal.lean ====
abbrev S1024x2048 : Shape := ⟨2, ![1024, 2048]⟩
abbrev S2048x4096 : Shape := ⟨2, ![2048, 4096]⟩
abbrev S2048x1024 : Shape := ⟨2, ![2048, 1024]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 13
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x4096, .bf16⟩
  | .hbm, ⟨2, _⟩ => ⟨S1024x2048, .f32⟩
  | .hbm, ⟨3, _⟩ => ⟨S2048x1024, .f32⟩
  | .hbm, ⟨4, _⟩ => ⟨S_, .f32⟩
  | .hbm, ⟨5, _⟩ => ⟨S1024x4096, .f32⟩
  | .hbm, ⟨6, _⟩ => ⟨S2048x4096, .f32⟩
  | .hbm, ⟨7, _⟩ => ⟨S2048x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | .hbm, ⟨11, _⟩ => ⟨S1024x8x512, .bf16⟩
  | .hbm, ⟨12, _⟩ => ⟨S8x1024x512, .bf16⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelWin.lean ====
abbrev S2048x3712 : Shape := ⟨2, ![2048, 3712]⟩
abbrev S2048x1024 : Shape := ⟨2, ![2048, 1024]⟩
abbrev S7x512x1024 : Shape := ⟨3, ![7, 512, 1024]⟩
abbrev S2048x512 : Shape := ⟨2, ![2048, 512]⟩
abbrev S1x512x1024 : Shape := ⟨3, ![1, 512, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x3712, .bf16⟩
  | .hbm, ⟨1, _⟩ => ⟨S2048x1024, .bf16⟩
  | .hbm, ⟨2, _⟩ => ⟨S7x512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S1x512x1024, .bf16⟩
  | .local _ .vmem, ⟨4, _⟩ => ⟨S1x512x1024, .bf16⟩
  | _, _ => ⟨S2048x3712, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![7], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceWinIdeal.lean ====
abbrev S2048x3712 : Shape := ⟨2, ![2048, 3712]⟩
abbrev S2048x1024 : Shape := ⟨2, ![2048, 1024]⟩
abbrev S_ : Shape := ⟨0, ![]⟩
abbrev S3584x1024 : Shape := ⟨2, ![3584, 1024]⟩
abbrev S1024x3584 : Shape := ⟨2, ![1024, 3584]⟩
abbrev S2048x3584 : Shape := ⟨2, ![2048, 3584]⟩
abbrev S7x512x1024 : Shape := ⟨3, ![7, 512, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x3712, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S3584x1024, .f32⟩
  | .hbm, ⟨5, _⟩ => ⟨S1024x3584, .f32⟩
  | .hbm, ⟨6, _⟩ => ⟨S2048x3584, .f32⟩
  | .hbm, ⟨7, _⟩ => ⟨S2048x3712, .f32⟩
  | .hbm, ⟨8, _⟩ => ⟨S2048x3584, .f32⟩
  | .hbm, ⟨9, _⟩ => ⟨S3584x1024, .f32⟩
  | .hbm, ⟨10, _⟩ => ⟨S1024x3584, .f32⟩
  | .hbm, ⟨11, _⟩ => ⟨S3584x1024, .f32⟩
  | .hbm, ⟨12, _⟩ => ⟨S3584x1024, .bf16⟩
  | .hbm, ⟨13, _⟩ => ⟨S7x512x1024, .bf16⟩
  | _, _ => ⟨S2048x3712, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelWout.lean ====
abbrev S2048x1024 : Shape := ⟨2, ![2048, 1024]⟩
abbrev S8x128x1024 : Shape := ⟨3, ![8, 128, 1024]⟩
abbrev S2048x512 : Shape := ⟨2, ![2048, 512]⟩
abbrev S4x128x1024 : Shape := ⟨3, ![4, 128, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S8x128x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S4x128x1024, .bf16⟩
  | .local _ .vmem, ⟨4, _⟩ => ⟨S4x128x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceWoutIdeal.lean ====
abbrev S2048x1024 : Shape := ⟨2, ![2048, 1024]⟩
abbrev S_ : Shape := ⟨0, ![]⟩
abbrev S1024x1024 : Shape := ⟨2, ![1024, 1024]⟩
abbrev S8x128x1024 : Shape := ⟨3, ![8, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S8x128x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelIn.lean ====
abbrev S2048x3712 : Shape := ⟨2, ![2048, 3712]⟩
abbrev S3712x1024 : Shape := ⟨2, ![3712, 1024]⟩
abbrev S2048x1024 : Shape := ⟨2, ![2048, 1024]⟩
abbrev S1x1024 : Shape := ⟨2, ![1, 1024]⟩
abbrev S8x128 : Shape := ⟨2, ![8, 128]⟩
abbrev S512x3712 : Shape := ⟨2, ![512, 3712]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 11
  | .smem => 0
  | _ => 0

abbrev bufTy : (tb : Table) → Fin (tcTables nBuf tb) → BufTy
  | .hbm, ⟨0, _⟩ => ⟨S2048x3712, .bf16⟩
  | .hbm, ⟨1, _⟩ => ⟨S3712x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S8x128, .f32⟩
  | .hbm, ⟨6, _⟩ => ⟨S2048x1024, .f32⟩
  | .hbm, ⟨7, _⟩ => ⟨S1x1024, .f32⟩
  | .local _ .vmem, ⟨0, _⟩ => ⟨S512x3712, .bf16⟩
  | .local _ .vmem, ⟨1, _⟩ => ⟨S512x3712, .bf16⟩
  | .local _ .vmem, ⟨2, _⟩ => ⟨S3712x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S2048x3712, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3712 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3712x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceInIdeal.lean ====
abbrev S2048x3712 : Shape := ⟨2, ![2048, 3712]⟩
abbrev S3712x1024 : Shape := ⟨2, ![3712, 1024]⟩
abbrev S2048x1024 : Shape := ⟨2, ![2048, 1024]⟩
abbrev S1x1024 : Shape := ⟨2, ![1, 1024]⟩
abbrev S8x128 : Shape := ⟨2, ![8, 128]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1024x3712 : Shape := ⟨2, ![1024, 3712]⟩

abbrev nBuf : Space → Nat
  | .hbm => 59
  | .vmem => 0
  | .smem => 0
  | _ => 0

abbrev bufTy : (tb : Table) → Fin (tcTables nBuf tb) → BufTy
  | .hbm, ⟨0, _⟩ => ⟨S2048x3712, .bf16⟩
  | .hbm, ⟨1, _⟩ => ⟨S3712x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S8x128, .f32⟩
  | .hbm, ⟨6, _⟩ => ⟨S3712x1024, .f32⟩
  | .hbm, ⟨7, _⟩ => ⟨S1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S1024x3712, .f32⟩
  | .hbm, ⟨29, _⟩ => ⟨S2048x3712, .f32⟩
  | .hbm, ⟨30, _⟩ => ⟨S2048x3712, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S2048x1024, .f32⟩
  | .hbm, ⟨41, _⟩ => ⟨S_, .f32⟩
  | .hbm, ⟨42, _⟩ => ⟨S2048, .f32⟩
  | .hbm, ⟨43, _⟩ => ⟨S2048x1, .f32⟩
  | .hbm, ⟨44, _⟩ => ⟨S2048x1024, .f32⟩
  | .hbm, ⟨45, _⟩ => ⟨S2048x1024, .f32⟩
  | .hbm, ⟨46, _⟩ => ⟨S2048x1, .f32⟩
  | .hbm, ⟨47, _⟩ => ⟨S_, .f32⟩
  | .hbm, ⟨48, _⟩ => ⟨S2048x1, .f32⟩
  | .hbm, ⟨49, _⟩ => ⟨S2048x1, .f32⟩
  | .hbm, ⟨50, _⟩ => ⟨S_, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S1x1024, .f32⟩
  | _, _ => ⟨S2048x3712, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== KernelMlp.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S8x128 : Shape := ⟨2, ![8, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 17
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S8x128, .f32⟩
  | .hbm, ⟨8, _⟩ => ⟨S2048x1024, .f32⟩
  | .hbm, ⟨9, _⟩ => ⟨S2048x1024, .bf16⟩
  | .hbm, ⟨10, _⟩ => ⟨S1x1024, .f32⟩
  | .hbm, ⟨11, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![4], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceMlpIdeal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S8x128 : Shape := ⟨2, ![8, 128]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1024x4096 : Shape := ⟨2, ![1024, 4096]⟩

abbrev nBuf : Space → Nat
  | .hbm => 109
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S8x128, .f32⟩
  | .hbm, ⟨8, _⟩ => ⟨S4096x1024, .f32⟩
  | .hbm, ⟨9, _⟩ => ⟨S1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S1024x4096, .f32⟩
  | .hbm, ⟨31, _⟩ => ⟨S2048x4096, .f32⟩
  | .hbm, ⟨32, _⟩ => ⟨S2048x4096, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S2048x1024, .f32⟩
  | .hbm, ⟨43, _⟩ => ⟨S_, .f32⟩
  | .hbm, ⟨44, _⟩ => ⟨S2048, .f32⟩
  | .hbm, ⟨45, _⟩ => ⟨S2048x1, .f32⟩
  | .hbm, ⟨46, _⟩ => ⟨S2048x1024, .f32⟩
  | .hbm, ⟨47, _⟩ => ⟨S2048x1024, .f32⟩
  | .hbm, ⟨48, _⟩ => ⟨S2048x1, .f32⟩
  | .hbm, ⟨49, _⟩ => ⟨S_, .f32⟩
  | .hbm, ⟨50, _⟩ => ⟨S2048x1, .f32⟩
  | .hbm, ⟨51, _⟩ => ⟨S2048x1, .f32⟩
  | .hbm, ⟨52, _⟩ => ⟨S_, .f32⟩
  | .hbm, ⟨53, _⟩ => ⟨S2048, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S1024, .f32⟩
  | .hbm, ⟨61, _⟩ => ⟨S2048x1024, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S2048x1, .f32⟩
  | .hbm, ⟨72, _⟩ => ⟨S2048x1, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S2048x1024, .f32⟩
  | .hbm, ⟨77, _⟩ => ⟨S2048x1024, .f32⟩
  | .hbm, ⟨78, _⟩ => ⟨S1x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S2048x1024, .f32⟩
  | .hbm, ⟨86, _⟩ => ⟨S2048x1024, .f32⟩
  | .hbm, ⟨87, _⟩ => ⟨S_, .f32⟩
  | .hbm, ⟨88, _⟩ => ⟨S1024, .f32⟩
  | .hbm, ⟨89, _⟩ => ⟨S2048x1024, .f32⟩
  | .hbm, ⟨90, _⟩ => ⟨S_, .f32⟩
  | .hbm, ⟨91, _⟩ => ⟨S2048, .f32⟩
  | .hbm, ⟨92, _⟩ => ⟨S2048x1, .f32⟩
  | .hbm, ⟨93, _⟩ => ⟨S2048x1024, .f32⟩
  | .hbm, ⟨94, _⟩ => ⟨S2048x1024, .f32⟩
  | .hbm, ⟨95, _⟩ => ⟨S2048x1, .f32⟩
  | .hbm, ⟨96, _⟩ => ⟨S_, .f32⟩
  | .hbm, ⟨97, _⟩ => ⟨S2048x1, .f32⟩
  | .hbm, ⟨98, _⟩ => ⟨S2048x1, .f32⟩
  | .hbm, ⟨99, _⟩ => ⟨S_, .f32⟩
  | .hbm, ⟨100, _⟩ => ⟨S2048, .f32⟩
  | .hbm, ⟨101, _⟩ => ⟨S2048x1024, .f32⟩
  | .hbm, ⟨102, _⟩ => ⟨S2048x1024, .f32⟩
  | .hbm, ⟨103, _⟩ => ⟨S2048x1024, .f32⟩
  | .hbm, ⟨104, _⟩ => ⟨S2048x1024, .f32⟩
  | .hbm, ⟨105, _⟩ => ⟨S2048x1024, .f32⟩
  | .hbm, ⟨106, _⟩ => ⟨S2048x1024, .bf16⟩
  | .hbm, ⟨107, _⟩ => ⟨S1x1024, .f32⟩
  | .hbm, ⟨108, _⟩ => ⟨S1x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_13 : Ref sig .tc := ⟨.hbm, 87, rfl⟩
abbrev main_v65 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_15 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩

abbrev nD : Nat := 1
abbrev τ : Topo := Topo.v7x

variable {F : FTy → Type} [FloatOps F]
-- ==== KernelProj.lean ====
abbrev S2048x1024 : Shape := ⟨2, ![2048, 1024]⟩
abbrev S1x1024 : Shape := ⟨2, ![1, 1024]⟩
abbrev S3712x1024 : Shape := ⟨2, ![3712, 1024]⟩
abbrev S8x128 : Shape := ⟨2, ![8, 128]⟩
abbrev S2048x3712 : Shape := ⟨2, ![2048, 3712]⟩
abbrev S512x1024 : Shape := ⟨2, ![512, 1024]⟩
abbrev S512x3712 : Shape := ⟨2, ![512, 3712]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S3712x1024, .bf16⟩
  | .hbm, ⟨3, _⟩ => ⟨S8x128, .f32⟩
  | .hbm, ⟨4, _⟩ => ⟨S2048x3712, .f32⟩
  | .hbm, ⟨5, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3712x1024, .bf16⟩
  | .local _ .vmem, ⟨4, _⟩ => ⟨S512x3712, .f32⟩
  | .local _ .vmem, ⟨5, _⟩ => ⟨S512x3712, .f32⟩
  | .local _ .vmem, ⟨6, _⟩ => ⟨S512x1024, .bf16⟩
  | .local _ .vmem, ⟨7, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3712x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3712 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceProjIdeal.lean ====
abbrev S2048x1024 : Shape := ⟨2, ![2048, 1024]⟩
abbrev S1x1024 : Shape := ⟨2, ![1, 1024]⟩
abbrev S3712x1024 : Shape := ⟨2, ![3712, 1024]⟩
abbrev S8x128 : Shape := ⟨2, ![8, 128]⟩
abbrev S1024 : Shape := ⟨1, ![1024]⟩
abbrev S_ : Shape := ⟨0, ![]⟩
abbrev S2048 : Shape := ⟨1, ![2048]⟩
abbrev S2048x1 : Shape := ⟨2, ![2048, 1]⟩
abbrev S1024x3712 : Shape := ⟨2, ![1024, 3712]⟩
abbrev S2048x3712 : Shape := ⟨2, ![2048, 3712]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S3712x1024, .bf16⟩
  | .hbm, ⟨3, _⟩ => ⟨S8x128, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S3712x1024, .f32⟩
  | .hbm, ⟨22, _⟩ => ⟨S1024x3712, .f32⟩
  | .hbm, ⟨23, _⟩ => ⟨S2048x3712, .f32⟩
  | .hbm, ⟨24, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KernelFwd.lean ====
abbrev S2048x1024 : Shape := ⟨2, ![2048, 1024]⟩
abbrev S4096x1024 : Shape := ⟨2, ![4096, 1024]⟩
abbrev S2048x4096 : Shape := ⟨2, ![2048, 4096]⟩
abbrev S512x1024 : Shape := ⟨2, ![512, 1024]⟩
abbrev S512x4096 : Shape := ⟨2, ![512, 4096]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceFwdIdeal.lean ====
abbrev S2048x1024 : Shape := ⟨2, ![2048, 1024]⟩
abbrev S4096x1024 : Shape := ⟨2, ![4096, 1024]⟩
abbrev S1024x4096 : Shape := ⟨2, ![1024, 4096]⟩
abbrev S2048x4096 : Shape := ⟨2, ![2048, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4096x1024, .bf16⟩
  | .hbm, ⟨2, _⟩ => ⟨S2048x1024, .f32⟩
  | .hbm, ⟨3, _⟩ => ⟨S4096x1024, .f32⟩
  | .hbm, ⟨4, _⟩ => ⟨S1024x4096, .f32⟩
  | .hbm, ⟨5, _⟩ => ⟨S2048x4096, .f32⟩
  | .hbm, ⟨6, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelLoss.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S1x128 : Shape := ⟨2, ![1, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S2048x1024, .f32⟩
  | .hbm, ⟨7, _⟩ => ⟨S1x128, .f32⟩
  | .hbm, ⟨8, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x128, .f32⟩
  | .local _ .vmem, ⟨13, _⟩ => ⟨S1x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceLossIdeal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩
abbrev S1024 : Shape := ⟨1, ![1024]⟩
abbrev S2048 : Shape := ⟨1, ![2048]⟩
abbrev S2048x1 : Shape := ⟨2, ![2048, 1]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S4096x1024, .f32⟩
  | .hbm, ⟨11, _⟩ => ⟨S2048x1024, .f32⟩
  | .hbm, ⟨12, _⟩ => ⟨S1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S2048x1024, .f32⟩
  | .hbm, ⟨29, _⟩ => ⟨S2048x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S2048x1024, .f32⟩
  | .hbm, ⟨63, _⟩ => ⟨S_, .f32⟩
  | .hbm, ⟨64, _⟩ => ⟨S1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1, .f32⟩
  | .hbm, ⟨72, _⟩ => ⟨S_, .f32⟩
  | .hbm, ⟨73, _⟩ => ⟨S2048x1, .f32⟩
  | .hbm, ⟨74, _⟩ => ⟨S2048x1, .f32⟩
  | .hbm, ⟨75, _⟩ => ⟨S_, .f32⟩
  | .hbm, ⟨76, _⟩ => ⟨S2048, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S2048x1024, .bf16⟩
  | .hbm, ⟨83, _⟩ => ⟨S1x128, .f32⟩
  | .hbm, ⟨84, _⟩ => ⟨S1x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_cst_8 : Ref sig .tc := ⟨.hbm, 48, rfl⟩
abbrev main_cst_9 : Ref sig .tc := ⟨.hbm, 49, rfl⟩
abbrev main_v32 : Ref sig .tc := ⟨.hbm, 50, rfl⟩
abbrev main_v33 : Ref sig .tc := ⟨.hbm, 51, rfl⟩
abbrev main_cst_10 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_12 : Ref sig .tc := ⟨.hbm, 63, rfl⟩
abbrev main_v43 : Ref sig .tc := ⟨.hbm, 64, rfl⟩
abbrev main_v44 : Ref sig .tc := ⟨.hbm, 65, rfl⟩
abbrev main_cst_13 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_14 : Ref sig .tc := ⟨.hbm, 72, rfl⟩
abbrev main_v50 : Ref sig .tc := ⟨.hbm, 73, rfl⟩
abbrev main_v51 : Ref sig .tc := ⟨.hbm, 74, rfl⟩
abbrev main_cst_15 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== KernelAdamUp.lean ====
abbrev S8x1024x512 : Shape := ⟨3, ![8, 1024, 512]⟩
abbrev S1024x512 : Shape := ⟨2, ![1024, 512]⟩
abbrev S_ : Shape := ⟨0, ![]⟩
abbrev S1 : Shape := ⟨1, ![1]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 18
  | .vmem => 18
  | .smem => 1
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S1024x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .smem, ⟨0, _⟩ => ⟨S1, .i32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_c_1 : Ref sig .tc := ⟨.hbm, 8, rfl⟩
abbrev main_c_2 : Ref sig .tc := ⟨.hbm, 9, rfl⟩
abbrev main_v1 : Ref sig .tc := ⟨.hbm, 10, rfl⟩
abbrev main_v2 : Ref sig .tc := ⟨.hbm, 11, rfl⟩
abbrev main_c_3 : Ref sig .tc := ⟨.hbm, 12, rfl⟩
abbrev main_v3 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdamUpIdeal.lean ====
abbrev S8x1024x512 : Shape := ⟨3, ![8, 1024, 512]⟩
abbrev S1024x512 : Shape := ⟨2, ![1024, 512]⟩
abbrev S1x1024x512 : Shape := ⟨3, ![1, 1024, 512]⟩
abbrev S7x1024x512 : Shape := ⟨3, ![7, 1024, 512]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S8x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1x1024x512, .bf16⟩
  | .hbm, ⟨6, _⟩ => ⟨S1024x512, .bf16⟩
  | .hbm, ⟨7, _⟩ => ⟨S1024x512, .f32⟩
  | .hbm, ⟨8, _⟩ => ⟨S7x1024x512, .bf16⟩
  | .hbm, ⟨9, _⟩ => ⟨S7x1024x512, .f32⟩
  | .hbm, ⟨10, _⟩ => ⟨S_, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S_, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S_, .f32⟩
  | .hbm, ⟨44, _⟩ => ⟨S1024x512, .f32⟩
  | .hbm, ⟨45, _⟩ => ⟨S1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== KernelAdamDown.lean ====
abbrev S8x512x1024 : Shape := ⟨3, ![8, 512, 1024]⟩
abbrev S512x1024 : Shape := ⟨2, ![512, 1024]⟩
abbrev S_ : Shape := ⟨0, ![]⟩
abbrev S1 : Shape := ⟨1, ![1]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 18
  | .vmem => 18
  | .smem => 1
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_c_1 : Ref sig .tc := ⟨.hbm, 8, rfl⟩
abbrev main_c_2 : Ref sig .tc := ⟨.hbm, 9, rfl⟩
abbrev main_v1 : Ref sig .tc := ⟨.hbm, 10, rfl⟩
abbrev main_v2 : Ref sig .tc := ⟨.hbm, 11, rfl⟩
abbrev main_c_3 : Ref sig .tc := ⟨.hbm, 12, rfl⟩
abbrev main_v3 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdamDownIdeal.lean ====
abbrev S8x512x1024 : Shape := ⟨3, ![8, 512, 1024]⟩
abbrev S512x1024 : Shape := ⟨2, ![512, 1024]⟩
abbrev S1x512x1024 : Shape := ⟨3, ![1, 512, 1024]⟩
abbrev S7x512x1024 : Shape := ⟨3, ![7, 512, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S1x512x1024, .bf16⟩
  | .hbm, ⟨6, _⟩ => ⟨S512x1024, .bf16⟩
  | .hbm, ⟨7, _⟩ => ⟨S512x1024, .f32⟩
  | .hbm, ⟨8, _⟩ => ⟨S7x512x1024, .bf16⟩
  | .hbm, ⟨9, _⟩ => ⟨S7x512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S_, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S_, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S_, .f32⟩
  | .hbm, ⟨44, _⟩ => ⟨S512x1024, .f32⟩
  | .hbm, ⟨45, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== KernelAdamOut.lean ====
abbrev S8x128x1024 : Shape := ⟨3, ![8, 128, 1024]⟩
abbrev S128x1024 : Shape := ⟨2, ![128, 1024]⟩
abbrev S_ : Shape := ⟨0, ![]⟩
abbrev S1 : Shape := ⟨1, ![1]⟩
abbrev S1x128x1024 : Shape := ⟨3, ![1, 128, 1024]⟩

abbrev nBuf : Space → Nat
  | .hbm => 18
  | .vmem => 9
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S128x1024, .f32⟩
  | .local _ .vmem, ⟨0, _⟩ => ⟨S8x128x1024, .bf16⟩
  | .local _ .vmem, ⟨1, _⟩ => ⟨S1x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_c_1 : Ref sig .tc := ⟨.hbm, 8, rfl⟩
abbrev main_c_2 : Ref sig .tc := ⟨.hbm, 9, rfl⟩
abbrev main_v1 : Ref sig .tc := ⟨.hbm, 10, rfl⟩
abbrev main_v2 : Ref sig .tc := ⟨.hbm, 11, rfl⟩
abbrev main_c_3 : Ref sig .tc := ⟨.hbm, 12, rfl⟩
abbrev main_v3 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ReferenceAdamOutIdeal.lean ====
abbrev S8x128x1024 : Shape := ⟨3, ![8, 128, 1024]⟩
abbrev S128x1024 : Shape := ⟨2, ![128, 1024]⟩
abbrev S1x128x1024 : Shape := ⟨3, ![1, 128, 1024]⟩
abbrev S7x128x1024 : Shape := ⟨3, ![7, 128, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1x128x1024, .bf16⟩
  | .hbm, ⟨6, _⟩ => ⟨S128x1024, .bf16⟩
  | .hbm, ⟨7, _⟩ => ⟨S128x1024, .f32⟩
  | .hbm, ⟨8, _⟩ => ⟨S7x128x1024, .bf16⟩
  | .hbm, ⟨9, _⟩ => ⟨S7x128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== KernelAdamIn.lean ====
abbrev S4x451x1024 : Shape := ⟨3, ![4, 451, 1024]⟩
abbrev S451x1024 : Shape := ⟨2, ![451, 1024]⟩
abbrev S_ : Shape := ⟨0, ![]⟩
abbrev S1 : Shape := ⟨1, ![1]⟩
abbrev S1x451x1024 : Shape := ⟨3, ![1, 451, 1024]⟩

abbrev nBuf : Space → Nat
  | .hbm => 12
  | .vmem => 9
  | .smem => 1
  | _ => 0

abbrev bufTy : (tb : Table) → Fin (tcTables nBuf tb) → BufTy
  | .hbm, ⟨0, _⟩ => ⟨S4x451x1024, .bf16⟩
  | .hbm, ⟨1, _⟩ => ⟨S4x451x1024, .bf16⟩
  | .hbm, ⟨2, _⟩ => ⟨S451x1024, .f32⟩
  | .hbm, ⟨3, _⟩ => ⟨S451x1024, .f32⟩
  | .hbm, ⟨4, _⟩ => ⟨S451x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S451x1024, .f32⟩
  | .hbm, ⟨9, _⟩ => ⟨S451x1024, .f32⟩
  | .hbm, ⟨10, _⟩ => ⟨S451x1024, .f32⟩
  | .hbm, ⟨11, _⟩ => ⟨S451x1024, .f32⟩
  | .local _ .vmem, ⟨0, _⟩ => ⟨S4x451x1024, .bf16⟩
  | .local _ .vmem, ⟨1, _⟩ => ⟨S1x451x1024, .bf16⟩
  | .local _ .vmem, ⟨2, _⟩ => ⟨S451x1024, .f32⟩
  | .local _ .vmem, ⟨3, _⟩ => ⟨S451x1024, .f32⟩
  | .local _ .vmem, ⟨4, _⟩ => ⟨S451x1024, .f32⟩
  | .local _ .vmem, ⟨5, _⟩ => ⟨S451x1024, .f32⟩
  | .local _ .vmem, ⟨6, _⟩ => ⟨S451x1024, .f32⟩
  | .local _ .vmem, ⟨7, _⟩ => ⟨S451x1024, .f32⟩
  | .local _ .vmem, ⟨8, _⟩ => ⟨S451x1024, .f32⟩
  | .local _ .smem, ⟨0, _⟩ => ⟨S1, .i32⟩
  | _, _ => ⟨S4x451x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x451x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x451x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S451x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S451x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S451x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S451x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S451x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S451x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S451x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== ReferenceAdamInIdeal.lean ====
abbrev S4x451x1024 : Shape := ⟨3, ![4, 451, 1024]⟩
abbrev S451x1024 : Shape := ⟨2, ![451, 1024]⟩
abbrev S1x451x1024 : Shape := ⟨3, ![1, 451, 1024]⟩
abbrev S3x451x1024 : Shape := ⟨3, ![3, 451, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4x451x1024, .bf16⟩
  | .hbm, ⟨1, _⟩ => ⟨S4x451x1024, .bf16⟩
  | .hbm, ⟨2, _⟩ => ⟨S451x1024, .f32⟩
  | .hbm, ⟨3, _⟩ => ⟨S451x1024, .f32⟩
  | .hbm, ⟨4, _⟩ => ⟨S451x1024, .f32⟩
  | .hbm, ⟨5, _⟩ => ⟨S1x451x1024, .bf16⟩
  | .hbm, ⟨6, _⟩ => ⟨S451x1024, .bf16⟩
  | .hbm, ⟨7, _⟩ => ⟨S451x1024, .f32⟩
  | .hbm, ⟨8, _⟩ => ⟨S3x451x1024, .bf16⟩
  | .hbm, ⟨9, _⟩ => ⟨S3x451x1024, .f32⟩
  | .hbm, ⟨10, _⟩ => ⟨S_, .f32⟩
  | .hbm, ⟨11, _⟩ => ⟨S451x1024, .f32⟩
  | .hbm, ⟨12, _⟩ => ⟨S451x1024, .f32⟩
  | .hbm, ⟨13, _⟩ => ⟨S_, .f32⟩
  | .hbm, ⟨14, _⟩ => ⟨S451x1024, .f32⟩
  | .hbm, ⟨15, _⟩ => ⟨S451x1024, .f32⟩
  | .hbm, ⟨16, _⟩ => ⟨S_, .f32⟩
  | .hbm, ⟨17, _⟩ => ⟨S451x1024, .f32⟩
  | .hbm, ⟨18, _⟩ => ⟨S451x1024, .f32⟩
  | .hbm, ⟨19, _⟩ => ⟨S451x1024, .f32⟩
  | .hbm, ⟨20, _⟩ => ⟨S_, .f32⟩
  | .hbm, ⟨21, _⟩ => ⟨S451x1024, .f32⟩
  | .hbm, ⟨22, _⟩ => ⟨S451x1024, .f32⟩
  | .hbm, ⟨23, _⟩ => ⟨S451x1024, .f32⟩
  | .hbm, ⟨24, _⟩ => ⟨S_, .f32⟩
  | .hbm, ⟨25, _⟩ => ⟨S451x1024, .f32⟩
  | .hbm, ⟨26, _⟩ => ⟨S451x1024, .f32⟩
  | .hbm, ⟨27, _⟩ => ⟨S451x1024, .f32⟩
  | .hbm, ⟨28, _⟩ => ⟨S_, .f32⟩
  | .hbm, ⟨29, _⟩ => ⟨S451x1024, .f32⟩
  | .hbm, ⟨30, _⟩ => ⟨S451x1024, .f32⟩
  | .hbm, ⟨31, _⟩ => ⟨S_, .f32⟩
  | .hbm, ⟨32, _⟩ => ⟨S451x1024, .f32⟩
  | .hbm, ⟨33, _⟩ => ⟨S451x1024, .f32⟩
  | .hbm, ⟨34, _⟩ => ⟨S451x1024, .f32⟩
  | .hbm, ⟨35, _⟩ => ⟨S_, .f32⟩
  | .hbm, ⟨36, _⟩ => ⟨S451x1024, .f32⟩
  | .hbm, ⟨37, _⟩ => ⟨S451x1024, .f32⟩
  | .hbm, ⟨38, _⟩ => ⟨S451x1024, .f32⟩
  | .hbm, ⟨39, _⟩ => ⟨S_, .f32⟩
  | .hbm, ⟨40, _⟩ => ⟨S451x1024, .f32⟩
  | .hbm, ⟨41, _⟩ => ⟨S451x1024, .f32⟩
  | .hbm, ⟨42, _⟩ => ⟨S451x1024, .f32⟩
  | .hbm, ⟨43, _⟩ => ⟨S_, .f32⟩
  | .hbm, ⟨44, _⟩ => ⟨S451x1024, .f32⟩
  | .hbm, ⟨45, _⟩ => ⟨S451x1024, .f32⟩
  | _, _ => ⟨S4x451x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Proof.FoxArr.lean ====
/- Vector operations over the extended reals read as operations on arrays indexed by pairs of naturals: each rule says which array
   the result is when the operands are given arrays. -/
module

public import Idealize.ShloMosaic.Lib.Updates.Memory
public import Idealize.ShloMosaic.Lib.Updates.Values
public import Idealize.ShloMosaic.Lib.Pointwise

@[expose] public section

noncomputable section

namespace Cert.Fox

open Idealize.ShloMosaic Idealize.ShloMosaic.Updates
open Idealize.ShloMosaic.LaneScatter (Blk)

variable {R C K M N : ℕ} {φ ψ : FTy}

local notation "𝔼" => EReal

theorem arr_addf {x y : FVec Ideal (Blk R C) φ} {A B : Arr EReal} (hx : IsArr x A) (hy : IsArr y B) :
    IsArr (β := EReal) (addf x y) (fun p => A p + B p) := fun ι => congrArg₂ (· + · : EReal → EReal → EReal) (hx ι) (hy ι)

theorem arr_subf {x y : FVec Ideal (Blk R C) φ} {A B : Arr EReal} (hx : IsArr x A) (hy : IsArr y B) :
    IsArr (β := EReal) (subf x y) (fun p => A p - B p) := fun ι => congrArg₂ (· - · : EReal → EReal → EReal) (hx ι) (hy ι)

theorem arr_mulf {x y : FVec Ideal (Blk R C) φ} {A B : Arr EReal} (hx : IsArr x A) (hy : IsArr y B) :
    IsArr (β := EReal) (mulf x y) (fun p => A p * B p) := fun ι => congrArg₂ (· * · : EReal → EReal → EReal) (hx ι) (hy ι)

theorem arr_exp {x : FVec Ideal (Blk R C) φ} {A : Arr EReal} (hx : IsArr x A) :
    IsArr (β := EReal) (exp x) (fun p => Ideal.exp (A p)) := fun ι => congrArg Ideal.exp (hx ι)

theorem arr_truncf {x : FVec Ideal (Blk R C) φ} {A : Arr EReal} (hx : IsArr x A) (h : ψ.bits < φ.bits) :
    IsArr (β := EReal) (truncf ψ x h) A := fun ι => hx ι

theorem arr_select {β : Type} {c : IVec (Blk R C) 1} {x y : (Blk R C).Idx → β} {Cc : Arr (BitVec 1)} {A B : Arr β}
    (hc : IsArr c Cc) (hx : IsArr x A) (hy : IsArr y B) :
    IsArr (select c x y) (fun p => Scalar.select (Cc p) (A p) (B p)) := fun ι => by
  show Scalar.select (c ι) (x ι) (y ι) = _
  rw [hc, hx, hy]

theorem arr_cmpi {w : ℕ} (P : CmpIPredicate) {x y : IVec (Blk R C) w} {A B : Arr (BitVec w)} (hx : IsArr x A) (hy : IsArr y B) :
    IsArr (cmpi P x y) (fun p => IntOp.cmpi P (A p) (B p)) := fun ι => congrArg₂ (IntOp.cmpi P) (hx ι) (hy ι)

theorem arr_bc_row {β : Type} {x : (Blk 1 C).Idx → β} {A : Arr β} (hx : IsArr x A) (h : (Blk 1 C).Broadcasts (Blk R C)) :
    IsArr (broadcastTo (Blk R C) x h) (fun p => A (0, p.2)) := fun ι => by
  unfold broadcastTo
  rw [hx]
  refine congrArg A (Prod.ext ?_ ?_)
  · simp
  · dsimp only
    split
    · rename_i h1
      have h2 : (ι 1).val < C := (ι 1).isLt
      have h3 : C = 1 := h1
      show (0 : ℕ) = (ι 1).val
      omega
    · rfl

theorem arr_bc_col {β : Type} {x : (Blk R 1).Idx → β} {A : Arr β} (hx : IsArr x A) (h : (Blk R 1).Broadcasts (Blk R C)) :
    IsArr (broadcastTo (Blk R C) x h) (fun p => A (p.1, 0)) := fun ι => by
  unfold broadcastTo
  rw [hx]
  refine congrArg A (Prod.ext ?_ ?_)
  · dsimp only
    split
    · rename_i h1
      have h2 : (ι 0).val < R := (ι 0).isLt
      have h3 : R = 1 := h1
      show (0 : ℕ) = (ι 0).val
      omega
    · rfl
  · simp

theorem arr_bc_self {β : Type} {x : (Blk R C).Idx → β} {A : Arr β} (hx : IsArr x A) (h : (Blk R C).Broadcasts (Blk R C)) :
    IsArr (broadcastTo (Blk R C) x h) A := fun ι => by
  unfold broadcastTo
  rw [hx]
  refine congrArg A (Prod.ext ?_ ?_)
  · dsimp only
    split
    · rename_i h1
      have h2 : (ι 0).val < R := (ι 0).isLt
      have h3 : R = 1 := h1
      show (0 : ℕ) = (ι 0).val
      omega
    · rfl
  · dsimp only
    split
    · rename_i h1
      have h2 : (ι 1).val < C := (ι 1).isLt
      have h3 : C = 1 := h1
      show (0 : ℕ) = (ι 1).val
      omega
    · rfl

theorem arr_slice {β : Type} {a b : ℕ} {x : (Blk R C).Idx → β} {A : Arr β} (hx : IsArr x A) (h : (Blk R C).Slices ![a, b] (Blk M N)) :
    IsArr (extractStridedSlice (Blk M N) ![a, b] x h) (fun p => A (a + p.1, b + p.2)) := fun ι => by
  unfold extractStridedSlice
  rw [hx]
  rfl

/-- A value chosen by a proposition. -/
def sel (P : Prop) (a b : EReal) : EReal := by
  classical exact if P then a else b

theorem sel_pos {P : Prop} (h : P) (a b : EReal) : sel P a b = a := by unfold sel; exact if_pos h
theorem sel_neg {P : Prop} (h : ¬ P) (a b : EReal) : sel P a b = b := by unfold sel; exact if_neg h

theorem arr_cat {x y : FVec Ideal (Blk R C) φ} {A B : Arr EReal} (hx : IsArr x A) (hy : IsArr y B)
    (h : Shape.Concatenates [Blk R C, Blk R C] (Blk M C) 0) :
    IsArr (β := EReal) (concatenate (Blk M C) 0 [⟨Blk R C, x⟩, ⟨Blk R C, y⟩] h) (fun p => sel (p.1 < R) (A p) (B (p.1 - R, p.2))) := fun ι => by
  have hM : M = R + R := by
    have := h.2.2
    simp at this
    omega
  subst hM
  rw [concatenate_pair_apply]
  split
  · rename_i h1
    have h1' : (ι 0).val < R := h1
    rw [hx]
    dsimp only
    rw [sel_pos h1']
    rfl
  · rename_i h1
    have h1' : ¬ (ι 0).val < R := h1
    rw [hy]
    dsimp only
    rw [sel_neg h1']
    rfl

theorem arr_rowsum {x : FVec Ideal (Blk R C) .f32} {A : Arr EReal} (hx : IsArr x A) (h) (h1) (h2) (h3) :
    IsArr (β := EReal) (shapeCast (Blk R 1) (multiReduction (F := Ideal) .add [1] ⟨1, ![R]⟩ x 0x00000000#32 h h1 h2) h3)
      (fun p => ∑ k ∈ Finset.range C, A (p.1, k)) := fun ι => by
  dsimp only
  rw [Finset.sum_range]
  pointwise
  have hj : (Shape.reshapeEquiv h3) ι = (fun a => ⟨(ι 0).val, by obtain rfl : a = 0 := Subsingleton.elim _ _; exact (ι 0).isLt⟩ : (⟨1, ![R]⟩ : Shape).Idx) := by
    refine Shape.reshapeEquiv_eq_of_vals _ _ _ _ _ (rowMajor_val1 _) (rowMajor_val2 ι 1 rfl) ?_
    have : (ι 1).val < 1 := (ι 1).isLt
    simp only
    omega
  rw [hj]
  exact Finset.sum_congr rfl fun k _ => hx _

theorem arr_colsum {x : FVec Ideal (Blk R C) .f32} {A : Arr EReal} (hx : IsArr x A) (h) (h1) (h2) (h3) :
    IsArr (β := EReal) (shapeCast (Blk 1 C) (multiReduction (F := Ideal) .add [0] ⟨1, ![C]⟩ x 0x00000000#32 h h1 h2) h3)
      (fun p => ∑ k ∈ Finset.range R, A (k, p.2)) := fun ι => by
  dsimp only
  rw [Finset.sum_range]
  pointwise
  have hj : (Shape.reshapeEquiv h3) ι = (fun a => ⟨(ι 1).val, by obtain rfl : a = 0 := Subsingleton.elim _ _; exact (ι 1).isLt⟩ : (⟨1, ![C]⟩ : Shape).Idx) := by
    refine Shape.reshapeEquiv_eq_of_vals _ _ _ _ _ (rowMajor_val1 _) (rowMajor_val2 ι C rfl) ?_
    have : (ι 0).val < 1 := (ι 0).isLt
    have h0 : (ι 0).val = 0 := by omega
    simp only [h0, zero_mul, zero_add]
  rw [hj]
  exact Finset.sum_congr rfl fun k _ => hx _

theorem arr_nt {d : DotDims (Blk M K) (Blk N K) (Blk M N)} {x : FVec Ideal (Blk M K) .bf16} {y : FVec Ideal (Blk N K) .bf16} {A B : Arr EReal}
    (hx : IsArr x A) (hy : IsArr y B) (hd : d = DotDims.transposedRhs M K N) :
    IsArr (β := EReal) (matmul (F := Ideal) d none x y (constant (Blk M N) .f32 0x00000000#32)) (fun p => ∑ k ∈ Finset.range K, A (p.1, k) * B (p.2, k)) := fun ι => by
  subst hd
  dsimp only
  rw [Finset.sum_range]
  show Ideal.matmul (DotDims.transposedRhs M K N) x y _ ι = _
  rw [Ideal.matmul_apply₁ _ rfl rfl]
  have h0 : (constant (F := Ideal) (Blk M N) .f32 0x00000000#32) ι = (0 : EReal) := by pointwise
  refine (congrArg (· + _) h0).trans ((zero_add _).trans (Finset.sum_congr rfl fun k _ => ?_))
  rw [hx, hy]
  rfl

theorem arr_nn {d : DotDims (Blk M K) (Blk K N) (Blk M N)} {x : FVec Ideal (Blk M K) .bf16} {y : FVec Ideal (Blk K N) .bf16} {A B : Arr EReal}
    (hx : IsArr x A) (hy : IsArr y B) (hd : d = DotDims.plain M K N) :
    IsArr (β := EReal) (matmul (F := Ideal) d none x y (constant (Blk M N) .f32 0x00000000#32)) (fun p => ∑ k ∈ Finset.range K, A (p.1, k) * B (k, p.2)) := fun ι => by
  subst hd
  dsimp only
  rw [Finset.sum_range]
  show Ideal.matmul (DotDims.plain M K N) x y _ ι = _
  rw [Ideal.matmul_apply₁ _ rfl rfl]
  have h0 : (constant (F := Ideal) (Blk M N) .f32 0x00000000#32) ι = (0 : EReal) := by pointwise
  refine (congrArg (· + _) h0).trans ((zero_add _).trans (Finset.sum_congr rfl fun k _ => ?_))
  rw [hx, hy]
  rfl

/-- The dimension numbers of a product with the left operand turned. -/
abbrev TransLhs (d : DotDims (Blk K M) (Blk K N) (Blk M N)) : Prop :=
  d.lhsContracting = [0] ∧ d.rhsContracting = [0] ∧ d.lhsNonContracting = [1] ∧ d.rhsNonContracting = [1] ∧ d.lhsBatch = [] ∧ d.rhsBatch = []

theorem arr_tn {d : DotDims (Blk K M) (Blk K N) (Blk M N)} {x : FVec Ideal (Blk K M) .bf16} {y : FVec Ideal (Blk K N) .bf16} {A B : Arr EReal}
    (hx : IsArr x A) (hy : IsArr y B) (hd : TransLhs d) :
    IsArr (β := EReal) (matmul (F := Ideal) d none x y (constant (Blk M N) .f32 0x00000000#32)) (fun p => ∑ k ∈ Finset.range K, A (k, p.1) * B (k, p.2)) := fun ι => by
  obtain ⟨lc, rc, lnc, rnc, lb, rb, wf⟩ := d
  obtain ⟨h1, h2, h3, h4, h5, h6⟩ := hd
  dsimp only at h1 h2 h3 h4 h5 h6
  subst h1 h2 h3 h4 h5 h6
  dsimp only
  rw [Finset.sum_range]
  show Ideal.matmul ⟨[0], [0], [1], [1], [], [], wf⟩ x y _ ι = _
  rw [Ideal.matmul_apply₁ _ rfl rfl]
  have h0 : (constant (F := Ideal) (Blk M N) .f32 0x00000000#32) ι = (0 : EReal) := by pointwise
  refine (congrArg (· + _) h0).trans ((zero_add _).trans (Finset.sum_congr rfl fun k _ => ?_))
  rw [hx, hy]
  rfl

/-- The mask of the places at which `P` holds. -/
def IsMsk (m : IVec (Blk R C) 1) (P : ℕ × ℕ → Prop) : Prop :=
  ∀ ι : (Blk R C).Idx, m ι = 1 ↔ P ((ι 0).val, (ι 1).val)

theorem arr_sel {m : IVec (Blk R C) 1} {P : ℕ × ℕ → Prop} {x y : FVec Ideal (Blk R C) φ} {A B : Arr EReal} (hm : IsMsk m P)
    (hx : IsArr x A) (hy : IsArr y B) : IsArr (β := EReal) (select m x y) (fun p => sel (P p) (A p) (B p)) := fun ι => by
  show Scalar.select (m ι) (x ι) (y ι) = _
  unfold Scalar.select
  dsimp only
  by_cases h : m ι = 1
  · rw [if_pos h, sel_pos ((hm ι).1 h), hx]
  · rw [if_neg h, sel_neg (fun h' => h ((hm ι).2 h')), hy]

theorem msk_cast {m : IVec (Blk R C) 1} {P : ℕ × ℕ → Prop} (hm : IsMsk m P) (h : (Blk R C).ShapeCasts (Blk R C)) :
    IsMsk (shapeCast (Blk R C) m h) P := by rw [shapeCast_self]; exact hm

theorem msk_row {m : IVec (Blk 1 C) 1} {P : ℕ × ℕ → Prop} (hm : IsMsk m P) (h : (Blk 1 C).Broadcasts (Blk R C)) :
    IsMsk (broadcastTo (Blk R C) m h) (fun p => P (0, p.2)) := fun ι => by
  have hA : IsArr m (fun p => if hp : p.1 < 1 ∧ p.2 < C then m (fun a => match a with | 0 => ⟨p.1, hp.1⟩ | 1 => ⟨p.2, hp.2⟩) else 0) := fun ι' => by
    dsimp only
    rw [dif_pos ⟨(ι' 0).isLt, (ι' 1).isLt⟩]
    congr 1
    funext a
    fin_cases a <;> rfl
  rw [arr_bc_row hA h ι]
  dsimp only
  rw [dif_pos ⟨Nat.one_pos, (ι 1).isLt⟩, hm]
  rfl

theorem msk_col {m : IVec (Blk R 1) 1} {P : ℕ × ℕ → Prop} (hm : IsMsk m P) (h : (Blk R 1).Broadcasts (Blk R C)) :
    IsMsk (broadcastTo (Blk R C) m h) (fun p => P (p.1, 0)) := fun ι => by
  have hA : IsArr m (fun p => if hp : p.1 < R ∧ p.2 < 1 then m (fun a => match a with | 0 => ⟨p.1, hp.1⟩ | 1 => ⟨p.2, hp.2⟩) else 0) := fun ι' => by
    dsimp only
    rw [dif_pos ⟨(ι' 0).isLt, (ι' 1).isLt⟩]
    congr 1
    funext a
    fin_cases a <;> rfl
  rw [arr_bc_col hA h ι]
  dsimp only
  rw [dif_pos ⟨(ι 0).isLt, Nat.one_pos⟩, hm]
  rfl

theorem toInt_small {a : ℕ} (ha : a < 2 ^ 31) : (BitVec.ofNat 32 a).toInt = (a : ℤ) := by
  rw [BitVec.toInt_ofNat']
  have : (a : ℤ) < 2 ^ 31 := by exact_mod_cast ha
  rw [Int.bmod_def]
  norm_num
  omega

/-- The remainder of a row number by 256, as the vector operations compute it. -/
def remRow (r : BitVec 32) : BitVec 32 :=
  let m : BitVec 32 := IntOp.remsi .vector r (Scalar.select (Scalar.cmpi CmpIPredicate.eq 256#32 0#32) 1#32 256#32)
  Scalar.select (IntOp.andi (IntOp.xori (IntOp.cmpi .slt m 0#32) (Scalar.cmpi CmpIPredicate.slt 256#32 0#32)) (IntOp.cmpi .ne m 0#32)) (IntOp.addi m 256#32) m

set_option maxRecDepth 100000 in
theorem remRow_eq : ∀ r : Fin 512, remRow (BitVec.ofNat 32 r.val) = BitVec.ofNat 32 (r.val % 256) := by decide +kernel

theorem slt_small {a b : ℕ} (ha : a < 2 ^ 31) (hb : b < 2 ^ 31) :
    IntOp.cmpi .slt (BitVec.ofNat 32 a) (BitVec.ofNat 32 b) = 1 ↔ a < b := by
  show BitVec.ofBool ((BitVec.ofNat 32 a).slt (BitVec.ofNat 32 b)) = 1 ↔ _
  rw [BitVec.slt, toInt_small ha, toInt_small hb]
  by_cases h : a < b <;> simp [h]

theorem sle_small {a b : ℕ} (ha : a < 2 ^ 31) (hb : b < 2 ^ 31) :
    IntOp.cmpi .sle (BitVec.ofNat 32 a) (BitVec.ofNat 32 b) = 1 ↔ a ≤ b := by
  show BitVec.ofBool ((BitVec.ofNat 32 a).sle (BitVec.ofNat 32 b)) = 1 ↔ _
  rw [BitVec.sle, toInt_small ha, toInt_small hb]
  by_cases h : a ≤ b <;> simp [h]

theorem eq_small {a b : ℕ} (ha : a < 2 ^ 31) (hb : b < 2 ^ 31) :
    IntOp.cmpi .eq (BitVec.ofNat 32 a) (BitVec.ofNat 32 b) = 1 ↔ a = b := by
  show BitVec.ofBool (BitVec.ofNat 32 a == BitVec.ofNat 32 b) = 1 ↔ _
  have h : BitVec.ofNat 32 a = BitVec.ofNat 32 b ↔ a = b :=
    ⟨fun h => by have := congrArg BitVec.toNat h; simp only [BitVec.toNat_ofNat] at this; omega, fun h => by rw [h]⟩
  rw [← h]
  by_cases h' : BitVec.ofNat 32 a = BitVec.ofNat 32 b
  · simp [h']
  · have hb : (BitVec.ofNat 32 a == BitVec.ofNat 32 b) = false := beq_eq_false_iff_ne.2 h'
    rw [hb]
    refine ⟨fun h => absurd h (by decide), fun h => absurd h h'⟩

theorem msk_first (hi) : IsMsk (cmpi .slt (iota .tc (Blk 1 128) 32 [1] hi) (broadcast (Blk 1 128) 64#32)) (fun p => p.2 < 64) := fun ι => by
  show IntOp.cmpi _ (iota .tc (Blk 1 128) 32 [1] hi ι) 64#32 = 1 ↔ _
  rw [isArr_iota_lanes hi ι]
  have : (ι 1).val < 128 := (ι 1).isLt
  exact slt_small (by omega) (by omega)

theorem msk_upper (hi) : IsMsk (cmpi .slt (iota .tc (Blk 512 1) 32 [0] hi) (broadcast (Blk 512 1) 256#32)) (fun p => p.1 < 256) := fun ι => by
  show IntOp.cmpi _ (iota .tc (Blk 512 1) 32 [0] hi ι) 256#32 = 1 ↔ _
  rw [isArr_iota_rows hi ι]
  have : (ι 0).val < 512 := (ι 0).isLt
  exact slt_small (by omega) (by omega)

theorem msk_causal (hi) (hj) (hb) : IsMsk (R := 512) (C := 256)
    (cmpi CmpIPredicate.sle (iota Kind.tc (Blk 512 256) 32 [1] hi)
      (select
        (andi
          (xori
            (cmpi CmpIPredicate.slt
              (remsi (iota Kind.tc (Blk 512 256) 32 [0] hj)
                (broadcast (Blk 512 256) (Scalar.select (Scalar.cmpi CmpIPredicate.eq 256#32 0#32) 1#32 256#32)))
              (broadcast (Blk 512 256) 0#32))
            (broadcastTo (Blk 512 256) (broadcast (Blk 512 256) (Scalar.cmpi CmpIPredicate.slt 256#32 0#32)) hb))
          (cmpi CmpIPredicate.ne
            (remsi (iota Kind.tc (Blk 512 256) 32 [0] hj)
              (broadcast (Blk 512 256) (Scalar.select (Scalar.cmpi CmpIPredicate.eq 256#32 0#32) 1#32 256#32)))
            (broadcast (Blk 512 256) 0#32)))
        (addi
          (remsi (iota Kind.tc (Blk 512 256) 32 [0] hj)
            (broadcast (Blk 512 256) (Scalar.select (Scalar.cmpi CmpIPredicate.eq 256#32 0#32) 1#32 256#32)))
          (broadcast (Blk 512 256) 256#32))
        (remsi (iota Kind.tc (Blk 512 256) 32 [0] hj)
          (broadcast (Blk 512 256) (Scalar.select (Scalar.cmpi CmpIPredicate.eq 256#32 0#32) 1#32 256#32)))))
    (fun p => p.2 ≤ p.1 % 256) := fun ι => by
  show IntOp.cmpi .sle (iota .tc (Blk 512 256) 32 [1] hi ι) (remRow (iota .tc (Blk 512 256) 32 [0] hj ι)) = 1 ↔ _
  rw [isArr_iota_lanes hi ι, isArr_iota_rows hj ι]
  have h1 : (ι 0).val < 512 := (ι 0).isLt
  have h2 : (ι 1).val < 256 := (ι 1).isLt
  rw [show remRow (BitVec.ofNat 32 (ι 0).val) = BitVec.ofNat 32 ((ι 0).val % 256) from remRow_eq ⟨(ι 0).val, h1⟩]
  exact sle_small (by omega) (by omega)

theorem arr_in {sig : RefSig} {κ : Kind} {R C : ℕ} {arg : Memref sig κ .vmem (Blk R C) .f32} (harg : arg.IsWhole)
    {x : Vec Ideal (Blk R C) .f32} {A : Arr EReal} (hx : IsArr (β := EReal) x A) {a b h w : ℕ} (inb) :
    IsArr (β := EReal) (View.readAt (Elt Ideal) arg.view (Rect.unit (s := Blk R C) ![a, b] ![h, w] inb).toLoadRect (harg.unread x)) (fun p => A (a + p.1, b + p.2)) := by
  refine isArr_load (Val := Elt Ideal) (e := .f32) (h := h) (w := w) (o := (a, b)) (A := A) ?_ rfl inb
  rw [harg.read_unread]
  exact hx

end Cert.Fox

end
-- ==== Proof.FoxRuns.lean ====
/- What the runs of the kernel's body share: the arrays at the region's entry, each window's block at a grid point, the condition
   that tells the first grid point from the later ones, and the staging and scratch buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Fox

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c))),
      ((h c).1 6).trans (((dats 0 c).arrAt_in 6 rfl _).trans ((hA c 6).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 4 = 0 :=
  (fun t => by
    have ht : t.val < 4 := Nat.lt_of_lt_of_eq t.isLt N_0
    have e0 : (grid0.coords t 0).val = t.val / 1 % 4 := Pipeline.Grid.coords_val t 0 (by decide) rfl
    simp only [cond0_0, e0]
    word_cmp
   : ∀ t : Fin grid0.N, cond0_0 (grid0.coords t) ↔ t.val % 4 = 0)

/-! ## The kernel body on any staging memrefs: a subtype the run finds -/

/-- One staging buffer of output window 7, through which its contents are stated (`View.read_writes_of_cover`: the
    choice does not matter). -/
abbrev VO0_7 : View sig .tc .vmem S2048x384 .bf16 := (Memref.whole cc0_stg7_0 : Memref sig .tc .vmem S2048x384 .bf16).view
/-- One staging buffer of output window 8, through which its contents are stated (`View.read_writes_of_cover`: the
    choice does not matter). -/
abbrev VO0_8 : View sig .tc .vmem S2048x128 .f32 := (Memref.whole cc0_stg8_0 : Memref sig .tc .vmem S2048x128 .f32).view
/-- One staging buffer of output window 9, through which its contents are stated (`View.read_writes_of_cover`: the
    choice does not matter). -/
abbrev VO0_9 : View sig .tc .vmem S128x2048 .f32 := (Memref.whole cc0_stg9_0 : Memref sig .tc .vmem S128x2048 .f32).view
/-- Each window's current staging memref at point `t`, spelled as the pipeline passes it (`bodyAt0`), and its wholeness. -/
abbrev ms0_0 (t : Fin cfg0.N) : Memref sig .tc .vmem S2048x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2048x384 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S128x2048 .f32 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S2048x128 .f32 := Memref.whole cc0_scratch0
abbrev scM0_1 : Memref sig .tc .vmem S2048x128 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Fox

end
-- ==== Proof.FoxTile.lean ====
/- The quantities of one block of query rows, as arrays over stacked rows: rows 0..255 are the first head of the pair, rows 256..511 the second. -/
module

public import proofs.«01_k».proof.Proof.FoxArr
public import proofs.«01_k».proof.Proof.FoxRuns

@[expose] public section

noncomputable section

namespace Cert.Fox

open Cert.KernelIdeal Cert.KernelIdeal.Gen Idealize.ShloMosaic Idealize.ShloMosaic.Updates
open Idealize.ShloMosaic.LaneScatter (Blk)

variable (Q K V Cm Ls Ob Do : Arr EReal) (j n : ℕ)

abbrev MemB := Memref sig .tc .vmem S2048x128 .f32

abbrev MemT := Memref sig .tc .vmem S128x2048 .f32

abbrev VecB := Vec Ideal S2048x128 .f32

/-- The arrays of the seven inputs. -/
abbrev Ins (x0 x1 x2 : VecB) (x3 : Vec Ideal S128x2048 .f32) (x4 x5 x6 : VecB) (Q K V Cm Ls Ob Do : Arr EReal) : Prop :=
  IsArr x0 Q ∧ IsArr x1 K ∧ IsArr x2 V ∧ IsArr x3 Cm ∧ IsArr x4 Ls ∧ IsArr x5 Ob ∧ IsArr x6 Do

/-- The stores `L` leave the array `A`, whatever they are written into. -/
abbrev LeavesB (L : List (View.Piece (Elt Ideal) S2048x128 .f32)) (A : Arr EReal) : Prop :=
  ∀ (v : View sig .tc .vmem S2048x128 .f32) (f : v.ty.Contents (Elt Ideal)), IsArr (R := 2048) (C := 128) (β := EReal) (v.read (Elt Ideal) (v.writes (Elt Ideal) f L)) A

/-- The stores `L` leave the array `A`, whatever they are written into. -/
abbrev LeavesT (L : List (View.Piece (Elt Ideal) S128x2048 .f32)) (A : Arr EReal) : Prop :=
  ∀ (v : View sig .tc .vmem S128x2048 .f32) (f : v.ty.Contents (Elt Ideal)), IsArr (R := 128) (C := 2048) (β := EReal) (v.read (Elt Ideal) (v.writes (Elt Ideal) f L)) A

/-- One eighth, the scale of the products of queries and keys. -/
def c8 : EReal := ((1 / 8 : ℝ) : EReal)

/-- The scaled queries of block `n`, each head alone in its rows. -/
def tq (p : ℕ × ℕ) : EReal :=
  sel (p.1 < 256) (sel (p.2 < 64) (Q (256 * n + p.1, p.2) * c8) 0) (sel (p.2 < 64) 0 (Q (256 * n + (p.1 - 256), p.2) * c8))

/-- The cotangents of block `n`, each head alone in its rows. -/
def tdo (p : ℕ × ℕ) : EReal :=
  sel (p.1 < 256) (sel (p.2 < 64) (Do (256 * n + p.1, p.2)) 0) (sel (p.2 < 64) 0 (Do (256 * n + (p.1 - 256), p.2)))

/-- The sum of output times cotangent of each stacked row. -/
def tdelta (r : ℕ) : EReal :=
  sel (r < 256) (∑ k ∈ Finset.range 128, sel (k < 64) (Do (256 * n + r, k) * Ob (256 * n + r, k)) 0)
    (∑ k ∈ Finset.range 128, sel (k < 64) 0 (Do (256 * n + (r - 256), k) * Ob (256 * n + (r - 256), k)))

/-- The saved logarithm of each stacked row's sum. -/
def tlse (r : ℕ) : EReal := sel (r < 256) (Ls (256 * n + r, 0)) (Ls (256 * n + (r - 256), 64))

/-- The logits before the mask. -/
def tS (p : ℕ × ℕ) : EReal :=
  (∑ d ∈ Finset.range 128, tq Q n (p.1, d) * K (p.2, d)) - sel (p.1 < 256) (Cm (2 * j, p.2)) (Cm (2 * j + 1, p.2))

/-- The weights. -/
def tP (p : ℕ × ℕ) : EReal := Ideal.exp (sel (p.2 ≤ 256 * n + p.1 % 256) (tS Q K Cm j n p) ⊥ - tlse Ls n p.1)

/-- The gradients of the logits. -/
def tD (p : ℕ × ℕ) : EReal :=
  tP Q K Cm Ls j n p * ((∑ d ∈ Finset.range 128, tdo Do n (p.1, d) * V (p.2, d)) - tdelta Ob Do n p.1)

/-- What block `n` adds to the key gradient. -/
def tdk (p : ℕ × ℕ) : EReal := ∑ r ∈ Finset.range 512, tD Q K V Cm Ls Ob Do j n (r, p.1) * tq Q n (r, p.2)

/-- What block `n` adds to the value gradient. -/
def tdv (p : ℕ × ℕ) : EReal := ∑ r ∈ Finset.range 512, tP Q K Cm Ls j n (r, p.1) * tdo Do n (r, p.2)

/-- What block `n` adds to the first head's key bias gradient. -/
def tc0 (s : ℕ) : EReal := ∑ r ∈ Finset.range 256, tD Q K V Cm Ls Ob Do j n (r, s)

/-- What block `n` adds to the second head's key bias gradient. -/
def tc1 (s : ℕ) : EReal := ∑ r ∈ Finset.range 256, tD Q K V Cm Ls Ob Do j n (256 + r, s)

/-- The sums of each stacked row's logit gradients over the first `256 (n + 1)` keys. -/
def trow (r : ℕ) : EReal := ∑ s ∈ Finset.range (256 * (n + 1)), tD Q K V Cm Ls Ob Do j n (r, s)

/-- The unscaled query gradients of block `n`, stacked. -/
def tdq2 (p : ℕ × ℕ) : EReal := ∑ s ∈ Finset.range (256 * (n + 1)), tD Q K V Cm Ls Ob Do j n (p.1, s) * K (s, p.2)

/-- The query gradients of block `n`. -/
def tdq (p : ℕ × ℕ) : EReal :=
  sel (p.2 < 64) (tdq2 Q K V Cm Ls Ob Do j n p) (tdq2 Q K V Cm Ls Ob Do j n (256 + p.1, p.2)) * c8

theorem arr_zero {R C : ℕ} : IsArr (β := EReal) (broadcast (Blk R C) (FloatOps.ofBits (F := Ideal) FTy.f32 0#32)) (fun _ => 0) := fun ι => by
  show Ideal.ofBits .f32 0#32 = (0 : EReal)
  pointwise

theorem arr_const0 {R C : ℕ} : IsArr (β := EReal) (constant (F := Ideal) (Blk R C) FTy.f32 0#32) (fun _ => 0) := fun ι => by
  pointwise

theorem arr_c8 {R C : ℕ} : IsArr (β := EReal) (broadcast (Blk R C) (FloatOps.ofBits (F := Ideal) FTy.f32 1040187392#32)) (fun _ => c8) := fun ι => by
  show Ideal.ofBits .f32 1040187392#32 = c8
  unfold c8
  simp [Ideal.ofBits, Ideal.ieee, -EReal.coe_mul]
  norm_num

theorem arr_mask {R C : ℕ} : IsArr (β := EReal) (broadcast (Blk R C) (Named.named (F := Ideal) κ "mask" (φ := .f32) 4048155338#32)) (fun _ => ⊥) := fun ι => rfl

theorem row0 : ∀ v : Fin 4, (Scalar.indexCast (Scalar.muli 2#32 (BitVec.ofNat 32 v.val)) : Index).toNat = 2 * v.val := by decide

theorem row1 : ∀ v : Fin 4, (Scalar.indexCast (Scalar.addi (Scalar.muli 2#32 (BitVec.ofNat 32 v.val)) 1#32) : Index).toNat = 2 * v.val + 1 := by decide

theorem off1 (i : grid0.Coords) : k0_off1 i = ![2 * (i 0).val, 0] := congrArg (fun t => ![t, 0]) (row0 (i 0))
theorem off2 (i : grid0.Coords) : k0_off2 i = ![2 * (i 0).val + 1, 0] := congrArg (fun t => ![t, 0]) (row1 (i 0))
theorem off3 (i : grid0.Coords) : k0_off3 i = ![2 * (i 0).val, 0] := congrArg (fun t => ![t, 0]) (row0 (i 0))
theorem off4 (i : grid0.Coords) : k0_off4 i = ![2 * (i 0).val + 1, 0] := congrArg (fun t => ![t, 0]) (row1 (i 0))
theorem off5 (i : grid0.Coords) : k0_off5 i = ![2 * (i 0).val, 256] := congrArg (fun t => ![t, 256]) (row0 (i 0))
theorem off6 (i : grid0.Coords) : k0_off6 i = ![2 * (i 0).val + 1, 256] := congrArg (fun t => ![t, 256]) (row1 (i 0))
theorem off7 (i : grid0.Coords) : k0_off7 i = ![2 * (i 0).val, 0] := congrArg (fun t => ![t, 0]) (row0 (i 0))
theorem off8 (i : grid0.Coords) : k0_off8 i = ![2 * (i 0).val + 1, 0] := congrArg (fun t => ![t, 0]) (row1 (i 0))
theorem off9 (i : grid0.Coords) : k0_off9 i = ![2 * (i 0).val, 512] := congrArg (fun t => ![t, 512]) (row0 (i 0))
theorem off10 (i : grid0.Coords) : k0_off10 i = ![2 * (i 0).val + 1, 512] := congrArg (fun t => ![t, 512]) (row1 (i 0))
theorem off11 (i : grid0.Coords) : k0_off11 i = ![2 * (i 0).val, 0] := congrArg (fun t => ![t, 0]) (row0 (i 0))
theorem off12 (i : grid0.Coords) : k0_off12 i = ![2 * (i 0).val + 1, 0] := congrArg (fun t => ![t, 0]) (row1 (i 0))
theorem off13 (i : grid0.Coords) : k0_off13 i = ![2 * (i 0).val, 768] := congrArg (fun t => ![t, 768]) (row0 (i 0))
theorem off14 (i : grid0.Coords) : k0_off14 i = ![2 * (i 0).val + 1, 768] := congrArg (fun t => ![t, 768]) (row1 (i 0))
theorem off15 (i : grid0.Coords) : k0_off15 i = ![2 * (i 0).val, 0] := congrArg (fun t => ![t, 0]) (row0 (i 0))
theorem off16 (i : grid0.Coords) : k0_off16 i = ![2 * (i 0).val + 1, 0] := congrArg (fun t => ![t, 0]) (row1 (i 0))
theorem off17 (i : grid0.Coords) : k0_off17 i = ![2 * (i 0).val, 1024] := congrArg (fun t => ![t, 1024]) (row0 (i 0))
theorem off18 (i : grid0.Coords) : k0_off18 i = ![2 * (i 0).val + 1, 1024] := congrArg (fun t => ![t, 1024]) (row1 (i 0))
theorem off19 (i : grid0.Coords) : k0_off19 i = ![2 * (i 0).val, 0] := congrArg (fun t => ![t, 0]) (row0 (i 0))
theorem off20 (i : grid0.Coords) : k0_off20 i = ![2 * (i 0).val + 1, 0] := congrArg (fun t => ![t, 0]) (row1 (i 0))
theorem off21 (i : grid0.Coords) : k0_off21 i = ![2 * (i 0).val, 1280] := congrArg (fun t => ![t, 1280]) (row0 (i 0))
theorem off22 (i : grid0.Coords) : k0_off22 i = ![2 * (i 0).val + 1, 1280] := congrArg (fun t => ![t, 1280]) (row1 (i 0))
theorem off23 (i : grid0.Coords) : k0_off23 i = ![2 * (i 0).val, 0] := congrArg (fun t => ![t, 0]) (row0 (i 0))
theorem off24 (i : grid0.Coords) : k0_off24 i = ![2 * (i 0).val + 1, 0] := congrArg (fun t => ![t, 0]) (row1 (i 0))
theorem off25 (i : grid0.Coords) : k0_off25 i = ![2 * (i 0).val, 1536] := congrArg (fun t => ![t, 1536]) (row0 (i 0))
theorem off26 (i : grid0.Coords) : k0_off26 i = ![2 * (i 0).val + 1, 1536] := congrArg (fun t => ![t, 1536]) (row1 (i 0))
theorem off27 (i : grid0.Coords) : k0_off27 i = ![2 * (i 0).val, 0] := congrArg (fun t => ![t, 0]) (row0 (i 0))
theorem off28 (i : grid0.Coords) : k0_off28 i = ![2 * (i 0).val + 1, 0] := congrArg (fun t => ![t, 0]) (row1 (i 0))
theorem off29 (i : grid0.Coords) : k0_off29 i = ![2 * (i 0).val, 1792] := congrArg (fun t => ![t, 1792]) (row0 (i 0))
theorem off30 (i : grid0.Coords) : k0_off30 i = ![2 * (i 0).val + 1, 1792] := congrArg (fun t => ![t, 1792]) (row1 (i 0))

theorem arr_rowsum_128 {x : FVec Ideal S256x128 .f32} {A : Arr EReal} (hx : IsArr x A) (h) (h1) (h2 : (0#32 : BitVec 32) = 0#32) (h3) :
    IsArr (shapeCast S256x1 (multiReduction .add [1] S256 x (0#32) h h1 h2) h3) (fun p => ∑ k ∈ Finset.range 128, A (p.1, k)) := arr_rowsum hx h h1 h2 h3

theorem arr_rowsum_256 {x : FVec Ideal S512x256 .f32} {A : Arr EReal} (hx : IsArr x A) (h) (h1) (h2 : (0#32 : BitVec 32) = 0#32) (h3) :
    IsArr (shapeCast S512x1 (multiReduction .add [1] S512 x (0#32) h h1 h2) h3) (fun p => ∑ k ∈ Finset.range 256, A (p.1, k)) := arr_rowsum hx h h1 h2 h3

theorem arr_rowsum_512 {x : FVec Ideal S512x512 .f32} {A : Arr EReal} (hx : IsArr x A) (h) (h1) (h2 : (0#32 : BitVec 32) = 0#32) (h3) :
    IsArr (shapeCast S512x1 (multiReduction .add [1] S512 x (0#32) h h1 h2) h3) (fun p => ∑ k ∈ Finset.range 512, A (p.1, k)) := arr_rowsum hx h h1 h2 h3

theorem arr_rowsum_768 {x : FVec Ideal S512x768 .f32} {A : Arr EReal} (hx : IsArr x A) (h) (h1) (h2 : (0#32 : BitVec 32) = 0#32) (h3) :
    IsArr (shapeCast S512x1 (multiReduction .add [1] S512 x (0#32) h h1 h2) h3) (fun p => ∑ k ∈ Finset.range 768, A (p.1, k)) := arr_rowsum hx h h1 h2 h3

theorem arr_rowsum_1024 {x : FVec Ideal S512x1024 .f32} {A : Arr EReal} (hx : IsArr x A) (h) (h1) (h2 : (0#32 : BitVec 32) = 0#32) (h3) :
    IsArr (shapeCast S512x1 (multiReduction .add [1] S512 x (0#32) h h1 h2) h3) (fun p => ∑ k ∈ Finset.range 1024, A (p.1, k)) := arr_rowsum hx h h1 h2 h3

theorem arr_rowsum_1280 {x : FVec Ideal S512x1280 .f32} {A : Arr EReal} (hx : IsArr x A) (h) (h1) (h2 : (0#32 : BitVec 32) = 0#32) (h3) :
    IsArr (shapeCast S512x1 (multiReduction .add [1] S512 x (0#32) h h1 h2) h3) (fun p => ∑ k ∈ Finset.range 1280, A (p.1, k)) := arr_rowsum hx h h1 h2 h3

theorem arr_rowsum_1536 {x : FVec Ideal S512x1536 .f32} {A : Arr EReal} (hx : IsArr x A) (h) (h1) (h2 : (0#32 : BitVec 32) = 0#32) (h3) :
    IsArr (shapeCast S512x1 (multiReduction .add [1] S512 x (0#32) h h1 h2) h3) (fun p => ∑ k ∈ Finset.range 1536, A (p.1, k)) := arr_rowsum hx h h1 h2 h3

theorem arr_rowsum_1792 {x : FVec Ideal S512x1792 .f32} {A : Arr EReal} (hx : IsArr x A) (h) (h1) (h2 : (0#32 : BitVec 32) = 0#32) (h3) :
    IsArr (shapeCast S512x1 (multiReduction .add [1] S512 x (0#32) h h1 h2) h3) (fun p => ∑ k ∈ Finset.range 1792, A (p.1, k)) := arr_rowsum hx h h1 h2 h3

theorem arr_colsum_256 {x : FVec Ideal S256x256 .f32} {A : Arr EReal} (hx : IsArr x A) (h) (h1) (h2 : (0#32 : BitVec 32) = 0#32) (h3) :
    IsArr (shapeCast S1x256 (multiReduction .add [0] S256 x (0#32) h h1 h2) h3) (fun p => ∑ k ∈ Finset.range 256, A (k, p.2)) := arr_colsum hx h h1 h2 h3

theorem arr_colsum_512 {x : FVec Ideal S256x512 .f32} {A : Arr EReal} (hx : IsArr x A) (h) (h1) (h2 : (0#32 : BitVec 32) = 0#32) (h3) :
    IsArr (shapeCast S1x512 (multiReduction .add [0] S512 x (0#32) h h1 h2) h3) (fun p => ∑ k ∈ Finset.range 256, A (k, p.2)) := arr_colsum hx h h1 h2 h3

theorem arr_colsum_768 {x : FVec Ideal S256x768 .f32} {A : Arr EReal} (hx : IsArr x A) (h) (h1) (h2 : (0#32 : BitVec 32) = 0#32) (h3) :
    IsArr (shapeCast S1x768 (multiReduction .add [0] S768 x (0#32) h h1 h2) h3) (fun p => ∑ k ∈ Finset.range 256, A (k, p.2)) := arr_colsum hx h h1 h2 h3

theorem arr_colsum_1024 {x : FVec Ideal S256x1024 .f32} {A : Arr EReal} (hx : IsArr x A) (h) (h1) (h2 : (0#32 : BitVec 32) = 0#32) (h3) :
    IsArr (shapeCast S1x1024 (multiReduction .add [0] S1024 x (0#32) h h1 h2) h3) (fun p => ∑ k ∈ Finset.range 256, A (k, p.2)) := arr_colsum hx h h1 h2 h3

theorem arr_colsum_1280 {x : FVec Ideal S256x1280 .f32} {A : Arr EReal} (hx : IsArr x A) (h) (h1) (h2 : (0#32 : BitVec 32) = 0#32) (h3) :
    IsArr (shapeCast S1x1280 (multiReduction .add [0] S1280 x (0#32) h h1 h2) h3) (fun p => ∑ k ∈ Finset.range 256, A (k, p.2)) := arr_colsum hx h h1 h2 h3

theorem arr_colsum_1536 {x : FVec Ideal S256x1536 .f32} {A : Arr EReal} (hx : IsArr x A) (h) (h1) (h2 : (0#32 : BitVec 32) = 0#32) (h3) :
    IsArr (shapeCast S1x1536 (multiReduction .add [0] S1536 x (0#32) h h1 h2) h3) (fun p => ∑ k ∈ Finset.range 256, A (k, p.2)) := arr_colsum hx h h1 h2 h3

theorem arr_colsum_1792 {x : FVec Ideal S256x1792 .f32} {A : Arr EReal} (hx : IsArr x A) (h) (h1) (h2 : (0#32 : BitVec 32) = 0#32) (h3) :
    IsArr (shapeCast S1x1792 (multiReduction .add [0] S1792 x (0#32) h h1 h2) h3) (fun p => ∑ k ∈ Finset.range 256, A (k, p.2)) := arr_colsum hx h h1 h2 h3

theorem lane0 : ∀ v : Fin 4, Scalar.muli 2#32 (BitVec.ofNat 32 v.val) = BitVec.ofNat 32 (2 * v.val) := by decide

theorem lane1 : ∀ v : Fin 4, Scalar.addi (Scalar.muli 2#32 (BitVec.ofNat 32 v.val)) 1#32 = BitVec.ofNat 32 (2 * v.val + 1) := by decide

/-- The lane of the first head of a pair. -/
theorem msk_lane0 (i : grid0.Coords) (hi) : IsMsk (cmpi .eq (iota .tc (Blk 1 128) 32 [1] hi) (broadcast (Blk 1 128) (Scalar.muli 2#32 (BitVec.ofNat 32 (i 0).val))))
    (fun p => p.2 = 2 * (i 0).val) := fun ι => by
  rw [lane0 (i 0)]
  show IntOp.cmpi .eq (iota .tc (Blk 1 128) 32 [1] hi ι) (BitVec.ofNat 32 (2 * (i 0).val)) = 1 ↔ _
  rw [isArr_iota_lanes hi ι]
  have h1 : (ι 1).val < 128 := (ι 1).isLt
  have h2 : (i 0).val < 4 := (i 0).isLt
  exact eq_small (by omega) (by omega)

/-- The lane of the second head of a pair. -/
theorem msk_lane1 (i : grid0.Coords) (hi) : IsMsk (cmpi .eq (iota .tc (Blk 1 128) 32 [1] hi) (broadcast (Blk 1 128) (Scalar.addi (Scalar.muli 2#32 (BitVec.ofNat 32 (i 0).val)) 1#32)))
    (fun p => p.2 = 2 * (i 0).val + 1) := fun ι => by
  rw [lane1 (i 0)]
  show IntOp.cmpi .eq (iota .tc (Blk 1 128) 32 [1] hi ι) (BitVec.ofNat 32 (2 * (i 0).val + 1)) = 1 ↔ _
  rw [isArr_iota_lanes hi ι]
  have h1 : (ι 1).val < 128 := (ι 1).isLt
  have h2 : (i 0).val < 4 := (i 0).isLt
  exact eq_small (by omega) (by omega)

theorem sum_split (f : ℕ → EReal) (m : ℕ) : ∑ k ∈ Finset.range (m + 256), f k = ∑ k ∈ Finset.range m, f k + ∑ k ∈ Finset.range 256, f (m + k) :=
  Finset.sum_range_add f m 256

/-- The gradients of the logits where no key is masked. -/
def tDh (p : ℕ × ℕ) : EReal :=
  Ideal.exp (tS Q K Cm j n p - tlse Ls n p.1) * ((∑ d ∈ Finset.range 128, tdo Do n (p.1, d) * V (p.2, d)) - tdelta Ob Do n p.1)

/-- The gradients of the logits on the block's own keys. -/
def tDd (p : ℕ × ℕ) : EReal :=
  Ideal.exp (sel (p.2 ≤ p.1 % 256) (tS Q K Cm j n (p.1, 256 * n + p.2)) ⊥ - tlse Ls n p.1) *
    ((∑ d ∈ Finset.range 128, tdo Do n (p.1, d) * V (256 * n + p.2, d)) - tdelta Ob Do n p.1)

theorem tD_head {p : ℕ × ℕ} (h : p.2 < 256 * n) : tD Q K V Cm Ls Ob Do j n p = tDh Q K V Cm Ls Ob Do j n p := by
  simp only [tD, tP, tDh, sel_pos (show p.2 ≤ 256 * n + p.1 % 256 by omega)]

theorem tD_diag (r k : ℕ) : tD Q K V Cm Ls Ob Do j n (r, 256 * n + k) = tDd Q K V Cm Ls Ob Do j n (r, k) := by
  simp only [tD, tP, tDd, Nat.add_le_add_iff_left]

theorem trow_eq (r : ℕ) : trow Q K V Cm Ls Ob Do j n r =
    ∑ s ∈ Finset.range (256 * n), tDh Q K V Cm Ls Ob Do j n (r, s) + ∑ k ∈ Finset.range 256, tDd Q K V Cm Ls Ob Do j n (r, k) := by
  unfold trow
  rw [Nat.mul_succ, sum_split]
  refine congrArg₂ (· + ·) (Finset.sum_congr rfl fun s hs => tD_head Q K V Cm Ls Ob Do j n (Finset.mem_range.1 hs)) (Finset.sum_congr rfl fun k _ => tD_diag Q K V Cm Ls Ob Do j n r k)

theorem tdq2_eq (p : ℕ × ℕ) : tdq2 Q K V Cm Ls Ob Do j n p =
    ∑ s ∈ Finset.range (256 * n), tDh Q K V Cm Ls Ob Do j n (p.1, s) * K (s, p.2) +
      ∑ k ∈ Finset.range 256, tDd Q K V Cm Ls Ob Do j n (p.1, k) * K (256 * n + k, p.2) := by
  unfold tdq2
  rw [Nat.mul_succ, sum_split]
  refine congrArg₂ (· + ·) (Finset.sum_congr rfl fun s hs => by rw [tD_head Q K V Cm Ls Ob Do j n (Finset.mem_range.1 hs)])
    (Finset.sum_congr rfl fun k _ => by rw [tD_diag Q K V Cm Ls Ob Do j n])

theorem arr_in_off {sig : RefSig} {κ : Kind} {R C : ℕ} {arg : Memref sig κ .vmem (Blk R C) .f32} (harg : arg.IsWhole)
    {x : Vec Ideal (Blk R C) .f32} {A : Arr EReal} (hx : IsArr (β := EReal) x A) {off : Fin 2 → ℕ} {a b h w : ℕ} (ho : off = ![a, b]) (inb) :
    IsArr (β := EReal) (View.readAt (Elt Ideal) arg.view (Rect.unit (s := Blk R C) off ![h, w] inb).toLoadRect (harg.unread x)) (fun p => A (a + p.1, b + p.2)) := by
  subst ho
  exact arr_in harg hx inb

end Cert.Fox

end
-- ==== Proof.FoxStep.lean ====
/- One store on top of those before it: how the array of a buffer changes when a block of sums is added to some of its rows. -/
module

public import proofs.«01_k».proof.Proof.FoxTile

@[expose] public section

noncomputable section

namespace Cert.Fox

open Cert.KernelIdeal Cert.KernelIdeal.Gen Idealize.ShloMosaic Idealize.ShloMosaic.Updates
open Idealize.ShloMosaic.LaneScatter (Blk)

/-- The keys that half step `m` reaches: all before block `m / 2` in an even step, the block itself in an odd one. -/
def bnd (m : ℕ) : ℕ × ℕ := if m % 2 = 0 then (0, 256 * (m / 2)) else (256 * (m / 2), 256 * (m / 2) + 256)

/-- The sum that key `s` has received after `m` half steps, of the blocks' amounts `T`. -/
def hacc (T : ℕ → EReal) (s : ℕ) : ℕ → EReal
  | 0 => 0
  | m + 1 => hacc T s m + sel ((bnd m).1 ≤ s ∧ s < (bnd m).2) (T (m / 2)) 0

theorem hacc_one (T : ℕ → EReal) (s : ℕ) : hacc T s 1 = 0 := by
  show 0 + sel _ _ _ = (0 : EReal)
  rw [sel_neg (by simp [bnd]), add_zero]

variable {sig : RefSig} {κ : Kind} {sp : Space} {R C h w : ℕ} {e : EltTy}

theorem step_add {v : View sig κ sp (Blk R C) e} {f : v.ty.Contents (Elt Ideal)} {L : List (View.Piece (Elt Ideal) (Blk R C) e)} {A : Arr (Elt Ideal e)}
    (hA : IsArr (v.read (Elt Ideal) (v.writes (Elt Ideal) f L)) A) {off : Fin 2 → ℕ} {a b : ℕ} (ho : off = ![a, b])
    (inb : ∀ x, off x + (Blk h w).size x ≤ (Blk R C).size x) {pay : (Blk h w).Idx → Elt Ideal e} {W A' : Arr (Elt Ideal e)} (hp : IsArr pay W)
    (hit : ∀ x y, x < h → y < w → A' (a + x, b + y) = W (x, y))
    (miss : ∀ x y, x < R → y < C → ¬ ((a ≤ x ∧ x < a + h) ∧ (b ≤ y ∧ y < b + w)) → A' (x, y) = A (x, y)) :
    IsArr (v.read (Elt Ideal) (v.writes (Elt Ideal) f (⟨Rect.unit (s := Blk R C) off (Blk h w).size inb, pay⟩ :: L))) A' := by
  refine (isArr_writes_cons (Val := Elt Ideal) hA (o := (a, b)) ho inb hp).congr fun x y hx hy => ?_
  by_cases hb : (a ≤ x ∧ x < a + h) ∧ (b ≤ y ∧ y < b + w)
  · rw [storeAt_hit ⟨hb, trivial⟩]
    have := hit (x - a) (y - b) (by omega) (by omega)
    rw [show a + (x - a) = x by omega, show b + (y - b) = y by omega] at this
    exact this.symm
  · rw [storeAt_miss (fun h' => hb h'.1)]
    exact (miss x y hx hy hb).symm

/-- The array of a buffer of keys after `m` half steps. -/
def rowsAt (T : ℕ → Arr EReal) (m : ℕ) : Arr EReal := fun p => hacc (fun n => T n p) p.1 m

theorem step_rows {v : View sig κ sp (Blk R C) .f32} {f : v.ty.Contents (Elt Ideal)} {L : List (View.Piece (Elt Ideal) (Blk R C) .f32)} (T : ℕ → Arr EReal) (m : ℕ) {lo : ℕ}
    (hA : IsArr (β := EReal) (v.read (Elt Ideal) (v.writes (Elt Ideal) f L)) (rowsAt T m)) (hb : bnd m = (lo, lo + h))
    (inb : ∀ x, (![lo, 0] : Fin 2 → ℕ) x + (Blk h C).size x ≤ (Blk R C).size x) {pay : (Blk h C).Idx → EReal}
    (hp : IsArr pay (fun p => loadAt (lo, 0) (rowsAt T m) p + T (m / 2) (lo + p.1, p.2))) :
    IsArr (β := EReal) (v.read (Elt Ideal) (v.writes (Elt Ideal) f (⟨Rect.unit (s := Blk R C) ![lo, 0] (Blk h C).size inb, pay⟩ :: L))) (rowsAt T (m + 1)) := by
  have hr : ∀ p, rowsAt T (m + 1) p = rowsAt T m p + sel (lo ≤ p.1 ∧ p.1 < lo + h) (T (m / 2) p) 0 := fun p => by
    show hacc _ _ m + sel ((bnd m).1 ≤ p.1 ∧ p.1 < (bnd m).2) _ _ = _
    rw [hb]
    rfl
  refine step_add hA rfl inb hp (fun x y hx hy => ?_) (fun x y hx hy hn => ?_)
  · rw [hr, sel_pos ⟨Nat.le_add_right _ _, by show lo + x < lo + h; omega⟩, Nat.zero_add]
    show _ = rowsAt T m (lo + x, 0 + y) + T (m / 2) (lo + x, y)
    rw [Nat.zero_add]
  · rw [hr, sel_neg (fun h' => hn ⟨h', by omega, by omega⟩), add_zero]

/-- The array of the key bias gradient: what was there, and in the two rows of pair `j` what `m0` and `m1` half steps brought. -/
def colsAt (A : Arr EReal) (T0 T1 : ℕ → ℕ → EReal) (j m0 m1 : ℕ) : Arr EReal := fun p =>
  sel (p.1 = 2 * j) (A p + hacc (fun n => T0 n p.2) p.2 m0) (sel (p.1 = 2 * j + 1) (A p + hacc (fun n => T1 n p.2) p.2 m1) (A p))

theorem step_col0 {v : View sig κ sp (Blk R C) .f32} {f : v.ty.Contents (Elt Ideal)} {L : List (View.Piece (Elt Ideal) (Blk R C) .f32)} (A : Arr EReal)
    (T0 T1 : ℕ → ℕ → EReal) (j m0 m1 : ℕ) {lo : ℕ} {off : Fin 2 → ℕ}
    (hA : IsArr (β := EReal) (v.read (Elt Ideal) (v.writes (Elt Ideal) f L)) (colsAt A T0 T1 j m0 m1)) (hb : bnd m0 = (lo, lo + w)) (ho : off = ![2 * j, lo])
    (inb : ∀ x, off x + (Blk 1 w).size x ≤ (Blk R C).size x) {pay : (Blk 1 w).Idx → EReal}
    (hp : IsArr pay (fun p => loadAt (2 * j, lo) (colsAt A T0 T1 j m0 m1) p + T0 (m0 / 2) (lo + p.2))) :
    IsArr (β := EReal) (v.read (Elt Ideal) (v.writes (Elt Ideal) f (⟨Rect.unit (s := Blk R C) off (Blk 1 w).size inb, pay⟩ :: L))) (colsAt A T0 T1 j (m0 + 1) m1) := by
  have hr : ∀ s, hacc (fun n => T0 n s) s (m0 + 1) = hacc (fun n => T0 n s) s m0 + sel (lo ≤ s ∧ s < lo + w) (T0 (m0 / 2) s) 0 := fun s => by
    show hacc _ _ m0 + sel ((bnd m0).1 ≤ s ∧ s < (bnd m0).2) _ _ = _
    rw [hb]
  refine step_add hA ho inb hp (fun x y hx hy => ?_) (fun x y hx hy hn => ?_)
  · obtain rfl : x = 0 := by omega
    show colsAt A T0 T1 j (m0 + 1) m1 (2 * j, lo + y) = colsAt A T0 T1 j m0 m1 (2 * j, lo + y) + T0 (m0 / 2) (lo + y)
    unfold colsAt
    rw [sel_pos rfl, sel_pos rfl, hr, sel_pos ⟨Nat.le_add_right _ _, by show lo + y < lo + w; omega⟩, add_assoc]
  · unfold colsAt
    by_cases h0 : x = 2 * j
    · rw [sel_pos h0, sel_pos h0, hr, sel_neg (fun h' => hn ⟨by omega, h'⟩), add_zero]
    · rw [sel_neg h0, sel_neg h0]

theorem step_col1 {v : View sig κ sp (Blk R C) .f32} {f : v.ty.Contents (Elt Ideal)} {L : List (View.Piece (Elt Ideal) (Blk R C) .f32)} (A : Arr EReal)
    (T0 T1 : ℕ → ℕ → EReal) (j m0 m1 : ℕ) {lo : ℕ} {off : Fin 2 → ℕ}
    (hA : IsArr (β := EReal) (v.read (Elt Ideal) (v.writes (Elt Ideal) f L)) (colsAt A T0 T1 j m0 m1)) (hb : bnd m1 = (lo, lo + w)) (ho : off = ![2 * j + 1, lo])
    (inb : ∀ x, off x + (Blk 1 w).size x ≤ (Blk R C).size x) {pay : (Blk 1 w).Idx → EReal}
    (hp : IsArr pay (fun p => loadAt (2 * j + 1, lo) (colsAt A T0 T1 j m0 m1) p + T1 (m1 / 2) (lo + p.2))) :
    IsArr (β := EReal) (v.read (Elt Ideal) (v.writes (Elt Ideal) f (⟨Rect.unit (s := Blk R C) off (Blk 1 w).size inb, pay⟩ :: L))) (colsAt A T0 T1 j m0 (m1 + 1)) := by
  have hr : ∀ s, hacc (fun n => T1 n s) s (m1 + 1) = hacc (fun n => T1 n s) s m1 + sel (lo ≤ s ∧ s < lo + w) (T1 (m1 / 2) s) 0 := fun s => by
    show hacc _ _ m1 + sel ((bnd m1).1 ≤ s ∧ s < (bnd m1).2) _ _ = _
    rw [hb]
  refine step_add hA ho inb hp (fun x y hx hy => ?_) (fun x y hx hy hn => ?_)
  · obtain rfl : x = 0 := by omega
    show colsAt A T0 T1 j m0 (m1 + 1) (2 * j + 1, lo + y) = colsAt A T0 T1 j m0 m1 (2 * j + 1, lo + y) + T1 (m1 / 2) (lo + y)
    unfold colsAt
    rw [sel_neg (show ¬ 2 * j + 1 = 2 * j by omega), sel_neg (show ¬ 2 * j + 1 = 2 * j by omega), sel_pos rfl, sel_pos rfl, hr,
      sel_pos ⟨Nat.le_add_right _ _, by show lo + y < lo + w; omega⟩, add_assoc]
  · unfold colsAt
    by_cases h0 : x = 2 * j
    · rw [sel_pos h0, sel_pos h0]
    · rw [sel_neg h0, sel_neg h0]
      by_cases h1 : x = 2 * j + 1
      · rw [sel_pos h1, sel_pos h1, hr, sel_neg (fun h' => hn ⟨by omega, h'⟩), add_zero]
      · rw [sel_neg h1, sel_neg h1]

/-- The array of the query bias gradient when `n` blocks of rows are done: `U b` is what block `b` adds, `J` what lies in the rows to come. -/
def qAt (A J : Arr EReal) (U : ℕ → Arr EReal) (n : ℕ) : Arr EReal := fun p =>
  sel (p.1 < 256 * n) (A p + U (p.1 / 256) (p.1 % 256, p.2)) (J p)

theorem step_q {v : View sig κ sp (Blk R C) .f32} {f : v.ty.Contents (Elt Ideal)} {L : List (View.Piece (Elt Ideal) (Blk R C) .f32)} (A J : Arr EReal) (U : ℕ → Arr EReal) (n : ℕ) {lo : ℕ}
    (hA : IsArr (β := EReal) (v.read (Elt Ideal) (v.writes (Elt Ideal) f L)) (qAt A J U n)) (hb : lo = 256 * n)
    (inb : ∀ x, (![lo, 0] : Fin 2 → ℕ) x + (Blk 256 C).size x ≤ (Blk R C).size x) {pay : (Blk 256 C).Idx → EReal}
    (hp : IsArr pay (fun p => loadAt (lo, 0) A p + U n p)) :
    IsArr (β := EReal) (v.read (Elt Ideal) (v.writes (Elt Ideal) f (⟨Rect.unit (s := Blk R C) ![lo, 0] (Blk 256 C).size inb, pay⟩ :: L))) (qAt A J U (n + 1)) := by
  subst hb
  refine step_add hA rfl inb hp (fun x y hx hy => ?_) (fun x y hx hy hn => ?_)
  · show qAt A J U (n + 1) (256 * n + x, 0 + y) = A (256 * n + x, 0 + y) + U n (x, y)
    unfold qAt
    rw [sel_pos (by show 256 * n + x < 256 * (n + 1); omega)]
    show A _ + U ((256 * n + x) / 256) ((256 * n + x) % 256, 0 + y) = _
    rw [show (256 * n + x) / 256 = n by omega, show (256 * n + x) % 256 = x by omega, Nat.zero_add]
  · unfold qAt
    by_cases h0 : x < 256 * n
    · rw [sel_pos h0, sel_pos (show x < 256 * (n + 1) by omega)]
    · rw [sel_neg h0, sel_neg (show ¬ x < 256 * (n + 1) from fun h' => hn ⟨⟨by omega, by omega⟩, by omega, by omega⟩)]

/-- A block of rows to come still holds what lay there. -/
theorem qAt_next (A J : Arr EReal) (U : ℕ → Arr EReal) (n : ℕ) (p : ℕ × ℕ) : loadAt (256 * n, 0) (qAt A J U n) p = loadAt (256 * n, 0) J p := by
  show sel (256 * n + p.1 < 256 * n) _ _ = _
  rw [sel_neg (by omega)]
  rfl

/-- The array of the packed gradients when `n` blocks of query rows are done. -/
def packAt (J : Arr EReal) (W : ℕ → Arr EReal) (n : ℕ) : Arr EReal := fun p =>
  sel (p.2 < 128 ∧ p.1 < 256 * n) (W (p.1 / 256) (p.1 % 256, p.2)) (J p)

theorem step_pack {v : View sig κ sp (Blk R C) .bf16} {f : v.ty.Contents (Elt Ideal)} {L : List (View.Piece (Elt Ideal) (Blk R C) .bf16)} (J : Arr EReal) (W : ℕ → Arr EReal) (n : ℕ) {lo : ℕ}
    (hA : IsArr (β := EReal) (v.read (Elt Ideal) (v.writes (Elt Ideal) f L)) (packAt J W n)) (hb : lo = 256 * n)
    (inb : ∀ x, (![lo, 0] : Fin 2 → ℕ) x + (Blk 256 128).size x ≤ (Blk R C).size x) {pay : (Blk 256 128).Idx → EReal}
    (hp : IsArr pay (fun p => W n p)) :
    IsArr (β := EReal) (v.read (Elt Ideal) (v.writes (Elt Ideal) f (⟨Rect.unit (s := Blk R C) ![lo, 0] (Blk 256 128).size inb, pay⟩ :: L))) (packAt J W (n + 1)) := by
  subst hb
  refine step_add hA rfl inb hp (fun x y hx hy => ?_) (fun x y hx hy hn => ?_)
  · unfold packAt
    rw [sel_pos ⟨by show 0 + y < 128; omega, by show 256 * n + x < 256 * (n + 1); omega⟩]
    show W ((256 * n + x) / 256) ((256 * n + x) % 256, 0 + y) = _
    rw [show (256 * n + x) / 256 = n by omega, show (256 * n + x) % 256 = x by omega, Nat.zero_add]
  · unfold packAt
    by_cases h0 : y < 128 ∧ x < 256 * n
    · rw [sel_pos h0, sel_pos (show y < 128 ∧ x < 256 * (n + 1) by omega)]
    · rw [sel_neg h0, sel_neg (show ¬ (y < 128 ∧ x < 256 * (n + 1)) from fun h' => hn ⟨⟨by omega, by omega⟩, by omega, by omega⟩)]

theorem hacc_zero (T : ℕ → EReal) (s : ℕ) : ∀ m, 256 * (m / 2) ≤ s → hacc T s m = 0
  | 0, _ => rfl
  | m + 1, h => by
    have hb : ¬ ((bnd m).1 ≤ s ∧ s < (bnd m).2) := by
      unfold bnd
      split <;> simp only <;> omega
    show hacc T s m + sel _ _ _ = 0
    rw [hacc_zero T s m (by omega), sel_neg hb, add_zero]

/-- A block of keys not yet reached still holds what lay there, in the first row of the pair. -/
theorem isArr_fresh0 {x : (Blk 1 w).Idx → EReal} {A : Arr EReal} {T0 T1 : ℕ → ℕ → EReal} {j m0 m1 lo : ℕ} (hx : IsArr x (loadAt (2 * j, lo) A))
    (hlo : lo = 256 * (m0 / 2)) : IsArr x (loadAt (2 * j, lo) (colsAt A T0 T1 j m0 m1)) := by
  refine hx.congr fun a b ha hb => ?_
  obtain rfl : a = 0 := by omega
  show A (2 * j, lo + b) = colsAt A T0 T1 j m0 m1 (2 * j, lo + b)
  unfold colsAt
  rw [sel_pos rfl, hacc_zero _ _ _ (by show 256 * (m0 / 2) ≤ lo + b; omega), add_zero]

/-- The same in the second row. -/
theorem isArr_fresh1 {x : (Blk 1 w).Idx → EReal} {A : Arr EReal} {T0 T1 : ℕ → ℕ → EReal} {j m0 m1 lo : ℕ} (hx : IsArr x (loadAt (2 * j + 1, lo) A))
    (hlo : lo = 256 * (m1 / 2)) : IsArr x (loadAt (2 * j + 1, lo) (colsAt A T0 T1 j m0 m1)) := by
  refine hx.congr fun a b ha hb => ?_
  obtain rfl : a = 0 := by omega
  show A (2 * j + 1, lo + b) = colsAt A T0 T1 j m0 m1 (2 * j + 1, lo + b)
  unfold colsAt
  rw [sel_neg (show ¬ 2 * j + 1 = 2 * j by omega), sel_pos rfl, hacc_zero _ _ _ (by show 256 * (m1 / 2) ≤ lo + b; omega), add_zero]

theorem colsAt_start (A : Arr EReal) (T0 T1 : ℕ → ℕ → EReal) (j : ℕ) : colsAt A T0 T1 j 1 1 = A := by
  funext p
  unfold colsAt
  rw [hacc_one, hacc_one, add_zero]
  by_cases h0 : p.1 = 2 * j
  · rw [sel_pos h0]
  · rw [sel_neg h0]
    by_cases h1 : p.1 = 2 * j + 1
    · rw [sel_pos h1]
    · rw [sel_neg h1]

theorem rowsAt_start (T : ℕ → Arr EReal) : rowsAt T 1 = fun _ => 0 := funext fun p => hacc_one _ _

theorem qAt_start (A J : Arr EReal) (U : ℕ → Arr EReal) : qAt A J U 0 = J := funext fun p => sel_neg (show ¬ p.1 < 0 by omega) _ _

theorem packAt_start (J : Arr EReal) (W : ℕ → Arr EReal) : packAt J W 0 = J := funext fun p => sel_neg (show ¬ (p.2 < 128 ∧ p.1 < 0) by omega) _ _

/-- What a block adds to the query bias gradient, in the two lanes of the pair. -/
def tlanes (Q K V Cm Ls Ob Do : Arr EReal) (j n : ℕ) : Arr EReal := fun p =>
  sel (p.2 = 2 * j) (trow Q K V Cm Ls Ob Do j n p.1) (sel (p.2 = 2 * j + 1) (trow Q K V Cm Ls Ob Do j n (256 + p.1)) 0)

/-- The packed gradients of a pair: queries, keys and values side by side. -/
def packed (Q K V Cm Ls Ob Do : Arr EReal) (j : ℕ) : Arr EReal := fun p =>
  sel (p.2 < 128) (tdq Q K V Cm Ls Ob Do j (p.1 / 256) (p.1 % 256, p.2))
    (sel (p.2 < 256) (rowsAt (tdk Q K V Cm Ls Ob Do j) 16 (p.1, p.2 - 128)) (rowsAt (tdv Q K Cm Ls Do j) 16 (p.1, p.2 - 256)))

theorem step_tail {v : View sig κ sp (Blk 2048 384) .bf16} {f : v.ty.Contents (Elt Ideal)} {L : List (View.Piece (Elt Ideal) (Blk 2048 384) .bf16)} (J : Arr EReal)
    {Q K V Cm Ls Ob Do : Arr EReal} {j : ℕ} (hA : IsArr (β := EReal) (v.read (Elt Ideal) (v.writes (Elt Ideal) f L)) (packAt J (tdq Q K V Cm Ls Ob Do j) 8))
    (inb1 : ∀ x, (![0, 128] : Fin 2 → ℕ) x + (Blk 2048 128).size x ≤ (Blk 2048 384).size x)
    (inb2 : ∀ x, (![0, 256] : Fin 2 → ℕ) x + (Blk 2048 128).size x ≤ (Blk 2048 384).size x) {pk pv : (Blk 2048 128).Idx → EReal}
    (hk : IsArr pk (rowsAt (tdk Q K V Cm Ls Ob Do j) 16)) (hv : IsArr pv (rowsAt (tdv Q K Cm Ls Do j) 16)) :
    IsArr (β := EReal) (v.read (Elt Ideal) (v.writes (Elt Ideal) f (⟨Rect.unit (s := Blk 2048 384) ![0, 256] (Blk 2048 128).size inb2, pv⟩ ::
      ⟨Rect.unit (s := Blk 2048 384) ![0, 128] (Blk 2048 128).size inb1, pk⟩ :: L))) (packed Q K V Cm Ls Ob Do j) := by
  refine step_add (A := fun p => sel (128 ≤ p.2 ∧ p.2 < 256) (rowsAt (tdk Q K V Cm Ls Ob Do j) 16 (p.1, p.2 - 128)) (packAt J (tdq Q K V Cm Ls Ob Do j) 8 p))
    (step_add hA rfl inb1 hk (fun x y hx hy => ?_) (fun x y hx hy hn => ?_)) rfl inb2 hv (fun x y hx hy => ?_) (fun x y hx hy hn => ?_)
  · rw [sel_pos ⟨by show 128 ≤ 128 + y; omega, by show 128 + y < 256; omega⟩]
    show rowsAt _ 16 (0 + x, 128 + y - 128) = _
    rw [Nat.zero_add, show 128 + y - 128 = y by omega]
  · exact sel_neg (fun h' => hn ⟨⟨by omega, by omega⟩, h'⟩) _ _
  · unfold packed
    rw [sel_neg (show ¬ 256 + y < 128 by omega), sel_neg (show ¬ 256 + y < 256 by omega)]
    show rowsAt _ 16 (0 + x, 256 + y - 256) = _
    rw [Nat.zero_add, show 256 + y - 256 = y by omega]
  · have hy' : y < 256 := by
      by_contra h'
      exact hn ⟨⟨by omega, by omega⟩, by omega, by omega⟩
    unfold packed
    by_cases h0 : y < 128
    · rw [sel_pos h0, sel_neg (fun h' : 128 ≤ y ∧ y < 256 => by omega)]
      unfold packAt
      rw [sel_pos ⟨h0, by omega⟩]
    · rw [sel_neg h0, sel_pos hy', sel_pos ⟨by omega, hy'⟩]

/-- The same when what lies outside the blocks reached so far is another array. -/
def mixAt (A F : Arr EReal) (T0 T1 : ℕ → ℕ → EReal) (j m0 m1 : ℕ) : Arr EReal := fun p =>
  sel (p.1 = 2 * j) (sel (p.2 < 256 * (m0 / 2)) (A p + hacc (fun n => T0 n p.2) p.2 m0) (F p))
    (sel (p.1 = 2 * j + 1) (sel (p.2 < 256 * (m1 / 2)) (A p + hacc (fun n => T1 n p.2) p.2 m1) (F p)) (F p))

theorem mixAt_start (A F : Arr EReal) (T0 T1 : ℕ → ℕ → EReal) (j : ℕ) : mixAt A F T0 T1 j 1 1 = F := by
  funext p
  have h : ¬ p.2 < 256 * (1 / 2) := by omega
  unfold mixAt
  rw [sel_neg h, sel_neg h]
  by_cases h0 : p.1 = 2 * j
  · rw [sel_pos h0]
  · rw [sel_neg h0]
    by_cases h1 : p.1 = 2 * j + 1
    · rw [sel_pos h1]
    · rw [sel_neg h1]

theorem mixAt_same (A : Arr EReal) (T0 T1 : ℕ → ℕ → EReal) (j m0 m1 : ℕ) : mixAt A A T0 T1 j m0 m1 = colsAt A T0 T1 j m0 m1 := by
  funext p
  have h : ∀ (T : ℕ → EReal) m, sel (p.2 < 256 * (m / 2)) (A p + hacc T p.2 m) (A p) = A p + hacc T p.2 m := fun T m => by
    by_cases h' : p.2 < 256 * (m / 2)
    · rw [sel_pos h']
    · rw [sel_neg h', hacc_zero _ _ _ (by omega), add_zero]
  unfold mixAt colsAt
  rw [h, h]

theorem step_mix0 {v : View sig κ sp (Blk R C) .f32} {f : v.ty.Contents (Elt Ideal)} {L : List (View.Piece (Elt Ideal) (Blk R C) .f32)} (A F : Arr EReal)
    (T0 T1 : ℕ → ℕ → EReal) (j m0 m1 : ℕ) {lo : ℕ} {off : Fin 2 → ℕ}
    (hA : IsArr (β := EReal) (v.read (Elt Ideal) (v.writes (Elt Ideal) f L)) (mixAt A F T0 T1 j m0 m1)) (hb : bnd m0 = (lo, lo + w)) (ho : off = ![2 * j, lo])
    (inb : ∀ x, off x + (Blk 1 w).size x ≤ (Blk R C).size x) {pay : (Blk 1 w).Idx → EReal}
    (hp : IsArr pay (fun p => loadAt (2 * j, lo) (colsAt A T0 T1 j m0 m1) p + T0 (m0 / 2) (lo + p.2))) :
    IsArr (β := EReal) (v.read (Elt Ideal) (v.writes (Elt Ideal) f (⟨Rect.unit (s := Blk R C) off (Blk 1 w).size inb, pay⟩ :: L))) (mixAt A F T0 T1 j (m0 + 1) m1) := by
  have hr : ∀ s, hacc (fun n => T0 n s) s (m0 + 1) = hacc (fun n => T0 n s) s m0 + sel (lo ≤ s ∧ s < lo + w) (T0 (m0 / 2) s) 0 := fun s => by
    show hacc _ _ m0 + sel ((bnd m0).1 ≤ s ∧ s < (bnd m0).2) _ _ = _
    rw [hb]
  have ht : 256 * ((m0 + 1) / 2) = lo + w ∧ lo ≤ 256 * (m0 / 2) := by
    unfold bnd at hb
    split at hb <;> rw [Prod.mk.injEq] at hb <;> omega
  refine step_add hA ho inb hp (fun x y hx hy => ?_) (fun x y hx hy hn => ?_)
  · obtain rfl : x = 0 := by omega
    show mixAt A F T0 T1 j (m0 + 1) m1 (2 * j, lo + y) = colsAt A T0 T1 j m0 m1 (2 * j, lo + y) + T0 (m0 / 2) (lo + y)
    unfold colsAt mixAt
    rw [sel_pos rfl, sel_pos rfl, sel_pos (show lo + y < 256 * ((m0 + 1) / 2) by omega), hr, sel_pos ⟨Nat.le_add_right _ _, by show lo + y < lo + w; omega⟩, add_assoc]
  · unfold mixAt
    by_cases h0 : x = 2 * j
    · rw [sel_pos h0, sel_pos h0]
      by_cases h1 : y < 256 * (m0 / 2)
      · rw [sel_pos (show y < 256 * ((m0 + 1) / 2) by omega), sel_pos h1, hr, sel_neg (fun h' => hn ⟨by omega, h'⟩), add_zero]
      · rw [sel_neg (show ¬ y < 256 * ((m0 + 1) / 2) from fun h' => hn ⟨by omega, by omega, by omega⟩), sel_neg h1]
    · rw [sel_neg h0, sel_neg h0]

theorem isArr_touched0 {x : (Blk 1 w).Idx → EReal} {A F : Arr EReal} {T0 T1 : ℕ → ℕ → EReal} {j m0 m1 : ℕ} (hx : IsArr x (loadAt (2 * j, 0) (mixAt A F T0 T1 j m0 m1)))
    (hw : w = 256 * (m0 / 2)) : IsArr x (loadAt (2 * j, 0) (colsAt A T0 T1 j m0 m1)) := by
  refine hx.congr fun a b ha hb => ?_
  obtain rfl : a = 0 := by omega
  show mixAt A F T0 T1 j m0 m1 (2 * j, 0 + b) = colsAt A T0 T1 j m0 m1 (2 * j, 0 + b)
  unfold colsAt mixAt
  rw [sel_pos rfl, sel_pos (by show 0 + b < 256 * (m0 / 2); omega), sel_pos rfl]

theorem step_mix1 {v : View sig κ sp (Blk R C) .f32} {f : v.ty.Contents (Elt Ideal)} {L : List (View.Piece (Elt Ideal) (Blk R C) .f32)} (A F : Arr EReal)
    (T0 T1 : ℕ → ℕ → EReal) (j m0 m1 : ℕ) {lo : ℕ} {off : Fin 2 → ℕ}
    (hA : IsArr (β := EReal) (v.read (Elt Ideal) (v.writes (Elt Ideal) f L)) (mixAt A F T0 T1 j m0 m1)) (hb : bnd m1 = (lo, lo + w)) (ho : off = ![2 * j + 1, lo])
    (inb : ∀ x, off x + (Blk 1 w).size x ≤ (Blk R C).size x) {pay : (Blk 1 w).Idx → EReal}
    (hp : IsArr pay (fun p => loadAt (2 * j + 1, lo) (colsAt A T0 T1 j m0 m1) p + T1 (m1 / 2) (lo + p.2))) :
    IsArr (β := EReal) (v.read (Elt Ideal) (v.writes (Elt Ideal) f (⟨Rect.unit (s := Blk R C) off (Blk 1 w).size inb, pay⟩ :: L))) (mixAt A F T0 T1 j m0 (m1 + 1)) := by
  have hr : ∀ s, hacc (fun n => T1 n s) s (m1 + 1) = hacc (fun n => T1 n s) s m1 + sel (lo ≤ s ∧ s < lo + w) (T1 (m1 / 2) s) 0 := fun s => by
    show hacc _ _ m1 + sel ((bnd m1).1 ≤ s ∧ s < (bnd m1).2) _ _ = _
    rw [hb]
  have ht : 256 * ((m1 + 1) / 2) = lo + w ∧ lo ≤ 256 * (m1 / 2) := by
    unfold bnd at hb
    split at hb <;> rw [Prod.mk.injEq] at hb <;> omega
  refine step_add hA ho inb hp (fun x y hx hy => ?_) (fun x y hx hy hn => ?_)
  · obtain rfl : x = 0 := by omega
    show mixAt A F T0 T1 j m0 (m1 + 1) (2 * j + 1, lo + y) = colsAt A T0 T1 j m0 m1 (2 * j + 1, lo + y) + T1 (m1 / 2) (lo + y)
    unfold colsAt mixAt
    rw [sel_neg (show ¬ 2 * j + 1 = 2 * j by omega), sel_pos rfl, sel_neg (show ¬ 2 * j + 1 = 2 * j by omega), sel_pos rfl, sel_pos (show lo + y < 256 * ((m1 + 1) / 2) by omega), hr, sel_pos ⟨Nat.le_add_right _ _, by show lo + y < lo + w; omega⟩, add_assoc]
  · unfold mixAt
    by_cases h0 : x = 2 * j
    · rw [sel_pos h0, sel_pos h0]
    · rw [sel_neg h0, sel_neg h0]
      by_cases h2 : x = 2 * j + 1
      · rw [sel_pos h2, sel_pos h2]
        by_cases h1 : y < 256 * (m1 / 2)
        · rw [sel_pos (show y < 256 * ((m1 + 1) / 2) by omega), sel_pos h1, hr, sel_neg (fun h' => hn ⟨by omega, h'⟩), add_zero]
        · rw [sel_neg (show ¬ y < 256 * ((m1 + 1) / 2) from fun h' => hn ⟨by omega, by omega, by omega⟩), sel_neg h1]
      · rw [sel_neg h2, sel_neg h2]

theorem isArr_touched1 {x : (Blk 1 w).Idx → EReal} {A F : Arr EReal} {T0 T1 : ℕ → ℕ → EReal} {j m0 m1 : ℕ} (hx : IsArr x (loadAt (2 * j + 1, 0) (mixAt A F T0 T1 j m0 m1)))
    (hw : w = 256 * (m1 / 2)) : IsArr x (loadAt (2 * j + 1, 0) (colsAt A T0 T1 j m0 m1)) := by
  refine hx.congr fun a b ha hb => ?_
  obtain rfl : a = 0 := by omega
  show mixAt A F T0 T1 j m0 m1 (2 * j + 1, 0 + b) = colsAt A T0 T1 j m0 m1 (2 * j + 1, 0 + b)
  unfold colsAt mixAt
  rw [sel_neg (show ¬ 2 * j + 1 = 2 * j by omega), sel_pos rfl, sel_pos (by show 0 + b < 256 * (m1 / 2); omega), sel_neg (show ¬ 2 * j + 1 = 2 * j by omega), sel_pos rfl]

end Cert.Fox

end
-- ==== Proof.FoxReal.lean ====
/- The quantities of a block in real numbers: the attention's gradients of one pair of heads, when the arrays hold reals. -/
module

public import proofs.«01_k».proof.Proof.FoxStep

@[expose] public section

noncomputable section

namespace Cert.Fox

open Idealize.ShloMosaic Idealize.ShloMosaic.Updates
open Idealize.ShloMosaic.LaneScatter (Blk)

/-! ## One head's attention and its gradients, over the reals -/

/-- A logit: an eighth of the product of query `t` and key `s`, less the key's bias. -/
def rL (q k : ℕ → ℕ → ℝ) (c : ℕ → ℝ) (t s : ℕ) : ℝ := (∑ d ∈ Finset.range 64, q t d * k s d) * (1 / 8) - c s

/-- The exponential of a logit, zero for a key after the query. -/
def rE (q k : ℕ → ℕ → ℝ) (c : ℕ → ℝ) (t s : ℕ) : ℝ := if s ≤ t then Real.exp (rL q k c t s) else 0

/-- The sum of the exponentials of a query's row. -/
def rZ (q k : ℕ → ℕ → ℝ) (c : ℕ → ℝ) (t : ℕ) : ℝ := ∑ s ∈ Finset.range 2048, rE q k c t s

/-- A weight. -/
def rP (q k : ℕ → ℕ → ℝ) (c : ℕ → ℝ) (t s : ℕ) : ℝ := rE q k c t s / rZ q k c t

/-- The attention's output. -/
def rO (q k v : ℕ → ℕ → ℝ) (c : ℕ → ℝ) (t d : ℕ) : ℝ := ∑ s ∈ Finset.range 2048, rP q k c t s * v s d

/-- The gradient of a weight. -/
def rG (v g : ℕ → ℕ → ℝ) (t s : ℕ) : ℝ := ∑ d ∈ Finset.range 64, g t d * v s d

/-- The weighted sum of a row's weight gradients. -/
def rDel (q k v g : ℕ → ℕ → ℝ) (c : ℕ → ℝ) (t : ℕ) : ℝ := ∑ s ∈ Finset.range 2048, rP q k c t s * rG v g t s

/-- The gradient of a logit. -/
def rD (q k v g : ℕ → ℕ → ℝ) (c : ℕ → ℝ) (t s : ℕ) : ℝ := rP q k c t s * (rG v g t s - rDel q k v g c t)

/-- The query gradient. -/
def rdq (q k v g : ℕ → ℕ → ℝ) (c : ℕ → ℝ) (t d : ℕ) : ℝ := (∑ s ∈ Finset.range 2048, rD q k v g c t s * k s d) * (1 / 8)

/-- The key gradient. -/
def rdk (q k v g : ℕ → ℕ → ℝ) (c : ℕ → ℝ) (s d : ℕ) : ℝ := ∑ t ∈ Finset.range 2048, rD q k v g c t s * (q t d * (1 / 8))

/-- The value gradient. -/
def rdv (q k g : ℕ → ℕ → ℝ) (c : ℕ → ℝ) (s d : ℕ) : ℝ := ∑ t ∈ Finset.range 2048, rP q k c t s * g t d

/-- The gradient of the bias at the queries. -/
def rcq (q k v g : ℕ → ℕ → ℝ) (c : ℕ → ℝ) (t : ℕ) : ℝ := ∑ s ∈ Finset.range 2048, rD q k v g c t s

/-- The gradient of the bias at the keys, its sign turned. -/
def rck (q k v g : ℕ → ℕ → ℝ) (c : ℕ → ℝ) (s : ℕ) : ℝ := ∑ t ∈ Finset.range 2048, rD q k v g c t s

section
variable (q k v g : ℕ → ℕ → ℝ) (c : ℕ → ℝ)

theorem rE_nonneg (t s : ℕ) : 0 ≤ rE q k c t s := by
  unfold rE
  split
  · exact (Real.exp_pos _).le
  · exact le_rfl

theorem rZ_pos {t : ℕ} (ht : t < 2048) : 0 < rZ q k c t :=
  Finset.sum_pos' (fun s _ => rE_nonneg q k c t s) ⟨0, Finset.mem_range.mpr (by omega), by unfold rE; rw [if_pos (Nat.zero_le t)]; exact Real.exp_pos _⟩

theorem rP_zero {t s : ℕ} (h : t < s) : rP q k c t s = 0 := by
  unfold rP rE
  rw [if_neg (by omega), zero_div]

theorem rD_zero {t s : ℕ} (h : t < s) : rD q k v g c t s = 0 := by
  unfold rD
  rw [rP_zero q k c h, zero_mul]

/-- The output's product with its cotangent is the weighted sum of the weight gradients. -/
theorem rDel_eq (t : ℕ) : ∑ d ∈ Finset.range 64, g t d * rO q k v c t d = rDel q k v g c t := by
  unfold rO rDel rG
  simp only [Finset.mul_sum]
  rw [Finset.sum_comm]
  refine Finset.sum_congr rfl fun s _ => Finset.sum_congr rfl fun d _ => ?_
  ring

theorem exp_sub_log {t s : ℕ} (ht : t < 2048) (h : s ≤ t) : Real.exp (rL q k c t s - Real.log (rZ q k c t)) = rP q k c t s := by
  unfold rP rE
  rw [Real.exp_sub, Real.exp_log (rZ_pos q k c ht), if_pos h]

end

/-! ## Sums of reals among the extended reals -/

theorem coe_sum {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

theorem coe_sum' {ι : Type} (s : Finset ι) {f : ι → EReal} {r : ι → ℝ} (h : ∀ x ∈ s, f x = ((r x : ℝ) : EReal)) :
    ∑ x ∈ s, f x = ((∑ x ∈ s, r x : ℝ) : EReal) := (Finset.sum_congr rfl h).trans (coe_sum s r)

theorem sum_lanes (f : ℕ → ℝ) : ∑ d ∈ Finset.range 128, f d = (∑ d ∈ Finset.range 64, f d) + ∑ d ∈ Finset.range 64, f (64 + d) :=
  Finset.sum_range_add f 64 64

theorem sum_halves (f : ℕ → ℝ) : ∑ d ∈ Finset.range 512, f d = (∑ d ∈ Finset.range 256, f d) + ∑ d ∈ Finset.range 256, f (256 + d) :=
  Finset.sum_range_add f 256 256

/-- A sum over the lanes of a pair in which only one head's lanes are not zero. -/
theorem sum_head (b : ℕ) (hb : b < 2) (f : ℕ → ℝ) : ∑ d ∈ Finset.range 128, (if d / 64 = b then f d else 0) = ∑ d ∈ Finset.range 64, f (64 * b + d) := by
  rw [sum_lanes]
  obtain rfl | rfl : b = 0 ∨ b = 1 := by omega
  · rw [Finset.sum_congr rfl (g := f) (fun d hd => if_pos (by have := Finset.mem_range.mp hd; omega)),
      Finset.sum_eq_zero (s := Finset.range 64) (f := fun d => if (64 + d) / 64 = 0 then f (64 + d) else 0) (fun d hd => if_neg (by omega)), add_zero]
    exact Finset.sum_congr rfl fun d _ => by rw [show 64 * 0 + d = d by omega]
  · rw [Finset.sum_eq_zero (s := Finset.range 64) (f := fun d => if d / 64 = 1 then f d else 0) (fun d hd => if_neg (by have := Finset.mem_range.mp hd; omega)), zero_add]
    exact Finset.sum_congr rfl fun d hd => if_pos (by have := Finset.mem_range.mp hd; omega)

/-- The same over the stacked rows of a block. -/
theorem sum_half (b : ℕ) (hb : b < 2) (f : ℕ → ℝ) : ∑ r ∈ Finset.range 512, (if r / 256 = b then f r else 0) = ∑ r ∈ Finset.range 256, f (256 * b + r) := by
  rw [sum_halves]
  obtain rfl | rfl : b = 0 ∨ b = 1 := by omega
  · rw [Finset.sum_congr rfl (g := f) (fun d hd => if_pos (by have := Finset.mem_range.mp hd; omega)),
      Finset.sum_eq_zero (s := Finset.range 256) (f := fun d => if (256 + d) / 256 = 0 then f (256 + d) else 0) (fun d hd => if_neg (by omega)), add_zero]
    exact Finset.sum_congr rfl fun d _ => by rw [show 256 * 0 + d = d by omega]
  · rw [Finset.sum_eq_zero (s := Finset.range 256) (f := fun d => if d / 256 = 1 then f d else 0) (fun d hd => if_neg (by have := Finset.mem_range.mp hd; omega)), zero_add]
    exact Finset.sum_congr rfl fun d hd => if_pos (by have := Finset.mem_range.mp hd; omega)

/-- A sum over the rows, block by block. -/
theorem sum_blocks (f : ℕ → ℝ) : ∀ N, ∑ n ∈ Finset.range N, ∑ r ∈ Finset.range 256, f (256 * n + r) = ∑ t ∈ Finset.range (256 * N), f t
  | 0 => by simp
  | N + 1 => by rw [Finset.sum_range_succ, sum_blocks f N, Nat.mul_succ, Finset.sum_range_add]

/-- A sum over a row, of what is zero from key `256 (n + 1)` on. -/
theorem sum_row (f : ℕ → ℝ) {n : ℕ} (hn : n < 8) (h : ∀ s, 256 * (n + 1) ≤ s → f s = 0) :
    ∑ s ∈ Finset.range (256 * (n + 1)), f s = ∑ s ∈ Finset.range 2048, f s := by
  refine Finset.sum_subset (fun x hx => ?_) (fun x _ hx => h x ?_)
  · rw [Finset.mem_range] at hx ⊢
    omega
  · rw [Finset.mem_range] at hx
    omega

/-- After the two half steps of each of the first `N` blocks, a key has received the amounts of the blocks that reach it. -/
theorem hacc_two (T : ℕ → EReal) (s : ℕ) : ∀ N, hacc T s (2 * N) = ∑ n ∈ Finset.range N, sel (s < 256 * (n + 1)) (T n) 0
  | 0 => rfl
  | N + 1 => by
    have h0 : bnd (2 * N) = (0, 256 * N) := by
      unfold bnd
      rw [if_pos (by omega), show 2 * N / 2 = N by omega]
    have h1 : bnd (2 * N + 1) = (256 * N, 256 * N + 256) := by
      unfold bnd
      rw [if_neg (by omega), show (2 * N + 1) / 2 = N by omega]
    rw [Finset.sum_range_succ, ← hacc_two T s N]
    show hacc T s (2 * N) + sel ((bnd (2 * N)).1 ≤ s ∧ s < (bnd (2 * N)).2) (T (2 * N / 2)) 0
        + sel ((bnd (2 * N + 1)).1 ≤ s ∧ s < (bnd (2 * N + 1)).2) (T ((2 * N + 1) / 2)) 0 = _
    rw [h0, h1, show 2 * N / 2 = N by omega, show (2 * N + 1) / 2 = N by omega, add_assoc]
    congr 1
    by_cases ha : s < 256 * N
    · rw [sel_pos ⟨Nat.zero_le _, ha⟩, sel_neg (by simp only; omega), sel_pos (by omega), add_zero]
    · rw [sel_neg (by simp only; omega), zero_add]
      by_cases hb : s < 256 * N + 256
      · rw [sel_pos ⟨by simp only; omega, hb⟩, sel_pos (by omega)]
      · rw [sel_neg (fun h' => hb h'.2), sel_neg (by omega)]

/-- Amounts that are real and zero at the keys a block does not reach add up to the sum over the blocks. -/
theorem hacc_real {T : ℕ → EReal} {s : ℕ} {f : ℕ → ℝ} (hT : ∀ n, n < 8 → T n = ((f n : ℝ) : EReal)) (h0 : ∀ n, n < 8 → 256 * (n + 1) ≤ s → f n = 0) :
    hacc T s 16 = ((∑ n ∈ Finset.range 8, f n : ℝ) : EReal) := by
  rw [show 16 = 2 * 8 from rfl, hacc_two]
  refine coe_sum' _ fun n hn => ?_
  have hn := Finset.mem_range.mp hn
  by_cases h : s < 256 * (n + 1)
  · rw [sel_pos h, hT n hn]
  · rw [sel_neg h, h0 n hn (by omega), EReal.coe_zero]

/-! ## One pair of heads -/

/-- What the input blocks of one grid point hold: reals, the two heads' biases in two rows, and the saved row logarithms and outputs of the two heads. -/
structure PairOf (Q K V Cm Ls Ob Do : Arr EReal) (j : ℕ) (q k v g : ℕ → ℕ → ℕ → ℝ) (c : ℕ → ℕ → ℝ) : Prop where
  hQ : ∀ b t d, b < 2 → t < 2048 → d < 64 → Q (t, 64 * b + d) = ((q b t d : ℝ) : EReal)
  hK : ∀ b t d, b < 2 → t < 2048 → d < 64 → K (t, 64 * b + d) = ((k b t d : ℝ) : EReal)
  hV : ∀ b t d, b < 2 → t < 2048 → d < 64 → V (t, 64 * b + d) = ((v b t d : ℝ) : EReal)
  hG : ∀ b t d, b < 2 → t < 2048 → d < 64 → Do (t, 64 * b + d) = ((g b t d : ℝ) : EReal)
  hC : ∀ b s, b < 2 → s < 2048 → Cm (2 * j + b, s) = ((c b s : ℝ) : EReal)
  hL : ∀ b t, b < 2 → t < 2048 → Ls (t, 64 * b) = ((Real.log (rZ (q b) (k b) (c b) t) : ℝ) : EReal)
  hO : ∀ b t d, b < 2 → t < 2048 → d < 64 → Ob (t, 64 * b + d) = ((rO (q b) (k b) (v b) (c b) t d : ℝ) : EReal)

namespace PairOf

variable {Q K V Cm Ls Ob Do : Arr EReal} {j : ℕ} {q k v g : ℕ → ℕ → ℕ → ℝ} {c : ℕ → ℕ → ℝ}

theorem lane {A : Arr EReal} {f : ℕ → ℕ → ℕ → ℝ} (h : ∀ b t d, b < 2 → t < 2048 → d < 64 → A (t, 64 * b + d) = ((f b t d : ℝ) : EReal)) {t e : ℕ} (ht : t < 2048)
    (he : e < 128) : A (t, e) = ((f (e / 64) t (e % 64) : ℝ) : EReal) := by
  have := h (e / 64) t (e % 64) (by omega) ht (by omega)
  rwa [show 64 * (e / 64) + e % 64 = e by omega] at this

variable (H : PairOf Q K V Cm Ls Ob Do j q k v g c)
include H

theorem tq_eq {n r e : ℕ} (hn : n < 8) (hr : r < 512) (he : e < 128) :
    tq Q n (r, e) = ((if e / 64 = r / 256 then q (r / 256) (256 * n + r % 256) (e % 64) * (1 / 8) else 0 : ℝ) : EReal) := by
  unfold tq c8
  by_cases h1 : r < 256
  · rw [sel_pos h1, show r / 256 = 0 by omega, show r % 256 = r by omega]
    by_cases h2 : e < 64
    · rw [sel_pos h2, lane H.hQ (by show 256 * n + r < 2048; omega) he, ← EReal.coe_mul, if_pos (by omega), show e / 64 = 0 by omega]
    · rw [sel_neg h2, if_neg (by omega), EReal.coe_zero]
  · rw [sel_neg h1, show r / 256 = 1 by omega, show r % 256 = r - 256 by omega]
    by_cases h2 : e < 64
    · rw [sel_pos h2, if_neg (by omega), EReal.coe_zero]
    · rw [sel_neg h2, lane H.hQ (by show 256 * n + (r - 256) < 2048; omega) he, ← EReal.coe_mul, if_pos (by omega), show e / 64 = 1 by omega]

theorem tdo_eq {n r e : ℕ} (hn : n < 8) (hr : r < 512) (he : e < 128) :
    tdo Do n (r, e) = ((if e / 64 = r / 256 then g (r / 256) (256 * n + r % 256) (e % 64) else 0 : ℝ) : EReal) := by
  unfold tdo
  by_cases h1 : r < 256
  · rw [sel_pos h1, show r / 256 = 0 by omega, show r % 256 = r by omega]
    by_cases h2 : e < 64
    · rw [sel_pos h2, lane H.hG (by show 256 * n + r < 2048; omega) he, if_pos (by omega), show e / 64 = 0 by omega]
    · rw [sel_neg h2, if_neg (by omega), EReal.coe_zero]
  · rw [sel_neg h1, show r / 256 = 1 by omega, show r % 256 = r - 256 by omega]
    by_cases h2 : e < 64
    · rw [sel_pos h2, if_neg (by omega), EReal.coe_zero]
    · rw [sel_neg h2, lane H.hG (by show 256 * n + (r - 256) < 2048; omega) he, if_pos (by omega), show e / 64 = 1 by omega]

theorem tdelta_eq {n r : ℕ} (hn : n < 8) (hr : r < 512) :
    tdelta Ob Do n r = ((rDel (q (r / 256)) (k (r / 256)) (v (r / 256)) (g (r / 256)) (c (r / 256)) (256 * n + r % 256) : ℝ) : EReal) := by
  rw [← rDel_eq]
  unfold tdelta
  by_cases h1 : r < 256
  · rw [sel_pos h1, show r / 256 = 0 by omega, show r % 256 = r by omega]
    rw [coe_sum' _ (r := fun d => if d / 64 = 0 then g 0 (256 * n + r) (d % 64) * rO (q 0) (k 0) (v 0) (c 0) (256 * n + r) (d % 64) else 0), sum_head 0 (by omega)]
    · exact congrArg _ (Finset.sum_congr rfl fun d hd => by rw [show (64 * 0 + d) % 64 = d by have := Finset.mem_range.mp hd; omega])
    · intro d hd
      have hd := Finset.mem_range.mp hd
      by_cases h2 : d < 64
      · rw [sel_pos h2, lane H.hG (by show 256 * n + r < 2048; omega) hd, lane H.hO (by show 256 * n + r < 2048; omega) hd, ← EReal.coe_mul, if_pos (by omega), show d / 64 = 0 by omega]
      · rw [sel_neg h2, if_neg (by omega), EReal.coe_zero]
  · rw [sel_neg h1, show r / 256 = 1 by omega, show r % 256 = r - 256 by omega]
    rw [coe_sum' _ (r := fun d => if d / 64 = 1 then g 1 (256 * n + (r - 256)) (d % 64) * rO (q 1) (k 1) (v 1) (c 1) (256 * n + (r - 256)) (d % 64) else 0), sum_head 1 (by omega)]
    · exact congrArg _ (Finset.sum_congr rfl fun d hd => by rw [show (64 * 1 + d) % 64 = d by have := Finset.mem_range.mp hd; omega])
    · intro d hd
      have hd := Finset.mem_range.mp hd
      by_cases h2 : d < 64
      · rw [sel_pos h2, if_neg (by omega), EReal.coe_zero]
      · rw [sel_neg h2, lane H.hG (by show 256 * n + (r - 256) < 2048; omega) hd, lane H.hO (by show 256 * n + (r - 256) < 2048; omega) hd, ← EReal.coe_mul, if_pos (by omega), show d / 64 = 1 by omega]

theorem tlse_eq {n r : ℕ} (hn : n < 8) (hr : r < 512) :
    tlse Ls n r = ((Real.log (rZ (q (r / 256)) (k (r / 256)) (c (r / 256)) (256 * n + r % 256)) : ℝ) : EReal) := by
  unfold tlse
  by_cases h1 : r < 256
  · rw [sel_pos h1, show r / 256 = 0 by omega, show r % 256 = r by omega]
    exact H.hL 0 (256 * n + r) (by omega) (by omega)
  · rw [sel_neg h1, show r / 256 = 1 by omega, show r % 256 = r - 256 by omega]
    exact H.hL 1 (256 * n + (r - 256)) (by omega) (by omega)

theorem tS_eq {n r s : ℕ} (hn : n < 8) (hr : r < 512) (hs : s < 2048) :
    tS Q K Cm j n (r, s) = ((rL (q (r / 256)) (k (r / 256)) (c (r / 256)) (256 * n + r % 256) s : ℝ) : EReal) := by
  have hb : r / 256 < 2 := by omega
  have h1 : sel (r < 256) (Cm (2 * j, s)) (Cm (2 * j + 1, s)) = ((c (r / 256) s : ℝ) : EReal) := by
    by_cases h1 : r < 256
    · rw [sel_pos h1, show r / 256 = 0 by omega]
      exact H.hC 0 s (by omega) hs
    · rw [sel_neg h1, show r / 256 = 1 by omega]
      exact H.hC 1 s (by omega) hs
  unfold tS rL
  simp only
  rw [h1, coe_sum' _ (r := fun d => if d / 64 = r / 256 then q (r / 256) (256 * n + r % 256) (d % 64) * (1 / 8) * k (r / 256) s (d % 64) else 0), sum_head _ hb, ← EReal.coe_sub]
  · congr 2
    rw [Finset.sum_mul]
    refine Finset.sum_congr rfl fun d hd => ?_
    rw [show (64 * (r / 256) + d) % 64 = d by have := Finset.mem_range.mp hd; omega]
    ring
  · intro d hd
    have hd := Finset.mem_range.mp hd
    rw [H.tq_eq hn hr hd, lane H.hK hs hd, ← EReal.coe_mul]
    by_cases h2 : d / 64 = r / 256
    · rw [if_pos h2, if_pos h2, h2]
    · rw [if_neg h2, if_neg h2, zero_mul]

theorem tP_eq {n r s : ℕ} (hn : n < 8) (hr : r < 512) (hs : s < 2048) :
    tP Q K Cm Ls j n (r, s) = ((rP (q (r / 256)) (k (r / 256)) (c (r / 256)) (256 * n + r % 256) s : ℝ) : EReal) := by
  unfold tP
  simp only
  rw [H.tlse_eq hn hr]
  by_cases h : s ≤ 256 * n + r % 256
  · rw [sel_pos h, H.tS_eq hn hr hs, ← EReal.coe_sub, Ideal.exp_coe, exp_sub_log _ _ _ (by omega) h]
  · rw [sel_neg h, rP_zero _ _ _ (by omega), EReal.bot_sub, Ideal.exp_bot, EReal.coe_zero]

theorem tD_eq {n r s : ℕ} (hn : n < 8) (hr : r < 512) (hs : s < 2048) :
    tD Q K V Cm Ls Ob Do j n (r, s)
      = ((rD (q (r / 256)) (k (r / 256)) (v (r / 256)) (g (r / 256)) (c (r / 256)) (256 * n + r % 256) s : ℝ) : EReal) := by
  have hb : r / 256 < 2 := by omega
  unfold tD rD rG
  simp only
  rw [H.tP_eq hn hr hs, H.tdelta_eq hn hr,
    coe_sum' _ (r := fun d => if d / 64 = r / 256 then g (r / 256) (256 * n + r % 256) (d % 64) * v (r / 256) s (d % 64) else 0), sum_head _ hb, ← EReal.coe_sub, ← EReal.coe_mul]
  · congr 3
    refine Finset.sum_congr rfl fun d hd => ?_
    rw [show (64 * (r / 256) + d) % 64 = d by have := Finset.mem_range.mp hd; omega]
  · intro d hd
    have hd := Finset.mem_range.mp hd
    rw [H.tdo_eq hn hr hd, lane H.hV hs hd, ← EReal.coe_mul]
    by_cases h2 : d / 64 = r / 256
    · rw [if_pos h2, if_pos h2, h2]
    · rw [if_neg h2, if_neg h2, zero_mul]

theorem tdk_eq {n s e : ℕ} (hn : n < 8) (hs : s < 2048) (he : e < 128) :
    tdk Q K V Cm Ls Ob Do j n (s, e) = ((∑ r ∈ Finset.range 256, rD (q (e / 64)) (k (e / 64)) (v (e / 64)) (g (e / 64)) (c (e / 64)) (256 * n + r) s
      * (q (e / 64) (256 * n + r) (e % 64) * (1 / 8)) : ℝ) : EReal) := by
  unfold tdk
  simp only
  rw [coe_sum' _ (r := fun r => if r / 256 = e / 64 then rD (q (e / 64)) (k (e / 64)) (v (e / 64)) (g (e / 64)) (c (e / 64)) (256 * n + r % 256) s
    * (q (e / 64) (256 * n + r % 256) (e % 64) * (1 / 8)) else 0), sum_half _ (by omega)]
  · refine congrArg _ (Finset.sum_congr rfl fun r hr => ?_)
    rw [show (256 * (e / 64) + r) % 256 = r by have := Finset.mem_range.mp hr; omega]
  · intro r hr
    have hr := Finset.mem_range.mp hr
    rw [H.tD_eq hn hr hs, H.tq_eq hn hr he, ← EReal.coe_mul]
    by_cases h2 : e / 64 = r / 256
    · rw [if_pos h2, if_pos h2.symm, h2]
    · rw [if_neg h2, if_neg (Ne.symm h2), mul_zero]

theorem tdv_eq {n s e : ℕ} (hn : n < 8) (hs : s < 2048) (he : e < 128) :
    tdv Q K Cm Ls Do j n (s, e) = ((∑ r ∈ Finset.range 256, rP (q (e / 64)) (k (e / 64)) (c (e / 64)) (256 * n + r) s
      * g (e / 64) (256 * n + r) (e % 64) : ℝ) : EReal) := by
  unfold tdv
  simp only
  rw [coe_sum' _ (r := fun r => if r / 256 = e / 64 then rP (q (e / 64)) (k (e / 64)) (c (e / 64)) (256 * n + r % 256) s
    * g (e / 64) (256 * n + r % 256) (e % 64) else 0), sum_half _ (by omega)]
  · refine congrArg _ (Finset.sum_congr rfl fun r hr => ?_)
    rw [show (256 * (e / 64) + r) % 256 = r by have := Finset.mem_range.mp hr; omega]
  · intro r hr
    have hr := Finset.mem_range.mp hr
    rw [H.tP_eq hn hr hs, H.tdo_eq hn hr he, ← EReal.coe_mul]
    by_cases h2 : e / 64 = r / 256
    · rw [if_pos h2, if_pos h2.symm, h2]
    · rw [if_neg h2, if_neg (Ne.symm h2), mul_zero]

/-- The key gradients that a grid point gathers. -/
theorem dk_eq {s e : ℕ} (hs : s < 2048) (he : e < 128) :
    rowsAt (tdk Q K V Cm Ls Ob Do j) 16 (s, e) = ((rdk (q (e / 64)) (k (e / 64)) (v (e / 64)) (g (e / 64)) (c (e / 64)) s (e % 64) : ℝ) : EReal) := by
  unfold rowsAt rdk
  rw [hacc_real (fun n hn => H.tdk_eq hn hs he)]
  · rw [sum_blocks (fun t => rD (q (e / 64)) (k (e / 64)) (v (e / 64)) (g (e / 64)) (c (e / 64)) t s * (q (e / 64) t (e % 64) * (1 / 8))) 8]
  · intro n hn h
    have h : 256 * (n + 1) ≤ s := h
    refine Finset.sum_eq_zero fun r hr => ?_
    rw [rD_zero _ _ _ _ _ (by have := Finset.mem_range.mp hr; omega), zero_mul]

/-- The value gradients that a grid point gathers. -/
theorem dv_eq {s e : ℕ} (hs : s < 2048) (he : e < 128) :
    rowsAt (tdv Q K Cm Ls Do j) 16 (s, e) = ((rdv (q (e / 64)) (k (e / 64)) (g (e / 64)) (c (e / 64)) s (e % 64) : ℝ) : EReal) := by
  unfold rowsAt rdv
  rw [hacc_real (fun n hn => H.tdv_eq hn hs he)]
  · rw [sum_blocks (fun t => rP (q (e / 64)) (k (e / 64)) (c (e / 64)) t s * g (e / 64) t (e % 64)) 8]
  · intro n hn h
    have h : 256 * (n + 1) ≤ s := h
    refine Finset.sum_eq_zero fun r hr => ?_
    rw [rP_zero _ _ _ (by have := Finset.mem_range.mp hr; omega), zero_mul]

theorem tc0_eq {s : ℕ} (hs : s < 2048) : hacc (fun n => tc0 Q K V Cm Ls Ob Do j n s) s 16 = ((rck (q 0) (k 0) (v 0) (g 0) (c 0) s : ℝ) : EReal) := by
  unfold rck
  rw [hacc_real (f := fun n => ∑ r ∈ Finset.range 256, rD (q 0) (k 0) (v 0) (g 0) (c 0) (256 * n + r) s)]
  · rw [sum_blocks (fun t => rD (q 0) (k 0) (v 0) (g 0) (c 0) t s) 8]
  · intro n hn
    unfold tc0
    refine coe_sum' _ fun r hr => ?_
    have hr := Finset.mem_range.mp hr
    rw [H.tD_eq hn (by omega) hs, show r / 256 = 0 by omega, show r % 256 = r by omega]
  · intro n hn h
    exact Finset.sum_eq_zero fun r hr => rD_zero _ _ _ _ _ (by have := Finset.mem_range.mp hr; omega)

theorem tc1_eq {s : ℕ} (hs : s < 2048) : hacc (fun n => tc1 Q K V Cm Ls Ob Do j n s) s 16 = ((rck (q 1) (k 1) (v 1) (g 1) (c 1) s : ℝ) : EReal) := by
  unfold rck
  rw [hacc_real (f := fun n => ∑ r ∈ Finset.range 256, rD (q 1) (k 1) (v 1) (g 1) (c 1) (256 * n + r) s)]
  · rw [sum_blocks (fun t => rD (q 1) (k 1) (v 1) (g 1) (c 1) t s) 8]
  · intro n hn
    unfold tc1
    refine coe_sum' _ fun r hr => ?_
    have hr := Finset.mem_range.mp hr
    rw [H.tD_eq hn (by omega) hs, show (256 + r) / 256 = 1 by omega, show (256 + r) % 256 = r by omega]
  · intro n hn h
    exact Finset.sum_eq_zero fun r hr => rD_zero _ _ _ _ _ (by have := Finset.mem_range.mp hr; omega)

theorem trow_real {n r : ℕ} (hn : n < 8) (hr : r < 512) :
    trow Q K V Cm Ls Ob Do j n r = ((rcq (q (r / 256)) (k (r / 256)) (v (r / 256)) (g (r / 256)) (c (r / 256)) (256 * n + r % 256) : ℝ) : EReal) := by
  unfold trow rcq
  rw [← sum_row _ hn (fun s h => rD_zero _ _ _ _ _ (by omega))]
  exact coe_sum' _ fun s hs => H.tD_eq hn hr (by have := Finset.mem_range.mp hs; omega)

/-- The query bias gradients of a pair, in its two lanes. -/
theorem lanes_eq {t e : ℕ} (ht : t < 2048) :
    tlanes Q K V Cm Ls Ob Do j (t / 256) (t % 256, e) = sel (e = 2 * j) ((rcq (q 0) (k 0) (v 0) (g 0) (c 0) t : ℝ) : EReal)
      (sel (e = 2 * j + 1) ((rcq (q 1) (k 1) (v 1) (g 1) (c 1) t : ℝ) : EReal) 0) := by
  unfold tlanes
  simp only
  rw [H.trow_real (by omega) (by omega), H.trow_real (by omega) (by omega), show t % 256 / 256 = 0 by omega, show (256 + t % 256) / 256 = 1 by omega,
    show t % 256 % 256 = t % 256 by omega, show (256 + t % 256) % 256 = t % 256 by omega, show 256 * (t / 256) + t % 256 = t by omega]

theorem tdq2_real {n r e : ℕ} (hn : n < 8) (hr : r < 512) (he : e < 128) (hb : e / 64 = r / 256) :
    tdq2 Q K V Cm Ls Ob Do j n (r, e) = ((∑ s ∈ Finset.range 2048, rD (q (r / 256)) (k (r / 256)) (v (r / 256)) (g (r / 256)) (c (r / 256)) (256 * n + r % 256) s
      * k (r / 256) s (e % 64) : ℝ) : EReal) := by
  unfold tdq2
  simp only
  rw [← sum_row _ hn (fun s h => by rw [rD_zero _ _ _ _ _ (by omega), zero_mul])]
  refine coe_sum' _ fun s hs => ?_
  have hs := Finset.mem_range.mp hs
  rw [H.tD_eq hn hr (by omega), lane H.hK (by omega) he, ← EReal.coe_mul, hb]

theorem dq_eq {t e : ℕ} (ht : t < 2048) (he : e < 128) :
    tdq Q K V Cm Ls Ob Do j (t / 256) (t % 256, e) = ((rdq (q (e / 64)) (k (e / 64)) (v (e / 64)) (g (e / 64)) (c (e / 64)) t (e % 64) : ℝ) : EReal) := by
  unfold tdq rdq c8
  simp only
  by_cases h : e < 64
  · rw [sel_pos h, H.tdq2_real (by omega) (by omega) he (by omega), ← EReal.coe_mul, show t % 256 / 256 = 0 by omega, show e / 64 = 0 by omega,
      show t % 256 % 256 = t % 256 by omega, show 256 * (t / 256) + t % 256 = t by omega]
  · rw [sel_neg h, H.tdq2_real (by omega) (by omega) he (by omega), ← EReal.coe_mul, show (256 + t % 256) / 256 = 1 by omega, show e / 64 = 1 by omega,
      show (256 + t % 256) % 256 = t % 256 by omega, show 256 * (t / 256) + t % 256 = t by omega]

/-- The packed gradients of a pair, in real numbers. -/
theorem packed_eq {t e : ℕ} (ht : t < 2048) (he : e < 384) :
    packed Q K V Cm Ls Ob Do j (t, e) = ((if e / 128 = 0 then rdq (q (e % 128 / 64)) (k (e % 128 / 64)) (v (e % 128 / 64)) (g (e % 128 / 64)) (c (e % 128 / 64)) t (e % 64)
      else if e / 128 = 1 then rdk (q (e % 128 / 64)) (k (e % 128 / 64)) (v (e % 128 / 64)) (g (e % 128 / 64)) (c (e % 128 / 64)) t (e % 64)
      else rdv (q (e % 128 / 64)) (k (e % 128 / 64)) (g (e % 128 / 64)) (c (e % 128 / 64)) t (e % 64) : ℝ) : EReal) := by
  unfold packed
  simp only
  by_cases h0 : e < 128
  · rw [sel_pos h0, H.dq_eq ht h0, if_pos (by omega), show e % 128 = e by omega]
  · rw [sel_neg h0, if_neg (by omega)]
    by_cases h1 : e < 256
    · rw [sel_pos h1, H.dk_eq ht (by omega), if_pos (by omega), show e % 128 = e - 128 by omega, show (e - 128) % 64 = e % 64 by omega]
    · rw [sel_neg h1, H.dv_eq ht (by omega), if_neg (by omega), show e % 128 = e - 256 by omega, show (e - 256) % 64 = e % 64 by omega]

end PairOf

end Cert.Fox

end
-- ==== Proof.FoxSoft.lean ====
/- Real entries of the arguments, sums and row maxima over a row's keys, and the row's exponentials. -/
module

public import proofs.«01_k».proof.Proof.FoxReal
public import Idealize.ShloMosaic.Lib.Pointwise

@[expose] public section

noncomputable section

namespace Cert.Fox

open Idealize.ShloMosaic

/-- An array's entry as a real number, zero outside the array. -/
def realAt {R C : ℕ} (a : (⟨2, ![R, C]⟩ : Shape).Idx → EReal) (t x : ℕ) : ℝ := if h : t < R ∧ x < C then (a (ix2 ⟨t, h.1⟩ ⟨x, h.2⟩)).toReal else 0

theorem realAt_eq {R C : ℕ} {a : (⟨2, ![R, C]⟩ : Shape).Idx → EReal} {t : Fin R} {x : Fin C} (hb : a (ix2 t x) ≠ ⊥) (ht : a (ix2 t x) ≠ ⊤) :
    a (ix2 t x) = ((realAt a t.val x.val : ℝ) : EReal) := by
  unfold realAt
  rw [dif_pos ⟨t.isLt, x.isLt⟩]
  exact (EReal.coe_toReal ht hb).symm

/-- Head `h`'s queries (`o = 0`), keys (`o = 1`) or values (`o = 2`), which the projection packs by pairs of heads. -/
def hd (a0 : (⟨2, ![2048, 3712]⟩ : Shape).Idx → EReal) (o h t d : ℕ) : ℝ := realAt a0 t (384 * (h / 2) + 128 * o + 64 * (h % 2) + d)

/-- Head `h`'s cotangent. -/
def gd (a2 : (⟨2, ![2048, 512]⟩ : Shape).Idx → EReal) (h t d : ℕ) : ℝ := realAt a2 t (64 * h + d)

/-- Head `h`'s bias. -/
def bd (a1 : (⟨2, ![128, 2048]⟩ : Shape).Idx → EReal) (h s : ℕ) : ℝ := realAt a1 h s

/-- The entries that the attention reads are real numbers. -/
structure Reals (a0 : (⟨2, ![2048, 3712]⟩ : Shape).Idx → EReal) (a1 : (⟨2, ![128, 2048]⟩ : Shape).Idx → EReal) (a2 : (⟨2, ![2048, 512]⟩ : Shape).Idx → EReal) : Prop where
  h0 : ∀ (t : Fin 2048) (x : Fin 3712), x.val < 1536 → a0 (ix2 t x) = ((realAt a0 t.val x.val : ℝ) : EReal)
  h1 : ∀ (h : Fin 128) (s : Fin 2048), h.val < 8 → a1 (ix2 h s) = ((realAt a1 h.val s.val : ℝ) : EReal)
  h2 : ∀ (t : Fin 2048) (x : Fin 512), a2 (ix2 t x) = ((realAt a2 t.val x.val : ℝ) : EReal)

/-- A sum of reals over an axis. -/
theorem fsum {n : ℕ} {f : Fin n → EReal} {r : ℕ → ℝ} (h : ∀ x : Fin n, f x = ((r x.val : ℝ) : EReal)) : ∑ x, f x = ((∑ d ∈ Finset.range n, r d : ℝ) : EReal) := by
  rw [coe_sum' _ (r := fun x : Fin n => r x.val) (fun x _ => h x), Finset.sum_range]

theorem bot_bits : Ideal.ofBits .f32 4286578688#32 = ⊥ := by simp [Ideal.ofBits, Ideal.ieee]

theorem eighth_bits : Ideal.ofBits .f32 1040187392#32 = ((1 / 8 : ℝ) : EReal) := by
  simp [Ideal.ofBits, Ideal.ieee, -EReal.coe_mul]
  norm_num

/-- The choice by the order of two positions. -/
theorem select_le {α : Type} (s t : Fin 2048) (a b : α) :
    Scalar.select (IntOp.cmpi .sle (BitVec.ofNat 32 s.val) (BitVec.ofNat 32 t.val)) a b = if s.val ≤ t.val then a else b := by
  unfold Scalar.select
  have h := sle_small (a := s.val) (b := t.val) (by omega) (by omega)
  by_cases hc : s.val ≤ t.val
  · rw [if_pos hc, if_pos (h.mpr hc)]
  · rw [if_neg hc, if_neg (fun h' => hc (h.mp h'))]

theorem fold_real {ι : Type} (x : ι → EReal) (hx : ∀ s, x s = ⊥ ∨ ∃ r : ℝ, x s = (r : EReal)) (S : Finset ι) :
    S.fold max ⊥ x = ⊥ ∨ ∃ r : ℝ, S.fold max ⊥ x = (r : EReal) := by
  classical
  induction S using Finset.induction_on with
  | empty => exact Or.inl rfl
  | insert a S ha ih =>
    rw [Finset.fold_insert ha]
    rcases max_choice (x a) (S.fold max ⊥ x) with h | h <;> rw [h]
    · exact hx a
    · exact ih

/-- A row's maximum is a real number, and the exponentials less that maximum are real too. -/
theorem row_max {x : Fin 2048 → EReal} {l : ℕ → ℝ} {t : ℕ} (hx : ∀ s : Fin 2048, x s = if s.val ≤ t then ((l s.val : ℝ) : EReal) else ⊥) :
    ∃ M : ℝ, Finset.fold max (Ideal.ofBits .f32 4286578688#32) x Finset.univ = (M : EReal)
      ∧ ∀ s : Fin 2048, Ideal.exp (x s - (M : EReal)) = ((if s.val ≤ t then Real.exp (l s.val - M) else 0 : ℝ) : EReal) := by
  rw [bot_bits]
  have h := fold_real x (fun s => by
    rw [hx s]
    by_cases hs : s.val ≤ t
    · rw [if_pos hs]; exact Or.inr ⟨_, rfl⟩
    · rw [if_neg hs]; exact Or.inl rfl) Finset.univ
  have hge : x ⟨0, by omega⟩ ≤ Finset.univ.fold max ⊥ x := (Finset.le_fold_max _).mpr (Or.inr ⟨_, Finset.mem_univ _, le_rfl⟩)
  rcases h with h | ⟨M, h⟩
  · rw [h, hx, if_pos (Nat.zero_le t)] at hge
    exact absurd (le_bot_iff.mp hge) (EReal.coe_ne_bot _)
  · refine ⟨M, h, fun s => ?_⟩
    rw [hx s]
    by_cases hs : s.val ≤ t
    · rw [if_pos hs, if_pos hs, ← EReal.coe_sub, Ideal.exp_coe]
    · rw [if_neg hs, if_neg hs, EReal.bot_sub, Ideal.exp_bot, EReal.coe_zero]

/-- A quotient of reals. -/
theorem div_real {x y : ℝ} (h : y ≠ 0) : Ideal.div (x : EReal) (y : EReal) = ((x / y : ℝ) : EReal) := by
  rw [Ideal.div_coe h, ← EReal.coe_mul, mul_one_div]

end Cert.Fox

end
-- ==== Proof.FoxHostDef.lean ====
/- The kernel's host operations before its call as named functions of its arguments, over the extended reals. -/
module

public import proofs.«01_k».proof.Proof.FoxRuns

@[expose] public section

noncomputable section

namespace Cert.Fox

open Cert.KernelIdeal Cert.KernelIdeal.Gen Idealize.ShloMosaic Idealize.ShloMosaic.TcCoe Idealize.SL.Sem Idealize.ShloMosaic.StableHlo

def hv0 (a0 : FVec Ideal S2048x3712 .f32) : FVec Ideal S2048x1536 .f32 := extractStridedSlice S2048x1536 ![0, 0] a0 slices_S2048x3712_S2048x1536_0_0

def hv1 (a0 : FVec Ideal S2048x3712 .f32) : FVec Ideal S2048x4x3x128 .f32 := shapeCast S2048x4x3x128 (hv0 a0) shapeCasts_S2048x1536_S2048x4x3x128

def hv2 (a0 : FVec Ideal S2048x3712 .f32) : FVec Ideal S2048x4x1x128 .f32 := extractStridedSlice S2048x4x1x128 ![0, 0, 0, 0] (hv1 a0) slices_S2048x4x3x128_S2048x4x1x128_0_0_0_0

def hv3 (a0 : FVec Ideal S2048x3712 .f32) : FVec Ideal S2048x4x128 .f32 := shapeCast S2048x4x128 (hv2 a0) shapeCasts_S2048x4x1x128_S2048x4x128

def hv4 (a0 : FVec Ideal S2048x3712 .f32) : FVec Ideal S2048x8x64 .f32 := shapeCast S2048x8x64 (hv3 a0) shapeCasts_S2048x4x128_S2048x8x64

def hv5 (a0 : FVec Ideal S2048x3712 .f32) : FVec Ideal S2048x4x1x128 .f32 := extractStridedSlice S2048x4x1x128 ![0, 0, 1, 0] (hv1 a0) slices_S2048x4x3x128_S2048x4x1x128_0_0_1_0

def hv6 (a0 : FVec Ideal S2048x3712 .f32) : FVec Ideal S2048x4x128 .f32 := shapeCast S2048x4x128 (hv5 a0) shapeCasts_S2048x4x1x128_S2048x4x128

def hv7 (a0 : FVec Ideal S2048x3712 .f32) : FVec Ideal S2048x8x64 .f32 := shapeCast S2048x8x64 (hv6 a0) shapeCasts_S2048x4x128_S2048x8x64

def hv8 (a0 : FVec Ideal S2048x3712 .f32) : FVec Ideal S2048x4x1x128 .f32 := extractStridedSlice S2048x4x1x128 ![0, 0, 2, 0] (hv1 a0) slices_S2048x4x3x128_S2048x4x1x128_0_0_2_0

def hv9 (a0 : FVec Ideal S2048x3712 .f32) : FVec Ideal S2048x4x128 .f32 := shapeCast S2048x4x128 (hv8 a0) shapeCasts_S2048x4x1x128_S2048x4x128

def hv10 (a0 : FVec Ideal S2048x3712 .f32) : FVec Ideal S2048x8x64 .f32 := shapeCast S2048x8x64 (hv9 a0) shapeCasts_S2048x4x128_S2048x8x64

def hv11 (a1 : FVec Ideal S128x2048 .f32) : FVec Ideal S8x2048 .f32 := extractStridedSlice S8x2048 ![0, 0] a1 slices_S128x2048_S8x2048_0_0

def hv12 (a0 : FVec Ideal S2048x3712 .f32) : FVec Ideal S8x2048x2048 .f32 := Host.dotGeneral dot_S2048x8x64_S2048x8x64_S8x2048x2048_2_2_0_0_1_1 none (hv4 a0) (hv7 a0)

def hv_cst : FVec Ideal S_ .f32 := (constant S_ .f32 0x3E000000#32)

def hv13 : FVec Ideal S8x2048x2048 .f32 := broadcastInDim S8x2048x2048 ![] bcast_S_S8x2048x2048 hv_cst

def hv14 (a0 : FVec Ideal S2048x3712 .f32) : FVec Ideal S8x2048x2048 .f32 := mulf (hv12 a0) hv13

def hv15 (a1 : FVec Ideal S128x2048 .f32) : FVec Ideal S8x1x2048 .f32 := broadcastInDim S8x1x2048 ![0, 2] bcast_S8x2048_S8x1x2048_0_2 (hv11 a1)

def hv16 (a1 : FVec Ideal S128x2048 .f32) : FVec Ideal S8x2048x2048 .f32 := broadcastInDim S8x2048x2048 ![0, 1, 2] bcast_S8x1x2048_S8x2048x2048_0_1_2 (hv15 a1)

def hv17 (a0 : FVec Ideal S2048x3712 .f32) (a1 : FVec Ideal S128x2048 .f32) : FVec Ideal S8x2048x2048 .f32 := subf (hv14 a0) (hv16 a1)

def hv18 : IVec S2048 32 := (iotaInDim S2048 32 0)

def hv19 : IVec S1x2048 32 := broadcastInDim S1x2048 ![1] bcast_S2048_S1x2048_1 hv18

def hv20 : IVec S2048 32 := (iotaInDim S2048 32 0)

def hv21 : IVec S2048x1 32 := broadcastInDim S2048x1 ![0] bcast_S2048_S2048x1_0 hv20

def hv22 : IVec S2048x2048 32 := broadcastInDim S2048x2048 ![0, 1] bcast_S1x2048_S2048x2048_0_1 hv19

def hv23 : IVec S2048x2048 32 := broadcastInDim S2048x2048 ![0, 1] bcast_S2048x1_S2048x2048_0_1 hv21

def hv24 : IVec S2048x2048 1 := cmpi .sle hv22 hv23

def hv_cst_0 : FVec Ideal S_ .f32 := (constant S_ .f32 0xFF800000#32)

def hv_call0_v0 : FVec Ideal S_ .f32 := hv_cst_0

def hv_call0_v1 : IVec S8x2048x2048 1 := (broadcastInDim S8x2048x2048 ![1, 2] bcast_S2048x2048_S8x2048x2048_1_2) hv24

def hv_call0_v2 : FVec Ideal S8x2048x2048 .f32 := (broadcastInDim S8x2048x2048 ![] bcast_S_S8x2048x2048) hv_call0_v0

def hv25 (a0 : FVec Ideal S2048x3712 .f32) (a1 : FVec Ideal S128x2048 .f32) : FVec Ideal S8x2048x2048 .f32 := select hv_call0_v1 (hv17 a0 a1) hv_call0_v2

def hv_cst_1 : FVec Ideal S_ .f32 := (constant S_ .f32 0xFF800000#32)

def hv26 (a0 : FVec Ideal S2048x3712 .f32) (a1 : FVec Ideal S128x2048 .f32) : FVec Ideal S8x2048 .f32 := Host.reduce FloatOps.maximumf (hv25 a0 a1) hv_cst_1 reducesTo_S8x2048x2048_S8x2048_d2 h_S_

def hv27 (a0 : FVec Ideal S2048x3712 .f32) (a1 : FVec Ideal S128x2048 .f32) : FVec Ideal S8x2048x1 .f32 := broadcastInDim S8x2048x1 ![0, 1] bcast_S8x2048_S8x2048x1_0_1 (hv26 a0 a1)

def hv28 (a0 : FVec Ideal S2048x3712 .f32) (a1 : FVec Ideal S128x2048 .f32) : FVec Ideal S8x2048x2048 .f32 := broadcastInDim S8x2048x2048 ![0, 1, 2] bcast_S8x2048x1_S8x2048x2048_0_1_2 (hv27 a0 a1)

def hv29 (a0 : FVec Ideal S2048x3712 .f32) (a1 : FVec Ideal S128x2048 .f32) : FVec Ideal S8x2048x2048 .f32 := subf (hv25 a0 a1) (hv28 a0 a1)

def hv30 (a0 : FVec Ideal S2048x3712 .f32) (a1 : FVec Ideal S128x2048 .f32) : FVec Ideal S8x2048x2048 .f32 := Host.exp (hv29 a0 a1)

def hv_cst_2 : FVec Ideal S_ .f32 := (constant S_ .f32 0x00000000#32)

def hv31 (a0 : FVec Ideal S2048x3712 .f32) (a1 : FVec Ideal S128x2048 .f32) : FVec Ideal S8x2048 .f32 := Host.reduceAdd (hv30 a0 a1) hv_cst_2 reducesTo_S8x2048x2048_S8x2048_d2 h_S_

def hv32 (a0 : FVec Ideal S2048x3712 .f32) (a1 : FVec Ideal S128x2048 .f32) : FVec Ideal S8x2048x1 .f32 := broadcastInDim S8x2048x1 ![0, 1] bcast_S8x2048_S8x2048x1_0_1 (hv31 a0 a1)

def hv33 (a0 : FVec Ideal S2048x3712 .f32) (a1 : FVec Ideal S128x2048 .f32) : FVec Ideal S8x2048x2048 .f32 := broadcastInDim S8x2048x2048 ![0, 1, 2] bcast_S8x2048x1_S8x2048x2048_0_1_2 (hv32 a0 a1)

def hv34 (a0 : FVec Ideal S2048x3712 .f32) (a1 : FVec Ideal S128x2048 .f32) : FVec Ideal S8x2048x2048 .f32 := Host.divf (hv30 a0 a1) (hv33 a0 a1)

def hv35 (a0 : FVec Ideal S2048x3712 .f32) (a1 : FVec Ideal S128x2048 .f32) : FVec Ideal S8x64x2048 .f32 := Host.dotGeneral dot_S2048x8x64_S8x2048x2048_S8x64x2048_0_2_2_1_1_0 none (hv10 a0) (hv34 a0 a1)

def hv36 (a0 : FVec Ideal S2048x3712 .f32) (a1 : FVec Ideal S128x2048 .f32) : FVec Ideal S2048x8x64 .f32 := transpose S2048x8x64 [2, 0, 1] (hv35 a0 a1) transposes_S8x64x2048_S2048x8x64_2_0_1

def hv37 (a0 : FVec Ideal S2048x3712 .f32) (a1 : FVec Ideal S128x2048 .f32) : FVec Ideal S8x2048 .f32 := Host.log (hv31 a0 a1)

def hv38 (a0 : FVec Ideal S2048x3712 .f32) (a1 : FVec Ideal S128x2048 .f32) : FVec Ideal S8x2048 .f32 := addf (hv26 a0 a1) (hv37 a0 a1)

def hv39 (a0 : FVec Ideal S2048x3712 .f32) (a1 : FVec Ideal S128x2048 .f32) : FVec Ideal S2048x8 .f32 := transpose S2048x8 [1, 0] (hv38 a0 a1) transposes_S8x2048_S2048x8_1_0

def hv40 (a0 : FVec Ideal S2048x3712 .f32) (a1 : FVec Ideal S128x2048 .f32) : FVec Ideal S2048x8x1 .f32 := broadcastInDim S2048x8x1 ![0, 1] bcast_S2048x8_S2048x8x1_0_1 (hv39 a0 a1)

def hv41 (a0 : FVec Ideal S2048x3712 .f32) (a1 : FVec Ideal S128x2048 .f32) : FVec Ideal S2048x8x64 .f32 := broadcastInDim S2048x8x64 ![0, 1, 2] bcast_S2048x8x1_S2048x8x64_0_1_2 (hv40 a0 a1)

def hv42 (a0 : FVec Ideal S2048x3712 .f32) (a1 : FVec Ideal S128x2048 .f32) : FVec Ideal S2048x512 .f32 := shapeCast S2048x512 (hv41 a0 a1) shapeCasts_S2048x8x64_S2048x512

def hv43 (a0 : FVec Ideal S2048x3712 .f32) (a1 : FVec Ideal S128x2048 .f32) : FVec Ideal S2048x512 .f32 := shapeCast S2048x512 (hv36 a0 a1) shapeCasts_S2048x8x64_S2048x512

set_option maxRecDepth 8192 in
theorem V_main_v42 (m : (ℓ : Loc nD τ sig) → Buf (Elt Ideal) ℓ) (c : Dev nD) :
    V m c main_v42 = hv42 (m ((c : Thread nD τ).loc main_arg0)) (m ((c : Thread nD τ).loc main_arg1)) := by
  show StableHlo.after (List.flatten [hostOps0, hostOps0_1, hostOps0_2]) (fun b => m (c, b)) main_v42 = _
  simp only [hostOps0, hostOps0_1, hostOps0_2, List.flatten_cons, List.flatten_nil, List.append_nil, List.cons_append,
      List.nil_append, TRef.binary, TRef.nullary, TRef.ternary, TRef.unary, TRef.toBuf, TRef.ofBuf, cast_eq]
  after_results_simp
  rfl

set_option maxRecDepth 8192 in
theorem V_main_v43 (m : (ℓ : Loc nD τ sig) → Buf (Elt Ideal) ℓ) (c : Dev nD) :
    V m c main_v43 = hv43 (m ((c : Thread nD τ).loc main_arg0)) (m ((c : Thread nD τ).loc main_arg1)) := by
  show StableHlo.after (List.flatten [hostOps0, hostOps0_1, hostOps0_2]) (fun b => m (c, b)) main_v43 = _
  simp only [hostOps0, hostOps0_1, hostOps0_2, List.flatten_cons, List.flatten_nil, List.append_nil, List.cons_append,
      List.nil_append, TRef.binary, TRef.nullary, TRef.ternary, TRef.unary, TRef.toBuf, TRef.ofBuf, cast_eq]
  after_results_simp
  rfl

end Cert.Fox

end
-- ==== Proof.FoxHost.lean ====
/- What the kernel's host operations compute before its call, in real numbers: the attention's output and the row logarithms. -/
module

public import proofs.«01_k».proof.Proof.FoxSoft
public import proofs.«01_k».proof.Proof.FoxHostDef

@[expose] public section

noncomputable section

namespace Cert.Fox

open Cert.KernelIdeal Cert.KernelIdeal.Gen Idealize.ShloMosaic Idealize.ShloMosaic.TcCoe Idealize.SL.Sem

variable {a0 : FVec Ideal S2048x3712 .f32} {a1 : FVec Ideal S128x2048 .f32} {a2 : FVec Ideal S2048x512 .f32} (H : Reals a0 a1 a2)
include H

theorem col0 (t : Fin 2048) (o h d c : ℕ) (ho : o < 3) (hh : h < 8) (hd' : d < 64) (hc : c < 3712) (he : c = 384 * (h / 2) + 128 * o + 64 * (h % 2) + d) :
    a0 (ix2 t ⟨c, hc⟩) = ((hd a0 o h t.val d : ℝ) : EReal) := by
  subst he
  exact H.h0 t _ (show 384 * (h / 2) + 128 * o + 64 * (h % 2) + d < 1536 by omega)

theorem hv4_at (h : Fin 8) (t : Fin 2048) (d : Fin 64) : hv4 a0 (ix3 t h d) = ((hd a0 0 h.val t.val d.val : ℝ) : EReal) := by
  pointwise [hv4, hv3, hv2, hv1, hv0]
  exact col0 H t 0 h.val d.val _ (by omega) h.isLt d.isLt _ (by omega)

theorem hv7_at (h : Fin 8) (t : Fin 2048) (d : Fin 64) : hv7 a0 (ix3 t h d) = ((hd a0 1 h.val t.val d.val : ℝ) : EReal) := by
  pointwise [hv7, hv6, hv5, hv1, hv0]
  exact col0 H t 1 h.val d.val _ (by omega) h.isLt d.isLt _ (by omega)

theorem hv10_at (h : Fin 8) (t : Fin 2048) (d : Fin 64) : hv10 a0 (ix3 t h d) = ((hd a0 2 h.val t.val d.val : ℝ) : EReal) := by
  pointwise [hv10, hv9, hv8, hv1, hv0]
  exact col0 H t 2 h.val d.val _ (by omega) h.isLt d.isLt _ (by omega)

theorem hv17_at (h : Fin 8) (t s : Fin 2048) : hv17 a0 a1 (ix3 h t s) = ((rL (hd a0 0 h.val) (hd a0 1 h.val) (bd a1 h.val) t.val s.val : ℝ) : EReal) := by
  pointwise [hv17, hv14, hv13, hv_cst, hv12, hv16, hv15, hv11]
  rw [fsum (r := fun d => hd a0 0 h.val t.val d * hd a0 1 h.val s.val d) (fun d => by rw [hv4_at H, hv7_at H, EReal.coe_mul]), eighth_bits,
    H.h1 ⟨h.val, by omega⟩ s h.isLt, ← EReal.coe_mul, ← EReal.coe_sub]
  rfl

theorem hv25_at (h : Fin 8) (t s : Fin 2048) : hv25 a0 a1 (ix3 h t s)
    = if s.val ≤ t.val then ((rL (hd a0 0 h.val) (hd a0 1 h.val) (bd a1 h.val) t.val s.val : ℝ) : EReal) else ⊥ := by
  pointwise [hv25, hv_call0_v1, hv24, hv22, hv23, hv19, hv21, hv18, hv20, hv_call0_v2, hv_call0_v0, hv_cst_0]
  rw [select_le, bot_bits, hv17_at H]

theorem hv26_at (h : Fin 8) (t : Fin 2048) : ∃ M : ℝ, hv26 a0 a1 (ix2 h t) = (M : EReal)
    ∧ ∀ s, hv30 a0 a1 (ix3 h t s) = ((Real.exp (-M) * rE (hd a0 0 h.val) (hd a0 1 h.val) (bd a1 h.val) t.val s.val : ℝ) : EReal) := by
  obtain ⟨M, hM, he⟩ := row_max (x := fun s => hv25 a0 a1 (ix3 h t s)) (fun s => hv25_at H h t s)
  have h26 : hv26 a0 a1 (ix2 h t) = (M : EReal) := by
    pointwise [hv26, hv_cst_1]
    exact hM
  refine ⟨M, h26, fun s => ?_⟩
  pointwise [hv30, hv29, hv28, hv27]
  rw [h26]
  refine (he s).trans (congrArg _ ?_)
  unfold rE
  split
  · rw [← Real.exp_add, neg_add_eq_sub]
  · rw [mul_zero]

theorem hv31_at (h : Fin 8) (t : Fin 2048) : ∃ M : ℝ, hv26 a0 a1 (ix2 h t) = (M : EReal)
    ∧ (∀ s, hv30 a0 a1 (ix3 h t s) = ((Real.exp (-M) * rE (hd a0 0 h.val) (hd a0 1 h.val) (bd a1 h.val) t.val s.val : ℝ) : EReal))
    ∧ hv31 a0 a1 (ix2 h t) = ((Real.exp (-M) * rZ (hd a0 0 h.val) (hd a0 1 h.val) (bd a1 h.val) t.val : ℝ) : EReal) := by
  obtain ⟨M, h26, h30⟩ := hv26_at H h t
  refine ⟨M, h26, h30, ?_⟩
  pointwise [hv31, hv_cst_2]
  rw [fsum (r := fun s => Real.exp (-M) * rE (hd a0 0 h.val) (hd a0 1 h.val) (bd a1 h.val) t.val s) (fun s => h30 s), ← Finset.mul_sum]
  rfl

omit H in
theorem add_log_at (X Y : FVec Ideal S8x2048 .f32) (h : Fin 8) (t : Fin 2048) : addf X (Host.log Y) (ix2 h t) = X (ix2 h t) + Ideal.log (Y (ix2 h t)) := rfl

theorem hv38_at (h : Fin 8) (t : Fin 2048) : hv38 a0 a1 (ix2 h t) = ((Real.log (rZ (hd a0 0 h.val) (hd a0 1 h.val) (bd a1 h.val) t.val) : ℝ) : EReal) := by
  obtain ⟨M, h26, -, h31⟩ := hv31_at H h t
  have hz := rZ_pos (hd a0 0 h.val) (hd a0 1 h.val) (bd a1 h.val) t.isLt
  rw [hv38, hv37, add_log_at, h26, h31, Ideal.log_coe, if_neg (not_le.mpr (mul_pos (Real.exp_pos _) hz)), ← EReal.coe_add, Real.log_mul (Real.exp_pos _).ne' hz.ne', Real.log_exp, add_neg_cancel_left]

theorem hv34_at (h : Fin 8) (t s : Fin 2048) : hv34 a0 a1 (ix3 h t s) = ((rP (hd a0 0 h.val) (hd a0 1 h.val) (bd a1 h.val) t.val s.val : ℝ) : EReal) := by
  obtain ⟨M, h26, h30, h31⟩ := hv31_at H h t
  have hz := rZ_pos (hd a0 0 h.val) (hd a0 1 h.val) (bd a1 h.val) t.isLt
  pointwise [hv34, hv33, hv32]
  rw [h30, h31, div_real (mul_pos (Real.exp_pos _) hz).ne', mul_div_mul_left _ _ (Real.exp_pos _).ne']
  rfl

theorem hv36_at (h : Fin 8) (t : Fin 2048) (d : Fin 64) : hv36 a0 a1 (ix3 t h d)
    = ((rO (hd a0 0 h.val) (hd a0 1 h.val) (hd a0 2 h.val) (bd a1 h.val) t.val d.val : ℝ) : EReal) := by
  pointwise [hv36, hv35]
  exact fsum (r := fun s => rP (hd a0 0 h.val) (hd a0 1 h.val) (bd a1 h.val) t.val s * hd a0 2 h.val s d.val) (fun s => by
    rw [hv10_at H, hv34_at H, ← EReal.coe_mul, mul_comm])

theorem hv41_at (h : Fin 8) (t : Fin 2048) (d : Fin 64) : hv41 a0 a1 (ix3 t h d) = ((Real.log (rZ (hd a0 0 h.val) (hd a0 1 h.val) (bd a1 h.val) t.val) : ℝ) : EReal) := by
  pointwise [hv41, hv40, hv39]
  exact hv38_at H h t

/-- The row logarithms, one head's in its 64 lanes. -/
theorem hv42_at (t : Fin 2048) (e : Fin 512) : hv42 a0 a1 (ix2 t e)
    = ((Real.log (rZ (hd a0 0 (e.val / 64)) (hd a0 1 (e.val / 64)) (bd a1 (e.val / 64)) t.val) : ℝ) : EReal) := by
  pointwise [hv42]
  exact hv41_at H _ t _

/-- The attention's output, one head's in its 64 lanes. -/
theorem hv43_at (t : Fin 2048) (e : Fin 512) : hv43 a0 a1 (ix2 t e)
    = ((rO (hd a0 0 (e.val / 64)) (hd a0 1 (e.val / 64)) (hd a0 2 (e.val / 64)) (bd a1 (e.val / 64)) t.val (e.val % 64) : ℝ) : EReal) := by
  pointwise [hv43]
  exact hv36_at H _ t _

end Cert.Fox

end
-- ==== Proof.FoxRunA.lean ====
/- The run of the kernel's body at the first grid point, with what it leaves in every output named. -/
module

public import proofs.«01_k».proof.Proof.FoxRuns

@[expose] public section

set_option maxRecDepth 16384

noncomputable section

namespace Cert.Fox

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2504000 in
/-- What the body's stores leave in each output's staging memref, as pieces (last first) IN CASE A (`scf.if` 0 taken: points 0), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (b2 : Memref sig .tc .vmem S2048x128 .f32) (w2 : b2.IsWhole) (b3 : Memref sig .tc .vmem S2048x128 .f32) (w3 : b3.IsWhole) (b4 : Memref sig .tc .vmem S2048x128 .f32) (w4 : b4.IsWhole) (b5 : Memref sig .tc .vmem S128x2048 .f32) (w5 : b5.IsWhole) (b6 : Memref sig .tc .vmem S2048x128 .f32) (w6 : b6.IsWhole) (b7 : Memref sig .tc .vmem S2048x128 .f32) (w7 : b7.IsWhole) (b8 : Memref sig .tc .vmem S2048x128 .f32) (w8 : b8.IsWhole) (b10 : Memref sig .tc .vmem S2048x384 .bf16) (w10 : b10.IsWhole) (b11 : Memref sig .tc .vmem S2048x128 .f32) (w11 : b11.IsWhole) (b12 : Memref sig .tc .vmem S128x2048 .f32) (w12 : b12.IsWhole) (b13 : Memref sig .tc .vmem S2048x128 .f32) (w13 : b13.IsWhole) (b14 : Memref sig .tc .vmem S2048x128 .f32) (w14 : b14.IsWhole) (hc0 : cond0_0 i)
    (x0 : Vec F S2048x128 .f32) (x1 : Vec F S2048x128 .f32) (x2 : Vec F S2048x128 .f32) (x3 : Vec F S128x2048 .f32) (x4 : Vec F S2048x128 .f32) (x5 : Vec F S2048x128 .f32) (x6 : Vec F S2048x128 .f32) :
    Σ' (L7 : List (View.Piece (Elt F) S2048x384 .bf16)), Σ' (L8 : List (View.Piece (Elt F) S2048x128 .f32)), Σ' (L9 : List (View.Piece (Elt F) S128x2048 .f32)), Σ' (LT0 : List (View.Piece (Elt F) S2048x128 .f32)), { LT1 : List (View.Piece (Elt F) S2048x128 .f32) //
      ∀ (E : Set ℕ) (K : PUnit → sProp 𝕄),
        iprop(owns (c : Thread nD τ) b2 fullShare x0 ∗ owns (c : Thread nD τ) b3 fullShare x1 ∗ owns (c : Thread nD τ) b4 fullShare x2 ∗ owns (c : Thread nD τ) b5 fullShare x3 ∗ owns (c : Thread nD τ) b6 fullShare x4 ∗ owns (c : Thread nD τ) b7 fullShare x5 ∗ owns (c : Thread nD τ) b8 fullShare x6 ∗ (∃ d, owns (c : Thread nD τ) b10 fullShare d) ∗ (∃ d, owns (c : Thread nD τ) b11 fullShare d) ∗ (∃ d, owns (c : Thread nD τ) b12 fullShare d) ∗ (∃ d, owns (c : Thread nD τ) b13 fullShare d) ∗ (∃ d, owns (c : Thread nD τ) b14 fullShare d)
            ∗ (iprop(owns (c : Thread nD τ) b2 fullShare x0 ∗ owns (c : Thread nD τ) b3 fullShare x1 ∗ owns (c : Thread nD τ) b4 fullShare x2 ∗ owns (c : Thread nD τ) b5 fullShare x3 ∗ owns (c : Thread nD τ) b6 fullShare x4 ∗ owns (c : Thread nD τ) b7 fullShare x5 ∗ owns (c : Thread nD τ) b8 fullShare x6 ∗ (∃ f, b10.view.loc (c : Thread nD τ) ↦[b10.view.set]{fullShare} b10.view.writes (Elt F) f L7) ∗ (∃ f, b11.view.loc (c : Thread nD τ) ↦[b11.view.set]{fullShare} b11.view.writes (Elt F) f L8) ∗ (∃ f, b12.view.loc (c : Thread nD τ) ↦[b12.view.set]{fullShare} b12.view.writes (Elt F) f L9) ∗ (∃ f, b13.view.loc (c : Thread nD τ) ↦[b13.view.set]{fullShare} b13.view.writes (Elt F) f LT0) ∗ (∃ f, b14.view.loc (c : Thread nD τ) ↦[b14.view.set]{fullShare} b14.view.writes (Elt F) f LT1)) -∗ K ⟨⟩))
          ⊢ wp frame (wpE (defs₀ (F := F)) Variants.none c none) E (cc0_fox_bwd i (Memref.whole main_arg4) (Memref.isWhole_whole _) b2 w2 b3 w3 b4 w4 b5 w5 b6 w6 b7 w7 b8 w8 (Memref.whole main_arg3) (Memref.isWhole_whole _) b10 w10 b11 w11 b12 w12 b13 w13 b14 w14) K } := by
  refine ⟨?_, ?_, ?_, ?_, ?_, fun E K => ?run⟩
  case run =>
    simp only [cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, Hk⟩
    obtain rfl := w2.eq_unread hf0; obtain rfl := w3.eq_unread hf1; obtain rfl := w4.eq_unread hf2; obtain rfl := w5.eq_unread hf3; obtain rfl := w6.eq_unread hf4; obtain rfl := w7.eq_unread hf5; obtain rfl := w8.eq_unread hf6
    sl_exec (disch := first | sl_exact hc0)
    sl_step
    iapply Hk
    isplitl [H0]
    · iexists _; isplitr; · ipureintro; exact w2.read_unread _
      iexact H0
    isplitl [H1]
    · iexists _; isplitr; · ipureintro; exact w3.read_unread _
      iexact H1
    isplitl [H2]
    · iexists _; isplitr; · ipureintro; exact w4.read_unread _
      iexact H2
    isplitl [H3]
    · iexists _; isplitr; · ipureintro; exact w5.read_unread _
      iexact H3
    isplitl [H4]
    · iexists _; isplitr; · ipureintro; exact w6.read_unread _
      iexact H4
    isplitl [H5]
    · iexists _; isplitr; · ipureintro; exact w7.read_unread _
      iexact H5
    isplitl [H6]
    · iexists _; isplitr; · ipureintro; exact w8.read_unread _
      iexact H6
    isplitl [H7]; · iexists _; iexact H7
    isplitl [H8]; · iexists _; iexact H8
    isplitl [H9]; · iexists _; iexact H9
    isplitl [HS0]; · iexists _; iexact HS0
    iexists _; iexact HS1

end Cert.Fox

end
-- ==== Proof.FoxRunB.lean ====
/- The run of the kernel's body at a later grid point, with what it leaves in every output named. -/
module

public import proofs.«01_k».proof.Proof.FoxRunA

@[expose] public section

set_option maxRecDepth 16384

noncomputable section

namespace Cert.Fox

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2488000 in
/-- What the body's stores leave in each output's staging memref, as pieces (last first) IN CASE B (`scf.if` 0 not taken: points 1, 2, 3), WITH the
    proof that on whole staging memrefs — the inputs' at their contents, the outputs it reads before covering (8, 9) at their running contents `xo·`, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (b2 : Memref sig .tc .vmem S2048x128 .f32) (w2 : b2.IsWhole) (b3 : Memref sig .tc .vmem S2048x128 .f32) (w3 : b3.IsWhole) (b4 : Memref sig .tc .vmem S2048x128 .f32) (w4 : b4.IsWhole) (b5 : Memref sig .tc .vmem S128x2048 .f32) (w5 : b5.IsWhole) (b6 : Memref sig .tc .vmem S2048x128 .f32) (w6 : b6.IsWhole) (b7 : Memref sig .tc .vmem S2048x128 .f32) (w7 : b7.IsWhole) (b8 : Memref sig .tc .vmem S2048x128 .f32) (w8 : b8.IsWhole) (b10 : Memref sig .tc .vmem S2048x384 .bf16) (w10 : b10.IsWhole) (b11 : Memref sig .tc .vmem S2048x128 .f32) (w11 : b11.IsWhole) (b12 : Memref sig .tc .vmem S128x2048 .f32) (w12 : b12.IsWhole) (b13 : Memref sig .tc .vmem S2048x128 .f32) (w13 : b13.IsWhole) (b14 : Memref sig .tc .vmem S2048x128 .f32) (w14 : b14.IsWhole) (hc0 : ¬cond0_0 i)
    (x0 : Vec F S2048x128 .f32) (x1 : Vec F S2048x128 .f32) (x2 : Vec F S2048x128 .f32) (x3 : Vec F S128x2048 .f32) (x4 : Vec F S2048x128 .f32) (x5 : Vec F S2048x128 .f32) (x6 : Vec F S2048x128 .f32) (xo8 : Vec F S2048x128 .f32) (xo9 : Vec F S128x2048 .f32) :
    Σ' (L7 : List (View.Piece (Elt F) S2048x384 .bf16)), Σ' (L8 : List (View.Piece (Elt F) S2048x128 .f32)), Σ' (L9 : List (View.Piece (Elt F) S128x2048 .f32)), Σ' (LT0 : List (View.Piece (Elt F) S2048x128 .f32)), { LT1 : List (View.Piece (Elt F) S2048x128 .f32) //
      ∀ (E : Set ℕ) (K : PUnit → sProp 𝕄),
        iprop(owns (c : Thread nD τ) b2 fullShare x0 ∗ owns (c : Thread nD τ) b3 fullShare x1 ∗ owns (c : Thread nD τ) b4 fullShare x2 ∗ owns (c : Thread nD τ) b5 fullShare x3 ∗ owns (c : Thread nD τ) b6 fullShare x4 ∗ owns (c : Thread nD τ) b7 fullShare x5 ∗ owns (c : Thread nD τ) b8 fullShare x6 ∗ (∃ d, owns (c : Thread nD τ) b10 fullShare d) ∗ owns (c : Thread nD τ) b11 fullShare xo8 ∗ owns (c : Thread nD τ) b12 fullShare xo9 ∗ (∃ d, owns (c : Thread nD τ) b13 fullShare d) ∗ (∃ d, owns (c : Thread nD τ) b14 fullShare d)
            ∗ (iprop(owns (c : Thread nD τ) b2 fullShare x0 ∗ owns (c : Thread nD τ) b3 fullShare x1 ∗ owns (c : Thread nD τ) b4 fullShare x2 ∗ owns (c : Thread nD τ) b5 fullShare x3 ∗ owns (c : Thread nD τ) b6 fullShare x4 ∗ owns (c : Thread nD τ) b7 fullShare x5 ∗ owns (c : Thread nD τ) b8 fullShare x6 ∗ (∃ f, b10.view.loc (c : Thread nD τ) ↦[b10.view.set]{fullShare} b10.view.writes (Elt F) f L7) ∗ (∃ f, b11.view.loc (c : Thread nD τ) ↦[b11.view.set]{fullShare} b11.view.writes (Elt F) f L8) ∗ (b12.view.loc (c : Thread nD τ) ↦[b12.view.set]{fullShare} b12.view.writes (Elt F) (w12.unread xo9) L9) ∗ (∃ f, b13.view.loc (c : Thread nD τ) ↦[b13.view.set]{fullShare} b13.view.writes (Elt F) f LT0) ∗ (∃ f, b14.view.loc (c : Thread nD τ) ↦[b14.view.set]{fullShare} b14.view.writes (Elt F) f LT1)) -∗ K ⟨⟩))
          ⊢ wp frame (wpE (defs₀ (F := F)) Variants.none c none) E (cc0_fox_bwd i (Memref.whole main_arg4) (Memref.isWhole_whole _) b2 w2 b3 w3 b4 w4 b5 w5 b6 w6 b7 w7 b8 w8 (Memref.whole main_arg3) (Memref.isWhole_whole _) b10 w10 b11 w11 b12 w12 b13 w13 b14 w14) K } := by
  refine ⟨?_, ?_, ?_, ?_, ?_, fun E K => ?run⟩
  case run =>
    simp only [cc0_fox_bwd_eq_skeleton]; unfold cc0_fox_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, ⟨%ds1, %fs1, -, HS1⟩, Hk⟩
    obtain rfl := w2.eq_unread hf0; obtain rfl := w3.eq_unread hf1; obtain rfl := w4.eq_unread hf2; obtain rfl := w5.eq_unread hf3; obtain rfl := w6.eq_unread hf4; obtain rfl := w7.eq_unread hf5; obtain rfl := w8.eq_unread hf6; obtain rfl := w11.eq_unread hf8; obtain rfl := w12.eq_unread hf9
    sl_exec (disch := first | sl_exact hc0)
    sl_step
    iapply Hk
    isplitl [H0]
    · iexists _; isplitr; · ipureintro; exact w2.read_unread _
      iexact H0
    isplitl [H1]
    · iexists _; isplitr; · ipureintro; exact w3.read_unread _
      iexact H1
    isplitl [H2]
    · iexists _; isplitr; · ipureintro; exact w4.read_unread _
      iexact H2
    isplitl [H3]
    · iexists _; isplitr; · ipureintro; exact w5.read_unread _
      iexact H3
    isplitl [H4]
    · iexists _; isplitr; · ipureintro; exact w6.read_unread _
      iexact H4
    isplitl [H5]
    · iexists _; isplitr; · ipureintro; exact w7.read_unread _
      iexact H5
    isplitl [H6]
    · iexists _; isplitr; · ipureintro; exact w8.read_unread _
      iexact H6
    isplitl [H7]; · iexists _; iexact H7
    isplitl [H8]; · iexists _; iexact H8
    isplitl [H9]; · iexact H9
    isplitl [HS0]; · iexists _; iexact HS0
    iexists _; iexact HS1

end Cert.Fox

end
-- ==== Proof.FoxFrame.lean ====
/- The frame of the kernel with its outputs named: what each grid point leaves, that it covers the output, and the run of the whole region. -/
module

public import proofs.«01_k».proof.Proof.FoxRunB
public import Idealize.ShloMosaic.Lib.Claim

@[expose] public section

set_option maxRecDepth 16384

noncomputable section

namespace Cert.Fox

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

section
variable (c : Dev nD) (i : grid0.Coords) (b2 : Memref sig .tc .vmem S2048x128 .f32) (w2 : b2.IsWhole) (b3 : Memref sig .tc .vmem S2048x128 .f32) (w3 : b3.IsWhole) (b4 : Memref sig .tc .vmem S2048x128 .f32) (w4 : b4.IsWhole) (b5 : Memref sig .tc .vmem S128x2048 .f32) (w5 : b5.IsWhole) (b6 : Memref sig .tc .vmem S2048x128 .f32) (w6 : b6.IsWhole) (b7 : Memref sig .tc .vmem S2048x128 .f32) (w7 : b7.IsWhole) (b8 : Memref sig .tc .vmem S2048x128 .f32) (w8 : b8.IsWhole) (b10 : Memref sig .tc .vmem S2048x384 .bf16) (w10 : b10.IsWhole) (b11 : Memref sig .tc .vmem S2048x128 .f32) (w11 : b11.IsWhole) (b12 : Memref sig .tc .vmem S128x2048 .f32) (w12 : b12.IsWhole) (b13 : Memref sig .tc .vmem S2048x128 .f32) (w13 : b13.IsWhole) (b14 : Memref sig .tc .vmem S2048x128 .f32) (w14 : b14.IsWhole)
  (hc0 : cond0_0 i) (x0 : Vec F S2048x128 .f32) (x1 : Vec F S2048x128 .f32) (x2 : Vec F S2048x128 .f32) (x3 : Vec F S128x2048 .f32) (x4 : Vec F S2048x128 .f32) (x5 : Vec F S2048x128 .f32) (x6 : Vec F S2048x128 .f32)

/-- Case A's pieces for output 7 cover its block. -/
theorem cover0_A_7 (y : S2048x384.Idx) :
    ∃ pc ∈ (kernelRun0_A c i b2 w2 b3 w3 b4 w4 b5 w5 b6 w6 b7 w7 b8 w8 b10 w10 b11 w11 b12 w12 b13 w13 b14 w14 hc0 x0 x1 x2 x3 x4 x5 x6).1, y ∈ pc.1.set :=
  View.cover_of_tiledBy (kernelRun0_A c i b2 w2 b3 w3 b4 w4 b5 w5 b6 w6 b7 w7 b8 w8 b10 w10 b11 w11 b12 w12 b13 w13 b14 w14 hc0 x0 x1 x2 x3 x4 x5 x6).1 ![256, 128] (by sl_kernel_rfl) y

/-- What case A leaves in output 7's staging buffer: its pieces read back over junk. -/
def out0_A_7 : Vec F S2048x384 .bf16 :=
  VO0_7.read (Elt F) (VO0_7.writes (Elt F) VO0_7.junk (kernelRun0_A c i b2 w2 b3 w3 b4 w4 b5 w5 b6 w6 b7 w7 b8 w8 b10 w10 b11 w11 b12 w12 b13 w13 b14 w14 hc0 x0 x1 x2 x3 x4 x5 x6).1)

/-- Case A's pieces for output 8 cover its block. -/
theorem cover0_A_8 (y : S2048x128.Idx) :
    ∃ pc ∈ (kernelRun0_A c i b2 w2 b3 w3 b4 w4 b5 w5 b6 w6 b7 w7 b8 w8 b10 w10 b11 w11 b12 w12 b13 w13 b14 w14 hc0 x0 x1 x2 x3 x4 x5 x6).2.1, y ∈ pc.1.set :=
  View.cover_of_tiledBy (kernelRun0_A c i b2 w2 b3 w3 b4 w4 b5 w5 b6 w6 b7 w7 b8 w8 b10 w10 b11 w11 b12 w12 b13 w13 b14 w14 hc0 x0 x1 x2 x3 x4 x5 x6).2.1 ![256, 128] (by sl_kernel_rfl) y

/-- What case A leaves in output 8's staging buffer: its pieces read back over junk. -/
def out0_A_8 : Vec F S2048x128 .f32 :=
  VO0_8.read (Elt F) (VO0_8.writes (Elt F) VO0_8.junk (kernelRun0_A c i b2 w2 b3 w3 b4 w4 b5 w5 b6 w6 b7 w7 b8 w8 b10 w10 b11 w11 b12 w12 b13 w13 b14 w14 hc0 x0 x1 x2 x3 x4 x5 x6).2.1)

/-- Case A's pieces for output 9 cover its block. -/
theorem cover0_A_9 (y : S128x2048.Idx) :
    ∃ pc ∈ (kernelRun0_A c i b2 w2 b3 w3 b4 w4 b5 w5 b6 w6 b7 w7 b8 w8 b10 w10 b11 w11 b12 w12 b13 w13 b14 w14 hc0 x0 x1 x2 x3 x4 x5 x6).2.2.1, y ∈ pc.1.set :=
  View.cover_of_wholeMem (kernelRun0_A c i b2 w2 b3 w3 b4 w4 b5 w5 b6 w6 b7 w7 b8 w8 b10 w10 b11 w11 b12 w12 b13 w13 b14 w14 hc0 x0 x1 x2 x3 x4 x5 x6).2.2.1 (by sl_whole_mem) y

/-- What case A leaves in output 9's staging buffer: its pieces read back over junk. -/
def out0_A_9 : Vec F S128x2048 .f32 :=
  VO0_9.read (Elt F) (VO0_9.writes (Elt F) VO0_9.junk (kernelRun0_A c i b2 w2 b3 w3 b4 w4 b5 w5 b6 w6 b7 w7 b8 w8 b10 w10 b11 w11 b12 w12 b13 w13 b14 w14 hc0 x0 x1 x2 x3 x4 x5 x6).2.2.1)

end

section
variable (c : Dev nD) (i : grid0.Coords) (b2 : Memref sig .tc .vmem S2048x128 .f32) (w2 : b2.IsWhole) (b3 : Memref sig .tc .vmem S2048x128 .f32) (w3 : b3.IsWhole) (b4 : Memref sig .tc .vmem S2048x128 .f32) (w4 : b4.IsWhole) (b5 : Memref sig .tc .vmem S128x2048 .f32) (w5 : b5.IsWhole) (b6 : Memref sig .tc .vmem S2048x128 .f32) (w6 : b6.IsWhole) (b7 : Memref sig .tc .vmem S2048x128 .f32) (w7 : b7.IsWhole) (b8 : Memref sig .tc .vmem S2048x128 .f32) (w8 : b8.IsWhole) (b10 : Memref sig .tc .vmem S2048x384 .bf16) (w10 : b10.IsWhole) (b11 : Memref sig .tc .vmem S2048x128 .f32) (w11 : b11.IsWhole) (b12 : Memref sig .tc .vmem S128x2048 .f32) (w12 : b12.IsWhole) (b13 : Memref sig .tc .vmem S2048x128 .f32) (w13 : b13.IsWhole) (b14 : Memref sig .tc .vmem S2048x128 .f32) (w14 : b14.IsWhole)
  (hc0 : ¬cond0_0 i) (x0 : Vec F S2048x128 .f32) (x1 : Vec F S2048x128 .f32) (x2 : Vec F S2048x128 .f32) (x3 : Vec F S128x2048 .f32) (x4 : Vec F S2048x128 .f32) (x5 : Vec F S2048x128 .f32) (x6 : Vec F S2048x128 .f32)

/-- Case B's pieces for output 7 cover its block. -/
theorem cover0_B_7 (xo8 : Vec F S2048x128 .f32) (xo9 : Vec F S128x2048 .f32) (y : S2048x384.Idx) :
    ∃ pc ∈ (kernelRun0_B c i b2 w2 b3 w3 b4 w4 b5 w5 b6 w6 b7 w7 b8 w8 b10 w10 b11 w11 b12 w12 b13 w13 b14 w14 hc0 x0 x1 x2 x3 x4 x5 x6 xo8 xo9).1, y ∈ pc.1.set :=
  View.cover_of_tiledBy (kernelRun0_B c i b2 w2 b3 w3 b4 w4 b5 w5 b6 w6 b7 w7 b8 w8 b10 w10 b11 w11 b12 w12 b13 w13 b14 w14 hc0 x0 x1 x2 x3 x4 x5 x6 xo8 xo9).1 ![256, 128] (by sl_kernel_rfl) y

/-- What case B leaves in output 7's staging buffer: its pieces read back over junk. -/
def out0_B_7 (xo8 : Vec F S2048x128 .f32) (xo9 : Vec F S128x2048 .f32) : Vec F S2048x384 .bf16 :=
  VO0_7.read (Elt F) (VO0_7.writes (Elt F) VO0_7.junk (kernelRun0_B c i b2 w2 b3 w3 b4 w4 b5 w5 b6 w6 b7 w7 b8 w8 b10 w10 b11 w11 b12 w12 b13 w13 b14 w14 hc0 x0 x1 x2 x3 x4 x5 x6 xo8 xo9).1)

/-- Case B's pieces for output 8 cover its block. -/
theorem cover0_B_8 (xo8 : Vec F S2048x128 .f32) (xo9 : Vec F S128x2048 .f32) (y : S2048x128.Idx) :
    ∃ pc ∈ (kernelRun0_B c i b2 w2 b3 w3 b4 w4 b5 w5 b6 w6 b7 w7 b8 w8 b10 w10 b11 w11 b12 w12 b13 w13 b14 w14 hc0 x0 x1 x2 x3 x4 x5 x6 xo8 xo9).2.1, y ∈ pc.1.set :=
  View.cover_of_tiledL (kernelRun0_B c i b2 w2 b3 w3 b4 w4 b5 w5 b6 w6 b7 w7 b8 w8 b10 w10 b11 w11 b12 w12 b13 w13 b14 w14 hc0 x0 x1 x2 x3 x4 x5 x6 xo8 xo9).2.1 S256x128.size (by sl_kernel_rfl) y

/-- What case B leaves in output 8's staging buffer: its pieces read back over junk. -/
def out0_B_8 (xo8 : Vec F S2048x128 .f32) (xo9 : Vec F S128x2048 .f32) : Vec F S2048x128 .f32 :=
  VO0_8.read (Elt F) (VO0_8.writes (Elt F) VO0_8.junk (kernelRun0_B c i b2 w2 b3 w3 b4 w4 b5 w5 b6 w6 b7 w7 b8 w8 b10 w10 b11 w11 b12 w12 b13 w13 b14 w14 hc0 x0 x1 x2 x3 x4 x5 x6 xo8 xo9).2.1)

/-- What case B leaves in output 9's staging buffer: its stores read back over what the point before left there (they do not cover the block). -/
def out0_B_9 (xo8 : Vec F S2048x128 .f32) (xo9 : Vec F S128x2048 .f32) : Vec F S128x2048 .f32 :=
  b12.view.read (Elt F) (b12.view.writes (Elt F) (w12.unread xo9) (kernelRun0_B c i b2 w2 b3 w3 b4 w4 b5 w5 b6 w6 b7 w7 b8 w8 b10 w10 b11 w11 b12 w12 b13 w13 b14 w14 hc0 x0 x1 x2 x3 x4 x5 x6 xo8 xo9).2.2.1)

end

/-! ## What the outputs hold after each point -/

/-- What case A leaves at a point. -/
abbrev outsA (c : Dev nD) (t : Fin cfg0.N) (h0 : t.val % 4 = 0) : Vec F S2048x384 .bf16 × Vec F S2048x128 .f32 × Vec F S128x2048 .f32 :=
  (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t))

/-- What case B leaves at a point, over what the point before left. -/
abbrev outsB (c : Dev nD) (t : Fin cfg0.N) (h0 : ¬t.val % 4 = 0) (p : Vec F S2048x384 .bf16 × Vec F S2048x128 .f32 × Vec F S128x2048 .f32) : Vec F S2048x384 .bf16 × Vec F S2048x128 .f32 × Vec F S128x2048 .f32 :=
  (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) p.2.1 p.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) p.2.1 p.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) p.2.1 p.2.2)

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2048x384 .bf16 × Vec F S2048x128 .f32 × Vec F S128x2048 .f32
  | 0, hn => outsA m c ⟨0, hn⟩ (Nat.zero_mod _)
  | n + 1, hn => if h0 : (n + 1) % 4 = 0 then outsA m c ⟨n + 1, hn⟩ h0 else outsB m c ⟨n + 1, hn⟩ h0 (outsAt0 c n (Nat.lt_of_succ_lt hn))

/-- `outsAt0` at a point of case A: that case's contents. -/
theorem outsAt0_A (c : Dev nD) (t : Fin cfg0.N) (h0 : t.val % 4 = 0) :
    outsAt0 m c t.val t.isLt = outsA m c t h0 := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 4 = 0) :
    outsAt0 m c t.val t.isLt = outsB m c t h0 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 4 = 0) (d) :
    (dats m 0 c).before 8 t d = (outsAt0 m c (t.val - 1) (Nat.lt_of_le_of_lt (Nat.sub_le _ _) t.isLt)).2.1 := by
  have hN : t.val < 4 := lt_of_lt_of_eq t.isLt (show cfg0.N = 4 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 4 = 0) (d) :
    (dats m 0 c).before 9 t d = (outsAt0 m c (t.val - 1) (Nat.lt_of_le_of_lt (Nat.sub_le _ _) t.isLt)).2.2 := by
  have hN : t.val < 4 := lt_of_lt_of_eq t.isLt (show cfg0.N = 4 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  have hN : t.val < 4 := lt_of_lt_of_eq t.isLt (show cfg0.N = 4 from N_0)
  by_cases h0 : t.val % 4 = 0
  · rw [outsAt0_A m c t h0]
    unfold outsA out0_A_7 out0_A_8 out0_A_9; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, ⟨%e7, H7⟩, ⟨%e8, H8⟩, ⟨%e9, H9⟩, ⟨%fT0, HS0⟩, ⟨%fT1, HS1⟩⟩
    isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _)
    unfold owns; iexists _; isplitr
    swap; · iexact H9
    ipureintro; exact View.read_writes_of_cover _ _ _ _ _ (cover0_A_9 c _ _ _ _ _ _ _ _ _ _ _ _ _ _ _ _ _ _ _ _ _ _ _ _ _ _ _ _ _ _ _ _ _)
  · rw [outsAt0_B m c t h0]
    simp only [before0_8_B m c t h0, before0_9_B m c t h0]
    unfold out0_B_7 out0_B_8 out0_B_9; (try dsimp only)
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) _ _).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [HS0]; · iexact HS0
    isplitl [HS1]; · iexact HS1
    iintro ⟨H0, H1, H2, H3, H4, H5, H6, ⟨%e7, H7⟩, ⟨%e8, H8⟩, H9, ⟨%fT0, HS0⟩, ⟨%fT1, HS1⟩⟩
    isplitl [HS0 HS1 Hg]
    · isplitl [HS0 HS1]
      · isplitl [HS0]
        · iexists _; unfold owns; iexists _; isplitr
          swap; · iexact HS0
          ipureintro; rfl
        iexists _; unfold owns; iexists _; isplitr
        swap; · iexact HS1
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _ _ _)
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _)
    unfold owns; iexists _; isplitr
    swap; · iexact H9
    ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Fox

end
-- ==== Proof.FoxValue.lean ====
/- What each grid point writes back, read through the output's blocks, and the run with each output array named. -/
module

public import proofs.«01_k».proof.Proof.FoxFrame
public import Idealize.ShloMosaic.Lib.Pipeline.Value

@[expose] public section

noncomputable section

namespace Cert.Fox

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 7's array: the run's contents for that window after the body (`Gen.outsAt0`: its component 0), read through the window's block. -/
theorem flushed7 (c : Dev nD) (t : Fin cfg0.N) :
    (dats m 0 c).flushed 7 t = (cfg0.win 7).cut (grid0.coords t) ((outsAt0 m c t.val t.isLt).1) := by
  show (cfg0.win 7).cut (grid0.coords t) ((dats m 0 c).after 7 t) = _
  rw [after0_7]

/-- … so at a point where case A runs, what its write-back would write is that case's NAMED TERM for the window (`Gen.out0_A_7`: the pieces
    its run found, read back) at the point's memrefs and input blocks, and for an output the case reads back what the point before left (`Gen.outsAt0` at `t - 1`) — by the frame's rewriting lemma for the case. -/
theorem flushed7_A (c : Dev nD) (t : Fin cfg0.N) (h0 : t.val % 4 = 0) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)) := by
  simp only [flushed7, outsAt0_A m c t h0]

/-- … so at a point where case B runs, what its write-back would write is that case's NAMED TERM for the window (`Gen.out0_B_7`: the pieces
    its run found, read back) at the point's memrefs and input blocks, and for an output the case reads back what the point before left (`Gen.outsAt0` at `t - 1`) — by the frame's rewriting lemma for the case. -/
theorem flushed7_B (c : Dev nD) (t : Fin cfg0.N) (h0 : ¬t.val % 4 = 0) :
    (dats m 0 c).flushed 7 t = (cfg0.win 7).cut (grid0.coords t) (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed7, outsAt0_B m c t h0]

/-- The index map sends distinct grid points to distinct block indices (decided over the 4 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2048x3712.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Gen.outsAt0`: its component 1), read through the window's block. -/
theorem flushed8 (c : Dev nD) (t : Fin cfg0.N) :
    (dats m 0 c).flushed 8 t = (cfg0.win 8).cut (grid0.coords t) ((outsAt0 m c t.val t.isLt).2.1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 4 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 4 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed8, outsAt0_B m c t h0]

-- no `blocks8`: window 8's index map revisits a block index, or its points could not be enumerated here;
-- the final array is still the frame's `arrAt`, to read with Lib/Pipeline/Value.lean's lemmas by hand

/-- An index that no flushing point's block covers keeps output window 8's array contents at region entry. -/
theorem entry8 (c : Dev nD) (i : S2048x128.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 2), read through the window's block. -/
theorem flushed9 (c : Dev nD) (t : Fin cfg0.N) :
    (dats m 0 c).flushed 9 t = (cfg0.win 9).cut (grid0.coords t) ((outsAt0 m c t.val t.isLt).2.2) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 4 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 4 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2) := by
  simp only [flushed9, outsAt0_B m c t h0]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S128x2048.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v44_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v44_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v44_2) = (dats m 0 c).arrAt 9 cfg0.N :=
  (h c).1 9

/-- After the frame run, argument `main_arg0` is as launched: input window 2 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 2).trans (((dats m 0 c).arrAt_in 2 rfl _).trans ((A_eq m c 2).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: input window 6 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 6).trans (((dats m 0 c).arrAt_in 6 rfl _).trans ((A_eq m c 6).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v44_0) = (dats m 0 c).arrAt 7 cfg0.N
      ∧ r.2.mem ((c : Thread nD τ).loc main_v44_1) = (dats m 0 c).arrAt 8 cfg0.N
      ∧ r.2.mem ((c : Thread nD τ).loc main_v44_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post7 m r h c,
      post8 m r h c,
      post9 m r h c,
      kept_main_arg0 m r h c,
      kept_main_arg1 m r h c,
      kept_main_arg2 m r h c,
      kept_main_arg3 m r h c,
      kept_main_arg4 m r h c⟩)
    (run_main m ρ)

end Cert.Fox

end
-- ==== Proof.FoxPieceA1.lean ====
/- What the stores of run A write, as arrays of the block quantities. -/
module

public import proofs.«01_k».proof.Proof.FoxTile
public import proofs.«01_k».proof.Proof.FoxRunA

@[expose] public section

set_option maxRecDepth 10000
set_option maxHeartbeats 0

noncomputable section

namespace Cert.Fox

open Cert.KernelIdeal Cert.KernelIdeal.Gen Idealize.ShloMosaic Idealize.ShloMosaic.Updates kernelRun0_A
open Idealize.ShloMosaic.LaneScatter (Blk)

/-- What the stores of the two sums over the tiles write. -/
structure PieceS (c : Dev nD) (i : grid0.Coords) (b2 : MemB) (w2 : b2.IsWhole) (b3 : MemB) (w3 : b3.IsWhole) (b4 : MemB) (w4 : b4.IsWhole) (b5 : MemT) (w5 : b5.IsWhole) (b6 : MemB) (w6 : b6.IsWhole) (b7 : MemB) (w7 : b7.IsWhole) (b8 : MemB) (w8 : b8.IsWhole) (b13 : MemB) (x0 : VecB) (x1 : VecB) (x2 : VecB) (x3 : Vec Ideal S128x2048 .f32) (x4 : VecB) (x5 : VecB) (x6 : VecB) (Q : Arr EReal) (K : Arr EReal) (V : Arr EReal) (Cm : Arr EReal) (Ls : Arr EReal) (Ob : Arr EReal) (Do : Arr EReal) : Prop where
  HS0_1 : ∀ {A : Arr EReal} (_ : IsArr (β := EReal) (R := 256) (C := 128) (sl.v119 (F := Ideal) c b13) A), IsArr (k0_pay26 (sl.r_16 c i b2 w2 b3 w3 b4 w4 b5 w5 b6 w6 b7 w7 b8 w8 b13 x0 x1 x2 x3 x4 x5 x6)) (fun p => A p + tdk Q K V Cm Ls Ob Do (i 0).val 0 (0 + p.1, p.2))
  HS0_2 : ∀ {v : Vec Ideal S256x128 .f32} {A : Arr EReal} (_ : IsArr v A), IsArr (k0_pay54 v (sl.r_33 c i b2 w2 b3 w3 b4 w4 b5 w5 b6 w6 b7 w7 b8 w8 x0 x1 x2 x3 x4 x5 x6)) (fun p => A p + tdk Q K V Cm Ls Ob Do (i 0).val 1 (0 + p.1, p.2))
  HS0_3 : ∀ {v : Vec Ideal S256x128 .f32} {A : Arr EReal} (_ : IsArr v A), IsArr (k0_pay64 (sl.r_23 c b2 w2 x0) (sl.r_24 c b8 w8 x6) (sl.r_25 c b7 w7 b8 w8 x5 x6) (sl.r_35 c i b2 w2 b3 w3 b5 w5 b6 w6 x0 x1 x3 x4) (sl.r_36 c b4 w4 x2) v) (fun p => A p + tdk Q K V Cm Ls Ob Do (i 0).val 1 (256 + p.1, p.2))
  HS0_4 : ∀ {v : Vec Ideal S512x128 .f32} {A : Arr EReal} (_ : IsArr v A), IsArr (k0_pay84 (sl.r_1 c b4 w4 x2) (sl.r_41 c b2 w2 x0) (sl.r_42 c b8 w8 x6) (sl.r_43 c b7 w7 b8 w8 x5 x6) (sl.r_44 c b6 w6 x4) (sl.r_46 c i b2 w2 b3 w3 b5 w5 x0 x1 x3) v) (fun p => A p + tdk Q K V Cm Ls Ob Do (i 0).val 2 (0 + p.1, p.2))
  HS0_5 : ∀ {v : Vec Ideal S256x128 .f32} {A : Arr EReal} (_ : IsArr v A), IsArr (k0_pay93 (sl.r_1 c b4 w4 x2) (sl.r_41 c b2 w2 x0) (sl.r_42 c b8 w8 x6) (sl.r_43 c b7 w7 b8 w8 x5 x6) (sl.r_44 c b6 w6 x4) (sl.r_47 c i b2 w2 b3 w3 b5 w5 x0 x1 x3) v) (fun p => A p + tdk Q K V Cm Ls Ob Do (i 0).val 2 (512 + p.1, p.2))
  HS0_6 : ∀ {v : Vec Ideal S768x128 .f32} {A : Arr EReal} (_ : IsArr v A), IsArr (k0_pay122 (sl.r_1 c b4 w4 x2) (sl.r_61 c b2 w2 x0) (sl.r_62 c b8 w8 x6) (sl.r_63 c b7 w7 b8 w8 x5 x6) (sl.r_64 c b6 w6 x4) (sl.r_65 c i b2 w2 b3 w3 b5 w5 x0 x1 x3) v) (fun p => A p + tdk Q K V Cm Ls Ob Do (i 0).val 3 (0 + p.1, p.2))
  HS0_7 : ∀ {v : Vec Ideal S256x128 .f32} {A : Arr EReal} (_ : IsArr v A), IsArr (k0_pay132 (sl.r_1 c b4 w4 x2) (sl.r_61 c b2 w2 x0) (sl.r_62 c b8 w8 x6) (sl.r_63 c b7 w7 b8 w8 x5 x6) (sl.r_64 c b6 w6 x4) (sl.r_66 c i b2 w2 b3 w3 b5 w5 x0 x1 x3) v) (fun p => A p + tdk Q K V Cm Ls Ob Do (i 0).val 3 (768 + p.1, p.2))
  HS0_8 : ∀ {A : Arr EReal} (_ : IsArr (β := EReal) (R := 1024) (C := 128) (sl.v954 (F := Ideal) c i b2 w2 b3 w3 b4 w4 b5 w5 b6 w6 b7 w7 b8 w8 b13 x0 x1 x2 x3 x4 x5 x6) A), IsArr (k0_pay159 (sl.r_92 c i b2 w2 b3 w3 b4 w4 b5 w5 b6 w6 b7 w7 b8 w8 b13 x0 x1 x2 x3 x4 x5 x6)) (fun p => A p + tdk Q K V Cm Ls Ob Do (i 0).val 4 (0 + p.1, p.2))
  HS0_9 : ∀ {v : Vec Ideal S256x128 .f32} {A : Arr EReal} (_ : IsArr v A), IsArr (k0_pay170 (sl.r_81 c b2 w2 x0) (sl.r_94 c i b2 w2 b3 w3 b5 w5 b6 w6 x0 x1 x3 x4) (sl.r_95 c b4 w4 b8 w8 x2 x6) (sl.r_96 c b7 w7 b8 w8 x5 x6) v) (fun p => A p + tdk Q K V Cm Ls Ob Do (i 0).val 4 (1024 + p.1, p.2))
  HS0_10 : ∀ {v : Vec Ideal S1280x128 .f32} {A : Arr EReal} (_ : IsArr v A), IsArr (k0_pay191 (sl.r_1 c b4 w4 x2) (sl.r_103 c b2 w2 x0) (sl.r_104 c b8 w8 x6) (sl.r_105 c b7 w7 b8 w8 x5 x6) (sl.r_108 c i b2 w2 b3 w3 b5 w5 b6 w6 x0 x1 x3 x4) v) (fun p => A p + tdk Q K V Cm Ls Ob Do (i 0).val 5 (0 + p.1, p.2))
  HS0_11 : ∀ {v : Vec Ideal S256x128 .f32} {A : Arr EReal} (_ : IsArr v A), IsArr (k0_pay200 (sl.r_1 c b4 w4 x2) (sl.r_103 c b2 w2 x0) (sl.r_104 c b8 w8 x6) (sl.r_105 c b7 w7 b8 w8 x5 x6) (sl.r_106 c b6 w6 x4) (sl.r_107 c i b2 w2 b3 w3 b5 w5 x0 x1 x3) v) (fun p => A p + tdk Q K V Cm Ls Ob Do (i 0).val 5 (1280 + p.1, p.2))
  HS0_12 : ∀ {v : Vec Ideal S1536x128 .f32} {A : Arr EReal} (_ : IsArr v A), IsArr (k0_pay230 (sl.r_1 c b4 w4 x2) (sl.r_122 c b2 w2 x0) (sl.r_123 c b8 w8 x6) (sl.r_125 c b7 w7 b8 w8 x5 x6) (sl.r_126 c b6 w6 x4) (sl.r_127 c i b2 w2 b3 w3 b5 w5 x0 x1 x3) v) (fun p => A p + tdk Q K V Cm Ls Ob Do (i 0).val 6 (0 + p.1, p.2))
  HS0_13 : ∀ {v : Vec Ideal S256x128 .f32} {A : Arr EReal} (_ : IsArr v A), IsArr (k0_pay239 (sl.r_1 c b4 w4 x2) (sl.r_122 c b2 w2 x0) (sl.r_123 c b8 w8 x6) (sl.r_125 c b7 w7 b8 w8 x5 x6) (sl.r_126 c b6 w6 x4) (sl.r_128 c i b2 w2 b3 w3 b5 w5 x0 x1 x3) v) (fun p => A p + tdk Q K V Cm Ls Ob Do (i 0).val 6 (1536 + p.1, p.2))
  HS0_14 : ∀ {v : Vec Ideal S1792x128 .f32} {A : Arr EReal} (_ : IsArr v A), IsArr (k0_pay266 (sl.r_1 c b4 w4 x2) (sl.r_141 c b2 w2 x0) (sl.r_142 c b8 w8 x6) (sl.r_143 c b7 w7 b8 w8 x5 x6) (sl.r_144 c b6 w6 x4) (sl.r_145 c b2 w2 b3 w3 x0 x1) (sl.r_146 c i b5 w5 x3) k0_pay258 (sl.r_147 c i b5 w5 x3) v) (fun p => A p + tdk Q K V Cm Ls Ob Do (i 0).val 7 (0 + p.1, p.2))
  HS0_15 : ∀ {v : Vec Ideal S256x128 .f32} {A : Arr EReal} (_ : IsArr v A), IsArr (k0_pay276 (sl.r_141 c b2 w2 x0) (sl.r_155 c i b2 w2 b3 w3 b4 w4 b5 w5 b6 w6 b7 w7 b8 w8 x0 x1 x2 x3 x4 x5 x6) v) (fun p => A p + tdk Q K V Cm Ls Ob Do (i 0).val 7 (1792 + p.1, p.2))
  HS1_1 : ∀ {v : Vec Ideal S256x128 .f32} {A : Arr EReal} (_ : IsArr v A), IsArr (k0_pay27 (sl.r_8 c b8 w8 x6) (sl.r_13 c i b2 w2 b3 w3 b5 w5 b6 w6 x0 x1 x3 x4) v) (fun p => A p + tdv Q K Cm Ls Do (i 0).val 0 (0 + p.1, p.2))
  HS1_2 : ∀ {v : Vec Ideal S256x128 .f32} {A : Arr EReal} (_ : IsArr v A), IsArr (k0_pay55 (sl.r_24 c b8 w8 x6) (sl.r_30 c i b2 w2 b3 w3 b5 w5 b6 w6 x0 x1 x3 x4) v) (fun p => A p + tdv Q K Cm Ls Do (i 0).val 1 (0 + p.1, p.2))
  HS1_3 : ∀ {v : Vec Ideal S256x128 .f32} {A : Arr EReal} (_ : IsArr v A), IsArr (k0_pay65 (sl.r_24 c b8 w8 x6) (sl.r_35 c i b2 w2 b3 w3 b5 w5 b6 w6 x0 x1 x3 x4) v) (fun p => A p + tdv Q K Cm Ls Do (i 0).val 1 (256 + p.1, p.2))
  HS1_4 : ∀ {v : Vec Ideal S512x128 .f32} {A : Arr EReal} (_ : IsArr v A), IsArr (k0_pay85 (sl.r_42 c b8 w8 x6) (sl.r_44 c b6 w6 x4) (sl.r_46 c i b2 w2 b3 w3 b5 w5 x0 x1 x3) v) (fun p => A p + tdv Q K Cm Ls Do (i 0).val 2 (0 + p.1, p.2))
  HS1_5 : ∀ {v : Vec Ideal S256x128 .f32} {A : Arr EReal} (_ : IsArr v A), IsArr (k0_pay94 (sl.r_42 c b8 w8 x6) (sl.r_44 c b6 w6 x4) (sl.r_47 c i b2 w2 b3 w3 b5 w5 x0 x1 x3) v) (fun p => A p + tdv Q K Cm Ls Do (i 0).val 2 (512 + p.1, p.2))
  HS1_6 : ∀ {v : Vec Ideal S768x128 .f32} {A : Arr EReal} (_ : IsArr v A), IsArr (k0_pay123 (sl.r_62 c b8 w8 x6) (sl.r_64 c b6 w6 x4) (sl.r_65 c i b2 w2 b3 w3 b5 w5 x0 x1 x3) v) (fun p => A p + tdv Q K Cm Ls Do (i 0).val 3 (0 + p.1, p.2))
  HS1_7 : ∀ {v : Vec Ideal S256x128 .f32} {A : Arr EReal} (_ : IsArr v A), IsArr (k0_pay133 (sl.r_62 c b8 w8 x6) (sl.r_71 c i b2 w2 b3 w3 b5 w5 b6 w6 x0 x1 x3 x4) v) (fun p => A p + tdv Q K Cm Ls Do (i 0).val 3 (768 + p.1, p.2))
  HS1_8 : ∀ {v : Vec Ideal S1024x128 .f32} {A : Arr EReal} (_ : IsArr v A), IsArr (k0_pay160 (sl.r_82 c b8 w8 x6) (sl.r_89 c i b2 w2 b3 w3 b5 w5 b6 w6 x0 x1 x3 x4) v) (fun p => A p + tdv Q K Cm Ls Do (i 0).val 4 (0 + p.1, p.2))
  HS1_9 : ∀ {v : Vec Ideal S256x128 .f32} {A : Arr EReal} (_ : IsArr v A), IsArr (k0_pay171 (sl.r_82 c b8 w8 x6) (sl.r_94 c i b2 w2 b3 w3 b5 w5 b6 w6 x0 x1 x3 x4) v) (fun p => A p + tdv Q K Cm Ls Do (i 0).val 4 (1024 + p.1, p.2))
  HS1_10 : ∀ {v : Vec Ideal S1280x128 .f32} {A : Arr EReal} (_ : IsArr v A), IsArr (k0_pay192 (sl.r_104 c b8 w8 x6) (sl.r_108 c i b2 w2 b3 w3 b5 w5 b6 w6 x0 x1 x3 x4) v) (fun p => A p + tdv Q K Cm Ls Do (i 0).val 5 (0 + p.1, p.2))
  HS1_11 : ∀ {v : Vec Ideal S256x128 .f32} {A : Arr EReal} (_ : IsArr v A), IsArr (k0_pay201 (sl.r_104 c b8 w8 x6) (sl.r_106 c b6 w6 x4) (sl.r_107 c i b2 w2 b3 w3 b5 w5 x0 x1 x3) v) (fun p => A p + tdv Q K Cm Ls Do (i 0).val 5 (1280 + p.1, p.2))
  HS1_12 : ∀ {v : Vec Ideal S1536x128 .f32} {A : Arr EReal} (_ : IsArr v A), IsArr (k0_pay231 (sl.r_123 c b8 w8 x6) (sl.r_126 c b6 w6 x4) (sl.r_127 c i b2 w2 b3 w3 b5 w5 x0 x1 x3) v) (fun p => A p + tdv Q K Cm Ls Do (i 0).val 6 (0 + p.1, p.2))
  HS1_13 : ∀ {v : Vec Ideal S256x128 .f32} {A : Arr EReal} (_ : IsArr v A), IsArr (k0_pay240 (sl.r_123 c b8 w8 x6) (sl.r_132 c i b2 w2 b3 w3 b5 w5 b6 w6 x0 x1 x3 x4) v) (fun p => A p + tdv Q K Cm Ls Do (i 0).val 6 (1536 + p.1, p.2))
  HS1_14 : ∀ {v : Vec Ideal S1792x128 .f32} {A : Arr EReal} (_ : IsArr v A), IsArr (k0_pay267 (sl.r_142 c b8 w8 x6) (sl.r_149 c i b2 w2 b3 w3 b5 w5 b6 w6 x0 x1 x3 x4) v) (fun p => A p + tdv Q K Cm Ls Do (i 0).val 7 (0 + p.1, p.2))
  HS1_15 : ∀ {v : Vec Ideal S256x128 .f32} {A : Arr EReal} (_ : IsArr v A), IsArr (k0_pay277 (sl.r_142 c b8 w8 x6) (sl.r_153 c i b2 w2 b3 w3 b5 w5 b6 w6 x0 x1 x3 x4) v) (fun p => A p + tdv Q K Cm Ls Do (i 0).val 7 (1792 + p.1, p.2))

variable {c : Dev nD} {i : grid0.Coords} {b2 : MemB} {w2 : b2.IsWhole} {b11 b13 b14 : MemB} {w11 : b11.IsWhole} {b12 : MemT} {w12 : b12.IsWhole} {xo8 : VecB} {xo9 : Vec Ideal S128x2048 .f32} {b3 : MemB} {w3 : b3.IsWhole} {b4 : MemB} {w4 : b4.IsWhole}
  {b5 : MemT} {w5 : b5.IsWhole} {b6 : MemB} {w6 : b6.IsWhole} {b7 : MemB} {w7 : b7.IsWhole} {b8 : MemB} {w8 : b8.IsWhole}
  {x0 x1 x2 : VecB} {x3 : Vec Ideal S128x2048 .f32} {x4 x5 x6 : VecB} {Q K V Cm Ls Ob Do : Arr EReal}

theorem pieceS (hx : Ins x0 x1 x2 x3 x4 x5 x6 Q K V Cm Ls Ob Do) : PieceS c i b2 w2 b3 w3 b4 w4 b5 w5 b6 w6 b7 w7 b8 w8 b13 x0 x1 x2 x3 x4 x5 x6 Q K V Cm Ls Ob Do := by
  obtain ⟨hx0, hx1, hx2, hx3, hx4, hx5, hx6⟩ := hx
  constructor
  all_goals
    intros
    rename_i hv
    simp only [sl.r_16, sl.r_1, sl.r_7, sl.r_5, sl.r_6, sl.cst_19, sl.r_8, sl.r_2, sl.r_9, sl.r_3, sl.r_10, sl.r_4, sl.r_11, sl.r, sl.r_12, k0_pay26, k0_pay25, k0_pay23, k0_pay22, k0_pay21, k0_pay20, k0_pay6, k0_pay13, k0_pay4, k0_pay11, k0_pay12, k0_pay14, k0_pay15, k0_pay9, k0_pay16, k0_pay10, k0_pay19, k0_pay5, sl.r_33, sl.r_23, sl.r_22, sl.r_24, sl.r_19, sl.r_25, sl.r_20, sl.r_26, sl.r_21, sl.r_27, sl.r_28, k0_pay54, k0_pay53, k0_pay51, k0_pay50, k0_pay49, k0_pay47, k0_pay46, k0_pay39, k0_pay37, k0_pay38, k0_pay36, k0_pay40, k0_pay41, k0_pay34, k0_pay42, k0_pay35, k0_pay45, sl.r_35, sl.r_29, sl.r_36, k0_pay64, k0_pay62, k0_pay61, k0_pay59, k0_pay48, k0_pay60, sl.r_41, sl.r_42, sl.r_40, sl.r_43, sl.r_44, sl.r_46, k0_pay84, k0_pay82, k0_pay81, k0_pay80, k0_pay71, k0_pay72, k0_pay73, k0_pay74, k0_pay78, k0_pay77, sl.r_47, k0_pay93, k0_pay91, k0_pay90, k0_pay89, k0_pay79, sl.r_61, sl.r_62, sl.r_63, sl.r_59, sl.r_64, sl.r_60, sl.r_65, k0_pay122, k0_pay120, k0_pay119, k0_pay118, k0_pay107, k0_pay108, k0_pay110, k0_pay109, k0_pay105, k0_pay111, k0_pay106, k0_pay114, sl.r_66, sl.v698, k0_pay132, k0_pay130, k0_pay129, k0_pay128, k0_pay117, k0_pay115, k0_pay116, sl.r_92, sl.r_81, sl.r_79, sl.r_80, sl.r_82, sl.r_76, sl.r_83, sl.r_77, sl.r_84, sl.r_78, sl.r_85, sl.r_86, sl.r_87, k0_pay159, k0_pay158, k0_pay156, k0_pay155, k0_pay154, k0_pay152, k0_pay151, k0_pay144, k0_pay143, k0_pay141, k0_pay142, k0_pay145, k0_pay146, k0_pay139, k0_pay147, k0_pay140, k0_pay150, sl.r_94, sl.r_88, sl.r_95, sl.r_96, k0_pay170, k0_pay168, k0_pay167, k0_pay164, k0_pay153, k0_pay165, k0_pay166, sl.r_103, sl.r_104, sl.r_101, sl.r_105, sl.r_102, sl.r_108, sl.r_106, k0_pay191, k0_pay189, k0_pay188, k0_pay179, k0_pay180, k0_pay181, k0_pay187, k0_pay185, k0_pay182, sl.r_107, k0_pay200, k0_pay198, k0_pay197, k0_pay196, k0_pay186, sl.r_122, sl.r_123, sl.r_125, sl.r_120, sl.r_124, sl.r_126, sl.r_121, sl.r_127, k0_pay230, k0_pay228, k0_pay227, k0_pay226, k0_pay214, k0_pay215, k0_pay217, k0_pay212, k0_pay216, k0_pay218, k0_pay213, k0_pay221, sl.r_128, k0_pay239, k0_pay237, k0_pay236, k0_pay235, k0_pay225, k0_pay222, k0_pay223, k0_pay224, sl.r_141, sl.r_139, sl.r_140, sl.r_142, sl.r_136, sl.r_143, sl.r_137, sl.r_144, sl.r_138, sl.r_145, sl.r_146, sl.r_147, k0_pay266, k0_pay264, k0_pay263, k0_pay262, k0_pay260, k0_pay258, k0_pay251, k0_pay249, k0_pay248, k0_pay250, k0_pay252, k0_pay253, k0_pay246, k0_pay254, k0_pay247, k0_pay257, k0_pay259, sl.r_155, sl.r_148, k0_pay276, k0_pay273, k0_pay272, k0_pay271, k0_pay261, sl.r_13, k0_pay27, sl.r_30, k0_pay55, k0_pay65, k0_pay85, k0_pay94, k0_pay123, sl.r_71, k0_pay133, sl.r_89, k0_pay160, k0_pay171, k0_pay192, k0_pay201, k0_pay231, sl.r_132, k0_pay240, sl.r_149, k0_pay267, sl.r_153, k0_pay277]
    apply IsArr.congr
    · repeat' (first | (with_reducible first | exact hv | exact arr_in w2 hx0 _ | exact arr_in w3 hx1 _ | exact arr_in w4 hx2 _ | exact arr_in w6 hx4 _ | exact arr_in w7 hx5 _ | exact arr_in w8 hx6 _ | exact arr_in_off w5 hx3 (by with_reducible first | exact off1 i | exact off2 i | exact off3 i | exact off4 i | exact off7 i | exact off8 i | exact off11 i | exact off12 i | exact off15 i | exact off16 i | exact off19 i | exact off20 i | exact off23 i | exact off24 i | exact off27 i | exact off28 i) _ | exact msk_causal _ _ _ | exact msk_first _ | exact msk_upper _ | apply msk_cast | apply msk_row | apply msk_col | exact arr_zero | exact arr_const0 | exact arr_c8 | exact arr_mask | apply arr_addf | apply arr_subf | apply arr_mulf | apply arr_exp | apply arr_truncf | apply arr_sel | apply isArr_cast_self | apply arr_bc_row | apply arr_bc_col | apply arr_slice | apply arr_cat | apply arr_rowsum_128 | apply arr_rowsum_256 | apply arr_colsum_256 | apply arr_rowsum_512 | apply arr_colsum_512 | apply arr_rowsum_768 | apply arr_colsum_768 | apply arr_rowsum_1024 | apply arr_colsum_1024 | apply arr_rowsum_1280 | apply arr_colsum_1280 | apply arr_rowsum_1536 | apply arr_colsum_1536 | apply arr_rowsum_1792 | apply arr_colsum_1792 | exact msk_lane0 _ _ | exact msk_lane1 _ _) | ((with_reducible apply arr_nt); rotate_left 2; rfl) | ((with_reducible apply arr_nn); rotate_left 2; rfl) | ((with_reducible apply arr_tn); rotate_left 2; exact ⟨rfl, rfl, rfl, rfl, rfl, rfl⟩) | exact msk_causal _ _ _)
    · intro a b ha hb
      simp only [tdk, tdv, tc0, tc1, trow_eq, tdq, tdq2_eq, tDh, tDd, tD, tP, tS, tlse, tdelta, tdo, tq, zero_add, add_zero, Finset.range_zero, Finset.sum_empty, Nat.mul_zero, Nat.reduceMul, Nat.reduceAdd]
      try simp only [Nat.add_le_add_iff_left]
      try simp only [show ∀ n r, a ≤ n → a ≤ n + r % 256 from fun n r h => by omega, Nat.le_of_lt ha, sel_pos]

end Cert.Fox

end
-- ==== Proof.FoxPieceA2.lean ====
/- What the stores of run A write, as arrays of the block quantities. -/
module

public import proofs.«01_k».proof.Proof.FoxTile
public import proofs.«01_k».proof.Proof.FoxRunA

@[expose] public section

set_option maxRecDepth 10000
set_option maxHeartbeats 0

noncomputable section

namespace Cert.Fox

open Cert.KernelIdeal Cert.KernelIdeal.Gen Idealize.ShloMosaic Idealize.ShloMosaic.Updates kernelRun0_A
open Idealize.ShloMosaic.LaneScatter (Blk)

/-- What the stores of the rows of sums and of the last block write. -/
structure PieceH8 (c : Dev nD) (i : grid0.Coords) (b2 : MemB) (w2 : b2.IsWhole) (b3 : MemB) (w3 : b3.IsWhole) (b4 : MemB) (w4 : b4.IsWhole) (b5 : MemT) (w5 : b5.IsWhole) (b6 : MemB) (w6 : b6.IsWhole) (b7 : MemB) (w7 : b7.IsWhole) (b8 : MemB) (w8 : b8.IsWhole) (b11 : MemB) (x0 : VecB) (x1 : VecB) (x2 : VecB) (x3 : Vec Ideal S128x2048 .f32) (x4 : VecB) (x5 : VecB) (x6 : VecB) (Q : Arr EReal) (K : Arr EReal) (V : Arr EReal) (Cm : Arr EReal) (Ls : Arr EReal) (Ob : Arr EReal) (Do : Arr EReal) : Prop where
  H8_1 : ∀ {v : Vec Ideal S256x128 .f32} {A : Arr EReal} (_ : IsArr v A), IsArr (k0_pay33 (BitVec.ofNat 32 ↑(i 0)) sl.v3 (sl.r_17 c i b2 w2 b3 w3 b4 w4 b5 w5 b6 w6 b7 w7 b8 w8 x0 x1 x2 x3 x4 x5 x6) v) (fun p => A p + sel (p.2 = 2 * (i 0).val) (trow Q K V Cm Ls Ob Do (i 0).val 0 p.1) (sel (p.2 = 2 * (i 0).val + 1) (trow Q K V Cm Ls Ob Do (i 0).val 0 (256 + p.1)) 0))
  H8_2 : ∀ {v : Vec Ideal S256x128 .f32} {A : Arr EReal} (_ : IsArr v A), IsArr (k0_pay70 (BitVec.ofNat 32 ↑(i 0)) sl.v3 (sl.r_39 c i b2 w2 b3 w3 b4 w4 b5 w5 b6 w6 b7 w7 b8 w8 x0 x1 x2 x3 x4 x5 x6) v) (fun p => A p + sel (p.2 = 2 * (i 0).val) (trow Q K V Cm Ls Ob Do (i 0).val 1 p.1) (sel (p.2 = 2 * (i 0).val + 1) (trow Q K V Cm Ls Ob Do (i 0).val 1 (256 + p.1)) 0))
  H8_3 : ∀ {A : Arr EReal} (_ : IsArr (β := EReal) (R := 256) (C := 128) (sl.v607 (F := Ideal) c i b2 w2 b3 w3 b4 w4 b5 w5 b6 w6 b7 w7 b8 w8 b11 x0 x1 x2 x3 x4 x5 x6) A), IsArr (k0_pay104 (sl.r_54 c i b2 w2 b3 w3 b4 w4 b5 w5 b6 w6 b7 w7 b8 w8 b11 x0 x1 x2 x3 x4 x5 x6) (sl.r_55 i) (sl.r_56 c i b2 w2 b3 w3 b4 w4 b5 w5 b6 w6 b7 w7 b8 w8 x0 x1 x2 x3 x4 x5 x6) (sl.r_57 i) (sl.r_58 c i b2 w2 b3 w3 b4 w4 b5 w5 b6 w6 b7 w7 b8 w8 x0 x1 x2 x3 x4 x5 x6) sl.cst_19) (fun p => A p + sel (p.2 = 2 * (i 0).val) (trow Q K V Cm Ls Ob Do (i 0).val 2 p.1) (sel (p.2 = 2 * (i 0).val + 1) (trow Q K V Cm Ls Ob Do (i 0).val 2 (256 + p.1)) 0))
  H8_4 : ∀ {v : Vec Ideal S256x128 .f32} {A : Arr EReal} (_ : IsArr v A), IsArr (k0_pay138 (BitVec.ofNat 32 ↑(i 0)) sl.v3 (sl.r_74 c i b2 w2 b3 w3 b4 w4 b5 w5 b6 w6 b7 w7 b8 w8 x0 x1 x2 x3 x4 x5 x6) v) (fun p => A p + sel (p.2 = 2 * (i 0).val) (trow Q K V Cm Ls Ob Do (i 0).val 3 p.1) (sel (p.2 = 2 * (i 0).val + 1) (trow Q K V Cm Ls Ob Do (i 0).val 3 (256 + p.1)) 0))
  H8_5 : ∀ {v : Vec Ideal S256x128 .f32} {A : Arr EReal} (_ : IsArr v A), IsArr (k0_pay178 (BitVec.ofNat 32 ↑(i 0)) sl.v3 (sl.r_98 c i b2 w2 b3 w3 b4 w4 b5 w5 b6 w6 b7 w7 b8 w8 x0 x1 x2 x3 x4 x5 x6) v) (fun p => A p + sel (p.2 = 2 * (i 0).val) (trow Q K V Cm Ls Ob Do (i 0).val 4 p.1) (sel (p.2 = 2 * (i 0).val + 1) (trow Q K V Cm Ls Ob Do (i 0).val 4 (256 + p.1)) 0))
  H8_6 : ∀ {A : Arr EReal} (_ : IsArr (β := EReal) (R := 256) (C := 128) (sl.v1270 (F := Ideal) c i b2 w2 b3 w3 b4 w4 b5 w5 b6 w6 b7 w7 b8 w8 b11 x0 x1 x2 x3 x4 x5 x6) A), IsArr (k0_pay211 (sl.r_115 c i b2 w2 b3 w3 b4 w4 b5 w5 b6 w6 b7 w7 b8 w8 b11 x0 x1 x2 x3 x4 x5 x6) (sl.r_116 i) (sl.r_117 c i b2 w2 b3 w3 b4 w4 b5 w5 b6 w6 b7 w7 b8 w8 x0 x1 x2 x3 x4 x5 x6) sl.cst_19 (sl.r_118 i) (sl.r_119 c i b2 w2 b3 w3 b4 w4 b5 w5 b6 w6 b7 w7 b8 w8 x0 x1 x2 x3 x4 x5 x6)) (fun p => A p + sel (p.2 = 2 * (i 0).val) (trow Q K V Cm Ls Ob Do (i 0).val 5 p.1) (sel (p.2 = 2 * (i 0).val + 1) (trow Q K V Cm Ls Ob Do (i 0).val 5 (256 + p.1)) 0))
  H8_7 : ∀ {v : Vec Ideal S256x128 .f32} {A : Arr EReal} (_ : IsArr v A), IsArr (k0_pay245 (BitVec.ofNat 32 ↑(i 0)) sl.v3 (sl.r_135 c i b2 w2 b3 w3 b4 w4 b5 w5 b6 w6 b7 w7 b8 w8 x0 x1 x2 x3 x4 x5 x6) v) (fun p => A p + sel (p.2 = 2 * (i 0).val) (trow Q K V Cm Ls Ob Do (i 0).val 6 p.1) (sel (p.2 = 2 * (i 0).val + 1) (trow Q K V Cm Ls Ob Do (i 0).val 6 (256 + p.1)) 0))
  H8_8 : ∀ {v : Vec Ideal S256x128 .f32} {A : Arr EReal} (_ : IsArr v A), IsArr (k0_pay282 (BitVec.ofNat 32 ↑(i 0)) sl.v3 (sl.r_158 c i b2 w2 b3 w3 b4 w4 b5 w5 b6 w6 b7 w7 b8 w8 x0 x1 x2 x3 x4 x5 x6) v) (fun p => A p + sel (p.2 = 2 * (i 0).val) (trow Q K V Cm Ls Ob Do (i 0).val 7 p.1) (sel (p.2 = 2 * (i 0).val + 1) (trow Q K V Cm Ls Ob Do (i 0).val 7 (256 + p.1)) 0))
  L7_0 : ∀ _ : True, IsArr (β := EReal) (k0_pay32 (sl.r_18 c i b2 w2 b3 w3 b4 w4 b5 w5 b6 w6 b7 w7 b8 w8 x0 x1 x2 x3 x4 x5 x6)) (fun p => tdq Q K V Cm Ls Ob Do (i 0).val 0 p)
  L7_1 : ∀ _ : True, IsArr (β := EReal) (k0_pay69 k0_pay4 (sl.r_38 c i b2 w2 b3 w3 b4 w4 b5 w5 b6 w6 b7 w7 b8 w8 x0 x1 x2 x3 x4 x5 x6)) (fun p => tdq Q K V Cm Ls Ob Do (i 0).val 1 p)
  L7_2 : ∀ _ : True, IsArr (β := EReal) (k0_pay98 k0_pay4 (sl.r_52 c i b2 w2 b3 w3 b4 w4 b5 w5 b6 w6 b7 w7 b8 w8 x0 x1 x2 x3 x4 x5 x6)) (fun p => tdq Q K V Cm Ls Ob Do (i 0).val 2 p)
  L7_3 : ∀ _ : True, IsArr (β := EReal) (sl.r_75 c i b2 w2 b3 w3 b4 w4 b5 w5 b6 w6 b7 w7 b8 w8 x0 x1 x2 x3 x4 x5 x6) (fun p => tdq Q K V Cm Ls Ob Do (i 0).val 3 p)
  L7_4 : ∀ _ : True, IsArr (β := EReal) (k0_pay177 k0_pay4 (sl.r_97 c i b2 w2 b3 w3 b4 w4 b5 w5 b6 w6 b7 w7 b8 w8 x0 x1 x2 x3 x4 x5 x6)) (fun p => tdq Q K V Cm Ls Ob Do (i 0).val 4 p)
  L7_5 : ∀ _ : True, IsArr (β := EReal) (k0_pay205 k0_pay4 (sl.r_113 c i b2 w2 b3 w3 b4 w4 b5 w5 b6 w6 b7 w7 b8 w8 x0 x1 x2 x3 x4 x5 x6)) (fun p => tdq Q K V Cm Ls Ob Do (i 0).val 5 p)
  L7_6 : ∀ _ : True, IsArr (β := EReal) (k0_pay244 k0_pay4 (sl.r_134 c i b2 w2 b3 w3 b4 w4 b5 w5 b6 w6 b7 w7 b8 w8 x0 x1 x2 x3 x4 x5 x6)) (fun p => tdq Q K V Cm Ls Ob Do (i 0).val 6 p)
  L7_7 : ∀ _ : True, IsArr (β := EReal) (k0_pay281 k0_pay4 (sl.r_157 c i b2 w2 b3 w3 b4 w4 b5 w5 b6 w6 b7 w7 b8 w8 x0 x1 x2 x3 x4 x5 x6)) (fun p => tdq Q K V Cm Ls Ob Do (i 0).val 7 p)

/-- What the first stores of the columns of sums write. -/
structure PieceH9 (c : Dev nD) (i : grid0.Coords) (b2 : MemB) (w2 : b2.IsWhole) (b3 : MemB) (w3 : b3.IsWhole) (b4 : MemB) (w4 : b4.IsWhole) (b5 : MemT) (w5 : b5.IsWhole) (b6 : MemB) (w6 : b6.IsWhole) (b7 : MemB) (w7 : b7.IsWhole) (b8 : MemB) (w8 : b8.IsWhole) (x0 : VecB) (x1 : VecB) (x2 : VecB) (x3 : Vec Ideal S128x2048 .f32) (x4 : VecB) (x5 : VecB) (x6 : VecB) (Q : Arr EReal) (K : Arr EReal) (V : Arr EReal) (Cm : Arr EReal) (Ls : Arr EReal) (Ob : Arr EReal) (Do : Arr EReal) : Prop where
  H9_1 : ∀ {v : Vec Ideal S1x256 .f32} {A : Arr EReal} (_ : IsArr v A), IsArr (k0_pay29 (sl.r_14 c i b2 w2 b3 w3 b4 w4 b5 w5 b6 w6 b7 w7 b8 w8 x0 x1 x2 x3 x4 x5 x6) v) (fun p => A p + tc0 Q K V Cm Ls Ob Do (i 0).val 0 (0 + p.2))
  H9_2 : ∀ {v : Vec Ideal S1x256 .f32} {A : Arr EReal} (_ : IsArr v A), IsArr (k0_pay30 (sl.r_14 c i b2 w2 b3 w3 b4 w4 b5 w5 b6 w6 b7 w7 b8 w8 x0 x1 x2 x3 x4 x5 x6) v) (fun p => A p + tc1 Q K V Cm Ls Ob Do (i 0).val 0 (0 + p.2))
  H9_3 : ∀ {v : Vec Ideal S1x256 .f32} {A : Arr EReal} (_ : IsArr v A), IsArr (k0_pay57 (sl.r_31 c i b2 w2 b3 w3 b4 w4 b5 w5 b6 w6 b7 w7 b8 w8 x0 x1 x2 x3 x4 x5 x6) v) (fun p => A p + tc0 Q K V Cm Ls Ob Do (i 0).val 1 (0 + p.2))
  H9_4 : ∀ {v : Vec Ideal S1x256 .f32} {A : Arr EReal} (_ : IsArr v A), IsArr (k0_pay58 (sl.r_31 c i b2 w2 b3 w3 b4 w4 b5 w5 b6 w6 b7 w7 b8 w8 x0 x1 x2 x3 x4 x5 x6) v) (fun p => A p + tc1 Q K V Cm Ls Ob Do (i 0).val 1 (0 + p.2))
  H9_5 : ∀ {v : Vec Ideal S1x256 .f32} {A : Arr EReal} (_ : IsArr v A), IsArr (k0_pay67 (sl.r_24 c b8 w8 x6) (sl.r_25 c b7 w7 b8 w8 x5 x6) (sl.r_35 c i b2 w2 b3 w3 b5 w5 b6 w6 x0 x1 x3 x4) (sl.r_36 c b4 w4 x2) v) (fun p => A p + tc0 Q K V Cm Ls Ob Do (i 0).val 1 (256 + p.2))
  H9_6 : ∀ {v : Vec Ideal S1x256 .f32} {A : Arr EReal} (_ : IsArr v A), IsArr (k0_pay68 (sl.r_37 c i b2 w2 b3 w3 b4 w4 b5 w5 b6 w6 b7 w7 b8 w8 x0 x1 x2 x3 x4 x5 x6) v) (fun p => A p + tc1 Q K V Cm Ls Ob Do (i 0).val 1 (256 + p.2))
  H9_7 : ∀ {v : Vec Ideal S1x512 .f32} {A : Arr EReal} (_ : IsArr v A), IsArr (k0_pay87 (sl.r_1 c b4 w4 x2) (sl.r_42 c b8 w8 x6) (sl.r_43 c b7 w7 b8 w8 x5 x6) (sl.r_44 c b6 w6 x4) (sl.r_46 c i b2 w2 b3 w3 b5 w5 x0 x1 x3) v) (fun p => A p + tc0 Q K V Cm Ls Ob Do (i 0).val 2 (0 + p.2))
  H9_8 : ∀ {v : Vec Ideal S1x512 .f32} {A : Arr EReal} (_ : IsArr v A), IsArr (k0_pay88 (sl.r_48 c i b2 w2 b3 w3 b4 w4 b5 w5 b6 w6 b7 w7 b8 w8 x0 x1 x2 x3 x4 x5 x6) v) (fun p => A p + tc1 Q K V Cm Ls Ob Do (i 0).val 2 (0 + p.2))
  H9_9 : ∀ {v : Vec Ideal S1x256 .f32} {A : Arr EReal} (_ : IsArr v A), IsArr (k0_pay96 (sl.r_51 c i b2 w2 b3 w3 b4 w4 b5 w5 b6 w6 b7 w7 b8 w8 x0 x1 x2 x3 x4 x5 x6) v) (fun p => A p + tc0 Q K V Cm Ls Ob Do (i 0).val 2 (512 + p.2))
  H9_10 : ∀ {v : Vec Ideal S1x256 .f32} {A : Arr EReal} (_ : IsArr v A), IsArr (k0_pay97 (sl.r_51 c i b2 w2 b3 w3 b4 w4 b5 w5 b6 w6 b7 w7 b8 w8 x0 x1 x2 x3 x4 x5 x6) v) (fun p => A p + tc1 Q K V Cm Ls Ob Do (i 0).val 2 (512 + p.2))
  H9_11 : ∀ {v : Vec Ideal S1x768 .f32} {A : Arr EReal} (_ : IsArr v A), IsArr (k0_pay126 (sl.r_67 c i b2 w2 b3 w3 b4 w4 b5 w5 b6 w6 b7 w7 b8 w8 x0 x1 x2 x3 x4 x5 x6) v) (fun p => A p + tc0 Q K V Cm Ls Ob Do (i 0).val 3 (0 + p.2))
  H9_12 : ∀ {v : Vec Ideal S1x768 .f32} {A : Arr EReal} (_ : IsArr v A), IsArr (k0_pay127 (sl.r_67 c i b2 w2 b3 w3 b4 w4 b5 w5 b6 w6 b7 w7 b8 w8 x0 x1 x2 x3 x4 x5 x6) v) (fun p => A p + tc1 Q K V Cm Ls Ob Do (i 0).val 3 (0 + p.2))
  H9_13 : ∀ {v : Vec Ideal S1x256 .f32} {A : Arr EReal} (_ : IsArr v A), IsArr (k0_pay135 (sl.r_72 c i b2 w2 b3 w3 b4 w4 b5 w5 b6 w6 b7 w7 b8 w8 x0 x1 x2 x3 x4 x5 x6) v) (fun p => A p + tc0 Q K V Cm Ls Ob Do (i 0).val 3 (768 + p.2))
  H9_14 : ∀ {v : Vec Ideal S1x256 .f32} {A : Arr EReal} (_ : IsArr v A), IsArr (k0_pay136 (sl.r_72 c i b2 w2 b3 w3 b4 w4 b5 w5 b6 w6 b7 w7 b8 w8 x0 x1 x2 x3 x4 x5 x6) v) (fun p => A p + tc1 Q K V Cm Ls Ob Do (i 0).val 3 (768 + p.2))
  H9_15 : ∀ {v : Vec Ideal S1x1024 .f32} {A : Arr EReal} (_ : IsArr v A), IsArr (k0_pay162 (sl.r_90 c i b2 w2 b3 w3 b4 w4 b5 w5 b6 w6 b7 w7 b8 w8 x0 x1 x2 x3 x4 x5 x6) v) (fun p => A p + tc0 Q K V Cm Ls Ob Do (i 0).val 4 (0 + p.2))

/-- What the last stores of the columns of sums write. -/
structure PieceH9b (c : Dev nD) (i : grid0.Coords) (b2 : MemB) (w2 : b2.IsWhole) (b3 : MemB) (w3 : b3.IsWhole) (b4 : MemB) (w4 : b4.IsWhole) (b5 : MemT) (w5 : b5.IsWhole) (b6 : MemB) (w6 : b6.IsWhole) (b7 : MemB) (w7 : b7.IsWhole) (b8 : MemB) (w8 : b8.IsWhole) (b12 : MemT) (x0 : VecB) (x1 : VecB) (x2 : VecB) (x3 : Vec Ideal S128x2048 .f32) (x4 : VecB) (x5 : VecB) (x6 : VecB) (Q : Arr EReal) (K : Arr EReal) (V : Arr EReal) (Cm : Arr EReal) (Ls : Arr EReal) (Ob : Arr EReal) (Do : Arr EReal) : Prop where
  H9_16 : ∀ {v : Vec Ideal S1x1024 .f32} {A : Arr EReal} (_ : IsArr v A), IsArr (k0_pay163 (sl.r_90 c i b2 w2 b3 w3 b4 w4 b5 w5 b6 w6 b7 w7 b8 w8 x0 x1 x2 x3 x4 x5 x6) v) (fun p => A p + tc1 Q K V Cm Ls Ob Do (i 0).val 4 (0 + p.2))
  H9_17 : ∀ {v : Vec Ideal S1x256 .f32} {A : Arr EReal} (_ : IsArr v A), IsArr (k0_pay173 (sl.r_94 c i b2 w2 b3 w3 b5 w5 b6 w6 x0 x1 x3 x4) (sl.r_95 c b4 w4 b8 w8 x2 x6) (sl.r_96 c b7 w7 b8 w8 x5 x6) v) (fun p => A p + tc0 Q K V Cm Ls Ob Do (i 0).val 4 (1024 + p.2))
  H9_18 : ∀ {A : Arr EReal} (_ : IsArr (β := EReal) (R := 1) (C := 256) (sl.v1032 (F := Ideal) c i b2 w2 b3 w3 b4 w4 b5 w5 b6 w6 b7 w7 b8 w8 b12 x0 x1 x2 x3 x4 x5 x6) A), IsArr (k0_pay176 (sl.r_99 c i b2 w2 b3 w3 b4 w4 b5 w5 b6 w6 b7 w7 b8 w8 b12 x0 x1 x2 x3 x4 x5 x6) (sl.r_100 c i b2 w2 b3 w3 b4 w4 b5 w5 b6 w6 b7 w7 b8 w8 x0 x1 x2 x3 x4 x5 x6)) (fun p => A p + tc1 Q K V Cm Ls Ob Do (i 0).val 4 (1024 + p.2))
  H9_19 : ∀ {v : Vec Ideal S1x1280 .f32} {A : Arr EReal} (_ : IsArr v A), IsArr (k0_pay194 (sl.r_1 c b4 w4 x2) (sl.r_104 c b8 w8 x6) (sl.r_105 c b7 w7 b8 w8 x5 x6) (sl.r_108 c i b2 w2 b3 w3 b5 w5 b6 w6 x0 x1 x3 x4) v) (fun p => A p + tc0 Q K V Cm Ls Ob Do (i 0).val 5 (0 + p.2))
  H9_20 : ∀ {v : Vec Ideal S1x1280 .f32} {A : Arr EReal} (_ : IsArr v A), IsArr (k0_pay195 (sl.r_109 c i b2 w2 b3 w3 b4 w4 b5 w5 b6 w6 b7 w7 b8 w8 x0 x1 x2 x3 x4 x5 x6) v) (fun p => A p + tc1 Q K V Cm Ls Ob Do (i 0).val 5 (0 + p.2))
  H9_21 : ∀ {v : Vec Ideal S1x256 .f32} {A : Arr EReal} (_ : IsArr v A), IsArr (k0_pay203 (sl.r_112 c i b2 w2 b3 w3 b4 w4 b5 w5 b6 w6 b7 w7 b8 w8 x0 x1 x2 x3 x4 x5 x6) v) (fun p => A p + tc0 Q K V Cm Ls Ob Do (i 0).val 5 (1280 + p.2))
  H9_22 : ∀ {v : Vec Ideal S1x256 .f32} {A : Arr EReal} (_ : IsArr v A), IsArr (k0_pay204 (sl.r_112 c i b2 w2 b3 w3 b4 w4 b5 w5 b6 w6 b7 w7 b8 w8 x0 x1 x2 x3 x4 x5 x6) v) (fun p => A p + tc1 Q K V Cm Ls Ob Do (i 0).val 5 (1280 + p.2))
  H9_23 : ∀ {v : Vec Ideal S1x1536 .f32} {A : Arr EReal} (_ : IsArr v A), IsArr (k0_pay233 (sl.r_129 c i b2 w2 b3 w3 b4 w4 b5 w5 b6 w6 b7 w7 b8 w8 x0 x1 x2 x3 x4 x5 x6) v) (fun p => A p + tc0 Q K V Cm Ls Ob Do (i 0).val 6 (0 + p.2))
  H9_24 : ∀ {v : Vec Ideal S1x1536 .f32} {A : Arr EReal} (_ : IsArr v A), IsArr (k0_pay234 (sl.r_129 c i b2 w2 b3 w3 b4 w4 b5 w5 b6 w6 b7 w7 b8 w8 x0 x1 x2 x3 x4 x5 x6) v) (fun p => A p + tc1 Q K V Cm Ls Ob Do (i 0).val 6 (0 + p.2))
  H9_25 : ∀ {v : Vec Ideal S1x256 .f32} {A : Arr EReal} (_ : IsArr v A), IsArr (k0_pay242 (sl.r_133 c i b2 w2 b3 w3 b4 w4 b5 w5 b6 w6 b7 w7 b8 w8 x0 x1 x2 x3 x4 x5 x6) v) (fun p => A p + tc0 Q K V Cm Ls Ob Do (i 0).val 6 (1536 + p.2))
  H9_26 : ∀ {v : Vec Ideal S1x256 .f32} {A : Arr EReal} (_ : IsArr v A), IsArr (k0_pay243 (sl.r_133 c i b2 w2 b3 w3 b4 w4 b5 w5 b6 w6 b7 w7 b8 w8 x0 x1 x2 x3 x4 x5 x6) v) (fun p => A p + tc1 Q K V Cm Ls Ob Do (i 0).val 6 (1536 + p.2))
  H9_27 : ∀ {v : Vec Ideal S1x1792 .f32} {A : Arr EReal} (_ : IsArr v A), IsArr (k0_pay269 (sl.r_150 c i b2 w2 b3 w3 b4 w4 b5 w5 b6 w6 b7 w7 b8 w8 x0 x1 x2 x3 x4 x5 x6) v) (fun p => A p + tc0 Q K V Cm Ls Ob Do (i 0).val 7 (0 + p.2))
  H9_28 : ∀ {v : Vec Ideal S1x1792 .f32} {A : Arr EReal} (_ : IsArr v A), IsArr (k0_pay270 (sl.r_150 c i b2 w2 b3 w3 b4 w4 b5 w5 b6 w6 b7 w7 b8 w8 x0 x1 x2 x3 x4 x5 x6) v) (fun p => A p + tc1 Q K V Cm Ls Ob Do (i 0).val 7 (0 + p.2))
  H9_29 : ∀ {v : Vec Ideal S1x256 .f32} {A : Arr EReal} (_ : IsArr v A), IsArr (k0_pay279 (sl.r_154 c i b2 w2 b3 w3 b4 w4 b5 w5 b6 w6 b7 w7 b8 w8 x0 x1 x2 x3 x4 x5 x6) v) (fun p => A p + tc0 Q K V Cm Ls Ob Do (i 0).val 7 (1792 + p.2))
  H9_30 : ∀ {A : Arr EReal} (_ : IsArr (β := EReal) (R := 1) (C := 256) (sl.v1694 (F := Ideal) c i b2 w2 b3 w3 b4 w4 b5 w5 b6 w6 b7 w7 b8 w8 b12 x0 x1 x2 x3 x4 x5 x6) A), IsArr (sl.r_159 c i b2 w2 b3 w3 b4 w4 b5 w5 b6 w6 b7 w7 b8 w8 b12 x0 x1 x2 x3 x4 x5 x6) (fun p => A p + tc1 Q K V Cm Ls Ob Do (i 0).val 7 (1792 + p.2))

variable {c : Dev nD} {i : grid0.Coords} {b2 : MemB} {w2 : b2.IsWhole} {b11 b13 b14 : MemB} {w11 : b11.IsWhole} {b12 : MemT} {w12 : b12.IsWhole} {xo8 : VecB} {xo9 : Vec Ideal S128x2048 .f32} {b3 : MemB} {w3 : b3.IsWhole} {b4 : MemB} {w4 : b4.IsWhole}
  {b5 : MemT} {w5 : b5.IsWhole} {b6 : MemB} {w6 : b6.IsWhole} {b7 : MemB} {w7 : b7.IsWhole} {b8 : MemB} {w8 : b8.IsWhole}
  {x0 x1 x2 : VecB} {x3 : Vec Ideal S128x2048 .f32} {x4 x5 x6 : VecB} {Q K V Cm Ls Ob Do : Arr EReal}

theorem pieceH8 (hx : Ins x0 x1 x2 x3 x4 x5 x6 Q K V Cm Ls Ob Do) : PieceH8 c i b2 w2 b3 w3 b4 w4 b5 w5 b6 w6 b7 w7 b8 w8 b11 x0 x1 x2 x3 x4 x5 x6 Q K V Cm Ls Ob Do := by
  obtain ⟨hx0, hx1, hx2, hx3, hx4, hx5, hx6⟩ := hx
  constructor
  all_goals
    intros
    rename_i hv
    simp only [sl.v3, sl.r_17, sl.r_14, sl.r_1, sl.r_8, sl.r_2, sl.r_9, sl.r_3, sl.r_10, sl.r_4, sl.r_11, sl.r, sl.r_5, sl.r_6, sl.cst_19, sl.r_12, k0_pay33, k0_pay28, k0_pay18, k0_pay22, k0_pay21, k0_pay20, k0_pay6, k0_pay14, k0_pay4, k0_pay15, k0_pay9, k0_pay16, k0_pay10, k0_pay19, k0_pay13, k0_pay5, k0_pay11, k0_pay12, sl.r_39, sl.r_24, sl.r_19, sl.r_25, sl.r_20, sl.r_34, sl.r_31, sl.r_26, sl.r_21, sl.r_27, sl.r_22, sl.r_28, sl.r_35, sl.r_29, sl.r_36, k0_pay70, k0_pay66, k0_pay61, k0_pay40, k0_pay41, k0_pay34, k0_pay56, k0_pay44, k0_pay50, k0_pay49, k0_pay47, k0_pay46, k0_pay42, k0_pay35, k0_pay45, k0_pay39, k0_pay37, k0_pay38, k0_pay36, k0_pay59, k0_pay48, k0_pay60, sl.r_54, sl.r_55, sl.r_56, sl.r_53, sl.r_42, sl.r_40, sl.r_43, sl.r_44, sl.r_47, sl.r_41, sl.r_50, sl.r_46, sl.r_57, sl.r_58, k0_pay104, k0_pay99, k0_pay100, k0_pay101, k0_pay95, k0_pay90, k0_pay89, k0_pay72, k0_pay73, k0_pay74, k0_pay79, k0_pay77, k0_pay71, k0_pay86, k0_pay81, k0_pay80, k0_pay76, k0_pay78, k0_pay102, k0_pay103, sl.r_74, sl.r_70, sl.r_69, sl.r_62, sl.r_63, sl.r_59, sl.r_64, sl.r_60, sl.r_65, sl.r_61, sl.r_72, sl.r_66, sl.v698, k0_pay138, k0_pay134, k0_pay125, k0_pay113, k0_pay124, k0_pay119, k0_pay118, k0_pay108, k0_pay110, k0_pay109, k0_pay105, k0_pay111, k0_pay106, k0_pay114, k0_pay107, k0_pay129, k0_pay128, k0_pay117, k0_pay115, k0_pay116, sl.r_98, sl.r_93, sl.r_90, sl.r_82, sl.r_76, sl.r_83, sl.r_77, sl.r_84, sl.r_78, sl.r_85, sl.r_79, sl.r_80, sl.r_86, sl.r_87, sl.r_94, sl.r_88, sl.r_95, sl.r_96, k0_pay178, k0_pay172, k0_pay167, k0_pay161, k0_pay149, k0_pay155, k0_pay154, k0_pay152, k0_pay151, k0_pay145, k0_pay146, k0_pay139, k0_pay147, k0_pay140, k0_pay150, k0_pay144, k0_pay143, k0_pay141, k0_pay142, k0_pay164, k0_pay153, k0_pay165, k0_pay166, sl.r_115, sl.r_116, sl.r_117, sl.r_114, sl.r_104, sl.r_101, sl.r_105, sl.r_102, sl.r_106, sl.r_107, sl.r_103, sl.r_111, sl.r_108, sl.r_118, sl.r_119, k0_pay211, k0_pay206, k0_pay207, k0_pay208, k0_pay202, k0_pay197, k0_pay196, k0_pay180, k0_pay181, k0_pay182, k0_pay186, k0_pay185, k0_pay179, k0_pay193, k0_pay188, k0_pay184, k0_pay187, k0_pay209, k0_pay210, sl.r_135, sl.r_131, sl.r_123, sl.r_125, sl.r_120, sl.r_124, sl.r_126, sl.r_121, sl.r_127, sl.r_122, sl.r_133, sl.r_128, k0_pay245, k0_pay241, k0_pay232, k0_pay227, k0_pay226, k0_pay220, k0_pay215, k0_pay217, k0_pay212, k0_pay216, k0_pay218, k0_pay213, k0_pay221, k0_pay214, k0_pay236, k0_pay235, k0_pay225, k0_pay222, k0_pay223, k0_pay224, sl.r_158, sl.r_152, sl.r_150, sl.r_142, sl.r_136, sl.r_143, sl.r_137, sl.r_144, sl.r_138, sl.r_145, sl.r_139, sl.r_140, sl.r_146, sl.r_147, sl.r_154, sl.r_148, k0_pay282, k0_pay278, k0_pay268, k0_pay256, k0_pay263, k0_pay262, k0_pay260, k0_pay258, k0_pay252, k0_pay253, k0_pay246, k0_pay254, k0_pay247, k0_pay257, k0_pay251, k0_pay249, k0_pay248, k0_pay250, k0_pay259, k0_pay272, k0_pay271, k0_pay261, sl.r_18, sl.r_15, k0_pay32, k0_pay31, k0_pay24, k0_pay23, k0_pay17, sl.r_38, sl.r_32, k0_pay69, k0_pay63, k0_pay62, k0_pay52, k0_pay51, k0_pay43, sl.r_52, sl.r_49, sl.r_45, k0_pay98, k0_pay92, k0_pay91, k0_pay83, k0_pay82, k0_pay75, sl.r_75, sl.r_73, sl.r_68, k0_pay137, k0_pay131, k0_pay130, k0_pay121, k0_pay120, k0_pay112, sl.r_97, sl.r_91, k0_pay177, k0_pay169, k0_pay168, k0_pay157, k0_pay156, k0_pay148, sl.r_113, sl.r_110, k0_pay205, k0_pay199, k0_pay198, k0_pay190, k0_pay189, k0_pay183, sl.r_134, sl.r_130, k0_pay244, k0_pay238, k0_pay237, k0_pay229, k0_pay228, k0_pay219, sl.r_157, sl.r_151, sl.r_155, sl.r_156, k0_pay281, k0_pay275, k0_pay265, k0_pay264, k0_pay255, k0_pay273, k0_pay274]
    apply IsArr.congr
    · repeat' (first | (with_reducible first | exact hv | exact arr_in w2 hx0 _ | exact arr_in w3 hx1 _ | exact arr_in w4 hx2 _ | exact arr_in w6 hx4 _ | exact arr_in w7 hx5 _ | exact arr_in w8 hx6 _ | exact arr_in_off w5 hx3 (by with_reducible first | exact off1 i | exact off2 i | exact off3 i | exact off4 i | exact off7 i | exact off8 i | exact off11 i | exact off12 i | exact off15 i | exact off16 i | exact off19 i | exact off20 i | exact off23 i | exact off24 i | exact off27 i | exact off28 i) _ | exact msk_causal _ _ _ | exact msk_first _ | exact msk_upper _ | apply msk_cast | apply msk_row | apply msk_col | exact arr_zero | exact arr_const0 | exact arr_c8 | exact arr_mask | apply arr_addf | apply arr_subf | apply arr_mulf | apply arr_exp | apply arr_truncf | apply arr_sel | apply isArr_cast_self | apply arr_bc_row | apply arr_bc_col | apply arr_slice | apply arr_cat | apply arr_rowsum_128 | apply arr_rowsum_256 | apply arr_colsum_256 | apply arr_rowsum_512 | apply arr_colsum_512 | apply arr_rowsum_768 | apply arr_colsum_768 | apply arr_rowsum_1024 | apply arr_colsum_1024 | apply arr_rowsum_1280 | apply arr_colsum_1280 | apply arr_rowsum_1536 | apply arr_colsum_1536 | apply arr_rowsum_1792 | apply arr_colsum_1792 | exact msk_lane0 _ _ | exact msk_lane1 _ _) | ((with_reducible apply arr_nt); rotate_left 2; rfl) | ((with_reducible apply arr_nn); rotate_left 2; rfl) | ((with_reducible apply arr_tn); rotate_left 2; exact ⟨rfl, rfl, rfl, rfl, rfl, rfl⟩) | exact msk_causal _ _ _)
    · intro a b ha hb
      simp only [tdk, tdv, tc0, tc1, trow_eq, tdq, tdq2_eq, tDh, tDd, tD, tP, tS, tlse, tdelta, tdo, tq, zero_add, add_zero, Finset.range_zero, Finset.sum_empty, Nat.mul_zero, Nat.reduceMul, Nat.reduceAdd]

theorem pieceH9 (hx : Ins x0 x1 x2 x3 x4 x5 x6 Q K V Cm Ls Ob Do) : PieceH9 c i b2 w2 b3 w3 b4 w4 b5 w5 b6 w6 b7 w7 b8 w8 x0 x1 x2 x3 x4 x5 x6 Q K V Cm Ls Ob Do := by
  obtain ⟨hx0, hx1, hx2, hx3, hx4, hx5, hx6⟩ := hx
  constructor
  all_goals
    intros
    rename_i hv
    simp only [sl.r_14, sl.r_1, sl.r_8, sl.r_2, sl.r_9, sl.r_3, sl.r_10, sl.r_4, sl.r_11, sl.r, sl.r_5, sl.r_6, sl.cst_19, sl.r_12, k0_pay29, k0_pay22, k0_pay21, k0_pay20, k0_pay6, k0_pay14, k0_pay4, k0_pay15, k0_pay9, k0_pay16, k0_pay10, k0_pay19, k0_pay13, k0_pay5, k0_pay11, k0_pay12, k0_pay30, sl.r_31, sl.r_24, sl.r_19, sl.r_25, sl.r_20, sl.r_26, sl.r_21, sl.r_27, sl.r_22, sl.r_28, k0_pay57, k0_pay50, k0_pay49, k0_pay47, k0_pay46, k0_pay40, k0_pay41, k0_pay34, k0_pay42, k0_pay35, k0_pay45, k0_pay39, k0_pay37, k0_pay38, k0_pay36, k0_pay58, sl.r_35, sl.r_29, sl.r_36, k0_pay67, k0_pay61, k0_pay59, k0_pay48, k0_pay60, sl.r_37, k0_pay68, sl.r_42, sl.r_40, sl.r_43, sl.r_44, sl.r_46, sl.r_41, k0_pay87, k0_pay81, k0_pay80, k0_pay72, k0_pay73, k0_pay74, k0_pay78, k0_pay77, k0_pay71, sl.r_48, k0_pay88, sl.r_51, sl.r_47, k0_pay96, k0_pay90, k0_pay89, k0_pay79, k0_pay97, sl.r_67, sl.r_62, sl.r_63, sl.r_59, sl.r_64, sl.r_60, sl.r_65, sl.r_61, k0_pay126, k0_pay119, k0_pay118, k0_pay108, k0_pay110, k0_pay109, k0_pay105, k0_pay111, k0_pay106, k0_pay114, k0_pay107, k0_pay127, sl.r_72, sl.r_66, sl.v698, k0_pay135, k0_pay129, k0_pay128, k0_pay117, k0_pay115, k0_pay116, k0_pay136, sl.r_90, sl.r_82, sl.r_76, sl.r_83, sl.r_77, sl.r_84, sl.r_78, sl.r_85, sl.r_79, sl.r_80, sl.r_86, sl.r_87, k0_pay162, k0_pay155, k0_pay154, k0_pay152, k0_pay151, k0_pay145, k0_pay146, k0_pay139, k0_pay147, k0_pay140, k0_pay150, k0_pay144, k0_pay143, k0_pay141, k0_pay142]
    apply IsArr.congr
    · repeat' (first | (with_reducible first | exact hv | exact arr_in w2 hx0 _ | exact arr_in w3 hx1 _ | exact arr_in w4 hx2 _ | exact arr_in w6 hx4 _ | exact arr_in w7 hx5 _ | exact arr_in w8 hx6 _ | exact arr_in_off w5 hx3 (by with_reducible first | exact off1 i | exact off2 i | exact off3 i | exact off4 i | exact off7 i | exact off8 i | exact off11 i | exact off12 i | exact off15 i | exact off16 i) _ | exact msk_causal _ _ _ | exact msk_first _ | exact msk_upper _ | apply msk_cast | apply msk_row | apply msk_col | exact arr_zero | exact arr_const0 | exact arr_c8 | exact arr_mask | apply arr_addf | apply arr_subf | apply arr_mulf | apply arr_exp | apply arr_truncf | apply arr_sel | apply isArr_cast_self | apply arr_bc_row | apply arr_bc_col | apply arr_slice | apply arr_cat | apply arr_rowsum_128 | apply arr_rowsum_256 | apply arr_colsum_256 | apply arr_rowsum_512 | apply arr_colsum_512 | apply arr_rowsum_768 | apply arr_colsum_768 | apply arr_rowsum_1024 | apply arr_colsum_1024 | exact msk_lane0 _ _ | exact msk_lane1 _ _) | ((with_reducible apply arr_nt); rotate_left 2; rfl) | ((with_reducible apply arr_nn); rotate_left 2; rfl) | ((with_reducible apply arr_tn); rotate_left 2; exact ⟨rfl, rfl, rfl, rfl, rfl, rfl⟩) | exact msk_causal _ _ _)
    · intro a b ha hb
      simp only [tdk, tdv, tc0, tc1, trow_eq, tdq, tdq2_eq, tDh, tDd, tD, tP, tS, tlse, tdelta, tdo, tq, zero_add, add_zero, Finset.range_zero, Finset.sum_empty, Nat.mul_zero, Nat.reduceMul, Nat.reduceAdd]
      try simp only [Nat.add_le_add_iff_left]
      try simp only [show ∀ n r, b ≤ n → b ≤ n + r % 256 from fun n r h => by omega, Nat.le_of_lt hb, sel_pos]

theorem pieceH9b (hx : Ins x0 x1 x2 x3 x4 x5 x6 Q K V Cm Ls Ob Do) : PieceH9b c i b2 w2 b3 w3 b4 w4 b5 w5 b6 w6 b7 w7 b8 w8 b12 x0 x1 x2 x3 x4 x5 x6 Q K V Cm Ls Ob Do := by
  obtain ⟨hx0, hx1, hx2, hx3, hx4, hx5, hx6⟩ := hx
  constructor
  all_goals
    intros
    rename_i hv
    simp only [sl.r_90, sl.r_1, sl.r_82, sl.r_76, sl.r_83, sl.r_77, sl.r_84, sl.r_78, sl.r_85, sl.r, sl.r_79, sl.r_80, sl.cst_19, sl.r_86, sl.r_87, k0_pay163, k0_pay155, k0_pay154, k0_pay152, k0_pay151, k0_pay6, k0_pay145, k0_pay4, k0_pay146, k0_pay139, k0_pay147, k0_pay140, k0_pay150, k0_pay144, k0_pay143, k0_pay5, k0_pay141, k0_pay142, sl.r_94, sl.r_88, sl.r_95, sl.r_96, k0_pay173, k0_pay167, k0_pay164, k0_pay153, k0_pay165, k0_pay166, sl.r_99, sl.r_100, k0_pay176, k0_pay174, k0_pay175, sl.r_104, sl.r_101, sl.r_105, sl.r_102, sl.r_108, sl.r_103, sl.r_106, k0_pay194, k0_pay188, k0_pay180, k0_pay181, k0_pay187, k0_pay185, k0_pay179, k0_pay182, sl.r_109, k0_pay195, sl.r_112, sl.r_107, k0_pay203, k0_pay197, k0_pay196, k0_pay186, k0_pay204, sl.r_129, sl.r_123, sl.r_125, sl.r_120, sl.r_124, sl.r_126, sl.r_121, sl.r_127, sl.r_122, k0_pay233, k0_pay227, k0_pay226, k0_pay215, k0_pay217, k0_pay212, k0_pay216, k0_pay218, k0_pay213, k0_pay221, k0_pay214, k0_pay234, sl.r_133, sl.r_128, sl.v698, k0_pay242, k0_pay236, k0_pay235, k0_pay225, k0_pay222, k0_pay223, k0_pay224, k0_pay243, sl.r_150, sl.r_142, sl.r_136, sl.r_143, sl.r_137, sl.r_144, sl.r_138, sl.r_145, sl.r_139, sl.r_140, sl.r_146, sl.r_147, k0_pay269, k0_pay263, k0_pay262, k0_pay260, k0_pay258, k0_pay252, k0_pay253, k0_pay246, k0_pay254, k0_pay247, k0_pay257, k0_pay251, k0_pay249, k0_pay248, k0_pay250, k0_pay259, k0_pay270, sl.r_154, sl.r_148, k0_pay279, k0_pay272, k0_pay271, k0_pay261, sl.r_159, k0_pay280]
    apply IsArr.congr
    · repeat' (first | (with_reducible first | exact hv | exact arr_in w2 hx0 _ | exact arr_in w3 hx1 _ | exact arr_in w4 hx2 _ | exact arr_in w6 hx4 _ | exact arr_in w7 hx5 _ | exact arr_in w8 hx6 _ | exact arr_in_off w5 hx3 (by with_reducible first | exact off15 i | exact off16 i | exact off19 i | exact off20 i | exact off23 i | exact off24 i | exact off27 i | exact off28 i) _ | exact msk_causal _ _ _ | exact msk_first _ | exact msk_upper _ | apply msk_cast | apply msk_row | apply msk_col | exact arr_zero | exact arr_const0 | exact arr_c8 | exact arr_mask | apply arr_addf | apply arr_subf | apply arr_mulf | apply arr_exp | apply arr_truncf | apply arr_sel | apply isArr_cast_self | apply arr_bc_row | apply arr_bc_col | apply arr_slice | apply arr_cat | apply arr_rowsum_128 | apply arr_rowsum_1024 | apply arr_colsum_1024 | apply arr_rowsum_256 | apply arr_colsum_256 | apply arr_rowsum_1280 | apply arr_colsum_1280 | apply arr_rowsum_1536 | apply arr_colsum_1536 | apply arr_rowsum_1792 | apply arr_colsum_1792 | exact msk_lane0 _ _ | exact msk_lane1 _ _) | ((with_reducible apply arr_nt); rotate_left 2; rfl) | ((with_reducible apply arr_nn); rotate_left 2; rfl) | ((with_reducible apply arr_tn); rotate_left 2; exact ⟨rfl, rfl, rfl, rfl, rfl, rfl⟩) | exact msk_causal _ _ _)
    · intro a b ha hb
      simp only [tdk, tdv, tc0, tc1, trow_eq, tdq, tdq2_eq, tDh, tDd, tD, tP, tS, tlse, tdelta, tdo, tq, zero_add, add_zero, Finset.range_zero, Finset.sum_empty, Nat.mul_zero, Nat.reduceMul, Nat.reduceAdd]
      try simp only [Nat.add_le_add_iff_left]
      try simp only [show ∀ n r, b ≤ n → b ≤ n + r % 256 from fun n r h => by omega, Nat.le_of_lt hb, sel_pos]

end Cert.Fox

end
-- ==== Proof.FoxChainA.lean ====
/- The arrays that run A leaves in its buffers. -/
module

public import proofs.«01_k».proof.Proof.FoxPieceA1
public import proofs.«01_k».proof.Proof.FoxPieceA2
public import proofs.«01_k».proof.Proof.FoxStep
public import proofs.«01_k».proof.Proof.FoxFrame

@[expose] public section

set_option maxRecDepth 10000

noncomputable section

namespace Cert.Fox

open Cert.KernelIdeal Cert.KernelIdeal.Gen Idealize.ShloMosaic Idealize.ShloMosaic.Updates kernelRun0_A
open Idealize.ShloMosaic.LaneScatter (Blk)

variable {c : Dev nD} {i : grid0.Coords} {b2 : MemB} {w2 : b2.IsWhole} {b11 b13 b14 : MemB} {w11 : b11.IsWhole} {b12 : MemT} {w12 : b12.IsWhole} {xo8 : VecB} {xo9 : Vec Ideal S128x2048 .f32} {b3 : MemB} {w3 : b3.IsWhole} {b4 : MemB} {w4 : b4.IsWhole}
  {b5 : MemT} {w5 : b5.IsWhole} {b6 : MemB} {w6 : b6.IsWhole} {b7 : MemB} {w7 : b7.IsWhole} {b8 : MemB} {w8 : b8.IsWhole}
  {x0 x1 x2 : VecB} {x3 : Vec Ideal S128x2048 .f32} {x4 x5 x6 : VecB} {Q K V Cm Ls Ob Do : Arr EReal}
  (hx : Ins x0 x1 x2 x3 x4 x5 x6 Q K V Cm Ls Ob Do)

include hx

omit hx in
theorem A_HS0_at_1 (T : ℕ → Arr EReal) : LeavesB (sl.HS0_1 (F := Ideal)) (rowsAt T 1) := by
  intro v f
  rw [rowsAt_start]
  refine isArr_writes_whole (R := 2048) (C := 128) f [] _ ?_
  simp only [k0_pay7]
  exact isArr_cast_self arr_zero _

theorem A_HS0_at_2 : LeavesB (sl.HS0_2 (F := Ideal) c i b2 w2 b3 w3 b4 w4 b5 w5 b6 w6 b7 w7 b8 w8 b13 x0 x1 x2 x3 x4 x5 x6) (rowsAt (tdk Q K V Cm Ls Ob Do (i 0).val) 2) := fun v f =>
  step_rows _ 1 (A_HS0_at_1 (tdk Q K V Cm Ls Ob Do (i 0).val) v f) rfl _ ((pieceS hx).HS0_1 (isArr_load (o := (0, 0)) (A_HS0_at_1 (tdk Q K V Cm Ls Ob Do (i 0).val) b13.view _) rfl _))

theorem A_HS0_at_3 : LeavesB (sl.HS0_3 (F := Ideal) c i b2 w2 b3 w3 b4 w4 b5 w5 b6 w6 b7 w7 b8 w8 b13 x0 x1 x2 x3 x4 x5 x6) (rowsAt (tdk Q K V Cm Ls Ob Do (i 0).val) 3) := fun v f =>
  step_rows _ 2 (A_HS0_at_2 hx v f) rfl _ ((pieceS (b13 := b13) hx).HS0_2 (isArr_load (o := (0, 0)) (A_HS0_at_2 hx b13.view _) rfl _))

theorem A_HS0_at_4 : LeavesB (sl.HS0_4 (F := Ideal) c i b2 w2 b3 w3 b4 w4 b5 w5 b6 w6 b7 w7 b8 w8 b13 x0 x1 x2 x3 x4 x5 x6) (rowsAt (tdk Q K V Cm Ls Ob Do (i 0).val) 4) := fun v f =>
  step_rows _ 3 (A_HS0_at_3 hx v f) rfl _ ((pieceS (b13 := b13) hx).HS0_3 (isArr_load (o := (256, 0)) (A_HS0_at_3 hx b13.view _) rfl _))

theorem A_HS0_at_5 : LeavesB (sl.HS0_5 (F := Ideal) c i b2 w2 b3 w3 b4 w4 b5 w5 b6 w6 b7 w7 b8 w8 b13 x0 x1 x2 x3 x4 x5 x6) (rowsAt (tdk Q K V Cm Ls Ob Do (i 0).val) 5) := fun v f =>
  step_rows _ 4 (A_HS0_at_4 hx v f) rfl _ ((pieceS (b13 := b13) hx).HS0_4 (isArr_load (o := (0, 0)) (A_HS0_at_4 hx b13.view _) rfl _))

theorem A_HS0_at_6 : LeavesB (sl.HS0_6 (F := Ideal) c i b2 w2 b3 w3 b4 w4 b5 w5 b6 w6 b7 w7 b8 w8 b13 x0 x1 x2 x3 x4 x5 x6) (rowsAt (tdk Q K V Cm Ls Ob Do (i 0).val) 6) := fun v f =>
  step_rows _ 5 (A_HS0_at_5 hx v f) rfl _ ((pieceS (b13 := b13) hx).HS0_5 (isArr_load (o := (512, 0)) (A_HS0_at_5 hx b13.view _) rfl _))

theorem A_HS0_at_7 : LeavesB (sl.HS0_7 (F := Ideal) c i b2 w2 b3 w3 b4 w4 b5 w5 b6 w6 b7 w7 b8 w8 b13 x0 x1 x2 x3 x4 x5 x6) (rowsAt (tdk Q K V Cm Ls Ob Do (i 0).val) 7) := fun v f =>
  step_rows _ 6 (A_HS0_at_6 hx v f) rfl _ ((pieceS (b13 := b13) hx).HS0_6 (isArr_load (o := (0, 0)) (A_HS0_at_6 hx b13.view _) rfl _))

theorem A_HS0_at_8 : LeavesB (sl.HS0_8 (F := Ideal) c i b2 w2 b3 w3 b4 w4 b5 w5 b6 w6 b7 w7 b8 w8 b13 x0 x1 x2 x3 x4 x5 x6) (rowsAt (tdk Q K V Cm Ls Ob Do (i 0).val) 8) := fun v f =>
  step_rows _ 7 (A_HS0_at_7 hx v f) rfl _ ((pieceS (b13 := b13) hx).HS0_7 (isArr_load (o := (768, 0)) (A_HS0_at_7 hx b13.view _) rfl _))

theorem A_HS0_at_9 : LeavesB (sl.HS0_9 (F := Ideal) c i b2 w2 b3 w3 b4 w4 b5 w5 b6 w6 b7 w7 b8 w8 b13 x0 x1 x2 x3 x4 x5 x6) (rowsAt (tdk Q K V Cm Ls Ob Do (i 0).val) 9) := fun v f =>
  step_rows _ 8 (A_HS0_at_8 hx v f) rfl _ ((pieceS hx).HS0_8 (isArr_load (o := (0, 0)) (A_HS0_at_8 hx b13.view _) rfl _))

theorem A_HS0_at_10 : LeavesB (sl.HS0_10 (F := Ideal) c i b2 w2 b3 w3 b4 w4 b5 w5 b6 w6 b7 w7 b8 w8 b13 x0 x1 x2 x3 x4 x5 x6) (rowsAt (tdk Q K V Cm Ls Ob Do (i 0).val) 10) := fun v f =>
  step_rows _ 9 (A_HS0_at_9 hx v f) rfl _ ((pieceS (b13 := b13) hx).HS0_9 (isArr_load (o := (1024, 0)) (A_HS0_at_9 hx b13.view _) rfl _))

theorem A_HS0_at_11 : LeavesB (sl.HS0_11 (F := Ideal) c i b2 w2 b3 w3 b4 w4 b5 w5 b6 w6 b7 w7 b8 w8 b13 x0 x1 x2 x3 x4 x5 x6) (rowsAt (tdk Q K V Cm Ls Ob Do (i 0).val) 11) := fun v f =>
  step_rows _ 10 (A_HS0_at_10 hx v f) rfl _ ((pieceS (b13 := b13) hx).HS0_10 (isArr_load (o := (0, 0)) (A_HS0_at_10 hx b13.view _) rfl _))

theorem A_HS0_at_12 : LeavesB (sl.HS0_12 (F := Ideal) c i b2 w2 b3 w3 b4 w4 b5 w5 b6 w6 b7 w7 b8 w8 b13 x0 x1 x2 x3 x4 x5 x6) (rowsAt (tdk Q K V Cm Ls Ob Do (i 0).val) 12) := fun v f =>
  step_rows _ 11 (A_HS0_at_11 hx v f) rfl _ ((pieceS (b13 := b13) hx).HS0_11 (isArr_load (o := (1280, 0)) (A_HS0_at_11 hx b13.view _) rfl _))

theorem A_HS0_at_13 : LeavesB (sl.HS0_13 (F := Ideal) c i b2 w2 b3 w3 b4 w4 b5 w5 b6 w6 b7 w7 b8 w8 b13 x0 x1 x2 x3 x4 x5 x6) (rowsAt (tdk Q K V Cm Ls Ob Do (i 0).val) 13) := fun v f =>
  step_rows _ 12 (A_HS0_at_12 hx v f) rfl _ ((pieceS (b13 := b13) hx).HS0_12 (isArr_load (o := (0, 0)) (A_HS0_at_12 hx b13.view _) rfl _))

theorem A_HS0_at_14 : LeavesB (sl.HS0_14 (F := Ideal) c i b2 w2 b3 w3 b4 w4 b5 w5 b6 w6 b7 w7 b8 w8 b13 x0 x1 x2 x3 x4 x5 x6) (rowsAt (tdk Q K V Cm Ls Ob Do (i 0).val) 14) := fun v f =>
  step_rows _ 13 (A_HS0_at_13 hx v f) rfl _ ((pieceS (b13 := b13) hx).HS0_13 (isArr_load (o := (1536, 0)) (A_HS0_at_13 hx b13.view _) rfl _))

theorem A_HS0_at_15 : LeavesB (sl.HS0_15 (F := Ideal) c i b2 w2 b3 w3 b4 w4 b5 w5 b6 w6 b7 w7 b8 w8 b13 x0 x1 x2 x3 x4 x5 x6) (rowsAt (tdk Q K V Cm Ls Ob Do (i 0).val) 15) := fun v f =>
  step_rows _ 14 (A_HS0_at_14 hx v f) rfl _ ((pieceS (b13 := b13) hx).HS0_14 (isArr_load (o := (0, 0)) (A_HS0_at_14 hx b13.view _) rfl _))

theorem A_HS0_at_16 : LeavesB (sl.HS0_16 (F := Ideal) c i b2 w2 b3 w3 b4 w4 b5 w5 b6 w6 b7 w7 b8 w8 b13 x0 x1 x2 x3 x4 x5 x6) (rowsAt (tdk Q K V Cm Ls Ob Do (i 0).val) 16) := fun v f =>
  step_rows _ 15 (A_HS0_at_15 hx v f) rfl _ ((pieceS (b13 := b13) hx).HS0_15 (isArr_load (o := (1792, 0)) (A_HS0_at_15 hx b13.view _) rfl _))

omit hx in
theorem A_HS1_at_1 (T : ℕ → Arr EReal) : LeavesB (sl.HS1_1 (F := Ideal)) (rowsAt T 1) := by
  intro v f
  rw [rowsAt_start]
  refine isArr_writes_whole (R := 2048) (C := 128) f [] _ ?_
  simp only [k0_pay8]
  exact isArr_cast_self arr_zero _

theorem A_HS1_at_2 : LeavesB (sl.HS1_2 (F := Ideal) c i b2 w2 b3 w3 b5 w5 b6 w6 b8 w8 b14 x0 x1 x3 x4 x6) (rowsAt (tdv Q K Cm Ls Do (i 0).val) 2) := fun v f =>
  step_rows _ 1 (A_HS1_at_1 (tdv Q K Cm Ls Do (i 0).val) v f) rfl _ ((pieceS (w4 := w2) (w7 := w2) (b13 := b2) hx).HS1_1 (isArr_load (o := (0, 0)) (A_HS1_at_1 (tdv Q K Cm Ls Do (i 0).val) b14.view _) rfl _))

theorem A_HS1_at_3 : LeavesB (sl.HS1_3 (F := Ideal) c i b2 w2 b3 w3 b5 w5 b6 w6 b8 w8 b14 x0 x1 x3 x4 x6) (rowsAt (tdv Q K Cm Ls Do (i 0).val) 3) := fun v f =>
  step_rows _ 2 (A_HS1_at_2 hx v f) rfl _ ((pieceS (w4 := w2) (w7 := w2) (b13 := b2) hx).HS1_2 (isArr_load (o := (0, 0)) (A_HS1_at_2 hx b14.view _) rfl _))

theorem A_HS1_at_4 : LeavesB (sl.HS1_4 (F := Ideal) c i b2 w2 b3 w3 b5 w5 b6 w6 b8 w8 b14 x0 x1 x3 x4 x6) (rowsAt (tdv Q K Cm Ls Do (i 0).val) 4) := fun v f =>
  step_rows _ 3 (A_HS1_at_3 hx v f) rfl _ ((pieceS (w4 := w2) (w7 := w2) (b13 := b2) hx).HS1_3 (isArr_load (o := (256, 0)) (A_HS1_at_3 hx b14.view _) rfl _))

theorem A_HS1_at_5 : LeavesB (sl.HS1_5 (F := Ideal) c i b2 w2 b3 w3 b5 w5 b6 w6 b8 w8 b14 x0 x1 x3 x4 x6) (rowsAt (tdv Q K Cm Ls Do (i 0).val) 5) := fun v f =>
  step_rows _ 4 (A_HS1_at_4 hx v f) rfl _ ((pieceS (w4 := w2) (w7 := w2) (b13 := b2) hx).HS1_4 (isArr_load (o := (0, 0)) (A_HS1_at_4 hx b14.view _) rfl _))

theorem A_HS1_at_6 : LeavesB (sl.HS1_6 (F := Ideal) c i b2 w2 b3 w3 b5 w5 b6 w6 b8 w8 b14 x0 x1 x3 x4 x6) (rowsAt (tdv Q K Cm Ls Do (i 0).val) 6) := fun v f =>
  step_rows _ 5 (A_HS1_at_5 hx v f) rfl _ ((pieceS (w4 := w2) (w7 := w2) (b13 := b2) hx).HS1_5 (isArr_load (o := (512, 0)) (A_HS1_at_5 hx b14.view _) rfl _))

theorem A_HS1_at_7 : LeavesB (sl.HS1_7 (F := Ideal) c i b2 w2 b3 w3 b5 w5 b6 w6 b8 w8 b14 x0 x1 x3 x4 x6) (rowsAt (tdv Q K Cm Ls Do (i 0).val) 7) := fun v f =>
  step_rows _ 6 (A_HS1_at_6 hx v f) rfl _ ((pieceS (w4 := w2) (w7 := w2) (b13 := b2) hx).HS1_6 (isArr_load (o := (0, 0)) (A_HS1_at_6 hx b14.view _) rfl _))

theorem A_HS1_at_8 : LeavesB (sl.HS1_8 (F := Ideal) c i b2 w2 b3 w3 b5 w5 b6 w6 b8 w8 b14 x0 x1 x3 x4 x6) (rowsAt (tdv Q K Cm Ls Do (i 0).val) 8) := fun v f =>
  step_rows _ 7 (A_HS1_at_7 hx v f) rfl _ ((pieceS (w4 := w2) (w7 := w2) (b13 := b2) hx).HS1_7 (isArr_load (o := (768, 0)) (A_HS1_at_7 hx b14.view _) rfl _))

theorem A_HS1_at_9 : LeavesB (sl.HS1_9 (F := Ideal) c i b2 w2 b3 w3 b5 w5 b6 w6 b8 w8 b14 x0 x1 x3 x4 x6) (rowsAt (tdv Q K Cm Ls Do (i 0).val) 9) := fun v f =>
  step_rows _ 8 (A_HS1_at_8 hx v f) rfl _ ((pieceS (w4 := w2) (w7 := w2) (b13 := b2) hx).HS1_8 (isArr_load (o := (0, 0)) (A_HS1_at_8 hx b14.view _) rfl _))

theorem A_HS1_at_10 : LeavesB (sl.HS1_10 (F := Ideal) c i b2 w2 b3 w3 b5 w5 b6 w6 b8 w8 b14 x0 x1 x3 x4 x6) (rowsAt (tdv Q K Cm Ls Do (i 0).val) 10) := fun v f =>
  step_rows _ 9 (A_HS1_at_9 hx v f) rfl _ ((pieceS (w4 := w2) (w7 := w2) (b13 := b2) hx).HS1_9 (isArr_load (o := (1024, 0)) (A_HS1_at_9 hx b14.view _) rfl _))

theorem A_HS1_at_11 : LeavesB (sl.HS1_11 (F := Ideal) c i b2 w2 b3 w3 b5 w5 b6 w6 b8 w8 b14 x0 x1 x3 x4 x6) (rowsAt (tdv Q K Cm Ls Do (i 0).val) 11) := fun v f =>
  step_rows _ 10 (A_HS1_at_10 hx v f) rfl _ ((pieceS (w4 := w2) (w7 := w2) (b13 := b2) hx).HS1_10 (isArr_load (o := (0, 0)) (A_HS1_at_10 hx b14.view _) rfl _))

theorem A_HS1_at_12 : LeavesB (sl.HS1_12 (F := Ideal) c i b2 w2 b3 w3 b5 w5 b6 w6 b8 w8 b14 x0 x1 x3 x4 x6) (rowsAt (tdv Q K Cm Ls Do (i 0).val) 12) := fun v f =>
  step_rows _ 11 (A_HS1_at_11 hx v f) rfl _ ((pieceS (w4 := w2) (w7 := w2) (b13 := b2) hx).HS1_11 (isArr_load (o := (1280, 0)) (A_HS1_at_11 hx b14.view _) rfl _))

theorem A_HS1_at_13 : LeavesB (sl.HS1_13 (F := Ideal) c i b2 w2 b3 w3 b5 w5 b6 w6 b8 w8 b14 x0 x1 x3 x4 x6) (rowsAt (tdv Q K Cm Ls Do (i 0).val) 13) := fun v f =>
  step_rows _ 12 (A_HS1_at_12 hx v f) rfl _ ((pieceS (w4 := w2) (w7 := w2) (b13 := b2) hx).HS1_12 (isArr_load (o := (0, 0)) (A_HS1_at_12 hx b14.view _) rfl _))

theorem A_HS1_at_14 : LeavesB (sl.HS1_14 (F := Ideal) c i b2 w2 b3 w3 b5 w5 b6 w6 b8 w8 b14 x0 x1 x3 x4 x6) (rowsAt (tdv Q K Cm Ls Do (i 0).val) 14) := fun v f =>
  step_rows _ 13 (A_HS1_at_13 hx v f) rfl _ ((pieceS (w4 := w2) (w7 := w2) (b13 := b2) hx).HS1_13 (isArr_load (o := (1536, 0)) (A_HS1_at_13 hx b14.view _) rfl _))

theorem A_HS1_at_15 : LeavesB (sl.HS1_15 (F := Ideal) c i b2 w2 b3 w3 b5 w5 b6 w6 b8 w8 b14 x0 x1 x3 x4 x6) (rowsAt (tdv Q K Cm Ls Do (i 0).val) 15) := fun v f =>
  step_rows _ 14 (A_HS1_at_14 hx v f) rfl _ ((pieceS (w4 := w2) (w7 := w2) (b13 := b2) hx).HS1_14 (isArr_load (o := (0, 0)) (A_HS1_at_14 hx b14.view _) rfl _))

theorem A_HS1_at_16 : LeavesB (sl.HS1_16 (F := Ideal) c i b2 w2 b3 w3 b5 w5 b6 w6 b8 w8 b14 x0 x1 x3 x4 x6) (rowsAt (tdv Q K Cm Ls Do (i 0).val) 16) := fun v f =>
  step_rows _ 15 (A_HS1_at_15 hx v f) rfl _ ((pieceS (w4 := w2) (w7 := w2) (b13 := b2) hx).HS1_15 (isArr_load (o := (1792, 0)) (A_HS1_at_15 hx b14.view _) rfl _))

omit hx in
theorem A_H9_at_1 (T0 T1 : ℕ → ℕ → EReal) (j : ℕ) : LeavesT (sl.H9_1 (F := Ideal)) (colsAt (fun _ => 0) T0 T1 j 1 1) := by
  intro v f
  rw [colsAt_start]
  refine isArr_writes_whole (R := 128) (C := 2048) f [] _ ?_
  simp only [k0_pay3]
  exact arr_zero

theorem A_H9_2_at : LeavesT (sl.H9_2 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 2 1) := fun v f =>
  step_col0 (fun _ => 0) _ _ _ 1 1 (A_H9_at_1 (tc0 Q K V Cm Ls Ob Do (i 0).val) (tc1 Q K V Cm Ls Ob Do (i 0).val) (i 0).val v f) rfl (off1 i) _ ((pieceH9 hx).H9_1 (isArr_load (o := (2 * (i 0).val, 0)) (A_H9_at_1 (tc0 Q K V Cm Ls Ob Do (i 0).val) (tc1 Q K V Cm Ls Ob Do (i 0).val) (i 0).val b12.view _) (off1 i) _))

theorem A_H9_3_at : LeavesT (sl.H9_3 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 2 2) := fun v f =>
  step_col1 (fun _ => 0) _ _ _ 2 1 (A_H9_2_at hx v f) rfl (off2 i) _ ((pieceH9 hx).H9_2 (isArr_load (o := (2 * (i 0).val + 1, 0)) (A_H9_2_at hx b12.view _) (off2 i) _))

theorem A_H9_4_at : LeavesT (sl.H9_4 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 3 2) := fun v f =>
  step_col0 (fun _ => 0) _ _ _ 2 2 (A_H9_3_at hx v f) rfl (off1 i) _ ((pieceH9 hx).H9_3 (isArr_load (o := (2 * (i 0).val, 0)) (A_H9_3_at hx b12.view _) (off1 i) _))

theorem A_H9_5_at : LeavesT (sl.H9_5 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 3 3) := fun v f =>
  step_col1 (fun _ => 0) _ _ _ 3 2 (A_H9_4_at hx v f) rfl (off2 i) _ ((pieceH9 hx).H9_4 (isArr_load (o := (2 * (i 0).val + 1, 0)) (A_H9_4_at hx b12.view _) (off2 i) _))

theorem A_H9_6_at : LeavesT (sl.H9_6 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 4 3) := fun v f =>
  step_col0 (fun _ => 0) _ _ _ 3 3 (A_H9_5_at hx v f) rfl (off5 i) _ ((pieceH9 hx).H9_5 (isArr_load (o := (2 * (i 0).val, 256)) (A_H9_5_at hx b12.view _) (off5 i) _))

theorem A_H9_7_at : LeavesT (sl.H9_7 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 4 4) := fun v f =>
  step_col1 (fun _ => 0) _ _ _ 4 3 (A_H9_6_at hx v f) rfl (off6 i) _ ((pieceH9 hx).H9_6 (isArr_load (o := (2 * (i 0).val + 1, 256)) (A_H9_6_at hx b12.view _) (off6 i) _))

theorem A_H9_8_at : LeavesT (sl.H9_8 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 5 4) := fun v f =>
  step_col0 (fun _ => 0) _ _ _ 4 4 (A_H9_7_at hx v f) rfl (off3 i) _ ((pieceH9 hx).H9_7 (isArr_load (o := (2 * (i 0).val, 0)) (A_H9_7_at hx b12.view _) (off3 i) _))

theorem A_H9_9_at : LeavesT (sl.H9_9 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 5 5) := fun v f =>
  step_col1 (fun _ => 0) _ _ _ 5 4 (A_H9_8_at hx v f) rfl (off4 i) _ ((pieceH9 hx).H9_8 (isArr_load (o := (2 * (i 0).val + 1, 0)) (A_H9_8_at hx b12.view _) (off4 i) _))

theorem A_H9_10_at : LeavesT (sl.H9_10 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 6 5) := fun v f =>
  step_col0 (fun _ => 0) _ _ _ 5 5 (A_H9_9_at hx v f) rfl (off9 i) _ ((pieceH9 hx).H9_9 (isArr_load (o := (2 * (i 0).val, 512)) (A_H9_9_at hx b12.view _) (off9 i) _))

theorem A_H9_11_at : LeavesT (sl.H9_11 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 6 6) := fun v f =>
  step_col1 (fun _ => 0) _ _ _ 6 5 (A_H9_10_at hx v f) rfl (off10 i) _ ((pieceH9 hx).H9_10 (isArr_load (o := (2 * (i 0).val + 1, 512)) (A_H9_10_at hx b12.view _) (off10 i) _))

theorem A_H9_12_at : LeavesT (sl.H9_12 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 7 6) := fun v f =>
  step_col0 (fun _ => 0) _ _ _ 6 6 (A_H9_11_at hx v f) rfl (off7 i) _ ((pieceH9 hx).H9_11 (isArr_load (o := (2 * (i 0).val, 0)) (A_H9_11_at hx b12.view _) (off7 i) _))

theorem A_H9_13_at : LeavesT (sl.H9_13 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 7 7) := fun v f =>
  step_col1 (fun _ => 0) _ _ _ 7 6 (A_H9_12_at hx v f) rfl (off8 i) _ ((pieceH9 hx).H9_12 (isArr_load (o := (2 * (i 0).val + 1, 0)) (A_H9_12_at hx b12.view _) (off8 i) _))

theorem A_H9_14_at : LeavesT (sl.H9_14 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 8 7) := fun v f =>
  step_col0 (fun _ => 0) _ _ _ 7 7 (A_H9_13_at hx v f) rfl (off13 i) _ ((pieceH9 hx).H9_13 (isArr_load (o := (2 * (i 0).val, 768)) (A_H9_13_at hx b12.view _) (off13 i) _))

theorem A_H9_15_at : LeavesT (sl.H9_15 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 8 8) := fun v f =>
  step_col1 (fun _ => 0) _ _ _ 8 7 (A_H9_14_at hx v f) rfl (off14 i) _ ((pieceH9 hx).H9_14 (isArr_load (o := (2 * (i 0).val + 1, 768)) (A_H9_14_at hx b12.view _) (off14 i) _))

theorem A_H9_16_at : LeavesT (sl.H9_16 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 9 8) := fun v f =>
  step_col0 (fun _ => 0) _ _ _ 8 8 (A_H9_15_at hx v f) rfl (off11 i) _ ((pieceH9 hx).H9_15 (isArr_load (o := (2 * (i 0).val, 0)) (A_H9_15_at hx b12.view _) (off11 i) _))

theorem A_H9_17_at : LeavesT (sl.H9_17 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 9 9) := fun v f =>
  step_col1 (fun _ => 0) _ _ _ 9 8 (A_H9_16_at hx v f) rfl (off12 i) _ ((pieceH9b (b12 := b12) hx).H9_16 (isArr_load (o := (2 * (i 0).val + 1, 0)) (A_H9_16_at hx b12.view _) (off12 i) _))

theorem A_H9_18_at : LeavesT (sl.H9_18 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 10 9) := fun v f =>
  step_col0 (fun _ => 0) _ _ _ 9 9 (A_H9_17_at hx v f) rfl (off17 i) _ ((pieceH9b (b12 := b12) hx).H9_17 (isArr_load (o := (2 * (i 0).val, 1024)) (A_H9_17_at hx b12.view _) (off17 i) _))

theorem A_H9_19_at : LeavesT (sl.H9_19 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 10 10) := fun v f =>
  step_col1 (fun _ => 0) _ _ _ 10 9 (A_H9_18_at hx v f) rfl (off18 i) _ ((pieceH9b hx).H9_18 (isArr_load (o := (2 * (i 0).val + 1, 1024)) (A_H9_18_at hx b12.view _) (off18 i) _))

theorem A_H9_20_at : LeavesT (sl.H9_20 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 11 10) := fun v f =>
  step_col0 (fun _ => 0) _ _ _ 10 10 (A_H9_19_at hx v f) rfl (off15 i) _ ((pieceH9b (b12 := b12) hx).H9_19 (isArr_load (o := (2 * (i 0).val, 0)) (A_H9_19_at hx b12.view _) (off15 i) _))

theorem A_H9_21_at : LeavesT (sl.H9_21 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 11 11) := fun v f =>
  step_col1 (fun _ => 0) _ _ _ 11 10 (A_H9_20_at hx v f) rfl (off16 i) _ ((pieceH9b (b12 := b12) hx).H9_20 (isArr_load (o := (2 * (i 0).val + 1, 0)) (A_H9_20_at hx b12.view _) (off16 i) _))

theorem A_H9_22_at : LeavesT (sl.H9_22 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 12 11) := fun v f =>
  step_col0 (fun _ => 0) _ _ _ 11 11 (A_H9_21_at hx v f) rfl (off21 i) _ ((pieceH9b (b12 := b12) hx).H9_21 (isArr_load (o := (2 * (i 0).val, 1280)) (A_H9_21_at hx b12.view _) (off21 i) _))

theorem A_H9_23_at : LeavesT (sl.H9_23 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 12 12) := fun v f =>
  step_col1 (fun _ => 0) _ _ _ 12 11 (A_H9_22_at hx v f) rfl (off22 i) _ ((pieceH9b (b12 := b12) hx).H9_22 (isArr_load (o := (2 * (i 0).val + 1, 1280)) (A_H9_22_at hx b12.view _) (off22 i) _))

theorem A_H9_24_at : LeavesT (sl.H9_24 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 13 12) := fun v f =>
  step_col0 (fun _ => 0) _ _ _ 12 12 (A_H9_23_at hx v f) rfl (off19 i) _ ((pieceH9b (b12 := b12) hx).H9_23 (isArr_load (o := (2 * (i 0).val, 0)) (A_H9_23_at hx b12.view _) (off19 i) _))

theorem A_H9_25_at : LeavesT (sl.H9_25 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 13 13) := fun v f =>
  step_col1 (fun _ => 0) _ _ _ 13 12 (A_H9_24_at hx v f) rfl (off20 i) _ ((pieceH9b (b12 := b12) hx).H9_24 (isArr_load (o := (2 * (i 0).val + 1, 0)) (A_H9_24_at hx b12.view _) (off20 i) _))

theorem A_H9_26_at : LeavesT (sl.H9_26 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 14 13) := fun v f =>
  step_col0 (fun _ => 0) _ _ _ 13 13 (A_H9_25_at hx v f) rfl (off25 i) _ ((pieceH9b (b12 := b12) hx).H9_25 (isArr_load (o := (2 * (i 0).val, 1536)) (A_H9_25_at hx b12.view _) (off25 i) _))

theorem A_H9_27_at : LeavesT (sl.H9_27 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 14 14) := fun v f =>
  step_col1 (fun _ => 0) _ _ _ 14 13 (A_H9_26_at hx v f) rfl (off26 i) _ ((pieceH9b (b12 := b12) hx).H9_26 (isArr_load (o := (2 * (i 0).val + 1, 1536)) (A_H9_26_at hx b12.view _) (off26 i) _))

theorem A_H9_28_at : LeavesT (sl.H9_28 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 15 14) := fun v f =>
  step_col0 (fun _ => 0) _ _ _ 14 14 (A_H9_27_at hx v f) rfl (off23 i) _ ((pieceH9b (b12 := b12) hx).H9_27 (isArr_load (o := (2 * (i 0).val, 0)) (A_H9_27_at hx b12.view _) (off23 i) _))

theorem A_H9_29_at : LeavesT (sl.H9_29 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 15 15) := fun v f =>
  step_col1 (fun _ => 0) _ _ _ 15 14 (A_H9_28_at hx v f) rfl (off24 i) _ ((pieceH9b (b12 := b12) hx).H9_28 (isArr_load (o := (2 * (i 0).val + 1, 0)) (A_H9_28_at hx b12.view _) (off24 i) _))

theorem A_H9_30_at : LeavesT (sl.H9_30 (F := Ideal) c i b2 w2 b3 w3 b4 w4 b5 w5 b6 w6 b7 w7 b8 w8 b12 x0 x1 x2 x3 x4 x5 x6) (colsAt (fun _ => 0) (tc0 Q K V Cm Ls Ob Do (i 0).val) (tc1 Q K V Cm Ls Ob Do (i 0).val) (i 0).val 16 15) := fun v f =>
  step_col0 (fun _ => 0) _ _ _ 15 15 (A_H9_29_at hx v f) rfl (off29 i) _ ((pieceH9b (b12 := b12) hx).H9_29 (isArr_load (o := (2 * (i 0).val, 1792)) (A_H9_29_at hx b12.view _) (off29 i) _))

theorem A_H9_at_final {b10 : Memref sig .tc .vmem S2048x384 .bf16} {w10 : b10.IsWhole} {w11 : b11.IsWhole} {w13 : b13.IsWhole} {w14 : b14.IsWhole} {hc0 : cond0_0 i} : LeavesT (kernelRun0_A c i b2 w2 b3 w3 b4 w4 b5 w5 b6 w6 b7 w7 b8 w8 b10 w10 b11 w11 b12 w12 b13 w13 b14 w14 hc0 x0 x1 x2 x3 x4 x5 x6).2.2.1 (colsAt (fun _ => 0) (tc0 Q K V Cm Ls Ob Do (i 0).val) (tc1 Q K V Cm Ls Ob Do (i 0).val) (i 0).val 16 16) := fun v f =>
  step_col1 (fun _ => 0) _ _ _ 16 15 (A_H9_30_at hx v f) rfl (off30 i) _ ((pieceH9b hx).H9_30 (isArr_load (o := (2 * (i 0).val + 1, 1792)) (A_H9_30_at hx b12.view _) (off30 i) _))

omit hx in
theorem A_H8_at_1 (U : ℕ → Arr EReal) : LeavesB (sl.H8_1 (F := Ideal)) (qAt (fun _ => 0) (fun _ => 0) U 0) := by
  intro v f
  rw [qAt_start]
  refine isArr_writes_whole (R := 2048) (C := 128) f [] _ ?_
  simp only [k0_pay2]
  exact arr_zero

theorem A_H8_at_2 : LeavesB (sl.H8_2 (F := Ideal) c i b2 w2 b3 w3 b4 w4 b5 w5 b6 w6 b7 w7 b8 w8 b11 x0 x1 x2 x3 x4 x5 x6) (qAt (fun _ => 0) (fun _ => 0) (tlanes Q K V Cm Ls Ob Do (i 0).val) 1) := fun v f =>
  step_q (fun _ => 0) (fun _ => 0) (tlanes Q K V Cm Ls Ob Do (i 0).val) 0 (A_H8_at_1 (tlanes Q K V Cm Ls Ob Do (i 0).val) v f) rfl _ ((pieceH8 (b11 := b11) hx).H8_1 ((isArr_load (o := (0, 0)) (A_H8_at_1 (tlanes Q K V Cm Ls Ob Do (i 0).val) b11.view _) rfl _).congr fun a b _ _ => qAt_next _ _ _ 0 (a, b)))

theorem A_H8_at_3 : LeavesB (sl.H8_3 (F := Ideal) c i b2 w2 b3 w3 b4 w4 b5 w5 b6 w6 b7 w7 b8 w8 b11 x0 x1 x2 x3 x4 x5 x6) (qAt (fun _ => 0) (fun _ => 0) (tlanes Q K V Cm Ls Ob Do (i 0).val) 2) := fun v f =>
  step_q (fun _ => 0) (fun _ => 0) (tlanes Q K V Cm Ls Ob Do (i 0).val) 1 (A_H8_at_2 hx v f) rfl _ ((pieceH8 (b11 := b11) hx).H8_2 ((isArr_load (o := (256, 0)) (A_H8_at_2 hx b11.view _) rfl _).congr fun a b _ _ => qAt_next _ _ _ 1 (a, b)))

theorem A_H8_at_4 : LeavesB (sl.H8_4 (F := Ideal) c i b2 w2 b3 w3 b4 w4 b5 w5 b6 w6 b7 w7 b8 w8 b11 x0 x1 x2 x3 x4 x5 x6) (qAt (fun _ => 0) (fun _ => 0) (tlanes Q K V Cm Ls Ob Do (i 0).val) 3) := fun v f =>
  step_q (fun _ => 0) (fun _ => 0) (tlanes Q K V Cm Ls Ob Do (i 0).val) 2 (A_H8_at_3 hx v f) rfl _ ((pieceH8 hx).H8_3 ((isArr_load (o := (512, 0)) (A_H8_at_3 hx b11.view _) rfl _).congr fun a b _ _ => qAt_next _ _ _ 2 (a, b)))

theorem A_H8_at_5 : LeavesB (sl.H8_5 (F := Ideal) c i b2 w2 b3 w3 b4 w4 b5 w5 b6 w6 b7 w7 b8 w8 b11 x0 x1 x2 x3 x4 x5 x6) (qAt (fun _ => 0) (fun _ => 0) (tlanes Q K V Cm Ls Ob Do (i 0).val) 4) := fun v f =>
  step_q (fun _ => 0) (fun _ => 0) (tlanes Q K V Cm Ls Ob Do (i 0).val) 3 (A_H8_at_4 hx v f) rfl _ ((pieceH8 (b11 := b11) hx).H8_4 ((isArr_load (o := (768, 0)) (A_H8_at_4 hx b11.view _) rfl _).congr fun a b _ _ => qAt_next _ _ _ 3 (a, b)))

theorem A_H8_at_6 : LeavesB (sl.H8_6 (F := Ideal) c i b2 w2 b3 w3 b4 w4 b5 w5 b6 w6 b7 w7 b8 w8 b11 x0 x1 x2 x3 x4 x5 x6) (qAt (fun _ => 0) (fun _ => 0) (tlanes Q K V Cm Ls Ob Do (i 0).val) 5) := fun v f =>
  step_q (fun _ => 0) (fun _ => 0) (tlanes Q K V Cm Ls Ob Do (i 0).val) 4 (A_H8_at_5 hx v f) rfl _ ((pieceH8 (b11 := b11) hx).H8_5 ((isArr_load (o := (1024, 0)) (A_H8_at_5 hx b11.view _) rfl _).congr fun a b _ _ => qAt_next _ _ _ 4 (a, b)))

theorem A_H8_at_7 : LeavesB (sl.H8_7 (F := Ideal) c i b2 w2 b3 w3 b4 w4 b5 w5 b6 w6 b7 w7 b8 w8 b11 x0 x1 x2 x3 x4 x5 x6) (qAt (fun _ => 0) (fun _ => 0) (tlanes Q K V Cm Ls Ob Do (i 0).val) 6) := fun v f =>
  step_q (fun _ => 0) (fun _ => 0) (tlanes Q K V Cm Ls Ob Do (i 0).val) 5 (A_H8_at_6 hx v f) rfl _ ((pieceH8 hx).H8_6 ((isArr_load (o := (1280, 0)) (A_H8_at_6 hx b11.view _) rfl _).congr fun a b _ _ => qAt_next _ _ _ 5 (a, b)))

theorem A_H8_at_8 : LeavesB (sl.H8_8 (F := Ideal) c i b2 w2 b3 w3 b4 w4 b5 w5 b6 w6 b7 w7 b8 w8 b11 x0 x1 x2 x3 x4 x5 x6) (qAt (fun _ => 0) (fun _ => 0) (tlanes Q K V Cm Ls Ob Do (i 0).val) 7) := fun v f =>
  step_q (fun _ => 0) (fun _ => 0) (tlanes Q K V Cm Ls Ob Do (i 0).val) 6 (A_H8_at_7 hx v f) rfl _ ((pieceH8 (b11 := b11) hx).H8_7 ((isArr_load (o := (1536, 0)) (A_H8_at_7 hx b11.view _) rfl _).congr fun a b _ _ => qAt_next _ _ _ 6 (a, b)))

theorem A_H8_at_9 {b10 : Memref sig .tc .vmem S2048x384 .bf16} {w10 : b10.IsWhole} {w11 : b11.IsWhole} {w12 : b12.IsWhole} {w13 : b13.IsWhole} {w14 : b14.IsWhole} {hc0 : cond0_0 i} : LeavesB (kernelRun0_A c i b2 w2 b3 w3 b4 w4 b5 w5 b6 w6 b7 w7 b8 w8 b10 w10 b11 w11 b12 w12 b13 w13 b14 w14 hc0 x0 x1 x2 x3 x4 x5 x6).2.1 (qAt (fun _ => 0) (fun _ => 0) (tlanes Q K V Cm Ls Ob Do (i 0).val) 8) := fun v f =>
  step_q (fun _ => 0) (fun _ => 0) (tlanes Q K V Cm Ls Ob Do (i 0).val) 7 (A_H8_at_8 hx v f) rfl _ ((pieceH8 (b11 := b11) hx).H8_8 ((isArr_load (o := (1792, 0)) (A_H8_at_8 hx b11.view _) rfl _).congr fun a b _ _ => qAt_next _ _ _ 7 (a, b)))

theorem A_L7_at_final {b10 : Memref sig .tc .vmem S2048x384 .bf16} {w10 : b10.IsWhole} {w11 : b11.IsWhole} {w12 : b12.IsWhole} {w13 : b13.IsWhole} {w14 : b14.IsWhole} {hc0 : cond0_0 i} {J7 : Arr EReal} (v : View sig .tc .vmem S2048x384 .bf16) (f : v.ty.Contents (Elt Ideal))
    (hf : IsArr (R := 2048) (C := 384) (β := EReal) (v.read (Elt Ideal) f) J7) :
    IsArr (R := 2048) (C := 384) (β := EReal) (v.read (Elt Ideal) (v.writes (Elt Ideal) f (kernelRun0_A c i b2 w2 b3 w3 b4 w4 b5 w5 b6 w6 b7 w7 b8 w8 b10 w10 b11 w11 b12 w12 b13 w13 b14 w14 hc0 x0 x1 x2 x3 x4 x5 x6).1)) (packed Q K V Cm Ls Ob Do (i 0).val) :=
  step_tail J7 (step_pack _ _ 7 (step_pack _ _ 6 (step_pack _ _ 5 (step_pack _ _ 4 (step_pack _ _ 3 (step_pack _ _ 2 (step_pack _ _ 1 (step_pack _ _ 0 ((by rw [packAt_start]; exact hf)) rfl _ ((pieceH8 (b11 := b11) hx).L7_0 trivial)) rfl _ ((pieceH8 (b11 := b11) hx).L7_1 trivial)) rfl _ ((pieceH8 (b11 := b11) hx).L7_2 trivial)) rfl _ ((pieceH8 (b11 := b11) hx).L7_3 trivial)) rfl _ ((pieceH8 (b11 := b11) hx).L7_4 trivial)) rfl _ ((pieceH8 (b11 := b11) hx).L7_5 trivial)) rfl _ ((pieceH8 (b11 := b11) hx).L7_6 trivial)) rfl _ ((pieceH8 (b11 := b11) hx).L7_7 trivial)) _ _
    (((isArr_load (o := (0, 0)) (A_HS0_at_16 hx b13.view _) rfl _).congr fun a b _ _ => by show rowsAt _ 16 (0 + a, 0 + b) = _; rw [Nat.zero_add, Nat.zero_add]))
    (((isArr_load (o := (0, 0)) (A_HS1_at_16 hx b14.view _) rfl _).congr fun a b _ _ => by show rowsAt _ 16 (0 + a, 0 + b) = _; rw [Nat.zero_add, Nat.zero_add]))

end Cert.Fox

end
-- ==== Proof.FoxPieceB1.lean ====
/- What the stores of run B write, as arrays of the block quantities. -/
module

public import proofs.«01_k».proof.Proof.FoxTile
public import proofs.«01_k».proof.Proof.FoxRunB
public import proofs.«01_k».proof.Proof.FoxPieceA1

@[expose] public section

set_option maxRecDepth 10000

noncomputable section

namespace Cert.Fox

open Cert.KernelIdeal Cert.KernelIdeal.Gen Idealize.ShloMosaic Idealize.ShloMosaic.Updates kernelRun0_B
open Idealize.ShloMosaic.LaneScatter (Blk)

variable {c : Dev nD} {i : grid0.Coords} {b2 : MemB} {w2 : b2.IsWhole} {b11 b13 b14 : MemB} {w11 : b11.IsWhole} {b12 : MemT} {w12 : b12.IsWhole} {xo8 : VecB} {xo9 : Vec Ideal S128x2048 .f32} {b3 : MemB} {w3 : b3.IsWhole} {b4 : MemB} {w4 : b4.IsWhole}
  {b5 : MemT} {w5 : b5.IsWhole} {b6 : MemB} {w6 : b6.IsWhole} {b7 : MemB} {w7 : b7.IsWhole} {b8 : MemB} {w8 : b8.IsWhole}
  {x0 x1 x2 : VecB} {x3 : Vec Ideal S128x2048 .f32} {x4 x5 x6 : VecB} {Q K V Cm Ls Ob Do : Arr EReal}
  (hx : Ins x0 x1 x2 x3 x4 x5 x6 Q K V Cm Ls Ob Do)

include hx

theorem B_HS0_1 {A : Arr EReal} (hv : IsArr (β := EReal) (R := 256) (C := 128) (sl.v119 (F := Ideal) c b13) A) :
    IsArr (k0_pay26 (sl.r_16 c i b2 w2 b3 w3 b4 w4 b5 w5 b6 w6 b7 w7 b8 w8 b13 x0 x1 x2 x3 x4 x5 x6)) (fun p => A p + tdk Q K V Cm Ls Ob Do (i 0).val 0 (0 + p.1, p.2)) :=
  (pieceS hx).HS0_1 hv

theorem B_HS0_2 {v : Vec Ideal S256x128 .f32} {A : Arr EReal} (hv : IsArr v A) :
    IsArr (k0_pay54 v (sl.r_33 c i b2 w2 b3 w3 b4 w4 b5 w5 b6 w6 b7 w7 b8 w8 x0 x1 x2 x3 x4 x5 x6)) (fun p => A p + tdk Q K V Cm Ls Ob Do (i 0).val 1 (0 + p.1, p.2)) :=
  (pieceS (b13 := b2) hx).HS0_2 hv

theorem B_HS0_3 {v : Vec Ideal S256x128 .f32} {A : Arr EReal} (hv : IsArr v A) :
    IsArr (k0_pay64 (sl.r_23 c b2 w2 x0) (sl.r_24 c b8 w8 x6) (sl.r_25 c b7 w7 b8 w8 x5 x6) (sl.r_35 c i b2 w2 b3 w3 b5 w5 b6 w6 x0 x1 x3 x4) (sl.r_36 c b4 w4 x2) v) (fun p => A p + tdk Q K V Cm Ls Ob Do (i 0).val 1 (256 + p.1, p.2)) :=
  (pieceS (b13 := b2) hx).HS0_3 hv

theorem B_HS0_4 {v : Vec Ideal S512x128 .f32} {A : Arr EReal} (hv : IsArr v A) :
    IsArr (k0_pay84 (sl.r_1 c b4 w4 x2) (sl.r_41 c b2 w2 x0) (sl.r_42 c b8 w8 x6) (sl.r_43 c b7 w7 b8 w8 x5 x6) (sl.r_44 c b6 w6 x4) (sl.r_46 c i b2 w2 b3 w3 b5 w5 x0 x1 x3) v) (fun p => A p + tdk Q K V Cm Ls Ob Do (i 0).val 2 (0 + p.1, p.2)) :=
  (pieceS (b13 := b2) hx).HS0_4 hv

theorem B_HS0_5 {v : Vec Ideal S256x128 .f32} {A : Arr EReal} (hv : IsArr v A) :
    IsArr (k0_pay93 (sl.r_1 c b4 w4 x2) (sl.r_41 c b2 w2 x0) (sl.r_42 c b8 w8 x6) (sl.r_43 c b7 w7 b8 w8 x5 x6) (sl.r_44 c b6 w6 x4) (sl.r_47 c i b2 w2 b3 w3 b5 w5 x0 x1 x3) v) (fun p => A p + tdk Q K V Cm Ls Ob Do (i 0).val 2 (512 + p.1, p.2)) :=
  (pieceS (b13 := b2) hx).HS0_5 hv

theorem B_HS0_6 {v : Vec Ideal S768x128 .f32} {A : Arr EReal} (hv : IsArr v A) :
    IsArr (k0_pay122 (sl.r_1 c b4 w4 x2) (sl.r_61 c b2 w2 x0) (sl.r_62 c b8 w8 x6) (sl.r_63 c b7 w7 b8 w8 x5 x6) (sl.r_64 c b6 w6 x4) (sl.r_65 c i b2 w2 b3 w3 b5 w5 x0 x1 x3) v) (fun p => A p + tdk Q K V Cm Ls Ob Do (i 0).val 3 (0 + p.1, p.2)) :=
  (pieceS (b13 := b2) hx).HS0_6 hv

theorem B_HS0_7 {v : Vec Ideal S256x128 .f32} {A : Arr EReal} (hv : IsArr v A) :
    IsArr (k0_pay132 (sl.r_1 c b4 w4 x2) (sl.r_61 c b2 w2 x0) (sl.r_62 c b8 w8 x6) (sl.r_63 c b7 w7 b8 w8 x5 x6) (sl.r_64 c b6 w6 x4) (sl.r_66 c i b2 w2 b3 w3 b5 w5 x0 x1 x3) v) (fun p => A p + tdk Q K V Cm Ls Ob Do (i 0).val 3 (768 + p.1, p.2)) :=
  (pieceS (b13 := b2) hx).HS0_7 hv

theorem B_HS0_8 {A : Arr EReal} (hv : IsArr (β := EReal) (R := 1024) (C := 128) (sl.v954 (F := Ideal) c i b2 w2 b3 w3 b4 w4 b5 w5 b6 w6 b7 w7 b8 w8 b13 x0 x1 x2 x3 x4 x5 x6) A) :
    IsArr (k0_pay159 (sl.r_92 c i b2 w2 b3 w3 b4 w4 b5 w5 b6 w6 b7 w7 b8 w8 b13 x0 x1 x2 x3 x4 x5 x6)) (fun p => A p + tdk Q K V Cm Ls Ob Do (i 0).val 4 (0 + p.1, p.2)) :=
  (pieceS hx).HS0_8 hv

theorem B_HS0_9 {v : Vec Ideal S256x128 .f32} {A : Arr EReal} (hv : IsArr v A) :
    IsArr (k0_pay170 (sl.r_81 c b2 w2 x0) (sl.r_94 c i b2 w2 b3 w3 b5 w5 b6 w6 x0 x1 x3 x4) (sl.r_95 c b4 w4 b8 w8 x2 x6) (sl.r_96 c b7 w7 b8 w8 x5 x6) v) (fun p => A p + tdk Q K V Cm Ls Ob Do (i 0).val 4 (1024 + p.1, p.2)) :=
  (pieceS (b13 := b2) hx).HS0_9 hv

theorem B_HS0_10 {v : Vec Ideal S1280x128 .f32} {A : Arr EReal} (hv : IsArr v A) :
    IsArr (k0_pay191 (sl.r_1 c b4 w4 x2) (sl.r_103 c b2 w2 x0) (sl.r_104 c b8 w8 x6) (sl.r_105 c b7 w7 b8 w8 x5 x6) (sl.r_108 c i b2 w2 b3 w3 b5 w5 b6 w6 x0 x1 x3 x4) v) (fun p => A p + tdk Q K V Cm Ls Ob Do (i 0).val 5 (0 + p.1, p.2)) :=
  (pieceS (b13 := b2) hx).HS0_10 hv

theorem B_HS0_11 {v : Vec Ideal S256x128 .f32} {A : Arr EReal} (hv : IsArr v A) :
    IsArr (k0_pay200 (sl.r_1 c b4 w4 x2) (sl.r_103 c b2 w2 x0) (sl.r_104 c b8 w8 x6) (sl.r_105 c b7 w7 b8 w8 x5 x6) (sl.r_106 c b6 w6 x4) (sl.r_107 c i b2 w2 b3 w3 b5 w5 x0 x1 x3) v) (fun p => A p + tdk Q K V Cm Ls Ob Do (i 0).val 5 (1280 + p.1, p.2)) :=
  (pieceS (b13 := b2) hx).HS0_11 hv

theorem B_HS0_12 {v : Vec Ideal S1536x128 .f32} {A : Arr EReal} (hv : IsArr v A) :
    IsArr (k0_pay230 (sl.r_1 c b4 w4 x2) (sl.r_122 c b2 w2 x0) (sl.r_123 c b8 w8 x6) (sl.r_125 c b7 w7 b8 w8 x5 x6) (sl.r_126 c b6 w6 x4) (sl.r_127 c i b2 w2 b3 w3 b5 w5 x0 x1 x3) v) (fun p => A p + tdk Q K V Cm Ls Ob Do (i 0).val 6 (0 + p.1, p.2)) :=
  (pieceS (b13 := b2) hx).HS0_12 hv

theorem B_HS0_13 {v : Vec Ideal S256x128 .f32} {A : Arr EReal} (hv : IsArr v A) :
    IsArr (k0_pay239 (sl.r_1 c b4 w4 x2) (sl.r_122 c b2 w2 x0) (sl.r_123 c b8 w8 x6) (sl.r_125 c b7 w7 b8 w8 x5 x6) (sl.r_126 c b6 w6 x4) (sl.r_128 c i b2 w2 b3 w3 b5 w5 x0 x1 x3) v) (fun p => A p + tdk Q K V Cm Ls Ob Do (i 0).val 6 (1536 + p.1, p.2)) :=
  (pieceS (b13 := b2) hx).HS0_13 hv

theorem B_HS0_14 {v : Vec Ideal S1792x128 .f32} {A : Arr EReal} (hv : IsArr v A) :
    IsArr (k0_pay266 (sl.r_1 c b4 w4 x2) (sl.r_141 c b2 w2 x0) (sl.r_142 c b8 w8 x6) (sl.r_143 c b7 w7 b8 w8 x5 x6) (sl.r_144 c b6 w6 x4) (sl.r_145 c b2 w2 b3 w3 x0 x1) (sl.r_146 c i b5 w5 x3) k0_pay258 (sl.r_147 c i b5 w5 x3) v) (fun p => A p + tdk Q K V Cm Ls Ob Do (i 0).val 7 (0 + p.1, p.2)) :=
  (pieceS (b13 := b2) hx).HS0_14 hv

theorem B_HS0_15 {v : Vec Ideal S256x128 .f32} {A : Arr EReal} (hv : IsArr v A) :
    IsArr (k0_pay276 (sl.r_141 c b2 w2 x0) (sl.r_155 c i b2 w2 b3 w3 b4 w4 b5 w5 b6 w6 b7 w7 b8 w8 x0 x1 x2 x3 x4 x5 x6) v) (fun p => A p + tdk Q K V Cm Ls Ob Do (i 0).val 7 (1792 + p.1, p.2)) :=
  (pieceS (b13 := b2) hx).HS0_15 hv

theorem B_HS1_1 {v : Vec Ideal S256x128 .f32} {A : Arr EReal} (hv : IsArr v A) :
    IsArr (k0_pay27 (sl.r_8 c b8 w8 x6) (sl.r_13 c i b2 w2 b3 w3 b5 w5 b6 w6 x0 x1 x3 x4) v) (fun p => A p + tdv Q K Cm Ls Do (i 0).val 0 (0 + p.1, p.2)) :=
  (pieceS (w4 := w2) (w7 := w2) (b13 := b2) hx).HS1_1 hv

theorem B_HS1_2 {v : Vec Ideal S256x128 .f32} {A : Arr EReal} (hv : IsArr v A) :
    IsArr (k0_pay55 (sl.r_24 c b8 w8 x6) (sl.r_30 c i b2 w2 b3 w3 b5 w5 b6 w6 x0 x1 x3 x4) v) (fun p => A p + tdv Q K Cm Ls Do (i 0).val 1 (0 + p.1, p.2)) :=
  (pieceS (w4 := w2) (w7 := w2) (b13 := b2) hx).HS1_2 hv

theorem B_HS1_3 {v : Vec Ideal S256x128 .f32} {A : Arr EReal} (hv : IsArr v A) :
    IsArr (k0_pay65 (sl.r_24 c b8 w8 x6) (sl.r_35 c i b2 w2 b3 w3 b5 w5 b6 w6 x0 x1 x3 x4) v) (fun p => A p + tdv Q K Cm Ls Do (i 0).val 1 (256 + p.1, p.2)) :=
  (pieceS (w4 := w2) (w7 := w2) (b13 := b2) hx).HS1_3 hv

theorem B_HS1_4 {v : Vec Ideal S512x128 .f32} {A : Arr EReal} (hv : IsArr v A) :
    IsArr (k0_pay85 (sl.r_42 c b8 w8 x6) (sl.r_44 c b6 w6 x4) (sl.r_46 c i b2 w2 b3 w3 b5 w5 x0 x1 x3) v) (fun p => A p + tdv Q K Cm Ls Do (i 0).val 2 (0 + p.1, p.2)) :=
  (pieceS (w4 := w2) (w7 := w2) (b13 := b2) hx).HS1_4 hv

theorem B_HS1_5 {v : Vec Ideal S256x128 .f32} {A : Arr EReal} (hv : IsArr v A) :
    IsArr (k0_pay94 (sl.r_42 c b8 w8 x6) (sl.r_44 c b6 w6 x4) (sl.r_47 c i b2 w2 b3 w3 b5 w5 x0 x1 x3) v) (fun p => A p + tdv Q K Cm Ls Do (i 0).val 2 (512 + p.1, p.2)) :=
  (pieceS (w4 := w2) (w7 := w2) (b13 := b2) hx).HS1_5 hv

theorem B_HS1_6 {v : Vec Ideal S768x128 .f32} {A : Arr EReal} (hv : IsArr v A) :
    IsArr (k0_pay123 (sl.r_62 c b8 w8 x6) (sl.r_64 c b6 w6 x4) (sl.r_65 c i b2 w2 b3 w3 b5 w5 x0 x1 x3) v) (fun p => A p + tdv Q K Cm Ls Do (i 0).val 3 (0 + p.1, p.2)) :=
  (pieceS (w4 := w2) (w7 := w2) (b13 := b2) hx).HS1_6 hv

theorem B_HS1_7 {v : Vec Ideal S256x128 .f32} {A : Arr EReal} (hv : IsArr v A) :
    IsArr (k0_pay133 (sl.r_62 c b8 w8 x6) (sl.r_71 c i b2 w2 b3 w3 b5 w5 b6 w6 x0 x1 x3 x4) v) (fun p => A p + tdv Q K Cm Ls Do (i 0).val 3 (768 + p.1, p.2)) :=
  (pieceS (w4 := w2) (w7 := w2) (b13 := b2) hx).HS1_7 hv

theorem B_HS1_8 {v : Vec Ideal S1024x128 .f32} {A : Arr EReal} (hv : IsArr v A) :
    IsArr (k0_pay160 (sl.r_82 c b8 w8 x6) (sl.r_89 c i b2 w2 b3 w3 b5 w5 b6 w6 x0 x1 x3 x4) v) (fun p => A p + tdv Q K Cm Ls Do (i 0).val 4 (0 + p.1, p.2)) :=
  (pieceS (w4 := w2) (w7 := w2) (b13 := b2) hx).HS1_8 hv

theorem B_HS1_9 {v : Vec Ideal S256x128 .f32} {A : Arr EReal} (hv : IsArr v A) :
    IsArr (k0_pay171 (sl.r_82 c b8 w8 x6) (sl.r_94 c i b2 w2 b3 w3 b5 w5 b6 w6 x0 x1 x3 x4) v) (fun p => A p + tdv Q K Cm Ls Do (i 0).val 4 (1024 + p.1, p.2)) :=
  (pieceS (w4 := w2) (w7 := w2) (b13 := b2) hx).HS1_9 hv

theorem B_HS1_10 {v : Vec Ideal S1280x128 .f32} {A : Arr EReal} (hv : IsArr v A) :
    IsArr (k0_pay192 (sl.r_104 c b8 w8 x6) (sl.r_108 c i b2 w2 b3 w3 b5 w5 b6 w6 x0 x1 x3 x4) v) (fun p => A p + tdv Q K Cm Ls Do (i 0).val 5 (0 + p.1, p.2)) :=
  (pieceS (w4 := w2) (w7 := w2) (b13 := b2) hx).HS1_10 hv

theorem B_HS1_11 {v : Vec Ideal S256x128 .f32} {A : Arr EReal} (hv : IsArr v A) :
    IsArr (k0_pay201 (sl.r_104 c b8 w8 x6) (sl.r_106 c b6 w6 x4) (sl.r_107 c i b2 w2 b3 w3 b5 w5 x0 x1 x3) v) (fun p => A p + tdv Q K Cm Ls Do (i 0).val 5 (1280 + p.1, p.2)) :=
  (pieceS (w4 := w2) (w7 := w2) (b13 := b2) hx).HS1_11 hv

theorem B_HS1_12 {v : Vec Ideal S1536x128 .f32} {A : Arr EReal} (hv : IsArr v A) :
    IsArr (k0_pay231 (sl.r_123 c b8 w8 x6) (sl.r_126 c b6 w6 x4) (sl.r_127 c i b2 w2 b3 w3 b5 w5 x0 x1 x3) v) (fun p => A p + tdv Q K Cm Ls Do (i 0).val 6 (0 + p.1, p.2)) :=
  (pieceS (w4 := w2) (w7 := w2) (b13 := b2) hx).HS1_12 hv

theorem B_HS1_13 {v : Vec Ideal S256x128 .f32} {A : Arr EReal} (hv : IsArr v A) :
    IsArr (k0_pay240 (sl.r_123 c b8 w8 x6) (sl.r_132 c i b2 w2 b3 w3 b5 w5 b6 w6 x0 x1 x3 x4) v) (fun p => A p + tdv Q K Cm Ls Do (i 0).val 6 (1536 + p.1, p.2)) :=
  (pieceS (w4 := w2) (w7 := w2) (b13 := b2) hx).HS1_13 hv

theorem B_HS1_14 {v : Vec Ideal S1792x128 .f32} {A : Arr EReal} (hv : IsArr v A) :
    IsArr (k0_pay267 (sl.r_142 c b8 w8 x6) (sl.r_149 c i b2 w2 b3 w3 b5 w5 b6 w6 x0 x1 x3 x4) v) (fun p => A p + tdv Q K Cm Ls Do (i 0).val 7 (0 + p.1, p.2)) :=
  (pieceS (w4 := w2) (w7 := w2) (b13 := b2) hx).HS1_14 hv

theorem B_HS1_15 {v : Vec Ideal S256x128 .f32} {A : Arr EReal} (hv : IsArr v A) :
    IsArr (k0_pay277 (sl.r_142 c b8 w8 x6) (sl.r_153 c i b2 w2 b3 w3 b5 w5 b6 w6 x0 x1 x3 x4) v) (fun p => A p + tdv Q K Cm Ls Do (i 0).val 7 (1792 + p.1, p.2)) :=
  (pieceS (w4 := w2) (w7 := w2) (b13 := b2) hx).HS1_15 hv

end Cert.Fox

end
-- ==== Proof.FoxPieceB2.lean ====
/- What the stores of run B write, as arrays of the block quantities. -/
module

public import proofs.«01_k».proof.Proof.FoxTile
public import proofs.«01_k».proof.Proof.FoxRunB
public import proofs.«01_k».proof.Proof.FoxPieceA2

@[expose] public section

set_option maxRecDepth 10000

noncomputable section

namespace Cert.Fox

open Cert.KernelIdeal Cert.KernelIdeal.Gen Idealize.ShloMosaic Idealize.ShloMosaic.Updates kernelRun0_B
open Idealize.ShloMosaic.LaneScatter (Blk)

variable {c : Dev nD} {i : grid0.Coords} {b2 : MemB} {w2 : b2.IsWhole} {b11 b13 b14 : MemB} {w11 : b11.IsWhole} {b12 : MemT} {w12 : b12.IsWhole} {xo8 : VecB} {xo9 : Vec Ideal S128x2048 .f32} {b3 : MemB} {w3 : b3.IsWhole} {b4 : MemB} {w4 : b4.IsWhole}
  {b5 : MemT} {w5 : b5.IsWhole} {b6 : MemB} {w6 : b6.IsWhole} {b7 : MemB} {w7 : b7.IsWhole} {b8 : MemB} {w8 : b8.IsWhole}
  {x0 x1 x2 : VecB} {x3 : Vec Ideal S128x2048 .f32} {x4 x5 x6 : VecB} {Q K V Cm Ls Ob Do : Arr EReal}
  (hx : Ins x0 x1 x2 x3 x4 x5 x6 Q K V Cm Ls Ob Do)

include hx

theorem B_H8_1 {v : Vec Ideal S256x128 .f32} {A : Arr EReal} (hv : IsArr v A) :
    IsArr (k0_pay33 (BitVec.ofNat 32 ↑(i 0)) sl.v3 (sl.r_17 c i b2 w2 b3 w3 b4 w4 b5 w5 b6 w6 b7 w7 b8 w8 x0 x1 x2 x3 x4 x5 x6) v) (fun p => A p + sel (p.2 = 2 * (i 0).val) (trow Q K V Cm Ls Ob Do (i 0).val 0 p.1) (sel (p.2 = 2 * (i 0).val + 1) (trow Q K V Cm Ls Ob Do (i 0).val 0 (256 + p.1)) 0)) :=
  (pieceH8 (b11 := b2) hx).H8_1 hv

theorem B_H8_2 {v : Vec Ideal S256x128 .f32} {A : Arr EReal} (hv : IsArr v A) :
    IsArr (k0_pay70 (BitVec.ofNat 32 ↑(i 0)) sl.v3 (sl.r_39 c i b2 w2 b3 w3 b4 w4 b5 w5 b6 w6 b7 w7 b8 w8 x0 x1 x2 x3 x4 x5 x6) v) (fun p => A p + sel (p.2 = 2 * (i 0).val) (trow Q K V Cm Ls Ob Do (i 0).val 1 p.1) (sel (p.2 = 2 * (i 0).val + 1) (trow Q K V Cm Ls Ob Do (i 0).val 1 (256 + p.1)) 0)) :=
  (pieceH8 (b11 := b2) hx).H8_2 hv

theorem B_H8_3 {A : Arr EReal} (hv : IsArr (β := EReal) (R := 256) (C := 128) (sl.v607 (F := Ideal) c b11 w11 xo8) A) :
    IsArr (k0_pay104 (sl.r_54 c b11 w11 xo8) (sl.r_55 i) (sl.r_56 c i b2 w2 b3 w3 b4 w4 b5 w5 b6 w6 b7 w7 b8 w8 x0 x1 x2 x3 x4 x5 x6) (sl.r_57 i) (sl.r_58 c i b2 w2 b3 w3 b4 w4 b5 w5 b6 w6 b7 w7 b8 w8 x0 x1 x2 x3 x4 x5 x6) sl.cst_19) (fun p => A p + sel (p.2 = 2 * (i 0).val) (trow Q K V Cm Ls Ob Do (i 0).val 2 p.1) (sel (p.2 = 2 * (i 0).val + 1) (trow Q K V Cm Ls Ob Do (i 0).val 2 (256 + p.1)) 0)) := by
  simp only [sl.r_54, sl.r_55, sl.v3, sl.r_56, sl.r_53, sl.r_1, sl.r_42, sl.r_40, sl.r_43, sl.r_44, sl.r_47, sl.r, sl.r_41, sl.r_50, sl.r_46, sl.r_57, sl.r_58, sl.cst_19, k0_pay104, k0_pay99, k0_pay100, k0_pay101, k0_pay95, k0_pay90, k0_pay89, k0_pay6, k0_pay72, k0_pay4, k0_pay73, k0_pay74, k0_pay79, k0_pay77, k0_pay5, k0_pay71, k0_pay86, k0_pay81, k0_pay80, k0_pay76, k0_pay78, k0_pay102, k0_pay103]
  apply IsArr.congr
  · repeat' (first | (with_reducible first | exact hv | exact arr_in w2 hx.1 _ | exact arr_in w3 hx.2.1 _ | exact arr_in w4 hx.2.2.1 _ | exact arr_in w6 hx.2.2.2.2.1 _ | exact arr_in w7 hx.2.2.2.2.2.1 _ | exact arr_in w8 hx.2.2.2.2.2.2 _ | exact arr_in_off w5 hx.2.2.2.1 (off7 i) _ | exact arr_in_off w5 hx.2.2.2.1 (off8 i) _ | exact msk_causal _ _ _ | exact msk_first _ | exact msk_upper _ | apply msk_cast | apply msk_row | apply msk_col | exact arr_zero | exact arr_const0 | exact arr_c8 | exact arr_mask | apply arr_addf | apply arr_subf | apply arr_mulf | apply arr_exp | apply arr_truncf | apply arr_sel | apply isArr_cast_self | apply arr_bc_row | apply arr_bc_col | apply arr_slice | apply arr_cat | apply arr_rowsum_128 | apply arr_rowsum_512 | apply arr_colsum_512 | apply arr_rowsum_256 | apply arr_colsum_256 | exact msk_lane0 _ _ | exact msk_lane1 _ _) | ((with_reducible apply arr_nt); rotate_left 2; rfl) | ((with_reducible apply arr_nn); rotate_left 2; rfl) | ((with_reducible apply arr_tn); rotate_left 2; exact ⟨rfl, rfl, rfl, rfl, rfl, rfl⟩) | exact msk_causal _ _ _)
  · intro a b ha hb
    simp only [tdk, tdv, tc0, tc1, trow_eq, tdq, tdq2_eq, tDh, tDd, tD, tP, tS, tlse, tdelta, tdo, tq, zero_add, add_zero, Finset.range_zero, Finset.sum_empty, Nat.mul_zero, Nat.reduceMul, Nat.reduceAdd]
    skip

theorem B_H8_4 {v : Vec Ideal S256x128 .f32} {A : Arr EReal} (hv : IsArr v A) :
    IsArr (k0_pay138 (BitVec.ofNat 32 ↑(i 0)) sl.v3 (sl.r_74 c i b2 w2 b3 w3 b4 w4 b5 w5 b6 w6 b7 w7 b8 w8 x0 x1 x2 x3 x4 x5 x6) v) (fun p => A p + sel (p.2 = 2 * (i 0).val) (trow Q K V Cm Ls Ob Do (i 0).val 3 p.1) (sel (p.2 = 2 * (i 0).val + 1) (trow Q K V Cm Ls Ob Do (i 0).val 3 (256 + p.1)) 0)) :=
  (pieceH8 (b11 := b2) hx).H8_4 hv

theorem B_H8_5 {v : Vec Ideal S256x128 .f32} {A : Arr EReal} (hv : IsArr v A) :
    IsArr (k0_pay178 (BitVec.ofNat 32 ↑(i 0)) sl.v3 (sl.r_98 c i b2 w2 b3 w3 b4 w4 b5 w5 b6 w6 b7 w7 b8 w8 x0 x1 x2 x3 x4 x5 x6) v) (fun p => A p + sel (p.2 = 2 * (i 0).val) (trow Q K V Cm Ls Ob Do (i 0).val 4 p.1) (sel (p.2 = 2 * (i 0).val + 1) (trow Q K V Cm Ls Ob Do (i 0).val 4 (256 + p.1)) 0)) :=
  (pieceH8 (b11 := b2) hx).H8_5 hv

theorem B_H8_6 {A : Arr EReal} (hv : IsArr (β := EReal) (R := 256) (C := 128) (sl.v1270 (F := Ideal) c b11 w11 xo8) A) :
    IsArr (k0_pay211 (sl.r_115 c b11 w11 xo8) (sl.r_116 i) (sl.r_117 c i b2 w2 b3 w3 b4 w4 b5 w5 b6 w6 b7 w7 b8 w8 x0 x1 x2 x3 x4 x5 x6) sl.cst_19 (sl.r_118 i) (sl.r_119 c i b2 w2 b3 w3 b4 w4 b5 w5 b6 w6 b7 w7 b8 w8 x0 x1 x2 x3 x4 x5 x6)) (fun p => A p + sel (p.2 = 2 * (i 0).val) (trow Q K V Cm Ls Ob Do (i 0).val 5 p.1) (sel (p.2 = 2 * (i 0).val + 1) (trow Q K V Cm Ls Ob Do (i 0).val 5 (256 + p.1)) 0)) := by
  simp only [sl.r_115, sl.r_116, sl.v3, sl.r_117, sl.r_114, sl.r_1, sl.r_104, sl.r_101, sl.r_105, sl.r_102, sl.r_106, sl.r_107, sl.r, sl.r_103, sl.r_111, sl.r_108, sl.cst_19, sl.r_118, sl.r_119, k0_pay211, k0_pay206, k0_pay207, k0_pay208, k0_pay202, k0_pay197, k0_pay196, k0_pay6, k0_pay180, k0_pay4, k0_pay181, k0_pay182, k0_pay186, k0_pay185, k0_pay5, k0_pay179, k0_pay193, k0_pay188, k0_pay184, k0_pay187, k0_pay209, k0_pay210]
  apply IsArr.congr
  · repeat' (first | (with_reducible first | exact hv | exact arr_in w2 hx.1 _ | exact arr_in w3 hx.2.1 _ | exact arr_in w4 hx.2.2.1 _ | exact arr_in w6 hx.2.2.2.2.1 _ | exact arr_in w7 hx.2.2.2.2.2.1 _ | exact arr_in w8 hx.2.2.2.2.2.2 _ | exact arr_in_off w5 hx.2.2.2.1 (off19 i) _ | exact arr_in_off w5 hx.2.2.2.1 (off20 i) _ | exact msk_causal _ _ _ | exact msk_first _ | exact msk_upper _ | apply msk_cast | apply msk_row | apply msk_col | exact arr_zero | exact arr_const0 | exact arr_c8 | exact arr_mask | apply arr_addf | apply arr_subf | apply arr_mulf | apply arr_exp | apply arr_truncf | apply arr_sel | apply isArr_cast_self | apply arr_bc_row | apply arr_bc_col | apply arr_slice | apply arr_cat | apply arr_rowsum_128 | apply arr_rowsum_1280 | apply arr_colsum_1280 | apply arr_rowsum_256 | apply arr_colsum_256 | exact msk_lane0 _ _ | exact msk_lane1 _ _) | ((with_reducible apply arr_nt); rotate_left 2; rfl) | ((with_reducible apply arr_nn); rotate_left 2; rfl) | ((with_reducible apply arr_tn); rotate_left 2; exact ⟨rfl, rfl, rfl, rfl, rfl, rfl⟩) | exact msk_causal _ _ _)
  · intro a b ha hb
    simp only [tdk, tdv, tc0, tc1, trow_eq, tdq, tdq2_eq, tDh, tDd, tD, tP, tS, tlse, tdelta, tdo, tq, zero_add, add_zero, Finset.range_zero, Finset.sum_empty, Nat.mul_zero, Nat.reduceMul, Nat.reduceAdd]
    skip

theorem B_H8_7 {v : Vec Ideal S256x128 .f32} {A : Arr EReal} (hv : IsArr v A) :
    IsArr (k0_pay245 (BitVec.ofNat 32 ↑(i 0)) sl.v3 (sl.r_135 c i b2 w2 b3 w3 b4 w4 b5 w5 b6 w6 b7 w7 b8 w8 x0 x1 x2 x3 x4 x5 x6) v) (fun p => A p + sel (p.2 = 2 * (i 0).val) (trow Q K V Cm Ls Ob Do (i 0).val 6 p.1) (sel (p.2 = 2 * (i 0).val + 1) (trow Q K V Cm Ls Ob Do (i 0).val 6 (256 + p.1)) 0)) :=
  (pieceH8 (b11 := b2) hx).H8_7 hv

theorem B_H8_8 {v : Vec Ideal S256x128 .f32} {A : Arr EReal} (hv : IsArr v A) :
    IsArr (k0_pay282 (BitVec.ofNat 32 ↑(i 0)) sl.v3 (sl.r_158 c i b2 w2 b3 w3 b4 w4 b5 w5 b6 w6 b7 w7 b8 w8 x0 x1 x2 x3 x4 x5 x6) v) (fun p => A p + sel (p.2 = 2 * (i 0).val) (trow Q K V Cm Ls Ob Do (i 0).val 7 p.1) (sel (p.2 = 2 * (i 0).val + 1) (trow Q K V Cm Ls Ob Do (i 0).val 7 (256 + p.1)) 0)) :=
  (pieceH8 (b11 := b2) hx).H8_8 hv

theorem B_H9_1 {v : Vec Ideal S1x256 .f32} {A : Arr EReal} (hv : IsArr v A) :
    IsArr (k0_pay29 (sl.r_14 c i b2 w2 b3 w3 b4 w4 b5 w5 b6 w6 b7 w7 b8 w8 x0 x1 x2 x3 x4 x5 x6) v) (fun p => A p + tc0 Q K V Cm Ls Ob Do (i 0).val 0 (0 + p.2)) :=
  (pieceH9 hx).H9_1 hv

theorem B_H9_2 {v : Vec Ideal S1x256 .f32} {A : Arr EReal} (hv : IsArr v A) :
    IsArr (k0_pay30 (sl.r_14 c i b2 w2 b3 w3 b4 w4 b5 w5 b6 w6 b7 w7 b8 w8 x0 x1 x2 x3 x4 x5 x6) v) (fun p => A p + tc1 Q K V Cm Ls Ob Do (i 0).val 0 (0 + p.2)) :=
  (pieceH9 hx).H9_2 hv

theorem B_H9_3 {v : Vec Ideal S1x256 .f32} {A : Arr EReal} (hv : IsArr v A) :
    IsArr (k0_pay57 (sl.r_31 c i b2 w2 b3 w3 b4 w4 b5 w5 b6 w6 b7 w7 b8 w8 x0 x1 x2 x3 x4 x5 x6) v) (fun p => A p + tc0 Q K V Cm Ls Ob Do (i 0).val 1 (0 + p.2)) :=
  (pieceH9 hx).H9_3 hv

theorem B_H9_4 {v : Vec Ideal S1x256 .f32} {A : Arr EReal} (hv : IsArr v A) :
    IsArr (k0_pay58 (sl.r_31 c i b2 w2 b3 w3 b4 w4 b5 w5 b6 w6 b7 w7 b8 w8 x0 x1 x2 x3 x4 x5 x6) v) (fun p => A p + tc1 Q K V Cm Ls Ob Do (i 0).val 1 (0 + p.2)) :=
  (pieceH9 hx).H9_4 hv

theorem B_H9_5 {v : Vec Ideal S1x256 .f32} {A : Arr EReal} (hv : IsArr v A) :
    IsArr (k0_pay67 (sl.r_24 c b8 w8 x6) (sl.r_25 c b7 w7 b8 w8 x5 x6) (sl.r_35 c i b2 w2 b3 w3 b5 w5 b6 w6 x0 x1 x3 x4) (sl.r_36 c b4 w4 x2) v) (fun p => A p + tc0 Q K V Cm Ls Ob Do (i 0).val 1 (256 + p.2)) :=
  (pieceH9 hx).H9_5 hv

theorem B_H9_6 {v : Vec Ideal S1x256 .f32} {A : Arr EReal} (hv : IsArr v A) :
    IsArr (k0_pay68 (sl.r_37 c i b2 w2 b3 w3 b4 w4 b5 w5 b6 w6 b7 w7 b8 w8 x0 x1 x2 x3 x4 x5 x6) v) (fun p => A p + tc1 Q K V Cm Ls Ob Do (i 0).val 1 (256 + p.2)) :=
  (pieceH9 hx).H9_6 hv

theorem B_H9_7 {v : Vec Ideal S1x512 .f32} {A : Arr EReal} (hv : IsArr v A) :
    IsArr (k0_pay87 (sl.r_1 c b4 w4 x2) (sl.r_42 c b8 w8 x6) (sl.r_43 c b7 w7 b8 w8 x5 x6) (sl.r_44 c b6 w6 x4) (sl.r_46 c i b2 w2 b3 w3 b5 w5 x0 x1 x3) v) (fun p => A p + tc0 Q K V Cm Ls Ob Do (i 0).val 2 (0 + p.2)) :=
  (pieceH9 hx).H9_7 hv

theorem B_H9_8 {v : Vec Ideal S1x512 .f32} {A : Arr EReal} (hv : IsArr v A) :
    IsArr (k0_pay88 (sl.r_48 c i b2 w2 b3 w3 b4 w4 b5 w5 b6 w6 b7 w7 b8 w8 x0 x1 x2 x3 x4 x5 x6) v) (fun p => A p + tc1 Q K V Cm Ls Ob Do (i 0).val 2 (0 + p.2)) :=
  (pieceH9 hx).H9_8 hv

theorem B_H9_9 {v : Vec Ideal S1x256 .f32} {A : Arr EReal} (hv : IsArr v A) :
    IsArr (k0_pay96 (sl.r_51 c i b2 w2 b3 w3 b4 w4 b5 w5 b6 w6 b7 w7 b8 w8 x0 x1 x2 x3 x4 x5 x6) v) (fun p => A p + tc0 Q K V Cm Ls Ob Do (i 0).val 2 (512 + p.2)) :=
  (pieceH9 hx).H9_9 hv

theorem B_H9_10 {v : Vec Ideal S1x256 .f32} {A : Arr EReal} (hv : IsArr v A) :
    IsArr (k0_pay97 (sl.r_51 c i b2 w2 b3 w3 b4 w4 b5 w5 b6 w6 b7 w7 b8 w8 x0 x1 x2 x3 x4 x5 x6) v) (fun p => A p + tc1 Q K V Cm Ls Ob Do (i 0).val 2 (512 + p.2)) :=
  (pieceH9 hx).H9_10 hv

theorem B_H9_11 {v : Vec Ideal S1x768 .f32} {A : Arr EReal} (hv : IsArr v A) :
    IsArr (k0_pay126 (sl.r_67 c i b2 w2 b3 w3 b4 w4 b5 w5 b6 w6 b7 w7 b8 w8 x0 x1 x2 x3 x4 x5 x6) v) (fun p => A p + tc0 Q K V Cm Ls Ob Do (i 0).val 3 (0 + p.2)) :=
  (pieceH9 hx).H9_11 hv

theorem B_H9_12 {v : Vec Ideal S1x768 .f32} {A : Arr EReal} (hv : IsArr v A) :
    IsArr (k0_pay127 (sl.r_67 c i b2 w2 b3 w3 b4 w4 b5 w5 b6 w6 b7 w7 b8 w8 x0 x1 x2 x3 x4 x5 x6) v) (fun p => A p + tc1 Q K V Cm Ls Ob Do (i 0).val 3 (0 + p.2)) :=
  (pieceH9 hx).H9_12 hv

theorem B_H9_13 {v : Vec Ideal S1x256 .f32} {A : Arr EReal} (hv : IsArr v A) :
    IsArr (k0_pay135 (sl.r_72 c i b2 w2 b3 w3 b4 w4 b5 w5 b6 w6 b7 w7 b8 w8 x0 x1 x2 x3 x4 x5 x6) v) (fun p => A p + tc0 Q K V Cm Ls Ob Do (i 0).val 3 (768 + p.2)) :=
  (pieceH9 hx).H9_13 hv

theorem B_H9_14 {v : Vec Ideal S1x256 .f32} {A : Arr EReal} (hv : IsArr v A) :
    IsArr (k0_pay136 (sl.r_72 c i b2 w2 b3 w3 b4 w4 b5 w5 b6 w6 b7 w7 b8 w8 x0 x1 x2 x3 x4 x5 x6) v) (fun p => A p + tc1 Q K V Cm Ls Ob Do (i 0).val 3 (768 + p.2)) :=
  (pieceH9 hx).H9_14 hv

theorem B_H9_15 {v : Vec Ideal S1x1024 .f32} {A : Arr EReal} (hv : IsArr v A) :
    IsArr (k0_pay162 (sl.r_90 c i b2 w2 b3 w3 b4 w4 b5 w5 b6 w6 b7 w7 b8 w8 x0 x1 x2 x3 x4 x5 x6) v) (fun p => A p + tc0 Q K V Cm Ls Ob Do (i 0).val 4 (0 + p.2)) :=
  (pieceH9 hx).H9_15 hv

theorem B_H9_16 {v : Vec Ideal S1x1024 .f32} {A : Arr EReal} (hv : IsArr v A) :
    IsArr (k0_pay163 (sl.r_90 c i b2 w2 b3 w3 b4 w4 b5 w5 b6 w6 b7 w7 b8 w8 x0 x1 x2 x3 x4 x5 x6) v) (fun p => A p + tc1 Q K V Cm Ls Ob Do (i 0).val 4 (0 + p.2)) :=
  (pieceH9b (b12 := b5) hx).H9_16 hv

theorem B_H9_17 {v : Vec Ideal S1x256 .f32} {A : Arr EReal} (hv : IsArr v A) :
    IsArr (k0_pay173 (sl.r_94 c i b2 w2 b3 w3 b5 w5 b6 w6 x0 x1 x3 x4) (sl.r_95 c b4 w4 b8 w8 x2 x6) (sl.r_96 c b7 w7 b8 w8 x5 x6) v) (fun p => A p + tc0 Q K V Cm Ls Ob Do (i 0).val 4 (1024 + p.2)) :=
  (pieceH9b (b12 := b5) hx).H9_17 hv

theorem B_H9_18 {A : Arr EReal} (hv : IsArr (β := EReal) (R := 1) (C := 256) (sl.v1032 (F := Ideal) c i b12 w12 xo9) A) :
    IsArr (k0_pay176 (sl.r_99 c i b12 w12 xo9) (sl.r_100 c i b2 w2 b3 w3 b4 w4 b5 w5 b6 w6 b7 w7 b8 w8 x0 x1 x2 x3 x4 x5 x6)) (fun p => A p + tc1 Q K V Cm Ls Ob Do (i 0).val 4 (1024 + p.2)) := by
  simp only [sl.r_99, sl.r_100, sl.r_94, sl.r_84, sl.r_78, sl.r_88, sl.r_85, sl.r, sl.r_79, sl.r_80, sl.cst_19, sl.r_86, sl.r_87, sl.r_95, sl.r_1, sl.r_82, sl.r_76, sl.r_96, sl.r_83, sl.r_77, k0_pay176, k0_pay174, k0_pay175, k0_pay167, k0_pay164, k0_pay147, k0_pay140, k0_pay153, k0_pay152, k0_pay151, k0_pay150, k0_pay144, k0_pay143, k0_pay4, k0_pay5, k0_pay141, k0_pay142, k0_pay165, k0_pay6, k0_pay145, k0_pay166, k0_pay146, k0_pay139]
  apply IsArr.congr
  · repeat' (first | (with_reducible first | exact hv | exact arr_in w2 hx.1 _ | exact arr_in w3 hx.2.1 _ | exact arr_in w4 hx.2.2.1 _ | exact arr_in w6 hx.2.2.2.2.1 _ | exact arr_in w7 hx.2.2.2.2.2.1 _ | exact arr_in w8 hx.2.2.2.2.2.2 _ | exact arr_in_off w5 hx.2.2.2.1 (off15 i) _ | exact arr_in_off w5 hx.2.2.2.1 (off16 i) _ | exact msk_causal _ _ _ | exact msk_first _ | exact msk_upper _ | apply msk_cast | apply msk_row | apply msk_col | exact arr_zero | exact arr_const0 | exact arr_c8 | exact arr_mask | apply arr_addf | apply arr_subf | apply arr_mulf | apply arr_exp | apply arr_truncf | apply arr_sel | apply isArr_cast_self | apply arr_bc_row | apply arr_bc_col | apply arr_slice | apply arr_cat | apply arr_rowsum_128 | apply arr_rowsum_256 | apply arr_colsum_256) | ((with_reducible apply arr_nt); rotate_left 2; rfl) | ((with_reducible apply arr_nn); rotate_left 2; rfl) | ((with_reducible apply arr_tn); rotate_left 2; exact ⟨rfl, rfl, rfl, rfl, rfl, rfl⟩) | exact msk_causal _ _ _)
  · intro a b ha hb
    simp only [tdk, tdv, tc0, tc1, trow_eq, tdq, tdq2_eq, tDh, tDd, tD, tP, tS, tlse, tdelta, tdo, tq, zero_add, add_zero, Finset.range_zero, Finset.sum_empty, Nat.mul_zero, Nat.reduceMul, Nat.reduceAdd]
    try simp only [Nat.add_le_add_iff_left]

theorem B_H9_19 {v : Vec Ideal S1x1280 .f32} {A : Arr EReal} (hv : IsArr v A) :
    IsArr (k0_pay194 (sl.r_1 c b4 w4 x2) (sl.r_104 c b8 w8 x6) (sl.r_105 c b7 w7 b8 w8 x5 x6) (sl.r_108 c i b2 w2 b3 w3 b5 w5 b6 w6 x0 x1 x3 x4) v) (fun p => A p + tc0 Q K V Cm Ls Ob Do (i 0).val 5 (0 + p.2)) :=
  (pieceH9b (b12 := b5) hx).H9_19 hv

theorem B_H9_20 {v : Vec Ideal S1x1280 .f32} {A : Arr EReal} (hv : IsArr v A) :
    IsArr (k0_pay195 (sl.r_109 c i b2 w2 b3 w3 b4 w4 b5 w5 b6 w6 b7 w7 b8 w8 x0 x1 x2 x3 x4 x5 x6) v) (fun p => A p + tc1 Q K V Cm Ls Ob Do (i 0).val 5 (0 + p.2)) :=
  (pieceH9b (b12 := b5) hx).H9_20 hv

theorem B_H9_21 {v : Vec Ideal S1x256 .f32} {A : Arr EReal} (hv : IsArr v A) :
    IsArr (k0_pay203 (sl.r_112 c i b2 w2 b3 w3 b4 w4 b5 w5 b6 w6 b7 w7 b8 w8 x0 x1 x2 x3 x4 x5 x6) v) (fun p => A p + tc0 Q K V Cm Ls Ob Do (i 0).val 5 (1280 + p.2)) :=
  (pieceH9b (b12 := b5) hx).H9_21 hv

theorem B_H9_22 {v : Vec Ideal S1x256 .f32} {A : Arr EReal} (hv : IsArr v A) :
    IsArr (k0_pay204 (sl.r_112 c i b2 w2 b3 w3 b4 w4 b5 w5 b6 w6 b7 w7 b8 w8 x0 x1 x2 x3 x4 x5 x6) v) (fun p => A p + tc1 Q K V Cm Ls Ob Do (i 0).val 5 (1280 + p.2)) :=
  (pieceH9b (b12 := b5) hx).H9_22 hv

theorem B_H9_23 {v : Vec Ideal S1x1536 .f32} {A : Arr EReal} (hv : IsArr v A) :
    IsArr (k0_pay233 (sl.r_129 c i b2 w2 b3 w3 b4 w4 b5 w5 b6 w6 b7 w7 b8 w8 x0 x1 x2 x3 x4 x5 x6) v) (fun p => A p + tc0 Q K V Cm Ls Ob Do (i 0).val 6 (0 + p.2)) :=
  (pieceH9b (b12 := b5) hx).H9_23 hv

theorem B_H9_24 {v : Vec Ideal S1x1536 .f32} {A : Arr EReal} (hv : IsArr v A) :
    IsArr (k0_pay234 (sl.r_129 c i b2 w2 b3 w3 b4 w4 b5 w5 b6 w6 b7 w7 b8 w8 x0 x1 x2 x3 x4 x5 x6) v) (fun p => A p + tc1 Q K V Cm Ls Ob Do (i 0).val 6 (0 + p.2)) :=
  (pieceH9b (b12 := b5) hx).H9_24 hv

theorem B_H9_25 {v : Vec Ideal S1x256 .f32} {A : Arr EReal} (hv : IsArr v A) :
    IsArr (k0_pay242 (sl.r_133 c i b2 w2 b3 w3 b4 w4 b5 w5 b6 w6 b7 w7 b8 w8 x0 x1 x2 x3 x4 x5 x6) v) (fun p => A p + tc0 Q K V Cm Ls Ob Do (i 0).val 6 (1536 + p.2)) :=
  (pieceH9b (b12 := b5) hx).H9_25 hv

theorem B_H9_26 {v : Vec Ideal S1x256 .f32} {A : Arr EReal} (hv : IsArr v A) :
    IsArr (k0_pay243 (sl.r_133 c i b2 w2 b3 w3 b4 w4 b5 w5 b6 w6 b7 w7 b8 w8 x0 x1 x2 x3 x4 x5 x6) v) (fun p => A p + tc1 Q K V Cm Ls Ob Do (i 0).val 6 (1536 + p.2)) :=
  (pieceH9b (b12 := b5) hx).H9_26 hv

theorem B_H9_27 {v : Vec Ideal S1x1792 .f32} {A : Arr EReal} (hv : IsArr v A) :
    IsArr (k0_pay269 (sl.r_150 c i b2 w2 b3 w3 b4 w4 b5 w5 b6 w6 b7 w7 b8 w8 x0 x1 x2 x3 x4 x5 x6) v) (fun p => A p + tc0 Q K V Cm Ls Ob Do (i 0).val 7 (0 + p.2)) :=
  (pieceH9b (b12 := b5) hx).H9_27 hv

theorem B_H9_28 {v : Vec Ideal S1x1792 .f32} {A : Arr EReal} (hv : IsArr v A) :
    IsArr (k0_pay270 (sl.r_150 c i b2 w2 b3 w3 b4 w4 b5 w5 b6 w6 b7 w7 b8 w8 x0 x1 x2 x3 x4 x5 x6) v) (fun p => A p + tc1 Q K V Cm Ls Ob Do (i 0).val 7 (0 + p.2)) :=
  (pieceH9b (b12 := b5) hx).H9_28 hv

theorem B_H9_29 {v : Vec Ideal S1x256 .f32} {A : Arr EReal} (hv : IsArr v A) :
    IsArr (k0_pay279 (sl.r_154 c i b2 w2 b3 w3 b4 w4 b5 w5 b6 w6 b7 w7 b8 w8 x0 x1 x2 x3 x4 x5 x6) v) (fun p => A p + tc0 Q K V Cm Ls Ob Do (i 0).val 7 (1792 + p.2)) :=
  (pieceH9b (b12 := b5) hx).H9_29 hv

theorem B_H9_30 {A : Arr EReal} (hv : IsArr (β := EReal) (R := 1) (C := 256) (sl.v1694 (F := Ideal) c i b12 w12 xo9) A) :
    IsArr (sl.r_159 c i b2 w2 b3 w3 b4 w4 b5 w5 b6 w6 b7 w7 b8 w8 b12 w12 x0 x1 x2 x3 x4 x5 x6 xo9) (fun p => A p + tc1 Q K V Cm Ls Ob Do (i 0).val 7 (1792 + p.2)) := by
  simp only [sl.r_159, sl.r_154, sl.r_1, sl.r_142, sl.r_136, sl.r_143, sl.r_137, sl.r_144, sl.r_138, sl.r_148, sl.r_145, sl.r, sl.r_139, sl.r_140, sl.r_146, sl.r_147, k0_pay280, k0_pay272, k0_pay271, k0_pay6, k0_pay252, k0_pay4, k0_pay253, k0_pay246, k0_pay254, k0_pay247, k0_pay261, k0_pay260, k0_pay258, k0_pay257, k0_pay251, k0_pay5, k0_pay249, k0_pay248, k0_pay250, k0_pay259]
  apply IsArr.congr
  · repeat' (first | (with_reducible first | exact hv | exact arr_in w2 hx.1 _ | exact arr_in w3 hx.2.1 _ | exact arr_in w4 hx.2.2.1 _ | exact arr_in w6 hx.2.2.2.2.1 _ | exact arr_in w7 hx.2.2.2.2.2.1 _ | exact arr_in w8 hx.2.2.2.2.2.2 _ | exact arr_in_off w5 hx.2.2.2.1 (off27 i) _ | exact arr_in_off w5 hx.2.2.2.1 (off28 i) _ | exact msk_causal _ _ _ | exact msk_first _ | exact msk_upper _ | apply msk_cast | apply msk_row | apply msk_col | exact arr_zero | exact arr_const0 | exact arr_c8 | exact arr_mask | apply arr_addf | apply arr_subf | apply arr_mulf | apply arr_exp | apply arr_truncf | apply arr_sel | apply isArr_cast_self | apply arr_bc_row | apply arr_bc_col | apply arr_slice | apply arr_cat | apply arr_rowsum_128 | apply arr_rowsum_256 | apply arr_colsum_256) | ((with_reducible apply arr_nt); rotate_left 2; rfl) | ((with_reducible apply arr_nn); rotate_left 2; rfl) | ((with_reducible apply arr_tn); rotate_left 2; exact ⟨rfl, rfl, rfl, rfl, rfl, rfl⟩) | exact msk_causal _ _ _)
  · intro a b ha hb
    simp only [tdk, tdv, tc0, tc1, trow_eq, tdq, tdq2_eq, tDh, tDd, tD, tP, tS, tlse, tdelta, tdo, tq, zero_add, add_zero, Finset.range_zero, Finset.sum_empty, Nat.mul_zero, Nat.reduceMul, Nat.reduceAdd]
    try simp only [Nat.add_le_add_iff_left]

theorem B_L7_0 :
    IsArr (β := EReal) (k0_pay32 (sl.r_18 c i b2 w2 b3 w3 b4 w4 b5 w5 b6 w6 b7 w7 b8 w8 x0 x1 x2 x3 x4 x5 x6)) (fun p => tdq Q K V Cm Ls Ob Do (i 0).val 0 p) :=
  (pieceH8 (b11 := b2) hx).L7_0 trivial

theorem B_L7_1 :
    IsArr (β := EReal) (k0_pay69 k0_pay4 (sl.r_38 c i b2 w2 b3 w3 b4 w4 b5 w5 b6 w6 b7 w7 b8 w8 x0 x1 x2 x3 x4 x5 x6)) (fun p => tdq Q K V Cm Ls Ob Do (i 0).val 1 p) :=
  (pieceH8 (b11 := b2) hx).L7_1 trivial

theorem B_L7_2 :
    IsArr (β := EReal) (k0_pay98 k0_pay4 (sl.r_52 c i b2 w2 b3 w3 b4 w4 b5 w5 b6 w6 b7 w7 b8 w8 x0 x1 x2 x3 x4 x5 x6)) (fun p => tdq Q K V Cm Ls Ob Do (i 0).val 2 p) :=
  (pieceH8 (b11 := b2) hx).L7_2 trivial

theorem B_L7_3 :
    IsArr (β := EReal) (sl.r_75 c i b2 w2 b3 w3 b4 w4 b5 w5 b6 w6 b7 w7 b8 w8 x0 x1 x2 x3 x4 x5 x6) (fun p => tdq Q K V Cm Ls Ob Do (i 0).val 3 p) :=
  (pieceH8 (b11 := b2) hx).L7_3 trivial

theorem B_L7_4 :
    IsArr (β := EReal) (k0_pay177 k0_pay4 (sl.r_97 c i b2 w2 b3 w3 b4 w4 b5 w5 b6 w6 b7 w7 b8 w8 x0 x1 x2 x3 x4 x5 x6)) (fun p => tdq Q K V Cm Ls Ob Do (i 0).val 4 p) :=
  (pieceH8 (b11 := b2) hx).L7_4 trivial

theorem B_L7_5 :
    IsArr (β := EReal) (k0_pay205 k0_pay4 (sl.r_113 c i b2 w2 b3 w3 b4 w4 b5 w5 b6 w6 b7 w7 b8 w8 x0 x1 x2 x3 x4 x5 x6)) (fun p => tdq Q K V Cm Ls Ob Do (i 0).val 5 p) :=
  (pieceH8 (b11 := b2) hx).L7_5 trivial

theorem B_L7_6 :
    IsArr (β := EReal) (k0_pay244 k0_pay4 (sl.r_134 c i b2 w2 b3 w3 b4 w4 b5 w5 b6 w6 b7 w7 b8 w8 x0 x1 x2 x3 x4 x5 x6)) (fun p => tdq Q K V Cm Ls Ob Do (i 0).val 6 p) :=
  (pieceH8 (b11 := b2) hx).L7_6 trivial

theorem B_L7_7 :
    IsArr (β := EReal) (k0_pay281 k0_pay4 (sl.r_157 c i b2 w2 b3 w3 b4 w4 b5 w5 b6 w6 b7 w7 b8 w8 x0 x1 x2 x3 x4 x5 x6)) (fun p => tdq Q K V Cm Ls Ob Do (i 0).val 7 p) :=
  (pieceH8 (b11 := b2) hx).L7_7 trivial

end Cert.Fox

end
-- ==== Proof.FoxChainB.lean ====
/- The arrays that run B leaves in its buffers. -/
module

public import proofs.«01_k».proof.Proof.FoxPieceB1
public import proofs.«01_k».proof.Proof.FoxPieceB2
public import proofs.«01_k».proof.Proof.FoxStep
public import proofs.«01_k».proof.Proof.FoxFrame

@[expose] public section

set_option maxRecDepth 10000

noncomputable section

namespace Cert.Fox

open Cert.KernelIdeal Cert.KernelIdeal.Gen Idealize.ShloMosaic Idealize.ShloMosaic.Updates kernelRun0_B
open Idealize.ShloMosaic.LaneScatter (Blk)

variable {c : Dev nD} {i : grid0.Coords} {b2 : MemB} {w2 : b2.IsWhole} {b11 b13 b14 : MemB} {w11 : b11.IsWhole} {b12 : MemT} {w12 : b12.IsWhole} {xo8 : VecB} {xo9 : Vec Ideal S128x2048 .f32} {b3 : MemB} {w3 : b3.IsWhole} {b4 : MemB} {w4 : b4.IsWhole}
  {b5 : MemT} {w5 : b5.IsWhole} {b6 : MemB} {w6 : b6.IsWhole} {b7 : MemB} {w7 : b7.IsWhole} {b8 : MemB} {w8 : b8.IsWhole}
  {x0 x1 x2 : VecB} {x3 : Vec Ideal S128x2048 .f32} {x4 x5 x6 : VecB} {Q K V Cm Ls Ob Do : Arr EReal}
  (hx : Ins x0 x1 x2 x3 x4 x5 x6 Q K V Cm Ls Ob Do)

include hx

omit hx in
theorem B_HS0_at_1 (T : ℕ → Arr EReal) : LeavesB (sl.HS0_1 (F := Ideal)) (rowsAt T 1) := by
  intro v f
  rw [rowsAt_start]
  refine isArr_writes_whole (R := 2048) (C := 128) f [] _ ?_
  simp only [k0_pay7]
  exact isArr_cast_self arr_zero _

theorem B_HS0_at_2 : LeavesB (sl.HS0_2 (F := Ideal) c i b2 w2 b3 w3 b4 w4 b5 w5 b6 w6 b7 w7 b8 w8 b13 x0 x1 x2 x3 x4 x5 x6) (rowsAt (tdk Q K V Cm Ls Ob Do (i 0).val) 2) := fun v f =>
  step_rows _ 1 (B_HS0_at_1 (tdk Q K V Cm Ls Ob Do (i 0).val) v f) rfl _ (B_HS0_1 hx (isArr_load (o := (0, 0)) (B_HS0_at_1 (tdk Q K V Cm Ls Ob Do (i 0).val) b13.view _) rfl _))

theorem B_HS0_at_3 : LeavesB (sl.HS0_3 (F := Ideal) c i b2 w2 b3 w3 b4 w4 b5 w5 b6 w6 b7 w7 b8 w8 b13 x0 x1 x2 x3 x4 x5 x6) (rowsAt (tdk Q K V Cm Ls Ob Do (i 0).val) 3) := fun v f =>
  step_rows _ 2 (B_HS0_at_2 hx v f) rfl _ (B_HS0_2 hx (isArr_load (o := (0, 0)) (B_HS0_at_2 hx b13.view _) rfl _))

theorem B_HS0_at_4 : LeavesB (sl.HS0_4 (F := Ideal) c i b2 w2 b3 w3 b4 w4 b5 w5 b6 w6 b7 w7 b8 w8 b13 x0 x1 x2 x3 x4 x5 x6) (rowsAt (tdk Q K V Cm Ls Ob Do (i 0).val) 4) := fun v f =>
  step_rows _ 3 (B_HS0_at_3 hx v f) rfl _ (B_HS0_3 hx (isArr_load (o := (256, 0)) (B_HS0_at_3 hx b13.view _) rfl _))

theorem B_HS0_at_5 : LeavesB (sl.HS0_5 (F := Ideal) c i b2 w2 b3 w3 b4 w4 b5 w5 b6 w6 b7 w7 b8 w8 b13 x0 x1 x2 x3 x4 x5 x6) (rowsAt (tdk Q K V Cm Ls Ob Do (i 0).val) 5) := fun v f =>
  step_rows _ 4 (B_HS0_at_4 hx v f) rfl _ (B_HS0_4 hx (isArr_load (o := (0, 0)) (B_HS0_at_4 hx b13.view _) rfl _))

theorem B_HS0_at_6 : LeavesB (sl.HS0_6 (F := Ideal) c i b2 w2 b3 w3 b4 w4 b5 w5 b6 w6 b7 w7 b8 w8 b13 x0 x1 x2 x3 x4 x5 x6) (rowsAt (tdk Q K V Cm Ls Ob Do (i 0).val) 6) := fun v f =>
  step_rows _ 5 (B_HS0_at_5 hx v f) rfl _ (B_HS0_5 hx (isArr_load (o := (512, 0)) (B_HS0_at_5 hx b13.view _) rfl _))

theorem B_HS0_at_7 : LeavesB (sl.HS0_7 (F := Ideal) c i b2 w2 b3 w3 b4 w4 b5 w5 b6 w6 b7 w7 b8 w8 b13 x0 x1 x2 x3 x4 x5 x6) (rowsAt (tdk Q K V Cm Ls Ob Do (i 0).val) 7) := fun v f =>
  step_rows _ 6 (B_HS0_at_6 hx v f) rfl _ (B_HS0_6 hx (isArr_load (o := (0, 0)) (B_HS0_at_6 hx b13.view _) rfl _))

theorem B_HS0_at_8 : LeavesB (sl.HS0_8 (F := Ideal) c i b2 w2 b3 w3 b4 w4 b5 w5 b6 w6 b7 w7 b8 w8 b13 x0 x1 x2 x3 x4 x5 x6) (rowsAt (tdk Q K V Cm Ls Ob Do (i 0).val) 8) := fun v f =>
  step_rows _ 7 (B_HS0_at_7 hx v f) rfl _ (B_HS0_7 hx (isArr_load (o := (768, 0)) (B_HS0_at_7 hx b13.view _) rfl _))

theorem B_HS0_at_9 : LeavesB (sl.HS0_9 (F := Ideal) c i b2 w2 b3 w3 b4 w4 b5 w5 b6 w6 b7 w7 b8 w8 b13 x0 x1 x2 x3 x4 x5 x6) (rowsAt (tdk Q K V Cm Ls Ob Do (i 0).val) 9) := fun v f =>
  step_rows _ 8 (B_HS0_at_8 hx v f) rfl _ (B_HS0_8 hx (isArr_load (o := (0, 0)) (B_HS0_at_8 hx b13.view _) rfl _))

theorem B_HS0_at_10 : LeavesB (sl.HS0_10 (F := Ideal) c i b2 w2 b3 w3 b4 w4 b5 w5 b6 w6 b7 w7 b8 w8 b13 x0 x1 x2 x3 x4 x5 x6) (rowsAt (tdk Q K V Cm Ls Ob Do (i 0).val) 10) := fun v f =>
  step_rows _ 9 (B_HS0_at_9 hx v f) rfl _ (B_HS0_9 hx (isArr_load (o := (1024, 0)) (B_HS0_at_9 hx b13.view _) rfl _))

theorem B_HS0_at_11 : LeavesB (sl.HS0_11 (F := Ideal) c i b2 w2 b3 w3 b4 w4 b5 w5 b6 w6 b7 w7 b8 w8 b13 x0 x1 x2 x3 x4 x5 x6) (rowsAt (tdk Q K V Cm Ls Ob Do (i 0).val) 11) := fun v f =>
  step_rows _ 10 (B_HS0_at_10 hx v f) rfl _ (B_HS0_10 hx (isArr_load (o := (0, 0)) (B_HS0_at_10 hx b13.view _) rfl _))

theorem B_HS0_at_12 : LeavesB (sl.HS0_12 (F := Ideal) c i b2 w2 b3 w3 b4 w4 b5 w5 b6 w6 b7 w7 b8 w8 b13 x0 x1 x2 x3 x4 x5 x6) (rowsAt (tdk Q K V Cm Ls Ob Do (i 0).val) 12) := fun v f =>
  step_rows _ 11 (B_HS0_at_11 hx v f) rfl _ (B_HS0_11 hx (isArr_load (o := (1280, 0)) (B_HS0_at_11 hx b13.view _) rfl _))

theorem B_HS0_at_13 : LeavesB (sl.HS0_13 (F := Ideal) c i b2 w2 b3 w3 b4 w4 b5 w5 b6 w6 b7 w7 b8 w8 b13 x0 x1 x2 x3 x4 x5 x6) (rowsAt (tdk Q K V Cm Ls Ob Do (i 0).val) 13) := fun v f =>
  step_rows _ 12 (B_HS0_at_12 hx v f) rfl _ (B_HS0_12 hx (isArr_load (o := (0, 0)) (B_HS0_at_12 hx b13.view _) rfl _))

theorem B_HS0_at_14 : LeavesB (sl.HS0_14 (F := Ideal) c i b2 w2 b3 w3 b4 w4 b5 w5 b6 w6 b7 w7 b8 w8 b13 x0 x1 x2 x3 x4 x5 x6) (rowsAt (tdk Q K V Cm Ls Ob Do (i 0).val) 14) := fun v f =>
  step_rows _ 13 (B_HS0_at_13 hx v f) rfl _ (B_HS0_13 hx (isArr_load (o := (1536, 0)) (B_HS0_at_13 hx b13.view _) rfl _))

theorem B_HS0_at_15 : LeavesB (sl.HS0_15 (F := Ideal) c i b2 w2 b3 w3 b4 w4 b5 w5 b6 w6 b7 w7 b8 w8 b13 x0 x1 x2 x3 x4 x5 x6) (rowsAt (tdk Q K V Cm Ls Ob Do (i 0).val) 15) := fun v f =>
  step_rows _ 14 (B_HS0_at_14 hx v f) rfl _ (B_HS0_14 hx (isArr_load (o := (0, 0)) (B_HS0_at_14 hx b13.view _) rfl _))

theorem B_HS0_at_16 : LeavesB (sl.HS0_16 (F := Ideal) c i b2 w2 b3 w3 b4 w4 b5 w5 b6 w6 b7 w7 b8 w8 b13 x0 x1 x2 x3 x4 x5 x6) (rowsAt (tdk Q K V Cm Ls Ob Do (i 0).val) 16) := fun v f =>
  step_rows _ 15 (B_HS0_at_15 hx v f) rfl _ (B_HS0_15 hx (isArr_load (o := (1792, 0)) (B_HS0_at_15 hx b13.view _) rfl _))

omit hx in
theorem B_HS1_at_1 (T : ℕ → Arr EReal) : LeavesB (sl.HS1_1 (F := Ideal)) (rowsAt T 1) := by
  intro v f
  rw [rowsAt_start]
  refine isArr_writes_whole (R := 2048) (C := 128) f [] _ ?_
  simp only [k0_pay8]
  exact isArr_cast_self arr_zero _

theorem B_HS1_at_2 : LeavesB (sl.HS1_2 (F := Ideal) c i b2 w2 b3 w3 b5 w5 b6 w6 b8 w8 b14 x0 x1 x3 x4 x6) (rowsAt (tdv Q K Cm Ls Do (i 0).val) 2) := fun v f =>
  step_rows _ 1 (B_HS1_at_1 (tdv Q K Cm Ls Do (i 0).val) v f) rfl _ (B_HS1_1 hx (isArr_load (o := (0, 0)) (B_HS1_at_1 (tdv Q K Cm Ls Do (i 0).val) b14.view _) rfl _))

theorem B_HS1_at_3 : LeavesB (sl.HS1_3 (F := Ideal) c i b2 w2 b3 w3 b5 w5 b6 w6 b8 w8 b14 x0 x1 x3 x4 x6) (rowsAt (tdv Q K Cm Ls Do (i 0).val) 3) := fun v f =>
  step_rows _ 2 (B_HS1_at_2 hx v f) rfl _ (B_HS1_2 hx (isArr_load (o := (0, 0)) (B_HS1_at_2 hx b14.view _) rfl _))

theorem B_HS1_at_4 : LeavesB (sl.HS1_4 (F := Ideal) c i b2 w2 b3 w3 b5 w5 b6 w6 b8 w8 b14 x0 x1 x3 x4 x6) (rowsAt (tdv Q K Cm Ls Do (i 0).val) 4) := fun v f =>
  step_rows _ 3 (B_HS1_at_3 hx v f) rfl _ (B_HS1_3 hx (isArr_load (o := (256, 0)) (B_HS1_at_3 hx b14.view _) rfl _))

theorem B_HS1_at_5 : LeavesB (sl.HS1_5 (F := Ideal) c i b2 w2 b3 w3 b5 w5 b6 w6 b8 w8 b14 x0 x1 x3 x4 x6) (rowsAt (tdv Q K Cm Ls Do (i 0).val) 5) := fun v f =>
  step_rows _ 4 (B_HS1_at_4 hx v f) rfl _ (B_HS1_4 hx (isArr_load (o := (0, 0)) (B_HS1_at_4 hx b14.view _) rfl _))

theorem B_HS1_at_6 : LeavesB (sl.HS1_6 (F := Ideal) c i b2 w2 b3 w3 b5 w5 b6 w6 b8 w8 b14 x0 x1 x3 x4 x6) (rowsAt (tdv Q K Cm Ls Do (i 0).val) 6) := fun v f =>
  step_rows _ 5 (B_HS1_at_5 hx v f) rfl _ (B_HS1_5 hx (isArr_load (o := (512, 0)) (B_HS1_at_5 hx b14.view _) rfl _))

theorem B_HS1_at_7 : LeavesB (sl.HS1_7 (F := Ideal) c i b2 w2 b3 w3 b5 w5 b6 w6 b8 w8 b14 x0 x1 x3 x4 x6) (rowsAt (tdv Q K Cm Ls Do (i 0).val) 7) := fun v f =>
  step_rows _ 6 (B_HS1_at_6 hx v f) rfl _ (B_HS1_6 hx (isArr_load (o := (0, 0)) (B_HS1_at_6 hx b14.view _) rfl _))

theorem B_HS1_at_8 : LeavesB (sl.HS1_8 (F := Ideal) c i b2 w2 b3 w3 b5 w5 b6 w6 b8 w8 b14 x0 x1 x3 x4 x6) (rowsAt (tdv Q K Cm Ls Do (i 0).val) 8) := fun v f =>
  step_rows _ 7 (B_HS1_at_7 hx v f) rfl _ (B_HS1_7 hx (isArr_load (o := (768, 0)) (B_HS1_at_7 hx b14.view _) rfl _))

theorem B_HS1_at_9 : LeavesB (sl.HS1_9 (F := Ideal) c i b2 w2 b3 w3 b5 w5 b6 w6 b8 w8 b14 x0 x1 x3 x4 x6) (rowsAt (tdv Q K Cm Ls Do (i 0).val) 9) := fun v f =>
  step_rows _ 8 (B_HS1_at_8 hx v f) rfl _ (B_HS1_8 hx (isArr_load (o := (0, 0)) (B_HS1_at_8 hx b14.view _) rfl _))

theorem B_HS1_at_10 : LeavesB (sl.HS1_10 (F := Ideal) c i b2 w2 b3 w3 b5 w5 b6 w6 b8 w8 b14 x0 x1 x3 x4 x6) (rowsAt (tdv Q K Cm Ls Do (i 0).val) 10) := fun v f =>
  step_rows _ 9 (B_HS1_at_9 hx v f) rfl _ (B_HS1_9 hx (isArr_load (o := (1024, 0)) (B_HS1_at_9 hx b14.view _) rfl _))

theorem B_HS1_at_11 : LeavesB (sl.HS1_11 (F := Ideal) c i b2 w2 b3 w3 b5 w5 b6 w6 b8 w8 b14 x0 x1 x3 x4 x6) (rowsAt (tdv Q K Cm Ls Do (i 0).val) 11) := fun v f =>
  step_rows _ 10 (B_HS1_at_10 hx v f) rfl _ (B_HS1_10 hx (isArr_load (o := (0, 0)) (B_HS1_at_10 hx b14.view _) rfl _))

theorem B_HS1_at_12 : LeavesB (sl.HS1_12 (F := Ideal) c i b2 w2 b3 w3 b5 w5 b6 w6 b8 w8 b14 x0 x1 x3 x4 x6) (rowsAt (tdv Q K Cm Ls Do (i 0).val) 12) := fun v f =>
  step_rows _ 11 (B_HS1_at_11 hx v f) rfl _ (B_HS1_11 hx (isArr_load (o := (1280, 0)) (B_HS1_at_11 hx b14.view _) rfl _))

theorem B_HS1_at_13 : LeavesB (sl.HS1_13 (F := Ideal) c i b2 w2 b3 w3 b5 w5 b6 w6 b8 w8 b14 x0 x1 x3 x4 x6) (rowsAt (tdv Q K Cm Ls Do (i 0).val) 13) := fun v f =>
  step_rows _ 12 (B_HS1_at_12 hx v f) rfl _ (B_HS1_12 hx (isArr_load (o := (0, 0)) (B_HS1_at_12 hx b14.view _) rfl _))

theorem B_HS1_at_14 : LeavesB (sl.HS1_14 (F := Ideal) c i b2 w2 b3 w3 b5 w5 b6 w6 b8 w8 b14 x0 x1 x3 x4 x6) (rowsAt (tdv Q K Cm Ls Do (i 0).val) 14) := fun v f =>
  step_rows _ 13 (B_HS1_at_13 hx v f) rfl _ (B_HS1_13 hx (isArr_load (o := (1536, 0)) (B_HS1_at_13 hx b14.view _) rfl _))

theorem B_HS1_at_15 : LeavesB (sl.HS1_15 (F := Ideal) c i b2 w2 b3 w3 b5 w5 b6 w6 b8 w8 b14 x0 x1 x3 x4 x6) (rowsAt (tdv Q K Cm Ls Do (i 0).val) 15) := fun v f =>
  step_rows _ 14 (B_HS1_at_14 hx v f) rfl _ (B_HS1_14 hx (isArr_load (o := (0, 0)) (B_HS1_at_14 hx b14.view _) rfl _))

theorem B_HS1_at_16 : LeavesB (sl.HS1_16 (F := Ideal) c i b2 w2 b3 w3 b5 w5 b6 w6 b8 w8 b14 x0 x1 x3 x4 x6) (rowsAt (tdv Q K Cm Ls Do (i 0).val) 16) := fun v f =>
  step_rows _ 15 (B_HS1_at_15 hx v f) rfl _ (B_HS1_15 hx (isArr_load (o := (1792, 0)) (B_HS1_at_15 hx b14.view _) rfl _))

theorem B_H9_2_at {A9 : Arr EReal} (hx9 : IsArr xo9 A9) (v : View sig .tc .vmem S128x2048 .f32) (f : v.ty.Contents (Elt Ideal)) {F9 : Arr EReal} (hf : IsArr (R := 128) (C := 2048) (β := EReal) (v.read (Elt Ideal) f) F9) :
    IsArr (R := 128) (C := 2048) (β := EReal) (v.read (Elt Ideal) (v.writes (Elt Ideal) f (sl.H9_2 (F := Ideal) c i b2 w2 b3 w3 b4 w4 b5 w5 b6 w6 b7 w7 b8 w8 b12 w12 x0 x1 x2 x3 x4 x5 x6 xo9))) (mixAt A9 F9 (tc0 Q K V Cm Ls Ob Do (i 0).val) (tc1 Q K V Cm Ls Ob Do (i 0).val) (i 0).val 2 2) :=
  step_mix1 A9 _ _ _ _ 2 1 (step_mix0 A9 _ _ _ _ 1 1 ((by rw [mixAt_start]; exact hf)) rfl (off1 i) _ (B_H9_1 hx (isArr_fresh0 (isArr_load (o := (2 * (i 0).val, 0)) (hA := by rw [w12.read_unread]; exact hx9) (off1 i) _) rfl))) rfl (off2 i) _ (B_H9_2 hx (isArr_fresh1 (isArr_load (o := (2 * (i 0).val + 1, 0)) (hA := by rw [w12.read_unread]; exact hx9) (off2 i) _) rfl))

theorem B_H9_3_at {A9 : Arr EReal} (hx9 : IsArr xo9 A9) (v : View sig .tc .vmem S128x2048 .f32) (f : v.ty.Contents (Elt Ideal)) {F9 : Arr EReal} (hf : IsArr (R := 128) (C := 2048) (β := EReal) (v.read (Elt Ideal) f) F9) :
    IsArr (R := 128) (C := 2048) (β := EReal) (v.read (Elt Ideal) (v.writes (Elt Ideal) f (sl.H9_3 (F := Ideal) c i b2 w2 b3 w3 b4 w4 b5 w5 b6 w6 b7 w7 b8 w8 b12 w12 x0 x1 x2 x3 x4 x5 x6 xo9))) (mixAt A9 F9 (tc0 Q K V Cm Ls Ob Do (i 0).val) (tc1 Q K V Cm Ls Ob Do (i 0).val) (i 0).val 3 2) :=
  step_mix0 A9 _ _ _ _ 2 2 (B_H9_2_at hx hx9 v f hf) rfl (off1 i) _ (B_H9_3 hx (isArr_touched0 (isArr_load (o := (2 * (i 0).val, 0)) (B_H9_2_at hx hx9 b12.view _ (isArr_ofBlk (by decide) (by decide) _)) (off1 i) _) rfl))

theorem B_H9_6_at {A9 : Arr EReal} (hx9 : IsArr xo9 A9) (v : View sig .tc .vmem S128x2048 .f32) (f : v.ty.Contents (Elt Ideal)) {F9 : Arr EReal} (hf : IsArr (R := 128) (C := 2048) (β := EReal) (v.read (Elt Ideal) f) F9) :
    IsArr (R := 128) (C := 2048) (β := EReal) (v.read (Elt Ideal) (v.writes (Elt Ideal) f (sl.H9_6 (F := Ideal) c i b2 w2 b3 w3 b4 w4 b5 w5 b6 w6 b7 w7 b8 w8 b12 w12 x0 x1 x2 x3 x4 x5 x6 xo9))) (mixAt A9 F9 (tc0 Q K V Cm Ls Ob Do (i 0).val) (tc1 Q K V Cm Ls Ob Do (i 0).val) (i 0).val 4 4) :=
  step_mix1 A9 _ _ _ _ 4 3 (step_mix0 A9 _ _ _ _ 3 3 (step_mix1 A9 _ _ _ _ 3 2 (B_H9_3_at hx hx9 v f hf) rfl (off2 i) _ (B_H9_4 hx (isArr_touched1 (isArr_load (o := (2 * (i 0).val + 1, 0)) (B_H9_3_at hx hx9 b12.view _ (isArr_ofBlk (by decide) (by decide) _)) (off2 i) _) rfl))) rfl (off5 i) _ (B_H9_5 hx (isArr_fresh0 (isArr_load (o := (2 * (i 0).val, 256)) (hA := by rw [w12.read_unread]; exact hx9) (off5 i) _) rfl))) rfl (off6 i) _ (B_H9_6 hx (isArr_fresh1 (isArr_load (o := (2 * (i 0).val + 1, 256)) (hA := by rw [w12.read_unread]; exact hx9) (off6 i) _) rfl))

theorem B_H9_7_at {A9 : Arr EReal} (hx9 : IsArr xo9 A9) (v : View sig .tc .vmem S128x2048 .f32) (f : v.ty.Contents (Elt Ideal)) {F9 : Arr EReal} (hf : IsArr (R := 128) (C := 2048) (β := EReal) (v.read (Elt Ideal) f) F9) :
    IsArr (R := 128) (C := 2048) (β := EReal) (v.read (Elt Ideal) (v.writes (Elt Ideal) f (sl.H9_7 (F := Ideal) c i b2 w2 b3 w3 b4 w4 b5 w5 b6 w6 b7 w7 b8 w8 b12 w12 x0 x1 x2 x3 x4 x5 x6 xo9))) (mixAt A9 F9 (tc0 Q K V Cm Ls Ob Do (i 0).val) (tc1 Q K V Cm Ls Ob Do (i 0).val) (i 0).val 5 4) :=
  step_mix0 A9 _ _ _ _ 4 4 (B_H9_6_at hx hx9 v f hf) rfl (off3 i) _ (B_H9_7 hx (isArr_touched0 (isArr_load (o := (2 * (i 0).val, 0)) (B_H9_6_at hx hx9 b12.view _ (isArr_ofBlk (by decide) (by decide) _)) (off3 i) _) rfl))

theorem B_H9_10_at {A9 : Arr EReal} (hx9 : IsArr xo9 A9) (v : View sig .tc .vmem S128x2048 .f32) (f : v.ty.Contents (Elt Ideal)) {F9 : Arr EReal} (hf : IsArr (R := 128) (C := 2048) (β := EReal) (v.read (Elt Ideal) f) F9) :
    IsArr (R := 128) (C := 2048) (β := EReal) (v.read (Elt Ideal) (v.writes (Elt Ideal) f (sl.H9_10 (F := Ideal) c i b2 w2 b3 w3 b4 w4 b5 w5 b6 w6 b7 w7 b8 w8 b12 w12 x0 x1 x2 x3 x4 x5 x6 xo9))) (mixAt A9 F9 (tc0 Q K V Cm Ls Ob Do (i 0).val) (tc1 Q K V Cm Ls Ob Do (i 0).val) (i 0).val 6 6) :=
  step_mix1 A9 _ _ _ _ 6 5 (step_mix0 A9 _ _ _ _ 5 5 (step_mix1 A9 _ _ _ _ 5 4 (B_H9_7_at hx hx9 v f hf) rfl (off4 i) _ (B_H9_8 hx (isArr_touched1 (isArr_load (o := (2 * (i 0).val + 1, 0)) (B_H9_7_at hx hx9 b12.view _ (isArr_ofBlk (by decide) (by decide) _)) (off4 i) _) rfl))) rfl (off9 i) _ (B_H9_9 hx (isArr_fresh0 (isArr_load (o := (2 * (i 0).val, 512)) (hA := by rw [w12.read_unread]; exact hx9) (off9 i) _) rfl))) rfl (off10 i) _ (B_H9_10 hx (isArr_fresh1 (isArr_load (o := (2 * (i 0).val + 1, 512)) (hA := by rw [w12.read_unread]; exact hx9) (off10 i) _) rfl))

theorem B_H9_11_at {A9 : Arr EReal} (hx9 : IsArr xo9 A9) (v : View sig .tc .vmem S128x2048 .f32) (f : v.ty.Contents (Elt Ideal)) {F9 : Arr EReal} (hf : IsArr (R := 128) (C := 2048) (β := EReal) (v.read (Elt Ideal) f) F9) :
    IsArr (R := 128) (C := 2048) (β := EReal) (v.read (Elt Ideal) (v.writes (Elt Ideal) f (sl.H9_11 (F := Ideal) c i b2 w2 b3 w3 b4 w4 b5 w5 b6 w6 b7 w7 b8 w8 b12 w12 x0 x1 x2 x3 x4 x5 x6 xo9))) (mixAt A9 F9 (tc0 Q K V Cm Ls Ob Do (i 0).val) (tc1 Q K V Cm Ls Ob Do (i 0).val) (i 0).val 7 6) :=
  step_mix0 A9 _ _ _ _ 6 6 (B_H9_10_at hx hx9 v f hf) rfl (off7 i) _ (B_H9_11 hx (isArr_touched0 (isArr_load (o := (2 * (i 0).val, 0)) (B_H9_10_at hx hx9 b12.view _ (isArr_ofBlk (by decide) (by decide) _)) (off7 i) _) rfl))

theorem B_H9_14_at {A9 : Arr EReal} (hx9 : IsArr xo9 A9) (v : View sig .tc .vmem S128x2048 .f32) (f : v.ty.Contents (Elt Ideal)) {F9 : Arr EReal} (hf : IsArr (R := 128) (C := 2048) (β := EReal) (v.read (Elt Ideal) f) F9) :
    IsArr (R := 128) (C := 2048) (β := EReal) (v.read (Elt Ideal) (v.writes (Elt Ideal) f (sl.H9_14 (F := Ideal) c i b2 w2 b3 w3 b4 w4 b5 w5 b6 w6 b7 w7 b8 w8 b12 w12 x0 x1 x2 x3 x4 x5 x6 xo9))) (mixAt A9 F9 (tc0 Q K V Cm Ls Ob Do (i 0).val) (tc1 Q K V Cm Ls Ob Do (i 0).val) (i 0).val 8 8) :=
  step_mix1 A9 _ _ _ _ 8 7 (step_mix0 A9 _ _ _ _ 7 7 (step_mix1 A9 _ _ _ _ 7 6 (B_H9_11_at hx hx9 v f hf) rfl (off8 i) _ (B_H9_12 hx (isArr_touched1 (isArr_load (o := (2 * (i 0).val + 1, 0)) (B_H9_11_at hx hx9 b12.view _ (isArr_ofBlk (by decide) (by decide) _)) (off8 i) _) rfl))) rfl (off13 i) _ (B_H9_13 hx (isArr_fresh0 (isArr_load (o := (2 * (i 0).val, 768)) (hA := by rw [w12.read_unread]; exact hx9) (off13 i) _) rfl))) rfl (off14 i) _ (B_H9_14 hx (isArr_fresh1 (isArr_load (o := (2 * (i 0).val + 1, 768)) (hA := by rw [w12.read_unread]; exact hx9) (off14 i) _) rfl))

theorem B_H9_15_at {A9 : Arr EReal} (hx9 : IsArr xo9 A9) (v : View sig .tc .vmem S128x2048 .f32) (f : v.ty.Contents (Elt Ideal)) {F9 : Arr EReal} (hf : IsArr (R := 128) (C := 2048) (β := EReal) (v.read (Elt Ideal) f) F9) :
    IsArr (R := 128) (C := 2048) (β := EReal) (v.read (Elt Ideal) (v.writes (Elt Ideal) f (sl.H9_15 (F := Ideal) c i b2 w2 b3 w3 b4 w4 b5 w5 b6 w6 b7 w7 b8 w8 b12 w12 x0 x1 x2 x3 x4 x5 x6 xo9))) (mixAt A9 F9 (tc0 Q K V Cm Ls Ob Do (i 0).val) (tc1 Q K V Cm Ls Ob Do (i 0).val) (i 0).val 9 8) :=
  step_mix0 A9 _ _ _ _ 8 8 (B_H9_14_at hx hx9 v f hf) rfl (off11 i) _ (B_H9_15 hx (isArr_touched0 (isArr_load (o := (2 * (i 0).val, 0)) (B_H9_14_at hx hx9 b12.view _ (isArr_ofBlk (by decide) (by decide) _)) (off11 i) _) rfl))

theorem B_H9_18_at {A9 : Arr EReal} (hx9 : IsArr xo9 A9) (v : View sig .tc .vmem S128x2048 .f32) (f : v.ty.Contents (Elt Ideal)) {F9 : Arr EReal} (hf : IsArr (R := 128) (C := 2048) (β := EReal) (v.read (Elt Ideal) f) F9) :
    IsArr (R := 128) (C := 2048) (β := EReal) (v.read (Elt Ideal) (v.writes (Elt Ideal) f (sl.H9_18 (F := Ideal) c i b2 w2 b3 w3 b4 w4 b5 w5 b6 w6 b7 w7 b8 w8 b12 w12 x0 x1 x2 x3 x4 x5 x6 xo9))) (mixAt A9 F9 (tc0 Q K V Cm Ls Ob Do (i 0).val) (tc1 Q K V Cm Ls Ob Do (i 0).val) (i 0).val 10 10) :=
  step_mix1 A9 _ _ _ _ 10 9 (step_mix0 A9 _ _ _ _ 9 9 (step_mix1 A9 _ _ _ _ 9 8 (B_H9_15_at hx hx9 v f hf) rfl (off12 i) _ (B_H9_16 hx (isArr_touched1 (isArr_load (o := (2 * (i 0).val + 1, 0)) (B_H9_15_at hx hx9 b12.view _ (isArr_ofBlk (by decide) (by decide) _)) (off12 i) _) rfl))) rfl (off17 i) _ (B_H9_17 hx (isArr_fresh0 (isArr_load (o := (2 * (i 0).val, 1024)) (hA := by rw [w12.read_unread]; exact hx9) (off17 i) _) rfl))) rfl (off18 i) _ (B_H9_18 hx (isArr_fresh1 (isArr_load (o := (2 * (i 0).val + 1, 1024)) (hA := by rw [w12.read_unread]; exact hx9) (off18 i) _) rfl))

theorem B_H9_19_at {A9 : Arr EReal} (hx9 : IsArr xo9 A9) (v : View sig .tc .vmem S128x2048 .f32) (f : v.ty.Contents (Elt Ideal)) {F9 : Arr EReal} (hf : IsArr (R := 128) (C := 2048) (β := EReal) (v.read (Elt Ideal) f) F9) :
    IsArr (R := 128) (C := 2048) (β := EReal) (v.read (Elt Ideal) (v.writes (Elt Ideal) f (sl.H9_19 (F := Ideal) c i b2 w2 b3 w3 b4 w4 b5 w5 b6 w6 b7 w7 b8 w8 b12 w12 x0 x1 x2 x3 x4 x5 x6 xo9))) (mixAt A9 F9 (tc0 Q K V Cm Ls Ob Do (i 0).val) (tc1 Q K V Cm Ls Ob Do (i 0).val) (i 0).val 11 10) :=
  step_mix0 A9 _ _ _ _ 10 10 (B_H9_18_at hx hx9 v f hf) rfl (off15 i) _ (B_H9_19 hx (isArr_touched0 (isArr_load (o := (2 * (i 0).val, 0)) (B_H9_18_at hx hx9 b12.view _ (isArr_ofBlk (by decide) (by decide) _)) (off15 i) _) rfl))

theorem B_H9_22_at {A9 : Arr EReal} (hx9 : IsArr xo9 A9) (v : View sig .tc .vmem S128x2048 .f32) (f : v.ty.Contents (Elt Ideal)) {F9 : Arr EReal} (hf : IsArr (R := 128) (C := 2048) (β := EReal) (v.read (Elt Ideal) f) F9) :
    IsArr (R := 128) (C := 2048) (β := EReal) (v.read (Elt Ideal) (v.writes (Elt Ideal) f (sl.H9_22 (F := Ideal) c i b2 w2 b3 w3 b4 w4 b5 w5 b6 w6 b7 w7 b8 w8 b12 w12 x0 x1 x2 x3 x4 x5 x6 xo9))) (mixAt A9 F9 (tc0 Q K V Cm Ls Ob Do (i 0).val) (tc1 Q K V Cm Ls Ob Do (i 0).val) (i 0).val 12 12) :=
  step_mix1 A9 _ _ _ _ 12 11 (step_mix0 A9 _ _ _ _ 11 11 (step_mix1 A9 _ _ _ _ 11 10 (B_H9_19_at hx hx9 v f hf) rfl (off16 i) _ (B_H9_20 hx (isArr_touched1 (isArr_load (o := (2 * (i 0).val + 1, 0)) (B_H9_19_at hx hx9 b12.view _ (isArr_ofBlk (by decide) (by decide) _)) (off16 i) _) rfl))) rfl (off21 i) _ (B_H9_21 hx (isArr_fresh0 (isArr_load (o := (2 * (i 0).val, 1280)) (hA := by rw [w12.read_unread]; exact hx9) (off21 i) _) rfl))) rfl (off22 i) _ (B_H9_22 hx (isArr_fresh1 (isArr_load (o := (2 * (i 0).val + 1, 1280)) (hA := by rw [w12.read_unread]; exact hx9) (off22 i) _) rfl))

theorem B_H9_23_at {A9 : Arr EReal} (hx9 : IsArr xo9 A9) (v : View sig .tc .vmem S128x2048 .f32) (f : v.ty.Contents (Elt Ideal)) {F9 : Arr EReal} (hf : IsArr (R := 128) (C := 2048) (β := EReal) (v.read (Elt Ideal) f) F9) :
    IsArr (R := 128) (C := 2048) (β := EReal) (v.read (Elt Ideal) (v.writes (Elt Ideal) f (sl.H9_23 (F := Ideal) c i b2 w2 b3 w3 b4 w4 b5 w5 b6 w6 b7 w7 b8 w8 b12 w12 x0 x1 x2 x3 x4 x5 x6 xo9))) (mixAt A9 F9 (tc0 Q K V Cm Ls Ob Do (i 0).val) (tc1 Q K V Cm Ls Ob Do (i 0).val) (i 0).val 13 12) :=
  step_mix0 A9 _ _ _ _ 12 12 (B_H9_22_at hx hx9 v f hf) rfl (off19 i) _ (B_H9_23 hx (isArr_touched0 (isArr_load (o := (2 * (i 0).val, 0)) (B_H9_22_at hx hx9 b12.view _ (isArr_ofBlk (by decide) (by decide) _)) (off19 i) _) rfl))

theorem B_H9_26_at {A9 : Arr EReal} (hx9 : IsArr xo9 A9) (v : View sig .tc .vmem S128x2048 .f32) (f : v.ty.Contents (Elt Ideal)) {F9 : Arr EReal} (hf : IsArr (R := 128) (C := 2048) (β := EReal) (v.read (Elt Ideal) f) F9) :
    IsArr (R := 128) (C := 2048) (β := EReal) (v.read (Elt Ideal) (v.writes (Elt Ideal) f (sl.H9_26 (F := Ideal) c i b2 w2 b3 w3 b4 w4 b5 w5 b6 w6 b7 w7 b8 w8 b12 w12 x0 x1 x2 x3 x4 x5 x6 xo9))) (mixAt A9 F9 (tc0 Q K V Cm Ls Ob Do (i 0).val) (tc1 Q K V Cm Ls Ob Do (i 0).val) (i 0).val 14 14) :=
  step_mix1 A9 _ _ _ _ 14 13 (step_mix0 A9 _ _ _ _ 13 13 (step_mix1 A9 _ _ _ _ 13 12 (B_H9_23_at hx hx9 v f hf) rfl (off20 i) _ (B_H9_24 hx (isArr_touched1 (isArr_load (o := (2 * (i 0).val + 1, 0)) (B_H9_23_at hx hx9 b12.view _ (isArr_ofBlk (by decide) (by decide) _)) (off20 i) _) rfl))) rfl (off25 i) _ (B_H9_25 hx (isArr_fresh0 (isArr_load (o := (2 * (i 0).val, 1536)) (hA := by rw [w12.read_unread]; exact hx9) (off25 i) _) rfl))) rfl (off26 i) _ (B_H9_26 hx (isArr_fresh1 (isArr_load (o := (2 * (i 0).val + 1, 1536)) (hA := by rw [w12.read_unread]; exact hx9) (off26 i) _) rfl))

theorem B_H9_27_at {A9 : Arr EReal} (hx9 : IsArr xo9 A9) (v : View sig .tc .vmem S128x2048 .f32) (f : v.ty.Contents (Elt Ideal)) {F9 : Arr EReal} (hf : IsArr (R := 128) (C := 2048) (β := EReal) (v.read (Elt Ideal) f) F9) :
    IsArr (R := 128) (C := 2048) (β := EReal) (v.read (Elt Ideal) (v.writes (Elt Ideal) f (sl.H9_27 (F := Ideal) c i b2 w2 b3 w3 b4 w4 b5 w5 b6 w6 b7 w7 b8 w8 b12 w12 x0 x1 x2 x3 x4 x5 x6 xo9))) (mixAt A9 F9 (tc0 Q K V Cm Ls Ob Do (i 0).val) (tc1 Q K V Cm Ls Ob Do (i 0).val) (i 0).val 15 14) :=
  step_mix0 A9 _ _ _ _ 14 14 (B_H9_26_at hx hx9 v f hf) rfl (off23 i) _ (B_H9_27 hx (isArr_touched0 (isArr_load (o := (2 * (i 0).val, 0)) (B_H9_26_at hx hx9 b12.view _ (isArr_ofBlk (by decide) (by decide) _)) (off23 i) _) rfl))

theorem B_H9_at_final {b10 : Memref sig .tc .vmem S2048x384 .bf16} {w10 : b10.IsWhole} {w11 : b11.IsWhole} {w13 : b13.IsWhole} {w14 : b14.IsWhole} {hc0 : ¬ cond0_0 i} {xo8 : VecB} {A9 : Arr EReal} (hx9 : IsArr xo9 A9) (v : View sig .tc .vmem S128x2048 .f32) (f : v.ty.Contents (Elt Ideal)) {F9 : Arr EReal} (hf : IsArr (R := 128) (C := 2048) (β := EReal) (v.read (Elt Ideal) f) F9) :
    IsArr (R := 128) (C := 2048) (β := EReal) (v.read (Elt Ideal) (v.writes (Elt Ideal) f (kernelRun0_B c i b2 w2 b3 w3 b4 w4 b5 w5 b6 w6 b7 w7 b8 w8 b10 w10 b11 w11 b12 w12 b13 w13 b14 w14 hc0 x0 x1 x2 x3 x4 x5 x6 xo8 xo9).2.2.1)) (mixAt A9 F9 (tc0 Q K V Cm Ls Ob Do (i 0).val) (tc1 Q K V Cm Ls Ob Do (i 0).val) (i 0).val 16 16) :=
  step_mix1 A9 _ _ _ _ 16 15 (step_mix0 A9 _ _ _ _ 15 15 (step_mix1 A9 _ _ _ _ 15 14 (B_H9_27_at hx hx9 v f hf) rfl (off24 i) _ (B_H9_28 hx (isArr_touched1 (isArr_load (o := (2 * (i 0).val + 1, 0)) (B_H9_27_at hx hx9 b12.view _ (isArr_ofBlk (by decide) (by decide) _)) (off24 i) _) rfl))) rfl (off29 i) _ (B_H9_29 hx (isArr_fresh0 (isArr_load (o := (2 * (i 0).val, 1792)) (hA := by rw [w12.read_unread]; exact hx9) (off29 i) _) rfl))) rfl (off30 i) _ (B_H9_30 hx (isArr_fresh1 (isArr_load (o := (2 * (i 0).val + 1, 1792)) (hA := by rw [w12.read_unread]; exact hx9) (off30 i) _) rfl))

theorem B_H8_at_final {b10 : Memref sig .tc .vmem S2048x384 .bf16} {w10 : b10.IsWhole} {w11 : b11.IsWhole} {w12 : b12.IsWhole} {w13 : b13.IsWhole} {w14 : b14.IsWhole} {hc0 : ¬ cond0_0 i} {A8 J8 : Arr EReal} (hx8 : IsArr xo8 A8) (v : View sig .tc .vmem S2048x128 .f32) (f : v.ty.Contents (Elt Ideal))
    (hf : IsArr (R := 2048) (C := 128) (β := EReal) (v.read (Elt Ideal) f) J8) :
    IsArr (R := 2048) (C := 128) (β := EReal) (v.read (Elt Ideal) (v.writes (Elt Ideal) f (kernelRun0_B c i b2 w2 b3 w3 b4 w4 b5 w5 b6 w6 b7 w7 b8 w8 b10 w10 b11 w11 b12 w12 b13 w13 b14 w14 hc0 x0 x1 x2 x3 x4 x5 x6 xo8 xo9).2.1)) (qAt A8 J8 (tlanes Q K V Cm Ls Ob Do (i 0).val) 8) :=
  step_q _ _ _ 7 (step_q _ _ _ 6 (step_q _ _ _ 5 (step_q _ _ _ 4 (step_q _ _ _ 3 (step_q _ _ _ 2 (step_q _ _ _ 1 (step_q _ _ _ 0 ((by rw [qAt_start]; exact hf)) rfl _ (B_H8_1 hx (isArr_load (o := (0, 0)) (hA := by rw [w11.read_unread]; exact hx8) rfl _))) rfl _ (B_H8_2 hx (isArr_load (o := (256, 0)) (hA := by rw [w11.read_unread]; exact hx8) rfl _))) rfl _ (B_H8_3 hx (isArr_load (o := (512, 0)) (hA := by rw [w11.read_unread]; exact hx8) rfl _))) rfl _ (B_H8_4 hx (isArr_load (o := (768, 0)) (hA := by rw [w11.read_unread]; exact hx8) rfl _))) rfl _ (B_H8_5 hx (isArr_load (o := (1024, 0)) (hA := by rw [w11.read_unread]; exact hx8) rfl _))) rfl _ (B_H8_6 hx (isArr_load (o := (1280, 0)) (hA := by rw [w11.read_unread]; exact hx8) rfl _))) rfl _ (B_H8_7 hx (isArr_load (o := (1536, 0)) (hA := by rw [w11.read_unread]; exact hx8) rfl _))) rfl _ (B_H8_8 hx (isArr_load (o := (1792, 0)) (hA := by rw [w11.read_unread]; exact hx8) rfl _))

theorem B_L7_at_final {b10 : Memref sig .tc .vmem S2048x384 .bf16} {w10 : b10.IsWhole} {w11 : b11.IsWhole} {w12 : b12.IsWhole} {w13 : b13.IsWhole} {w14 : b14.IsWhole} {hc0 : ¬ cond0_0 i} {J7 : Arr EReal} (v : View sig .tc .vmem S2048x384 .bf16) (f : v.ty.Contents (Elt Ideal))
    (hf : IsArr (R := 2048) (C := 384) (β := EReal) (v.read (Elt Ideal) f) J7) :
    IsArr (R := 2048) (C := 384) (β := EReal) (v.read (Elt Ideal) (v.writes (Elt Ideal) f (kernelRun0_B c i b2 w2 b3 w3 b4 w4 b5 w5 b6 w6 b7 w7 b8 w8 b10 w10 b11 w11 b12 w12 b13 w13 b14 w14 hc0 x0 x1 x2 x3 x4 x5 x6 xo8 xo9).1)) (packed Q K V Cm Ls Ob Do (i 0).val) :=
  step_tail J7 (step_pack _ _ 7 (step_pack _ _ 6 (step_pack _ _ 5 (step_pack _ _ 4 (step_pack _ _ 3 (step_pack _ _ 2 (step_pack _ _ 1 (step_pack _ _ 0 ((by rw [packAt_start]; exact hf)) rfl _ (B_L7_0 hx)) rfl _ (B_L7_1 hx)) rfl _ (B_L7_2 hx)) rfl _ (B_L7_3 hx)) rfl _ (B_L7_4 hx)) rfl _ (B_L7_5 hx)) rfl _ (B_L7_6 hx)) rfl _ (B_L7_7 hx)) _ _
    (((isArr_load (o := (0, 0)) (B_HS0_at_16 hx b13.view _) rfl _).congr fun a b _ _ => by show rowsAt _ 16 (0 + a, 0 + b) = _; rw [Nat.zero_add, Nat.zero_add]))
    (((isArr_load (o := (0, 0)) (B_HS1_at_16 hx b14.view _) rfl _).congr fun a b _ _ => by show rowsAt _ 16 (0 + a, 0 + b) = _; rw [Nat.zero_add, Nat.zero_add]))

end Cert.Fox

end
-- ==== Proof.FoxGrid.lean ====
/- The blocks that each grid point reads and what it leaves in the output buffers, in real numbers. -/
module

public import proofs.«01_k».proof.Proof.FoxReal
public import proofs.«01_k».proof.Proof.FoxValue
public import proofs.«01_k».proof.Proof.FoxChainA
public import proofs.«01_k».proof.Proof.FoxChainB
public import Idealize.ShloMosaic.Lib.Updates.Window

@[expose] public section

noncomputable section

namespace Cert.Fox

open Cert.KernelIdeal Cert.KernelIdeal.Gen Idealize.ShloMosaic Idealize.ShloMosaic.TcCoe Idealize.SL.Sem Idealize.ShloMosaic.Updates
open Idealize.ShloMosaic.LaneScatter (Blk)

section
variable {c : Dev nD} {i : grid0.Coords} {b2 : MemB} {w2 : b2.IsWhole} {b11 b13 b14 : MemB} {w11 : b11.IsWhole} {b12 : MemT} {w12 : b12.IsWhole} {xo8 : VecB} {xo9 : Vec Ideal S128x2048 .f32} {b3 : MemB} {w3 : b3.IsWhole} {b4 : MemB} {w4 : b4.IsWhole}
  {b5 : MemT} {w5 : b5.IsWhole} {b6 : MemB} {w6 : b6.IsWhole} {b7 : MemB} {w7 : b7.IsWhole} {b8 : MemB} {w8 : b8.IsWhole}
  {x0 x1 x2 : VecB} {x3 : Vec Ideal S128x2048 .f32} {x4 x5 x6 : VecB} {Q K V Cm Ls Ob Do : Arr EReal}

theorem A_out7 {b10 : Memref sig .tc .vmem S2048x384 .bf16} {w10 : b10.IsWhole} {w11 : b11.IsWhole} {w12 : b12.IsWhole} {w13 : b13.IsWhole} {w14 : b14.IsWhole} {hc0 : cond0_0 i} (hx : Ins x0 x1 x2 x3 x4 x5 x6 Q K V Cm Ls Ob Do) {j : ℕ} (hj : (i 0).val = j) :
    IsArr (R := 2048) (C := 384) (β := EReal) (out0_A_7 c i b2 w2 b3 w3 b4 w4 b5 w5 b6 w6 b7 w7 b8 w8 b10 w10 b11 w11 b12 w12 b13 w13 b14 w14 hc0 x0 x1 x2 x3 x4 x5 x6) (packed Q K V Cm Ls Ob Do j) := by
  subst hj
  exact A_L7_at_final hx VO0_7 VO0_7.junk (isArr_ofBlk (by decide) (by decide) _)

theorem A_out8 {b10 : Memref sig .tc .vmem S2048x384 .bf16} {w10 : b10.IsWhole} {w11 : b11.IsWhole} {w12 : b12.IsWhole} {w13 : b13.IsWhole} {w14 : b14.IsWhole} {hc0 : cond0_0 i} (hx : Ins x0 x1 x2 x3 x4 x5 x6 Q K V Cm Ls Ob Do) {j : ℕ} (hj : (i 0).val = j) :
    IsArr (R := 2048) (C := 128) (β := EReal) (out0_A_8 c i b2 w2 b3 w3 b4 w4 b5 w5 b6 w6 b7 w7 b8 w8 b10 w10 b11 w11 b12 w12 b13 w13 b14 w14 hc0 x0 x1 x2 x3 x4 x5 x6) (qAt (fun _ => 0) (fun _ => 0) (tlanes Q K V Cm Ls Ob Do j) 8) := by
  subst hj
  exact A_H8_at_9 hx VO0_8 VO0_8.junk

theorem A_out9 {b10 : Memref sig .tc .vmem S2048x384 .bf16} {w10 : b10.IsWhole} {w11 : b11.IsWhole} {w12 : b12.IsWhole} {w13 : b13.IsWhole} {w14 : b14.IsWhole} {hc0 : cond0_0 i} (hx : Ins x0 x1 x2 x3 x4 x5 x6 Q K V Cm Ls Ob Do) {j : ℕ} (hj : (i 0).val = j) :
    IsArr (R := 128) (C := 2048) (β := EReal) (out0_A_9 c i b2 w2 b3 w3 b4 w4 b5 w5 b6 w6 b7 w7 b8 w8 b10 w10 b11 w11 b12 w12 b13 w13 b14 w14 hc0 x0 x1 x2 x3 x4 x5 x6) (colsAt (fun _ => 0) (tc0 Q K V Cm Ls Ob Do j) (tc1 Q K V Cm Ls Ob Do j) j 16 16) := by
  subst hj
  exact A_H9_at_final hx VO0_9 VO0_9.junk

theorem B_out7 {b10 : Memref sig .tc .vmem S2048x384 .bf16} {w10 : b10.IsWhole} {w11 : b11.IsWhole} {w12 : b12.IsWhole} {w13 : b13.IsWhole} {w14 : b14.IsWhole} {hc0 : ¬ cond0_0 i} (hx : Ins x0 x1 x2 x3 x4 x5 x6 Q K V Cm Ls Ob Do) {j : ℕ} (hj : (i 0).val = j) :
    IsArr (R := 2048) (C := 384) (β := EReal) (out0_B_7 c i b2 w2 b3 w3 b4 w4 b5 w5 b6 w6 b7 w7 b8 w8 b10 w10 b11 w11 b12 w12 b13 w13 b14 w14 hc0 x0 x1 x2 x3 x4 x5 x6 xo8 xo9) (packed Q K V Cm Ls Ob Do j) := by
  subst hj
  exact B_L7_at_final hx VO0_7 VO0_7.junk (isArr_ofBlk (by decide) (by decide) _)

theorem B_out8 {b10 : Memref sig .tc .vmem S2048x384 .bf16} {w10 : b10.IsWhole} {w11 : b11.IsWhole} {w12 : b12.IsWhole} {w13 : b13.IsWhole} {w14 : b14.IsWhole} {hc0 : ¬ cond0_0 i} (hx : Ins x0 x1 x2 x3 x4 x5 x6 Q K V Cm Ls Ob Do) {A8 : Arr EReal} (hx8 : IsArr xo8 A8) {j : ℕ} (hj : (i 0).val = j) :
    IsArr (R := 2048) (C := 128) (β := EReal) (out0_B_8 c i b2 w2 b3 w3 b4 w4 b5 w5 b6 w6 b7 w7 b8 w8 b10 w10 b11 w11 b12 w12 b13 w13 b14 w14 hc0 x0 x1 x2 x3 x4 x5 x6 xo8 xo9) (qAt A8 (ofBlk (by decide) (by decide) (VO0_8.read (Elt Ideal) VO0_8.junk)) (tlanes Q K V Cm Ls Ob Do j) 8) := by
  subst hj
  exact B_H8_at_final hx hx8 VO0_8 VO0_8.junk (isArr_ofBlk (by decide) (by decide) _)

theorem B_out9 {b10 : Memref sig .tc .vmem S2048x384 .bf16} {w10 : b10.IsWhole} {w11 : b11.IsWhole} {w12 : b12.IsWhole} {w13 : b13.IsWhole} {w14 : b14.IsWhole} {hc0 : ¬ cond0_0 i} (hx : Ins x0 x1 x2 x3 x4 x5 x6 Q K V Cm Ls Ob Do) {A9 : Arr EReal} (hx9 : IsArr xo9 A9) {j : ℕ} (hj : (i 0).val = j) :
    IsArr (R := 128) (C := 2048) (β := EReal) (out0_B_9 c i b2 w2 b3 w3 b4 w4 b5 w5 b6 w6 b7 w7 b8 w8 b10 w10 b11 w11 b12 w12 b13 w13 b14 w14 hc0 x0 x1 x2 x3 x4 x5 x6 xo8 xo9) (colsAt A9 (tc0 Q K V Cm Ls Ob Do j) (tc1 Q K V Cm Ls Ob Do j) j 16 16) := by
  subst hj
  rw [← mixAt_same]
  exact B_H9_at_final hx hx9 b12.view (w12.unread xo9) (by rw [w12.read_unread]; exact hx9)

end

variable (m : (ℓ : Loc nD τ sig) → Buf (Elt Ideal) ℓ) (c : Dev nD)

theorem coord : ∀ t : Fin cfg0.N, (grid0.coords t 0).val = t.val := (by decide +kernel : ∀ t : Fin grid0.N, _)

/-- The query bias gradients of the first `2 N` heads, in their lanes. -/
def lanesTo (f : ℕ → ℕ → ℝ) (N : ℕ) : Arr EReal := fun p => sel (p.2 < 2 * N) ((f p.2 p.1 : ℝ) : EReal) 0

/-- The key bias gradients of the first `2 N` heads, in their rows. -/
def rowsTo (f : ℕ → ℕ → ℝ) (N : ℕ) : Arr EReal := fun p => sel (p.1 < 2 * N) ((f p.1 p.2 : ℝ) : EReal) 0

theorem lanesTo_zero (f : ℕ → ℕ → ℝ) : lanesTo f 0 = fun _ => 0 := funext fun p => sel_neg (show ¬ p.2 < 2 * 0 by omega) _ _

theorem rowsTo_zero (f : ℕ → ℕ → ℝ) : rowsTo f 0 = fun _ => 0 := funext fun p => sel_neg (show ¬ p.1 < 2 * 0 by omega) _ _

theorem lanesTo_succ (f : ℕ → ℕ → ℝ) (N : ℕ) (p : ℕ × ℕ) :
    lanesTo f N p + sel (p.2 = 2 * N) ((f (2 * N) p.1 : ℝ) : EReal) (sel (p.2 = 2 * N + 1) ((f (2 * N + 1) p.1 : ℝ) : EReal) 0) = lanesTo f (N + 1) p := by
  unfold lanesTo
  by_cases h0 : p.2 < 2 * N
  · rw [sel_pos h0, sel_neg (by omega), sel_neg (by omega), sel_pos (show p.2 < 2 * (N + 1) by omega), add_zero]
  · rw [sel_neg h0, zero_add]
    by_cases h1 : p.2 = 2 * N
    · rw [sel_pos h1, sel_pos (show p.2 < 2 * (N + 1) by omega), h1]
    · rw [sel_neg h1]
      by_cases h2 : p.2 = 2 * N + 1
      · rw [sel_pos h2, sel_pos (show p.2 < 2 * (N + 1) by omega), h2]
      · rw [sel_neg h2, sel_neg (show ¬ p.2 < 2 * (N + 1) by omega)]

theorem rowsTo_succ (f : ℕ → ℕ → ℝ) (N : ℕ) (p : ℕ × ℕ) (T0 T1 : ℕ → ℕ → EReal) (h0 : hacc (fun n => T0 n p.2) p.2 16 = ((f (2 * N) p.2 : ℝ) : EReal))
    (h1 : hacc (fun n => T1 n p.2) p.2 16 = ((f (2 * N + 1) p.2 : ℝ) : EReal)) : colsAt (rowsTo f N) T0 T1 N 16 16 p = rowsTo f (N + 1) p := by
  unfold colsAt
  rw [h0, h1]
  unfold rowsTo
  by_cases h : p.1 < 2 * N
  · rw [sel_neg (show ¬ p.1 = 2 * N by omega), sel_neg (show ¬ p.1 = 2 * N + 1 by omega), sel_pos h, sel_pos (show p.1 < 2 * (N + 1) by omega)]
  · rw [sel_neg h, zero_add, zero_add]
    by_cases h1 : p.1 = 2 * N
    · rw [sel_pos h1, sel_pos (show p.1 < 2 * (N + 1) by omega), h1]
    · rw [sel_neg h1]
      by_cases h2 : p.1 = 2 * N + 1
      · rw [sel_pos h2, sel_pos (show p.1 < 2 * (N + 1) by omega), h2]
      · rw [sel_neg h2, sel_neg (show ¬ p.1 < 2 * (N + 1) by omega)]

/-- What the run finds: each grid point's blocks hold the reals of its pair of heads. -/
structure Inputs (Q K V' Cm Ls Ob Do : ℕ → Arr EReal) (q k v g : ℕ → ℕ → ℕ → ℝ) (b : ℕ → ℕ → ℝ) : Prop where
  h0 : ∀ t : Fin cfg0.N, IsArr (R := 2048) (C := 128) (β := EReal) (iblk m c 0 t) (Q t.val)
  h1 : ∀ t : Fin cfg0.N, IsArr (R := 2048) (C := 128) (β := EReal) (iblk m c 1 t) (K t.val)
  h2 : ∀ t : Fin cfg0.N, IsArr (R := 2048) (C := 128) (β := EReal) (iblk m c 2 t) (V' t.val)
  h3 : ∀ t : Fin cfg0.N, IsArr (R := 128) (C := 2048) (β := EReal) (iblk m c 3 t) (Cm t.val)
  h4 : ∀ t : Fin cfg0.N, IsArr (R := 2048) (C := 128) (β := EReal) (iblk m c 4 t) (Ls t.val)
  h5 : ∀ t : Fin cfg0.N, IsArr (R := 2048) (C := 128) (β := EReal) (iblk m c 5 t) (Ob t.val)
  h6 : ∀ t : Fin cfg0.N, IsArr (R := 2048) (C := 128) (β := EReal) (iblk m c 6 t) (Do t.val)
  pair : ∀ j, j < 4 → PairOf (Q j) (K j) (V' j) (Cm j) (Ls j) (Ob j) (Do j) j (fun x => q (2 * j + x)) (fun x => k (2 * j + x)) (fun x => v (2 * j + x))
    (fun x => g (2 * j + x)) (fun x => b (2 * j + x))

namespace Inputs

variable {m c}
variable {Q K V' Cm Ls Ob Do : ℕ → Arr EReal} {q k v g : ℕ → ℕ → ℕ → ℝ} {b : ℕ → ℕ → ℝ} (H : Inputs m c Q K V' Cm Ls Ob Do q k v g b)
include H

theorem ins (t : Fin cfg0.N) : Ins (iblk m c 0 t) (iblk m c 1 t) (iblk m c 2 t) (iblk m c 3 t) (iblk m c 4 t) (iblk m c 5 t) (iblk m c 6 t)
    (Q t.val) (K t.val) (V' t.val) (Cm t.val) (Ls t.val) (Ob t.val) (Do t.val) := ⟨H.h0 t, H.h1 t, H.h2 t, H.h3 t, H.h4 t, H.h5 t, H.h6 t⟩

/-- What a grid point leaves in the packed output's buffer. -/
theorem out7 (t : Fin cfg0.N) : IsArr (R := 2048) (C := 384) (β := EReal) (outsAt0 m c t.val t.isLt).1
    (packed (Q t.val) (K t.val) (V' t.val) (Cm t.val) (Ls t.val) (Ob t.val) (Do t.val) t.val) := by
  by_cases h0 : t.val % 4 = 0
  · rw [outsAt0_A m c t h0]
    dsimp only
    exact A_out7 (H.ins t) (coord t)
  · rw [outsAt0_B m c t h0]
    dsimp only
    exact B_out7 (H.ins t) (coord t)

/-- What the grid points have left in the query bias gradients' buffer. -/
theorem out8 : ∀ n (hn : n < cfg0.N), IsArr (R := 2048) (C := 128) (β := EReal) (outsAt0 m c n hn).2.1 (lanesTo (fun x => rcq (q x) (k x) (v x) (g x) (b x)) (n + 1)) := by
  have hl : ∀ (t : Fin cfg0.N) x y, x < 2048 → lanesTo (fun x => rcq (q x) (k x) (v x) (g x) (b x)) t.val (x, y)
      + tlanes (Q t.val) (K t.val) (V' t.val) (Cm t.val) (Ls t.val) (Ob t.val) (Do t.val) t.val (x / 256) (x % 256, y)
      = lanesTo (fun x => rcq (q x) (k x) (v x) (g x) (b x)) (t.val + 1) (x, y) := fun t x y hx => by
    rw [← lanesTo_succ]
    congr 1
    exact (H.pair t.val (show t.val < 4 from t.isLt)).lanes_eq hx
  intro n
  induction n with
  | zero =>
    intro hn
    have h' : IsArr (R := 2048) (C := 128) (β := EReal) (outsAt0 m c 0 hn).2.1 (qAt (fun _ => 0) (fun _ => 0) (tlanes (Q 0) (K 0) (V' 0) (Cm 0) (Ls 0) (Ob 0) (Do 0) 0) 8) := by
      rw [show outsAt0 m c 0 hn = _ from outsAt0_A m c ⟨0, hn⟩ rfl]
      dsimp only
      exact A_out8 (H.ins ⟨0, hn⟩) (coord ⟨0, hn⟩)
    refine h'.congr fun x y hx hy => ?_
    rw [← hl ⟨0, hn⟩ x y hx, lanesTo_zero]
    unfold qAt
    exact sel_pos (show x < 256 * 8 from hx) _ _
  | succ n ih =>
    intro hn
    have h0 : ¬ (n + 1) % 4 = 0 := by
      have : n + 1 < 4 := hn
      omega
    have h' : IsArr (R := 2048) (C := 128) (β := EReal) (outsAt0 m c (n + 1) hn).2.1 (qAt (lanesTo (fun x => rcq (q x) (k x) (v x) (g x) (b x)) (n + 1)) (ofBlk (by decide) (by decide) (VO0_8.read (Elt Ideal) VO0_8.junk)) (tlanes (Q (n + 1)) (K (n + 1)) (V' (n + 1)) (Cm (n + 1)) (Ls (n + 1)) (Ob (n + 1)) (Do (n + 1)) (n + 1)) 8) := by
      rw [show outsAt0 m c (n + 1) hn = _ from outsAt0_B m c ⟨n + 1, hn⟩ h0]
      dsimp only
      exact B_out8 (H.ins ⟨n + 1, hn⟩) (ih (Nat.lt_of_succ_lt hn)) (coord ⟨n + 1, hn⟩)
    refine h'.congr fun x y hx hy => ?_
    rw [← hl ⟨n + 1, hn⟩ x y hx]
    unfold qAt
    exact sel_pos (show x < 256 * 8 from hx) _ _

/-- What the grid points have left in the key bias gradients' buffer. -/
theorem out9 : ∀ n (hn : n < cfg0.N), IsArr (R := 128) (C := 2048) (β := EReal) (outsAt0 m c n hn).2.2 (rowsTo (fun x => rck (q x) (k x) (v x) (g x) (b x)) (n + 1)) := by
  have hl : ∀ (t : Fin cfg0.N) x y, y < 2048 → colsAt (rowsTo (fun x => rck (q x) (k x) (v x) (g x) (b x)) t.val)
      (tc0 (Q t.val) (K t.val) (V' t.val) (Cm t.val) (Ls t.val) (Ob t.val) (Do t.val) t.val) (tc1 (Q t.val) (K t.val) (V' t.val) (Cm t.val) (Ls t.val) (Ob t.val) (Do t.val) t.val) t.val 16 16 (x, y)
      = rowsTo (fun x => rck (q x) (k x) (v x) (g x) (b x)) (t.val + 1) (x, y) := fun t x y hy =>
    rowsTo_succ _ _ _ _ _ ((H.pair t.val (show t.val < 4 from t.isLt)).tc0_eq hy) ((H.pair t.val (show t.val < 4 from t.isLt)).tc1_eq hy)
  intro n
  induction n with
  | zero =>
    intro hn
    have h' : IsArr (R := 128) (C := 2048) (β := EReal) (outsAt0 m c 0 hn).2.2 (colsAt (fun _ => 0) (tc0 (Q 0) (K 0) (V' 0) (Cm 0) (Ls 0) (Ob 0) (Do 0) 0) (tc1 (Q 0) (K 0) (V' 0) (Cm 0) (Ls 0) (Ob 0) (Do 0) 0) 0 16 16) := by
      rw [show outsAt0 m c 0 hn = _ from outsAt0_A m c ⟨0, hn⟩ rfl]
      dsimp only
      exact A_out9 (H.ins ⟨0, hn⟩) (coord ⟨0, hn⟩)
    refine h'.congr fun x y hx hy => ?_
    rw [← hl ⟨0, hn⟩ x y hy, rowsTo_zero]
  | succ n ih =>
    intro hn
    have h0 : ¬ (n + 1) % 4 = 0 := by
      have : n + 1 < 4 := hn
      omega
    have h' : IsArr (R := 128) (C := 2048) (β := EReal) (outsAt0 m c (n + 1) hn).2.2 (colsAt (rowsTo (fun x => rck (q x) (k x) (v x) (g x) (b x)) (n + 1)) (tc0 (Q (n + 1)) (K (n + 1)) (V' (n + 1)) (Cm (n + 1)) (Ls (n + 1)) (Ob (n + 1)) (Do (n + 1)) (n + 1)) (tc1 (Q (n + 1)) (K (n + 1)) (V' (n + 1)) (Cm (n + 1)) (Ls (n + 1)) (Ob (n + 1)) (Do (n + 1)) (n + 1)) (n + 1) 16 16) := by
      rw [show outsAt0 m c (n + 1) hn = _ from outsAt0_B m c ⟨n + 1, hn⟩ h0]
      dsimp only
      exact B_out9 (H.ins ⟨n + 1, hn⟩) (ih (Nat.lt_of_succ_lt hn)) (coord ⟨n + 1, hn⟩)
    refine h'.congr fun x y hx hy => ?_
    rw [← hl ⟨n + 1, hn⟩ x y hy]

end Inputs

end Cert.Fox

end
-- ==== Proof.FoxBlock.lean ====
/- The blocks that each grid point reads, cut from the arrays of its windows. -/
module

public import proofs.«01_k».proof.Proof.FoxArr
public import proofs.«01_k».proof.Proof.FoxValue
public import Idealize.ShloMosaic.Lib.Updates.Window
public import Idealize.ShloMosaic.Lib.Pipeline.Value

@[expose] public section

noncomputable section

namespace Cert.Fox

open Cert.KernelIdeal Cert.KernelIdeal.Gen Idealize.ShloMosaic Idealize.ShloMosaic.TcCoe Idealize.SL.Sem Idealize.ShloMosaic.Updates
open Idealize.ShloMosaic.LaneScatter (Blk)

variable {c : Dev nD}

theorem idz0 : ∀ t : Fin cfg0.N, win0_0.index t 0 = 0 := (by decide +kernel : ∀ t : Fin grid0.N, _)

theorem idx0 : ∀ t : Fin cfg0.N, win0_0.index t 1 = 3 * t.val := (by decide +kernel : ∀ t : Fin grid0.N, _)

/-- The block of input window 0 at grid point `t`. -/
theorem blk0 (t : Fin cfg0.N) {X : Buf (Elt Ideal) ((c : Thread nD τ).loc (Pipeline.arrRef spec0 0))} {A : Arr EReal} (hA : IsArr (R := 2048) (C := 3712) (β := EReal) X A) :
    IsArr (R := 2048) (C := 128) (β := EReal) (((cfg0.win 0).blk t).view.read (Elt Ideal) X) (loadAt (0, 384 * t.val) A) := by
  refine isArr_window hA _ (((cfg0.win 0).blk t).view.emb) (0, 384 * t.val) (fun j => rfl) (fun j => ?_) (fun j => ?_)
  · exact (win0_0.rect_emb_val_of_index_zero t 0 (idz0 t) j).trans (Nat.zero_add _).symm
  · refine (win0_0.rect_emb_val t j 1).trans ?_
    rw [idx0]
    show 3 * t.val * 128 + (j 1).val = 384 * t.val + (j 1).val
    omega

theorem idz1 : ∀ t : Fin cfg0.N, win0_1.index t 0 = 0 := (by decide +kernel : ∀ t : Fin grid0.N, _)

theorem idx1 : ∀ t : Fin cfg0.N, win0_1.index t 1 = 3 * t.val + 1 := (by decide +kernel : ∀ t : Fin grid0.N, _)

/-- The block of input window 1 at grid point `t`. -/
theorem blk1 (t : Fin cfg0.N) {X : Buf (Elt Ideal) ((c : Thread nD τ).loc (Pipeline.arrRef spec0 1))} {A : Arr EReal} (hA : IsArr (R := 2048) (C := 3712) (β := EReal) X A) :
    IsArr (R := 2048) (C := 128) (β := EReal) (((cfg0.win 1).blk t).view.read (Elt Ideal) X) (loadAt (0, 384 * t.val + 128) A) := by
  refine isArr_window hA _ (((cfg0.win 1).blk t).view.emb) (0, 384 * t.val + 128) (fun j => rfl) (fun j => ?_) (fun j => ?_)
  · exact (win0_1.rect_emb_val_of_index_zero t 0 (idz1 t) j).trans (Nat.zero_add _).symm
  · refine (win0_1.rect_emb_val t j 1).trans ?_
    rw [idx1]
    show (3 * t.val + 1) * 128 + (j 1).val = 384 * t.val + 128 + (j 1).val
    omega

theorem idz2 : ∀ t : Fin cfg0.N, win0_2.index t 0 = 0 := (by decide +kernel : ∀ t : Fin grid0.N, _)

theorem idx2 : ∀ t : Fin cfg0.N, win0_2.index t 1 = 3 * t.val + 2 := (by decide +kernel : ∀ t : Fin grid0.N, _)

/-- The block of input window 2 at grid point `t`. -/
theorem blk2 (t : Fin cfg0.N) {X : Buf (Elt Ideal) ((c : Thread nD τ).loc (Pipeline.arrRef spec0 2))} {A : Arr EReal} (hA : IsArr (R := 2048) (C := 3712) (β := EReal) X A) :
    IsArr (R := 2048) (C := 128) (β := EReal) (((cfg0.win 2).blk t).view.read (Elt Ideal) X) (loadAt (0, 384 * t.val + 256) A) := by
  refine isArr_window hA _ (((cfg0.win 2).blk t).view.emb) (0, 384 * t.val + 256) (fun j => rfl) (fun j => ?_) (fun j => ?_)
  · exact (win0_2.rect_emb_val_of_index_zero t 0 (idz2 t) j).trans (Nat.zero_add _).symm
  · refine (win0_2.rect_emb_val t j 1).trans ?_
    rw [idx2]
    show (3 * t.val + 2) * 128 + (j 1).val = 384 * t.val + 256 + (j 1).val
    omega

theorem idz4 : ∀ t : Fin cfg0.N, win0_4.index t 0 = 0 := (by decide +kernel : ∀ t : Fin grid0.N, _)

theorem idx4 : ∀ t : Fin cfg0.N, win0_4.index t 1 = t.val := (by decide +kernel : ∀ t : Fin grid0.N, _)

/-- The block of input window 4 at grid point `t`. -/
theorem blk4 (t : Fin cfg0.N) {X : Buf (Elt Ideal) ((c : Thread nD τ).loc (Pipeline.arrRef spec0 4))} {A : Arr EReal} (hA : IsArr (R := 2048) (C := 512) (β := EReal) X A) :
    IsArr (R := 2048) (C := 128) (β := EReal) (((cfg0.win 4).blk t).view.read (Elt Ideal) X) (loadAt (0, 128 * t.val) A) := by
  refine isArr_window hA _ (((cfg0.win 4).blk t).view.emb) (0, 128 * t.val) (fun j => rfl) (fun j => ?_) (fun j => ?_)
  · exact (win0_4.rect_emb_val_of_index_zero t 0 (idz4 t) j).trans (Nat.zero_add _).symm
  · refine (win0_4.rect_emb_val t j 1).trans ?_
    rw [idx4]
    show t.val * 128 + (j 1).val = 128 * t.val + (j 1).val
    omega

theorem idz5 : ∀ t : Fin cfg0.N, win0_5.index t 0 = 0 := (by decide +kernel : ∀ t : Fin grid0.N, _)

theorem idx5 : ∀ t : Fin cfg0.N, win0_5.index t 1 = t.val := (by decide +kernel : ∀ t : Fin grid0.N, _)

/-- The block of input window 5 at grid point `t`. -/
theorem blk5 (t : Fin cfg0.N) {X : Buf (Elt Ideal) ((c : Thread nD τ).loc (Pipeline.arrRef spec0 5))} {A : Arr EReal} (hA : IsArr (R := 2048) (C := 512) (β := EReal) X A) :
    IsArr (R := 2048) (C := 128) (β := EReal) (((cfg0.win 5).blk t).view.read (Elt Ideal) X) (loadAt (0, 128 * t.val) A) := by
  refine isArr_window hA _ (((cfg0.win 5).blk t).view.emb) (0, 128 * t.val) (fun j => rfl) (fun j => ?_) (fun j => ?_)
  · exact (win0_5.rect_emb_val_of_index_zero t 0 (idz5 t) j).trans (Nat.zero_add _).symm
  · refine (win0_5.rect_emb_val t j 1).trans ?_
    rw [idx5]
    show t.val * 128 + (j 1).val = 128 * t.val + (j 1).val
    omega

theorem idz6 : ∀ t : Fin cfg0.N, win0_6.index t 0 = 0 := (by decide +kernel : ∀ t : Fin grid0.N, _)

theorem idx6 : ∀ t : Fin cfg0.N, win0_6.index t 1 = t.val := (by decide +kernel : ∀ t : Fin grid0.N, _)

/-- The block of input window 6 at grid point `t`. -/
theorem blk6 (t : Fin cfg0.N) {X : Buf (Elt Ideal) ((c : Thread nD τ).loc (Pipeline.arrRef spec0 6))} {A : Arr EReal} (hA : IsArr (R := 2048) (C := 512) (β := EReal) X A) :
    IsArr (R := 2048) (C := 128) (β := EReal) (((cfg0.win 6).blk t).view.read (Elt Ideal) X) (loadAt (0, 128 * t.val) A) := by
  refine isArr_window hA _ (((cfg0.win 6).blk t).view.emb) (0, 128 * t.val) (fun j => rfl) (fun j => ?_) (fun j => ?_)
  · exact (win0_6.rect_emb_val_of_index_zero t 0 (idz6 t) j).trans (Nat.zero_add _).symm
  · refine (win0_6.rect_emb_val t j 1).trans ?_
    rw [idx6]
    show t.val * 128 + (j 1).val = 128 * t.val + (j 1).val
    omega

theorem idz3 : ∀ t : Fin cfg0.N, win0_3.index t 0 = 0 := (by decide +kernel : ∀ t : Fin grid0.N, _)

theorem idx3 : ∀ t : Fin cfg0.N, win0_3.index t 1 = 0 := (by decide +kernel : ∀ t : Fin grid0.N, _)

/-- The block of input window 3 is its array at every grid point. -/
theorem blk3 (t : Fin cfg0.N) {X : Buf (Elt Ideal) ((c : Thread nD τ).loc (Pipeline.arrRef spec0 3))} {A : Arr EReal} (hA : IsArr (R := 128) (C := 2048) (β := EReal) X A) :
    IsArr (R := 128) (C := 2048) (β := EReal) (((cfg0.win 3).blk t).view.read (Elt Ideal) X) (loadAt (0, 0) A) := by
  refine isArr_window hA _ (((cfg0.win 3).blk t).view.emb) (0, 0) (fun j => rfl) (fun j => ?_) (fun j => ?_)
  · exact (win0_3.rect_emb_val_of_index_zero t 0 (idz3 t) j).trans (Nat.zero_add _).symm
  · exact (win0_3.rect_emb_val_of_index_zero t 1 (idx3 t) j).trans (Nat.zero_add _).symm

end Cert.Fox

end
-- ==== Proof.FoxInputs.lean ====
/- The call's input blocks in real numbers, from the arguments and from what the host operations computed. -/
module

public import proofs.«01_k».proof.Proof.FoxHost
public import proofs.«01_k».proof.Proof.FoxGrid
public import proofs.«01_k».proof.Proof.FoxBlock

@[expose] public section

noncomputable section

namespace Cert.Fox

open Cert.KernelIdeal Cert.KernelIdeal.Gen Idealize.ShloMosaic Idealize.ShloMosaic.TcCoe Idealize.SL.Sem Idealize.ShloMosaic.Updates
open Idealize.ShloMosaic.LaneScatter (Blk)

/-- An array as a function of two positions, read at a place of the array. -/
theorem ofBlk_at {R C : ℕ} (hR : 0 < R) (hC : 0 < C) (X : (Blk R C).Idx → EReal) {t x : ℕ} (ht : t < R) (hx : x < C) :
    ofBlk hR hC X (t, x) = X (ix2 ⟨t, ht⟩ ⟨x, hx⟩) := (isArr_ofBlk hR hC X (ix2 ⟨t, ht⟩ ⟨x, hx⟩)).symm

/-- The row logarithms as a function of two positions. -/
def lsArr (a0 : (⟨2, ![2048, 3712]⟩ : Shape).Idx → EReal) (a1 : (⟨2, ![128, 2048]⟩ : Shape).Idx → EReal) : Arr EReal := fun p =>
  ((Real.log (rZ (hd a0 0 (p.2 / 64)) (hd a0 1 (p.2 / 64)) (bd a1 (p.2 / 64)) p.1) : ℝ) : EReal)

/-- The attention's output as a function of two positions. -/
def oArr (a0 : (⟨2, ![2048, 3712]⟩ : Shape).Idx → EReal) (a1 : (⟨2, ![128, 2048]⟩ : Shape).Idx → EReal) : Arr EReal := fun p =>
  ((rO (hd a0 0 (p.2 / 64)) (hd a0 1 (p.2 / 64)) (hd a0 2 (p.2 / 64)) (bd a1 (p.2 / 64)) p.1 (p.2 % 64) : ℝ) : EReal)

section
variable {a0 : (⟨2, ![2048, 3712]⟩ : Shape).Idx → EReal} {a1 : (⟨2, ![128, 2048]⟩ : Shape).Idx → EReal} {a2 : (⟨2, ![2048, 512]⟩ : Shape).Idx → EReal} (H : Reals a0 a1 a2)
include H

theorem pair_hd (j o off : ℕ) (hj : j < 4) (ho : o < 3) (he : off = 384 * j + 128 * o) (b t d : ℕ) (hb : b < 2) (ht : t < 2048) (hd' : d < 64) :
    loadAt (0, off) (ofBlk (R := 2048) (C := 3712) (by decide) (by decide) a0) (t, 64 * b + d) = ((hd a0 o (2 * j + b) t d : ℝ) : EReal) := by
  show ofBlk _ _ a0 (0 + t, off + (64 * b + d)) = _
  rw [Nat.zero_add, ofBlk_at _ _ a0 ht (show off + (64 * b + d) < 3712 by omega), H.h0 _ _ (show off + (64 * b + d) < 1536 by omega)]
  exact congrArg (fun n => ((realAt a0 t n : ℝ) : EReal)) (show off + (64 * b + d) = 384 * ((2 * j + b) / 2) + 128 * o + 64 * ((2 * j + b) % 2) + d by omega)

theorem pair_gd (j : ℕ) (hj : j < 4) (b t d : ℕ) (hb : b < 2) (ht : t < 2048) (hd' : d < 64) :
    loadAt (0, 128 * j) (ofBlk (R := 2048) (C := 512) (by decide) (by decide) a2) (t, 64 * b + d) = ((gd a2 (2 * j + b) t d : ℝ) : EReal) := by
  show ofBlk _ _ a2 (0 + t, 128 * j + (64 * b + d)) = _
  rw [Nat.zero_add, ofBlk_at _ _ a2 ht (show 128 * j + (64 * b + d) < 512 by omega), H.h2]
  exact congrArg (fun n => ((realAt a2 t n : ℝ) : EReal)) (show 128 * j + (64 * b + d) = 64 * (2 * j + b) + d by omega)

theorem pair_bd (j : ℕ) (hj : j < 4) (b s : ℕ) (hb : b < 2) (hs : s < 2048) :
    loadAt (0, 0) (ofBlk (R := 128) (C := 2048) (by decide) (by decide) a1) (2 * j + b, s) = ((bd a1 (2 * j + b) s : ℝ) : EReal) := by
  show ofBlk _ _ a1 (0 + (2 * j + b), 0 + s) = _
  rw [Nat.zero_add, Nat.zero_add, ofBlk_at _ _ a1 (show 2 * j + b < 128 by omega) hs]
  exact H.h1 ⟨2 * j + b, by omega⟩ ⟨s, hs⟩ (show 2 * j + b < 8 by omega)

omit H in
theorem pair_ls (j b t : ℕ) (hb : b < 2) : loadAt (0, 128 * j) (lsArr a0 a1) (t, 64 * b)
    = ((Real.log (rZ (hd a0 0 (2 * j + b)) (hd a0 1 (2 * j + b)) (bd a1 (2 * j + b)) t) : ℝ) : EReal) := by
  show lsArr a0 a1 (0 + t, 128 * j + 64 * b) = _
  unfold lsArr
  dsimp only
  rw [Nat.zero_add, show (128 * j + 64 * b) / 64 = 2 * j + b by omega]

omit H in
theorem pair_o (j b t d : ℕ) (hb : b < 2) (hd' : d < 64) : loadAt (0, 128 * j) (oArr a0 a1) (t, 64 * b + d)
    = ((rO (hd a0 0 (2 * j + b)) (hd a0 1 (2 * j + b)) (hd a0 2 (2 * j + b)) (bd a1 (2 * j + b)) t d : ℝ) : EReal) := by
  show oArr a0 a1 (0 + t, 128 * j + (64 * b + d)) = _
  unfold oArr
  dsimp only
  rw [Nat.zero_add, show (128 * j + (64 * b + d)) / 64 = 2 * j + b by omega, show (128 * j + (64 * b + d)) % 64 = d by omega]

end

variable (m : (ℓ : Loc nD τ sig) → Buf (Elt Ideal) ℓ) (c : Dev nD)

/-- Every grid point's blocks hold its two heads' queries, keys, values, cotangents and biases, their row logarithms and their output. -/
theorem inputs {a0 : FVec Ideal S2048x3712 .f32} {a1 : FVec Ideal S128x2048 .f32} {a2 : FVec Ideal S2048x512 .f32} (H : Reals a0 a1 a2)
    (e0 : m ((c : Thread nD τ).loc main_arg0) = a0) (e1 : m ((c : Thread nD τ).loc main_arg1) = a1) (e2 : m ((c : Thread nD τ).loc main_arg2) = a2) :
    Inputs m c (fun j => loadAt (0, 384 * j) (ofBlk (R := 2048) (C := 3712) (by decide) (by decide) a0))
      (fun j => loadAt (0, 384 * j + 128) (ofBlk (R := 2048) (C := 3712) (by decide) (by decide) a0))
      (fun j => loadAt (0, 384 * j + 256) (ofBlk (R := 2048) (C := 3712) (by decide) (by decide) a0))
      (fun _ => loadAt (0, 0) (ofBlk (R := 128) (C := 2048) (by decide) (by decide) a1))
      (fun j => loadAt (0, 128 * j) (lsArr a0 a1)) (fun j => loadAt (0, 128 * j) (oArr a0 a1))
      (fun j => loadAt (0, 128 * j) (ofBlk (R := 2048) (C := 512) (by decide) (by decide) a2))
      (hd a0 0) (hd a0 1) (hd a0 2) (gd a2) (bd a1) := by
  have hP : IsArr (R := 2048) (C := 3712) (β := EReal) (V m c main_arg0) (ofBlk (R := 2048) (C := 3712) (by decide) (by decide) a0) := by
    rw [V_main_arg0, e0]
    exact isArr_ofBlk _ _ a0
  have hC : IsArr (R := 128) (C := 2048) (β := EReal) (V m c main_arg1) (ofBlk (R := 128) (C := 2048) (by decide) (by decide) a1) := by
    rw [V_main_arg1, e1]
    exact isArr_ofBlk _ _ a1
  have hG : IsArr (R := 2048) (C := 512) (β := EReal) (V m c main_arg2) (ofBlk (R := 2048) (C := 512) (by decide) (by decide) a2) := by
    rw [V_main_arg2, e2]
    exact isArr_ofBlk _ _ a2
  have hL : IsArr (R := 2048) (C := 512) (β := EReal) (V m c main_v42) (lsArr a0 a1) := by
    rw [V_main_v42, e0, e1]
    intro j
    rw [eq_ix2 j]
    exact hv42_at H _ _
  have hO : IsArr (R := 2048) (C := 512) (β := EReal) (V m c main_v43) (oArr a0 a1) := by
    rw [V_main_v43, e0, e1]
    intro j
    rw [eq_ix2 j]
    exact hv43_at H _ _
  exact {
    h0 := fun t => blk0 t hP
    h1 := fun t => blk1 t hP
    h2 := fun t => blk2 t hP
    h3 := fun t => blk3 t hC
    h4 := fun t => blk4 t hL
    h5 := fun t => blk5 t hO
    h6 := fun t => blk6 t hG
    pair := fun j hj => {
      hQ := pair_hd H j 0 _ hj (by omega) (by omega)
      hK := pair_hd H j 1 _ hj (by omega) (by omega)
      hV := pair_hd H j 2 _ hj (by omega) (by omega)
      hG := pair_gd H j hj
      hC := pair_bd H j hj
      hL := fun b t hb _ => pair_ls j b t hb
      hO := fun b t d hb _ hd' => pair_o j b t d hb hd' } }

end Cert.Fox

end
-- ==== Proof.FoxArrs.lean ====
/- The call's three output arrays after the run, from what the grid points leave in the output buffers. -/
module

public import proofs.«01_k».proof.Proof.FoxGrid
public import proofs.«01_k».proof.Proof.FoxHostDef
public import Idealize.ShloMosaic.Lib.Pipeline.ValueKit

@[expose] public section

noncomputable section

namespace Cert.Fox

open Cert.KernelIdeal Cert.KernelIdeal.Gen Idealize.ShloMosaic Idealize.ShloMosaic.TcCoe Idealize.SL.Sem Idealize.ShloMosaic.Updates Idealize.ShloMosaic.StableHlo
open Idealize.ShloMosaic.LaneScatter (Blk)
open Idealize.ShloMosaic.Pipeline (Dat)

variable (m : (ℓ : Loc nD τ sig) → Buf (Elt Ideal) ℓ) (c : Dev nD)

set_option maxRecDepth 8192 in
/-- The packed output's array starts as the gradient array that the call writes into. -/
theorem V_main_v44_0 : V m c main_v44_0 = m ((c : Thread nD τ).loc main_arg3) := by
  show StableHlo.after (List.flatten [hostOps0, hostOps0_1, hostOps0_2]) (fun b => m (c, b)) main_v44_0 = _
  simp only [hostOps0, hostOps0_1, hostOps0_2, List.flatten_cons, List.flatten_nil, List.append_nil, List.cons_append,
      List.nil_append, TRef.binary, TRef.nullary, TRef.ternary, TRef.unary, TRef.toBuf, TRef.ofBuf, cast_eq]
  after_results_simp
  rfl

theorem idz7 : ∀ t : Fin cfg0.N, win0_7.index t 0 = 0 := (by decide +kernel : ∀ t : Fin grid0.N, _)

theorem idx7 : ∀ t : Fin cfg0.N, win0_7.index t 1 = t.val := (by decide +kernel : ∀ t : Fin grid0.N, _)

theorem flush7 : ∀ t : Fin cfg0.N, win0_7.flush t = true := (by decide +kernel : ∀ t : Fin grid0.N, _)

theorem xs7_0 : ∀ t : Fin cfg0.N, win0_7.xsize (grid0.coords t) 0 = 2048 := (by decide +kernel : ∀ t : Fin grid0.N, _)

theorem xs7_1 : ∀ t : Fin cfg0.N, win0_7.xsize (grid0.coords t) 1 = 384 := (by decide +kernel : ∀ t : Fin grid0.N, _)

/-- Where an element of a grid point's block sits in the packed output's array. -/
theorem emb7_0 (t : Fin cfg0.N) (y : (win0_7.xblock (grid0.coords t)).Idx) : ((win0_7.rect t).emb y 0 : ℕ) = y 0 :=
  win0_7.rect_emb_val_of_index_zero t 0 (idz7 t) y

theorem emb7_1 (t : Fin cfg0.N) (y : (win0_7.xblock (grid0.coords t)).Idx) : ((win0_7.rect t).emb y 1 : ℕ) = 384 * t.val + y 1 := by
  refine (win0_7.rect_emb_val t y 1).trans ?_
  rw [idx7]
  show t.val * 384 + (y 1 : ℕ) = 384 * t.val + (y 1 : ℕ)
  omega

/-- A grid point's columns of the packed output's array hold what the point left in the buffer. -/
theorem arr7_in {A : Arr EReal} (t : Fin cfg0.N) (hA : IsArr (R := 2048) (C := 384) (β := EReal) (outsAt0 m c t.val t.isLt).1 A)
    (r : Fin 2048) (x : Fin 3712) (h : x.val / 384 = t.val) : (dats m 0 c).arrAt 7 cfg0.N (ix2 r x) = A (r.val, x.val % 384) := by
  have hm : (ix2 r x : S2048x3712.Idx) ∈ ((cfg0.win 7).blk t).view.set :=
    (win0_7.emb_mem_blk_iff t (ix2 r x) rfl).mpr fun a => by
      match a with
      | ⟨0, _⟩ =>
        have h0 := idz7 t
        have h1 := xs7_0 t
        refine ⟨?_, ?_⟩
        · show win0_7.index t 0 * 2048 ≤ r.val
          rw [h0]; omega
        · show r.val < win0_7.index t 0 * 2048 + win0_7.xsize (grid0.coords t) 0
          rw [h0, h1]; omega
      | ⟨1, _⟩ =>
        have h0 := idx7 t
        have h1 := xs7_1 t
        refine ⟨?_, ?_⟩
        · show win0_7.index t 1 * 384 ≤ x.val
          rw [h0]; omega
        · show x.val < win0_7.index t 1 * 384 + win0_7.xsize (grid0.coords t) 1
          rw [h0, h1]; omega
  obtain ⟨y, hy⟩ := View.exists_emb_of_mem_set _ hm
  have e0 : (y 0 : ℕ) = r.val := (emb7_0 t y).symm.trans (congrArg (fun i : S2048x3712.Idx => (i 0 : ℕ)) hy)
  have e1 : 384 * t.val + (y 1 : ℕ) = x.val := (emb7_1 t y).symm.trans (congrArg (fun i : S2048x3712.Idx => (i 1 : ℕ)) hy)
  rw [← hy]
  refine ((dats m 0 c).arrAt_emb_eq_flushed 7 disjoint7 t (flush7 t) y).trans ?_
  rw [flushed7]
  refine (hA (win0_7.xinj (grid0.coords t) y)).trans ?_
  show A ((y 0 : ℕ), (y 1 : ℕ)) = _
  rw [e0, show (y 1 : ℕ) = x.val % 384 by omega]

/-- The other columns keep the gradient array's entries. -/
theorem arr7_out (r : Fin 2048) (x : Fin 3712) (h : 1536 ≤ x.val) : (dats m 0 c).arrAt 7 cfg0.N (ix2 r x) = m ((c : Thread nD τ).loc main_arg3) (ix2 r x) := by
  refine (entry7 m c (ix2 r x) fun t _ hm => ?_).trans (congrFun (V_main_v44_0 m c) _)
  obtain ⟨y, hy⟩ := View.exists_emb_of_mem_set _ hm
  have e1 : 384 * t.val + (y 1 : ℕ) = x.val := (emb7_1 t y).symm.trans (congrArg (fun i : S2048x3712.Idx => (i 1 : ℕ)) hy)
  have h2 : (y 1 : ℕ) < 384 := lt_of_lt_of_eq (y 1).isLt (xs7_1 t)
  have h3 : t.val < 4 := t.isLt
  omega

/-- The query bias gradients' array holds what the last grid point left in the buffer. -/
theorem arr8 {A : Arr EReal} (hA : IsArr (R := 2048) (C := 128) (β := EReal) (outsAt0 m c 3 (by decide)).2.1 A) (r : Fin 2048) (x : Fin 128) :
    (dats m 0 c).arrAt 8 cfg0.N (ix2 r x) = A (r.val, x.val) := by
  refine ((dats m 0 c).arrAt_emb_eq_after_last 8 (⟨3, by decide⟩ : Fin cfg0.N) (by decide +kernel) (ix2 r x)).trans ?_
  rw [after0_8]
  exact hA (ix2 r x)

/-- The key bias gradients' array holds what the last grid point left in the buffer. -/
theorem arr9 {A : Arr EReal} (hA : IsArr (R := 128) (C := 2048) (β := EReal) (outsAt0 m c 3 (by decide)).2.2 A) (r : Fin 128) (x : Fin 2048) :
    (dats m 0 c).arrAt 9 cfg0.N (ix2 r x) = A (r.val, x.val) := by
  refine ((dats m 0 c).arrAt_emb_eq_after_last 9 (⟨3, by decide⟩ : Fin cfg0.N) (by decide +kernel) (ix2 r x)).trans ?_
  rw [after0_9]
  exact hA (ix2 r x)

end Cert.Fox

end
-- ==== Proof.FoxRefDef.lean ====
/- The reference's operations as named functions of its arguments, over the extended reals. -/
module

public import proofs.«01_k».proof.Proof.Gen.ReferenceIdeal.Run
public import Idealize.ShloMosaic.PureOps.Ideal

@[expose] public section

noncomputable section

namespace Cert.Fox.Ref

open Cert.ReferenceIdeal Cert.ReferenceIdeal.Gen Idealize.ShloMosaic Idealize.ShloMosaic.TcCoe Idealize.SL.Sem

def rv0 (a0 : FVec Ideal S2048x3712 .f32) : FVec Ideal S2048x1536 .f32 := extractStridedSlice S2048x1536 ![0, 0] a0 slices_S2048x3712_S2048x1536_0_0

def rv1 (a0 : FVec Ideal S2048x3712 .f32) : FVec Ideal S2048x4x3x128 .f32 := shapeCast S2048x4x3x128 (rv0 a0) shapeCasts_S2048x1536_S2048x4x3x128

def rv2 (a0 : FVec Ideal S2048x3712 .f32) : FVec Ideal S2048x4x1x128 .f32 := extractStridedSlice S2048x4x1x128 ![0, 0, 0, 0] (rv1 a0) slices_S2048x4x3x128_S2048x4x1x128_0_0_0_0

def rv3 (a0 : FVec Ideal S2048x3712 .f32) : FVec Ideal S2048x4x128 .f32 := shapeCast S2048x4x128 (rv2 a0) shapeCasts_S2048x4x1x128_S2048x4x128

def rv4 (a0 : FVec Ideal S2048x3712 .f32) : FVec Ideal S2048x8x64 .f32 := shapeCast S2048x8x64 (rv3 a0) shapeCasts_S2048x4x128_S2048x8x64

def rv5 (a0 : FVec Ideal S2048x3712 .f32) : FVec Ideal S2048x4x1x128 .f32 := extractStridedSlice S2048x4x1x128 ![0, 0, 1, 0] (rv1 a0) slices_S2048x4x3x128_S2048x4x1x128_0_0_1_0

def rv6 (a0 : FVec Ideal S2048x3712 .f32) : FVec Ideal S2048x4x128 .f32 := shapeCast S2048x4x128 (rv5 a0) shapeCasts_S2048x4x1x128_S2048x4x128

def rv7 (a0 : FVec Ideal S2048x3712 .f32) : FVec Ideal S2048x8x64 .f32 := shapeCast S2048x8x64 (rv6 a0) shapeCasts_S2048x4x128_S2048x8x64

def rv8 (a0 : FVec Ideal S2048x3712 .f32) : FVec Ideal S2048x4x1x128 .f32 := extractStridedSlice S2048x4x1x128 ![0, 0, 2, 0] (rv1 a0) slices_S2048x4x3x128_S2048x4x1x128_0_0_2_0

def rv9 (a0 : FVec Ideal S2048x3712 .f32) : FVec Ideal S2048x4x128 .f32 := shapeCast S2048x4x128 (rv8 a0) shapeCasts_S2048x4x1x128_S2048x4x128

def rv10 (a0 : FVec Ideal S2048x3712 .f32) : FVec Ideal S2048x8x64 .f32 := shapeCast S2048x8x64 (rv9 a0) shapeCasts_S2048x4x128_S2048x8x64

def rv11 (a1 : FVec Ideal S128x2048 .f32) : FVec Ideal S8x2048 .f32 := extractStridedSlice S8x2048 ![0, 0] a1 slices_S128x2048_S8x2048_0_0

def rv12 (a0 : FVec Ideal S2048x3712 .f32) : FVec Ideal S8x2048x2048 .f32 := Host.dotGeneral dot_S2048x8x64_S2048x8x64_S8x2048x2048_2_2_0_0_1_1 none (rv4 a0) (rv7 a0)

def rv_cst : FVec Ideal S_ .f32 := (constant S_ .f32 0x3E000000#32)

def rv13 : FVec Ideal S8x2048x2048 .f32 := broadcastInDim S8x2048x2048 ![] bcast_S_S8x2048x2048 rv_cst

def rv14 (a0 : FVec Ideal S2048x3712 .f32) : FVec Ideal S8x2048x2048 .f32 := mulf (rv12 a0) rv13

def rv15 (a1 : FVec Ideal S128x2048 .f32) : FVec Ideal S8x2048x1 .f32 := broadcastInDim S8x2048x1 ![0, 1] bcast_S8x2048_S8x2048x1_0_1 (rv11 a1)

def rv16 (a1 : FVec Ideal S128x2048 .f32) : FVec Ideal S8x2048x2048 .f32 := broadcastInDim S8x2048x2048 ![0, 1, 2] bcast_S8x2048x1_S8x2048x2048_0_1_2 (rv15 a1)

def rv17 (a0 : FVec Ideal S2048x3712 .f32) (a1 : FVec Ideal S128x2048 .f32) : FVec Ideal S8x2048x2048 .f32 := addf (rv14 a0) (rv16 a1)

def rv18 (a1 : FVec Ideal S128x2048 .f32) : FVec Ideal S8x1x2048 .f32 := broadcastInDim S8x1x2048 ![0, 2] bcast_S8x2048_S8x1x2048_0_2 (rv11 a1)

def rv19 (a1 : FVec Ideal S128x2048 .f32) : FVec Ideal S8x2048x2048 .f32 := broadcastInDim S8x2048x2048 ![0, 1, 2] bcast_S8x1x2048_S8x2048x2048_0_1_2 (rv18 a1)

def rv20 (a0 : FVec Ideal S2048x3712 .f32) (a1 : FVec Ideal S128x2048 .f32) : FVec Ideal S8x2048x2048 .f32 := subf (rv17 a0 a1) (rv19 a1)

def rv21 : IVec S2048 32 := (iotaInDim S2048 32 0)

def rv22 : IVec S1x2048 32 := broadcastInDim S1x2048 ![1] bcast_S2048_S1x2048_1 rv21

def rv23 : IVec S2048 32 := (iotaInDim S2048 32 0)

def rv24 : IVec S2048x1 32 := broadcastInDim S2048x1 ![0] bcast_S2048_S2048x1_0 rv23

def rv25 : IVec S2048x2048 32 := broadcastInDim S2048x2048 ![0, 1] bcast_S1x2048_S2048x2048_0_1 rv22

def rv26 : IVec S2048x2048 32 := broadcastInDim S2048x2048 ![0, 1] bcast_S2048x1_S2048x2048_0_1 rv24

def rv27 : IVec S2048x2048 1 := cmpi .sle rv25 rv26

def rv_cst_0 : FVec Ideal S_ .f32 := (constant S_ .f32 0xFF800000#32)

def rv_call0_v0 : FVec Ideal S_ .f32 := rv_cst_0

def rv28_1 : IVec S8x2048x2048 1 := (broadcastInDim S8x2048x2048 ![1, 2] bcast_S2048x2048_S8x2048x2048_1_2) rv27

def rv_call0_v2 : FVec Ideal S8x2048x2048 .f32 := (broadcastInDim S8x2048x2048 ![] bcast_S_S8x2048x2048) rv_call0_v0

def rv28_0 (a0 : FVec Ideal S2048x3712 .f32) (a1 : FVec Ideal S128x2048 .f32) : FVec Ideal S8x2048x2048 .f32 := select rv28_1 (rv20 a0 a1) rv_call0_v2

def rv_cst_1 : FVec Ideal S_ .f32 := (constant S_ .f32 0xFF800000#32)

def rv29 (a0 : FVec Ideal S2048x3712 .f32) (a1 : FVec Ideal S128x2048 .f32) : FVec Ideal S8x2048 .f32 := Host.reduce FloatOps.maximumf (rv28_0 a0 a1) rv_cst_1 reducesTo_S8x2048x2048_S8x2048_d2 h_S_

def rv_cst_3 : FVec Ideal S_ .f32 := (constant S_ .f32 0xFF800000#32)

def rv35 : FVec Ideal S8x2048 .f32 := broadcastInDim S8x2048 ![] bcast_S_S8x2048 rv_cst_3

def rv36 (a0 : FVec Ideal S2048x3712 .f32) (a1 : FVec Ideal S128x2048 .f32) : FVec Ideal S8x2048 .f32 := maximumf rv35 (rv29 a0 a1)

def rv46 (a0 : FVec Ideal S2048x3712 .f32) (a1 : FVec Ideal S128x2048 .f32) : FVec Ideal S8x2048x1 .f32 := broadcastInDim S8x2048x1 ![0, 1] bcast_S8x2048_S8x2048x1_0_1 (rv36 a0 a1)

def rv47 (a0 : FVec Ideal S2048x3712 .f32) (a1 : FVec Ideal S128x2048 .f32) : FVec Ideal S8x2048x2048 .f32 := broadcastInDim S8x2048x2048 ![0, 1, 2] bcast_S8x2048x1_S8x2048x2048_0_1_2 (rv46 a0 a1)

def rv48 (a0 : FVec Ideal S2048x3712 .f32) (a1 : FVec Ideal S128x2048 .f32) : FVec Ideal S8x2048x2048 .f32 := subf (rv28_0 a0 a1) (rv47 a0 a1)

def rv49 (a0 : FVec Ideal S2048x3712 .f32) (a1 : FVec Ideal S128x2048 .f32) : FVec Ideal S8x2048x2048 .f32 := Host.exp (rv48 a0 a1)

def rv_cst_9 : FVec Ideal S_ .f32 := (constant S_ .f32 0x00000000#32)

def rv50 (a0 : FVec Ideal S2048x3712 .f32) (a1 : FVec Ideal S128x2048 .f32) : FVec Ideal S8x2048 .f32 := Host.reduceAdd (rv49 a0 a1) rv_cst_9 reducesTo_S8x2048x2048_S8x2048_d2 h_S_

def rv51 (a0 : FVec Ideal S2048x3712 .f32) (a1 : FVec Ideal S128x2048 .f32) : FVec Ideal S8x2048x1 .f32 := broadcastInDim S8x2048x1 ![0, 1] bcast_S8x2048_S8x2048x1_0_1 (rv50 a0 a1)

def rv52 (a0 : FVec Ideal S2048x3712 .f32) (a1 : FVec Ideal S128x2048 .f32) : FVec Ideal S8x2048x2048 .f32 := broadcastInDim S8x2048x2048 ![0, 1, 2] bcast_S8x2048x1_S8x2048x2048_0_1_2 (rv51 a0 a1)

def rv53 (a0 : FVec Ideal S2048x3712 .f32) (a1 : FVec Ideal S128x2048 .f32) : FVec Ideal S8x2048x2048 .f32 := Host.divf (rv49 a0 a1) (rv52 a0 a1)

def rv54 (a0 : FVec Ideal S2048x3712 .f32) (a1 : FVec Ideal S128x2048 .f32) : FVec Ideal S8x2048x1 .f32 := mulf (rv51 a0 a1) (rv51 a0 a1)

def rv_cst_10 : FVec Ideal S_ .f32 := (constant S_ .f32 0x3F800000#32)

def rv55 : FVec Ideal S8x2048x1 .f32 := broadcastInDim S8x2048x1 ![] bcast_S_S8x2048x1 rv_cst_10

def rv56 (a0 : FVec Ideal S2048x3712 .f32) (a1 : FVec Ideal S128x2048 .f32) : FVec Ideal S8x2048x1 .f32 := Host.divf rv55 (rv54 a0 a1)

def rv59 (a2 : FVec Ideal S2048x512 .f32) : FVec Ideal S2048x8x64 .f32 := shapeCast S2048x8x64 a2 shapeCasts_S2048x512_S2048x8x64

def rv60 (a2 : FVec Ideal S2048x512 .f32) : FVec Ideal S8x64x2048 .f32 := transpose S8x64x2048 [1, 2, 0] (rv59 a2) transposes_S2048x8x64_S8x64x2048_1_2_0

def rv61 (a0 : FVec Ideal S2048x3712 .f32) (a2 : FVec Ideal S2048x512 .f32) : FVec Ideal S8x2048x2048 .f32 := Host.dotGeneral dot_S8x64x2048_S2048x8x64_S8x2048x2048_1_2_2_0_0_1 none (rv60 a2) (rv10 a0)

def rv62 (a0 : FVec Ideal S2048x3712 .f32) (a1 : FVec Ideal S128x2048 .f32) (a2 : FVec Ideal S2048x512 .f32) : FVec Ideal S8x64x2048 .f32 := Host.dotGeneral dot_S8x64x2048_S8x2048x2048_S8x64x2048_2_1_1_2_0_0 none (rv60 a2) (rv53 a0 a1)

def rv63 (a0 : FVec Ideal S2048x3712 .f32) (a1 : FVec Ideal S128x2048 .f32) (a2 : FVec Ideal S2048x512 .f32) : FVec Ideal S2048x8x64 .f32 := transpose S2048x8x64 [2, 0, 1] (rv62 a0 a1 a2) transposes_S8x64x2048_S2048x8x64_2_0_1

def rv64 (a0 : FVec Ideal S2048x3712 .f32) (a1 : FVec Ideal S128x2048 .f32) : FVec Ideal S8x2048x2048 .f32 := broadcastInDim S8x2048x2048 ![0, 1, 2] bcast_S8x2048x1_S8x2048x2048_0_1_2 (rv56 a0 a1)

def rv65 (a0 : FVec Ideal S2048x3712 .f32) (a1 : FVec Ideal S128x2048 .f32) (a2 : FVec Ideal S2048x512 .f32) : FVec Ideal S8x2048x2048 .f32 := mulf (rv61 a0 a2) (rv64 a0 a1)

def rv66 (a0 : FVec Ideal S2048x3712 .f32) (a1 : FVec Ideal S128x2048 .f32) (a2 : FVec Ideal S2048x512 .f32) : FVec Ideal S8x2048x2048 .f32 := mulf (rv65 a0 a1 a2) (rv49 a0 a1)

def rv_cst_11 : FVec Ideal S_ .f32 := (constant S_ .f32 0x00000000#32)

def rv67 (a0 : FVec Ideal S2048x3712 .f32) (a1 : FVec Ideal S128x2048 .f32) (a2 : FVec Ideal S2048x512 .f32) : FVec Ideal S8x2048 .f32 := Host.reduceAdd (rv66 a0 a1 a2) rv_cst_11 reducesTo_S8x2048x2048_S8x2048_d2 h_S_

def rv68 (a0 : FVec Ideal S2048x3712 .f32) (a1 : FVec Ideal S128x2048 .f32) (a2 : FVec Ideal S2048x512 .f32) : FVec Ideal S8x2048x1 .f32 := shapeCast S8x2048x1 (rv67 a0 a1 a2) shapeCasts_S8x2048_S8x2048x1

def rv69 (a0 : FVec Ideal S2048x3712 .f32) (a1 : FVec Ideal S128x2048 .f32) (a2 : FVec Ideal S2048x512 .f32) : FVec Ideal S8x2048x1 .f32 := Host.negf (rv68 a0 a1 a2)

def rv70 (a0 : FVec Ideal S2048x3712 .f32) (a1 : FVec Ideal S128x2048 .f32) : FVec Ideal S8x2048x2048 .f32 := broadcastInDim S8x2048x2048 ![0, 1, 2] bcast_S8x2048x1_S8x2048x2048_0_1_2 (rv51 a0 a1)

def rv71 (a0 : FVec Ideal S2048x3712 .f32) (a1 : FVec Ideal S128x2048 .f32) (a2 : FVec Ideal S2048x512 .f32) : FVec Ideal S8x2048x2048 .f32 := Host.divf (rv61 a0 a2) (rv70 a0 a1)

def rv_cst_12 : FVec Ideal S_ .f32 := (constant S_ .f32 0x00000000#32)

def rv72 (a0 : FVec Ideal S2048x3712 .f32) (a1 : FVec Ideal S128x2048 .f32) (a2 : FVec Ideal S2048x512 .f32) : FVec Ideal S8x2048 .f32 := Host.reduceAdd (rv69 a0 a1 a2) rv_cst_12 reducesTo_S8x2048x1_S8x2048_d2 h_S_

def rv73 (a0 : FVec Ideal S2048x3712 .f32) (a1 : FVec Ideal S128x2048 .f32) (a2 : FVec Ideal S2048x512 .f32) : FVec Ideal S8x2048x2048 .f32 := broadcastInDim S8x2048x2048 ![0, 1] bcast_S8x2048_S8x2048x2048_0_1 (rv72 a0 a1 a2)

def rv74 (a0 : FVec Ideal S2048x3712 .f32) (a1 : FVec Ideal S128x2048 .f32) (a2 : FVec Ideal S2048x512 .f32) : FVec Ideal S8x2048x2048 .f32 := addf (rv71 a0 a1 a2) (rv73 a0 a1 a2)

def rv75 (a0 : FVec Ideal S2048x3712 .f32) (a1 : FVec Ideal S128x2048 .f32) (a2 : FVec Ideal S2048x512 .f32) : FVec Ideal S8x2048x2048 .f32 := mulf (rv74 a0 a1 a2) (rv49 a0 a1)

def rv_call1_cst : FVec Ideal S_ .f32 := (constant S_ .f32 0x00000000#32)

def rv_call1_v0 : FVec Ideal S8x2048x2048 .f32 := (broadcastInDim S8x2048x2048 ![] bcast_S_S8x2048x2048) rv_call1_cst

def rv76 (a0 : FVec Ideal S2048x3712 .f32) (a1 : FVec Ideal S128x2048 .f32) (a2 : FVec Ideal S2048x512 .f32) : FVec Ideal S8x2048x2048 .f32 := select rv28_1 (rv75 a0 a1 a2) rv_call1_v0

def rv77 (a0 : FVec Ideal S2048x3712 .f32) (a1 : FVec Ideal S128x2048 .f32) (a2 : FVec Ideal S2048x512 .f32) : FVec Ideal S8x2048x2048 .f32 := Host.negf (rv76 a0 a1 a2)

def rv_cst_13 : FVec Ideal S_ .f32 := (constant S_ .f32 0x00000000#32)

def rv78 (a0 : FVec Ideal S2048x3712 .f32) (a1 : FVec Ideal S128x2048 .f32) (a2 : FVec Ideal S2048x512 .f32) : FVec Ideal S8x2048 .f32 := Host.reduceAdd (rv77 a0 a1 a2) rv_cst_13 reducesTo_S8x2048x2048_S8x2048_d1 h_S_

def rv79 (a0 : FVec Ideal S2048x3712 .f32) (a1 : FVec Ideal S128x2048 .f32) (a2 : FVec Ideal S2048x512 .f32) : FVec Ideal S8x1x2048 .f32 := shapeCast S8x1x2048 (rv78 a0 a1 a2) shapeCasts_S8x2048_S8x1x2048

def rv_cst_14 : FVec Ideal S_ .f32 := (constant S_ .f32 0x00000000#32)

def rv80 (a0 : FVec Ideal S2048x3712 .f32) (a1 : FVec Ideal S128x2048 .f32) (a2 : FVec Ideal S2048x512 .f32) : FVec Ideal S8x2048 .f32 := Host.reduceAdd (rv79 a0 a1 a2) rv_cst_14 reducesTo_S8x1x2048_S8x2048_d1 h_S_

def rv_cst_15 : FVec Ideal S_ .f32 := (constant S_ .f32 0x00000000#32)

def rv81 (a0 : FVec Ideal S2048x3712 .f32) (a1 : FVec Ideal S128x2048 .f32) (a2 : FVec Ideal S2048x512 .f32) : FVec Ideal S8x2048 .f32 := Host.reduceAdd (rv76 a0 a1 a2) rv_cst_15 reducesTo_S8x2048x2048_S8x2048_d2 h_S_

def rv82 (a0 : FVec Ideal S2048x3712 .f32) (a1 : FVec Ideal S128x2048 .f32) (a2 : FVec Ideal S2048x512 .f32) : FVec Ideal S8x2048x1 .f32 := shapeCast S8x2048x1 (rv81 a0 a1 a2) shapeCasts_S8x2048_S8x2048x1

def rv_cst_16 : FVec Ideal S_ .f32 := (constant S_ .f32 0x00000000#32)

def rv83 (a0 : FVec Ideal S2048x3712 .f32) (a1 : FVec Ideal S128x2048 .f32) (a2 : FVec Ideal S2048x512 .f32) : FVec Ideal S8x2048 .f32 := Host.reduceAdd (rv82 a0 a1 a2) rv_cst_16 reducesTo_S8x2048x1_S8x2048_d2 h_S_

def rv_cst_17 : FVec Ideal S_ .f32 := (constant S_ .f32 0x3E000000#32)

def rv84 : FVec Ideal S8x2048x2048 .f32 := broadcastInDim S8x2048x2048 ![] bcast_S_S8x2048x2048 rv_cst_17

def rv85 (a0 : FVec Ideal S2048x3712 .f32) (a1 : FVec Ideal S128x2048 .f32) (a2 : FVec Ideal S2048x512 .f32) : FVec Ideal S8x2048x2048 .f32 := mulf (rv76 a0 a1 a2) rv84

def rv86 (a0 : FVec Ideal S2048x3712 .f32) (a1 : FVec Ideal S128x2048 .f32) (a2 : FVec Ideal S2048x512 .f32) : FVec Ideal S8x2048x64 .f32 := Host.dotGeneral dot_S8x2048x2048_S2048x8x64_S8x2048x64_1_0_2_2_0_1 none (rv85 a0 a1 a2) (rv4 a0)

def rv87 (a0 : FVec Ideal S2048x3712 .f32) (a1 : FVec Ideal S128x2048 .f32) (a2 : FVec Ideal S2048x512 .f32) : FVec Ideal S2048x8x64 .f32 := transpose S2048x8x64 [1, 0, 2] (rv86 a0 a1 a2) transposes_S8x2048x64_S2048x8x64_1_0_2

def rv88 (a0 : FVec Ideal S2048x3712 .f32) (a1 : FVec Ideal S128x2048 .f32) (a2 : FVec Ideal S2048x512 .f32) : FVec Ideal S8x2048x64 .f32 := Host.dotGeneral dot_S8x2048x2048_S2048x8x64_S8x2048x64_2_0_1_2_0_1 none (rv85 a0 a1 a2) (rv7 a0)

def rv89 (a0 : FVec Ideal S2048x3712 .f32) (a1 : FVec Ideal S128x2048 .f32) (a2 : FVec Ideal S2048x512 .f32) : FVec Ideal S2048x8x64 .f32 := transpose S2048x8x64 [1, 0, 2] (rv88 a0 a1 a2) transposes_S8x2048x64_S2048x8x64_1_0_2

def rv90 (a0 : FVec Ideal S2048x3712 .f32) (a1 : FVec Ideal S128x2048 .f32) (a2 : FVec Ideal S2048x512 .f32) : FVec Ideal S2048x4x128 .f32 := shapeCast S2048x4x128 (rv89 a0 a1 a2) shapeCasts_S2048x8x64_S2048x4x128

def rv91 (a0 : FVec Ideal S2048x3712 .f32) (a1 : FVec Ideal S128x2048 .f32) (a2 : FVec Ideal S2048x512 .f32) : FVec Ideal S2048x4x128 .f32 := shapeCast S2048x4x128 (rv87 a0 a1 a2) shapeCasts_S2048x8x64_S2048x4x128

def rv92 (a0 : FVec Ideal S2048x3712 .f32) (a1 : FVec Ideal S128x2048 .f32) (a2 : FVec Ideal S2048x512 .f32) : FVec Ideal S2048x4x128 .f32 := shapeCast S2048x4x128 (rv63 a0 a1 a2) shapeCasts_S2048x8x64_S2048x4x128

def rv93 (a0 : FVec Ideal S2048x3712 .f32) (a1 : FVec Ideal S128x2048 .f32) (a2 : FVec Ideal S2048x512 .f32) : FVec Ideal S2048x4x1x128 .f32 := broadcastInDim S2048x4x1x128 ![0, 1, 3] bcast_S2048x4x128_S2048x4x1x128_0_1_3 (rv90 a0 a1 a2)

def rv94 (a0 : FVec Ideal S2048x3712 .f32) (a1 : FVec Ideal S128x2048 .f32) (a2 : FVec Ideal S2048x512 .f32) : FVec Ideal S2048x4x1x128 .f32 := broadcastInDim S2048x4x1x128 ![0, 1, 3] bcast_S2048x4x128_S2048x4x1x128_0_1_3 (rv91 a0 a1 a2)

def rv95 (a0 : FVec Ideal S2048x3712 .f32) (a1 : FVec Ideal S128x2048 .f32) (a2 : FVec Ideal S2048x512 .f32) : FVec Ideal S2048x4x1x128 .f32 := broadcastInDim S2048x4x1x128 ![0, 1, 3] bcast_S2048x4x128_S2048x4x1x128_0_1_3 (rv92 a0 a1 a2)

def rv96 (a0 : FVec Ideal S2048x3712 .f32) (a1 : FVec Ideal S128x2048 .f32) (a2 : FVec Ideal S2048x512 .f32) : FVec Ideal S2048x4x3x128 .f32 := concatenate S2048x4x3x128 2 [⟨S2048x4x1x128, (rv93 a0 a1 a2)⟩, ⟨S2048x4x1x128, (rv94 a0 a1 a2)⟩, ⟨S2048x4x1x128, (rv95 a0 a1 a2)⟩] concatenates_S2048x4x1x128_S2048x4x1x128_S2048x4x1x128_S2048x4x3x128_d2

def rv97 (a0 : FVec Ideal S2048x3712 .f32) (a1 : FVec Ideal S128x2048 .f32) (a2 : FVec Ideal S2048x512 .f32) : FVec Ideal S2048x1536 .f32 := shapeCast S2048x1536 (rv96 a0 a1 a2) shapeCasts_S2048x4x3x128_S2048x1536

def rv98 (a0 : FVec Ideal S2048x3712 .f32) (a1 : FVec Ideal S128x2048 .f32) (a2 : FVec Ideal S2048x512 .f32) : FVec Ideal S2048x1536 .bf16 := truncf .bf16 (rv97 a0 a1 a2) bitsLt_bf16_f32

def rv99 (a3 : FVec Ideal S2048x3712 .bf16) : FVec Ideal S2048x2176 .bf16 := extractStridedSlice S2048x2176 ![0, 1536] a3 slices_S2048x3712_S2048x2176_0_1536

def rv100 (a0 : FVec Ideal S2048x3712 .f32) (a1 : FVec Ideal S128x2048 .f32) (a2 : FVec Ideal S2048x512 .f32) (a3 : FVec Ideal S2048x3712 .bf16) : FVec Ideal S2048x3712 .bf16 := concatenate S2048x3712 1 [⟨S2048x1536, (rv98 a0 a1 a2)⟩, ⟨S2048x2176, (rv99 a3)⟩] concatenates_S2048x1536_S2048x2176_S2048x3712_d1

def rv101 (a0 : FVec Ideal S2048x3712 .f32) (a1 : FVec Ideal S128x2048 .f32) (a2 : FVec Ideal S2048x512 .f32) : FVec Ideal S2048x8 .f32 := transpose S2048x8 [1, 0] (rv83 a0 a1 a2) transposes_S8x2048_S2048x8_1_0

def rv_c : IVec S_ 32 := (constantI S_ 32 0#32)

def rv_call2_v0 : FVec Ideal S_ .f32 := (sitofp .f32) rv_c

def rv102 (a0 : FVec Ideal S2048x3712 .f32) (a1 : FVec Ideal S128x2048 .f32) (a2 : FVec Ideal S2048x512 .f32) : FVec Ideal S2048x128 .f32 := pad S2048x128 ![0, 0] ![0, 120] ![0, 0] (rv101 a0 a1 a2) rv_call2_v0 pads_S2048x8_S2048x128_000_01200 h_S_

def rv103 (a0 : FVec Ideal S2048x3712 .f32) (a1 : FVec Ideal S128x2048 .f32) (a2 : FVec Ideal S2048x512 .f32) : FVec Ideal S8x2048 .f32 := Host.negf (rv80 a0 a1 a2)

def rv_c_18 : IVec S_ 32 := (constantI S_ 32 0#32)

def rv_call3_v0 : FVec Ideal S_ .f32 := (sitofp .f32) rv_c_18

def rv104 (a0 : FVec Ideal S2048x3712 .f32) (a1 : FVec Ideal S128x2048 .f32) (a2 : FVec Ideal S2048x512 .f32) : FVec Ideal S128x2048 .f32 := pad S128x2048 ![0, 0] ![120, 0] ![0, 0] (rv103 a0 a1 a2) rv_call3_v0 pads_S8x2048_S128x2048_01200_000 h_S_

set_option maxRecDepth 8192 in
theorem res100 (m : (ℓ : Loc nD τ sig) → Buf (Elt Ideal) ℓ) (c : Dev nD) :
    Value.res_main_v100 m c = rv100 (m ((c.tc : Thread nD τ).loc main_arg0)) (m ((c.tc : Thread nD τ).loc main_arg1)) (m ((c.tc : Thread nD τ).loc main_arg2)) (m ((c.tc : Thread nD τ).loc main_arg3)) := by
  unfold Value.res_main_v100
  rfl

set_option maxRecDepth 8192 in
theorem res102 (m : (ℓ : Loc nD τ sig) → Buf (Elt Ideal) ℓ) (c : Dev nD) :
    Value.res_main_v102 m c = rv102 (m ((c.tc : Thread nD τ).loc main_arg0)) (m ((c.tc : Thread nD τ).loc main_arg1)) (m ((c.tc : Thread nD τ).loc main_arg2)) := by
  unfold Value.res_main_v102
  rfl

set_option maxRecDepth 8192 in
theorem res104 (m : (ℓ : Loc nD τ sig) → Buf (Elt Ideal) ℓ) (c : Dev nD) :
    Value.res_main_v104 m c = rv104 (m ((c.tc : Thread nD τ).loc main_arg0)) (m ((c.tc : Thread nD τ).loc main_arg1)) (m ((c.tc : Thread nD τ).loc main_arg2)) := by
  unfold Value.res_main_v104
  rfl

end Cert.Fox.Ref

end
-- ==== Proof.FoxRef.lean ====
/- The reference's gradients in real numbers, node by node. -/
module

public import proofs.«01_k».proof.Proof.FoxSoft
public import proofs.«01_k».proof.Proof.FoxRefDef

@[expose] public section

noncomputable section

namespace Cert.Fox.Ref

open Cert.ReferenceIdeal Cert.ReferenceIdeal.Gen Idealize.ShloMosaic Idealize.ShloMosaic.TcCoe Idealize.SL.Sem

variable {a0 : FVec Ideal S2048x3712 .f32} {a1 : FVec Ideal S128x2048 .f32} {a2 : FVec Ideal S2048x512 .f32} (H : Reals a0 a1 a2)
include H

theorem col0 (t : Fin 2048) (o h d c : ℕ) (ho : o < 3) (hh : h < 8) (hd' : d < 64) (hc : c < 3712) (he : c = 384 * (h / 2) + 128 * o + 64 * (h % 2) + d) :
    a0 (ix2 t ⟨c, hc⟩) = ((hd a0 o h t.val d : ℝ) : EReal) := by
  subst he
  exact H.h0 t _ (show 384 * (h / 2) + 128 * o + 64 * (h % 2) + d < 1536 by omega)

theorem rv4_at (h : Fin 8) (t : Fin 2048) (d : Fin 64) : rv4 a0 (ix3 t h d) = ((hd a0 0 h.val t.val d.val : ℝ) : EReal) := by
  pointwise [rv4, rv3, rv2, rv1, rv0]
  exact col0 H t 0 h.val d.val _ (by omega) h.isLt d.isLt _ (by omega)

theorem rv7_at (h : Fin 8) (t : Fin 2048) (d : Fin 64) : rv7 a0 (ix3 t h d) = ((hd a0 1 h.val t.val d.val : ℝ) : EReal) := by
  pointwise [rv7, rv6, rv5, rv1, rv0]
  exact col0 H t 1 h.val d.val _ (by omega) h.isLt d.isLt _ (by omega)

theorem rv10_at (h : Fin 8) (t : Fin 2048) (d : Fin 64) : rv10 a0 (ix3 t h d) = ((hd a0 2 h.val t.val d.val : ℝ) : EReal) := by
  pointwise [rv10, rv9, rv8, rv1, rv0]
  exact col0 H t 2 h.val d.val _ (by omega) h.isLt d.isLt _ (by omega)

theorem rv20_at (h : Fin 8) (t s : Fin 2048) : rv20 a0 a1 (ix3 h t s)
    = ((rL (hd a0 0 h.val) (hd a0 1 h.val) (bd a1 h.val) t.val s.val + bd a1 h.val t.val : ℝ) : EReal) := by
  pointwise [rv20, rv17, rv14, rv12, rv13, rv_cst, rv16, rv15, rv19, rv18, rv11]
  rw [fsum (r := fun d => hd a0 0 h.val t.val d * hd a0 1 h.val s.val d) (fun d => by rw [rv4_at H, rv7_at H, EReal.coe_mul]), eighth_bits,
    H.h1 ⟨h.val, by omega⟩ s h.isLt, H.h1 ⟨h.val, by omega⟩ t h.isLt, ← EReal.coe_mul, ← EReal.coe_add, ← EReal.coe_sub, add_sub_right_comm]
  rfl

theorem rv28_0_at (h : Fin 8) (t s : Fin 2048) : rv28_0 a0 a1 (ix3 h t s)
    = if s.val ≤ t.val then ((rL (hd a0 0 h.val) (hd a0 1 h.val) (bd a1 h.val) t.val s.val + bd a1 h.val t.val : ℝ) : EReal) else ⊥ := by
  pointwise [rv28_0, rv28_1, rv27, rv26, rv25, rv24, rv23, rv22, rv21, rv_call0_v2, rv_call0_v0, rv_cst_0]
  rw [select_le, bot_bits, rv20_at H]

omit H in
theorem max_at (X Y : FVec Ideal S8x2048 .f32) (h : Fin 8) (t : Fin 2048) : maximumf X Y (ix2 h t) = max (X (ix2 h t)) (Y (ix2 h t)) := rfl

omit H in
theorem exp_sub_at (X Y : FVec Ideal S8x2048x2048 .f32) (h : Fin 8) (t s : Fin 2048) : Host.exp (subf X Y) (ix3 h t s) = Ideal.exp (X (ix3 h t s) - Y (ix3 h t s)) := rfl

omit H in
theorem rv35_at (h : Fin 8) (t : Fin 2048) : rv35 (ix2 h t) = ⊥ := by
  pointwise [rv35, rv_cst_3]
  exact bot_bits

omit H in
theorem rv29_at (h : Fin 8) (t : Fin 2048) : rv29 a0 a1 (ix2 h t) = Finset.fold max (Ideal.ofBits .f32 4286578688#32) (fun s => rv28_0 a0 a1 (ix3 h t s)) Finset.univ := by
  pointwise [rv29, rv_cst_1]

omit H in
theorem rv47_at (h : Fin 8) (t s : Fin 2048) : rv47 a0 a1 (ix3 h t s) = rv36 a0 a1 (ix2 h t) := by
  pointwise [rv47, rv46]

theorem rv49_at (h : Fin 8) (t : Fin 2048) : ∃ W : ℝ, 0 < W
    ∧ ∀ s, rv49 a0 a1 (ix3 h t s) = ((W * rE (hd a0 0 h.val) (hd a0 1 h.val) (bd a1 h.val) t.val s.val : ℝ) : EReal) := by
  obtain ⟨M, hM, he⟩ := row_max (x := fun s => rv28_0 a0 a1 (ix3 h t s)) (t := t.val)
    (l := fun s => rL (hd a0 0 h.val) (hd a0 1 h.val) (bd a1 h.val) t.val s + bd a1 h.val t.val) (fun s => rv28_0_at H h t s)
  refine ⟨Real.exp (bd a1 h.val t.val - M), Real.exp_pos _, fun s => ?_⟩
  have h36 : rv36 a0 a1 (ix2 h t) = (M : EReal) := by
    rw [rv36, max_at, rv35_at, rv29_at, hM]
    exact max_eq_right bot_le
  rw [rv49, rv48, exp_sub_at, rv47_at, h36]
  refine (he s).trans (congrArg _ ?_)
  unfold rE
  split
  · rw [← Real.exp_add, sub_add_eq_add_sub, add_comm (bd a1 h.val t.val)]
  · rw [mul_zero]

/-- A row's weights before they are divided by their sum, and that sum, up to one positive factor. -/
theorem rv50_at (h : Fin 8) (t : Fin 2048) : ∃ W : ℝ, 0 < W
    ∧ (∀ s, rv49 a0 a1 (ix3 h t s) = ((W * rE (hd a0 0 h.val) (hd a0 1 h.val) (bd a1 h.val) t.val s.val : ℝ) : EReal))
    ∧ rv50 a0 a1 (ix2 h t) = ((W * rZ (hd a0 0 h.val) (hd a0 1 h.val) (bd a1 h.val) t.val : ℝ) : EReal) := by
  obtain ⟨W, hW, h49⟩ := rv49_at H h t
  refine ⟨W, hW, h49, ?_⟩
  pointwise [rv50, rv_cst_9]
  rw [fsum (r := fun s => W * rE (hd a0 0 h.val) (hd a0 1 h.val) (bd a1 h.val) t.val s) (fun s => h49 s), ← Finset.mul_sum]
  rfl

theorem rv53_at (h : Fin 8) (t s : Fin 2048) : rv53 a0 a1 (ix3 h t s) = ((rP (hd a0 0 h.val) (hd a0 1 h.val) (bd a1 h.val) t.val s.val : ℝ) : EReal) := by
  obtain ⟨W, hW, h49, h50⟩ := rv50_at H h t
  have hz := rZ_pos (hd a0 0 h.val) (hd a0 1 h.val) (bd a1 h.val) t.isLt
  pointwise [rv53, rv52, rv51]
  rw [h49, h50, div_real (mul_pos hW hz).ne', mul_div_mul_left _ _ hW.ne']
  rfl

theorem rv60_at (h : Fin 8) (t : Fin 2048) (d : Fin 64) : rv60 a2 (ix3 h d t) = ((gd a2 h.val t.val d.val : ℝ) : EReal) := by
  pointwise [rv60, rv59]
  refine (H.h2 t _).trans (congrArg _ ?_)
  unfold gd
  congr 1
  show _ = 64 * h.val + d.val
  try dsimp only
  omega

theorem rv61_at (h : Fin 8) (t s : Fin 2048) : rv61 a0 a2 (ix3 h t s) = ((rG (hd a0 2 h.val) (gd a2 h.val) t.val s.val : ℝ) : EReal) := by
  pointwise [rv61]
  exact fsum (r := fun d => gd a2 h.val t.val d * hd a0 2 h.val s.val d) (fun d => by rw [rv60_at H, rv10_at H, ← EReal.coe_mul])

theorem rv63_at (h : Fin 8) (s : Fin 2048) (d : Fin 64) : rv63 a0 a1 a2 (ix3 s h d)
    = ((rdv (hd a0 0 h.val) (hd a0 1 h.val) (gd a2 h.val) (bd a1 h.val) s.val d.val : ℝ) : EReal) := by
  pointwise [rv63, rv62]
  exact fsum (r := fun t => rP (hd a0 0 h.val) (hd a0 1 h.val) (bd a1 h.val) t s.val * gd a2 h.val t d.val) (fun t => by
    rw [rv60_at H, rv53_at H, ← EReal.coe_mul, mul_comm])

/-- The gradient of the masked logits. -/
theorem rv75_at (h : Fin 8) (t s : Fin 2048) : rv75 a0 a1 a2 (ix3 h t s)
    = ((rD (hd a0 0 h.val) (hd a0 1 h.val) (hd a0 2 h.val) (gd a2 h.val) (bd a1 h.val) t.val s.val : ℝ) : EReal) := by
  obtain ⟨W, hW, h49, h50⟩ := rv50_at H h t
  have hz := rZ_pos (hd a0 0 h.val) (hd a0 1 h.val) (bd a1 h.val) t.isLt
  set Z := rZ (hd a0 0 h.val) (hd a0 1 h.val) (bd a1 h.val) t.val with hZ
  have hwz : W * Z ≠ 0 := (mul_pos hW hz).ne'
  have h56 : rv56 a0 a1 (ix3 h t 0) = ((1 / (W * Z * (W * Z)) : ℝ) : EReal) := by
    pointwise [rv56, rv55, rv_cst_10, rv54, rv51]
    rw [h50, ← EReal.coe_mul, ← EReal.coe_one, div_real (mul_ne_zero hwz hwz)]
  have h66 : ∀ s : Fin 2048, rv66 a0 a1 a2 (ix3 h t s) = ((1 / (W * Z) * (rP (hd a0 0 h.val) (hd a0 1 h.val) (bd a1 h.val) t.val s.val
      * rG (hd a0 2 h.val) (gd a2 h.val) t.val s.val) : ℝ) : EReal) := by
    intro s
    pointwise [rv66, rv65, rv64]
    rw [rv61_at H, h49, h56, ← EReal.coe_mul, ← EReal.coe_mul]
    refine congrArg _ ?_
    unfold rP
    rw [← hZ]
    field_simp
  have h67 : rv67 a0 a1 a2 (ix2 h t) = ((1 / (W * Z) * rDel (hd a0 0 h.val) (hd a0 1 h.val) (hd a0 2 h.val) (gd a2 h.val) (bd a1 h.val) t.val : ℝ) : EReal) := by
    pointwise [rv67, rv_cst_11]
    rw [fsum (r := fun s => 1 / (W * Z) * (rP (hd a0 0 h.val) (hd a0 1 h.val) (bd a1 h.val) t.val s
      * rG (hd a0 2 h.val) (gd a2 h.val) t.val s)) (fun s => h66 s), ← Finset.mul_sum]
    rfl
  have h72 : rv72 a0 a1 a2 (ix2 h t) = ((-(1 / (W * Z) * rDel (hd a0 0 h.val) (hd a0 1 h.val) (hd a0 2 h.val) (gd a2 h.val) (bd a1 h.val) t.val) : ℝ) : EReal) := by
    pointwise [rv72, rv_cst_12, rv69, rv68]
    rw [Fin.sum_univ_one]
    rw [h67, ← EReal.coe_neg]
  pointwise [rv75, rv74, rv73, rv71, rv70, rv51]
  rw [rv61_at H, h72, h50, h49, div_real hwz, ← EReal.coe_add, ← EReal.coe_mul]
  refine congrArg _ ?_
  unfold rD rP
  rw [← hZ]
  field_simp
  ring

theorem rv76_at (h : Fin 8) (t s : Fin 2048) : rv76 a0 a1 a2 (ix3 h t s)
    = ((rD (hd a0 0 h.val) (hd a0 1 h.val) (hd a0 2 h.val) (gd a2 h.val) (bd a1 h.val) t.val s.val : ℝ) : EReal) := by
  pointwise [rv76, rv28_1, rv27, rv26, rv25, rv24, rv23, rv22, rv21, rv_call1_v0, rv_call1_cst]
  rw [select_le, rv75_at H]
  split
  · rfl
  · next hc => rw [rD_zero _ _ _ _ _ (not_le.mp hc)]; rfl

theorem rv81_at (h : Fin 8) (t : Fin 2048) : rv81 a0 a1 a2 (ix2 h t)
    = ((rcq (hd a0 0 h.val) (hd a0 1 h.val) (hd a0 2 h.val) (gd a2 h.val) (bd a1 h.val) t.val : ℝ) : EReal) := by
  pointwise [rv81, rv_cst_15]
  exact fsum (r := fun s => rD (hd a0 0 h.val) (hd a0 1 h.val) (hd a0 2 h.val) (gd a2 h.val) (bd a1 h.val) t.val s) (fun s => rv76_at H h t s)

theorem rv78_at (h : Fin 8) (s : Fin 2048) : rv78 a0 a1 a2 (ix2 h s)
    = ((-rck (hd a0 0 h.val) (hd a0 1 h.val) (hd a0 2 h.val) (gd a2 h.val) (bd a1 h.val) s.val : ℝ) : EReal) := by
  pointwise [rv78, rv_cst_13, rv77]
  rw [fsum (r := fun t => -rD (hd a0 0 h.val) (hd a0 1 h.val) (hd a0 2 h.val) (gd a2 h.val) (bd a1 h.val) t s.val) (fun t => by
    rw [rv76_at H, ← EReal.coe_neg]), Finset.sum_neg_distrib]
  rfl

theorem rv85_at (h : Fin 8) (t s : Fin 2048) : rv85 a0 a1 a2 (ix3 h t s)
    = ((rD (hd a0 0 h.val) (hd a0 1 h.val) (hd a0 2 h.val) (gd a2 h.val) (bd a1 h.val) t.val s.val * (1 / 8) : ℝ) : EReal) := by
  pointwise [rv85, rv84, rv_cst_17]
  rw [rv76_at H, eighth_bits, ← EReal.coe_mul]

theorem rv87_at (h : Fin 8) (s : Fin 2048) (d : Fin 64) : rv87 a0 a1 a2 (ix3 s h d)
    = ((rdk (hd a0 0 h.val) (hd a0 1 h.val) (hd a0 2 h.val) (gd a2 h.val) (bd a1 h.val) s.val d.val : ℝ) : EReal) := by
  pointwise [rv87, rv86]
  exact fsum (r := fun t => rD (hd a0 0 h.val) (hd a0 1 h.val) (hd a0 2 h.val) (gd a2 h.val) (bd a1 h.val) t s.val * (hd a0 0 h.val t d.val * (1 / 8))) (fun t => by
    rw [rv85_at H, rv4_at H, ← EReal.coe_mul, mul_assoc, mul_comm (1 / 8 : ℝ)])

theorem rv89_at (h : Fin 8) (t : Fin 2048) (d : Fin 64) : rv89 a0 a1 a2 (ix3 t h d)
    = ((rdq (hd a0 0 h.val) (hd a0 1 h.val) (hd a0 2 h.val) (gd a2 h.val) (bd a1 h.val) t.val d.val : ℝ) : EReal) := by
  pointwise [rv89, rv88]
  rw [fsum (r := fun s => rD (hd a0 0 h.val) (hd a0 1 h.val) (hd a0 2 h.val) (gd a2 h.val) (bd a1 h.val) t.val s * hd a0 1 h.val s d.val * (1 / 8)) (fun s => by
    rw [rv85_at H, rv7_at H, ← EReal.coe_mul, mul_right_comm]), ← Finset.sum_mul]
  rfl

omit H in
theorem pad_bits : (FloatOps.sitofp (F := Ideal) .f32 (0#32) : EReal) = 0 := by
  show (((0#32).toInt : ℝ) : EReal) = 0
  simp

/-- The gradient of the projection. -/
theorem rv100_at (a3 : FVec Ideal S2048x3712 .bf16) (t : Fin 2048) (x : Fin 3712) (hx : x.val < 1536) : rv100 a0 a1 a2 a3 (ix2 t x)
    = if x.val / 128 % 3 = 0 then ((rdq (hd a0 0 (x.val / 384 * 2 + x.val % 128 / 64)) (hd a0 1 (x.val / 384 * 2 + x.val % 128 / 64)) (hd a0 2 (x.val / 384 * 2 + x.val % 128 / 64)) (gd a2 (x.val / 384 * 2 + x.val % 128 / 64)) (bd a1 (x.val / 384 * 2 + x.val % 128 / 64)) t.val (x.val % 64) : ℝ) : EReal)
      else if x.val / 128 % 3 = 1 then ((rdk (hd a0 0 (x.val / 384 * 2 + x.val % 128 / 64)) (hd a0 1 (x.val / 384 * 2 + x.val % 128 / 64)) (hd a0 2 (x.val / 384 * 2 + x.val % 128 / 64)) (gd a2 (x.val / 384 * 2 + x.val % 128 / 64)) (bd a1 (x.val / 384 * 2 + x.val % 128 / 64)) t.val (x.val % 64) : ℝ) : EReal)
      else ((rdv (hd a0 0 (x.val / 384 * 2 + x.val % 128 / 64)) (hd a0 1 (x.val / 384 * 2 + x.val % 128 / 64)) (gd a2 (x.val / 384 * 2 + x.val % 128 / 64)) (bd a1 (x.val / 384 * 2 + x.val % 128 / 64)) t.val (x.val % 64) : ℝ) : EReal) := by
  have hm : x.val % 128 % 64 = x.val % 64 := by omega
  rw [← hm]
  have e0 : x.val / 128 % 3 = 0 → x.val / 128 % 3 < 1 := by omega
  have e1 : x.val / 128 % 3 ≠ 0 → ¬ x.val / 128 % 3 < 1 := by omega
  have e2 : x.val / 128 % 3 = 1 → x.val / 128 % 3 - 1 < 1 := by omega
  have e3 : x.val / 128 % 3 ≠ 0 → x.val / 128 % 3 ≠ 1 → ¬ x.val / 128 % 3 - 1 < 1 := by omega
  pointwise [rv100, rv99, rv98, rv97, rv96, rv95, rv94, rv93, rv92, rv91, rv90]
  rw [dif_pos hx]
  by_cases h0 : x.val / 128 % 3 = 0
  · rw [dif_pos (e0 h0), if_pos h0, rv89_at H]
  · rw [dif_neg (e1 h0), if_neg h0]
    by_cases h1 : x.val / 128 % 3 = 1
    · rw [dif_pos (e2 h1), if_pos h1, rv87_at H]
    · rw [dif_neg (e3 h0 h1), if_neg h1, rv63_at H]

omit H in
/-- The columns that the attention does not own pass through. -/
theorem rv100_rest (a3 : FVec Ideal S2048x3712 .bf16) (t : Fin 2048) (x : Fin 3712) (hx : 1536 ≤ x.val) : rv100 a0 a1 a2 a3 (ix2 t x) = a3 (ix2 t x) := by
  pointwise [rv100, rv99, rv98, rv97, rv96, rv95, rv94, rv93, rv92, rv91, rv90]
  rw [dif_neg (by omega)]
  refine congrArg (fun y => a3 (ix2 t y)) (Fin.ext ?_)
  show 1536 + (x.val - 1536) = x.val
  omega

theorem rv102_at (t : Fin 2048) (x : Fin 128) : rv102 a0 a1 a2 (ix2 t x)
    = if x.val < 8 then ((rcq (hd a0 0 x.val) (hd a0 1 x.val) (hd a0 2 x.val) (gd a2 x.val) (bd a1 x.val) t.val : ℝ) : EReal) else 0 := by
  pointwise [rv102, rv101, rv83, rv82, rv_call2_v0, rv_c, rv_cst_16]
  by_cases h : x.val < 8
  · rw [dif_pos h, if_pos h, Fin.sum_univ_one]
    exact rv81_at H ⟨x.val, h⟩ t
  · rw [dif_neg h, if_neg h]
    exact pad_bits

theorem rv104_at (x : Fin 128) (s : Fin 2048) : rv104 a0 a1 a2 (ix2 x s)
    = if x.val < 8 then ((rck (hd a0 0 x.val) (hd a0 1 x.val) (hd a0 2 x.val) (gd a2 x.val) (bd a1 x.val) s.val : ℝ) : EReal) else 0 := by
  pointwise [rv104, rv103, rv80, rv79, rv_call3_v0, rv_c_18, rv_cst_14]
  by_cases h : x.val < 8
  · rw [dif_pos h, if_pos h, Fin.sum_univ_one]
    refine (congrArg (fun e : EReal => -e) (rv78_at H ⟨x.val, h⟩ s)).trans ?_
    show -((-rck _ _ _ _ _ _ : ℝ) : EReal) = _
    rw [← EReal.coe_neg, neg_neg]
  · rw [dif_neg h, if_neg h]
    exact pad_bits

end Cert.Fox.Ref

end
-- ==== Proof.FoxFinal.lean ====
/- The kernel's three arrays are the reference's three results. -/
module

public import proofs.«01_k».proof.Proof.FoxInputs
public import proofs.«01_k».proof.Proof.FoxArrs
public import proofs.«01_k».proof.Proof.FoxRef

@[expose] public section

noncomputable section

namespace Cert.Fox

open Cert.KernelIdeal Cert.KernelIdeal.Gen Idealize.ShloMosaic Idealize.ShloMosaic.TcCoe Idealize.SL.Sem Idealize.ShloMosaic.Updates

variable (m : (ℓ : Loc nD τ sig) → Buf (Elt Ideal) ℓ) (c : Dev nD)
variable {a0 : FVec Ideal S2048x3712 .f32} {a1 : FVec Ideal S128x2048 .f32} {a2 : FVec Ideal S2048x512 .f32} {a3 : FVec Ideal S2048x3712 .bf16} (H : Reals a0 a1 a2)
  (e0 : m ((c : Thread nD τ).loc main_arg0) = a0) (e1 : m ((c : Thread nD τ).loc main_arg1) = a1) (e2 : m ((c : Thread nD τ).loc main_arg2) = a2)
include H e0 e1 e2

/-- The gradient of the projection. -/
theorem final7 (e3 : m ((c : Thread nD τ).loc main_arg3) = a3) : (dats m 0 c).arrAt 7 cfg0.N = Ref.rv100 a0 a1 a2 a3 := by
  funext i
  rw [eq_ix2 i]
  obtain ⟨r, hr⟩ : ∃ r : Fin 2048, i 0 = r := ⟨_, rfl⟩
  obtain ⟨x, hx⟩ : ∃ x : Fin 3712, i 1 = x := ⟨_, rfl⟩
  rw [hr, hx]
  by_cases h : x.val < 1536
  · have hj : x.val / 384 < 4 := by omega
    refine (arr7_in m c (⟨x.val / 384, hj⟩ : Fin cfg0.N) ((inputs m c H e0 e1 e2).out7 ⟨x.val / 384, hj⟩) r x rfl).trans ?_
    refine (((inputs m c H e0 e1 e2).pair (x.val / 384) hj).packed_eq r.isLt (show x.val % 384 < 384 by omega)).trans ?_
    rw [Ref.rv100_at H a3 r x h, show x.val % 384 / 128 = x.val / 128 % 3 by omega, show x.val % 384 % 128 = x.val % 128 by omega,
      show x.val % 384 % 64 = x.val % 64 by omega, Nat.mul_comm 2]
    split
    · rfl
    · split <;> rfl
  · exact (arr7_out m c r x (by omega)).trans ((congrFun e3 _).trans (Ref.rv100_rest a3 r x (by omega)).symm)

/-- The gradient of the query positions' biases. -/
theorem final8 : (dats m 0 c).arrAt 8 cfg0.N = Ref.rv102 a0 a1 a2 := by
  funext i
  rw [eq_ix2 i]
  refine (arr8 m c ((inputs m c H e0 e1 e2).out8 3 (by decide)) _ _).trans ?_
  refine Eq.trans ?_ (Ref.rv102_at H _ _).symm
  by_cases h : (i 1).val < 8
  · exact (sel_pos h _ _).trans (if_pos h).symm
  · exact (sel_neg h _ _).trans (if_neg h).symm

/-- The gradient of the key positions' biases. -/
theorem final9 : (dats m 0 c).arrAt 9 cfg0.N = Ref.rv104 a0 a1 a2 := by
  funext i
  rw [eq_ix2 i]
  refine (arr9 m c ((inputs m c H e0 e1 e2).out9 3 (by decide)) _ _).trans ?_
  refine Eq.trans ?_ (Ref.rv104_at H _ _).symm
  by_cases h : (i 0).val < 8
  · exact (sel_pos h _ _).trans (if_pos h).symm
  · exact (sel_neg h _ _).trans (if_neg h).symm

end Cert.Fox

end
-- ==== Proof.FoxPre.lean ====
/- What the precondition says: the entries that the attention reads are real numbers. -/
module

public import proofs.«01_k».proof.Pre_finite
public import proofs.«01_k».proof.Proof.FoxSoft

@[expose] public section

noncomputable section

namespace Cert.Fox.Pre

open Cert.Pre_finite Idealize.ShloMosaic

/-- The side conditions of the precondition's operations. -/
theorem facts : Cert.Pre_finite.Facts where
  slices_S2048x3712_S2048x1536_0_0 := by decide
  bcast_S_S2048x1536 := by decide
  slices_S128x2048_S8x2048_0_0 := by decide
  bcast_S_S8x2048 := by decide
  bcast_S_S2048x512 := by decide

theorem inf_bits : Ideal.ofBits .f32 2139095040#32 = ⊤ := by simp [Ideal.ofBits, Ideal.ieee]

/-- An entry whose absolute value is below infinity is neither infinity. -/
theorem of_abs_lt {x : EReal} (h : BitVec.ofBool (decide (max x (-x) < Ideal.ofBits .f32 2139095040#32)) = 1#1) : x ≠ ⊥ ∧ x ≠ ⊤ := by
  rw [inf_bits] at h
  have hlt : max x (-x) < ⊤ := by
    by_contra hn
    rw [decide_eq_false hn] at h
    exact absurd h (by decide)
  constructor
  · rintro rfl
    simp at hlt
  · rintro rfl
    simp at hlt

variable [Facts] {a0 : FVec Ideal S2048x3712 .f32} {a1 : FVec Ideal S128x2048 .f32} {a2 : FVec Ideal S2048x512 .f32} {a3 : FVec Ideal S2048x3712 .bf16} {a4 : FVec Ideal S8x128 .f32}

theorem reals (h0 : (fn a0 a1 a2 a3 a4).1 = (fun _ => 1#1)) (h1 : (fn a0 a1 a2 a3 a4).2.1 = (fun _ => 1#1)) (h2 : (fn a0 a1 a2 a3 a4).2.2 = (fun _ => 1#1)) : Reals a0 a1 a2 where
  h0 t x hx := by
    have h := congrFun h0 (ix2 t ⟨x.val, hx⟩)
    unfold fn at h
    pointwise [] at h
    exact realAt_eq (of_abs_lt h).1 (of_abs_lt h).2
  h1 x s hx := by
    have h := congrFun h1 (ix2 ⟨x.val, hx⟩ s)
    unfold fn at h
    pointwise [] at h
    exact realAt_eq (of_abs_lt h).1 (of_abs_lt h).2
  h2 t x := by
    have h := congrFun h2 (ix2 t x)
    unfold fn at h
    pointwise [] at h
    exact realAt_eq (of_abs_lt h).1 (of_abs_lt h).2

end Cert.Fox.Pre

end
-- ==== Proof.FoxKernel.lean ====
/- The kernel is its idealization read over words, the named constant standing for its word; so its frame is the idealization's. -/
module

public import proofs.«01_k».proof.Defs
public import proofs.«01_k».proof.Proof.Gen.Kernel
public import proofs.«01_k».proof.Proof.FoxFrame

@[expose] public section

set_option maxHeartbeats 4000000

noncomputable section

namespace Cert.Fox

open Idealize.ShloMosaic Idealize.SL.Sem

/-- Over words a named constant is its word. -/
local instance : Named Bits where
  named _ _ φ b := Scalar.ofBits φ b

local instance : Cert.Kernel.Facts := Cert.Kernel.Gen.facts

theorem body_eq : Cert.Kernel.cc0_fox_bwd (F := Bits) = Cert.KernelIdeal.cc0_fox_bwd (F := Bits) := rfl

theorem main_eq : Cert.Kernel.main (F := Bits) = Cert.KernelIdeal.main (F := Bits) := rfl

theorem defs₀_eq : Cert.Kernel.defs₀ (F := Bits) = Cert.KernelIdeal.defs₀ (F := Bits) := by
  unfold Cert.Kernel.defs₀ Cert.KernelIdeal.defs₀
  rw [body_eq]
  refine congrArg Defs.onTc (funext fun l => funext fun x => ?_)
  match l, x with
  | ⟨0, _⟩, (t, s) => rfl

theorem defs_eq : Cert.Kernel.defs (F := Bits) = Cert.KernelIdeal.defs (F := Bits) := by
  unfold Cert.Kernel.defs
  rw [defs₀_eq]
  rfl

/-- The frame of the kernel. -/
theorem frame_kernel : Cert.quiescent_Kernel := by
  intro m ρ _
  rw [defs_eq, main_eq]
  exact Cert.Fox.frame (F := Bits) m ρ

end Cert.Fox

end
-- ==== Proof.StepProd.lean ====
/- Products and blocks of the remaining calls, as arrays indexed by pairs of naturals. -/
module

public import proofs.«01_k».proof.Proof.FoxArr
public import Idealize.ShloMosaic.Lib.Updates.Window
public import Idealize.ShloMosaic.Lib.Pipeline.ValueKit
public import Idealize.ShloMosaic.Lib.KernelVsHost
public import Idealize.ShloMosaic.Lib.Quiescent
public import Idealize.ShloMosaic.Adequacy
public import Idealize.ShloMosaic.Init

@[expose] public section

noncomputable section

namespace Cert.Step

open Idealize.ShloMosaic Idealize.ShloMosaic.Updates Cert.Fox
open Idealize.ShloMosaic.LaneScatter (Blk)
open Idealize.ShloMosaic.Pipeline (Dat)

variable {R C K M N : ℕ} {φ ψ χ : FTy}

/-- Two blocks that are equal arrays within their bounds are equal. -/
theorem arr_ext {X Y : (Blk R C).Idx → EReal} {A B : Arr EReal} (hX : IsArr X A) (hY : IsArr Y B)
    (h : ∀ r c, r < R → c < C → A (r, c) = B (r, c)) : X = Y := by
  funext ι
  rw [hX, hY]
  exact h _ _ (ι 0).isLt (ι 1).isLt

/-- The host's product with the right operand turned. -/
theorem arr_dnt {d : DotDims (Blk M K) (Blk N K) (Blk M N)} {x : FVec Ideal (Blk M K) φ} {y : FVec Ideal (Blk N K) φ} {A B : Arr EReal}
    (hx : IsArr x A) (hy : IsArr y B) (hd : d = DotDims.transposedRhs M K N) :
    IsArr (β := EReal) (Host.dotGeneral (F := Ideal) d none x y) (fun p => ∑ k ∈ Finset.range K, A (p.1, k) * B (p.2, k)) := by
  rw [← matmul_zero_eq_dotGeneral]
  exact arr_nt (x := x) (y := y) hx hy hd

/-- The host's product with the left operand turned. -/
theorem arr_dtn {d : DotDims (Blk K M) (Blk K N) (Blk M N)} {x : FVec Ideal (Blk K M) φ} {y : FVec Ideal (Blk K N) φ} {A B : Arr EReal}
    (hx : IsArr x A) (hy : IsArr y B) (hd : TransLhs d) :
    IsArr (β := EReal) (Host.dotGeneral (F := Ideal) d none x y) (fun p => ∑ k ∈ Finset.range K, A (k, p.1) * B (k, p.2)) := by
  rw [← matmul_zero_eq_dotGeneral]
  exact arr_tn (x := x) (y := y) hx hy hd

/-- The host's plain product. -/
theorem arr_dnn {d : DotDims (Blk M K) (Blk K N) (Blk M N)} {x : FVec Ideal (Blk M K) φ} {y : FVec Ideal (Blk K N) φ} {A B : Arr EReal}
    (hx : IsArr x A) (hy : IsArr y B) (hd : d = DotDims.plain M K N) :
    IsArr (β := EReal) (Host.dotGeneral (F := Ideal) d none x y) (fun p => ∑ k ∈ Finset.range K, A (p.1, k) * B (k, p.2)) := by
  rw [← matmul_zero_eq_dotGeneral]
  exact arr_nn (x := x) (y := y) hx hy hd

theorem arr_extf {x : FVec Ideal (Blk R C) φ} {A : Arr EReal} (hx : IsArr x A) (h : φ.bits < ψ.bits) :
    IsArr (β := EReal) (extf ψ x h) A := fun ι => hx ι

theorem arr_maxf {x y : FVec Ideal (Blk R C) φ} {A B : Arr EReal} (hx : IsArr x A) (hy : IsArr y B) :
    IsArr (β := EReal) (maximumf x y) (fun p => max (A p) (B p)) := fun ι => congrArg₂ (max : EReal → EReal → EReal) (hx ι) (hy ι)

theorem arr_turn {β : Type} {x : (Blk R C).Idx → β} {A : Arr β} (hx : IsArr x A) (h : (Blk R C).Transposes [1, 0] (Blk C R)) :
    IsArr (transpose (Blk C R) [1, 0] x h) (fun p => A (p.2, p.1)) := fun ι => by
  pointwise
  rw [hx]
  rfl

theorem arr_bcast0 {w : BitVec 32} (h) : IsArr (β := EReal) (broadcastInDim (Blk R C) ![] h (constant (F := Ideal) ⟨0, ![]⟩ FTy.f32 w)) (fun _ => Ideal.ofBits .f32 w) := fun ι => rfl

theorem arr_splat {w : BitVec 32} : IsArr (β := EReal) (broadcast (Blk R C) (FloatOps.ofBits (F := Ideal) FTy.f32 w)) (fun _ => Ideal.ofBits .f32 w) := fun ι => rfl

section
variable {nD : Nat} {τ : Topo} {sig : RefSig} {Val : EltTy → Type}
variable {Ix : Type} [DecidableEq Ix] {Name : Type} [DecidableEq Name] {U : Type} [Idealize.SL.RA.URA U] {Lvl : Type}
variable {Λ₀ : Idealize.SL.Sem.Labels} {cfg : Pipeline.Cfg sig Λ₀} {c : Dev nD} (dat : Dat τ Val Ix Name U Lvl cfg c)

/-- The three-dimensional array whose outer two axes are the rows of `A`, `h` of them at a time. -/
def IsCube {g h w : ℕ} (Y : (⟨3, ![g, h, w]⟩ : Shape).Idx → EReal) (A : Arr EReal) : Prop :=
  ∀ j, Y j = A ((j 0).val * h + (j 1).val, (j 2).val)

theorem cube_ext {g h w : ℕ} {X Y : (⟨3, ![g, h, w]⟩ : Shape).Idx → EReal} {A B : Arr EReal} (hX : IsCube X A) (hY : IsCube Y B)
    (e : ∀ p, A p = B p) : X = Y := by
  funext j
  rw [hX, hY]
  exact e _

theorem cube_cast {g h w : ℕ} {x : (Blk R w).Idx → EReal} {A : Arr EReal} (hx : IsArr x A) (hc : (Blk R w).ShapeCasts ⟨3, ![g, h, w]⟩) :
    IsCube (shapeCast ⟨3, ![g, h, w]⟩ x hc) A := fun j => by
  have h0 : (j 0).val < g := (j 0).isLt
  have h1 : (j 1).val < h := (j 1).isLt
  have h2 : (j 2).val < w := (j 2).isLt
  have hn : g * h * w = R * w := by simpa [Shape.ShapeCasts, Shape.numel, Fin.prod_univ_succ, mul_assoc] using hc
  have hR : g * h = R := Nat.eq_of_mul_eq_mul_right (by omega) hn
  have hl : (j 0).val * h + (j 1).val < R := by
    have : ((j 0).val + 1) * h ≤ g * h := Nat.mul_le_mul_right h h0
    rw [Nat.add_mul, Nat.one_mul] at this
    omega
  refine (shapeCast_apply x hc j (ix2 ⟨_, hl⟩ (j 2)) ?_).trans (hx _)
  rw [Shape.rowMajor_val_two, Shape.rowMajor_val_three]
  rfl

/-- A matrix cut into `g` groups of `w` columns. -/
theorem cut_cols {g h w n : ℕ} {x : (Blk h n).Idx → EReal} {A : Arr EReal} (hx : IsArr x A) (hc : (Blk h n).ShapeCasts ⟨3, ![h, g, w]⟩)
    (ht : (⟨3, ![h, g, w]⟩ : Shape).Transposes [1, 0, 2] ⟨3, ![g, h, w]⟩) (hn : n = g * w) (j) :
    transpose ⟨3, ![g, h, w]⟩ [1, 0, 2] (shapeCast ⟨3, ![h, g, w]⟩ x hc) ht j = A ((j 1).val, (j 0).val * w + (j 2).val) := by
  have h0 : (j 0).val < g := (j 0).isLt
  have h2 : (j 2).val < w := (j 2).isLt
  have hl : (j 0).val * w + (j 2).val < n := by
    have : ((j 0).val + 1) * w ≤ g * w := Nat.mul_le_mul_right w h0
    rw [Nat.add_mul, Nat.one_mul] at this
    omega
  refine (transpose_apply _ _ ht j (ix3 (j 1) (j 0) (j 2)) fun a => ?_).trans ?_
  · fin_cases a <;> rfl
  refine (shapeCast_apply x hc _ (ix2 (j 1) ⟨_, hl⟩) ?_).trans (hx _)
  rw [Shape.rowMajor_val_two, Shape.rowMajor_val_three]
  show (j 1).val * n + ((j 0).val * w + (j 2).val) = ((j 1).val * g + (j 0).val) * w + (j 2).val
  rw [hn, Nat.add_mul, Nat.mul_assoc, Nat.add_assoc]

/-- The element of an output array that a flushing point's block covers is what the point wrote back there. -/
theorem arrAt_block (w : Fin cfg.W)
    (hdisj : ∀ t t' : Fin cfg.N, (cfg.win w).flush t = true → (cfg.win w).flush t' = true → t ≠ t' →
      Disjoint ((cfg.win w).blk t).view.set ((cfg.win w).blk t').view.set)
    (t : Fin cfg.N) (hf : (cfg.win w).flush t = true) (j : (cfg.win w).shape.Idx) (hk : (cfg.win w).kind = .blocked)
    (h : ∀ a, (cfg.win w).index t a * (cfg.win w).size a ≤ j a ∧ (j a : ℕ) < (cfg.win w).index t a * (cfg.win w).size a + (cfg.win w).xsize (cfg.grid.coords t) a) :
    ∃ y : ((cfg.win w).xblock (cfg.grid.coords t)).Idx, (∀ a, (cfg.win w).index t a * (cfg.win w).size a + (y a : ℕ) = j a) ∧
      dat.arrAt w cfg.N ((cfg.win w).arr.view.emb j) = _root_.cast (congrArg Val ((cfg.win w).blk t).view.elt_eq.symm) (dat.flushed w t y) := by
  have hx : ∀ a, (j a : ℕ) - (cfg.win w).index t a * (cfg.win w).size a < (cfg.win w).xsize (cfg.grid.coords t) a := fun a => by have := h a; omega
  refine ⟨fun a => ⟨_, hx a⟩, fun a => Nat.add_sub_cancel' (h a).1, ?_⟩
  rw [← dat.arrAt_emb_eq_flushed w hdisj t hf]
  show _ = dat.arrAt w cfg.N ((cfg.win w).arr.view.emb (((cfg.win w).rect t).emb _))
  congr 2
  funext a
  refine Fin.ext ?_
  rw [(cfg.win w).rect_emb_val t _ a hk]
  exact (Nat.add_sub_cancel' (h a).1).symm

/-- The element of an output array written back `s` whole rows at a time. -/
theorem arrAt_rows (w : Fin cfg.W)
    (hdisj : ∀ t t' : Fin cfg.N, (cfg.win w).flush t = true → (cfg.win w).flush t' = true → t ≠ t' →
      Disjoint ((cfg.win w).blk t).view.set ((cfg.win w).blk t').view.set)
    (hf : ∀ t, (cfg.win w).flush t = true) (hk : (cfg.win w).kind = .blocked) (a0 a1 : Fin (cfg.win w).shape.rank) (s n : ℕ)
    (ha : ∀ a, a = a0 ∨ a = a1)
    (hi : ∀ t, (cfg.win w).index t a0 = t.val ∧ (cfg.win w).index t a1 = 0 ∧ (cfg.win w).xsize (cfg.grid.coords t) a0 = s ∧
      (cfg.win w).xsize (cfg.grid.coords t) a1 = n)
    (hs : (cfg.win w).size a0 = s) (j : (cfg.win w).shape.Idx) (h0 : (j a0 : ℕ) < s * cfg.N) (h1 : (j a1 : ℕ) < n) :
    ∃ (t : Fin cfg.N) (y : ((cfg.win w).xblock (cfg.grid.coords t)).Idx), s * t.val + (y a0 : ℕ) = j a0 ∧ (y a1 : ℕ) = j a1 ∧
      dat.arrAt w cfg.N ((cfg.win w).arr.view.emb j) = _root_.cast (congrArg Val ((cfg.win w).blk t).view.elt_eq.symm) (dat.flushed w t y) := by
  have hp : 0 < s := Nat.pos_of_ne_zero fun h => by rw [h, Nat.zero_mul] at h0; exact Nat.not_lt_zero _ h0
  obtain ⟨t, ht⟩ : ∃ t : Fin cfg.N, t.val = (j a0 : ℕ) / s := ⟨⟨_, Nat.div_lt_of_lt_mul h0⟩, rfl⟩
  obtain ⟨i0, i1, x0, x1⟩ := hi t
  have hm := Nat.div_add_mod (j a0 : ℕ) s
  have hl := Nat.mod_lt (j a0 : ℕ) hp
  rw [← ht] at hm
  obtain ⟨y, hy, e⟩ := arrAt_block dat w hdisj t (hf t) j hk fun a => by
    rcases ha a with rfl | rfl
    · rw [i0, x0, hs, Nat.mul_comm]
      omega
    · rw [i1, x1, Nat.zero_mul]
      omega
  have e0 := hy a0
  have e1 := hy a1
  rw [i0, hs, Nat.mul_comm] at e0
  rw [i1, Nat.zero_mul, Nat.zero_add] at e1
  exact ⟨t, y, e0, e1, e⟩

end

theorem rows_val {i t s y : ℕ} (h : i = t) : i * s + y = s * t + y := by rw [h, Nat.mul_comm]

/-- The row of a block's row. -/
theorem row_of {t g h n y0 y1 j0 j1 : ℕ} (e0 : t * g + y0 = j0) (e1 : 0 * h + y1 = j1) (hn : g * h = n) : j0 * h + j1 = n * t + (y0 * h + y1) := by
  subst e0 e1 hn
  ring

theorem col_of {w y j : ℕ} (e : 0 * w + y = j) : j = y := by omega

theorem one_row {h y0 y1 j1 : ℕ} (e1 : 0 * h + y1 = j1) (hy : y0 < 1) : y0 * h + y1 = j1 := by
  obtain rfl : y0 = 0 := by omega
  exact e1

end Cert.Step

end
-- ==== Proof.StepAdam.lean ====
module

public import proofs.«01_k».proof.Proof.StepProd
public import Idealize.ShloMosaic.Lib.Pipeline.ValueKit
public import Idealize.ShloMosaic.Lib.Pointwise.Reduce
public import Idealize.ShloMosaic.Lib.IdealHost

@[expose] public section
noncomputable section
namespace Cert.StepAdam
open Idealize.ShloMosaic

/-- The float of a word. -/
abbrev w32 (b : BitVec 32) : EReal := (Scalar.ofBits .f32 b : Ideal .f32)
/-- The new first moment. -/
def nm (g m : EReal) : EReal := w32 0x3F666666#32 * m + w32 0x3DCCCCCD#32 * g
/-- The new second moment. -/
def nv (g v : EReal) : EReal := w32 0x3F7FBE77#32 * v + w32 0x3A83126F#32 * (g * g)
/-- The step. -/
def dl (g w m v : EReal) : EReal := w32 0xBA83126F#32 *
  (Ideal.div (Ideal.div (nm g m) (w32 0x3F26BD02#32)) (Ideal.sqrt (Ideal.div (nv g v) (w32 0x3C231ACC#32)) + w32 0x322BCC77#32) + w32 0x3C23D70A#32 * w)

variable {n p r k : ℕ}

/-- The gradient at an index: the device's own slot and the received ones. -/
def gs (own : (⟨3, ![p + 1, r, k]⟩ : Shape).Idx → EReal) (z : (⟨3, ![n + 1, r, k]⟩ : Shape).Idx → EReal) (i : Fin r) (j : Fin k) : EReal :=
  own (ix3 0 i j) + ∑ d : Fin n, z (ix3 d.succ i j)

theorem add2 {a b c d : EReal} (h : a = c) (g : b = d) : a + b = c + d := by rw [h, g]

theorem gs7 {a : EReal} {own : (⟨3, ![1, r, k]⟩ : Shape).Idx → EReal} {z : (⟨3, ![8, r, k]⟩ : Shape).Idx → EReal} {i : Fin r} {j : Fin k}
    (h : a = own (ix3 0 i j) + z (ix3 1 i j) + z (ix3 2 i j) + z (ix3 3 i j) + z (ix3 4 i j) + z (ix3 5 i j) + z (ix3 6 i j) + z (ix3 7 i j)) : a = gs (n := 7) (p := 0) own z i j := by
  rw [h, gs, Fin.sum_univ_seven]
  simp only [add_assoc]
  rfl

theorem gs3 {a : EReal} {own : (⟨3, ![1, r, k]⟩ : Shape).Idx → EReal} {z : (⟨3, ![4, r, k]⟩ : Shape).Idx → EReal} {i : Fin r} {j : Fin k}
    (h : a = own (ix3 0 i j) + z (ix3 1 i j) + z (ix3 2 i j) + z (ix3 3 i j)) : a = gs (n := 3) (p := 0) own z i j := by
  rw [h, gs, Fin.sum_univ_three]
  simp only [add_assoc]
  rfl

theorem cut {α : Type} (d : ℕ) (x : (⟨3, ![n, r, k]⟩ : Shape).Idx → α) (hd : d < n) (s : (⟨3, ![n, r, k]⟩ : Shape).Slices ![d, 0, 0] ⟨3, ![1, r, k]⟩)
    (hc : (⟨3, ![1, r, k]⟩ : Shape).ShapeCasts ⟨2, ![r, k]⟩) (ι : (⟨2, ![r, k]⟩ : Shape).Idx) :
    shapeCast ⟨2, ![r, k]⟩ (extractStridedSlice ⟨3, ![1, r, k]⟩ ![d, 0, 0] x s) hc ι = x (ix3 ⟨d, hd⟩ (ι 0) (ι 1)) := by
  rw [shapeCast_dropUnit_apply]
  refine congrArg x (funext fun a => Fin.ext ?_)
  match a with
  | ⟨0, _⟩ => exact Nat.add_zero d
  | ⟨1, _⟩ => exact Nat.zero_add _
  | ⟨2, _⟩ => exact Nat.zero_add _

theorem refg (own zone : FVec Ideal ⟨3, ![n + 1, r, k]⟩ .bf16) (s0 : (⟨3, ![n + 1, r, k]⟩ : Shape).Slices ![0, 0, 0] ⟨3, ![1, r, k]⟩)
    (hc : (⟨3, ![1, r, k]⟩ : Shape).ShapeCasts ⟨2, ![r, k]⟩) (s1 : (⟨3, ![n + 1, r, k]⟩ : Shape).Slices ![1, 0, 0] ⟨3, ![n, r, k]⟩)
    (hr : (⟨3, ![n, r, k]⟩ : Shape).ReducesTo [0] ⟨2, ![r, k]⟩) (hu : 0 < (⟨0, ![]⟩ : Shape).numel) (b) (ι : (⟨2, ![r, k]⟩ : Shape).Idx) :
    addf (F := Ideal) (extf .f32 (shapeCast _ (extractStridedSlice ⟨3, ![1, r, k]⟩ ![0, 0, 0] own s0) hc) b)
      (Host.reduceAdd (extf .f32 (extractStridedSlice ⟨3, ![n, r, k]⟩ ![1, 0, 0] zone s1) b) (constant ⟨0, ![]⟩ .f32 0x00000000#32) hr hu) ι = gs own zone (ι 0) (ι 1) := by
  have e : ∀ d : Fin n, extractStridedSlice ⟨3, ![n, r, k]⟩ ![1, 0, 0] zone s1 (ix3 d (ι 0) (ι 1)) = zone (ix3 d.succ (ι 0) (ι 1)) := fun d =>
    congrArg zone (funext fun a => Fin.ext (by
      match a with
      | ⟨0, _⟩ => exact Nat.add_comm 1 _
      | ⟨1, _⟩ => exact Nat.zero_add _
      | ⟨2, _⟩ => exact Nat.zero_add _))
  refine add2 (cut 0 own (Nat.succ_pos n) s0 hc ι) ?_
  rw [ValueIdx.hostReduceAdd_apply, Ideal.hostReduceAdd_r3_a0]
  refine (congrArg₂ (· + ·) Ideal.ofBits_zero_f32 (Finset.sum_congr rfl fun d _ => e d)).trans (zero_add _)
end Cert.StepAdam
-- ==== Proof.StepAdamUp.lean ====
module

public import proofs.«01_k».proof.Defs
public import proofs.«01_k».proof.Proof.StepAdam
public import proofs.«01_k».proof.Proof.Gen.KernelAdamUp.Frame
public import proofs.«01_k».proof.Proof.Gen.KernelAdamUpIdeal.Frame
public import proofs.«01_k».proof.Proof.Gen.ReferenceAdamUpIdeal.Run

@[expose] public section
noncomputable section
namespace Cert.StepAdamUp.Printed
open Cert.KernelAdamUp Cert.KernelAdamUp.Gen Idealize.ShloMosaic Idealize.ShloMosaic.TcCoe
section
variable {F : FTy → Type} [FloatOps F]
theorem zero_word (m : (ℓ : Loc nD τ sig) → Buf (Elt F) ℓ) (j) : tbl m 0 j = 0#32 := by
  have e : StableHlo.after hostOps0 (fun b => m (0, b)) main_v4 = (fun _ => 0#32) := by
    simp only [hostOps0]
    after_results_simp
    rfl
  exact congrFun e j

theorem ix (m : (ℓ : Loc nD τ sig) → Buf (Elt F) ℓ) (i : grid0.Coords) : cc0_transform_1 Facts₀.inb_S1_S1_0 Facts₀.numel1_S1 (tbl m) i = ![0, (BitVec.ofNat 32 (i 0).val).toNat, 0] := by
  unfold cc0_transform_1
  simp only [zero_word]
  rfl

theorem ok (m : (ℓ : Loc nD τ sig) → Buf (Elt F) ℓ) : Ok m := by
  intro i
  rw [ix]
  revert i
  decide +kernel
end
end Cert.StepAdamUp.Printed

namespace Cert.StepAdamUp
open Cert.KernelAdamUpIdeal Cert.KernelAdamUpIdeal.Gen StepAdam Idealize.ShloMosaic Idealize.ShloMosaic.TcCoe Idealize.SL.Sem
section
variable {F : FTy → Type} [FloatOps F]
theorem zero_word (m : (ℓ : Loc nD τ sig) → Buf (Elt F) ℓ) (j) : tbl m 0 j = 0#32 := by
  have e : StableHlo.after hostOps0 (fun b => m (0, b)) main_v4 = (fun _ => 0#32) := by
    simp only [hostOps0]
    after_results_simp
    rfl
  exact congrFun e j

theorem ix (m : (ℓ : Loc nD τ sig) → Buf (Elt F) ℓ) (i : grid0.Coords) : cc0_transform_1 Facts₀.inb_S1_S1_0 Facts₀.numel1_S1 (tbl m) i = ![0, (BitVec.ofNat 32 (i 0).val).toNat, 0] := by
  unfold cc0_transform_1
  simp only [zero_word]
  rfl

theorem ok (m : (ℓ : Loc nD τ sig) → Buf (Elt F) ℓ) : Ok m := by
  intro i
  rw [ix]
  revert i
  decide +kernel
end

theorem grad0 (c : Dev nD) (a2 : Memref sig .tc .vmem S8x256x512 .bf16) (h2 : a2.IsWhole) (a3 : Memref sig .tc .vmem S1x256x512 .bf16) (h3 : a3.IsWhole)
    (x0 : Vec Ideal S8x256x512 .bf16) (x1 : Vec Ideal S1x256x512 .bf16) (xt : TbBuf0 (F := Ideal) c tbM0_0) (hx : ∀ j, xt j = 0#32) :
    (k0_pay5 (kernelRun0_A.sl.r_3 c a2 h2 a3 h3 x0 x1 xt) (kernelRun0_A.sl.r c xt)
      (View.readAt (Elt Ideal) a3.view (Rect.unit (s := S1x256x512) ![0, 0, 0] ![1, 256, 512] inb_S1x256x512_S1x256x512_0_0_0).toLoadRect (h3.unread x1))
      (View.readAt (Elt Ideal) a2.view (Rect.unit (s := S8x256x512) ![7, 0, 0] ![1, 256, 512] inb_S8x256x512_S1x256x512_7_0_0).toLoadRect (h2.unread x0)) : S256x512.Idx → EReal) = fun y => gs (n := 7) (p := 0) x1 x0 (y 0) (y 1) := by
  funext y
  unfold kernelRun0_A.sl.r_3 kernelRun0_A.sl.r_1 kernelRun0_A.sl.r_2 kernelRun0_A.sl.v27
  simp only [View.readAt_eq_ld, h2.read_unread, h3.read_unread]
  have hw : kernelRun0_A.sl.r c xt = (0#32 : Elt Ideal .i32) := hx _
  have hw' : (View.ld (View.read (Elt Ideal) (View.whole main_v4) xt) (Rect.unit ![0] ![1] inb_S1_S1_0) : S1.Idx → Elt Ideal .i32) = fun _ => 0#32 := funext fun _ => hx _
  simp only [hw, hw', View.ld_unit]
  unfold k0_pay5 k0_pay4 k0_pay3 k0_pay2
  dsimp only
  have z := fun d hd s => cut (n := 8) (r := 256) (k := 512) d x0 hd s shapeCasts_S1x256x512_S256x512 y
  exact gs7 (add2 (add2 (add2 (add2 (add2 (add2 (add2 (cut (n := 1) 0 x1 (by decide) ⟨rfl, inb_S1x256x512_S1x256x512_0_0_0⟩ shapeCasts_S1x256x512_S256x512 y) (z 1 (by decide) ⟨rfl, inb_S8x256x512_S1x256x512_1_0_0⟩)) (z 2 (by decide) ⟨rfl, inb_S8x256x512_S1x256x512_2_0_0⟩)) (z 3 (by decide) ⟨rfl, inb_S8x256x512_S1x256x512_3_0_0⟩)) (z 4 (by decide) ⟨rfl, inb_S8x256x512_S1x256x512_4_0_0⟩)) (z 5 (by decide) ⟨rfl, inb_S8x256x512_S1x256x512_5_0_0⟩)) (z 6 (by decide) ⟨rfl, inb_S8x256x512_S1x256x512_6_0_0⟩)) (z 7 (by decide) ⟨rfl, inb_S8x256x512_S1x256x512_7_0_0⟩))

theorem outs {c i a2 h2 a3 h3 a4 h4 a5 h5 a6 h6 a7 h7 a8 h8 a9 h9 a10 h10} {x0 : Vec Ideal S8x256x512 .bf16} {x1 : Vec Ideal S1x256x512 .bf16} {x2 x3 x4 xt} (hx : ∀ j, xt j = 0#32) :
    (out0_A_5 c i a2 h2 a3 h3 a4 h4 a5 h5 a6 h6 a7 h7 a8 h8 a9 h9 a10 h10 x0 x1 x2 x3 x4 xt = fun y => gs (n := 7) (p := 0) x1 x0 (y 0) (y 1)) ∧
    (out0_A_6 c i a2 h2 a3 h3 a4 h4 a5 h5 a6 h6 a7 h7 a8 h8 a9 h9 a10 h10 x0 x1 x2 x3 x4 xt = fun y => dl (gs (n := 7) (p := 0) x1 x0 (y 0) (y 1)) (x2 y) (x3 y) (x4 y)) ∧
    (out0_A_7 c i a2 h2 a3 h3 a4 h4 a5 h5 a6 h6 a7 h7 a8 h8 a9 h9 a10 h10 x0 x1 x2 x3 x4 xt = fun y => nm (gs (n := 7) (p := 0) x1 x0 (y 0) (y 1)) (x3 y)) ∧
    (out0_A_8 c i a2 h2 a3 h3 a4 h4 a5 h5 a6 h6 a7 h7 a8 h8 a9 h9 a10 h10 x0 x1 x2 x3 x4 xt = fun y => nv (gs (n := 7) (p := 0) x1 x0 (y 0) (y 1)) (x4 y)) := by
  have hg := grad0 c a2 h2 a3 h3 x0 x1 xt hx
  unfold out0_A_5 out0_A_6 out0_A_7 out0_A_8
  rw [View.read_writes_eq_canon _ _ _ (fun _ => cover0_A_5 ..), View.read_writes_eq_canon _ _ _ (fun _ => cover0_A_6 ..), View.read_writes_eq_canon _ _ _ (fun _ => cover0_A_7 ..), View.read_writes_eq_canon _ _ _ (fun _ => cover0_A_8 ..)]
  unfold kernelRun0_A
  dsimp only
  refine ⟨?_, ?_, ?_, ?_⟩ <;> rw [View.canon_unit_zero (by decide)]
  · exact hg
  · unfold kernelRun0_A.sl.r_6 k0_pay1 k0_pay8 k0_pay7 k0_pay6
    dsimp only
    rw [hg]
    simp only [View.readAt_eq_ld, h4.read_unread, h5.read_unread, h6.read_unread, View.ld_unit_zero (S := S256x512) (by decide : (![0, 0] : Fin 2 → ℕ) = fun _ => 0)]
    rfl
  · unfold kernelRun0_A.sl.r_4 k0_pay6
    dsimp only
    rw [hg]
    simp only [View.readAt_eq_ld, h5.read_unread, View.ld_unit_zero (S := S256x512) (by decide : (![0, 0] : Fin 2 → ℕ) = fun _ => 0)]
    rfl
  · unfold kernelRun0_A.sl.r_5 k0_pay7
    dsimp only
    rw [hg]
    simp only [View.readAt_eq_ld, h6.read_unread, View.ld_unit_zero (S := S256x512) (by decide : (![0, 0] : Fin 2 → ℕ) = fun _ => 0)]
    rfl

variable (m : (ℓ : Loc nD τ sig) → Buf (Elt Ideal) ℓ) (c : Dev nD)

/-- An index of a point's block, in the array. -/
abbrev at5 (t : Fin grid0.N) (y : S256x512.Idx) : S1024x512.Idx := (((cfgM m (ok m)).win 5).blk t).view.emb y

/-- The four arrays. -/
def G5 : S1024x512.Idx → EReal := fun ι => gs (n := 7) (p := 7) (V m c main_arg1) (V m c main_arg0) (ι 0) (ι 1)
def G6 : S1024x512.Idx → EReal := fun ι => dl (G5 m c ι) (V m c main_arg2 ι) (V m c main_arg3 ι) (V m c main_arg4 ι)
def G7 : S1024x512.Idx → EReal := fun ι => nm (G5 m c ι) (V m c main_arg3 ι)
def G8 : S1024x512.Idx → EReal := fun ι => nv (G5 m c ι) (V m c main_arg4 ι)

theorem grad (t : Fin grid0.N) (y : S256x512.Idx) : gs (n := 7) (p := 0) (iblk m (ok m) c 1 t) (iblk m (ok m) c 0 t) (y 0) (y 1) = G5 m c (at5 m t y) := by
  refine add2 (congrArg (V m c main_arg1) (funext fun a => Fin.ext ?_)) (Finset.sum_congr rfl fun d _ => congrArg (V m c main_arg0) (funext fun a => Fin.ext ?_))
  · have e : ((cfgM m (ok m)).win 1).index t = ![0, (BitVec.ofNat 32 (grid0.coords t 0).val).toNat, 0] := ix m (grid0.coords t)
    match a with
    | ⟨0, _⟩ => exact ((cfgM m (ok m)).win 1).rect_emb_val_of_index_zero t (0 : Fin 3) (congrFun e (0 : Fin 3)) _
    | ⟨1, _⟩ =>
      refine (((cfgM m (ok m)).win 1).rect_emb_val t _ (1 : Fin 3)).trans (Eq.trans ?_ (((cfgM m (ok m)).win 5).rect_emb_val t y (0 : Fin 2)).symm)
      rw [e]
      rfl
    | ⟨2, _⟩ => exact (((cfgM m (ok m)).win 1).rect_emb_val_of_index_zero t (2 : Fin 3) (congrFun e (2 : Fin 3)) _).trans (((cfgM m (ok m)).win 5).rect_emb_val_of_index_zero t (1 : Fin 2) rfl y).symm
  · match a with
    | ⟨0, _⟩ => exact ((cfgM m (ok m)).win 0).rect_emb_val_of_index_zero t (0 : Fin 3) rfl _
    | ⟨1, _⟩ => rfl
    | ⟨2, _⟩ => rfl

attribute [local irreducible] out0_A_5 out0_A_6 out0_A_7 out0_A_8

theorem cov (ι : S1024x512.Idx) : ∃ (t : Fin grid0.N) (y : S256x512.Idx), at5 m t y = ι := by
  have hr : (ι 0).val < 1024 := (ι 0).isLt
  have hN : (ι 0).val / 256 < grid0.N := by rw [N_0]; omega
  refine ⟨⟨(ι 0).val / 256, hN⟩, ix2 ⟨(ι 0).val % 256, Nat.mod_lt _ (by decide)⟩ (ι 1), funext fun a => Fin.ext ?_⟩
  match a with
  | ⟨0, _⟩ =>
    have e : ∀ t : Fin grid0.N, cc0_transform_5 (grid0.coords t) (0 : Fin 2) = t.val := by decide +kernel
    exact (((cfgM m (ok m)).win 5).rect_emb_val _ _ (0 : Fin 2)).trans ((congrArg (· * 256 + (ι 0).val % 256) (e ⟨_, hN⟩)).trans (Nat.div_add_mod' _ _))
  | ⟨1, _⟩ => exact ((cfgM m (ok m)).win 5).rect_emb_val_of_index_zero _ (1 : Fin 2) rfl _

theorem final : ((dats m (ok m) 0 c).arrAt 5 (cfgM m (ok m)).N = G5 m c ∧ (dats m (ok m) 0 c).arrAt 6 (cfgM m (ok m)).N = G6 m c) ∧
    (dats m (ok m) 0 c).arrAt 7 (cfgM m (ok m)).N = G7 m c ∧ (dats m (ok m) 0 c).arrAt 8 (cfgM m (ok m)).N = G8 m c := by
  have o (t : Fin grid0.N) := outs (c := c) (i := grid0.coords t) (h2 := hs0_0 m (ok m) t) (h3 := hs0_1 m (ok m) t) (h4 := hs0_2 m (ok m) t) (h5 := hs0_3 m (ok m) t) (h6 := hs0_4 m (ok m) t) (h7 := hs0_5 m (ok m) t)
    (h8 := hs0_6 m (ok m) t) (h9 := hs0_7 m (ok m) t) (h10 := hs0_8 m (ok m) t) (x0 := iblk m (ok m) c 0 t) (x1 := iblk m (ok m) c 1 t) (x2 := iblk m (ok m) c 2 t) (x3 := iblk m (ok m) c 3 t) (x4 := iblk m (ok m) c 4 t) (zero_word m)
  refine ⟨⟨(dats m (ok m) 0 c).arrAt_eq_of_cover 5 (G5 m c) (fun t _ => ?_) fun ι => ?_, (dats m (ok m) 0 c).arrAt_eq_of_cover 6 (G6 m c) (fun t _ => ?_) fun ι => ?_⟩,
    (dats m (ok m) 0 c).arrAt_eq_of_cover 7 (G7 m c) (fun t _ => ?_) fun ι => ?_, (dats m (ok m) 0 c).arrAt_eq_of_cover 8 (G8 m c) (fun t _ => ?_) fun ι => ?_⟩
  · exact (congrArg (((cfgM m (ok m)).win 5).cut (grid0.coords t)) ((after0_5 m (ok m) c t).trans (o t).1)).trans (funext fun (y : S256x512.Idx) => grad m c t y)
  · obtain ⟨t, y, rfl⟩ := cov m ι
    exact ⟨t, flush0_5 _ t, View.emb_mem_set _ y⟩
  · exact (congrArg (((cfgM m (ok m)).win 6).cut (grid0.coords t)) ((after0_6 m (ok m) c t).trans (o t).2.1)).trans (funext fun (y : S256x512.Idx) => congrArg (dl · _ _ _) (grad m c t y))
  · obtain ⟨t, y, rfl⟩ := cov m ι
    exact ⟨t, flush0_6 _ t, View.emb_mem_set _ y⟩
  · exact (congrArg (((cfgM m (ok m)).win 7).cut (grid0.coords t)) ((after0_7 m (ok m) c t).trans (o t).2.2.1)).trans (funext fun (y : S256x512.Idx) => congrArg (nm · _) (grad m c t y))
  · obtain ⟨t, y, rfl⟩ := cov m ι
    exact ⟨t, flush0_7 _ t, View.emb_mem_set _ y⟩
  · exact (congrArg (((cfgM m (ok m)).win 8).cut (grid0.coords t)) ((after0_8 m (ok m) c t).trans (o t).2.2.2)).trans (funext fun (y : S256x512.Idx) => congrArg (nv · _) (grad m c t y))
  · obtain ⟨t, y, rfl⟩ := cov m ι
    exact ⟨t, flush0_8 _ t, View.emb_mem_set _ y⟩

theorem frame_r : Cert.quiescent_ReferenceAdamUpIdeal := by
  intro m ρ _
  exact (θ_run ReferenceAdamUpIdeal.defs _ _).mono
    (fun r h => ⟨fun c => (h c).2.2.2.2, Idealize.ShloMosaic.sem_eq_zero_of_no_sems (by decide) r.2⟩) (ReferenceAdamUpIdeal.Value.run (F := Ideal) m ρ)

theorem value : Cert.algebraic_KernelAdamUpIdeal_ReferenceAdamUpIdeal := by
  intro m g m' g' _ hm
  refine ⟨G5 m, G6 m, G7 m, G8 m, ?_, ?_⟩
  · refine (θ_run KernelAdamUpIdeal.defs _ _).mono (fun r h c => ?_) (θ_run_and (run_main m g (ok m)) (unchanged m g (ok m)))
    obtain ⟨⟨f5, f6⟩, f7, f8⟩ := final m c
    exact ⟨((h.1 c).1 5).trans f5, ((h.1 c).1 6).trans f6, ((h.1 c).1 7).trans f7, ((h.1 c).1 8).trans f8, h.2 c⟩
  · refine (θ_run ReferenceAdamUpIdeal.defs _ _).mono (fun r h c => ?_) (ReferenceAdamUpIdeal.Value.run (F := Ideal) m' g')
    obtain ⟨e5, e6, e7, e8, hk⟩ := h c
    obtain ⟨a0, a1, a2, a3, a4⟩ := hm c
    rw [a0, a1] at e5
    rw [a0, a1, a2, a3, a4] at e6
    rw [a0, a1, a3] at e7
    rw [a0, a1, a4] at e8
    unfold G6 G7 G8 G5
    rw [V_main_arg0, V_main_arg1, V_main_arg2, V_main_arg3, V_main_arg4]
    exact ⟨e5.trans (funext (refg _ _ _ _ _ _ _ _)), e6.trans (funext fun _ => congrArg (dl · _ _ _) (refg _ _ _ _ _ _ _ _ _)), e7.trans (funext fun _ => congrArg (nm · _) (refg _ _ _ _ _ _ _ _ _)),
      e8.trans (funext fun _ => congrArg (nv · _) (refg _ _ _ _ _ _ _ _ _)), hk⟩

end Cert.StepAdamUp
-- ==== Proof.StepAdamDown.lean ====
module

public import proofs.«01_k».proof.Defs
public import proofs.«01_k».proof.Proof.StepAdam
public import proofs.«01_k».proof.Proof.Gen.KernelAdamDown.Frame
public import proofs.«01_k».proof.Proof.Gen.KernelAdamDownIdeal.Frame
public import proofs.«01_k».proof.Proof.Gen.ReferenceAdamDownIdeal.Run

@[expose] public section
noncomputable section
namespace Cert.StepAdamDown.Printed
open Cert.KernelAdamDown Cert.KernelAdamDown.Gen Idealize.ShloMosaic Idealize.ShloMosaic.TcCoe
section
variable {F : FTy → Type} [FloatOps F]
theorem zero_word (m : (ℓ : Loc nD τ sig) → Buf (Elt F) ℓ) (j) : tbl m 0 j = 0#32 := by
  have e : StableHlo.after hostOps0 (fun b => m (0, b)) main_v4 = (fun _ => 0#32) := by
    simp only [hostOps0]
    after_results_simp
    rfl
  exact congrFun e j

theorem ix (m : (ℓ : Loc nD τ sig) → Buf (Elt F) ℓ) (i : grid0.Coords) : cc0_transform_1 Facts₀.inb_S1_S1_0 Facts₀.numel1_S1 (tbl m) i = ![0, (BitVec.ofNat 32 (i 0).val).toNat, 0] := by
  unfold cc0_transform_1
  simp only [zero_word]
  rfl

theorem ok (m : (ℓ : Loc nD τ sig) → Buf (Elt F) ℓ) : Ok m := by
  intro i
  rw [ix]
  revert i
  decide +kernel
end
end Cert.StepAdamDown.Printed

namespace Cert.StepAdamDown
open Cert.KernelAdamDownIdeal Cert.KernelAdamDownIdeal.Gen StepAdam Idealize.ShloMosaic Idealize.ShloMosaic.TcCoe Idealize.SL.Sem
section
variable {F : FTy → Type} [FloatOps F]
theorem zero_word (m : (ℓ : Loc nD τ sig) → Buf (Elt F) ℓ) (j) : tbl m 0 j = 0#32 := by
  have e : StableHlo.after hostOps0 (fun b => m (0, b)) main_v4 = (fun _ => 0#32) := by
    simp only [hostOps0]
    after_results_simp
    rfl
  exact congrFun e j

theorem ix (m : (ℓ : Loc nD τ sig) → Buf (Elt F) ℓ) (i : grid0.Coords) : cc0_transform_1 Facts₀.inb_S1_S1_0 Facts₀.numel1_S1 (tbl m) i = ![0, (BitVec.ofNat 32 (i 0).val).toNat, 0] := by
  unfold cc0_transform_1
  simp only [zero_word]
  rfl

theorem ok (m : (ℓ : Loc nD τ sig) → Buf (Elt F) ℓ) : Ok m := by
  intro i
  rw [ix]
  revert i
  decide +kernel
end

theorem grad0 (c : Dev nD) (a2 : Memref sig .tc .vmem S8x256x1024 .bf16) (h2 : a2.IsWhole) (a3 : Memref sig .tc .vmem S1x256x1024 .bf16) (h3 : a3.IsWhole)
    (x0 : Vec Ideal S8x256x1024 .bf16) (x1 : Vec Ideal S1x256x1024 .bf16) (xt : TbBuf0 (F := Ideal) c tbM0_0) (hx : ∀ j, xt j = 0#32) :
    (k0_pay5 (kernelRun0_A.sl.r_3 c a2 h2 a3 h3 x0 x1 xt) (kernelRun0_A.sl.r c xt)
      (View.readAt (Elt Ideal) a3.view (Rect.unit (s := S1x256x1024) ![0, 0, 0] ![1, 256, 1024] inb_S1x256x1024_S1x256x1024_0_0_0).toLoadRect (h3.unread x1))
      (View.readAt (Elt Ideal) a2.view (Rect.unit (s := S8x256x1024) ![7, 0, 0] ![1, 256, 1024] inb_S8x256x1024_S1x256x1024_7_0_0).toLoadRect (h2.unread x0)) : S256x1024.Idx → EReal) = fun y => gs (n := 7) (p := 0) x1 x0 (y 0) (y 1) := by
  funext y
  unfold kernelRun0_A.sl.r_3 kernelRun0_A.sl.r_1 kernelRun0_A.sl.r_2 kernelRun0_A.sl.v27
  simp only [View.readAt_eq_ld, h2.read_unread, h3.read_unread]
  have hw : kernelRun0_A.sl.r c xt = (0#32 : Elt Ideal .i32) := hx _
  have hw' : (View.ld (View.read (Elt Ideal) (View.whole main_v4) xt) (Rect.unit ![0] ![1] inb_S1_S1_0) : S1.Idx → Elt Ideal .i32) = fun _ => 0#32 := funext fun _ => hx _
  simp only [hw, hw', View.ld_unit]
  unfold k0_pay5 k0_pay4 k0_pay3 k0_pay2
  dsimp only
  have z := fun d hd s => cut (n := 8) (r := 256) (k := 1024) d x0 hd s shapeCasts_S1x256x1024_S256x1024 y
  exact gs7 (add2 (add2 (add2 (add2 (add2 (add2 (add2 (cut (n := 1) 0 x1 (by decide) ⟨rfl, inb_S1x256x1024_S1x256x1024_0_0_0⟩ shapeCasts_S1x256x1024_S256x1024 y) (z 1 (by decide) ⟨rfl, inb_S8x256x1024_S1x256x1024_1_0_0⟩)) (z 2 (by decide) ⟨rfl, inb_S8x256x1024_S1x256x1024_2_0_0⟩)) (z 3 (by decide) ⟨rfl, inb_S8x256x1024_S1x256x1024_3_0_0⟩)) (z 4 (by decide) ⟨rfl, inb_S8x256x1024_S1x256x1024_4_0_0⟩)) (z 5 (by decide) ⟨rfl, inb_S8x256x1024_S1x256x1024_5_0_0⟩)) (z 6 (by decide) ⟨rfl, inb_S8x256x1024_S1x256x1024_6_0_0⟩)) (z 7 (by decide) ⟨rfl, inb_S8x256x1024_S1x256x1024_7_0_0⟩))

theorem outs {c i a2 h2 a3 h3 a4 h4 a5 h5 a6 h6 a7 h7 a8 h8 a9 h9 a10 h10} {x0 : Vec Ideal S8x256x1024 .bf16} {x1 : Vec Ideal S1x256x1024 .bf16} {x2 x3 x4 xt} (hx : ∀ j, xt j = 0#32) :
    (out0_A_5 c i a2 h2 a3 h3 a4 h4 a5 h5 a6 h6 a7 h7 a8 h8 a9 h9 a10 h10 x0 x1 x2 x3 x4 xt = fun y => gs (n := 7) (p := 0) x1 x0 (y 0) (y 1)) ∧
    (out0_A_6 c i a2 h2 a3 h3 a4 h4 a5 h5 a6 h6 a7 h7 a8 h8 a9 h9 a10 h10 x0 x1 x2 x3 x4 xt = fun y => dl (gs (n := 7) (p := 0) x1 x0 (y 0) (y 1)) (x2 y) (x3 y) (x4 y)) ∧
    (out0_A_7 c i a2 h2 a3 h3 a4 h4 a5 h5 a6 h6 a7 h7 a8 h8 a9 h9 a10 h10 x0 x1 x2 x3 x4 xt = fun y => nm (gs (n := 7) (p := 0) x1 x0 (y 0) (y 1)) (x3 y)) ∧
    (out0_A_8 c i a2 h2 a3 h3 a4 h4 a5 h5 a6 h6 a7 h7 a8 h8 a9 h9 a10 h10 x0 x1 x2 x3 x4 xt = fun y => nv (gs (n := 7) (p := 0) x1 x0 (y 0) (y 1)) (x4 y)) := by
  have hg := grad0 c a2 h2 a3 h3 x0 x1 xt hx
  unfold out0_A_5 out0_A_6 out0_A_7 out0_A_8
  rw [View.read_writes_eq_canon _ _ _ (fun _ => cover0_A_5 ..), View.read_writes_eq_canon _ _ _ (fun _ => cover0_A_6 ..), View.read_writes_eq_canon _ _ _ (fun _ => cover0_A_7 ..), View.read_writes_eq_canon _ _ _ (fun _ => cover0_A_8 ..)]
  unfold kernelRun0_A
  dsimp only
  refine ⟨?_, ?_, ?_, ?_⟩ <;> rw [View.canon_unit_zero (by decide)]
  · exact hg
  · unfold kernelRun0_A.sl.r_6 k0_pay1 k0_pay8 k0_pay7 k0_pay6
    dsimp only
    rw [hg]
    simp only [View.readAt_eq_ld, h4.read_unread, h5.read_unread, h6.read_unread, View.ld_unit_zero (S := S256x1024) (by decide : (![0, 0] : Fin 2 → ℕ) = fun _ => 0)]
    rfl
  · unfold kernelRun0_A.sl.r_4 k0_pay6
    dsimp only
    rw [hg]
    simp only [View.readAt_eq_ld, h5.read_unread, View.ld_unit_zero (S := S256x1024) (by decide : (![0, 0] : Fin 2 → ℕ) = fun _ => 0)]
    rfl
  · unfold kernelRun0_A.sl.r_5 k0_pay7
    dsimp only
    rw [hg]
    simp only [View.readAt_eq_ld, h6.read_unread, View.ld_unit_zero (S := S256x1024) (by decide : (![0, 0] : Fin 2 → ℕ) = fun _ => 0)]
    rfl

variable (m : (ℓ : Loc nD τ sig) → Buf (Elt Ideal) ℓ) (c : Dev nD)

/-- An index of a point's block, in the array. -/
abbrev at5 (t : Fin grid0.N) (y : S256x1024.Idx) : S512x1024.Idx := (((cfgM m (ok m)).win 5).blk t).view.emb y

/-- The four arrays. -/
def G5 : S512x1024.Idx → EReal := fun ι => gs (n := 7) (p := 7) (V m c main_arg1) (V m c main_arg0) (ι 0) (ι 1)
def G6 : S512x1024.Idx → EReal := fun ι => dl (G5 m c ι) (V m c main_arg2 ι) (V m c main_arg3 ι) (V m c main_arg4 ι)
def G7 : S512x1024.Idx → EReal := fun ι => nm (G5 m c ι) (V m c main_arg3 ι)
def G8 : S512x1024.Idx → EReal := fun ι => nv (G5 m c ι) (V m c main_arg4 ι)

theorem grad (t : Fin grid0.N) (y : S256x1024.Idx) : gs (n := 7) (p := 0) (iblk m (ok m) c 1 t) (iblk m (ok m) c 0 t) (y 0) (y 1) = G5 m c (at5 m t y) := by
  refine add2 (congrArg (V m c main_arg1) (funext fun a => Fin.ext ?_)) (Finset.sum_congr rfl fun d _ => congrArg (V m c main_arg0) (funext fun a => Fin.ext ?_))
  · have e : ((cfgM m (ok m)).win 1).index t = ![0, (BitVec.ofNat 32 (grid0.coords t 0).val).toNat, 0] := ix m (grid0.coords t)
    match a with
    | ⟨0, _⟩ => exact ((cfgM m (ok m)).win 1).rect_emb_val_of_index_zero t (0 : Fin 3) (congrFun e (0 : Fin 3)) _
    | ⟨1, _⟩ =>
      refine (((cfgM m (ok m)).win 1).rect_emb_val t _ (1 : Fin 3)).trans (Eq.trans ?_ (((cfgM m (ok m)).win 5).rect_emb_val t y (0 : Fin 2)).symm)
      rw [e]
      rfl
    | ⟨2, _⟩ => exact (((cfgM m (ok m)).win 1).rect_emb_val_of_index_zero t (2 : Fin 3) (congrFun e (2 : Fin 3)) _).trans (((cfgM m (ok m)).win 5).rect_emb_val_of_index_zero t (1 : Fin 2) rfl y).symm
  · match a with
    | ⟨0, _⟩ => exact ((cfgM m (ok m)).win 0).rect_emb_val_of_index_zero t (0 : Fin 3) rfl _
    | ⟨1, _⟩ => rfl
    | ⟨2, _⟩ => rfl

attribute [local irreducible] out0_A_5 out0_A_6 out0_A_7 out0_A_8

theorem cov (ι : S512x1024.Idx) : ∃ (t : Fin grid0.N) (y : S256x1024.Idx), at5 m t y = ι := by
  have hr : (ι 0).val < 512 := (ι 0).isLt
  have hN : (ι 0).val / 256 < grid0.N := by rw [N_0]; omega
  refine ⟨⟨(ι 0).val / 256, hN⟩, ix2 ⟨(ι 0).val % 256, Nat.mod_lt _ (by decide)⟩ (ι 1), funext fun a => Fin.ext ?_⟩
  match a with
  | ⟨0, _⟩ =>
    have e : ∀ t : Fin grid0.N, cc0_transform_5 (grid0.coords t) (0 : Fin 2) = t.val := by decide +kernel
    exact (((cfgM m (ok m)).win 5).rect_emb_val _ _ (0 : Fin 2)).trans ((congrArg (· * 256 + (ι 0).val % 256) (e ⟨_, hN⟩)).trans (Nat.div_add_mod' _ _))
  | ⟨1, _⟩ => exact ((cfgM m (ok m)).win 5).rect_emb_val_of_index_zero _ (1 : Fin 2) rfl _

theorem final : ((dats m (ok m) 0 c).arrAt 5 (cfgM m (ok m)).N = G5 m c ∧ (dats m (ok m) 0 c).arrAt 6 (cfgM m (ok m)).N = G6 m c) ∧
    (dats m (ok m) 0 c).arrAt 7 (cfgM m (ok m)).N = G7 m c ∧ (dats m (ok m) 0 c).arrAt 8 (cfgM m (ok m)).N = G8 m c := by
  have o (t : Fin grid0.N) := outs (c := c) (i := grid0.coords t) (h2 := hs0_0 m (ok m) t) (h3 := hs0_1 m (ok m) t) (h4 := hs0_2 m (ok m) t) (h5 := hs0_3 m (ok m) t) (h6 := hs0_4 m (ok m) t) (h7 := hs0_5 m (ok m) t)
    (h8 := hs0_6 m (ok m) t) (h9 := hs0_7 m (ok m) t) (h10 := hs0_8 m (ok m) t) (x0 := iblk m (ok m) c 0 t) (x1 := iblk m (ok m) c 1 t) (x2 := iblk m (ok m) c 2 t) (x3 := iblk m (ok m) c 3 t) (x4 := iblk m (ok m) c 4 t) (zero_word m)
  refine ⟨⟨(dats m (ok m) 0 c).arrAt_eq_of_cover 5 (G5 m c) (fun t _ => ?_) fun ι => ?_, (dats m (ok m) 0 c).arrAt_eq_of_cover 6 (G6 m c) (fun t _ => ?_) fun ι => ?_⟩,
    (dats m (ok m) 0 c).arrAt_eq_of_cover 7 (G7 m c) (fun t _ => ?_) fun ι => ?_, (dats m (ok m) 0 c).arrAt_eq_of_cover 8 (G8 m c) (fun t _ => ?_) fun ι => ?_⟩
  · exact (congrArg (((cfgM m (ok m)).win 5).cut (grid0.coords t)) ((after0_5 m (ok m) c t).trans (o t).1)).trans (funext fun (y : S256x1024.Idx) => grad m c t y)
  · obtain ⟨t, y, rfl⟩ := cov m ι
    exact ⟨t, flush0_5 _ t, View.emb_mem_set _ y⟩
  · exact (congrArg (((cfgM m (ok m)).win 6).cut (grid0.coords t)) ((after0_6 m (ok m) c t).trans (o t).2.1)).trans (funext fun (y : S256x1024.Idx) => congrArg (dl · _ _ _) (grad m c t y))
  · obtain ⟨t, y, rfl⟩ := cov m ι
    exact ⟨t, flush0_6 _ t, View.emb_mem_set _ y⟩
  · exact (congrArg (((cfgM m (ok m)).win 7).cut (grid0.coords t)) ((after0_7 m (ok m) c t).trans (o t).2.2.1)).trans (funext fun (y : S256x1024.Idx) => congrArg (nm · _) (grad m c t y))
  · obtain ⟨t, y, rfl⟩ := cov m ι
    exact ⟨t, flush0_7 _ t, View.emb_mem_set _ y⟩
  · exact (congrArg (((cfgM m (ok m)).win 8).cut (grid0.coords t)) ((after0_8 m (ok m) c t).trans (o t).2.2.2)).trans (funext fun (y : S256x1024.Idx) => congrArg (nv · _) (grad m c t y))
  · obtain ⟨t, y, rfl⟩ := cov m ι
    exact ⟨t, flush0_8 _ t, View.emb_mem_set _ y⟩

theorem frame_r : Cert.quiescent_ReferenceAdamDownIdeal := by
  intro m ρ _
  exact (θ_run ReferenceAdamDownIdeal.defs _ _).mono
    (fun r h => ⟨fun c => (h c).2.2.2.2, Idealize.ShloMosaic.sem_eq_zero_of_no_sems (by decide) r.2⟩) (ReferenceAdamDownIdeal.Value.run (F := Ideal) m ρ)

theorem value : Cert.algebraic_KernelAdamDownIdeal_ReferenceAdamDownIdeal := by
  intro m g m' g' _ hm
  refine ⟨G5 m, G6 m, G7 m, G8 m, ?_, ?_⟩
  · refine (θ_run KernelAdamDownIdeal.defs _ _).mono (fun r h c => ?_) (θ_run_and (run_main m g (ok m)) (unchanged m g (ok m)))
    obtain ⟨⟨f5, f6⟩, f7, f8⟩ := final m c
    exact ⟨((h.1 c).1 5).trans f5, ((h.1 c).1 6).trans f6, ((h.1 c).1 7).trans f7, ((h.1 c).1 8).trans f8, h.2 c⟩
  · refine (θ_run ReferenceAdamDownIdeal.defs _ _).mono (fun r h c => ?_) (ReferenceAdamDownIdeal.Value.run (F := Ideal) m' g')
    obtain ⟨e5, e6, e7, e8, hk⟩ := h c
    obtain ⟨a0, a1, a2, a3, a4⟩ := hm c
    rw [a0, a1] at e5
    rw [a0, a1, a2, a3, a4] at e6
    rw [a0, a1, a3] at e7
    rw [a0, a1, a4] at e8
    unfold G6 G7 G8 G5
    rw [V_main_arg0, V_main_arg1, V_main_arg2, V_main_arg3, V_main_arg4]
    exact ⟨e5.trans (funext (refg _ _ _ _ _ _ _ _)), e6.trans (funext fun _ => congrArg (dl · _ _ _) (refg _ _ _ _ _ _ _ _ _)), e7.trans (funext fun _ => congrArg (nm · _) (refg _ _ _ _ _ _ _ _ _)),
      e8.trans (funext fun _ => congrArg (nv · _) (refg _ _ _ _ _ _ _ _ _)), hk⟩

end Cert.StepAdamDown
-- ==== Proof.StepAdamOut.lean ====
module

public import proofs.«01_k».proof.Defs
public import proofs.«01_k».proof.Proof.StepAdam
public import proofs.«01_k».proof.Proof.Gen.KernelAdamOut.Frame
public import proofs.«01_k».proof.Proof.Gen.KernelAdamOutIdeal.Frame
public import proofs.«01_k».proof.Proof.Gen.ReferenceAdamOutIdeal.Run

@[expose] public section
noncomputable section
namespace Cert.StepAdamOut.Printed
open Cert.KernelAdamOut Cert.KernelAdamOut.Gen Idealize.ShloMosaic Idealize.ShloMosaic.TcCoe
section
variable {F : FTy → Type} [FloatOps F]
theorem zero_word (m : (ℓ : Loc nD τ sig) → Buf (Elt F) ℓ) (j) : tbl m 0 j = 0#32 := by
  have e : StableHlo.after hostOps0 (fun b => m (0, b)) main_v4 = (fun _ => 0#32) := by
    simp only [hostOps0]
    after_results_simp
    rfl
  exact congrFun e j

theorem ix (m : (ℓ : Loc nD τ sig) → Buf (Elt F) ℓ) (i : grid0.Coords) : cc0_transform_1 Facts₀.inb_S1_S1_0 Facts₀.numel1_S1 (tbl m) i = ![0, (BitVec.ofNat 32 (i 0).val).toNat, 0] := by
  unfold cc0_transform_1
  simp only [zero_word]
  rfl

theorem ok (m : (ℓ : Loc nD τ sig) → Buf (Elt F) ℓ) : Ok m := by
  intro i
  rw [ix]
  revert i
  decide +kernel
end
end Cert.StepAdamOut.Printed

namespace Cert.StepAdamOut
open Cert.KernelAdamOutIdeal Cert.KernelAdamOutIdeal.Gen StepAdam Idealize.ShloMosaic Idealize.ShloMosaic.TcCoe Idealize.SL.Sem
section
variable {F : FTy → Type} [FloatOps F]
theorem zero_word (m : (ℓ : Loc nD τ sig) → Buf (Elt F) ℓ) (j) : tbl m 0 j = 0#32 := by
  have e : StableHlo.after hostOps0 (fun b => m (0, b)) main_v4 = (fun _ => 0#32) := by
    simp only [hostOps0]
    after_results_simp
    rfl
  exact congrFun e j

theorem ix (m : (ℓ : Loc nD τ sig) → Buf (Elt F) ℓ) (i : grid0.Coords) : cc0_transform_1 Facts₀.inb_S1_S1_0 Facts₀.numel1_S1 (tbl m) i = ![0, (BitVec.ofNat 32 (i 0).val).toNat, 0] := by
  unfold cc0_transform_1
  simp only [zero_word]
  rfl

theorem ok (m : (ℓ : Loc nD τ sig) → Buf (Elt F) ℓ) : Ok m := by
  intro i
  rw [ix]
  revert i
  decide +kernel
end

theorem grad0 (c : Dev nD) (a2 : Memref sig .tc .vmem S8x128x1024 .bf16) (h2 : a2.IsWhole) (a3 : Memref sig .tc .vmem S1x128x1024 .bf16) (h3 : a3.IsWhole)
    (x0 : Vec Ideal S8x128x1024 .bf16) (x1 : Vec Ideal S1x128x1024 .bf16) (xt : TbBuf0 (F := Ideal) c tbM0_0) (hx : ∀ j, xt j = 0#32) :
    (k0_pay5 (kernelRun0_A.sl.r_3 c a2 h2 a3 h3 x0 x1 xt) (kernelRun0_A.sl.r c xt)
      (View.readAt (Elt Ideal) a3.view (Rect.unit (s := S1x128x1024) ![0, 0, 0] ![1, 128, 1024] inb_S1x128x1024_S1x128x1024_0_0_0).toLoadRect (h3.unread x1))
      (View.readAt (Elt Ideal) a2.view (Rect.unit (s := S8x128x1024) ![7, 0, 0] ![1, 128, 1024] inb_S8x128x1024_S1x128x1024_7_0_0).toLoadRect (h2.unread x0)) : S128x1024.Idx → EReal) = fun y => gs (n := 7) (p := 0) x1 x0 (y 0) (y 1) := by
  funext y
  unfold kernelRun0_A.sl.r_3 kernelRun0_A.sl.r_1 kernelRun0_A.sl.r_2 kernelRun0_A.sl.v27
  simp only [View.readAt_eq_ld, h2.read_unread, h3.read_unread]
  have hw : kernelRun0_A.sl.r c xt = (0#32 : Elt Ideal .i32) := hx _
  have hw' : (View.ld (View.read (Elt Ideal) (View.whole main_v4) xt) (Rect.unit ![0] ![1] inb_S1_S1_0) : S1.Idx → Elt Ideal .i32) = fun _ => 0#32 := funext fun _ => hx _
  simp only [hw, hw', View.ld_unit]
  unfold k0_pay5 k0_pay4 k0_pay3 k0_pay2
  dsimp only
  have z := fun d hd s => cut (n := 8) (r := 128) (k := 1024) d x0 hd s shapeCasts_S1x128x1024_S128x1024 y
  exact gs7 (add2 (add2 (add2 (add2 (add2 (add2 (add2 (cut (n := 1) 0 x1 (by decide) ⟨rfl, inb_S1x128x1024_S1x128x1024_0_0_0⟩ shapeCasts_S1x128x1024_S128x1024 y) (z 1 (by decide) ⟨rfl, inb_S8x128x1024_S1x128x1024_1_0_0⟩)) (z 2 (by decide) ⟨rfl, inb_S8x128x1024_S1x128x1024_2_0_0⟩)) (z 3 (by decide) ⟨rfl, inb_S8x128x1024_S1x128x1024_3_0_0⟩)) (z 4 (by decide) ⟨rfl, inb_S8x128x1024_S1x128x1024_4_0_0⟩)) (z 5 (by decide) ⟨rfl, inb_S8x128x1024_S1x128x1024_5_0_0⟩)) (z 6 (by decide) ⟨rfl, inb_S8x128x1024_S1x128x1024_6_0_0⟩)) (z 7 (by decide) ⟨rfl, inb_S8x128x1024_S1x128x1024_7_0_0⟩))

theorem outs {c i a2 h2 a3 h3 a4 h4 a5 h5 a6 h6 a7 h7 a8 h8 a9 h9 a10 h10} {x0 : Vec Ideal S8x128x1024 .bf16} {x1 : Vec Ideal S1x128x1024 .bf16} {x2 x3 x4 xt} (hx : ∀ j, xt j = 0#32) :
    (out0_A_5 c i a2 h2 a3 h3 a4 h4 a5 h5 a6 h6 a7 h7 a8 h8 a9 h9 a10 h10 x0 x1 x2 x3 x4 xt = fun y => gs (n := 7) (p := 0) x1 x0 (y 0) (y 1)) ∧
    (out0_A_6 c i a2 h2 a3 h3 a4 h4 a5 h5 a6 h6 a7 h7 a8 h8 a9 h9 a10 h10 x0 x1 x2 x3 x4 xt = fun y => dl (gs (n := 7) (p := 0) x1 x0 (y 0) (y 1)) (x2 y) (x3 y) (x4 y)) ∧
    (out0_A_7 c i a2 h2 a3 h3 a4 h4 a5 h5 a6 h6 a7 h7 a8 h8 a9 h9 a10 h10 x0 x1 x2 x3 x4 xt = fun y => nm (gs (n := 7) (p := 0) x1 x0 (y 0) (y 1)) (x3 y)) ∧
    (out0_A_8 c i a2 h2 a3 h3 a4 h4 a5 h5 a6 h6 a7 h7 a8 h8 a9 h9 a10 h10 x0 x1 x2 x3 x4 xt = fun y => nv (gs (n := 7) (p := 0) x1 x0 (y 0) (y 1)) (x4 y)) := by
  have hg := grad0 c a2 h2 a3 h3 x0 x1 xt hx
  unfold out0_A_5 out0_A_6 out0_A_7 out0_A_8
  rw [View.read_writes_eq_canon _ _ _ (fun _ => cover0_A_5 ..), View.read_writes_eq_canon _ _ _ (fun _ => cover0_A_6 ..), View.read_writes_eq_canon _ _ _ (fun _ => cover0_A_7 ..), View.read_writes_eq_canon _ _ _ (fun _ => cover0_A_8 ..)]
  unfold kernelRun0_A
  dsimp only
  refine ⟨?_, ?_, ?_, ?_⟩ <;> rw [View.canon_unit_zero (by decide)]
  · exact hg
  · unfold kernelRun0_A.sl.r_6 k0_pay1 k0_pay8 k0_pay7 k0_pay6
    dsimp only
    rw [hg]
    simp only [View.readAt_eq_ld, h4.read_unread, h5.read_unread, h6.read_unread, View.ld_unit_zero (S := S128x1024) (by decide : (![0, 0] : Fin 2 → ℕ) = fun _ => 0)]
    rfl
  · unfold kernelRun0_A.sl.r_4 k0_pay6
    dsimp only
    rw [hg]
    simp only [View.readAt_eq_ld, h5.read_unread, View.ld_unit_zero (S := S128x1024) (by decide : (![0, 0] : Fin 2 → ℕ) = fun _ => 0)]
    rfl
  · unfold kernelRun0_A.sl.r_5 k0_pay7
    dsimp only
    rw [hg]
    simp only [View.readAt_eq_ld, h6.read_unread, View.ld_unit_zero (S := S128x1024) (by decide : (![0, 0] : Fin 2 → ℕ) = fun _ => 0)]
    rfl

variable (m : (ℓ : Loc nD τ sig) → Buf (Elt Ideal) ℓ) (c : Dev nD)

/-- An index of a point's block, in the array. -/
abbrev at5 (t : Fin grid0.N) (y : S128x1024.Idx) : S128x1024.Idx := (((cfgM m (ok m)).win 5).blk t).view.emb y

/-- The four arrays. -/
def G5 : S128x1024.Idx → EReal := fun ι => gs (n := 7) (p := 7) (V m c main_arg1) (V m c main_arg0) (ι 0) (ι 1)
def G6 : S128x1024.Idx → EReal := fun ι => dl (G5 m c ι) (V m c main_arg2 ι) (V m c main_arg3 ι) (V m c main_arg4 ι)
def G7 : S128x1024.Idx → EReal := fun ι => nm (G5 m c ι) (V m c main_arg3 ι)
def G8 : S128x1024.Idx → EReal := fun ι => nv (G5 m c ι) (V m c main_arg4 ι)

theorem grad (t : Fin grid0.N) (y : S128x1024.Idx) : gs (n := 7) (p := 0) (iblk m (ok m) c 1 t) (iblk m (ok m) c 0 t) (y 0) (y 1) = G5 m c (at5 m t y) := by
  refine add2 (congrArg (V m c main_arg1) (funext fun a => Fin.ext ?_)) (Finset.sum_congr rfl fun d _ => congrArg (V m c main_arg0) (funext fun a => Fin.ext ?_))
  · have e : ((cfgM m (ok m)).win 1).index t = ![0, (BitVec.ofNat 32 (grid0.coords t 0).val).toNat, 0] := ix m (grid0.coords t)
    match a with
    | ⟨0, _⟩ => exact ((cfgM m (ok m)).win 1).rect_emb_val_of_index_zero t (0 : Fin 3) (congrFun e (0 : Fin 3)) _
    | ⟨1, _⟩ =>
      refine (((cfgM m (ok m)).win 1).rect_emb_val t _ (1 : Fin 3)).trans (Eq.trans ?_ (((cfgM m (ok m)).win 5).rect_emb_val t y (0 : Fin 2)).symm)
      rw [e]
      rfl
    | ⟨2, _⟩ => exact (((cfgM m (ok m)).win 1).rect_emb_val_of_index_zero t (2 : Fin 3) (congrFun e (2 : Fin 3)) _).trans (((cfgM m (ok m)).win 5).rect_emb_val_of_index_zero t (1 : Fin 2) rfl y).symm
  · match a with
    | ⟨0, _⟩ => exact ((cfgM m (ok m)).win 0).rect_emb_val_of_index_zero t (0 : Fin 3) rfl _
    | ⟨1, _⟩ => rfl
    | ⟨2, _⟩ => rfl

attribute [local irreducible] out0_A_5 out0_A_6 out0_A_7 out0_A_8

theorem cov (ι : S128x1024.Idx) : ∃ (t : Fin grid0.N) (y : S128x1024.Idx), at5 m t y = ι := by
  have hr : (ι 0).val < 128 := (ι 0).isLt
  have hN : (ι 0).val / 128 < grid0.N := by rw [N_0]; omega
  refine ⟨⟨(ι 0).val / 128, hN⟩, ix2 ⟨(ι 0).val % 128, Nat.mod_lt _ (by decide)⟩ (ι 1), funext fun a => Fin.ext ?_⟩
  match a with
  | ⟨0, _⟩ =>
    have e : ∀ t : Fin grid0.N, cc0_transform_5 (grid0.coords t) (0 : Fin 2) = t.val := by decide +kernel
    exact (((cfgM m (ok m)).win 5).rect_emb_val _ _ (0 : Fin 2)).trans ((congrArg (· * 128 + (ι 0).val % 128) (e ⟨_, hN⟩)).trans (Nat.div_add_mod' _ _))
  | ⟨1, _⟩ => exact ((cfgM m (ok m)).win 5).rect_emb_val_of_index_zero _ (1 : Fin 2) rfl _

theorem final : ((dats m (ok m) 0 c).arrAt 5 (cfgM m (ok m)).N = G5 m c ∧ (dats m (ok m) 0 c).arrAt 6 (cfgM m (ok m)).N = G6 m c) ∧
    (dats m (ok m) 0 c).arrAt 7 (cfgM m (ok m)).N = G7 m c ∧ (dats m (ok m) 0 c).arrAt 8 (cfgM m (ok m)).N = G8 m c := by
  have o (t : Fin grid0.N) := outs (c := c) (i := grid0.coords t) (h2 := hs0_0 m (ok m) t) (h3 := hs0_1 m (ok m) t) (h4 := hs0_2 m (ok m) t) (h5 := hs0_3 m (ok m) t) (h6 := hs0_4 m (ok m) t) (h7 := hs0_5 m (ok m) t)
    (h8 := hs0_6 m (ok m) t) (h9 := hs0_7 m (ok m) t) (h10 := hs0_8 m (ok m) t) (x0 := iblk m (ok m) c 0 t) (x1 := iblk m (ok m) c 1 t) (x2 := iblk m (ok m) c 2 t) (x3 := iblk m (ok m) c 3 t) (x4 := iblk m (ok m) c 4 t) (zero_word m)
  refine ⟨⟨(dats m (ok m) 0 c).arrAt_eq_of_cover 5 (G5 m c) (fun t _ => ?_) fun ι => ?_, (dats m (ok m) 0 c).arrAt_eq_of_cover 6 (G6 m c) (fun t _ => ?_) fun ι => ?_⟩,
    (dats m (ok m) 0 c).arrAt_eq_of_cover 7 (G7 m c) (fun t _ => ?_) fun ι => ?_, (dats m (ok m) 0 c).arrAt_eq_of_cover 8 (G8 m c) (fun t _ => ?_) fun ι => ?_⟩
  · exact (congrArg (((cfgM m (ok m)).win 5).cut (grid0.coords t)) ((after0_5 m (ok m) c t).trans (o t).1)).trans (funext fun (y : S128x1024.Idx) => grad m c t y)
  · obtain ⟨t, y, rfl⟩ := cov m ι
    exact ⟨t, flush0_5 _ t, View.emb_mem_set _ y⟩
  · exact (congrArg (((cfgM m (ok m)).win 6).cut (grid0.coords t)) ((after0_6 m (ok m) c t).trans (o t).2.1)).trans (funext fun (y : S128x1024.Idx) => congrArg (dl · _ _ _) (grad m c t y))
  · obtain ⟨t, y, rfl⟩ := cov m ι
    exact ⟨t, flush0_6 _ t, View.emb_mem_set _ y⟩
  · exact (congrArg (((cfgM m (ok m)).win 7).cut (grid0.coords t)) ((after0_7 m (ok m) c t).trans (o t).2.2.1)).trans (funext fun (y : S128x1024.Idx) => congrArg (nm · _) (grad m c t y))
  · obtain ⟨t, y, rfl⟩ := cov m ι
    exact ⟨t, flush0_7 _ t, View.emb_mem_set _ y⟩
  · exact (congrArg (((cfgM m (ok m)).win 8).cut (grid0.coords t)) ((after0_8 m (ok m) c t).trans (o t).2.2.2)).trans (funext fun (y : S128x1024.Idx) => congrArg (nv · _) (grad m c t y))
  · obtain ⟨t, y, rfl⟩ := cov m ι
    exact ⟨t, flush0_8 _ t, View.emb_mem_set _ y⟩

theorem frame_r : Cert.quiescent_ReferenceAdamOutIdeal := by
  intro m ρ _
  exact (θ_run ReferenceAdamOutIdeal.defs _ _).mono
    (fun r h => ⟨fun c => (h c).2.2.2.2, Idealize.ShloMosaic.sem_eq_zero_of_no_sems (by decide) r.2⟩) (ReferenceAdamOutIdeal.Value.run (F := Ideal) m ρ)

theorem value : Cert.algebraic_KernelAdamOutIdeal_ReferenceAdamOutIdeal := by
  intro m g m' g' _ hm
  refine ⟨G5 m, G6 m, G7 m, G8 m, ?_, ?_⟩
  · refine (θ_run KernelAdamOutIdeal.defs _ _).mono (fun r h c => ?_) (θ_run_and (run_main m g (ok m)) (unchanged m g (ok m)))
    obtain ⟨⟨f5, f6⟩, f7, f8⟩ := final m c
    exact ⟨((h.1 c).1 5).trans f5, ((h.1 c).1 6).trans f6, ((h.1 c).1 7).trans f7, ((h.1 c).1 8).trans f8, h.2 c⟩
  · refine (θ_run ReferenceAdamOutIdeal.defs _ _).mono (fun r h c => ?_) (ReferenceAdamOutIdeal.Value.run (F := Ideal) m' g')
    obtain ⟨e5, e6, e7, e8, hk⟩ := h c
    obtain ⟨a0, a1, a2, a3, a4⟩ := hm c
    rw [a0, a1] at e5
    rw [a0, a1, a2, a3, a4] at e6
    rw [a0, a1, a3] at e7
    rw [a0, a1, a4] at e8
    unfold G6 G7 G8 G5
    rw [V_main_arg0, V_main_arg1, V_main_arg2, V_main_arg3, V_main_arg4]
    exact ⟨e5.trans (funext (refg _ _ _ _ _ _ _ _)), e6.trans (funext fun _ => congrArg (dl · _ _ _) (refg _ _ _ _ _ _ _ _ _)), e7.trans (funext fun _ => congrArg (nm · _) (refg _ _ _ _ _ _ _ _ _)),
      e8.trans (funext fun _ => congrArg (nv · _) (refg _ _ _ _ _ _ _ _ _)), hk⟩

end Cert.StepAdamOut
-- ==== Proof.StepAdamIn.lean ====
module

public import proofs.«01_k».proof.Defs
public import proofs.«01_k».proof.Proof.StepAdam
public import proofs.«01_k».proof.Proof.Gen.KernelAdamIn.Frame
public import proofs.«01_k».proof.Proof.Gen.KernelAdamInIdeal.Frame
public import proofs.«01_k».proof.Proof.Gen.ReferenceAdamInIdeal.Run

@[expose] public section
noncomputable section
namespace Cert.StepAdamIn.Printed
open Cert.KernelAdamIn Cert.KernelAdamIn.Gen Idealize.ShloMosaic Idealize.ShloMosaic.TcCoe
section
variable {F : FTy → Type} [FloatOps F]
theorem zero_word (m : (ℓ : Loc nD τ sig) → Buf (Elt F) ℓ) (j) : tbl m 0 j = 0#32 := by
  have e : StableHlo.after hostOps0 (fun b => m (0, b)) main_v1 = (fun _ => 0#32) := by
    simp only [hostOps0]
    after_results_simp
    rfl
  exact congrFun e j

theorem ix (m : (ℓ : Loc nD τ sig) → Buf (Elt F) ℓ) (i : grid0.Coords) : cc0_transform_1 Facts₀.inb_S1_S1_0 Facts₀.numel1_S1 (tbl m) i = ![0, (BitVec.ofNat 32 (i 0).val).toNat, 0] := by
  unfold cc0_transform_1
  simp only [zero_word]
  rfl

theorem ok (m : (ℓ : Loc nD τ sig) → Buf (Elt F) ℓ) : Ok m := by
  intro i
  rw [ix]
  revert i
  decide +kernel
end
end Cert.StepAdamIn.Printed

namespace Cert.StepAdamIn
open Cert.KernelAdamInIdeal Cert.KernelAdamInIdeal.Gen StepAdam Idealize.ShloMosaic Idealize.ShloMosaic.TcCoe Idealize.SL.Sem
section
variable {F : FTy → Type} [FloatOps F]
theorem zero_word (m : (ℓ : Loc nD τ sig) → Buf (Elt F) ℓ) (j) : tbl m 0 j = 0#32 := by
  have e : StableHlo.after hostOps0 (fun b => m (0, b)) main_v1 = (fun _ => 0#32) := by
    simp only [hostOps0]
    after_results_simp
    rfl
  exact congrFun e j

theorem ix (m : (ℓ : Loc nD τ sig) → Buf (Elt F) ℓ) (i : grid0.Coords) : cc0_transform_1 Facts₀.inb_S1_S1_0 Facts₀.numel1_S1 (tbl m) i = ![0, (BitVec.ofNat 32 (i 0).val).toNat, 0] := by
  unfold cc0_transform_1
  simp only [zero_word]
  rfl

theorem ok (m : (ℓ : Loc nD τ sig) → Buf (Elt F) ℓ) : Ok m := by
  intro i
  rw [ix]
  revert i
  decide +kernel
end

theorem grad0 (c : Dev nD) (a2 : Memref sig .tc .vmem S4x451x1024 .bf16) (h2 : a2.IsWhole) (a3 : Memref sig .tc .vmem S1x451x1024 .bf16) (h3 : a3.IsWhole)
    (x0 : Vec Ideal S4x451x1024 .bf16) (x1 : Vec Ideal S1x451x1024 .bf16) (xt : TbBuf0 (F := Ideal) c tbM0_0) (hx : ∀ j, xt j = 0#32) :
    (k0_pay3 (kernelRun0_A.sl.r_1 c a2 h2 a3 h3 x0 x1 xt) (kernelRun0_A.sl.v27 c xt) (kernelRun0_A.sl.r_2 c a3 h3 x1)
      (View.readAt (Elt Ideal) a2.view (Rect.unit (s := S4x451x1024) ![3, 0, 0] ![1, 451, 1024] inb_S4x451x1024_S1x451x1024_3_0_0).toLoadRect (h2.unread x0)) : S451x1024.Idx → EReal) = fun y => gs (n := 3) (p := 0) x1 x0 (y 0) (y 1) := by
  funext y
  unfold kernelRun0_A.sl.r_1 kernelRun0_A.sl.r_2 kernelRun0_A.sl.v27
  simp only [View.readAt_eq_ld, h2.read_unread, h3.read_unread]
  have hw : kernelRun0_A.sl.r c xt = (0#32 : Elt Ideal .i32) := hx _
  have hw' : (View.ld (View.read (Elt Ideal) (View.whole main_v1) xt) (Rect.unit ![0] ![1] inb_S1_S1_0) : S1.Idx → Elt Ideal .i32) = fun _ => 0#32 := funext fun _ => hx _
  simp only [hw, hw', View.ld_unit]
  unfold k0_pay3 k0_pay2 k0_pay1
  dsimp only
  have z := fun d hd s => cut (n := 4) (r := 451) (k := 1024) d x0 hd s shapeCasts_S1x451x1024_S451x1024 y
  exact gs3 (add2 (add2 (add2 (cut (n := 1) 0 x1 (by decide) ⟨rfl, inb_S1x451x1024_S1x451x1024_0_0_0⟩ shapeCasts_S1x451x1024_S451x1024 y) (z 1 (by decide) ⟨rfl, inb_S4x451x1024_S1x451x1024_1_0_0⟩)) (z 2 (by decide) ⟨rfl, inb_S4x451x1024_S1x451x1024_2_0_0⟩)) (z 3 (by decide) ⟨rfl, inb_S4x451x1024_S1x451x1024_3_0_0⟩))

theorem outs {c i a2 h2 a3 h3 a4 h4 a5 h5 a6 h6 a7 h7 a8 h8 a9 h9 a10 h10} {x0 : Vec Ideal S4x451x1024 .bf16} {x1 : Vec Ideal S1x451x1024 .bf16} {x2 x3 x4 xt} (hx : ∀ j, xt j = 0#32) :
    (out0_A_5 c i a2 h2 a3 h3 a4 h4 a5 h5 a6 h6 a7 h7 a8 h8 a9 h9 a10 h10 x0 x1 x2 x3 x4 xt = fun y => gs (n := 3) (p := 0) x1 x0 (y 0) (y 1)) ∧
    (out0_A_6 c i a2 h2 a3 h3 a4 h4 a5 h5 a6 h6 a7 h7 a8 h8 a9 h9 a10 h10 x0 x1 x2 x3 x4 xt = fun y => dl (gs (n := 3) (p := 0) x1 x0 (y 0) (y 1)) (x2 y) (x3 y) (x4 y)) ∧
    (out0_A_7 c i a2 h2 a3 h3 a4 h4 a5 h5 a6 h6 a7 h7 a8 h8 a9 h9 a10 h10 x0 x1 x2 x3 x4 xt = fun y => nm (gs (n := 3) (p := 0) x1 x0 (y 0) (y 1)) (x3 y)) ∧
    (out0_A_8 c i a2 h2 a3 h3 a4 h4 a5 h5 a6 h6 a7 h7 a8 h8 a9 h9 a10 h10 x0 x1 x2 x3 x4 xt = fun y => nv (gs (n := 3) (p := 0) x1 x0 (y 0) (y 1)) (x4 y)) := by
  have hg := grad0 c a2 h2 a3 h3 x0 x1 xt hx
  unfold out0_A_5 out0_A_6 out0_A_7 out0_A_8
  rw [View.read_writes_eq_canon _ _ _ (fun _ => cover0_A_5 ..), View.read_writes_eq_canon _ _ _ (fun _ => cover0_A_6 ..), View.read_writes_eq_canon _ _ _ (fun _ => cover0_A_7 ..), View.read_writes_eq_canon _ _ _ (fun _ => cover0_A_8 ..)]
  unfold kernelRun0_A
  dsimp only
  refine ⟨?_, ?_, ?_, ?_⟩ <;> rw [View.canon_unit_zero (by decide)]
  · exact hg
  · unfold k0_pay6 k0_pay5 k0_pay4
    dsimp only
    rw [hg]
    simp only [View.readAt_eq_ld, h4.read_unread, h5.read_unread, h6.read_unread, View.ld_unit_zero (S := S451x1024) (by decide : (![0, 0] : Fin 2 → ℕ) = fun _ => 0)]
    rfl
  · unfold kernelRun0_A.sl.r_3 k0_pay4
    dsimp only
    rw [hg]
    simp only [View.readAt_eq_ld, h5.read_unread, View.ld_unit_zero (S := S451x1024) (by decide : (![0, 0] : Fin 2 → ℕ) = fun _ => 0)]
    rfl
  · unfold kernelRun0_A.sl.r_4 k0_pay5
    dsimp only
    rw [hg]
    simp only [View.readAt_eq_ld, h6.read_unread, View.ld_unit_zero (S := S451x1024) (by decide : (![0, 0] : Fin 2 → ℕ) = fun _ => 0)]
    rfl

variable (m : (ℓ : Loc nD τ sig) → Buf (Elt Ideal) ℓ) (c : Dev nD)

/-- An index of a point's block, in the array. -/
abbrev at5 (t : Fin grid0.N) (y : S451x1024.Idx) : S451x1024.Idx := (((cfgM m (ok m)).win 5).blk t).view.emb y

/-- The four arrays. -/
def G5 : S451x1024.Idx → EReal := fun ι => gs (n := 3) (p := 3) (V m c main_arg1) (V m c main_arg0) (ι 0) (ι 1)
def G6 : S451x1024.Idx → EReal := fun ι => dl (G5 m c ι) (V m c main_arg2 ι) (V m c main_arg3 ι) (V m c main_arg4 ι)
def G7 : S451x1024.Idx → EReal := fun ι => nm (G5 m c ι) (V m c main_arg3 ι)
def G8 : S451x1024.Idx → EReal := fun ι => nv (G5 m c ι) (V m c main_arg4 ι)

theorem grad (t : Fin grid0.N) (y : S451x1024.Idx) : gs (n := 3) (p := 0) (iblk m (ok m) c 1 t) (iblk m (ok m) c 0 t) (y 0) (y 1) = G5 m c (at5 m t y) := by
  refine add2 (congrArg (V m c main_arg1) (funext fun a => Fin.ext ?_)) (Finset.sum_congr rfl fun d _ => congrArg (V m c main_arg0) (funext fun a => Fin.ext ?_))
  · have e : ((cfgM m (ok m)).win 1).index t = ![0, (BitVec.ofNat 32 (grid0.coords t 0).val).toNat, 0] := ix m (grid0.coords t)
    match a with
    | ⟨0, _⟩ => exact ((cfgM m (ok m)).win 1).rect_emb_val_of_index_zero t (0 : Fin 3) (congrFun e (0 : Fin 3)) _
    | ⟨1, _⟩ =>
      refine (((cfgM m (ok m)).win 1).rect_emb_val t _ (1 : Fin 3)).trans (Eq.trans ?_ (((cfgM m (ok m)).win 5).rect_emb_val t y (0 : Fin 2)).symm)
      rw [e]
      rfl
    | ⟨2, _⟩ => exact (((cfgM m (ok m)).win 1).rect_emb_val_of_index_zero t (2 : Fin 3) (congrFun e (2 : Fin 3)) _).trans (((cfgM m (ok m)).win 5).rect_emb_val_of_index_zero t (1 : Fin 2) rfl y).symm
  · match a with
    | ⟨0, _⟩ => exact ((cfgM m (ok m)).win 0).rect_emb_val_of_index_zero t (0 : Fin 3) rfl _
    | ⟨1, _⟩ => rfl
    | ⟨2, _⟩ => rfl

attribute [local irreducible] out0_A_5 out0_A_6 out0_A_7 out0_A_8

theorem cov (ι : S451x1024.Idx) : ∃ (t : Fin grid0.N) (y : S451x1024.Idx), at5 m t y = ι := by
  have hr : (ι 0).val < 451 := (ι 0).isLt
  have hN : (ι 0).val / 451 < grid0.N := by rw [N_0]; omega
  refine ⟨⟨(ι 0).val / 451, hN⟩, ix2 ⟨(ι 0).val % 451, Nat.mod_lt _ (by decide)⟩ (ι 1), funext fun a => Fin.ext ?_⟩
  match a with
  | ⟨0, _⟩ =>
    have e : ∀ t : Fin grid0.N, cc0_transform_5 (grid0.coords t) (0 : Fin 2) = t.val := by decide +kernel
    exact (((cfgM m (ok m)).win 5).rect_emb_val _ _ (0 : Fin 2)).trans ((congrArg (· * 451 + (ι 0).val % 451) (e ⟨_, hN⟩)).trans (Nat.div_add_mod' _ _))
  | ⟨1, _⟩ => exact ((cfgM m (ok m)).win 5).rect_emb_val_of_index_zero _ (1 : Fin 2) rfl _

theorem final : ((dats m (ok m) 0 c).arrAt 5 (cfgM m (ok m)).N = G5 m c ∧ (dats m (ok m) 0 c).arrAt 6 (cfgM m (ok m)).N = G6 m c) ∧
    (dats m (ok m) 0 c).arrAt 7 (cfgM m (ok m)).N = G7 m c ∧ (dats m (ok m) 0 c).arrAt 8 (cfgM m (ok m)).N = G8 m c := by
  have o (t : Fin grid0.N) := outs (c := c) (i := grid0.coords t) (h2 := hs0_0 m (ok m) t) (h3 := hs0_1 m (ok m) t) (h4 := hs0_2 m (ok m) t) (h5 := hs0_3 m (ok m) t) (h6 := hs0_4 m (ok m) t) (h7 := hs0_5 m (ok m) t)
    (h8 := hs0_6 m (ok m) t) (h9 := hs0_7 m (ok m) t) (h10 := hs0_8 m (ok m) t) (x0 := iblk m (ok m) c 0 t) (x1 := iblk m (ok m) c 1 t) (x2 := iblk m (ok m) c 2 t) (x3 := iblk m (ok m) c 3 t) (x4 := iblk m (ok m) c 4 t) (zero_word m)
  refine ⟨⟨(dats m (ok m) 0 c).arrAt_eq_of_cover 5 (G5 m c) (fun t _ => ?_) fun ι => ?_, (dats m (ok m) 0 c).arrAt_eq_of_cover 6 (G6 m c) (fun t _ => ?_) fun ι => ?_⟩,
    (dats m (ok m) 0 c).arrAt_eq_of_cover 7 (G7 m c) (fun t _ => ?_) fun ι => ?_, (dats m (ok m) 0 c).arrAt_eq_of_cover 8 (G8 m c) (fun t _ => ?_) fun ι => ?_⟩
  · exact (congrArg (((cfgM m (ok m)).win 5).cut (grid0.coords t)) ((after0_5 m (ok m) c t).trans (o t).1)).trans (funext fun (y : S451x1024.Idx) => grad m c t y)
  · obtain ⟨t, y, rfl⟩ := cov m ι
    exact ⟨t, flush0_5 _ t, View.emb_mem_set _ y⟩
  · exact (congrArg (((cfgM m (ok m)).win 6).cut (grid0.coords t)) ((after0_6 m (ok m) c t).trans (o t).2.1)).trans (funext fun (y : S451x1024.Idx) => congrArg (dl · _ _ _) (grad m c t y))
  · obtain ⟨t, y, rfl⟩ := cov m ι
    exact ⟨t, flush0_6 _ t, View.emb_mem_set _ y⟩
  · exact (congrArg (((cfgM m (ok m)).win 7).cut (grid0.coords t)) ((after0_7 m (ok m) c t).trans (o t).2.2.1)).trans (funext fun (y : S451x1024.Idx) => congrArg (nm · _) (grad m c t y))
  · obtain ⟨t, y, rfl⟩ := cov m ι
    exact ⟨t, flush0_7 _ t, View.emb_mem_set _ y⟩
  · exact (congrArg (((cfgM m (ok m)).win 8).cut (grid0.coords t)) ((after0_8 m (ok m) c t).trans (o t).2.2.2)).trans (funext fun (y : S451x1024.Idx) => congrArg (nv · _) (grad m c t y))
  · obtain ⟨t, y, rfl⟩ := cov m ι
    exact ⟨t, flush0_8 _ t, View.emb_mem_set _ y⟩

theorem frame_r : Cert.quiescent_ReferenceAdamInIdeal := by
  intro m ρ _
  exact (θ_run ReferenceAdamInIdeal.defs _ _).mono
    (fun r h => ⟨fun c => (h c).2.2.2.2, Idealize.ShloMosaic.sem_eq_zero_of_no_sems (by decide) r.2⟩) (ReferenceAdamInIdeal.Value.run (F := Ideal) m ρ)

theorem value : Cert.algebraic_KernelAdamInIdeal_ReferenceAdamInIdeal := by
  intro m g m' g' _ hm
  refine ⟨G5 m, G6 m, G7 m, G8 m, ?_, ?_⟩
  · refine (θ_run KernelAdamInIdeal.defs _ _).mono (fun r h c => ?_) (θ_run_and (run_main m g (ok m)) (unchanged m g (ok m)))
    obtain ⟨⟨f5, f6⟩, f7, f8⟩ := final m c
    exact ⟨((h.1 c).1 5).trans f5, ((h.1 c).1 6).trans f6, ((h.1 c).1 7).trans f7, ((h.1 c).1 8).trans f8, h.2 c⟩
  · refine (θ_run ReferenceAdamInIdeal.defs _ _).mono (fun r h c => ?_) (ReferenceAdamInIdeal.Value.run (F := Ideal) m' g')
    obtain ⟨e5, e6, e7, e8, hk⟩ := h c
    obtain ⟨a0, a1, a2, a3, a4⟩ := hm c
    rw [a0, a1] at e5
    rw [a0, a1, a2, a3, a4] at e6
    rw [a0, a1, a3] at e7
    rw [a0, a1, a4] at e8
    unfold G6 G7 G8 G5
    rw [V_main_arg0, V_main_arg1, V_main_arg2, V_main_arg3, V_main_arg4]
    exact ⟨e5.trans (funext (refg _ _ _ _ _ _ _ _)), e6.trans (funext fun _ => congrArg (dl · _ _ _) (refg _ _ _ _ _ _ _ _ _)), e7.trans (funext fun _ => congrArg (nm · _) (refg _ _ _ _ _ _ _ _ _)),
      e8.trans (funext fun _ => congrArg (nv · _) (refg _ _ _ _ _ _ _ _ _)), hk⟩

end Cert.StepAdamIn
-- ==== Proof.StepWout.lean ====
/- The gradient of the output projection: the kernel's array is the reference's. -/
module

public import proofs.«01_k».proof.Defs
public import proofs.«01_k».proof.Proof.Gen.KernelWoutIdeal.Value
public import proofs.«01_k».proof.Proof.Gen.ReferenceWoutIdeal.Run
public import proofs.«01_k».proof.Proof.StepProd

@[expose] public section

noncomputable section

namespace Cert.StepWout

open Cert.KernelWoutIdeal Cert.KernelWoutIdeal.Gen Idealize.ShloMosaic Idealize.ShloMosaic.TcCoe Idealize.SL.Sem Idealize.ShloMosaic.Updates Cert.Fox Cert.Step
open Idealize.ShloMosaic.LaneScatter (Blk)

variable (m : (ℓ : Loc nD τ sig) → Buf (Elt Ideal) ℓ) (c : Dev nD)

theorem idx0_0 : ∀ t : Fin cfg0.N, win0_0.index t 0 = 0 := (by decide +kernel : ∀ t : Fin grid0.N, _)
theorem idx0_1 : ∀ t : Fin cfg0.N, win0_0.index t 1 = t.val := (by decide +kernel : ∀ t : Fin grid0.N, _)

theorem blk0 (t : Fin cfg0.N) {A : Arr EReal} (hA : IsArr (R := 2048) (C := 1024) (β := EReal) (V m c main_arg0) A) :
    IsArr (R := 2048) (C := 512) (β := EReal) (iblk m c 0 t) (loadAt (0, 512 * t.val) A) := by
  refine isArr_window hA _ (((cfg0.win 0).blk t).view.emb) _ (fun j => rfl) (fun j => ?_) (fun j => ?_)
  · exact (win0_0.rect_emb_val_of_index_zero t 0 (idx0_0 t) j).trans (Nat.zero_add _).symm
  · refine (win0_0.rect_emb_val t j 1).trans ?_
    rw [idx0_1]
    show t.val * 512 + (j 1).val = 512 * t.val + (j 1).val
    omega

theorem idx1_0 : ∀ t : Fin cfg0.N, win0_1.index t 0 = 0 := (by decide +kernel : ∀ t : Fin grid0.N, _)
theorem idx1_1 : ∀ t : Fin cfg0.N, win0_1.index t 1 = 0 := (by decide +kernel : ∀ t : Fin grid0.N, _)

theorem blk1 (t : Fin cfg0.N) {A : Arr EReal} (hA : IsArr (R := 2048) (C := 1024) (β := EReal) (V m c main_arg1) A) :
    IsArr (R := 2048) (C := 1024) (β := EReal) (iblk m c 1 t) (loadAt (0, 0) A) := by
  refine isArr_window hA _ (((cfg0.win 1).blk t).view.emb) _ (fun j => rfl) (fun j => ?_) (fun j => ?_)
  · exact (win0_1.rect_emb_val_of_index_zero t 0 (idx1_0 t) j).trans (Nat.zero_add _).symm
  · exact (win0_1.rect_emb_val_of_index_zero t 1 (idx1_1 t) j).trans (Nat.zero_add _).symm

theorem idx2_0 : ∀ t : Fin cfg0.N, win0_2.index t 0 = t.val := (by decide +kernel : ∀ t : Fin grid0.N, _)
theorem idx2_1 : ∀ t : Fin cfg0.N, win0_2.index t 1 = 0 := (by decide +kernel : ∀ t : Fin grid0.N, _)
theorem idx2_2 : ∀ t : Fin cfg0.N, win0_2.index t 2 = 0 := (by decide +kernel : ∀ t : Fin grid0.N, _)
theorem xs2_0 : ∀ t : Fin cfg0.N, win0_2.xsize (grid0.coords t) 0 = 4 := (by decide +kernel : ∀ t : Fin grid0.N, _)
theorem xs2_1 : ∀ t : Fin cfg0.N, win0_2.xsize (grid0.coords t) 1 = 128 := (by decide +kernel : ∀ t : Fin grid0.N, _)
theorem xs2_2 : ∀ t : Fin cfg0.N, win0_2.xsize (grid0.coords t) 2 = 1024 := (by decide +kernel : ∀ t : Fin grid0.N, _)
theorem flush2 : ∀ t : Fin cfg0.N, win0_2.flush t = true := (by decide +kernel : ∀ t : Fin grid0.N, _)

/-- The product with the left operand turned. -/
def prod (A B : Arr EReal) : Arr EReal := fun p => ∑ k ∈ Finset.range 2048, A (k, p.1) * B (k, p.2)

theorem out2 {x0 : Vec Ideal S2048x512 .bf16} {x1 : Vec Ideal S2048x1024 .bf16} {A B : Arr EReal}
    (h0 : IsArr (β := EReal) x0 A) (h1 : IsArr (β := EReal) x1 B) : IsCube (g := 4) (h := 128) (w := 1024) (out0_2 x0 x1) (prod A B) := by
  unfold out0_2
  rw [View.canon_cons_unit_lit _ _ _ (by decide), View.ld_unit_lit _ _ (by decide), View.ld_unit_lit _ _ (by decide)]
  exact cube_cast (arr_truncf (arr_tn h0 h1 ⟨rfl, rfl, rfl, rfl, rfl, rfl⟩) bitsLt_bf16_f32) _

/-- The kernel's array. -/
theorem final2 {A B : Arr EReal} (h0 : IsArr (R := 2048) (C := 1024) (β := EReal) (m ((c : Thread nD τ).loc main_arg0)) A)
    (h1 : IsArr (R := 2048) (C := 1024) (β := EReal) (m ((c : Thread nD τ).loc main_arg1)) B) :
    IsCube (g := 8) (h := 128) (w := 1024) ((dats m 0 c).arrAt 2 cfg0.N) (prod A B) := fun j => by
  have hj0 : (j 0).val < 8 := (j 0).isLt
  have hj1 : (j 1).val < 128 := (j 1).isLt
  have hj2 : (j 2).val < 1024 := (j 2).isLt
  obtain ⟨t, ht⟩ : ∃ t : Fin cfg0.N, t.val = (j 0).val / 4 := ⟨⟨(j 0).val / 4, by show _ < 2; omega⟩, rfl⟩
  obtain ⟨y, hy, e⟩ := arrAt_block (dats m 0 c) 2 Value.disjoint2 t (flush2 t) j rfl fun a => by
    match a with
    | ⟨0, _⟩ =>
      have h3 := idx2_0 t
      have h4 := xs2_0 t
      show win0_2.index t 0 * 4 ≤ (j 0).val ∧ (j 0).val < win0_2.index t 0 * 4 + win0_2.xsize (grid0.coords t) 0
      rw [h3, h4]; omega
    | ⟨1, _⟩ =>
      have h3 := idx2_1 t
      have h4 := xs2_1 t
      show win0_2.index t 1 * 128 ≤ (j 1).val ∧ (j 1).val < win0_2.index t 1 * 128 + win0_2.xsize (grid0.coords t) 1
      rw [h3, h4]; omega
    | ⟨2, _⟩ =>
      have h3 := idx2_2 t
      have h4 := xs2_2 t
      show win0_2.index t 2 * 1024 ≤ (j 2).val ∧ (j 2).val < win0_2.index t 2 * 1024 + win0_2.xsize (grid0.coords t) 2
      rw [h3, h4]; omega
  have e0 : t.val * 4 + (y 0 : ℕ) = (j 0).val := (congrArg (· * 4 + (y 0 : ℕ)) (idx2_0 t)).symm.trans (hy 0)
  have e1 : 0 * 128 + (y 1 : ℕ) = (j 1).val := (congrArg (· * 128 + (y 1 : ℕ)) (idx2_1 t)).symm.trans (hy 1)
  have e2 : 0 * 1024 + (y 2 : ℕ) = (j 2).val := (congrArg (· * 1024 + (y 2 : ℕ)) (idx2_2 t)).symm.trans (hy 2)
  refine e.trans ?_
  rw [Value.flushed2]
  have ho := out2 (blk0 m c t (by rw [V_main_arg0]; exact h0)) (blk1 m c t (by rw [V_main_arg1]; exact h1))
  generalize out0_2 (F := Ideal) _ _ = X at ho ⊢
  refine (ho (win0_2.xinj (grid0.coords t) y)).trans ?_
  show prod _ _ ((y 0 : ℕ) * 128 + (y 1 : ℕ), (y 2 : ℕ)) = _
  unfold prod loadAt
  dsimp only
  rw [row_of (n := 512) e0 e1 rfl, col_of e2]
  simp only [Nat.zero_add]

end Cert.StepWout

namespace Cert.StepWout.Ref

open Cert.ReferenceWoutIdeal Cert.ReferenceWoutIdeal.Gen Idealize.ShloMosaic Idealize.ShloMosaic.TcCoe Idealize.SL.Sem Idealize.ShloMosaic.Updates Cert.Fox Cert.Step
open Idealize.ShloMosaic.LaneScatter (Blk)

/-- The reference's array. -/
theorem ref {x0 : FVec Ideal S2048x1024 .bf16} {x1 : FVec Ideal S2048x1024 .bf16} {A B : Arr EReal}
    (h0 : IsArr (R := 2048) (C := 1024) (β := EReal) x0 A) (h1 : IsArr (R := 2048) (C := 1024) (β := EReal) x1 B) :
    IsCube (g := 8) (h := 128) (w := 1024) (shapeCast S8x128x1024 (truncf .bf16 (transpose S1024x1024 [1, 0] (Host.dotGeneral dot_S2048x1024_S2048x1024_S1024x1024_0_0_1_1_n_n none (extf .f32 x1 bitsLt_bf16_f32) (extf .f32 x0 bitsLt_bf16_f32)) transposes_S1024x1024_S1024x1024_1_0) bitsLt_bf16_f32) shapeCasts_S1024x1024_S8x128x1024) (fun p => ∑ k ∈ Finset.range 2048, B (k, p.2) * A (k, p.1)) := by
  exact cube_cast (arr_truncf (arr_turn (arr_dtn (d := dot_S2048x1024_S2048x1024_S1024x1024_0_0_1_1_n_n) (arr_extf h1 bitsLt_bf16_f32) (arr_extf h0 bitsLt_bf16_f32) ⟨rfl, rfl, rfl, rfl, rfl, rfl⟩) _) bitsLt_bf16_f32) _

end Cert.StepWout.Ref

namespace Cert.StepWout

open Idealize.ShloMosaic Idealize.SL.Sem Idealize.ShloMosaic.Updates Cert.Fox Cert.Step

theorem frame_r : Cert.quiescent_ReferenceWoutIdeal := by
  intro m ρ _
  exact (θ_run Cert.ReferenceWoutIdeal.defs _ _).mono
    (fun r h => ⟨fun c => (h c).2, Idealize.ShloMosaic.sem_eq_zero_of_no_sems (by decide) r.2⟩)
    (Cert.ReferenceWoutIdeal.Value.run (F := Ideal) m ρ)

/-- Over the extended reals the kernel's array is the reference's. -/
theorem value : Cert.algebraic_KernelWoutIdeal_ReferenceWoutIdeal := by
  intro m g m' g' _ hm
  refine ⟨fun c => (Cert.KernelWoutIdeal.Gen.dats m 0 c).arrAt 2 Cert.KernelWoutIdeal.cfg0.N, Cert.KernelWoutIdeal.Value.run_blocks m g, ?_⟩
  refine (θ_run Cert.ReferenceWoutIdeal.defs _ _).mono (fun r h c => ?_) (Cert.ReferenceWoutIdeal.Value.run (F := Ideal) m' g')
  obtain ⟨h0, hk⟩ := h c
  obtain ⟨a0, a1⟩ := hm c
  refine ⟨h0.trans ?_, hk⟩
  rw [a0, a1]
  exact cube_ext (Ref.ref (isArr_ofBlk (by decide) (by decide) _) (isArr_ofBlk (by decide) (by decide) _))
    (final2 m c (isArr_ofBlk (by decide) (by decide) _) (isArr_ofBlk (by decide) (by decide) _)) fun p => Finset.sum_congr rfl fun k _ => mul_comm _ _

end Cert.StepWout

end
-- ==== Proof.StepWin.lean ====
/- The gradient of the input projection: the kernel's array is the reference's. -/
module

public import proofs.«01_k».proof.Defs
public import proofs.«01_k».proof.Proof.Gen.KernelWinIdeal.Value
public import proofs.«01_k».proof.Proof.Gen.ReferenceWinIdeal.Run
public import proofs.«01_k».proof.Proof.StepProd

@[expose] public section

noncomputable section

namespace Cert.StepWin

open Cert.KernelWinIdeal Cert.KernelWinIdeal.Gen Idealize.ShloMosaic Idealize.ShloMosaic.TcCoe Idealize.SL.Sem Idealize.ShloMosaic.Updates Cert.Fox Cert.Step
open Idealize.ShloMosaic.LaneScatter (Blk)

variable (m : (ℓ : Loc nD τ sig) → Buf (Elt Ideal) ℓ) (c : Dev nD)

theorem idx0_0 : ∀ t : Fin cfg0.N, win0_0.index t 0 = 0 := (by decide +kernel : ∀ t : Fin grid0.N, _)
theorem idx0_1 : ∀ t : Fin cfg0.N, win0_0.index t 1 = t.val := (by decide +kernel : ∀ t : Fin grid0.N, _)

theorem blk0 (t : Fin cfg0.N) {A : Arr EReal} (hA : IsArr (R := 2048) (C := 3712) (β := EReal) (V m c main_arg0) A) :
    IsArr (R := 2048) (C := 512) (β := EReal) (X0_0 m c t) (loadAt (0, 512 * t.val) A) := fun ι => by
  let y : ((cfg0.win 0).xblock (cfg0.grid.coords t)).Idx := fun a => ⟨(ι a).val, ((cfg0.win 0).moved_iff _ ι).mp (moved0_0 t ι) a⟩
  have e : X0_0 m c t ι = iblk m c 0 t y := by
    unfold X0_0 Pipeline.Window.fill
    rw [dif_pos (moved0_0 t ι)]
  refine e.trans ((hA (((cfg0.win 0).blk t).view.emb y)).trans (congrArg A (Prod.ext ?_ ?_)))
  · exact (win0_0.rect_emb_val_of_index_zero t 0 (idx0_0 t) y).trans (Nat.zero_add _).symm
  · refine (win0_0.rect_emb_val t y 1).trans ?_
    rw [idx0_1]
    show t.val * 512 + (ι 1).val = 512 * t.val + (ι 1).val
    omega

theorem idx1_0 : ∀ t : Fin cfg0.N, win0_1.index t 0 = 0 := (by decide +kernel : ∀ t : Fin grid0.N, _)
theorem idx1_1 : ∀ t : Fin cfg0.N, win0_1.index t 1 = 0 := (by decide +kernel : ∀ t : Fin grid0.N, _)

theorem blk1 (t : Fin cfg0.N) {A : Arr EReal} (hA : IsArr (R := 2048) (C := 1024) (β := EReal) (V m c main_arg1) A) :
    IsArr (R := 2048) (C := 1024) (β := EReal) (iblk m c 1 t) (loadAt (0, 0) A) := by
  refine isArr_window hA _ (((cfg0.win 1).blk t).view.emb) _ (fun j => rfl) (fun j => ?_) (fun j => ?_)
  · exact (win0_1.rect_emb_val_of_index_zero t 0 (idx1_0 t) j).trans (Nat.zero_add _).symm
  · exact (win0_1.rect_emb_val_of_index_zero t 1 (idx1_1 t) j).trans (Nat.zero_add _).symm

theorem idx2_0 : ∀ t : Fin cfg0.N, win0_2.index t 0 = t.val := (by decide +kernel : ∀ t : Fin grid0.N, _)
theorem idx2_1 : ∀ t : Fin cfg0.N, win0_2.index t 1 = 0 := (by decide +kernel : ∀ t : Fin grid0.N, _)
theorem idx2_2 : ∀ t : Fin cfg0.N, win0_2.index t 2 = 0 := (by decide +kernel : ∀ t : Fin grid0.N, _)
theorem xs2_0 : ∀ t : Fin cfg0.N, win0_2.xsize (grid0.coords t) 0 = 1 := (by decide +kernel : ∀ t : Fin grid0.N, _)
theorem xs2_1 : ∀ t : Fin cfg0.N, win0_2.xsize (grid0.coords t) 1 = 512 := (by decide +kernel : ∀ t : Fin grid0.N, _)
theorem xs2_2 : ∀ t : Fin cfg0.N, win0_2.xsize (grid0.coords t) 2 = 1024 := (by decide +kernel : ∀ t : Fin grid0.N, _)
theorem flush2 : ∀ t : Fin cfg0.N, win0_2.flush t = true := (by decide +kernel : ∀ t : Fin grid0.N, _)

/-- The product with the left operand turned. -/
def prod (A B : Arr EReal) : Arr EReal := fun p => ∑ k ∈ Finset.range 2048, A (k, p.1) * B (k, p.2)

theorem out2 (t : Fin cfg0.N) {x0 : Vec Ideal S2048x512 .bf16} {x1 : Vec Ideal S2048x1024 .bf16} {A B : Arr EReal}
    (h0 : IsArr (β := EReal) x0 A) (h1 : IsArr (β := EReal) x1 B) :
    IsCube (g := 1) (h := 512) (w := 1024) (out0_A_2 c (grid0.coords t) (ms0_0 t) (hs0_0 t) (ms0_1 t) (hs0_1 t) (ms0_2 t) (hs0_2 t) x0 x1) (prod A B) := by
  frame_out
  exact cube_cast (arr_truncf (arr_tn h0 h1 ⟨rfl, rfl, rfl, rfl, rfl, rfl⟩) bitsLt_bf16_f32) _

/-- The kernel's array. -/
theorem final2 {A B : Arr EReal} (h0 : IsArr (R := 2048) (C := 3712) (β := EReal) (m ((c : Thread nD τ).loc main_arg0)) A)
    (h1 : IsArr (R := 2048) (C := 1024) (β := EReal) (m ((c : Thread nD τ).loc main_arg1)) B) :
    IsCube (g := 7) (h := 512) (w := 1024) ((dats m 0 c).arrAt 2 cfg0.N) (prod A B) := fun j => by
  have hj0 : (j 0).val < 7 := (j 0).isLt
  have hj1 : (j 1).val < 512 := (j 1).isLt
  have hj2 : (j 2).val < 1024 := (j 2).isLt
  obtain ⟨t, ht⟩ : ∃ t : Fin cfg0.N, t.val = (j 0).val / 1 := ⟨⟨(j 0).val / 1, by show _ < 7; omega⟩, rfl⟩
  obtain ⟨y, hy, e⟩ := arrAt_block (dats m 0 c) 2 Value.disjoint2 t (flush2 t) j rfl fun a => by
    match a with
    | ⟨0, _⟩ =>
      have h3 := idx2_0 t
      have h4 := xs2_0 t
      show win0_2.index t 0 * 1 ≤ (j 0).val ∧ (j 0).val < win0_2.index t 0 * 1 + win0_2.xsize (grid0.coords t) 0
      rw [h3, h4]; omega
    | ⟨1, _⟩ =>
      have h3 := idx2_1 t
      have h4 := xs2_1 t
      show win0_2.index t 1 * 512 ≤ (j 1).val ∧ (j 1).val < win0_2.index t 1 * 512 + win0_2.xsize (grid0.coords t) 1
      rw [h3, h4]; omega
    | ⟨2, _⟩ =>
      have h3 := idx2_2 t
      have h4 := xs2_2 t
      show win0_2.index t 2 * 1024 ≤ (j 2).val ∧ (j 2).val < win0_2.index t 2 * 1024 + win0_2.xsize (grid0.coords t) 2
      rw [h3, h4]; omega
  have e0 : t.val * 1 + (y 0 : ℕ) = (j 0).val := (congrArg (· * 1 + (y 0 : ℕ)) (idx2_0 t)).symm.trans (hy 0)
  have e1 : 0 * 512 + (y 1 : ℕ) = (j 1).val := (congrArg (· * 512 + (y 1 : ℕ)) (idx2_1 t)).symm.trans (hy 1)
  have e2 : 0 * 1024 + (y 2 : ℕ) = (j 2).val := (congrArg (· * 1024 + (y 2 : ℕ)) (idx2_2 t)).symm.trans (hy 2)
  refine e.trans ?_
  rw [Value.flushed2_A]
  have ho := out2 c t (blk0 m c t (by rw [V_main_arg0]; exact h0)) (blk1 m c t (by rw [V_main_arg1]; exact h1))
  generalize out0_A_2 (F := Ideal) _ _ _ _ _ _ _ _ _ _ = X at ho ⊢
  refine (ho (win0_2.xinj (grid0.coords t) y)).trans ?_
  show prod _ _ ((y 0 : ℕ) * 512 + (y 1 : ℕ), (y 2 : ℕ)) = _
  unfold prod loadAt
  dsimp only
  rw [row_of (n := 512) e0 e1 rfl, col_of e2]
  simp only [Nat.zero_add]

end Cert.StepWin

namespace Cert.StepWin.Ref

open Cert.ReferenceWinIdeal Cert.ReferenceWinIdeal.Gen Idealize.ShloMosaic Idealize.ShloMosaic.TcCoe Idealize.SL.Sem Idealize.ShloMosaic.Updates Cert.Fox Cert.Step
open Idealize.ShloMosaic.LaneScatter (Blk)

/-- The reference's array. -/
theorem ref {x0 : FVec Ideal S2048x3712 .bf16} {x1 : FVec Ideal S2048x1024 .bf16} {A B : Arr EReal}
    (h0 : IsArr (R := 2048) (C := 3712) (β := EReal) x0 A) (h1 : IsArr (R := 2048) (C := 1024) (β := EReal) x1 B) :
    IsCube (g := 7) (h := 512) (w := 1024) (shapeCast S7x512x1024 (truncf .bf16 (transpose S3584x1024 [1, 0] (transpose S1024x3584 [1, 0] (Host.dotGeneral dot_S2048x3584_S2048x1024_S3584x1024_0_0_1_1_n_n none (extractStridedSlice S2048x3584 ![0, 0] (extf .f32 x0 bitsLt_bf16_f32) slices_S2048x3712_S2048x3584_0_0) (extf .f32 x1 bitsLt_bf16_f32)) transposes_S3584x1024_S1024x3584_1_0) transposes_S1024x3584_S3584x1024_1_0) bitsLt_bf16_f32) shapeCasts_S3584x1024_S7x512x1024) (fun p => ∑ k ∈ Finset.range 2048, A (k, p.1) * B (k, p.2)) := by
  have h := (cube_cast (g := 7) (h := 512) (arr_truncf (arr_turn (arr_turn (arr_dtn (d := dot_S2048x3584_S2048x1024_S3584x1024_0_0_1_1_n_n) (arr_slice (arr_extf h0 bitsLt_bf16_f32) slices_S2048x3712_S2048x3584_0_0) (arr_extf h1 bitsLt_bf16_f32) ⟨rfl, rfl, rfl, rfl, rfl, rfl⟩) transposes_S3584x1024_S1024x3584_1_0) transposes_S1024x3584_S3584x1024_1_0) bitsLt_bf16_f32) shapeCasts_S3584x1024_S7x512x1024)
  intro j
  refine (h j).trans ?_
  exact Finset.sum_congr rfl fun k _ => by rw [Nat.zero_add, Nat.zero_add]

end Cert.StepWin.Ref

namespace Cert.StepWin

open Idealize.ShloMosaic Idealize.SL.Sem Idealize.ShloMosaic.Updates Cert.Fox Cert.Step

theorem frame_r : Cert.quiescent_ReferenceWinIdeal := by
  intro m ρ _
  exact (θ_run Cert.ReferenceWinIdeal.defs _ _).mono
    (fun r h => ⟨fun c => (h c).2, Idealize.ShloMosaic.sem_eq_zero_of_no_sems (by decide) r.2⟩)
    (Cert.ReferenceWinIdeal.Value.run (F := Ideal) m ρ)

/-- Over the extended reals the kernel's array is the reference's. -/
theorem value : Cert.algebraic_KernelWinIdeal_ReferenceWinIdeal := by
  intro m g m' g' _ hm
  refine ⟨fun c => (Cert.KernelWinIdeal.Gen.dats m 0 c).arrAt 2 Cert.KernelWinIdeal.cfg0.N, Cert.KernelWinIdeal.Value.run_blocks m g, ?_⟩
  refine (θ_run Cert.ReferenceWinIdeal.defs _ _).mono (fun r h c => ?_) (Cert.ReferenceWinIdeal.Value.run (F := Ideal) m' g')
  obtain ⟨h0, hk⟩ := h c
  obtain ⟨a0, a1⟩ := hm c
  refine ⟨h0.trans ?_, hk⟩
  rw [a0, a1]
  exact cube_ext (Ref.ref (isArr_ofBlk (by decide) (by decide) _) (isArr_ofBlk (by decide) (by decide) _))
    (final2 m c (isArr_ofBlk (by decide) (by decide) _) (isArr_ofBlk (by decide) (by decide) _)) fun p => Finset.sum_congr rfl fun k _ => rfl

end Cert.StepWin

end
-- ==== Proof.StepUp.lean ====
/- The gradient of the up projection: the kernel's array is the reference's. -/
module

public import proofs.«01_k».proof.Defs
public import proofs.«01_k».proof.Proof.Gen.KernelUpIdeal.Value
public import proofs.«01_k».proof.Proof.Gen.ReferenceUpIdeal.Run
public import proofs.«01_k».proof.Proof.StepProd

@[expose] public section

noncomputable section

namespace Cert.StepUp

open Cert.KernelUpIdeal Cert.KernelUpIdeal.Gen Idealize.ShloMosaic Idealize.ShloMosaic.TcCoe Idealize.SL.Sem Idealize.ShloMosaic.Updates Cert.Fox Cert.Step
open Idealize.ShloMosaic.LaneScatter (Blk)

variable (m : (ℓ : Loc nD τ sig) → Buf (Elt Ideal) ℓ) (c : Dev nD)

theorem idx0_0 : ∀ t : Fin cfg0.N, win0_0.index t 0 = 0 := (by decide +kernel : ∀ t : Fin grid0.N, _)
theorem idx0_1 : ∀ t : Fin cfg0.N, win0_0.index t 1 = 0 := (by decide +kernel : ∀ t : Fin grid0.N, _)

theorem blk0 (t : Fin cfg0.N) {A : Arr EReal} (hA : IsArr (R := 1024) (C := 2048) (β := EReal) (V m c main_arg0) A) :
    IsArr (R := 1024) (C := 2048) (β := EReal) (iblk m c 0 t) (loadAt (0, 0) A) := by
  refine isArr_window hA _ (((cfg0.win 0).blk t).view.emb) _ (fun j => rfl) (fun j => ?_) (fun j => ?_)
  · exact (win0_0.rect_emb_val_of_index_zero t 0 (idx0_0 t) j).trans (Nat.zero_add _).symm
  · exact (win0_0.rect_emb_val_of_index_zero t 1 (idx0_1 t) j).trans (Nat.zero_add _).symm

theorem idx1_0 : ∀ t : Fin cfg0.N, win0_1.index t 0 = 0 := (by decide +kernel : ∀ t : Fin grid0.N, _)
theorem idx1_1 : ∀ t : Fin cfg0.N, win0_1.index t 1 = t.val := (by decide +kernel : ∀ t : Fin grid0.N, _)

theorem blk1 (t : Fin cfg0.N) {A : Arr EReal} (hA : IsArr (R := 2048) (C := 4096) (β := EReal) (V m c main_arg1) A) :
    IsArr (R := 2048) (C := 512) (β := EReal) (iblk m c 1 t) (loadAt (0, 512 * t.val) A) := by
  refine isArr_window hA _ (((cfg0.win 1).blk t).view.emb) _ (fun j => rfl) (fun j => ?_) (fun j => ?_)
  · exact (win0_1.rect_emb_val_of_index_zero t 0 (idx1_0 t) j).trans (Nat.zero_add _).symm
  · refine (win0_1.rect_emb_val t j 1).trans ?_
    rw [idx1_1]
    show t.val * 512 + (j 1).val = 512 * t.val + (j 1).val
    omega

theorem idx2_0 : ∀ t : Fin cfg0.N, win0_2.index t 0 = t.val := (by decide +kernel : ∀ t : Fin grid0.N, _)
theorem idx2_1 : ∀ t : Fin cfg0.N, win0_2.index t 1 = 0 := (by decide +kernel : ∀ t : Fin grid0.N, _)
theorem idx2_2 : ∀ t : Fin cfg0.N, win0_2.index t 2 = 0 := (by decide +kernel : ∀ t : Fin grid0.N, _)
theorem xs2_0 : ∀ t : Fin cfg0.N, win0_2.xsize (grid0.coords t) 0 = 1 := (by decide +kernel : ∀ t : Fin grid0.N, _)
theorem xs2_1 : ∀ t : Fin cfg0.N, win0_2.xsize (grid0.coords t) 1 = 1024 := (by decide +kernel : ∀ t : Fin grid0.N, _)
theorem xs2_2 : ∀ t : Fin cfg0.N, win0_2.xsize (grid0.coords t) 2 = 512 := (by decide +kernel : ∀ t : Fin grid0.N, _)
theorem flush2 : ∀ t : Fin cfg0.N, win0_2.flush t = true := (by decide +kernel : ∀ t : Fin grid0.N, _)

/-- The plain product. -/
def prod (A B : Arr EReal) : Arr EReal := fun p => ∑ k ∈ Finset.range 2048, A (p.1, k) * B (k, p.2)

theorem out2 {x0 : Vec Ideal S1024x2048 .bf16} {x1 : Vec Ideal S2048x512 .bf16} {A B : Arr EReal}
    (h0 : IsArr (β := EReal) x0 A) (h1 : IsArr (β := EReal) x1 B) : IsCube (g := 1) (h := 1024) (w := 512) (out0_2 x0 x1) (prod A B) := by
  unfold out0_2
  rw [View.canon_cons_unit_lit _ _ _ (by decide), View.ld_unit_lit _ _ (by decide), View.ld_unit_lit _ _ (by decide)]
  exact cube_cast (arr_truncf (arr_nn h0 h1 rfl) bitsLt_bf16_f32) _

/-- The kernel's array. -/
theorem final2 {A B : Arr EReal} (h0 : IsArr (R := 1024) (C := 2048) (β := EReal) (m ((c : Thread nD τ).loc main_arg0)) A)
    (h1 : IsArr (R := 2048) (C := 4096) (β := EReal) (m ((c : Thread nD τ).loc main_arg1)) B) (j : S8x1024x512.Idx) :
    ((dats m 0 c).arrAt 2 cfg0.N : S8x1024x512.Idx → EReal) j = prod A B ((j 1).val, (j 0).val * 512 + (j 2).val) := by
  have hj0 : (j 0).val < 8 := (j 0).isLt
  have hj1 : (j 1).val < 1024 := (j 1).isLt
  have hj2 : (j 2).val < 512 := (j 2).isLt
  obtain ⟨t, ht⟩ : ∃ t : Fin cfg0.N, t.val = (j 0).val := ⟨⟨(j 0).val, hj0⟩, rfl⟩
  obtain ⟨y, hy, e⟩ := arrAt_block (dats m 0 c) 2 Value.disjoint2 t (flush2 t) j rfl fun a => by
    match a with
    | ⟨0, _⟩ =>
      have h3 := idx2_0 t
      have h4 := xs2_0 t
      show win0_2.index t 0 * 1 ≤ (j 0).val ∧ (j 0).val < win0_2.index t 0 * 1 + win0_2.xsize (grid0.coords t) 0
      rw [h3, h4]; omega
    | ⟨1, _⟩ =>
      have h3 := idx2_1 t
      have h4 := xs2_1 t
      show win0_2.index t 1 * 1024 ≤ (j 1).val ∧ (j 1).val < win0_2.index t 1 * 1024 + win0_2.xsize (grid0.coords t) 1
      rw [h3, h4]; omega
    | ⟨2, _⟩ =>
      have h3 := idx2_2 t
      have h4 := xs2_2 t
      show win0_2.index t 2 * 512 ≤ (j 2).val ∧ (j 2).val < win0_2.index t 2 * 512 + win0_2.xsize (grid0.coords t) 2
      rw [h3, h4]; omega
  have e0 : t.val * 1 + (y 0 : ℕ) = (j 0).val := (congrArg (· * 1 + (y 0 : ℕ)) (idx2_0 t)).symm.trans (hy 0)
  have e1 : 0 * 1024 + (y 1 : ℕ) = (j 1).val := (congrArg (· * 1024 + (y 1 : ℕ)) (idx2_1 t)).symm.trans (hy 1)
  have e2 : 0 * 512 + (y 2 : ℕ) = (j 2).val := (congrArg (· * 512 + (y 2 : ℕ)) (idx2_2 t)).symm.trans (hy 2)
  refine e.trans ?_
  rw [Value.flushed2]
  have ho := out2 (blk0 m c t (by rw [V_main_arg0]; exact h0)) (blk1 m c t (by rw [V_main_arg1]; exact h1))
  generalize out0_2 (F := Ideal) _ _ = X at ho ⊢
  refine (ho (win0_2.xinj (grid0.coords t) y)).trans ?_
  show prod _ _ ((y 0 : ℕ) * 1024 + (y 1 : ℕ), (y 2 : ℕ)) = _
  unfold prod loadAt
  dsimp only
  rw [show (y 0 : ℕ) * 1024 + (y 1 : ℕ) = (j 1).val from one_row e1 (y 0).isLt, ← col_of e2, ← ht, Nat.mul_comm t.val]
  simp only [Nat.zero_add]

end Cert.StepUp

namespace Cert.StepUp.Ref

open Cert.ReferenceUpIdeal Cert.ReferenceUpIdeal.Gen Idealize.ShloMosaic Idealize.ShloMosaic.TcCoe Idealize.SL.Sem Idealize.ShloMosaic.Updates Cert.Fox Cert.Step
open Idealize.ShloMosaic.LaneScatter (Blk)

/-- The reference's array. -/
theorem ref {x0 : FVec Ideal S1024x2048 .bf16} {x1 : FVec Ideal S2048x4096 .bf16} {A B : Arr EReal}
    (h0 : IsArr (R := 1024) (C := 2048) (β := EReal) x0 A) (h1 : IsArr (R := 2048) (C := 4096) (β := EReal) x1 B) (j : S8x1024x512.Idx) :
    transpose S8x1024x512 [1, 0, 2] (shapeCast S1024x8x512 (truncf .bf16 (transpose S1024x4096 [1, 0] (Host.dotGeneral dot_S2048x4096_S2048x1024_S4096x1024_0_0_1_1_n_n none (extf .f32 x1 bitsLt_bf16_f32) (transpose S2048x1024 [1, 0] (extf .f32 x0 bitsLt_bf16_f32) transposes_S1024x2048_S2048x1024_1_0)) transposes_S4096x1024_S1024x4096_1_0) bitsLt_bf16_f32) shapeCasts_S1024x4096_S1024x8x512) transposes_S1024x8x512_S8x1024x512_1_0_2 j
      = ∑ k ∈ Finset.range 2048, B (k, (j 0).val * 512 + (j 2).val) * A ((j 1).val, k) :=
  cut_cols (arr_truncf (arr_turn (arr_dtn (d := dot_S2048x4096_S2048x1024_S4096x1024_0_0_1_1_n_n) (arr_extf h1 bitsLt_bf16_f32) (arr_turn (arr_extf h0 bitsLt_bf16_f32) _) ⟨rfl, rfl, rfl, rfl, rfl, rfl⟩) _) bitsLt_bf16_f32) _ _ rfl j

end Cert.StepUp.Ref

namespace Cert.StepUp

open Idealize.ShloMosaic Idealize.SL.Sem Idealize.ShloMosaic.Updates Cert.Fox Cert.Step

theorem frame_r : Cert.quiescent_ReferenceUpIdeal := by
  intro m ρ _
  exact (θ_run Cert.ReferenceUpIdeal.defs _ _).mono
    (fun r h => ⟨fun c => (h c).2, Idealize.ShloMosaic.sem_eq_zero_of_no_sems (by decide) r.2⟩)
    (Cert.ReferenceUpIdeal.Value.run (F := Ideal) m ρ)

/-- Over the extended reals the kernel's array is the reference's. -/
theorem value : Cert.algebraic_KernelUpIdeal_ReferenceUpIdeal := by
  intro m g m' g' _ hm
  refine ⟨fun c => (Cert.KernelUpIdeal.Gen.dats m 0 c).arrAt 2 Cert.KernelUpIdeal.cfg0.N, Cert.KernelUpIdeal.Value.run_blocks m g, ?_⟩
  refine (θ_run Cert.ReferenceUpIdeal.defs _ _).mono (fun r h c => ?_) (Cert.ReferenceUpIdeal.Value.run (F := Ideal) m' g')
  obtain ⟨h0, hk⟩ := h c
  obtain ⟨a0, a1⟩ := hm c
  refine ⟨h0.trans ?_, hk⟩
  rw [a0, a1]
  exact funext fun j => (Ref.ref (isArr_ofBlk (by decide) (by decide) _) (isArr_ofBlk (by decide) (by decide) _) j).trans ((Finset.sum_congr rfl fun k _ => mul_comm _ _).trans (final2 m c (isArr_ofBlk (by decide) (by decide) _) (isArr_ofBlk (by decide) (by decide) _) j).symm)

end Cert.StepUp

end
-- ==== Proof.StepDown.lean ====
/- The gradient of the down projection: the kernel's array is the reference's. -/
module

public import proofs.«01_k».proof.Defs
public import proofs.«01_k».proof.Proof.Gen.KernelDownIdeal.Value
public import proofs.«01_k».proof.Proof.Gen.ReferenceDownIdeal.Run
public import proofs.«01_k».proof.Proof.StepProd

@[expose] public section

noncomputable section

namespace Cert.StepDown

open Cert.KernelDownIdeal Cert.KernelDownIdeal.Gen Idealize.ShloMosaic Idealize.ShloMosaic.TcCoe Idealize.SL.Sem Idealize.ShloMosaic.Updates Cert.Fox Cert.Step
open Idealize.ShloMosaic.LaneScatter (Blk)

variable (m : (ℓ : Loc nD τ sig) → Buf (Elt Ideal) ℓ) (c : Dev nD)

theorem idx0_0 : ∀ t : Fin cfg0.N, win0_0.index t 0 = 0 := (by decide +kernel : ∀ t : Fin grid0.N, _)
theorem idx0_1 : ∀ t : Fin cfg0.N, win0_0.index t 1 = t.val := (by decide +kernel : ∀ t : Fin grid0.N, _)

theorem blk0 (t : Fin cfg0.N) {A : Arr EReal} (hA : IsArr (R := 2048) (C := 4096) (β := EReal) (V m c main_arg0) A) :
    IsArr (R := 2048) (C := 512) (β := EReal) (iblk m c 0 t) (loadAt (0, 512 * t.val) A) := by
  refine isArr_window hA _ (((cfg0.win 0).blk t).view.emb) _ (fun j => rfl) (fun j => ?_) (fun j => ?_)
  · exact (win0_0.rect_emb_val_of_index_zero t 0 (idx0_0 t) j).trans (Nat.zero_add _).symm
  · refine (win0_0.rect_emb_val t j 1).trans ?_
    rw [idx0_1]
    show t.val * 512 + (j 1).val = 512 * t.val + (j 1).val
    omega

theorem idx1_0 : ∀ t : Fin cfg0.N, win0_1.index t 0 = 0 := (by decide +kernel : ∀ t : Fin grid0.N, _)
theorem idx1_1 : ∀ t : Fin cfg0.N, win0_1.index t 1 = 0 := (by decide +kernel : ∀ t : Fin grid0.N, _)

theorem blk1 (t : Fin cfg0.N) {A : Arr EReal} (hA : IsArr (R := 2048) (C := 1024) (β := EReal) (V m c main_arg1) A) :
    IsArr (R := 2048) (C := 1024) (β := EReal) (iblk m c 1 t) (loadAt (0, 0) A) := by
  refine isArr_window hA _ (((cfg0.win 1).blk t).view.emb) _ (fun j => rfl) (fun j => ?_) (fun j => ?_)
  · exact (win0_1.rect_emb_val_of_index_zero t 0 (idx1_0 t) j).trans (Nat.zero_add _).symm
  · exact (win0_1.rect_emb_val_of_index_zero t 1 (idx1_1 t) j).trans (Nat.zero_add _).symm

theorem idx2_0 : ∀ t : Fin cfg0.N, win0_2.index t 0 = t.val := (by decide +kernel : ∀ t : Fin grid0.N, _)
theorem idx2_1 : ∀ t : Fin cfg0.N, win0_2.index t 1 = 0 := (by decide +kernel : ∀ t : Fin grid0.N, _)
theorem idx2_2 : ∀ t : Fin cfg0.N, win0_2.index t 2 = 0 := (by decide +kernel : ∀ t : Fin grid0.N, _)
theorem xs2_0 : ∀ t : Fin cfg0.N, win0_2.xsize (grid0.coords t) 0 = 1 := (by decide +kernel : ∀ t : Fin grid0.N, _)
theorem xs2_1 : ∀ t : Fin cfg0.N, win0_2.xsize (grid0.coords t) 1 = 512 := (by decide +kernel : ∀ t : Fin grid0.N, _)
theorem xs2_2 : ∀ t : Fin cfg0.N, win0_2.xsize (grid0.coords t) 2 = 1024 := (by decide +kernel : ∀ t : Fin grid0.N, _)
theorem flush2 : ∀ t : Fin cfg0.N, win0_2.flush t = true := (by decide +kernel : ∀ t : Fin grid0.N, _)

/-- The product with the left operand turned and its positive parts squared. -/
def prod (A B : Arr EReal) : Arr EReal := fun p => ∑ k ∈ Finset.range 2048, max (A (k, p.1)) (Ideal.ofBits .f32 0x00000000#32) * max (A (k, p.1)) (Ideal.ofBits .f32 0x00000000#32) * B (k, p.2)

theorem out2 {x0 : Vec Ideal S2048x512 .bf16} {x1 : Vec Ideal S2048x1024 .bf16} {A B : Arr EReal}
    (h0 : IsArr (β := EReal) x0 A) (h1 : IsArr (β := EReal) x1 B) : IsCube (g := 1) (h := 512) (w := 1024) (out0_2 x0 x1) (prod A B) := by
  unfold out0_2
  rw [View.canon_cons_unit_lit _ _ _ (by decide), View.ld_unit_lit _ _ (by decide), View.ld_unit_lit _ _ (by decide)]
  exact cube_cast (arr_truncf (arr_tn (arr_truncf (arr_mulf (arr_maxf (arr_extf h0 bitsLt_bf16_f32) arr_splat) (arr_maxf (arr_extf h0 bitsLt_bf16_f32) arr_splat)) bitsLt_bf16_f32) h1 ⟨rfl, rfl, rfl, rfl, rfl, rfl⟩) bitsLt_bf16_f32) _

/-- The kernel's array. -/
theorem final2 {A B : Arr EReal} (h0 : IsArr (R := 2048) (C := 4096) (β := EReal) (m ((c : Thread nD τ).loc main_arg0)) A)
    (h1 : IsArr (R := 2048) (C := 1024) (β := EReal) (m ((c : Thread nD τ).loc main_arg1)) B) :
    IsCube (g := 8) (h := 512) (w := 1024) ((dats m 0 c).arrAt 2 cfg0.N) (prod A B) := fun j => by
  have hj0 : (j 0).val < 8 := (j 0).isLt
  have hj1 : (j 1).val < 512 := (j 1).isLt
  have hj2 : (j 2).val < 1024 := (j 2).isLt
  obtain ⟨t, ht⟩ : ∃ t : Fin cfg0.N, t.val = (j 0).val / 1 := ⟨⟨(j 0).val / 1, by show _ < 8; omega⟩, rfl⟩
  obtain ⟨y, hy, e⟩ := arrAt_block (dats m 0 c) 2 Value.disjoint2 t (flush2 t) j rfl fun a => by
    match a with
    | ⟨0, _⟩ =>
      have h3 := idx2_0 t
      have h4 := xs2_0 t
      show win0_2.index t 0 * 1 ≤ (j 0).val ∧ (j 0).val < win0_2.index t 0 * 1 + win0_2.xsize (grid0.coords t) 0
      rw [h3, h4]; omega
    | ⟨1, _⟩ =>
      have h3 := idx2_1 t
      have h4 := xs2_1 t
      show win0_2.index t 1 * 512 ≤ (j 1).val ∧ (j 1).val < win0_2.index t 1 * 512 + win0_2.xsize (grid0.coords t) 1
      rw [h3, h4]; omega
    | ⟨2, _⟩ =>
      have h3 := idx2_2 t
      have h4 := xs2_2 t
      show win0_2.index t 2 * 1024 ≤ (j 2).val ∧ (j 2).val < win0_2.index t 2 * 1024 + win0_2.xsize (grid0.coords t) 2
      rw [h3, h4]; omega
  have e0 : t.val * 1 + (y 0 : ℕ) = (j 0).val := (congrArg (· * 1 + (y 0 : ℕ)) (idx2_0 t)).symm.trans (hy 0)
  have e1 : 0 * 512 + (y 1 : ℕ) = (j 1).val := (congrArg (· * 512 + (y 1 : ℕ)) (idx2_1 t)).symm.trans (hy 1)
  have e2 : 0 * 1024 + (y 2 : ℕ) = (j 2).val := (congrArg (· * 1024 + (y 2 : ℕ)) (idx2_2 t)).symm.trans (hy 2)
  refine e.trans ?_
  rw [Value.flushed2]
  have ho := out2 (blk0 m c t (by rw [V_main_arg0]; exact h0)) (blk1 m c t (by rw [V_main_arg1]; exact h1))
  generalize out0_2 (F := Ideal) _ _ = X at ho ⊢
  refine (ho (win0_2.xinj (grid0.coords t) y)).trans ?_
  show prod _ _ ((y 0 : ℕ) * 512 + (y 1 : ℕ), (y 2 : ℕ)) = _
  unfold prod loadAt
  dsimp only
  rw [row_of (n := 512) e0 e1 rfl, col_of e2]
  simp only [Nat.zero_add]

end Cert.StepDown

namespace Cert.StepDown.Ref

open Cert.ReferenceDownIdeal Cert.ReferenceDownIdeal.Gen Idealize.ShloMosaic Idealize.ShloMosaic.TcCoe Idealize.SL.Sem Idealize.ShloMosaic.Updates Cert.Fox Cert.Step
open Idealize.ShloMosaic.LaneScatter (Blk)

/-- The reference's array. -/
theorem ref {x0 : FVec Ideal S2048x4096 .bf16} {x1 : FVec Ideal S2048x1024 .bf16} {A B : Arr EReal}
    (h0 : IsArr (R := 2048) (C := 4096) (β := EReal) x0 A) (h1 : IsArr (R := 2048) (C := 1024) (β := EReal) x1 B) :
    IsCube (g := 8) (h := 512) (w := 1024) (shapeCast S8x512x1024 (truncf .bf16 (transpose S4096x1024 [1, 0] (Host.dotGeneral dot_S2048x1024_S2048x4096_S1024x4096_0_0_1_1_n_n none (extf .f32 x1 bitsLt_bf16_f32) (mulf (maximumf (extf .f32 x0 bitsLt_bf16_f32) (broadcastInDim S2048x4096 ![] bcast_S_S2048x4096 (constant S_ .f32 0x00000000#32))) (maximumf (extf .f32 x0 bitsLt_bf16_f32) (broadcastInDim S2048x4096 ![] bcast_S_S2048x4096 (constant S_ .f32 0x00000000#32))))) transposes_S1024x4096_S4096x1024_1_0) bitsLt_bf16_f32) shapeCasts_S4096x1024_S8x512x1024) (fun p => ∑ k ∈ Finset.range 2048, B (k, p.2) * (max (A (k, p.1)) (Ideal.ofBits .f32 0x00000000#32) * max (A (k, p.1)) (Ideal.ofBits .f32 0x00000000#32))) := by
  have hm := arr_maxf (arr_extf h0 bitsLt_bf16_f32) (arr_bcast0 (w := 0x00000000#32) bcast_S_S2048x4096)
  exact cube_cast (arr_truncf (arr_turn (arr_dtn (d := dot_S2048x1024_S2048x4096_S1024x4096_0_0_1_1_n_n) (arr_extf h1 bitsLt_bf16_f32) (arr_mulf hm hm) ⟨rfl, rfl, rfl, rfl, rfl, rfl⟩) _) bitsLt_bf16_f32) _

end Cert.StepDown.Ref

namespace Cert.StepDown

open Idealize.ShloMosaic Idealize.SL.Sem Idealize.ShloMosaic.Updates Cert.Fox Cert.Step

theorem frame_r : Cert.quiescent_ReferenceDownIdeal := by
  intro m ρ _
  exact (θ_run Cert.ReferenceDownIdeal.defs _ _).mono
    (fun r h => ⟨fun c => (h c).2, Idealize.ShloMosaic.sem_eq_zero_of_no_sems (by decide) r.2⟩)
    (Cert.ReferenceDownIdeal.Value.run (F := Ideal) m ρ)

/-- Over the extended reals the kernel's array is the reference's. -/
theorem value : Cert.algebraic_KernelDownIdeal_ReferenceDownIdeal := by
  intro m g m' g' _ hm
  refine ⟨fun c => (Cert.KernelDownIdeal.Gen.dats m 0 c).arrAt 2 Cert.KernelDownIdeal.cfg0.N, Cert.KernelDownIdeal.Value.run_blocks m g, ?_⟩
  refine (θ_run Cert.ReferenceDownIdeal.defs _ _).mono (fun r h c => ?_) (Cert.ReferenceDownIdeal.Value.run (F := Ideal) m' g')
  obtain ⟨h0, hk⟩ := h c
  obtain ⟨a0, a1⟩ := hm c
  refine ⟨h0.trans ?_, hk⟩
  rw [a0, a1]
  exact cube_ext (Ref.ref (isArr_ofBlk (by decide) (by decide) _) (isArr_ofBlk (by decide) (by decide) _))
    (final2 m c (isArr_ofBlk (by decide) (by decide) _) (isArr_ofBlk (by decide) (by decide) _)) fun p => Finset.sum_congr rfl fun k _ => mul_comm _ _

end Cert.StepDown

end
-- ==== Proof.StepAct.lean ====
/- The gradient through the squared activation and the down projection: the kernel's array is the reference's. -/
module

public import proofs.«01_k».proof.Defs
public import proofs.«01_k».proof.Proof.Gen.KernelActIdeal.Value
public import proofs.«01_k».proof.Proof.Gen.ReferenceActIdeal.Run
public import proofs.«01_k».proof.Proof.StepProd

@[expose] public section

noncomputable section

namespace Cert.StepAct

open Cert.KernelActIdeal Cert.KernelActIdeal.Gen Idealize.ShloMosaic Idealize.ShloMosaic.TcCoe Idealize.SL.Sem Idealize.ShloMosaic.Updates Cert.Fox Cert.Step
open Idealize.ShloMosaic.LaneScatter (Blk)

variable (m : (ℓ : Loc nD τ sig) → Buf (Elt Ideal) ℓ) (c : Dev nD)

theorem idx0_0 : ∀ t : Fin cfg0.N, win0_0.index t 0 = t.val := (by decide +kernel : ∀ t : Fin grid0.N, _)
theorem idx0_1 : ∀ t : Fin cfg0.N, win0_0.index t 1 = 0 := (by decide +kernel : ∀ t : Fin grid0.N, _)
theorem idx1_0 : ∀ t : Fin cfg0.N, win0_1.index t 0 = 0 := (by decide +kernel : ∀ t : Fin grid0.N, _)
theorem idx1_1 : ∀ t : Fin cfg0.N, win0_1.index t 1 = 0 := (by decide +kernel : ∀ t : Fin grid0.N, _)
theorem idx2_0 : ∀ t : Fin cfg0.N, win0_2.index t 0 = t.val := (by decide +kernel : ∀ t : Fin grid0.N, _)
theorem idx2_1 : ∀ t : Fin cfg0.N, win0_2.index t 1 = 0 := (by decide +kernel : ∀ t : Fin grid0.N, _)
theorem idx3_0 : ∀ t : Fin cfg0.N, win0_3.index t 0 = t.val := (by decide +kernel : ∀ t : Fin grid0.N, _)
theorem idx3_1 : ∀ t : Fin cfg0.N, win0_3.index t 1 = 0 := (by decide +kernel : ∀ t : Fin grid0.N, _)
theorem flush3 : ∀ t : Fin cfg0.N, win0_3.flush t = true := (by decide +kernel : ∀ t : Fin grid0.N, _)

theorem xs3_0 : ∀ t : Fin cfg0.N, win0_3.xsize (grid0.coords t) 0 = 512 := (by decide +kernel : ∀ t : Fin grid0.N, _)
theorem xs3_1 : ∀ t : Fin cfg0.N, win0_3.xsize (grid0.coords t) 1 = 4096 := (by decide +kernel : ∀ t : Fin grid0.N, _)

theorem blk0 (t : Fin cfg0.N) {A : Arr EReal} (hA : IsArr (R := 2048) (C := 1024) (β := EReal) (V m c main_arg0) A) :
    IsArr (R := 512) (C := 1024) (β := EReal) (iblk m c 0 t) (loadAt (512 * t.val, 0) A) := by
  refine isArr_window hA _ (((cfg0.win 0).blk t).view.emb) _ (fun j => rfl) (fun j => ?_) (fun j => ?_)
  · exact (win0_0.rect_emb_val t j 0).trans (rows_val (idx0_0 t))
  · exact (win0_0.rect_emb_val_of_index_zero t 1 (idx0_1 t) j).trans (Nat.zero_add _).symm

theorem blk1 (t : Fin cfg0.N) {A : Arr EReal} (hA : IsArr (R := 4096) (C := 1024) (β := EReal) (V m c main_arg1) A) :
    IsArr (R := 4096) (C := 1024) (β := EReal) (iblk m c 1 t) (loadAt (0, 0) A) := by
  refine isArr_window hA _ (((cfg0.win 1).blk t).view.emb) _ (fun j => rfl) (fun j => ?_) (fun j => ?_)
  · exact (win0_1.rect_emb_val_of_index_zero t 0 (idx1_0 t) j).trans (Nat.zero_add _).symm
  · exact (win0_1.rect_emb_val_of_index_zero t 1 (idx1_1 t) j).trans (Nat.zero_add _).symm

theorem blk2 (t : Fin cfg0.N) {A : Arr EReal} (hA : IsArr (R := 2048) (C := 4096) (β := EReal) (V m c main_arg2) A) :
    IsArr (R := 512) (C := 4096) (β := EReal) (iblk m c 2 t) (loadAt (512 * t.val, 0) A) := by
  refine isArr_window hA _ (((cfg0.win 2).blk t).view.emb) _ (fun j => rfl) (fun j => ?_) (fun j => ?_)
  · exact (win0_2.rect_emb_val t j 0).trans (rows_val (idx2_0 t))
  · exact (win0_2.rect_emb_val_of_index_zero t 1 (idx2_1 t) j).trans (Nat.zero_add _).symm

/-- The gradient before the activation, from the cotangents, the weights and the activation's argument. -/
def act (A B U : Arr EReal) : Arr EReal := fun p =>
  (∑ k ∈ Finset.range 1024, A (p.1, k) * B (p.2, k)) * (Ideal.ofBits .f32 0x40000000#32 * max (U p) (Ideal.ofBits .f32 0x00000000#32))

theorem out3 {x0 : Vec Ideal S512x1024 .bf16} {x1 : Vec Ideal S4096x1024 .bf16} {x2 : Vec Ideal S512x4096 .bf16} {A B U : Arr EReal}
    (h0 : IsArr (β := EReal) x0 A) (h1 : IsArr (β := EReal) x1 B) (h2 : IsArr (β := EReal) x2 U) : IsArr (R := 512) (C := 4096) (β := EReal) (out0_3 x0 x1 x2) (act A B U) := by
  unfold out0_3
  rw [View.canon_cons_unit_lit _ _ _ (by decide), View.ld_unit_lit _ _ (by decide), View.ld_unit_lit _ _ (by decide), View.ld_unit_lit _ _ (by decide)]
  exact arr_truncf (arr_mulf (arr_nt h0 h1 rfl) (arr_mulf arr_splat (arr_maxf (arr_extf h2 bitsLt_bf16_f32) arr_splat))) _

/-- The kernel's array. -/
theorem final3 {A B U : Arr EReal} (h0 : IsArr (R := 2048) (C := 1024) (β := EReal) (m ((c : Thread nD τ).loc main_arg0)) A)
    (h1 : IsArr (R := 4096) (C := 1024) (β := EReal) (m ((c : Thread nD τ).loc main_arg1)) B)
    (h2 : IsArr (R := 2048) (C := 4096) (β := EReal) (m ((c : Thread nD τ).loc main_arg2)) U) :
    IsArr (R := 2048) (C := 4096) (β := EReal) ((dats m 0 c).arrAt 3 cfg0.N) (act A B U) := fun ι => by
  have hr : (ι 0).val < 2048 := (ι 0).isLt
  have hx : (ι 1).val < 4096 := (ι 1).isLt
  obtain ⟨t, ht⟩ : ∃ t : Fin cfg0.N, t.val = (ι 0).val / 512 := ⟨⟨(ι 0).val / 512, by show _ < 4; omega⟩, rfl⟩
  obtain ⟨y, hy, e⟩ := arrAt_block (dats m 0 c) 3 Value.disjoint3 t (flush3 t) ι rfl fun a => by
    match a with
    | ⟨0, _⟩ =>
      have h3 := idx3_0 t
      have h4 := xs3_0 t
      show win0_3.index t 0 * 512 ≤ (ι 0).val ∧ (ι 0).val < win0_3.index t 0 * 512 + win0_3.xsize (grid0.coords t) 0
      rw [h3, h4, ht]; omega
    | ⟨1, _⟩ =>
      have h3 := idx3_1 t
      have h4 := xs3_1 t
      show win0_3.index t 1 * 4096 ≤ (ι 1).val ∧ (ι 1).val < win0_3.index t 1 * 4096 + win0_3.xsize (grid0.coords t) 1
      rw [h3, h4]; omega
  have e0 : t.val * 512 + (y 0 : ℕ) = (ι 0).val := (congrArg (· * 512 + (y 0 : ℕ)) (idx3_0 t)).symm.trans (hy 0)
  have e1 : 0 * 4096 + (y 1 : ℕ) = (ι 1).val := (congrArg (· * 4096 + (y 1 : ℕ)) (idx3_1 t)).symm.trans (hy 1)
  refine e.trans ?_
  rw [Value.flushed3]
  have ho := out3 (blk0 m c t (by rw [V_main_arg0]; exact h0)) (blk1 m c t (by rw [V_main_arg1]; exact h1)) (blk2 m c t (by rw [V_main_arg2]; exact h2))
  generalize out0_3 (F := Ideal) _ _ _ = X at ho ⊢
  refine (ho (win0_3.xinj (grid0.coords t) y)).trans ?_
  show act _ _ _ ((y 0 : ℕ), (y 1 : ℕ)) = _
  unfold act loadAt
  dsimp only
  rw [← e0, ← e1]
  simp only [Nat.zero_add, Nat.zero_mul, Nat.mul_comm 512]

end Cert.StepAct

namespace Cert.StepAct.Ref

open Cert.ReferenceActIdeal Cert.ReferenceActIdeal.Gen Idealize.ShloMosaic Idealize.ShloMosaic.TcCoe Idealize.SL.Sem Idealize.ShloMosaic.Updates Cert.Fox Cert.Step
open Idealize.ShloMosaic.LaneScatter (Blk)

theorem msk_pos {x : FVec Ideal S2048x4096 .f32} {U : Arr EReal} (h : IsArr (R := 2048) (C := 4096) (β := EReal) x U) (b) :
    IsMsk (R := 2048) (C := 4096) (cmpf .ogt x (broadcastInDim S2048x4096 ![] b (constant S_ .f32 0x00000000#32))) (fun p => Ideal.ofBits .f32 0x00000000#32 < U p) := fun ι => by
  show BitVec.ofBool (decide (Ideal.ofBits .f32 0x00000000#32 < x ι)) = 1 ↔ Ideal.ofBits .f32 0x00000000#32 < U ((ι 0).val, (ι 1).val)
  rw [h ι]
  generalize Ideal.ofBits .f32 0x00000000#32 = z
  by_cases h' : z < U ((ι 0).val, (ι 1).val) <;> simp [h']

/-- Where the activation's argument is not positive the gradient is zero either way. -/
theorem act_sel (A B U : Arr EReal) (p : ℕ × ℕ) : sel (Ideal.ofBits .f32 0x00000000#32 < U p) (act A B U p) (Ideal.ofBits .f32 0x00000000#32) = act A B U p := by
  by_cases h : Ideal.ofBits .f32 0x00000000#32 < U p
  · exact sel_pos h _ _
  · rw [sel_neg h]
    unfold act
    rw [max_eq_right (not_lt.1 h), Ideal.ofBits_zero_f32, mul_zero, mul_zero]

/-- The reference's array. -/
theorem ref {x0 : FVec Ideal S2048x1024 .bf16} {x1 : FVec Ideal S4096x1024 .bf16} {x2 : FVec Ideal S2048x4096 .bf16} {A B U : Arr EReal}
    (h0 : IsArr (R := 2048) (C := 1024) (β := EReal) x0 A) (h1 : IsArr (R := 4096) (C := 1024) (β := EReal) x1 B) (h2 : IsArr (R := 2048) (C := 4096) (β := EReal) x2 U) :
    IsArr (R := 2048) (C := 4096) (β := EReal) (truncf .bf16 (select (cmpf .ogt (extf .f32 x2 bitsLt_bf16_f32) (broadcastInDim S2048x4096 ![] bcast_S_S2048x4096 (constant S_ .f32 0x00000000#32)))
      (mulf (Host.dotGeneral dot_S2048x1024_S4096x1024_S2048x4096_1_1_0_0_n_n none (extf .f32 x0 bitsLt_bf16_f32) (extf .f32 x1 bitsLt_bf16_f32))
        (mulf (broadcastInDim S2048x4096 ![] bcast_S_S2048x4096 (constant S_ .f32 0x40000000#32)) (maximumf (extf .f32 x2 bitsLt_bf16_f32) (broadcastInDim S2048x4096 ![] bcast_S_S2048x4096 (constant S_ .f32 0x00000000#32)))))
      (broadcastInDim S2048x4096 ![] bcast_S_S2048x4096 (constant S_ .f32 0x00000000#32))) bitsLt_bf16_f32) (act A B U) := by
  have h := arr_truncf (ψ := .bf16) (arr_sel (msk_pos (arr_extf h2 bitsLt_bf16_f32) bcast_S_S2048x4096)
    (arr_mulf (arr_dnt (d := dot_S2048x1024_S4096x1024_S2048x4096_1_1_0_0_n_n) (arr_extf h0 bitsLt_bf16_f32) (arr_extf h1 bitsLt_bf16_f32) rfl)
      (arr_mulf (arr_bcast0 (w := 0x40000000#32) bcast_S_S2048x4096) (arr_maxf (arr_extf h2 bitsLt_bf16_f32) (arr_bcast0 (w := 0x00000000#32) bcast_S_S2048x4096))))
    (arr_bcast0 (w := 0x00000000#32) bcast_S_S2048x4096)) bitsLt_bf16_f32
  exact fun ι => (h ι).trans (act_sel A B U _)

end Cert.StepAct.Ref

namespace Cert.StepAct

open Idealize.ShloMosaic Idealize.SL.Sem Idealize.ShloMosaic.Updates Cert.Fox Cert.Step

theorem frame_r : Cert.quiescent_ReferenceActIdeal := by
  intro m ρ _
  exact (θ_run Cert.ReferenceActIdeal.defs _ _).mono
    (fun r h => ⟨fun c => (h c).2, Idealize.ShloMosaic.sem_eq_zero_of_no_sems (by decide) r.2⟩)
    (Cert.ReferenceActIdeal.Value.run (F := Ideal) m ρ)

/-- Over the extended reals the kernel's array is the reference's. -/
theorem value : Cert.algebraic_KernelActIdeal_ReferenceActIdeal := by
  intro m g m' g' _ hm
  refine ⟨fun c => (Cert.KernelActIdeal.Gen.dats m 0 c).arrAt 3 Cert.KernelActIdeal.cfg0.N, Cert.KernelActIdeal.Value.run_blocks m g, ?_⟩
  refine (θ_run Cert.ReferenceActIdeal.defs _ _).mono (fun r h c => ?_) (Cert.ReferenceActIdeal.Value.run (F := Ideal) m' g')
  obtain ⟨h0, hk⟩ := h c
  obtain ⟨a0, a1, a2⟩ := hm c
  refine ⟨h0.trans ?_, hk⟩
  rw [a0, a1, a2]
  exact arr_ext (R := 2048) (C := 4096) (Ref.ref (isArr_ofBlk (by decide) (by decide) _) (isArr_ofBlk (by decide) (by decide) _) (isArr_ofBlk (by decide) (by decide) _))
    (final3 m c (isArr_ofBlk (by decide) (by decide) _) (isArr_ofBlk (by decide) (by decide) _) (isArr_ofBlk (by decide) (by decide) _)) fun _ _ _ _ => rfl

end Cert.StepAct

end
-- ==== Proof.StepNorm.lean ====
/- The root mean square norm's gradient over the extended reals: the kernels' form and the reference's are the same number, also where
   entries are infinite. -/
module

public import proofs.«01_k».proof.Proof.StepProd

@[expose] public section

noncomputable section

namespace Cert.Step

open Idealize.ShloMosaic Idealize.ShloMosaic.Updates Cert.Fox
open Idealize.ShloMosaic.LaneScatter (Blk)

variable {R C : ℕ}

/-! ## One row -/

/-- The width, the small number and minus one half, as the programs write them. -/
theorem width_bits : Ideal.ofBits .f32 0x44800000#32 = ((1024 : ℝ) : EReal) := by
  simp [Ideal.ofBits, Ideal.ieee, -EReal.coe_mul]; norm_num
theorem half_bits : Ideal.ofBits .f32 0xBF000000#32 = ((-(1 / 2) : ℝ) : EReal) := by
  simp [Ideal.ofBits, Ideal.ieee, -EReal.coe_mul]; norm_num
theorem small_bits : ∃ e : ℝ, 0 < e ∧ Ideal.ofBits .f32 0x358637BD#32 = (e : EReal) := by
  refine ⟨_, ?_, by simp only [Ideal.ofBits, Ideal.ieee]; simp [-EReal.coe_mul]; rfl⟩
  positivity

/-- A row's mean square, with the small number added. -/
def ms (x : ℕ → EReal) : EReal := Ideal.div (∑ k ∈ Finset.range 1024, x k * x k) (Ideal.ofBits .f32 0x44800000#32) + Ideal.ofBits .f32 0x358637BD#32

/-- The reciprocal root of a row's mean square. -/
def rs (x : ℕ → EReal) : EReal := Ideal.rsqrt (ms x)

theorem sq_nonneg' (a : EReal) : 0 ≤ a * a := by
  rcases le_total 0 a with h | h
  · exact mul_nonneg h h
  · rw [← neg_mul_neg]
    exact mul_nonneg (EReal.neg_nonneg.mpr h) (EReal.neg_nonneg.mpr h)

theorem div_width (a : EReal) : Ideal.div a (Ideal.ofBits .f32 0x44800000#32) = a * ((1 / 1024 : ℝ) : EReal) := by
  rw [width_bits, Ideal.div_coe (by norm_num)]

/-- Either the mean square is infinite and its reciprocal root zero, or both are positive reals. -/
theorem ms_cases (x : ℕ → EReal) : (ms x = ⊤ ∧ rs x = 0) ∨ ∃ v r : ℝ, 0 < v ∧ 0 < r ∧ r * r * v = 1 ∧ ms x = (v : EReal) ∧ rs x = (r : EReal) := by
  obtain ⟨e, he, hb⟩ := small_bits
  have h0 : 0 ≤ Ideal.div (∑ k ∈ Finset.range 1024, x k * x k) (Ideal.ofBits .f32 0x44800000#32) := by
    rw [div_width]
    exact mul_nonneg (Finset.sum_nonneg fun k _ => sq_nonneg' _) (by exact_mod_cast (by norm_num : (0 : ℝ) ≤ 1 / 1024))
  have hm : ms x = Ideal.div (∑ k ∈ Finset.range 1024, x k * x k) (Ideal.ofBits .f32 0x44800000#32) + (e : EReal) := by rw [ms, hb]
  have hr : rs x = Ideal.rsqrt (ms x) := rfl
  rw [hr]
  generalize Ideal.div (∑ k ∈ Finset.range 1024, x k * x k) (Ideal.ofBits .f32 0x44800000#32) = s at h0 hm
  induction s with
  | bot => exact absurd h0 (by simp)
  | top =>
    left
    rw [hm]
    exact ⟨rfl, rfl⟩
  | coe s =>
    right
    have hs : 0 ≤ s := by exact_mod_cast h0
    have hv : 0 < s + e := by linarith
    rw [hm, ← EReal.coe_add]
    refine ⟨s + e, (Real.sqrt (s + e))⁻¹, hv, inv_pos.mpr (Real.sqrt_pos.mpr hv), ?_, rfl, ?_⟩
    · rw [← mul_inv, Real.mul_self_sqrt hv.le, inv_mul_cancel₀ hv.ne']
    · show (if s + e < 0 then (⊥ : EReal) else if s + e = 0 then ⊤ else (((Real.sqrt (s + e))⁻¹ : ℝ) : EReal)) = _
      rw [if_neg (not_lt.mpr hv.le), if_neg hv.ne']

theorem real_mul_add {r : ℝ} (hr : 0 < r) (a b : EReal) : (r : EReal) * (a + b) = r * a + r * b := by
  induction a <;> induction b <;>
    first
    | (norm_cast; ring1)
    | simp [EReal.coe_mul_top_of_pos hr, EReal.coe_mul_bot_of_pos hr, ← EReal.coe_mul]

theorem real_mul_sum {r : ℝ} (hr : 0 < r) (f : ℕ → EReal) (n : ℕ) : (r : EReal) * ∑ k ∈ Finset.range n, f k = ∑ k ∈ Finset.range n, r * f k := by
  induction n with
  | zero => simp
  | succ n ih => rw [Finset.sum_range_succ, Finset.sum_range_succ, real_mul_add hr, ih]

/-- Doubling: a number plus itself. -/
theorem add_self' (a : EReal) : a + a = ((2 : ℝ) : EReal) * a := by
  induction a with
  | bot => rw [EReal.coe_mul_bot_of_pos (by norm_num)]; rfl
  | top => rw [EReal.coe_mul_top_of_pos (by norm_num)]; rfl
  | coe a => norm_cast; ring

/-- The kernels' form of the gradient in the norm's input, at one entry. -/
def kback (x g : ℕ → EReal) (c : ℕ) : EReal :=
  rs x * (g c - x c * rs x * Ideal.div (∑ k ∈ Finset.range 1024, g k * (x k * rs x)) (Ideal.ofBits .f32 0x44800000#32))

/-- The factor that the reference has of the row. -/
def hq (x g : ℕ → EReal) : EReal :=
  Ideal.div ((∑ k ∈ Finset.range 1024, x k * g k) * (Ideal.ofBits .f32 0xBF000000#32 * Ideal.div (rs x) (ms x))) (Ideal.ofBits .f32 0x44800000#32)

/-- The reference's form. -/
def hback (x g : ℕ → EReal) (c : ℕ) : EReal := g c * rs x + x c * hq x g + hq x g * x c

theorem back_eq (x g : ℕ → EReal) (c : ℕ) : kback x g c = hback x g c := by
  unfold kback hback hq
  rw [div_width, div_width, half_bits]
  rcases ms_cases x with ⟨hm, hr⟩ | ⟨v, r, hv, hr, e, hm, hr'⟩
  · rw [hr, hm]
    simp [Ideal.div]
  · rw [hm, hr', Ideal.div_coe hv.ne']
    have hs : ∑ k ∈ Finset.range 1024, g k * (x k * (r : EReal)) = (r : EReal) * ∑ k ∈ Finset.range 1024, x k * g k := by
      rw [real_mul_sum hr]
      exact Finset.sum_congr rfl fun k _ => by rw [mul_comm (x k) (r : EReal), mul_left_comm, mul_comm (g k)]
    rw [hs]
    generalize ∑ k ∈ Finset.range 1024, x k * g k = T
    rw [sub_eq_add_neg, real_mul_add hr, add_assoc, mul_comm (r : EReal) (g c)]
    congr 1
    have hc : r * (1 / v) = r * r * r := by
      have : 1 / v = r * r := by rw [eq_comm, eq_div_iff hv.ne', e]
      rw [this]; ring
    have hq : T * (((-(1 / 2) : ℝ) : EReal) * ((r : EReal) * ((1 / v : ℝ) : EReal))) * ((1 / 1024 : ℝ) : EReal) = -(((r * r * r * (1 / 2048) : ℝ) : EReal) * T) := by
      rw [← EReal.coe_mul, ← EReal.coe_mul, hc, mul_assoc, ← EReal.coe_mul, mul_comm T, ← EReal.neg_mul, ← EReal.coe_neg]
      congr 2
      ring
    have ha : (r : EReal) * (x c * r * (r * T * ((1 / 1024 : ℝ) : EReal))) = ((r : EReal) * r * r * ((1 / 1024 : ℝ) : EReal)) * (x c * T) := by ac_rfl
    have hb : ((2 : ℝ) : EReal) * (x c * (((r * r * r * (1 / 2048) : ℝ) : EReal) * T)) = (((2 : ℝ) : EReal) * ((r * r * r * (1 / 2048) : ℝ) : EReal)) * (x c * T) := by ac_rfl
    rw [hq, mul_comm (-_) (x c), add_self', mul_neg, mul_neg, mul_neg, ha, hb, ← EReal.coe_mul, ← EReal.coe_mul, ← EReal.coe_mul, ← EReal.coe_mul]
    congr 3
    ring

/-! ## Arrays -/

theorem arr_divf {x y : FVec Ideal (Blk R C) .f32} {A B : Arr EReal} (hx : IsArr x A) (hy : IsArr y B) :
    IsArr (β := EReal) (divf x y) (fun p => Ideal.div (A p) (B p)) := fun ι => congrArg₂ Ideal.div (hx ι) (hy ι)

theorem arr_hdivf {x y : FVec Ideal (Blk R C) .f32} {A B : Arr EReal} (hx : IsArr x A) (hy : IsArr y B) :
    IsArr (β := EReal) (Host.divf x y) (fun p => Ideal.div (A p) (B p)) := fun ι => congrArg₂ Ideal.div (hx ι) (hy ι)

theorem arr_rsqrt {x : FVec Ideal (Blk R C) .f32} {A : Arr EReal} (hx : IsArr x A) :
    IsArr (β := EReal) (rsqrt x) (fun p => Ideal.rsqrt (A p)) := fun ι => congrArg Ideal.rsqrt (hx ι)

theorem arr_hrsqrt {x : FVec Ideal (Blk R C) .f32} {A : Arr EReal} (hx : IsArr x A) :
    IsArr (β := EReal) (Host.rsqrt x) (fun p => Ideal.rsqrt (A p)) := fun ι => congrArg Ideal.rsqrt (hx ι)

theorem arr_same {x : (Blk R C).Idx → EReal} {A : Arr EReal} (hx : IsArr x A) (h : (Blk R C).ShapeCasts (Blk R C)) :
    IsArr (shapeCast (Blk R C) x h) A := by rw [shapeCast_self]; exact hx

theorem one_or {n a : ℕ} (ha : a < n) (P : n = 1 → 0 < n) : ((if h : n = 1 then ⟨0, P h⟩ else ⟨a, ha⟩ : Fin n) : ℕ) = a := by
  split
  · show 0 = a
    omega
  · rfl

/-- A column spread over the lanes. -/
theorem arr_bcol {x : (Blk R 1).Idx → EReal} {A : Arr EReal} (hx : IsArr x A) {h} :
    IsArr (broadcastInDim (Blk R C) ![0, 1] h x) (fun p => A (p.1, 0)) := fun ι => by
  pointwise
  refine (hx _).trans (congrArg A (Prod.ext ?_ ?_))
  · exact one_or (n := R) (a := (ι 0).val) (ι 0).isLt fun h => h ▸ Nat.one_pos
  · exact Nat.lt_one_iff.mp (Fin.isLt _)

/-- A row spread over the rows. -/
theorem arr_brow {x : (Blk 1 C).Idx → EReal} {A : Arr EReal} (hx : IsArr x A) {h} :
    IsArr (broadcastInDim (Blk R C) ![0, 1] h x) (fun p => A (0, p.2)) := fun ι => by
  pointwise
  refine (hx _).trans (congrArg A (Prod.ext ?_ ?_))
  · exact Nat.lt_one_iff.mp (Fin.isLt _)
  · exact one_or (n := C) (a := (ι 1).val) (ι 1).isLt fun h => h ▸ Nat.one_pos

/-- The host's sums over a row, kept as a column. -/
theorem arr_hrow {x : FVec Ideal (Blk R C) .f32} {A : Arr EReal} (hx : IsArr x A) {h1 h2 h3} :
    IsArr (β := EReal) (broadcastInDim (Blk R 1) ![0] h3 (Host.reduceAdd (F := Ideal) (t := ⟨1, ![R]⟩) (axes := [1]) x (constant ⟨0, ![]⟩ .f32 0x00000000#32) h1 h2))
      (fun p => ∑ k ∈ Finset.range C, A (p.1, k)) := fun ι => by
  dsimp only
  rw [Finset.sum_range]
  pointwise
  exact Finset.sum_congr rfl fun k _ => (hx _).trans (congrArg A (Prod.ext (one_or (n := R) (a := (ι 0).val) (ι 0).isLt fun h => h ▸ Nat.one_pos) rfl))

/-- The same sums, kept as a column by a cast. -/
theorem arr_hrow_cast {x : FVec Ideal (Blk R C) .f32} {A : Arr EReal} (hx : IsArr x A) {h1 h2 h3} :
    IsArr (β := EReal) (shapeCast (Blk R 1) (Host.reduceAdd (F := Ideal) (t := ⟨1, ![R]⟩) (axes := [1]) x (constant ⟨0, ![]⟩ .f32 0x00000000#32) h1 h2) h3)
      (fun p => ∑ k ∈ Finset.range C, A (p.1, k)) := fun ι => by
  dsimp only
  rw [Finset.sum_range]
  pointwise
  have hj : (Shape.reshapeEquiv h3) ι = (fun a => ⟨(ι 0).val, by obtain rfl : a = 0 := Subsingleton.elim _ _; exact (ι 0).isLt⟩ : (⟨1, ![R]⟩ : Shape).Idx) := by
    refine Shape.reshapeEquiv_eq_of_vals _ _ _ _ _ (rowMajor_val1 _) (rowMajor_val2 ι 1 rfl) ?_
    have : (ι 1).val < 1 := (ι 1).isLt
    simp only
    omega
  rw [hj]
  exact Finset.sum_congr rfl fun k _ => hx _

/-- The host's sum over the one lane of a column, spread over the lanes. -/
theorem arr_hone {x : FVec Ideal (Blk R 1) .f32} {A : Arr EReal} (hx : IsArr x A) {h1 h2 h3} :
    IsArr (β := EReal) (broadcastInDim (Blk R C) ![0] h3 (Host.reduceAdd (F := Ideal) (t := ⟨1, ![R]⟩) (axes := [1]) x (constant ⟨0, ![]⟩ .f32 0x00000000#32) h1 h2))
      (fun p => A (p.1, 0)) := fun ι => by
  pointwise
  refine (Fin.sum_univ_one _).trans ?_
  exact (hx _).trans (congrArg A (Prod.ext (one_or (n := R) (a := (ι 0).val) (ι 0).isLt fun h => h ▸ Nat.one_pos) rfl))

/-- The host's sums over the rows, kept as a row. -/
theorem arr_hcol {x : FVec Ideal (Blk R C) .f32} {A : Arr EReal} (hx : IsArr x A) {h1 h2 h3} :
    IsArr (β := EReal) (shapeCast (Blk 1 C) (Host.reduceAdd (F := Ideal) (t := ⟨1, ![C]⟩) (axes := [0]) x (constant ⟨0, ![]⟩ .f32 0x00000000#32) h1 h2) h3)
      (fun p => ∑ k ∈ Finset.range R, A (k, p.2)) := fun ι => by
  dsimp only
  rw [Finset.sum_range]
  pointwise
  have hj : (Shape.reshapeEquiv h3) ι = (fun a => ⟨(ι 1).val, by obtain rfl : a = 0 := Subsingleton.elim _ _; exact (ι 1).isLt⟩ : (⟨1, ![C]⟩ : Shape).Idx) := by
    refine Shape.reshapeEquiv_eq_of_vals _ _ _ _ _ (rowMajor_val1 _) (rowMajor_val2 ι C rfl) ?_
    have : (ι 0).val < 1 := (ι 0).isLt
    have h0 : (ι 0).val = 0 := by omega
    simp only [h0, zero_mul, zero_add]
  rw [hj]
  exact Finset.sum_congr rfl fun k _ => hx _

/-- The host's sum over the one row of a row, as a row. -/
theorem arr_hone_row {x : FVec Ideal (Blk 1 C) .f32} {A : Arr EReal} (hx : IsArr x A) {h1 h2 h3} :
    IsArr (β := EReal) (broadcastInDim (Blk 1 C) ![1] h3 (Host.reduceAdd (F := Ideal) (t := ⟨1, ![C]⟩) (axes := [0]) x (constant ⟨0, ![]⟩ .f32 0x00000000#32) h1 h2))
      (fun p => A (0, p.2)) := fun ι => by
  pointwise
  refine (Fin.sum_univ_one _).trans ?_
  exact (hx _).trans (congrArg A (Prod.ext rfl (one_or (n := C) (a := (ι 1).val) (ι 1).isLt fun h => h ▸ Nat.one_pos)))

/-- A row taken as a vector and made a row again. -/
theorem arr_vec {x : FVec Ideal (Blk 1 C) .f32} {A : Arr EReal} (hx : IsArr x A) {h1 : (Blk 1 C).ShapeCasts ⟨1, ![C]⟩} {h2} :
    IsArr (β := EReal) (broadcastInDim (Blk 1 C) ![1] h2 (shapeCast ⟨1, ![C]⟩ x h1)) (fun p => A (0, p.2)) := fun ι => by
  unfold broadcastInDim
  refine (shapeCast_apply x h1 _ (ix2 0 (ι 1)) ?_).trans (hx _)
  rw [Shape.rowMajor_val_two, Shape.rowMajor_val_one]
  refine Eq.trans ?_ (one_or (n := C) (a := (ι 1).val) (ι 1).isLt fun h => h ▸ Nat.one_pos).symm
  show 0 * C + (ι 1).val = (ι 1).val
  omega

theorem arr_eq {x : (Blk R C).Idx → EReal} {A B : Arr EReal} (h : IsArr x A) (e : ∀ p, A p = B p) : IsArr x B := fun ι => (h ι).trans (e _)

/-- A row that every point adds its 512 rows' shares to. -/
theorem acc_rows {N : ℕ} (out : (n : ℕ) → n < N → (Blk 1 C).Idx → EReal) (f : ℕ → ℕ → EReal)
    (h0 : ∀ hn, IsArr (out 0 hn) fun p => Ideal.ofBits .f32 0x00000000#32 + ∑ r ∈ Finset.range 512, f (512 * 0 + r) p.2)
    (hs : ∀ n hn hn' Y, IsArr (out n hn) Y → IsArr (out (n + 1) hn') fun p => Y p + ∑ r ∈ Finset.range 512, f (512 * (n + 1) + r) p.2)
    (n : ℕ) (hn : n < N) : IsArr (out n hn) fun p => ∑ r ∈ Finset.range (512 * (n + 1)), f r p.2 := by
  induction n with
  | zero => exact arr_eq (h0 hn) fun p => by simp only [Ideal.ofBits_zero_f32, Nat.mul_zero, Nat.zero_add, zero_add, Nat.mul_one]
  | succ n ih => exact arr_eq (hs n (Nat.lt_of_succ_lt hn) hn _ (ih _)) fun p => by rw [Nat.mul_add 512 (n + 1) 1, Finset.sum_range_add]

/-! ## The norm and its gradient -/

variable {x g : FVec Ideal (Blk R 1024) .f32} {X G : Arr EReal}

theorem arr_hms (hx : IsArr (β := EReal) x X) {a1 a2 a3 a4 a5} :
    IsArr (β := EReal) (addf (Host.divf (broadcastInDim (Blk R 1) ![0] a3 (Host.reduceAdd (F := Ideal) (t := ⟨1, ![R]⟩) (axes := [1]) (mulf x x) (constant ⟨0, ![]⟩ .f32 0x00000000#32) a1 a2)) (broadcastInDim (Blk R 1) ![] a4 (constant (F := Ideal) ⟨0, ![]⟩ FTy.f32 0x44800000#32))) (broadcastInDim (Blk R 1) ![] a5 (constant (F := Ideal) ⟨0, ![]⟩ FTy.f32 0x358637BD#32))) (fun p => ms fun k => X (p.1, k)) :=
  arr_addf (arr_hdivf (arr_hrow (arr_mulf hx hx)) (arr_bcast0 _)) (arr_bcast0 _)

theorem arr_hrs (hx : IsArr (β := EReal) x X) {a1 a2 a3 a4 a5} :
    IsArr (β := EReal) (Host.rsqrt (addf (Host.divf (broadcastInDim (Blk R 1) ![0] a3 (Host.reduceAdd (F := Ideal) (t := ⟨1, ![R]⟩) (axes := [1]) (mulf x x) (constant ⟨0, ![]⟩ .f32 0x00000000#32) a1 a2)) (broadcastInDim (Blk R 1) ![] a4 (constant (F := Ideal) ⟨0, ![]⟩ FTy.f32 0x44800000#32))) (broadcastInDim (Blk R 1) ![] a5 (constant (F := Ideal) ⟨0, ![]⟩ FTy.f32 0x358637BD#32)))) (fun p => rs fun k => X (p.1, k)) :=
  arr_hrsqrt (arr_hms hx)

/-- The normed rows on the host. -/
theorem arr_hnormed (hx : IsArr (β := EReal) x X) {a1 a2 a3 a4 a5 b1} :
    IsArr (β := EReal) (mulf x (broadcastInDim (Blk R 1024) ![0, 1] b1 (Host.rsqrt (addf (Host.divf (broadcastInDim (Blk R 1) ![0] a3 (Host.reduceAdd (F := Ideal) (t := ⟨1, ![R]⟩) (axes := [1]) (mulf x x) (constant ⟨0, ![]⟩ .f32 0x00000000#32) a1 a2)) (broadcastInDim (Blk R 1) ![] a4 (constant (F := Ideal) ⟨0, ![]⟩ FTy.f32 0x44800000#32))) (broadcastInDim (Blk R 1) ![] a5 (constant (F := Ideal) ⟨0, ![]⟩ FTy.f32 0x358637BD#32)))))) (fun p => X p * rs fun k => X (p.1, k)) :=
  arr_mulf hx (arr_bcol (arr_hrs hx))

theorem arr_hq (hx : IsArr (β := EReal) x X) (hg : IsArr (β := EReal) g G) {a1 a2 a3 a4 a5 b1 b2 b3 b4 b5 d1 d2 d3 e1 e2 e3 e4 e5} :
    IsArr (β := EReal) (broadcastInDim (Blk R 1024) ![0] e3 (Host.reduceAdd (F := Ideal) (t := ⟨1, ![R]⟩) (axes := [1]) (Host.divf (mulf (shapeCast (Blk R 1) (Host.reduceAdd (F := Ideal) (t := ⟨1, ![R]⟩) (axes := [1]) (mulf x g) (constant ⟨0, ![]⟩ .f32 0x00000000#32) d1 d2) d3) (mulf (broadcastInDim (Blk R 1) ![] e4 (constant (F := Ideal) ⟨0, ![]⟩ FTy.f32 0xBF000000#32)) (Host.divf (Host.rsqrt (addf (Host.divf (broadcastInDim (Blk R 1) ![0] a3 (Host.reduceAdd (F := Ideal) (t := ⟨1, ![R]⟩) (axes := [1]) (mulf x x) (constant ⟨0, ![]⟩ .f32 0x00000000#32) a1 a2)) (broadcastInDim (Blk R 1) ![] a4 (constant (F := Ideal) ⟨0, ![]⟩ FTy.f32 0x44800000#32))) (broadcastInDim (Blk R 1) ![] a5 (constant (F := Ideal) ⟨0, ![]⟩ FTy.f32 0x358637BD#32)))) (addf (Host.divf (broadcastInDim (Blk R 1) ![0] b3 (Host.reduceAdd (F := Ideal) (t := ⟨1, ![R]⟩) (axes := [1]) (mulf x x) (constant ⟨0, ![]⟩ .f32 0x00000000#32) b1 b2)) (broadcastInDim (Blk R 1) ![] b4 (constant (F := Ideal) ⟨0, ![]⟩ FTy.f32 0x44800000#32))) (broadcastInDim (Blk R 1) ![] b5 (constant (F := Ideal) ⟨0, ![]⟩ FTy.f32 0x358637BD#32)))))) (broadcastInDim (Blk R 1) ![] e5 (constant (F := Ideal) ⟨0, ![]⟩ FTy.f32 0x44800000#32))) (constant ⟨0, ![]⟩ .f32 0x00000000#32) e1 e2))
      (fun p => hq (fun k => X (p.1, k)) fun k => G (p.1, k)) :=
  arr_hone (arr_hdivf (arr_mulf (arr_hrow_cast (arr_mulf hx hg)) (arr_mulf (arr_bcast0 _) (arr_hdivf (arr_hrs hx) (arr_hms hx)))) (arr_bcast0 _))

/-- The gradient in the norm's input, on the host. -/
theorem arr_hback {q q' r : FVec Ideal (Blk R 1024) .f32} (hx : IsArr (β := EReal) x X) (hg : IsArr (β := EReal) g G)
    (hr : IsArr (β := EReal) r fun p => rs fun k => X (p.1, k)) (hq0 : IsArr (β := EReal) q (fun p => hq (fun k => X (p.1, k)) fun k => G (p.1, k)))
    (hq1 : IsArr (β := EReal) q' (fun p => hq (fun k => X (p.1, k)) fun k => G (p.1, k))) :
    IsArr (β := EReal) (addf (addf (mulf g r) (mulf x q)) (mulf q' x)) (fun p => hback (fun k => X (p.1, k)) (fun k => G (p.1, k)) p.2) :=
  arr_addf (arr_addf (arr_mulf hg hr) (arr_mulf hx hq0)) (arr_mulf hq1 hx)

/-- The reciprocal root in a kernel. -/
theorem arr_krs (hx : IsArr (β := EReal) x X) {a1 a2 a3 a4} :
    IsArr (β := EReal) (rsqrt (addf (divf (shapeCast (Blk R 1) (multiReduction (F := Ideal) .add [1] ⟨1, ![R]⟩ (mulf x x) 0x00000000#32 a1 a2 a3) a4)
      (broadcast (Blk R 1) (FloatOps.ofBits (F := Ideal) FTy.f32 0x44800000#32))) (broadcast (Blk R 1) (FloatOps.ofBits (F := Ideal) FTy.f32 0x358637BD#32))))
      (fun p => rs fun k => X (p.1, k)) :=
  arr_rsqrt (arr_addf (arr_divf (arr_rowsum (arr_mulf hx hx) _ _ _ _) arr_splat) arr_splat)

/-- The gradient in the norm's input, in a kernel. -/
theorem arr_kback {r : FVec Ideal (Blk R 1) .f32} {n : FVec Ideal (Blk R 1024) .f32} (hg : IsArr (β := EReal) g G)
    (hr : IsArr (β := EReal) r fun p => rs fun k => X (p.1, k)) (hn : IsArr (β := EReal) n fun p => X p * rs fun k => X (p.1, k)) {a1 a2 a3 a4 b1 b2} :
    IsArr (β := EReal) (mulf (broadcastTo (Blk R 1024) r b1) (subf g (mulf n (broadcastTo (Blk R 1024) (divf (shapeCast (Blk R 1)
      (multiReduction (F := Ideal) .add [1] ⟨1, ![R]⟩ (mulf g n) 0x00000000#32 a1 a2 a3) a4) (broadcast (Blk R 1) (FloatOps.ofBits (F := Ideal) FTy.f32 0x44800000#32))) b2))))
      (fun p => kback (fun k => X (p.1, k)) (fun k => G (p.1, k)) p.2) :=
  arr_mulf (arr_bc_col hr b1) (arr_subf hg (arr_mulf hn (arr_bc_col (arr_divf (arr_rowsum (arr_mulf hg hn) _ _ _ _) arr_splat) b2)))

end Cert.Step

end
-- ==== Proof.StepIn.lean ====
/- The gradient through the input projection and its norm: the kernel's arrays are the reference's. -/
module

public import proofs.«01_k».proof.Defs
public import proofs.«01_k».proof.Proof.Gen.KernelInIdeal.Value
public import proofs.«01_k».proof.Proof.Gen.ReferenceInIdeal.Run
public import proofs.«01_k».proof.Proof.StepNorm

@[expose] public section

noncomputable section

namespace Cert.StepIn

open Cert.KernelInIdeal Cert.KernelInIdeal.Gen Idealize.ShloMosaic Idealize.ShloMosaic.TcCoe Idealize.SL.Sem Idealize.ShloMosaic.Updates Cert.Fox Cert.Step
open Idealize.ShloMosaic.LaneScatter (Blk)

variable (m : (ℓ : Loc nD τ sig) → Buf (Elt Ideal) ℓ) (c : Dev nD)

theorem idx0 : ∀ t : Fin cfg0.N, win0_0.index t 0 = t.val ∧ win0_0.index t 1 = 0 := (by decide +kernel : ∀ t : Fin grid0.N, _)

theorem blk0 (t : Fin cfg0.N) {A : Arr EReal} (hA : IsArr (R := 2048) (C := 3712) (β := EReal) (m ((c : Thread nD τ).loc main_arg0)) A) :
    IsArr (R := 512) (C := 3712) (β := EReal) (iblk m c 0 t) (loadAt (512 * t.val, 0) A) :=
  isArr_window hA _ (((cfg0.win 0).blk t).view.emb) _ (fun j => rfl) (fun j => (win0_0.rect_emb_val t j 0).trans (rows_val (idx0 t).1))
    (fun j => (win0_0.rect_emb_val_of_index_zero t 1 (idx0 t).2 j).trans (Nat.zero_add _).symm)

theorem idx1 : ∀ t : Fin cfg0.N, win0_1.index t 0 = 0 ∧ win0_1.index t 1 = 0 := (by decide +kernel : ∀ t : Fin grid0.N, _)

theorem blk1 (t : Fin cfg0.N) {A : Arr EReal} (hA : IsArr (R := 3712) (C := 1024) (β := EReal) (m ((c : Thread nD τ).loc main_arg1)) A) :
    IsArr (R := 3712) (C := 1024) (β := EReal) (iblk m c 1 t) (loadAt (0, 0) A) :=
  isArr_window hA _ (((cfg0.win 1).blk t).view.emb) _ (fun j => rfl) (fun j => (win0_1.rect_emb_val_of_index_zero t 0 (idx1 t).1 j).trans (Nat.zero_add _).symm)
    (fun j => (win0_1.rect_emb_val_of_index_zero t 1 (idx1 t).2 j).trans (Nat.zero_add _).symm)

theorem idx2 : ∀ t : Fin cfg0.N, win0_2.index t 0 = t.val ∧ win0_2.index t 1 = 0 := (by decide +kernel : ∀ t : Fin grid0.N, _)

theorem blk2 (t : Fin cfg0.N) {A : Arr EReal} (hA : IsArr (R := 2048) (C := 1024) (β := EReal) (m ((c : Thread nD τ).loc main_arg2)) A) :
    IsArr (R := 512) (C := 1024) (β := EReal) (iblk m c 2 t) (loadAt (512 * t.val, 0) A) :=
  isArr_window hA _ (((cfg0.win 2).blk t).view.emb) _ (fun j => rfl) (fun j => (win0_2.rect_emb_val t j 0).trans (rows_val (idx2 t).1))
    (fun j => (win0_2.rect_emb_val_of_index_zero t 1 (idx2 t).2 j).trans (Nat.zero_add _).symm)

theorem idx3 : ∀ t : Fin cfg0.N, win0_3.index t 0 = 0 ∧ win0_3.index t 1 = 0 := (by decide +kernel : ∀ t : Fin grid0.N, _)

theorem blk3 (t : Fin cfg0.N) {A : Arr EReal} (hA : IsArr (R := 1) (C := 1024) (β := EReal) (m ((c : Thread nD τ).loc main_arg3)) A) :
    IsArr (R := 1) (C := 1024) (β := EReal) (iblk m c 3 t) (loadAt (0, 0) A) :=
  isArr_window hA _ (((cfg0.win 3).blk t).view.emb) _ (fun j => rfl) (fun j => (win0_3.rect_emb_val_of_index_zero t 0 (idx3 t).1 j).trans (Nat.zero_add _).symm)
    (fun j => (win0_3.rect_emb_val_of_index_zero t 1 (idx3 t).2 j).trans (Nat.zero_add _).symm)

theorem idx4 : ∀ t : Fin cfg0.N, win0_4.index t 0 = t.val ∧ win0_4.index t 1 = 0 := (by decide +kernel : ∀ t : Fin grid0.N, _)

theorem blk4 (t : Fin cfg0.N) {A : Arr EReal} (hA : IsArr (R := 2048) (C := 1024) (β := EReal) (m ((c : Thread nD τ).loc main_arg4)) A) :
    IsArr (R := 512) (C := 1024) (β := EReal) (iblk m c 4 t) (loadAt (512 * t.val, 0) A) :=
  isArr_window hA _ (((cfg0.win 4).blk t).view.emb) _ (fun j => rfl) (fun j => (win0_4.rect_emb_val t j 0).trans (rows_val (idx4 t).1))
    (fun j => (win0_4.rect_emb_val_of_index_zero t 1 (idx4 t).2 j).trans (Nat.zero_add _).symm)

/-- The gradient behind the norm. -/
def dh (A B : Arr EReal) : Arr EReal := fun p => ∑ k ∈ Finset.range 3712, A (p.1, k) * B (k, p.2)

/-- The gradient in the norm's input, with the gradient that passes by. -/
def dx (A B X W D : Arr EReal) : Arr EReal := fun p => D p + kback (fun k => X (p.1, k)) (fun k => dh A B (p.1, k) * W (0, k)) p.2

/-- A row's share of the gain's gradient. -/
def dw (A B X : Arr EReal) (r x : ℕ) : EReal := dh A B (r, x) * (X (r, x) * rs fun k => X (r, k))

section
variable {x0 : Vec Ideal S512x3712 .bf16} {x1 : Vec Ideal S3712x1024 .bf16} {x2 : Vec Ideal S512x1024 .f32} {x3 : Vec Ideal S1x1024 .f32} {x4 : Vec Ideal S512x1024 .f32} {A B X W D : Arr EReal}

theorem pay5 (h0 : IsArr (β := EReal) x0 A) (h1 : IsArr (β := EReal) x1 B) (h2 : IsArr (β := EReal) x2 X) (h3 : IsArr (β := EReal) x3 W) (h4 : IsArr (β := EReal) x4 D) :
    IsArr (R := 512) (C := 1024) (β := EReal) (k0_pay1 (k0_pay4 x2) (k0_pay5 x2) (k0_pay7 x0 x1 x3) x4 (k0_pay8 x0 x1 x2 x3)) (dx A B X W D) :=
  arr_addf h4 (arr_kback (b2 := broadcasts_S512x1_S512x1024) (arr_mulf (arr_nn h0 h1 rfl) (arr_bc_row h3 _)) (arr_krs h2) (arr_mulf h2 (arr_bc_col (arr_krs h2) _)))

theorem pay6 (h0 : IsArr (β := EReal) x0 A) (h1 : IsArr (β := EReal) x1 B) (h2 : IsArr (β := EReal) x2 X) {y : Vec Ideal S1x1024 .f32} {Y : Arr EReal} (hy : IsArr (β := EReal) y Y) :
    IsArr (R := 1) (C := 1024) (β := EReal) (k0_pay6 x0 x1 x2 y) (fun p => Y p + ∑ r ∈ Finset.range 512, dw A B X r p.2) :=
  arr_addf (arr_same hy _) (arr_colsum (arr_mulf (arr_nn h0 h1 rfl) (arr_mulf h2 (arr_bc_col (arr_krs h2) _))) _ _ _ _)

end

section
variable {A B X W D : Arr EReal} (h0 : IsArr (R := 2048) (C := 3712) (β := EReal) (m ((c : Thread nD τ).loc main_arg0)) A)
  (h1 : IsArr (R := 3712) (C := 1024) (β := EReal) (m ((c : Thread nD τ).loc main_arg1)) B)
  (h2 : IsArr (R := 2048) (C := 1024) (β := EReal) (m ((c : Thread nD τ).loc main_arg2)) X)
  (h3 : IsArr (R := 1) (C := 1024) (β := EReal) (m ((c : Thread nD τ).loc main_arg3)) W)
  (h4 : IsArr (R := 2048) (C := 1024) (β := EReal) (m ((c : Thread nD τ).loc main_arg4)) D)

include h0 h1 h2 in
/-- The kernel's gradient of the gain. -/
theorem final6 : IsArr (R := 1) (C := 1024) (β := EReal) ((dats m 0 c).arrAt 6 cfg0.N) (fun p => ∑ r ∈ Finset.range 2048, dw A B X r p.2) := fun ι => by
  have hb : ∀ t : Fin cfg0.N, ∀ r x, dw (loadAt (512 * t.val, 0) A) (loadAt (0, 0) B) (loadAt (512 * t.val, 0) X) r x = dw A B X (512 * t.val + r) x := fun t r x => by
    unfold dw dh loadAt
    simp only [Nat.zero_add]
  refine ((dats m 0 c).arrAt_emb_eq_after_last 6 (⟨3, by decide⟩ : Fin cfg0.N) (by decide +kernel) ι).trans ?_
  rw [after0_6]
  refine acc_rows (fun n hn => (outsAt0 m c n hn).2) (dw A B X) (fun hn j => ?_) (fun n _ hn Y ih j => ?_) 3 (by decide) ι
  · refine (congrFun (congrArg (fun z => z.2) (outsAt0_A m c ⟨0, hn⟩ rfl)) j).trans ?_
    frame_out
    exact arr_eq (pay6 (blk0 m c ⟨0, hn⟩ h0) (blk1 m c ⟨0, hn⟩ h1) (blk2 m c ⟨0, hn⟩ h2) arr_splat) (fun p => congrArg (_ + ·) (Finset.sum_congr rfl fun r _ => hb ⟨0, hn⟩ r _)) j
  · have hn' : n + 1 < 4 := hn
    refine (congrFun (congrArg (fun z => z.2) (outsAt0_B m c ⟨n + 1, hn⟩ (by show ¬ (n + 1) % 4 = 0; omega))) j).trans ?_
    frame_out
    exact arr_eq (pay6 (blk0 m c ⟨n + 1, hn⟩ h0) (blk1 m c ⟨n + 1, hn⟩ h1) (blk2 m c ⟨n + 1, hn⟩ h2) ih) (fun p => congrArg (Y p + ·) (Finset.sum_congr rfl fun r _ => hb ⟨n + 1, hn⟩ r _)) j

include h0 h1 h2 h3 h4 in
/-- The kernel's gradient of the input. -/
theorem final5 : IsArr (R := 2048) (C := 1024) (β := EReal) ((dats m 0 c).arrAt 5 cfg0.N) (dx A B X W D) := fun ι => by
  obtain ⟨t, y, e0, e1, e⟩ := arrAt_rows (dats m 0 c) 5 Value.disjoint5 (by decide +kernel) rfl (0 : Fin 2) (1 : Fin 2) 512 1024 (by decide)
    (by decide +kernel) rfl ι (ι 0).isLt (ι 1).isLt
  have ho : IsArr (R := 512) (C := 1024) (β := EReal) (outsAt0 m c t.val t.isLt).1 (dx (loadAt (512 * t.val, 0) A) (loadAt (0, 0) B) (loadAt (512 * t.val, 0) X) (loadAt (0, 0) W) (loadAt (512 * t.val, 0) D)) := by
    intro j
    by_cases h : t.val % 4 = 0
    · refine (congrFun (congrArg (fun z => z.1) (outsAt0_A m c t h)) j).trans ?_
      frame_out
      exact (pay5 (blk0 m c t h0) (blk1 m c t h1) (blk2 m c t h2) (blk3 m c t h3) (blk4 m c t h4)) j
    · refine (congrFun (congrArg (fun z => z.1) (outsAt0_B m c t h)) j).trans ?_
      frame_out
      exact (pay5 (blk0 m c t h0) (blk1 m c t h1) (blk2 m c t h2) (blk3 m c t h3) (blk4 m c t h4)) j
  refine e.trans ?_
  rw [Value.flushed5]
  generalize (outsAt0 m c t.val t.isLt).1 = Z at ho ⊢
  refine (ho (win0_5.xinj (grid0.coords t) y)).trans ?_
  show dx _ _ _ _ _ ((y (0 : Fin 2) : ℕ), (y (1 : Fin 2) : ℕ)) = _
  unfold dx dh loadAt
  dsimp only
  rw [← e0, ← e1]
  simp only [Nat.zero_add]

end

end Cert.StepIn

namespace Cert.StepIn.Ref

open Cert.ReferenceInIdeal Cert.ReferenceInIdeal.Gen Idealize.ShloMosaic Idealize.ShloMosaic.TcCoe Idealize.SL.Sem Idealize.ShloMosaic.Updates Cert.Fox Cert.Step
open Idealize.ShloMosaic.LaneScatter (Blk)

variable (m : (ℓ : Loc nD τ sig) → Buf (Elt Ideal) ℓ) (c : Dev nD) {A B X W D : Arr EReal}
  (h0 : IsArr (R := 2048) (C := 3712) (β := EReal) (m ((c.tc : Thread nD τ).loc main_arg0)) A)
  (h1 : IsArr (R := 3712) (C := 1024) (β := EReal) (m ((c.tc : Thread nD τ).loc main_arg1)) B)
  (h2 : IsArr (R := 2048) (C := 1024) (β := EReal) (m ((c.tc : Thread nD τ).loc main_arg2)) X)
  (h3 : IsArr (R := 1) (C := 1024) (β := EReal) (m ((c.tc : Thread nD τ).loc main_arg3)) W)
  (h4 : IsArr (R := 2048) (C := 1024) (β := EReal) (m ((c.tc : Thread nD τ).loc main_arg4)) D)

include h0 h1 h2 h3 h4 in
/-- The reference's gradient of the input. -/
theorem res : IsArr (R := 2048) (C := 1024) (β := EReal) (Value.res_main_v42 m c) (dx A B X W D) := by
  have h : IsArr (R := 2048) (C := 1024) (β := EReal) (Value.res_main_v42 m c)
      (fun p => D p + hback (fun k => X (p.1, k)) (fun k => dh A B (p.1, k) * W (0, k)) p.2) := by
    have hg := arr_mulf (arr_dnt (d := dot_S2048x3712_S1024x3712_S2048x1024_1_1_0_0_n_n) (arr_extf h0 bitsLt_bf16_f32) (arr_turn (arr_extf h1 bitsLt_bf16_f32) transposes_S3712x1024_S1024x3712_1_0) rfl)
      (arr_brow (h := bcast_S1x1024_S2048x1024_0_1) (arr_vec (h1 := shapeCasts_S1x1024_S1024) (h2 := bcast_S1024_S1x1024_1) h3))
    unfold Value.res_main_v42
    exact arr_addf h4 (arr_hback h2 hg (arr_bcol (arr_hrs h2)) (arr_hq h2 hg) (arr_hq h2 hg))
  exact fun ι => (h ι).trans (congrArg (D _ + ·) (back_eq _ _ _).symm)

end Cert.StepIn.Ref

namespace Cert.StepIn

open Cert Idealize.ShloMosaic Idealize.SL.Sem Idealize.ShloMosaic.Updates Cert.Fox Cert.Step

theorem frame_r : Cert.quiescent_ReferenceInIdeal := by
  intro m ρ _
  exact (θ_run ReferenceInIdeal.defs _ _).mono
    (fun r h => ⟨fun c => (h c).2.2, Idealize.ShloMosaic.sem_eq_zero_of_no_sems (by decide) r.2⟩)
    (ReferenceInIdeal.Value.run (F := Ideal) m ρ)

/-- Over the extended reals the kernel's two arrays are the reference's. -/
theorem value : Cert.algebraic_KernelInIdeal_ReferenceInIdeal := by
  intro m g m' g' _ hm
  refine ⟨fun c => (KernelInIdeal.Gen.dats m 0 c).arrAt 5 KernelInIdeal.cfg0.N, fun c => (KernelInIdeal.Gen.dats m 0 c).arrAt 6 KernelInIdeal.cfg0.N, KernelInIdeal.Value.run_blocks m g, ?_⟩
  refine (θ_run ReferenceInIdeal.defs _ _).mono (fun r h c => ?_) (ReferenceInIdeal.Value.run (F := Ideal) m' g')
  obtain ⟨e0, e1, hk⟩ := h c
  obtain ⟨a0, a1, a2, a3, a4, a5⟩ := hm c
  obtain ⟨A, h0, k0⟩ : ∃ A : Arr EReal, IsArr (R := 2048) (C := 3712) (β := EReal) (m ((c.tc : Thread KernelInIdeal.nD KernelInIdeal.τ).loc KernelInIdeal.main_arg0)) A ∧
      IsArr (R := 2048) (C := 3712) (β := EReal) (m' ((c.tc : Thread ReferenceInIdeal.nD ReferenceInIdeal.τ).loc ReferenceInIdeal.main_arg0)) A :=
    ⟨_, isArr_ofBlk (by decide) (by decide) _, by rw [a0]; exact isArr_ofBlk (by decide) (by decide) _⟩
  obtain ⟨B, h1, k1⟩ : ∃ A : Arr EReal, IsArr (R := 3712) (C := 1024) (β := EReal) (m ((c.tc : Thread KernelInIdeal.nD KernelInIdeal.τ).loc KernelInIdeal.main_arg1)) A ∧
      IsArr (R := 3712) (C := 1024) (β := EReal) (m' ((c.tc : Thread ReferenceInIdeal.nD ReferenceInIdeal.τ).loc ReferenceInIdeal.main_arg1)) A :=
    ⟨_, isArr_ofBlk (by decide) (by decide) _, by rw [a1]; exact isArr_ofBlk (by decide) (by decide) _⟩
  obtain ⟨X, h2, k2⟩ : ∃ A : Arr EReal, IsArr (R := 2048) (C := 1024) (β := EReal) (m ((c.tc : Thread KernelInIdeal.nD KernelInIdeal.τ).loc KernelInIdeal.main_arg2)) A ∧
      IsArr (R := 2048) (C := 1024) (β := EReal) (m' ((c.tc : Thread ReferenceInIdeal.nD ReferenceInIdeal.τ).loc ReferenceInIdeal.main_arg2)) A :=
    ⟨_, isArr_ofBlk (by decide) (by decide) _, by rw [a2]; exact isArr_ofBlk (by decide) (by decide) _⟩
  obtain ⟨W, h3, k3⟩ : ∃ A : Arr EReal, IsArr (R := 1) (C := 1024) (β := EReal) (m ((c.tc : Thread KernelInIdeal.nD KernelInIdeal.τ).loc KernelInIdeal.main_arg3)) A ∧
      IsArr (R := 1) (C := 1024) (β := EReal) (m' ((c.tc : Thread ReferenceInIdeal.nD ReferenceInIdeal.τ).loc ReferenceInIdeal.main_arg3)) A :=
    ⟨_, isArr_ofBlk (by decide) (by decide) _, by rw [a3]; exact isArr_ofBlk (by decide) (by decide) _⟩
  obtain ⟨D, h4, k4⟩ : ∃ A : Arr EReal, IsArr (R := 2048) (C := 1024) (β := EReal) (m ((c.tc : Thread KernelInIdeal.nD KernelInIdeal.τ).loc KernelInIdeal.main_arg4)) A ∧
      IsArr (R := 2048) (C := 1024) (β := EReal) (m' ((c.tc : Thread ReferenceInIdeal.nD ReferenceInIdeal.τ).loc ReferenceInIdeal.main_arg4)) A :=
    ⟨_, isArr_ofBlk (by decide) (by decide) _, by rw [a4]; exact isArr_ofBlk (by decide) (by decide) _⟩
  exact ⟨e0.trans (arr_ext (Ref.res m' c k0 k1 k2 k3 k4) (final5 m c h0 h1 h2 h3 h4) fun _ _ _ _ => rfl), e1.trans (arr_ext (arr_hone_row (arr_hcol (arr_mulf (arr_hnormed k2) (arr_dnt (arr_extf k0 _) (arr_turn (arr_extf k1 _) _) rfl)))) (final6 m c h0 h1 h2) fun _ _ _ _ => Finset.sum_congr rfl fun _ _ => mul_comm _ _), hk⟩

end Cert.StepIn

end
-- ==== Proof.StepMlp.lean ====
/- The gradient through the up projection, its norm and the mixing norm: the kernel's arrays are the reference's. -/
module

public import proofs.«01_k».proof.Defs
public import proofs.«01_k».proof.Proof.Gen.KernelMlpIdeal.Value
public import proofs.«01_k».proof.Proof.Gen.ReferenceMlpIdeal.Run
public import proofs.«01_k».proof.Proof.StepNorm

@[expose] public section

noncomputable section

namespace Cert.StepMlp

open Cert.KernelMlpIdeal Cert.KernelMlpIdeal.Gen Idealize.ShloMosaic Idealize.ShloMosaic.TcCoe Idealize.SL.Sem Idealize.ShloMosaic.Updates Cert.Fox Cert.Step
open Idealize.ShloMosaic.LaneScatter (Blk)

variable (m : (ℓ : Loc nD τ sig) → Buf (Elt Ideal) ℓ) (c : Dev nD)

theorem idx0 : ∀ t : Fin cfg0.N, win0_0.index t 0 = t.val ∧ win0_0.index t 1 = 0 := (by decide +kernel : ∀ t : Fin grid0.N, _)

theorem blk0 (t : Fin cfg0.N) {A : Arr EReal} (hA : IsArr (R := 2048) (C := 4096) (β := EReal) (m ((c : Thread nD τ).loc main_arg0)) A) :
    IsArr (R := 512) (C := 4096) (β := EReal) (iblk m c 0 t) (loadAt (512 * t.val, 0) A) :=
  isArr_window hA _ (((cfg0.win 0).blk t).view.emb) _ (fun j => rfl) (fun j => (win0_0.rect_emb_val t j 0).trans (rows_val (idx0 t).1))
    (fun j => (win0_0.rect_emb_val_of_index_zero t 1 (idx0 t).2 j).trans (Nat.zero_add _).symm)

theorem idx1 : ∀ t : Fin cfg0.N, win0_1.index t 0 = 0 ∧ win0_1.index t 1 = 0 := (by decide +kernel : ∀ t : Fin grid0.N, _)

theorem blk1 (t : Fin cfg0.N) {A : Arr EReal} (hA : IsArr (R := 4096) (C := 1024) (β := EReal) (m ((c : Thread nD τ).loc main_arg1)) A) :
    IsArr (R := 4096) (C := 1024) (β := EReal) (iblk m c 1 t) (loadAt (0, 0) A) :=
  isArr_window hA _ (((cfg0.win 1).blk t).view.emb) _ (fun j => rfl) (fun j => (win0_1.rect_emb_val_of_index_zero t 0 (idx1 t).1 j).trans (Nat.zero_add _).symm)
    (fun j => (win0_1.rect_emb_val_of_index_zero t 1 (idx1 t).2 j).trans (Nat.zero_add _).symm)

theorem idx2 : ∀ t : Fin cfg0.N, win0_2.index t 0 = t.val ∧ win0_2.index t 1 = 0 := (by decide +kernel : ∀ t : Fin grid0.N, _)

theorem blk2 (t : Fin cfg0.N) {A : Arr EReal} (hA : IsArr (R := 2048) (C := 1024) (β := EReal) (m ((c : Thread nD τ).loc main_arg2)) A) :
    IsArr (R := 512) (C := 1024) (β := EReal) (iblk m c 2 t) (loadAt (512 * t.val, 0) A) :=
  isArr_window hA _ (((cfg0.win 2).blk t).view.emb) _ (fun j => rfl) (fun j => (win0_2.rect_emb_val t j 0).trans (rows_val (idx2 t).1))
    (fun j => (win0_2.rect_emb_val_of_index_zero t 1 (idx2 t).2 j).trans (Nat.zero_add _).symm)

theorem idx3 : ∀ t : Fin cfg0.N, win0_3.index t 0 = 0 ∧ win0_3.index t 1 = 0 := (by decide +kernel : ∀ t : Fin grid0.N, _)

theorem blk3 (t : Fin cfg0.N) {A : Arr EReal} (hA : IsArr (R := 1) (C := 1024) (β := EReal) (m ((c : Thread nD τ).loc main_arg3)) A) :
    IsArr (R := 1) (C := 1024) (β := EReal) (iblk m c 3 t) (loadAt (0, 0) A) :=
  isArr_window hA _ (((cfg0.win 3).blk t).view.emb) _ (fun j => rfl) (fun j => (win0_3.rect_emb_val_of_index_zero t 0 (idx3 t).1 j).trans (Nat.zero_add _).symm)
    (fun j => (win0_3.rect_emb_val_of_index_zero t 1 (idx3 t).2 j).trans (Nat.zero_add _).symm)

theorem idx4 : ∀ t : Fin cfg0.N, win0_4.index t 0 = t.val ∧ win0_4.index t 1 = 0 := (by decide +kernel : ∀ t : Fin grid0.N, _)

theorem blk4 (t : Fin cfg0.N) {A : Arr EReal} (hA : IsArr (R := 2048) (C := 1024) (β := EReal) (m ((c : Thread nD τ).loc main_arg4)) A) :
    IsArr (R := 512) (C := 1024) (β := EReal) (iblk m c 4 t) (loadAt (512 * t.val, 0) A) :=
  isArr_window hA _ (((cfg0.win 4).blk t).view.emb) _ (fun j => rfl) (fun j => (win0_4.rect_emb_val t j 0).trans (rows_val (idx4 t).1))
    (fun j => (win0_4.rect_emb_val_of_index_zero t 1 (idx4 t).2 j).trans (Nat.zero_add _).symm)

theorem idx5 : ∀ t : Fin cfg0.N, win0_5.index t 0 = t.val ∧ win0_5.index t 1 = 0 := (by decide +kernel : ∀ t : Fin grid0.N, _)

theorem blk5 (t : Fin cfg0.N) {A : Arr EReal} (hA : IsArr (R := 2048) (C := 1024) (β := EReal) (m ((c : Thread nD τ).loc main_arg5)) A) :
    IsArr (R := 512) (C := 1024) (β := EReal) (iblk m c 5 t) (loadAt (512 * t.val, 0) A) :=
  isArr_window hA _ (((cfg0.win 5).blk t).view.emb) _ (fun j => rfl) (fun j => (win0_5.rect_emb_val t j 0).trans (rows_val (idx5 t).1))
    (fun j => (win0_5.rect_emb_val_of_index_zero t 1 (idx5 t).2 j).trans (Nat.zero_add _).symm)

theorem idx6 : ∀ t : Fin cfg0.N, win0_6.index t 0 = 0 ∧ win0_6.index t 1 = 0 := (by decide +kernel : ∀ t : Fin grid0.N, _)

theorem blk6 (t : Fin cfg0.N) {A : Arr EReal} (hA : IsArr (R := 1) (C := 1024) (β := EReal) (m ((c : Thread nD τ).loc main_arg6)) A) :
    IsArr (R := 1) (C := 1024) (β := EReal) (iblk m c 6 t) (loadAt (0, 0) A) :=
  isArr_window hA _ (((cfg0.win 6).blk t).view.emb) _ (fun j => rfl) (fun j => (win0_6.rect_emb_val_of_index_zero t 0 (idx6 t).1 j).trans (Nat.zero_add _).symm)
    (fun j => (win0_6.rect_emb_val_of_index_zero t 1 (idx6 t).2 j).trans (Nat.zero_add _).symm)

/-- The gradient behind the up projection's norm. -/
def dh (A B : Arr EReal) : Arr EReal := fun p => ∑ k ∈ Finset.range 4096, A (p.1, k) * B (k, p.2)

/-- The gradient in that norm's input, with the gradient that passes by. -/
def dx (A B X W D : Arr EReal) : Arr EReal := fun p => D p + kback (fun k => X (p.1, k)) (fun k => dh A B (p.1, k) * W (0, k)) p.2

/-- The gradient in the mixing norm's input. -/
def dm (A B X W D M U : Arr EReal) : Arr EReal := fun p => kback (fun k => M (p.1, k)) (fun k => dx A B X W D (p.1, k) * U (0, k)) p.2

/-- A row's share of a gain's gradient. -/
def dw (G X : Arr EReal) (r x : ℕ) : EReal := G (r, x) * (X (r, x) * rs fun k => X (r, k))

section
variable {x0 : Vec Ideal S512x4096 .bf16} {x1 : Vec Ideal S4096x1024 .bf16} {x2 : Vec Ideal S512x1024 .f32} {x3 : Vec Ideal S1x1024 .f32} {x4 x5 : Vec Ideal S512x1024 .f32} {x6 : Vec Ideal S1x1024 .f32} {A B X W D M U : Arr EReal}

theorem pay7 (h0 : IsArr (β := EReal) x0 A) (h1 : IsArr (β := EReal) x1 B) (h2 : IsArr (β := EReal) x2 X) (h3 : IsArr (β := EReal) x3 W) (h4 : IsArr (β := EReal) x4 D) :
    IsArr (R := 512) (C := 1024) (β := EReal) (k0_pay9 (k0_pay4 x2) (k0_pay5 x2) (k0_pay7 x0 x1 x3) x4 (k0_pay8 x0 x1 x2 x3)) (dx A B X W D) :=
  arr_addf h4 (arr_kback (b2 := broadcasts_S512x1_S512x1024) (arr_mulf (arr_nn h0 h1 rfl) (arr_bc_row h3 _)) (arr_krs h2) (arr_mulf h2 (arr_bc_col (arr_krs h2) _)))

theorem pay8 (h0 : IsArr (β := EReal) x0 A) (h1 : IsArr (β := EReal) x1 B) (h2 : IsArr (β := EReal) x2 X) (h3 : IsArr (β := EReal) x3 W) (h4 : IsArr (β := EReal) x4 D) (h5 : IsArr (β := EReal) x5 M) (h6 : IsArr (β := EReal) x6 U) :
    IsArr (R := 512) (C := 1024) (β := EReal) (k0_pay13 (k0_pay4 x2) (k0_pay5 x2) (k0_pay7 x0 x1 x3) x4 (k0_pay8 x0 x1 x2 x3) x5 x6) (dm A B X W D M U) :=
  arr_truncf (ψ := .bf16) (arr_kback (b2 := broadcasts_S512x1_S512x1024) (arr_mulf (pay7 h0 h1 h2 h3 h4) (arr_bc_row h6 _)) (arr_krs h5) (arr_mulf h5 (arr_bc_col (arr_krs h5) _))) bitsLt_bf16_f32

theorem pay9 (h0 : IsArr (β := EReal) x0 A) (h1 : IsArr (β := EReal) x1 B) (h2 : IsArr (β := EReal) x2 X) {y : Vec Ideal S1x1024 .f32} {Y : Arr EReal} (hy : IsArr (β := EReal) y Y) :
    IsArr (R := 1) (C := 1024) (β := EReal) (k0_pay6 x0 x1 x2 y) (fun p => Y p + ∑ r ∈ Finset.range 512, dw (dh A B) X r p.2) :=
  arr_addf (arr_same hy _) (arr_colsum (arr_mulf (arr_nn h0 h1 rfl) (arr_mulf h2 (arr_bc_col (arr_krs h2) _))) _ _ _ _)

theorem pay10 (h0 : IsArr (β := EReal) x0 A) (h1 : IsArr (β := EReal) x1 B) (h2 : IsArr (β := EReal) x2 X) (h3 : IsArr (β := EReal) x3 W) (h4 : IsArr (β := EReal) x4 D) (h5 : IsArr (β := EReal) x5 M) {y : Vec Ideal S1x1024 .f32} {Y : Arr EReal} (hy : IsArr (β := EReal) y Y) :
    IsArr (R := 1) (C := 1024) (β := EReal) (k0_pay12 (k0_pay4 x2) (k0_pay5 x2) (k0_pay7 x0 x1 x3) x4 (k0_pay8 x0 x1 x2 x3) x5 y)
      (fun p => Y p + ∑ r ∈ Finset.range 512, dw (dx A B X W D) M r p.2) :=
  arr_addf (arr_same hy _) (arr_colsum (arr_mulf (pay7 h0 h1 h2 h3 h4) (arr_mulf h5 (arr_bc_col (arr_krs h5) _))) _ _ _ _)

end

section
variable {A B X W D M U : Arr EReal} (h0 : IsArr (R := 2048) (C := 4096) (β := EReal) (m ((c : Thread nD τ).loc main_arg0)) A)
  (h1 : IsArr (R := 4096) (C := 1024) (β := EReal) (m ((c : Thread nD τ).loc main_arg1)) B)
  (h2 : IsArr (R := 2048) (C := 1024) (β := EReal) (m ((c : Thread nD τ).loc main_arg2)) X)
  (h3 : IsArr (R := 1) (C := 1024) (β := EReal) (m ((c : Thread nD τ).loc main_arg3)) W)
  (h4 : IsArr (R := 2048) (C := 1024) (β := EReal) (m ((c : Thread nD τ).loc main_arg4)) D)
  (h5 : IsArr (R := 2048) (C := 1024) (β := EReal) (m ((c : Thread nD τ).loc main_arg5)) M)
  (h6 : IsArr (R := 1) (C := 1024) (β := EReal) (m ((c : Thread nD τ).loc main_arg6)) U)

include h0 h1 h2 in
/-- The gradient of the up projection's gain. -/
theorem final9 : IsArr (R := 1) (C := 1024) (β := EReal) ((dats m 0 c).arrAt 9 cfg0.N) (fun p => ∑ r ∈ Finset.range 2048, dw (dh A B) X r p.2) := fun ι => by
  have hb : ∀ t : Fin cfg0.N, ∀ r x, dw (dh (loadAt (512 * t.val, 0) A) (loadAt (0, 0) B)) (loadAt (512 * t.val, 0) X) r x = dw (dh A B) X (512 * t.val + r) x := fun t r x => by
    unfold dw dh loadAt
    simp only [Nat.zero_add]
  refine ((dats m 0 c).arrAt_emb_eq_after_last 9 (⟨3, by decide⟩ : Fin cfg0.N) (by decide +kernel) ι).trans ?_
  rw [after0_9]
  refine acc_rows (fun n hn => (outsAt0 m c n hn).2.2.1) (dw (dh A B) X) (fun hn j => ?_) (fun n _ hn Y ih j => ?_) 3 (by decide) ι
  · refine (congrFun (congrArg (fun z => z.2.2.1) (outsAt0_A m c ⟨0, hn⟩ rfl)) j).trans ?_
    frame_out
    exact arr_eq (pay9 (blk0 m c ⟨0, hn⟩ h0) (blk1 m c ⟨0, hn⟩ h1) (blk2 m c ⟨0, hn⟩ h2) arr_splat) (fun p => congrArg (_ + ·) (Finset.sum_congr rfl fun r _ => hb ⟨0, hn⟩ r _)) j
  · have hn' : n + 1 < 4 := hn
    refine (congrFun (congrArg (fun z => z.2.2.1) (outsAt0_B m c ⟨n + 1, hn⟩ (by show ¬ (n + 1) % 4 = 0; omega))) j).trans ?_
    frame_out
    exact arr_eq (pay9 (blk0 m c ⟨n + 1, hn⟩ h0) (blk1 m c ⟨n + 1, hn⟩ h1) (blk2 m c ⟨n + 1, hn⟩ h2) ih) (fun p => congrArg (Y p + ·) (Finset.sum_congr rfl fun r _ => hb ⟨n + 1, hn⟩ r _)) j

include h0 h1 h2 h3 h4 h5 in
/-- The gradient of the mixing norm's gain. -/
theorem final10 : IsArr (R := 1) (C := 1024) (β := EReal) ((dats m 0 c).arrAt 10 cfg0.N) (fun p => ∑ r ∈ Finset.range 2048, dw (dx A B X W D) M r p.2) := fun ι => by
  have hb : ∀ t : Fin cfg0.N, ∀ r x, dw (dx (loadAt (512 * t.val, 0) A) (loadAt (0, 0) B) (loadAt (512 * t.val, 0) X) (loadAt (0, 0) W) (loadAt (512 * t.val, 0) D)) (loadAt (512 * t.val, 0) M) r x = dw (dx A B X W D) M (512 * t.val + r) x := fun t r x => by
    unfold dw dx dh loadAt
    simp only [Nat.zero_add]
  refine ((dats m 0 c).arrAt_emb_eq_after_last 10 (⟨3, by decide⟩ : Fin cfg0.N) (by decide +kernel) ι).trans ?_
  rw [after0_10]
  refine acc_rows (fun n hn => (outsAt0 m c n hn).2.2.2) (dw (dx A B X W D) M) (fun hn j => ?_) (fun n _ hn Y ih j => ?_) 3 (by decide) ι
  · refine (congrFun (congrArg (fun z => z.2.2.2) (outsAt0_A m c ⟨0, hn⟩ rfl)) j).trans ?_
    frame_out
    exact arr_eq (pay10 (blk0 m c ⟨0, hn⟩ h0) (blk1 m c ⟨0, hn⟩ h1) (blk2 m c ⟨0, hn⟩ h2) (blk3 m c ⟨0, hn⟩ h3) (blk4 m c ⟨0, hn⟩ h4) (blk5 m c ⟨0, hn⟩ h5) arr_splat) (fun p => congrArg (_ + ·) (Finset.sum_congr rfl fun r _ => hb ⟨0, hn⟩ r _)) j
  · have hn' : n + 1 < 4 := hn
    refine (congrFun (congrArg (fun z => z.2.2.2) (outsAt0_B m c ⟨n + 1, hn⟩ (by show ¬ (n + 1) % 4 = 0; omega))) j).trans ?_
    frame_out
    exact arr_eq (pay10 (blk0 m c ⟨n + 1, hn⟩ h0) (blk1 m c ⟨n + 1, hn⟩ h1) (blk2 m c ⟨n + 1, hn⟩ h2) (blk3 m c ⟨n + 1, hn⟩ h3) (blk4 m c ⟨n + 1, hn⟩ h4) (blk5 m c ⟨n + 1, hn⟩ h5) ih) (fun p => congrArg (Y p + ·) (Finset.sum_congr rfl fun r _ => hb ⟨n + 1, hn⟩ r _)) j

include h0 h1 h2 h3 h4 in
/-- The kernel's gradient of the up projection's input. -/
theorem final7 : IsArr (R := 2048) (C := 1024) (β := EReal) ((dats m 0 c).arrAt 7 cfg0.N) (dx A B X W D) := fun ι => by
  obtain ⟨t, y, e0, e1, e⟩ := arrAt_rows (dats m 0 c) 7 Value.disjoint7 (by decide +kernel) rfl (0 : Fin 2) (1 : Fin 2) 512 1024 (by decide)
    (by decide +kernel) rfl ι (ι 0).isLt (ι 1).isLt
  have ho : IsArr (R := 512) (C := 1024) (β := EReal) (outsAt0 m c t.val t.isLt).1 (dx (loadAt (512 * t.val, 0) A) (loadAt (0, 0) B) (loadAt (512 * t.val, 0) X) (loadAt (0, 0) W) (loadAt (512 * t.val, 0) D)) := by
    intro j
    by_cases h : t.val % 4 = 0
    · refine (congrFun (congrArg (fun z => z.1) (outsAt0_A m c t h)) j).trans ?_
      frame_out
      exact (pay7 (blk0 m c t h0) (blk1 m c t h1) (blk2 m c t h2) (blk3 m c t h3) (blk4 m c t h4)) j
    · refine (congrFun (congrArg (fun z => z.1) (outsAt0_B m c t h)) j).trans ?_
      frame_out
      exact (pay7 (blk0 m c t h0) (blk1 m c t h1) (blk2 m c t h2) (blk3 m c t h3) (blk4 m c t h4)) j
  refine e.trans ?_
  rw [Value.flushed7]
  generalize (outsAt0 m c t.val t.isLt).1 = Z at ho ⊢
  refine (ho (win0_7.xinj (grid0.coords t) y)).trans ?_
  show dx _ _ _ _ _ ((y (0 : Fin 2) : ℕ), (y (1 : Fin 2) : ℕ)) = _
  unfold dx dh loadAt
  dsimp only
  rw [← e0, ← e1]
  simp only [Nat.zero_add]

include h0 h1 h2 h3 h4 h5 h6 in
/-- The kernel's gradient of the mixed array. -/
theorem final8 : IsArr (R := 2048) (C := 1024) (β := EReal) ((dats m 0 c).arrAt 8 cfg0.N) (dm A B X W D M U) := fun ι => by
  obtain ⟨t, y, e0, e1, e⟩ := arrAt_rows (dats m 0 c) 8 Value.disjoint8 (by decide +kernel) rfl (0 : Fin 2) (1 : Fin 2) 512 1024 (by decide)
    (by decide +kernel) rfl ι (ι 0).isLt (ι 1).isLt
  have ho : IsArr (R := 512) (C := 1024) (β := EReal) (outsAt0 m c t.val t.isLt).2.1 (dm (loadAt (512 * t.val, 0) A) (loadAt (0, 0) B) (loadAt (512 * t.val, 0) X) (loadAt (0, 0) W) (loadAt (512 * t.val, 0) D) (loadAt (512 * t.val, 0) M) (loadAt (0, 0) U)) := by
    intro j
    by_cases h : t.val % 4 = 0
    · refine (congrFun (congrArg (fun z => z.2.1) (outsAt0_A m c t h)) j).trans ?_
      frame_out
      exact (pay8 (blk0 m c t h0) (blk1 m c t h1) (blk2 m c t h2) (blk3 m c t h3) (blk4 m c t h4) (blk5 m c t h5) (blk6 m c t h6)) j
    · refine (congrFun (congrArg (fun z => z.2.1) (outsAt0_B m c t h)) j).trans ?_
      frame_out
      exact (pay8 (blk0 m c t h0) (blk1 m c t h1) (blk2 m c t h2) (blk3 m c t h3) (blk4 m c t h4) (blk5 m c t h5) (blk6 m c t h6)) j
  refine e.trans ?_
  rw [Value.flushed8]
  generalize (outsAt0 m c t.val t.isLt).2.1 = Z at ho ⊢
  refine (ho (win0_8.xinj (grid0.coords t) y)).trans ?_
  show dm _ _ _ _ _ _ _ ((y (0 : Fin 2) : ℕ), (y (1 : Fin 2) : ℕ)) = _
  unfold dm dx dh loadAt
  dsimp only
  rw [← e0, ← e1]
  simp only [Nat.zero_add]

end

end Cert.StepMlp

namespace Cert.StepMlp.Ref

open Cert.ReferenceMlpIdeal Cert.ReferenceMlpIdeal.Gen Idealize.ShloMosaic Idealize.ShloMosaic.TcCoe Idealize.SL.Sem Idealize.ShloMosaic.Updates Cert.Fox Cert.Step
open Idealize.ShloMosaic.LaneScatter (Blk)

variable (m : (ℓ : Loc nD τ sig) → Buf (Elt Ideal) ℓ) (c : Dev nD) {A B X W D M U : Arr EReal}
  (h0 : IsArr (R := 2048) (C := 4096) (β := EReal) (m ((c.tc : Thread nD τ).loc main_arg0)) A)
  (h1 : IsArr (R := 4096) (C := 1024) (β := EReal) (m ((c.tc : Thread nD τ).loc main_arg1)) B)
  (h2 : IsArr (R := 2048) (C := 1024) (β := EReal) (m ((c.tc : Thread nD τ).loc main_arg2)) X)
  (h3 : IsArr (R := 1) (C := 1024) (β := EReal) (m ((c.tc : Thread nD τ).loc main_arg3)) W)
  (h4 : IsArr (R := 2048) (C := 1024) (β := EReal) (m ((c.tc : Thread nD τ).loc main_arg4)) D)
  (h5 : IsArr (R := 2048) (C := 1024) (β := EReal) (m ((c.tc : Thread nD τ).loc main_arg5)) M)
  (h6 : IsArr (R := 1) (C := 1024) (β := EReal) (m ((c.tc : Thread nD τ).loc main_arg6)) U)

include h0 h1 h2 h3 h4 in
/-- The reference's gradient of the up projection's input. -/
theorem res7 : IsArr (R := 2048) (C := 1024) (β := EReal) (Value.res_main_v42 m c) (dx A B X W D) := by
  have h : IsArr (R := 2048) (C := 1024) (β := EReal) (Value.res_main_v42 m c)
      (fun p => D p + hback (fun k => X (p.1, k)) (fun k => dh A B (p.1, k) * W (0, k)) p.2) := by
    have hg := arr_mulf (arr_dnt (d := dot_S2048x4096_S1024x4096_S2048x1024_1_1_0_0_n_n) (arr_extf h0 bitsLt_bf16_f32) (arr_turn (arr_extf h1 bitsLt_bf16_f32) transposes_S4096x1024_S1024x4096_1_0) rfl)
      (arr_brow (h := bcast_S1x1024_S2048x1024_0_1) (arr_vec (h1 := shapeCasts_S1x1024_S1024) (h2 := bcast_S1024_S1x1024_1) h3))
    unfold Value.res_main_v42
    exact arr_addf h4 (arr_hback h2 hg (arr_bcol (arr_hrs h2)) (arr_hq h2 hg) (arr_hq h2 hg))
  exact fun ι => (h ι).trans (congrArg (D _ + ·) (back_eq _ _ _).symm)

include h0 h1 h2 h3 h4 h5 h6 in
/-- The reference's gradient of the mixed array. -/
theorem res8 : IsArr (R := 2048) (C := 1024) (β := EReal) (Value.res_main_v80 m c) (dm A B X W D M U) := by
  have h : IsArr (R := 2048) (C := 1024) (β := EReal) (Value.res_main_v80 m c)
      (fun p => hback (fun k => M (p.1, k)) (fun k => dx A B X W D (p.1, k) * U (0, k)) p.2) := by
    have hd := res7 m c h0 h1 h2 h3 h4
    unfold Value.res_main_v42 at hd
    have hg := arr_mulf hd (arr_brow (h := bcast_S1x1024_S2048x1024_0_1) (arr_vec (h1 := shapeCasts_S1x1024_S1024) (h2 := bcast_S1024_S1x1024_1) h6))
    unfold Value.res_main_v80
    exact arr_truncf (ψ := .bf16) (arr_hback h5 hg (arr_bcol (arr_hrs h5)) (arr_hq h5 hg) (arr_hq h5 hg)) bitsLt_bf16_f32
  exact fun ι => (h ι).trans (back_eq _ _ _).symm

include h0 h1 h2 h3 h4 h5 in
/-- The reference's gradient of the mixing norm's gain. -/
theorem res10 : IsArr (R := 1) (C := 1024) (β := EReal) (Value.res_main_v82 m c) (fun p => ∑ r ∈ Finset.range 2048, dw (dx A B X W D) M r p.2) := by
  have hd := res7 m c h0 h1 h2 h3 h4
  unfold Value.res_main_v42 at hd
  have h : IsArr (R := 1) (C := 1024) (β := EReal) (Value.res_main_v82 m c) (fun p => ∑ r ∈ Finset.range 2048, (M (r, p.2) * rs fun k => M (r, k)) * dx A B X W D (r, p.2)) := by
    unfold Value.res_main_v82
    exact arr_hone_row (arr_hcol (arr_mulf (arr_hnormed h5) hd))
  exact fun ι => (h ι).trans (Finset.sum_congr rfl fun _ _ => mul_comm _ _)

end Cert.StepMlp.Ref

namespace Cert.StepMlp

open Cert Idealize.ShloMosaic Idealize.SL.Sem Idealize.ShloMosaic.Updates Cert.Fox Cert.Step

theorem frame_r : Cert.quiescent_ReferenceMlpIdeal := by
  intro m ρ _
  exact (θ_run ReferenceMlpIdeal.defs _ _).mono
    (fun r h => ⟨fun c => (h c).2.2.2.2, Idealize.ShloMosaic.sem_eq_zero_of_no_sems (by decide) r.2⟩)
    (ReferenceMlpIdeal.Value.run (F := Ideal) m ρ)

/-- Over the extended reals the kernel's four arrays are the reference's. -/
theorem value : Cert.algebraic_KernelMlpIdeal_ReferenceMlpIdeal := by
  intro m g m' g' _ hm
  refine ⟨fun c => (KernelMlpIdeal.Gen.dats m 0 c).arrAt 7 KernelMlpIdeal.cfg0.N, fun c => (KernelMlpIdeal.Gen.dats m 0 c).arrAt 8 KernelMlpIdeal.cfg0.N, fun c => (KernelMlpIdeal.Gen.dats m 0 c).arrAt 9 KernelMlpIdeal.cfg0.N, fun c => (KernelMlpIdeal.Gen.dats m 0 c).arrAt 10 KernelMlpIdeal.cfg0.N, KernelMlpIdeal.Value.run_blocks m g, ?_⟩
  refine (θ_run ReferenceMlpIdeal.defs _ _).mono (fun r h c => ?_) (ReferenceMlpIdeal.Value.run (F := Ideal) m' g')
  obtain ⟨e0, e1, e2, e3, hk⟩ := h c
  obtain ⟨a0, a1, a2, a3, a4, a5, a6, a7⟩ := hm c
  obtain ⟨A, h0, k0⟩ : ∃ A : Arr EReal, IsArr (R := 2048) (C := 4096) (β := EReal) (m ((c.tc : Thread KernelMlpIdeal.nD KernelMlpIdeal.τ).loc KernelMlpIdeal.main_arg0)) A ∧
      IsArr (R := 2048) (C := 4096) (β := EReal) (m' ((c.tc : Thread ReferenceMlpIdeal.nD ReferenceMlpIdeal.τ).loc ReferenceMlpIdeal.main_arg0)) A :=
    ⟨_, isArr_ofBlk (by decide) (by decide) _, by rw [a0]; exact isArr_ofBlk (by decide) (by decide) _⟩
  obtain ⟨B, h1, k1⟩ : ∃ A : Arr EReal, IsArr (R := 4096) (C := 1024) (β := EReal) (m ((c.tc : Thread KernelMlpIdeal.nD KernelMlpIdeal.τ).loc KernelMlpIdeal.main_arg1)) A ∧
      IsArr (R := 4096) (C := 1024) (β := EReal) (m' ((c.tc : Thread ReferenceMlpIdeal.nD ReferenceMlpIdeal.τ).loc ReferenceMlpIdeal.main_arg1)) A :=
    ⟨_, isArr_ofBlk (by decide) (by decide) _, by rw [a1]; exact isArr_ofBlk (by decide) (by decide) _⟩
  obtain ⟨X, h2, k2⟩ : ∃ A : Arr EReal, IsArr (R := 2048) (C := 1024) (β := EReal) (m ((c.tc : Thread KernelMlpIdeal.nD KernelMlpIdeal.τ).loc KernelMlpIdeal.main_arg2)) A ∧
      IsArr (R := 2048) (C := 1024) (β := EReal) (m' ((c.tc : Thread ReferenceMlpIdeal.nD ReferenceMlpIdeal.τ).loc ReferenceMlpIdeal.main_arg2)) A :=
    ⟨_, isArr_ofBlk (by decide) (by decide) _, by rw [a2]; exact isArr_ofBlk (by decide) (by decide) _⟩
  obtain ⟨W, h3, k3⟩ : ∃ A : Arr EReal, IsArr (R := 1) (C := 1024) (β := EReal) (m ((c.tc : Thread KernelMlpIdeal.nD KernelMlpIdeal.τ).loc KernelMlpIdeal.main_arg3)) A ∧
      IsArr (R := 1) (C := 1024) (β := EReal) (m' ((c.tc : Thread ReferenceMlpIdeal.nD ReferenceMlpIdeal.τ).loc ReferenceMlpIdeal.main_arg3)) A :=
    ⟨_, isArr_ofBlk (by decide) (by decide) _, by rw [a3]; exact isArr_ofBlk (by decide) (by decide) _⟩
  obtain ⟨D, h4, k4⟩ : ∃ A : Arr EReal, IsArr (R := 2048) (C := 1024) (β := EReal) (m ((c.tc : Thread KernelMlpIdeal.nD KernelMlpIdeal.τ).loc KernelMlpIdeal.main_arg4)) A ∧
      IsArr (R := 2048) (C := 1024) (β := EReal) (m' ((c.tc : Thread ReferenceMlpIdeal.nD ReferenceMlpIdeal.τ).loc ReferenceMlpIdeal.main_arg4)) A :=
    ⟨_, isArr_ofBlk (by decide) (by decide) _, by rw [a4]; exact isArr_ofBlk (by decide) (by decide) _⟩
  obtain ⟨M, h5, k5⟩ : ∃ A : Arr EReal, IsArr (R := 2048) (C := 1024) (β := EReal) (m ((c.tc : Thread KernelMlpIdeal.nD KernelMlpIdeal.τ).loc KernelMlpIdeal.main_arg5)) A ∧
      IsArr (R := 2048) (C := 1024) (β := EReal) (m' ((c.tc : Thread ReferenceMlpIdeal.nD ReferenceMlpIdeal.τ).loc ReferenceMlpIdeal.main_arg5)) A :=
    ⟨_, isArr_ofBlk (by decide) (by decide) _, by rw [a5]; exact isArr_ofBlk (by decide) (by decide) _⟩
  obtain ⟨U, h6, k6⟩ : ∃ A : Arr EReal, IsArr (R := 1) (C := 1024) (β := EReal) (m ((c.tc : Thread KernelMlpIdeal.nD KernelMlpIdeal.τ).loc KernelMlpIdeal.main_arg6)) A ∧
      IsArr (R := 1) (C := 1024) (β := EReal) (m' ((c.tc : Thread ReferenceMlpIdeal.nD ReferenceMlpIdeal.τ).loc ReferenceMlpIdeal.main_arg6)) A :=
    ⟨_, isArr_ofBlk (by decide) (by decide) _, by rw [a6]; exact isArr_ofBlk (by decide) (by decide) _⟩
  exact ⟨e0.trans (arr_ext (Ref.res7 m' c k0 k1 k2 k3 k4) (final7 m c h0 h1 h2 h3 h4) fun _ _ _ _ => rfl), e1.trans (arr_ext (Ref.res8 m' c k0 k1 k2 k3 k4 k5 k6) (final8 m c h0 h1 h2 h3 h4 h5 h6) fun _ _ _ _ => rfl), e2.trans (arr_ext (arr_hone_row (arr_hcol (arr_mulf (arr_hnormed k2) (arr_dnt (arr_extf k0 _) (arr_turn (arr_extf k1 _) _) rfl)))) (final9 m c h0 h1 h2) fun _ _ _ _ => Finset.sum_congr rfl fun _ _ => mul_comm _ _), e3.trans (arr_ext (Ref.res10 m' c k0 k1 k2 k3 k4 k5) (final10 m c h0 h1 h2 h3 h4 h5) fun _ _ _ _ => rfl), hk⟩

end Cert.StepMlp

end
-- ==== Proof.StepProj.lean ====
/- The forward input projection behind its norm: the kernel's arrays are the reference's. -/
module

public import proofs.«01_k».proof.Defs
public import proofs.«01_k».proof.Proof.Gen.KernelProjIdeal.Value
public import proofs.«01_k».proof.Proof.Gen.ReferenceProjIdeal.Run
public import proofs.«01_k».proof.Proof.StepNorm

@[expose] public section

noncomputable section

namespace Cert.StepProj

open Cert.KernelProjIdeal Cert.KernelProjIdeal.Gen Idealize.ShloMosaic Idealize.ShloMosaic.TcCoe Idealize.SL.Sem Idealize.ShloMosaic.Updates Cert.Fox Cert.Step
open Idealize.ShloMosaic.LaneScatter (Blk)

variable (m : (ℓ : Loc nD τ sig) → Buf (Elt Ideal) ℓ) (c : Dev nD)

theorem idx0 : ∀ t : Fin cfg0.N, win0_0.index t 0 = t.val ∧ win0_0.index t 1 = 0 := (by decide +kernel : ∀ t : Fin grid0.N, _)

theorem blk0 (t : Fin cfg0.N) {A : Arr EReal} (hA : IsArr (R := 2048) (C := 1024) (β := EReal) (m ((c : Thread nD τ).loc main_arg0)) A) :
    IsArr (R := 512) (C := 1024) (β := EReal) (iblk m c 0 t) (loadAt (512 * t.val, 0) A) :=
  isArr_window hA _ (((cfg0.win 0).blk t).view.emb) _ (fun j => rfl) (fun j => (win0_0.rect_emb_val t j 0).trans (rows_val (idx0 t).1))
    (fun j => (win0_0.rect_emb_val_of_index_zero t 1 (idx0 t).2 j).trans (Nat.zero_add _).symm)

theorem idx1 : ∀ t : Fin cfg0.N, win0_1.index t 0 = 0 ∧ win0_1.index t 1 = 0 := (by decide +kernel : ∀ t : Fin grid0.N, _)

theorem blk1 (t : Fin cfg0.N) {A : Arr EReal} (hA : IsArr (R := 1) (C := 1024) (β := EReal) (m ((c : Thread nD τ).loc main_arg1)) A) :
    IsArr (R := 1) (C := 1024) (β := EReal) (iblk m c 1 t) (loadAt (0, 0) A) :=
  isArr_window hA _ (((cfg0.win 1).blk t).view.emb) _ (fun j => rfl) (fun j => (win0_1.rect_emb_val_of_index_zero t 0 (idx1 t).1 j).trans (Nat.zero_add _).symm)
    (fun j => (win0_1.rect_emb_val_of_index_zero t 1 (idx1 t).2 j).trans (Nat.zero_add _).symm)

theorem idx2 : ∀ t : Fin cfg0.N, win0_2.index t 0 = 0 ∧ win0_2.index t 1 = 0 := (by decide +kernel : ∀ t : Fin grid0.N, _)

theorem blk2 (t : Fin cfg0.N) {A : Arr EReal} (hA : IsArr (R := 3712) (C := 1024) (β := EReal) (m ((c : Thread nD τ).loc main_arg2)) A) :
    IsArr (R := 3712) (C := 1024) (β := EReal) (iblk m c 2 t) (loadAt (0, 0) A) :=
  isArr_window hA _ (((cfg0.win 2).blk t).view.emb) _ (fun j => rfl) (fun j => (win0_2.rect_emb_val_of_index_zero t 0 (idx2 t).1 j).trans (Nat.zero_add _).symm)
    (fun j => (win0_2.rect_emb_val_of_index_zero t 1 (idx2 t).2 j).trans (Nat.zero_add _).symm)

/-- The normed and scaled rows. -/
def hn (A W : Arr EReal) : Arr EReal := fun p => A p * (rs fun k => A (p.1, k)) * W (0, p.2)

/-- Their product with the turned weights. -/
def pr (A W B : Arr EReal) : Arr EReal := fun p => ∑ k ∈ Finset.range 1024, hn A W (p.1, k) * B (p.2, k)

section
variable {x0 : Vec Ideal S512x1024 .f32} {x1 : Vec Ideal S1x1024 .f32} {x2 : Vec Ideal S3712x1024 .bf16} {A W B : Arr EReal}

theorem pay4 (h0 : IsArr (β := EReal) x0 A) (h1 : IsArr (β := EReal) x1 W) : IsArr (R := 512) (C := 1024) (β := EReal) (k0_pay1 x0 x1) (hn A W) :=
  arr_truncf (ψ := .bf16) (arr_mulf (arr_mulf h0 (arr_bc_col (arr_krs h0) _)) (arr_bc_row h1 _)) bitsLt_bf16_f32

theorem pay3 (h0 : IsArr (β := EReal) x0 A) (h1 : IsArr (β := EReal) x1 W) (h2 : IsArr (β := EReal) x2 B) :
    IsArr (R := 512) (C := 3712) (β := EReal) (k0_pay2 x0 x1 x2) (pr A W B) :=
  arr_nt (pay4 h0 h1) h2 rfl

end

section
variable {A W B : Arr EReal} (h0 : IsArr (R := 2048) (C := 1024) (β := EReal) (m ((c : Thread nD τ).loc main_arg0)) A)
  (h1 : IsArr (R := 1) (C := 1024) (β := EReal) (m ((c : Thread nD τ).loc main_arg1)) W)
  (h2 : IsArr (R := 3712) (C := 1024) (β := EReal) (m ((c : Thread nD τ).loc main_arg2)) B)

include h0 h1 h2 in
/-- The kernel's projection. -/
theorem final3 : IsArr (R := 2048) (C := 3712) (β := EReal) ((dats m 0 c).arrAt 3 cfg0.N) (pr A W B) := fun ι => by
  obtain ⟨t, y, e0, e1, e⟩ := arrAt_rows (dats m 0 c) 3 Value.disjoint3 (by decide +kernel) rfl (0 : Fin 2) (1 : Fin 2) 512 3712 (by decide)
    (by decide +kernel) rfl ι (ι 0).isLt (ι 1).isLt
  have ho : IsArr (R := 512) (C := 3712) (β := EReal) (outsAt0 m c t).1 (pr (loadAt (512 * t.val, 0) A) (loadAt (0, 0) W) (loadAt (0, 0) B)) := by
    intro j
    unfold outsAt0
    frame_out
    exact (pay3 (blk0 m c t h0) (blk1 m c t h1) (blk2 m c t h2)) j
  refine e.trans ?_
  rw [Value.flushed3]
  generalize (outsAt0 m c t).1 = Z at ho ⊢
  refine (ho (win0_3.xinj (grid0.coords t) y)).trans ?_
  show pr _ _ _ ((y (0 : Fin 2) : ℕ), (y (1 : Fin 2) : ℕ)) = _
  unfold pr hn loadAt
  dsimp only
  rw [← e0, ← e1]
  simp only [Nat.zero_add]

include h0 h1 in
/-- The kernel's normed rows. -/
theorem final4 : IsArr (R := 2048) (C := 1024) (β := EReal) ((dats m 0 c).arrAt 4 cfg0.N) (hn A W) := fun ι => by
  obtain ⟨t, y, e0, e1, e⟩ := arrAt_rows (dats m 0 c) 4 Value.disjoint4 (by decide +kernel) rfl (0 : Fin 2) (1 : Fin 2) 512 1024 (by decide)
    (by decide +kernel) rfl ι (ι 0).isLt (ι 1).isLt
  have ho : IsArr (R := 512) (C := 1024) (β := EReal) (outsAt0 m c t).2 (hn (loadAt (512 * t.val, 0) A) (loadAt (0, 0) W)) := by
    intro j
    unfold outsAt0
    frame_out
    exact (pay4 (blk0 m c t h0) (blk1 m c t h1)) j
  refine e.trans ?_
  rw [Value.flushed4]
  generalize (outsAt0 m c t).2 = Z at ho ⊢
  refine (ho (win0_4.xinj (grid0.coords t) y)).trans ?_
  show hn _ _ ((y (0 : Fin 2) : ℕ), (y (1 : Fin 2) : ℕ)) = _
  unfold hn loadAt
  dsimp only
  rw [← e0, ← e1]
  simp only [Nat.zero_add]

end

end Cert.StepProj

namespace Cert.StepProj

open Cert Idealize.ShloMosaic Idealize.SL.Sem Idealize.ShloMosaic.Updates Cert.Fox Cert.Step

theorem frame_r : Cert.quiescent_ReferenceProjIdeal := by
  intro m ρ _
  exact (θ_run ReferenceProjIdeal.defs _ _).mono
    (fun r h => ⟨fun c => (h c).2.2, Idealize.ShloMosaic.sem_eq_zero_of_no_sems (by decide) r.2⟩)
    (ReferenceProjIdeal.Value.run (F := Ideal) m ρ)

/-- Over the extended reals the kernel's two arrays are the reference's. -/
theorem value : Cert.algebraic_KernelProjIdeal_ReferenceProjIdeal := by
  intro m g m' g' _ hm
  refine ⟨fun c => (KernelProjIdeal.Gen.dats m 0 c).arrAt 3 KernelProjIdeal.cfg0.N, fun c => (KernelProjIdeal.Gen.dats m 0 c).arrAt 4 KernelProjIdeal.cfg0.N, KernelProjIdeal.Value.run_blocks m g, ?_⟩
  refine (θ_run ReferenceProjIdeal.defs _ _).mono (fun r h c => ?_) (ReferenceProjIdeal.Value.run (F := Ideal) m' g')
  obtain ⟨e0, e1, hk⟩ := h c
  obtain ⟨a0, a1, a2, a3⟩ := hm c
  obtain ⟨A, h0, k0⟩ : ∃ A : Arr EReal, IsArr (R := 2048) (C := 1024) (β := EReal) (m ((c.tc : Thread KernelProjIdeal.nD KernelProjIdeal.τ).loc KernelProjIdeal.main_arg0)) A ∧
      IsArr (R := 2048) (C := 1024) (β := EReal) (m' ((c.tc : Thread ReferenceProjIdeal.nD ReferenceProjIdeal.τ).loc ReferenceProjIdeal.main_arg0)) A :=
    ⟨_, isArr_ofBlk (by decide) (by decide) _, by rw [a0]; exact isArr_ofBlk (by decide) (by decide) _⟩
  obtain ⟨W, h1, k1⟩ : ∃ A : Arr EReal, IsArr (R := 1) (C := 1024) (β := EReal) (m ((c.tc : Thread KernelProjIdeal.nD KernelProjIdeal.τ).loc KernelProjIdeal.main_arg1)) A ∧
      IsArr (R := 1) (C := 1024) (β := EReal) (m' ((c.tc : Thread ReferenceProjIdeal.nD ReferenceProjIdeal.τ).loc ReferenceProjIdeal.main_arg1)) A :=
    ⟨_, isArr_ofBlk (by decide) (by decide) _, by rw [a1]; exact isArr_ofBlk (by decide) (by decide) _⟩
  obtain ⟨B, h2, k2⟩ : ∃ A : Arr EReal, IsArr (R := 3712) (C := 1024) (β := EReal) (m ((c.tc : Thread KernelProjIdeal.nD KernelProjIdeal.τ).loc KernelProjIdeal.main_arg2)) A ∧
      IsArr (R := 3712) (C := 1024) (β := EReal) (m' ((c.tc : Thread ReferenceProjIdeal.nD ReferenceProjIdeal.τ).loc ReferenceProjIdeal.main_arg2)) A :=
    ⟨_, isArr_ofBlk (by decide) (by decide) _, by rw [a2]; exact isArr_ofBlk (by decide) (by decide) _⟩
  exact ⟨e0.trans (arr_ext (arr_dnn (arr_mulf (arr_hnormed k0) (arr_brow (arr_vec k1))) (arr_turn (arr_extf k2 _) _) rfl) (final3 m c h0 h1 h2) fun _ _ _ _ => rfl), e1.trans (arr_ext (arr_truncf (ψ := .bf16) (arr_mulf (arr_hnormed k0) (arr_brow (arr_vec k1))) _) (final4 m c h0 h1) fun _ _ _ _ => rfl), hk⟩

end Cert.StepProj

end
-- ==== Proof.StepFwd.lean ====
/- The forward up projection: the kernel's array is the reference's. -/
module

public import proofs.«01_k».proof.Defs
public import proofs.«01_k».proof.Proof.Gen.KernelFwdIdeal.Value
public import proofs.«01_k».proof.Proof.Gen.ReferenceFwdIdeal.Run
public import proofs.«01_k».proof.Proof.StepNorm

@[expose] public section

noncomputable section

namespace Cert.StepFwd

open Cert.KernelFwdIdeal Cert.KernelFwdIdeal.Gen Idealize.ShloMosaic Idealize.ShloMosaic.TcCoe Idealize.SL.Sem Idealize.ShloMosaic.Updates Cert.Fox Cert.Step
open Idealize.ShloMosaic.LaneScatter (Blk)

variable (m : (ℓ : Loc nD τ sig) → Buf (Elt Ideal) ℓ) (c : Dev nD)

theorem idx0 : ∀ t : Fin cfg0.N, win0_0.index t 0 = t.val ∧ win0_0.index t 1 = 0 := (by decide +kernel : ∀ t : Fin grid0.N, _)

theorem blk0 (t : Fin cfg0.N) {A : Arr EReal} (hA : IsArr (R := 2048) (C := 1024) (β := EReal) (m ((c : Thread nD τ).loc main_arg0)) A) :
    IsArr (R := 512) (C := 1024) (β := EReal) (iblk m c 0 t) (loadAt (512 * t.val, 0) A) :=
  isArr_window hA _ (((cfg0.win 0).blk t).view.emb) _ (fun j => rfl) (fun j => (win0_0.rect_emb_val t j 0).trans (rows_val (idx0 t).1))
    (fun j => (win0_0.rect_emb_val_of_index_zero t 1 (idx0 t).2 j).trans (Nat.zero_add _).symm)

theorem idx1 : ∀ t : Fin cfg0.N, win0_1.index t 0 = 0 ∧ win0_1.index t 1 = 0 := (by decide +kernel : ∀ t : Fin grid0.N, _)

theorem blk1 (t : Fin cfg0.N) {A : Arr EReal} (hA : IsArr (R := 4096) (C := 1024) (β := EReal) (m ((c : Thread nD τ).loc main_arg1)) A) :
    IsArr (R := 4096) (C := 1024) (β := EReal) (iblk m c 1 t) (loadAt (0, 0) A) :=
  isArr_window hA _ (((cfg0.win 1).blk t).view.emb) _ (fun j => rfl) (fun j => (win0_1.rect_emb_val_of_index_zero t 0 (idx1 t).1 j).trans (Nat.zero_add _).symm)
    (fun j => (win0_1.rect_emb_val_of_index_zero t 1 (idx1 t).2 j).trans (Nat.zero_add _).symm)

/-- The product with the turned weights. -/
def up (A B : Arr EReal) : Arr EReal := fun p => ∑ k ∈ Finset.range 1024, A (p.1, k) * B (p.2, k)

theorem out2 {x0 : Vec Ideal S512x1024 .bf16} {x1 : Vec Ideal S4096x1024 .bf16} {A B : Arr EReal} (h0 : IsArr (β := EReal) x0 A) (h1 : IsArr (β := EReal) x1 B) :
    IsArr (R := 512) (C := 4096) (β := EReal) (out0_2 x0 x1) (up A B) := fun j => by
  frame_out
  exact arr_truncf (ψ := .bf16) (arr_nt h0 h1 rfl) bitsLt_bf16_f32 j

section
variable {A B : Arr EReal} (h0 : IsArr (R := 2048) (C := 1024) (β := EReal) (m ((c : Thread nD τ).loc main_arg0)) A)
  (h1 : IsArr (R := 4096) (C := 1024) (β := EReal) (m ((c : Thread nD τ).loc main_arg1)) B)

include h0 h1 in
/-- The kernel's array. -/
theorem final2 : IsArr (R := 2048) (C := 4096) (β := EReal) ((dats m 0 c).arrAt 2 cfg0.N) (up A B) := fun ι => by
  obtain ⟨t, y, e0, e1, e⟩ := arrAt_rows (dats m 0 c) 2 Value.disjoint2 (by decide +kernel) rfl (0 : Fin 2) (1 : Fin 2) 512 4096 (by decide)
    (by decide +kernel) rfl ι (ι 0).isLt (ι 1).isLt
  have ho := out2 (blk0 m c t h0) (blk1 m c t h1)
  refine e.trans ?_
  rw [Value.flushed2]
  generalize out0_2 (F := Ideal) _ _ = Z at ho ⊢
  refine (ho (win0_2.xinj (grid0.coords t) y)).trans ?_
  show up _ _ ((y (0 : Fin 2) : ℕ), (y (1 : Fin 2) : ℕ)) = _
  unfold up loadAt
  dsimp only
  rw [← e0, ← e1]
  simp only [Nat.zero_add]

end

end Cert.StepFwd

namespace Cert.StepFwd

open Cert Idealize.ShloMosaic Idealize.SL.Sem Idealize.ShloMosaic.Updates Cert.Fox Cert.Step

theorem frame_r : Cert.quiescent_ReferenceFwdIdeal := by
  intro m ρ _
  exact (θ_run ReferenceFwdIdeal.defs _ _).mono
    (fun r h => ⟨fun c => (h c).2, Idealize.ShloMosaic.sem_eq_zero_of_no_sems (by decide) r.2⟩)
    (ReferenceFwdIdeal.Value.run (F := Ideal) m ρ)

/-- Over the extended reals the kernel's array is the reference's. -/
theorem value : Cert.algebraic_KernelFwdIdeal_ReferenceFwdIdeal := by
  intro m g m' g' _ hm
  refine ⟨fun c => (KernelFwdIdeal.Gen.dats m 0 c).arrAt 2 KernelFwdIdeal.cfg0.N, KernelFwdIdeal.Value.run_blocks m g, ?_⟩
  refine (θ_run ReferenceFwdIdeal.defs _ _).mono (fun r h c => ?_) (ReferenceFwdIdeal.Value.run (F := Ideal) m' g')
  obtain ⟨e0, hk⟩ := h c
  obtain ⟨a0, a1⟩ := hm c
  obtain ⟨A, h0, k0⟩ : ∃ A : Arr EReal, IsArr (R := 2048) (C := 1024) (β := EReal) (m ((c.tc : Thread KernelFwdIdeal.nD KernelFwdIdeal.τ).loc KernelFwdIdeal.main_arg0)) A ∧
      IsArr (R := 2048) (C := 1024) (β := EReal) (m' ((c.tc : Thread ReferenceFwdIdeal.nD ReferenceFwdIdeal.τ).loc ReferenceFwdIdeal.main_arg0)) A :=
    ⟨_, isArr_ofBlk (by decide) (by decide) _, by rw [a0]; exact isArr_ofBlk (by decide) (by decide) _⟩
  obtain ⟨B, h1, k1⟩ : ∃ A : Arr EReal, IsArr (R := 4096) (C := 1024) (β := EReal) (m ((c.tc : Thread KernelFwdIdeal.nD KernelFwdIdeal.τ).loc KernelFwdIdeal.main_arg1)) A ∧
      IsArr (R := 4096) (C := 1024) (β := EReal) (m' ((c.tc : Thread ReferenceFwdIdeal.nD ReferenceFwdIdeal.τ).loc ReferenceFwdIdeal.main_arg1)) A :=
    ⟨_, isArr_ofBlk (by decide) (by decide) _, by rw [a1]; exact isArr_ofBlk (by decide) (by decide) _⟩
  exact ⟨e0.trans (arr_ext (arr_truncf (ψ := .bf16) (arr_dnn (arr_extf k0 _) (arr_turn (arr_extf k1 _) _) rfl) _) (final2 m c h0 h1) fun _ _ _ _ => rfl), hk⟩

end Cert.StepFwd

end
-- ==== Proof.StepLoss.lean ====
/- The down projection, its norm, the loss and the gradients there: the kernel's arrays are the reference's. -/
module

public import proofs.«01_k».proof.Defs
public import proofs.«01_k».proof.Proof.Gen.KernelLossIdeal.Value
public import proofs.«01_k».proof.Proof.Gen.ReferenceLossIdeal.Run
public import proofs.«01_k».proof.Proof.StepNorm

@[expose] public section

noncomputable section

namespace Cert.StepLoss

open Cert.KernelLossIdeal Cert.KernelLossIdeal.Gen Idealize.ShloMosaic Idealize.ShloMosaic.TcCoe Idealize.SL.Sem Idealize.ShloMosaic.Updates Cert.Fox Cert.Step
open Idealize.ShloMosaic.LaneScatter (Blk)

variable (m : (ℓ : Loc nD τ sig) → Buf (Elt Ideal) ℓ) (c : Dev nD)

theorem idx0 : ∀ t : Fin cfg0.N, win0_0.index t 0 = t.val ∧ win0_0.index t 1 = 0 := (by decide +kernel : ∀ t : Fin grid0.N, _)

theorem blk0 (t : Fin cfg0.N) {A : Arr EReal} (hA : IsArr (R := 2048) (C := 4096) (β := EReal) (m ((c : Thread nD τ).loc main_arg0)) A) :
    IsArr (R := 512) (C := 4096) (β := EReal) (iblk m c 0 t) (loadAt (512 * t.val, 0) A) :=
  isArr_window hA _ (((cfg0.win 0).blk t).view.emb) _ (fun j => rfl) (fun j => (win0_0.rect_emb_val t j 0).trans (rows_val (idx0 t).1))
    (fun j => (win0_0.rect_emb_val_of_index_zero t 1 (idx0 t).2 j).trans (Nat.zero_add _).symm)

theorem idx1 : ∀ t : Fin cfg0.N, win0_1.index t 0 = 0 ∧ win0_1.index t 1 = 0 := (by decide +kernel : ∀ t : Fin grid0.N, _)

theorem blk1 (t : Fin cfg0.N) {A : Arr EReal} (hA : IsArr (R := 4096) (C := 1024) (β := EReal) (m ((c : Thread nD τ).loc main_arg1)) A) :
    IsArr (R := 4096) (C := 1024) (β := EReal) (iblk m c 1 t) (loadAt (0, 0) A) :=
  isArr_window hA _ (((cfg0.win 1).blk t).view.emb) _ (fun j => rfl) (fun j => (win0_1.rect_emb_val_of_index_zero t 0 (idx1 t).1 j).trans (Nat.zero_add _).symm)
    (fun j => (win0_1.rect_emb_val_of_index_zero t 1 (idx1 t).2 j).trans (Nat.zero_add _).symm)

theorem idx2 : ∀ t : Fin cfg0.N, win0_2.index t 0 = t.val ∧ win0_2.index t 1 = 0 := (by decide +kernel : ∀ t : Fin grid0.N, _)

theorem blk2 (t : Fin cfg0.N) {A : Arr EReal} (hA : IsArr (R := 2048) (C := 1024) (β := EReal) (m ((c : Thread nD τ).loc main_arg2)) A) :
    IsArr (R := 512) (C := 1024) (β := EReal) (iblk m c 2 t) (loadAt (512 * t.val, 0) A) :=
  isArr_window hA _ (((cfg0.win 2).blk t).view.emb) _ (fun j => rfl) (fun j => (win0_2.rect_emb_val t j 0).trans (rows_val (idx2 t).1))
    (fun j => (win0_2.rect_emb_val_of_index_zero t 1 (idx2 t).2 j).trans (Nat.zero_add _).symm)

theorem idx3 : ∀ t : Fin cfg0.N, win0_3.index t 0 = 0 ∧ win0_3.index t 1 = 0 := (by decide +kernel : ∀ t : Fin grid0.N, _)

theorem blk3 (t : Fin cfg0.N) {A : Arr EReal} (hA : IsArr (R := 1) (C := 1024) (β := EReal) (m ((c : Thread nD τ).loc main_arg3)) A) :
    IsArr (R := 1) (C := 1024) (β := EReal) (iblk m c 3 t) (loadAt (0, 0) A) :=
  isArr_window hA _ (((cfg0.win 3).blk t).view.emb) _ (fun j => rfl) (fun j => (win0_3.rect_emb_val_of_index_zero t 0 (idx3 t).1 j).trans (Nat.zero_add _).symm)
    (fun j => (win0_3.rect_emb_val_of_index_zero t 1 (idx3 t).2 j).trans (Nat.zero_add _).symm)

theorem idx4 : ∀ t : Fin cfg0.N, win0_4.index t 0 = t.val ∧ win0_4.index t 1 = 0 := (by decide +kernel : ∀ t : Fin grid0.N, _)

theorem blk4 (t : Fin cfg0.N) {A : Arr EReal} (hA : IsArr (R := 2048) (C := 1024) (β := EReal) (m ((c : Thread nD τ).loc main_arg4)) A) :
    IsArr (R := 512) (C := 1024) (β := EReal) (iblk m c 4 t) (loadAt (512 * t.val, 0) A) :=
  isArr_window hA _ (((cfg0.win 4).blk t).view.emb) _ (fun j => rfl) (fun j => (win0_4.rect_emb_val t j 0).trans (rows_val (idx4 t).1))
    (fun j => (win0_4.rect_emb_val_of_index_zero t 1 (idx4 t).2 j).trans (Nat.zero_add _).symm)

/-- The squared positive part. -/
def sq (U : Arr EReal) : Arr EReal := fun p => max (U p) (Ideal.ofBits .f32 0x00000000#32) * max (U p) (Ideal.ofBits .f32 0x00000000#32)

/-- The down projection. -/
def yy (U B : Arr EReal) : Arr EReal := fun p => ∑ k ∈ Finset.range 4096, sq U (p.1, k) * B (k, p.2)

/-- Its normed rows. -/
def nm (U B : Arr EReal) : Arr EReal := fun p => yy U B p * rs fun k => yy U B (p.1, k)

/-- What the output misses the target by. -/
def er (U B X W T : Arr EReal) : Arr EReal := fun p => X p + nm U B p * W (0, p.2) - T p

/-- The gradient in the stream. -/
def dx (U B X W T : Arr EReal) : Arr EReal := fun p => er U B X W T p * Ideal.ofBits .f32 0x3A800000#32

/-- The gradient in the down projection. -/
def dy (U B X W T : Arr EReal) : Arr EReal := fun p => kback (fun k => yy U B (p.1, k)) (fun k => dx U B X W T (p.1, k) * W (0, k)) p.2

/-- A row's share of the loss, the same in every lane. -/
def ls (U B X W T : Arr EReal) (r _x : ℕ) : EReal := (∑ k ∈ Finset.range 1024, er U B X W T (r, k) * er U B X W T (r, k)) * Ideal.ofBits .f32 0x3A000000#32

/-- A row's share of the gain's gradient. -/
def dw (U B X W T : Arr EReal) (r x : ℕ) : EReal := dx U B X W T (r, x) * nm U B (r, x)

theorem bits_11 : Ideal.ofBits .f32 0x3A000000#32 = ((1 / 2048 : ℝ) : EReal) := by simp [Ideal.ofBits, Ideal.ieee, -EReal.coe_mul]; norm_num
theorem bits_10 : Ideal.ofBits .f32 0x3A800000#32 = ((1 / 1024 : ℝ) : EReal) := by simp [Ideal.ofBits, Ideal.ieee, -EReal.coe_mul]; norm_num
theorem bits_1 : Ideal.ofBits .f32 0x3F000000#32 = ((1 / 2 : ℝ) : EReal) := by simp [Ideal.ofBits, Ideal.ieee, -EReal.coe_mul]; norm_num
theorem bits_0 : Ideal.ofBits .f32 0x3F800000#32 = ((1 : ℝ) : EReal) := by simp [Ideal.ofBits, Ideal.ieee, -EReal.coe_mul]; norm_num
theorem bits_2 : Ideal.ofBits .f32 0x40000000#32 = ((2 : ℝ) : EReal) := by simp [Ideal.ofBits, Ideal.ieee, -EReal.coe_mul]; norm_num

theorem scale_sum (f : ℕ → EReal) (n : ℕ) : (∑ r ∈ Finset.range n, f r) * Ideal.ofBits .f32 0x3A000000#32 = ∑ r ∈ Finset.range n, f r * Ideal.ofBits .f32 0x3A000000#32 := by
  rw [bits_11, mul_comm, real_mul_sum (by norm_num)]
  exact Finset.sum_congr rfl fun _ _ => mul_comm _ _

/-- The reference's loss: the mean of a row's squares, the half of their sum. -/
theorem loss_eq (f : ℕ → EReal) (n : ℕ) : Ideal.ofBits .f32 0x3F000000#32 * ∑ r ∈ Finset.range n, Ideal.div (f r) (Ideal.ofBits .f32 0x44800000#32) =
    ∑ r ∈ Finset.range n, f r * Ideal.ofBits .f32 0x3A000000#32 := by
  rw [bits_1, real_mul_sum (by norm_num)]
  refine Finset.sum_congr rfl fun r _ => ?_
  rw [div_width, bits_11, mul_left_comm, ← EReal.coe_mul]
  norm_num

/-- The reference's factors. -/
theorem dx_eq (e : EReal) : Ideal.div (Ideal.ofBits .f32 0x3F000000#32 * Ideal.ofBits .f32 0x3F800000#32) (Ideal.ofBits .f32 0x44800000#32) * (Ideal.ofBits .f32 0x40000000#32 * e) =
    e * Ideal.ofBits .f32 0x3A800000#32 := by
  rw [div_width, bits_1, bits_0, bits_2, bits_10, ← mul_assoc, ← EReal.coe_mul, ← EReal.coe_mul, ← EReal.coe_mul, mul_comm]
  norm_num

/-- The host's sum of the rows' mean squares, spread over the lanes. -/
theorem arr_hloss {R C K : ℕ} {x : FVec Ideal (Blk R K) .f32} {A : Arr EReal} (hx : IsArr (β := EReal) x A) {v w a1 a2 a3 a4 a5 a6} :
    IsArr (β := EReal) (broadcastInDim (Blk 1 C) ![] a6 (mulf (constant ⟨0, ![]⟩ .f32 v) (Host.reduceAdd (F := Ideal) (t := ⟨0, ![]⟩) (axes := [0])
      (Host.divf (Host.reduceAdd (F := Ideal) (t := ⟨1, ![R]⟩) (axes := [1]) x (constant ⟨0, ![]⟩ .f32 0x00000000#32) a1 a2)
        (broadcastInDim ⟨1, ![R]⟩ ![] a3 (constant (F := Ideal) ⟨0, ![]⟩ FTy.f32 w))) (constant ⟨0, ![]⟩ .f32 0x00000000#32) a4 a5)))
      (fun _ => Ideal.ofBits .f32 v * ∑ r ∈ Finset.range R, Ideal.div (∑ k ∈ Finset.range K, A (r, k)) (Ideal.ofBits .f32 w)) := fun ι => by
  dsimp only
  simp only [Finset.sum_range]
  pointwise
  exact congrArg (Ideal.ofBits .f32 v * ·) (Finset.sum_congr rfl fun r _ => congrArg (Ideal.div · _) (Finset.sum_congr rfl fun k _ => hx _))

/-- The host's constant factor of every row. -/
theorem arr_hfac {R C : ℕ} {v w u a1 a2 a3} :
    IsArr (β := EReal) (broadcastInDim (Blk R C) ![0] a3 (Host.divf (F := Ideal) (broadcastInDim ⟨1, ![R]⟩ ![] a1 (mulf (constant (F := Ideal) ⟨0, ![]⟩ FTy.f32 v) (constant (F := Ideal) ⟨0, ![]⟩ FTy.f32 w)))
      (broadcastInDim ⟨1, ![R]⟩ ![] a2 (constant (F := Ideal) ⟨0, ![]⟩ FTy.f32 u)))) (fun _ => Ideal.div (Ideal.ofBits .f32 v * Ideal.ofBits .f32 w) (Ideal.ofBits .f32 u)) := fun ι => rfl

section
variable {x0 : Vec Ideal S512x4096 .bf16} {x1 : Vec Ideal S4096x1024 .bf16} {x2 : Vec Ideal S512x1024 .f32} {x3 : Vec Ideal S1x1024 .f32} {x4 : Vec Ideal S512x1024 .f32} {U B X W T : Arr EReal}

theorem py (h0 : IsArr (β := EReal) x0 U) (h1 : IsArr (β := EReal) x1 B) : IsArr (R := 512) (C := 1024) (β := EReal) (k0_pay7 x0 x1) (yy U B) := by
  have h := arr_maxf (arr_extf (ψ := .f32) h0 bitsLt_bf16_f32) (arr_splat (w := 0x00000000#32))
  exact arr_nn (arr_truncf (ψ := .bf16) (arr_mulf h h) bitsLt_bf16_f32) h1 rfl

theorem pn (h0 : IsArr (β := EReal) x0 U) (h1 : IsArr (β := EReal) x1 B) : IsArr (R := 512) (C := 1024) (β := EReal) (k0_pay9 x0 x1) (nm U B) :=
  arr_mulf (py h0 h1) (arr_bc_col (arr_krs (py h0 h1)) _)

theorem pe (h0 : IsArr (β := EReal) x0 U) (h1 : IsArr (β := EReal) x1 B) (h2 : IsArr (β := EReal) x2 X) (h3 : IsArr (β := EReal) x3 W) (h4 : IsArr (β := EReal) x4 T) : IsArr (R := 512) (C := 1024) (β := EReal) (k0_pay10 x0 x1 x3 x2 x4) (er U B X W T) :=
  arr_subf (arr_addf h2 (arr_mulf (pn h0 h1) (arr_bc_row h3 _))) h4

theorem pay6 (h0 : IsArr (β := EReal) x0 U) (h1 : IsArr (β := EReal) x1 B) (h2 : IsArr (β := EReal) x2 X) (h3 : IsArr (β := EReal) x3 W) (h4 : IsArr (β := EReal) x4 T) : IsArr (R := 512) (C := 1024) (β := EReal) (k0_pay2 (k0_pay10 x0 x1 x3 x2 x4)) (dx U B X W T) :=
  arr_mulf (pe h0 h1 h2 h3 h4) arr_splat

theorem pay5 (h0 : IsArr (β := EReal) x0 U) (h1 : IsArr (β := EReal) x1 B) (h2 : IsArr (β := EReal) x2 X) (h3 : IsArr (β := EReal) x3 W) (h4 : IsArr (β := EReal) x4 T) : IsArr (R := 512) (C := 1024) (β := EReal) (k0_pay4 (k0_pay8 x0 x1) (k0_pay9 x0 x1) x3 (k0_pay10 x0 x1 x3 x2 x4)) (dy U B X W T) :=
  arr_truncf (ψ := .bf16) (arr_kback (b2 := broadcasts_S512x1_S512x1024) (arr_mulf (pay6 h0 h1 h2 h3 h4) (arr_bc_row h3 _)) (arr_krs (py h0 h1)) (pn h0 h1)) bitsLt_bf16_f32

theorem pay7 (h0 : IsArr (β := EReal) x0 U) (h1 : IsArr (β := EReal) x1 B) (h2 : IsArr (β := EReal) x2 X) (h3 : IsArr (β := EReal) x3 W) (h4 : IsArr (β := EReal) x4 T) {y : Vec Ideal S1x128 .f32} {Y : Arr EReal} (hy : IsArr (β := EReal) y Y) :
    IsArr (R := 1) (C := 128) (β := EReal) (k0_pay1 (k0_pay11 x0 x1 x3 x2 x4) y) (fun p => Y p + ∑ r ∈ Finset.range 512, ls U B X W T r p.2) :=
  arr_eq (arr_addf (arr_same hy _) (arr_bc_col (arr_same (arr_mulf (arr_colsum (arr_rowsum (arr_mulf (pe h0 h1 h2 h3 h4) (pe h0 h1 h2 h3 h4)) _ _ _ _) _ _ _ _) arr_splat) _) _))
    fun p => congrArg (Y p + ·) (scale_sum _ _)

theorem pay8 (h0 : IsArr (β := EReal) x0 U) (h1 : IsArr (β := EReal) x1 B) (h2 : IsArr (β := EReal) x2 X) (h3 : IsArr (β := EReal) x3 W) (h4 : IsArr (β := EReal) x4 T) {y : Vec Ideal S1x1024 .f32} {Y : Arr EReal} (hy : IsArr (β := EReal) y Y) :
    IsArr (R := 1) (C := 1024) (β := EReal) (k0_pay3 (k0_pay9 x0 x1) (k0_pay10 x0 x1 x3 x2 x4) y) (fun p => Y p + ∑ r ∈ Finset.range 512, dw U B X W T r p.2) :=
  arr_addf (arr_same hy _) (arr_colsum (arr_mulf (pay6 h0 h1 h2 h3 h4) (pn h0 h1)) _ _ _ _)

end

section
variable {U B X W T : Arr EReal} (h0 : IsArr (R := 2048) (C := 4096) (β := EReal) (m ((c : Thread nD τ).loc main_arg0)) U)
  (h1 : IsArr (R := 4096) (C := 1024) (β := EReal) (m ((c : Thread nD τ).loc main_arg1)) B)
  (h2 : IsArr (R := 2048) (C := 1024) (β := EReal) (m ((c : Thread nD τ).loc main_arg2)) X)
  (h3 : IsArr (R := 1) (C := 1024) (β := EReal) (m ((c : Thread nD τ).loc main_arg3)) W)
  (h4 : IsArr (R := 2048) (C := 1024) (β := EReal) (m ((c : Thread nD τ).loc main_arg4)) T)

include h0 h1 h2 h3 h4 in
/-- The kernel's gradient in the down projection. -/
theorem final5 : IsArr (R := 2048) (C := 1024) (β := EReal) ((dats m 0 c).arrAt 5 cfg0.N) (dy U B X W T) := fun ι => by
  obtain ⟨t, y, e0, e1, e⟩ := arrAt_rows (dats m 0 c) 5 Value.disjoint5 (by decide +kernel) rfl (0 : Fin 2) (1 : Fin 2) 512 1024 (by decide)
    (by decide +kernel) rfl ι (ι 0).isLt (ι 1).isLt
  have ho : IsArr (R := 512) (C := 1024) (β := EReal) (outsAt0 m c t.val t.isLt).1 (dy (loadAt (512 * t.val, 0) U) (loadAt (0, 0) B) (loadAt (512 * t.val, 0) X) (loadAt (0, 0) W) (loadAt (512 * t.val, 0) T)) := by
    intro j
    by_cases h : t.val % 4 = 0
    · refine (congrFun (congrArg (fun z => z.1) (outsAt0_A m c t h)) j).trans ?_
      frame_out
      exact (pay5 (blk0 m c t h0) (blk1 m c t h1) (blk2 m c t h2) (blk3 m c t h3) (blk4 m c t h4)) j
    · refine (congrFun (congrArg (fun z => z.1) (outsAt0_B m c t h)) j).trans ?_
      frame_out
      exact (pay5 (blk0 m c t h0) (blk1 m c t h1) (blk2 m c t h2) (blk3 m c t h3) (blk4 m c t h4)) j
  refine e.trans ?_
  rw [Value.flushed5]
  generalize (outsAt0 m c t.val t.isLt).1 = Z at ho ⊢
  refine (ho (win0_5.xinj (grid0.coords t) y)).trans ?_
  show dy _ _ _ _ _ ((y (0 : Fin 2) : ℕ), (y (1 : Fin 2) : ℕ)) = _
  unfold dy dx er nm yy sq loadAt
  dsimp only
  rw [← e0, ← e1]
  simp only [Nat.zero_add]

include h0 h1 h2 h3 h4 in
/-- The kernel's gradient in the stream. -/
theorem final6 : IsArr (R := 2048) (C := 1024) (β := EReal) ((dats m 0 c).arrAt 6 cfg0.N) (dx U B X W T) := fun ι => by
  obtain ⟨t, y, e0, e1, e⟩ := arrAt_rows (dats m 0 c) 6 Value.disjoint6 (by decide +kernel) rfl (0 : Fin 2) (1 : Fin 2) 512 1024 (by decide)
    (by decide +kernel) rfl ι (ι 0).isLt (ι 1).isLt
  have ho : IsArr (R := 512) (C := 1024) (β := EReal) (outsAt0 m c t.val t.isLt).2.1 (dx (loadAt (512 * t.val, 0) U) (loadAt (0, 0) B) (loadAt (512 * t.val, 0) X) (loadAt (0, 0) W) (loadAt (512 * t.val, 0) T)) := by
    intro j
    by_cases h : t.val % 4 = 0
    · refine (congrFun (congrArg (fun z => z.2.1) (outsAt0_A m c t h)) j).trans ?_
      frame_out
      exact (pay6 (blk0 m c t h0) (blk1 m c t h1) (blk2 m c t h2) (blk3 m c t h3) (blk4 m c t h4)) j
    · refine (congrFun (congrArg (fun z => z.2.1) (outsAt0_B m c t h)) j).trans ?_
      frame_out
      exact (pay6 (blk0 m c t h0) (blk1 m c t h1) (blk2 m c t h2) (blk3 m c t h3) (blk4 m c t h4)) j
  refine e.trans ?_
  rw [Value.flushed6]
  generalize (outsAt0 m c t.val t.isLt).2.1 = Z at ho ⊢
  refine (ho (win0_6.xinj (grid0.coords t) y)).trans ?_
  show dx _ _ _ _ _ ((y (0 : Fin 2) : ℕ), (y (1 : Fin 2) : ℕ)) = _
  unfold dx er nm yy sq loadAt
  dsimp only
  rw [← e0, ← e1]
  simp only [Nat.zero_add]

include h0 h1 h2 h3 h4 in
/-- The loss. -/
theorem final7 : IsArr (R := 1) (C := 128) (β := EReal) ((dats m 0 c).arrAt 7 cfg0.N) (fun p => ∑ r ∈ Finset.range 2048, ls U B X W T r p.2) := fun ι => by
  have hb : ∀ t : Fin cfg0.N, ∀ r x, ls (loadAt (512 * t.val, 0) U) (loadAt (0, 0) B) (loadAt (512 * t.val, 0) X) (loadAt (0, 0) W) (loadAt (512 * t.val, 0) T) r x = ls U B X W T (512 * t.val + r) x := fun t r x => by
    unfold ls er nm yy sq loadAt
    simp only [Nat.zero_add]
  refine ((dats m 0 c).arrAt_emb_eq_after_last 7 (⟨3, by decide⟩ : Fin cfg0.N) (by decide +kernel) ι).trans ?_
  rw [after0_7]
  refine acc_rows (fun n hn => (outsAt0 m c n hn).2.2.1) (ls U B X W T) (fun hn j => ?_) (fun n _ hn Y ih j => ?_) 3 (by decide) ι
  · refine (congrFun (congrArg (fun z => z.2.2.1) (outsAt0_A m c ⟨0, hn⟩ rfl)) j).trans ?_
    frame_out
    exact arr_eq (pay7 (blk0 m c ⟨0, hn⟩ h0) (blk1 m c ⟨0, hn⟩ h1) (blk2 m c ⟨0, hn⟩ h2) (blk3 m c ⟨0, hn⟩ h3) (blk4 m c ⟨0, hn⟩ h4) arr_splat) (fun p => congrArg (_ + ·) (Finset.sum_congr rfl fun r _ => hb ⟨0, hn⟩ r _)) j
  · have hn' : n + 1 < 4 := hn
    refine (congrFun (congrArg (fun z => z.2.2.1) (outsAt0_B m c ⟨n + 1, hn⟩ (by show ¬ (n + 1) % 4 = 0; omega))) j).trans ?_
    frame_out
    exact arr_eq (pay7 (blk0 m c ⟨n + 1, hn⟩ h0) (blk1 m c ⟨n + 1, hn⟩ h1) (blk2 m c ⟨n + 1, hn⟩ h2) (blk3 m c ⟨n + 1, hn⟩ h3) (blk4 m c ⟨n + 1, hn⟩ h4) ih) (fun p => congrArg (Y p + ·) (Finset.sum_congr rfl fun r _ => hb ⟨n + 1, hn⟩ r _)) j

include h0 h1 h2 h3 h4 in
/-- The gain's gradient. -/
theorem final8 : IsArr (R := 1) (C := 1024) (β := EReal) ((dats m 0 c).arrAt 8 cfg0.N) (fun p => ∑ r ∈ Finset.range 2048, dw U B X W T r p.2) := fun ι => by
  have hb : ∀ t : Fin cfg0.N, ∀ r x, dw (loadAt (512 * t.val, 0) U) (loadAt (0, 0) B) (loadAt (512 * t.val, 0) X) (loadAt (0, 0) W) (loadAt (512 * t.val, 0) T) r x = dw U B X W T (512 * t.val + r) x := fun t r x => by
    unfold dw dx er nm yy sq loadAt
    simp only [Nat.zero_add]
  refine ((dats m 0 c).arrAt_emb_eq_after_last 8 (⟨3, by decide⟩ : Fin cfg0.N) (by decide +kernel) ι).trans ?_
  rw [after0_8]
  refine acc_rows (fun n hn => (outsAt0 m c n hn).2.2.2) (dw U B X W T) (fun hn j => ?_) (fun n _ hn Y ih j => ?_) 3 (by decide) ι
  · refine (congrFun (congrArg (fun z => z.2.2.2) (outsAt0_A m c ⟨0, hn⟩ rfl)) j).trans ?_
    frame_out
    exact arr_eq (pay8 (blk0 m c ⟨0, hn⟩ h0) (blk1 m c ⟨0, hn⟩ h1) (blk2 m c ⟨0, hn⟩ h2) (blk3 m c ⟨0, hn⟩ h3) (blk4 m c ⟨0, hn⟩ h4) arr_splat) (fun p => congrArg (_ + ·) (Finset.sum_congr rfl fun r _ => hb ⟨0, hn⟩ r _)) j
  · have hn' : n + 1 < 4 := hn
    refine (congrFun (congrArg (fun z => z.2.2.2) (outsAt0_B m c ⟨n + 1, hn⟩ (by show ¬ (n + 1) % 4 = 0; omega))) j).trans ?_
    frame_out
    exact arr_eq (pay8 (blk0 m c ⟨n + 1, hn⟩ h0) (blk1 m c ⟨n + 1, hn⟩ h1) (blk2 m c ⟨n + 1, hn⟩ h2) (blk3 m c ⟨n + 1, hn⟩ h3) (blk4 m c ⟨n + 1, hn⟩ h4) ih) (fun p => congrArg (Y p + ·) (Finset.sum_congr rfl fun r _ => hb ⟨n + 1, hn⟩ r _)) j

end

end Cert.StepLoss

namespace Cert.StepLoss

open Cert Cert.ReferenceLossIdeal Cert.ReferenceLossIdeal.Gen Idealize.ShloMosaic Idealize.SL.Sem Idealize.ShloMosaic.Updates Cert.Fox Cert.Step

theorem frame_r : Cert.quiescent_ReferenceLossIdeal := by
  intro m ρ _
  exact (θ_run ReferenceLossIdeal.defs _ _).mono
    (fun r h => ⟨fun c => (h c).2.2.2.2, Idealize.ShloMosaic.sem_eq_zero_of_no_sems (by decide) r.2⟩)
    (ReferenceLossIdeal.Value.run (F := Ideal) m ρ)

/-- Over the extended reals the kernel's four arrays are the reference's. -/
theorem value : Cert.algebraic_KernelLossIdeal_ReferenceLossIdeal := by
  intro m g m' g' _ hm
  refine ⟨fun c => (KernelLossIdeal.Gen.dats m 0 c).arrAt 5 KernelLossIdeal.cfg0.N, fun c => (KernelLossIdeal.Gen.dats m 0 c).arrAt 6 KernelLossIdeal.cfg0.N, fun c => (KernelLossIdeal.Gen.dats m 0 c).arrAt 7 KernelLossIdeal.cfg0.N, fun c => (KernelLossIdeal.Gen.dats m 0 c).arrAt 8 KernelLossIdeal.cfg0.N, KernelLossIdeal.Value.run_blocks m g, ?_⟩
  refine (θ_run ReferenceLossIdeal.defs _ _).mono (fun r h c => ?_) (ReferenceLossIdeal.Value.run (F := Ideal) m' g')
  obtain ⟨e0, e1, e2, e3, hk⟩ := h c
  obtain ⟨a0, a1, a2, a3, a4⟩ := hm c
  obtain ⟨U, h0, k0⟩ : ∃ A : Arr EReal, IsArr (R := 2048) (C := 4096) (β := EReal) (m ((c.tc : Thread KernelLossIdeal.nD KernelLossIdeal.τ).loc KernelLossIdeal.main_arg0)) A ∧
      IsArr (R := 2048) (C := 4096) (β := EReal) (m' ((c.tc : Thread ReferenceLossIdeal.nD ReferenceLossIdeal.τ).loc ReferenceLossIdeal.main_arg0)) A :=
    ⟨_, isArr_ofBlk (by decide) (by decide) _, by rw [a0]; exact isArr_ofBlk (by decide) (by decide) _⟩
  obtain ⟨B, h1, k1⟩ : ∃ A : Arr EReal, IsArr (R := 4096) (C := 1024) (β := EReal) (m ((c.tc : Thread KernelLossIdeal.nD KernelLossIdeal.τ).loc KernelLossIdeal.main_arg1)) A ∧
      IsArr (R := 4096) (C := 1024) (β := EReal) (m' ((c.tc : Thread ReferenceLossIdeal.nD ReferenceLossIdeal.τ).loc ReferenceLossIdeal.main_arg1)) A :=
    ⟨_, isArr_ofBlk (by decide) (by decide) _, by rw [a1]; exact isArr_ofBlk (by decide) (by decide) _⟩
  obtain ⟨X, h2, k2⟩ : ∃ A : Arr EReal, IsArr (R := 2048) (C := 1024) (β := EReal) (m ((c.tc : Thread KernelLossIdeal.nD KernelLossIdeal.τ).loc KernelLossIdeal.main_arg2)) A ∧
      IsArr (R := 2048) (C := 1024) (β := EReal) (m' ((c.tc : Thread ReferenceLossIdeal.nD ReferenceLossIdeal.τ).loc ReferenceLossIdeal.main_arg2)) A :=
    ⟨_, isArr_ofBlk (by decide) (by decide) _, by rw [a2]; exact isArr_ofBlk (by decide) (by decide) _⟩
  obtain ⟨W, h3, k3⟩ : ∃ A : Arr EReal, IsArr (R := 1) (C := 1024) (β := EReal) (m ((c.tc : Thread KernelLossIdeal.nD KernelLossIdeal.τ).loc KernelLossIdeal.main_arg3)) A ∧
      IsArr (R := 1) (C := 1024) (β := EReal) (m' ((c.tc : Thread ReferenceLossIdeal.nD ReferenceLossIdeal.τ).loc ReferenceLossIdeal.main_arg3)) A :=
    ⟨_, isArr_ofBlk (by decide) (by decide) _, by rw [a3]; exact isArr_ofBlk (by decide) (by decide) _⟩
  obtain ⟨T, h4, k4⟩ : ∃ A : Arr EReal, IsArr (R := 2048) (C := 1024) (β := EReal) (m ((c.tc : Thread KernelLossIdeal.nD KernelLossIdeal.τ).loc KernelLossIdeal.main_arg4)) A ∧
      IsArr (R := 2048) (C := 1024) (β := EReal) (m' ((c.tc : Thread ReferenceLossIdeal.nD ReferenceLossIdeal.τ).loc ReferenceLossIdeal.main_arg4)) A :=
    ⟨_, isArr_ofBlk (by decide) (by decide) _, by rw [a4]; exact isArr_ofBlk (by decide) (by decide) _⟩
  have hr := arr_maxf (arr_extf (ψ := .f32) k0 bitsLt_bf16_f32) (arr_bcast0 (w := 0x00000000#32) bcast_S_S2048x4096)
  have hy := arr_dnn (d := dot_S2048x4096_S4096x1024_S2048x1024_1_0_0_1_n_n) (arr_mulf hr hr) (arr_extf (ψ := .f32) k1 bitsLt_bf16_f32) rfl
  have hn := arr_hnormed hy (a1 := reducesTo_S2048x1024_S2048_d1) (a2 := h_S_) (a3 := bcast_S2048_S2048x1_0) (a4 := bcast_S_S2048x1) (a5 := bcast_S_S2048x1) (b1 := bcast_S2048x1_S2048x1024_0_1)
  have hw := arr_brow (h := bcast_S1x1024_S2048x1024_0_1) (arr_vec (h1 := shapeCasts_S1x1024_S1024) (h2 := bcast_S1024_S1x1024_1) k3)
  have he := arr_subf (arr_addf k2 (arr_mulf hn hw)) k4
  have r6 := arr_eq (B := dx U B X W T) (arr_mulf (arr_hfac (v := 0x3F000000#32) (w := 0x3F800000#32) (u := 0x44800000#32) (a1 := bcast_S_S2048) (a2 := bcast_S_S2048) (a3 := bcast_S2048_S2048x1024_0))
    (arr_mulf (arr_bcast0 (w := 0x40000000#32) bcast_S_S2048x1024) he)) fun p => dx_eq _
  have hg := arr_mulf r6 hw
  have r5 : IsArr (R := 2048) (C := 1024) (β := EReal) (Value.res_main_v58 m' c) (dy U B X W T) := by
    unfold Value.res_main_v58
    exact arr_eq (arr_truncf (ψ := .bf16) (arr_hback hy hg (arr_bcol (arr_hrs hy)) (arr_hq hy hg) (arr_hq hy hg)) bitsLt_bf16_f32) fun p => (back_eq _ _ _).symm
  exact ⟨e0.trans (arr_ext r5 (final5 m c h0 h1 h2 h3 h4) fun _ _ _ _ => rfl), e1.trans (arr_ext r6 (final6 m c h0 h1 h2 h3 h4) fun _ _ _ _ => rfl), e2.trans (arr_ext (arr_hloss (arr_mulf he he)) (final7 m c h0 h1 h2 h3 h4) fun _ _ _ _ => loss_eq _ _), e3.trans (arr_ext (arr_hone_row (arr_hcol (arr_mulf hn r6))) (final8 m c h0 h1 h2 h3 h4) fun _ _ _ _ => Finset.sum_congr rfl fun _ _ => mul_comm _ _), hk⟩

end Cert.StepLoss

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.FoxFinal
public import proofs.«01_k».proof.Proof.FoxPre
public import proofs.«01_k».proof.Proof.FoxKernel
public import proofs.«01_k».proof.Proof.StepAdamUp
public import proofs.«01_k».proof.Proof.StepAdamDown
public import proofs.«01_k».proof.Proof.StepAdamOut
public import proofs.«01_k».proof.Proof.StepAdamIn
public import proofs.«01_k».proof.Proof.StepWout
public import proofs.«01_k».proof.Proof.StepWin
public import proofs.«01_k».proof.Proof.StepUp
public import proofs.«01_k».proof.Proof.StepDown
public import proofs.«01_k».proof.Proof.StepAct
public import proofs.«01_k».proof.Proof.Gen.KernelAct
public import proofs.«01_k».proof.Proof.Gen.KernelActIdeal
public import proofs.«01_k».proof.Proof.Gen.ReferenceActIdeal
public import proofs.«01_k».proof.Proof.Gen.KernelAct.Frame
public import proofs.«01_k».proof.Proof.Gen.KernelActIdeal.Frame
public import proofs.«01_k».proof.Proof.Gen.KernelDown
public import proofs.«01_k».proof.Proof.Gen.KernelDownIdeal
public import proofs.«01_k».proof.Proof.Gen.ReferenceDownIdeal
public import proofs.«01_k».proof.Proof.Gen.KernelDown.Frame
public import proofs.«01_k».proof.Proof.Gen.KernelDownIdeal.Frame
public import proofs.«01_k».proof.Proof.Gen.KernelUp
public import proofs.«01_k».proof.Proof.Gen.KernelUpIdeal
public import proofs.«01_k».proof.Proof.Gen.ReferenceUpIdeal
public import proofs.«01_k».proof.Proof.Gen.KernelUp.Frame
public import proofs.«01_k».proof.Proof.Gen.KernelUpIdeal.Frame
public import proofs.«01_k».proof.Proof.Gen.KernelWin
public import proofs.«01_k».proof.Proof.Gen.KernelWinIdeal
public import proofs.«01_k».proof.Proof.Gen.ReferenceWinIdeal
public import proofs.«01_k».proof.Proof.Gen.KernelWin.Frame
public import proofs.«01_k».proof.Proof.Gen.KernelWinIdeal.Frame
public import proofs.«01_k».proof.Proof.Gen.KernelWout
public import proofs.«01_k».proof.Proof.Gen.KernelWoutIdeal
public import proofs.«01_k».proof.Proof.Gen.ReferenceWoutIdeal
public import proofs.«01_k».proof.Proof.Gen.KernelWout.Frame
public import proofs.«01_k».proof.Proof.Gen.KernelWoutIdeal.Frame
public import proofs.«01_k».proof.Proof.Gen.KernelIn
public import proofs.«01_k».proof.Proof.Gen.KernelInIdeal
public import proofs.«01_k».proof.Proof.Gen.ReferenceInIdeal
public import proofs.«01_k».proof.Proof.Gen.KernelIn.Frame
public import proofs.«01_k».proof.Proof.Gen.KernelInIdeal.Frame
public import proofs.«01_k».proof.Proof.StepIn
public import proofs.«01_k».proof.Proof.Gen.KernelMlp
public import proofs.«01_k».proof.Proof.Gen.KernelMlpIdeal
public import proofs.«01_k».proof.Proof.Gen.ReferenceMlpIdeal
public import proofs.«01_k».proof.Proof.Gen.KernelMlp.Frame
public import proofs.«01_k».proof.Proof.Gen.KernelMlpIdeal.Frame
public import proofs.«01_k».proof.Proof.StepMlp
public import proofs.«01_k».proof.Proof.Gen.KernelProj
public import proofs.«01_k».proof.Proof.Gen.KernelProjIdeal
public import proofs.«01_k».proof.Proof.Gen.ReferenceProjIdeal
public import proofs.«01_k».proof.Proof.Gen.KernelProj.Frame
public import proofs.«01_k».proof.Proof.Gen.KernelProjIdeal.Frame
public import proofs.«01_k».proof.Proof.StepProj
public import proofs.«01_k».proof.Proof.Gen.KernelFwd
public import proofs.«01_k».proof.Proof.Gen.KernelFwdIdeal
public import proofs.«01_k».proof.Proof.Gen.ReferenceFwdIdeal
public import proofs.«01_k».proof.Proof.Gen.KernelFwd.Frame
public import proofs.«01_k».proof.Proof.Gen.KernelFwdIdeal.Frame
public import proofs.«01_k».proof.Proof.StepFwd
public import proofs.«01_k».proof.Proof.Gen.KernelLoss
public import proofs.«01_k».proof.Proof.Gen.KernelLossIdeal
public import proofs.«01_k».proof.Proof.Gen.ReferenceLossIdeal
public import proofs.«01_k».proof.Proof.Gen.KernelLoss.Frame
public import proofs.«01_k».proof.Proof.Gen.KernelLossIdeal.Frame
public import proofs.«01_k».proof.Proof.StepLoss
public import proofs.«01_k».proof.Proof.Gen.KernelAdamUp
public import proofs.«01_k».proof.Proof.Gen.KernelAdamUpIdeal
public import proofs.«01_k».proof.Proof.Gen.ReferenceAdamUpIdeal
public import proofs.«01_k».proof.Proof.Gen.ReferenceAdamUpIdeal.Run
public import proofs.«01_k».proof.Proof.Gen.KernelAdamUp.Frame
public import proofs.«01_k».proof.Proof.Gen.KernelAdamUpIdeal.Frame
public import proofs.«01_k».proof.Proof.Gen.KernelAdamDown
public import proofs.«01_k».proof.Proof.Gen.KernelAdamDownIdeal
public import proofs.«01_k».proof.Proof.Gen.ReferenceAdamDownIdeal
public import proofs.«01_k».proof.Proof.Gen.ReferenceAdamDownIdeal.Run
public import proofs.«01_k».proof.Proof.Gen.KernelAdamDown.Frame
public import proofs.«01_k».proof.Proof.Gen.KernelAdamDownIdeal.Frame
public import proofs.«01_k».proof.Proof.Gen.KernelAdamOut
public import proofs.«01_k».proof.Proof.Gen.KernelAdamOutIdeal
public import proofs.«01_k».proof.Proof.Gen.ReferenceAdamOutIdeal
public import proofs.«01_k».proof.Proof.Gen.ReferenceAdamOutIdeal.Run
public import proofs.«01_k».proof.Proof.Gen.KernelAdamOut.Frame
public import proofs.«01_k».proof.Proof.Gen.KernelAdamOutIdeal.Frame
public import proofs.«01_k».proof.Proof.Gen.KernelAdamIn
public import proofs.«01_k».proof.Proof.Gen.KernelAdamInIdeal
public import proofs.«01_k».proof.Proof.Gen.ReferenceAdamInIdeal
public import proofs.«01_k».proof.Proof.Gen.ReferenceAdamInIdeal.Run
public import proofs.«01_k».proof.Proof.Gen.KernelAdamIn.Frame
public import proofs.«01_k».proof.Proof.Gen.KernelAdamInIdeal.Frame
public import Idealize.ShloMosaic.Adequacy
public import Idealize.ShloMosaic.Init
public import Idealize.ShloMosaic.Lib.Quiescent

@[expose] public section

noncomputable section

namespace Cert.Proof

open Idealize.ShloMosaic Idealize.SL.Sem

instance preFacts : Cert.Pre_finite.Facts := Cert.Fox.Pre.facts

/-- The reference's arguments end unchanged and every counter at zero: it declares no semaphore. -/
theorem frame_r : Cert.quiescent_ReferenceIdeal := by
  intro m ρ _
  exact (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- The stand-in of the mask names minus infinity. -/
theorem preserved : Cert.preserves_Kernel_KernelIdeal :=
  IdealRules.named_const.statement _ "mask" .f32 0xF149F2CA#32 ⊥ rfl

/-- Over the extended reals the kernel's results are the reference's. -/
theorem value : Cert.algebraic_KernelIdeal_ReferenceIdeal_pre_finite := by
  intro m g m' g' hp hm
  have hr : ∀ c : Dev Cert.KernelIdeal.nD, Cert.Fox.Reals (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) := fun c =>
    Cert.Fox.Pre.reals (hp c).1 (hp c).2.1 (hp c).2.2
  refine ⟨fun c => (Cert.Fox.dats m 0 c).arrAt 7 Cert.KernelIdeal.cfg0.N, fun c => (Cert.Fox.dats m 0 c).arrAt 8 Cert.KernelIdeal.cfg0.N,
    fun c => (Cert.Fox.dats m 0 c).arrAt 9 Cert.KernelIdeal.cfg0.N, Cert.Fox.run_blocks m g, ?_⟩
  refine (θ_run Cert.ReferenceIdeal.defs _ _).mono (fun r h c => ?_) (Cert.ReferenceIdeal.Value.run (F := Ideal) m' g')
  obtain ⟨h0, h1, h2, hk⟩ := h c
  obtain ⟨a0, a1, a2, a3, -⟩ := hm c
  refine ⟨h0.trans ((Cert.Fox.Ref.res100 m' c).trans ?_), h1.trans ((Cert.Fox.Ref.res102 m' c).trans ?_), h2.trans ((Cert.Fox.Ref.res104 m' c).trans ?_), hk⟩
  · rw [a0, a1, a2, a3]
    exact (Cert.Fox.final7 m c (hr c) rfl rfl rfl rfl).symm
  · rw [a0, a1, a2]
    exact (Cert.Fox.final8 m c (hr c) rfl rfl rfl).symm
  · rw [a0, a1, a2]
    exact (Cert.Fox.final9 m c (hr c) rfl rfl rfl).symm

theorem claim : Cert.Claim := ⟨Cert.Kernel.Gen.facts, Cert.KernelIdeal.Gen.facts, Cert.ReferenceIdeal.Gen.facts,
  Cert.KernelAct.Gen.facts, Cert.KernelActIdeal.Gen.facts, Cert.ReferenceActIdeal.Gen.facts, Cert.KernelDown.Gen.facts,
  Cert.KernelDownIdeal.Gen.facts, Cert.ReferenceDownIdeal.Gen.facts, Cert.KernelUp.Gen.facts, Cert.KernelUpIdeal.Gen.facts,
  Cert.ReferenceUpIdeal.Gen.facts, Cert.KernelWin.Gen.facts, Cert.KernelWinIdeal.Gen.facts, Cert.ReferenceWinIdeal.Gen.facts,
  Cert.KernelWout.Gen.facts, Cert.KernelWoutIdeal.Gen.facts, Cert.ReferenceWoutIdeal.Gen.facts, Cert.KernelIn.Gen.facts,
  Cert.KernelInIdeal.Gen.facts, Cert.ReferenceInIdeal.Gen.facts, Cert.KernelMlp.Gen.facts, Cert.KernelMlpIdeal.Gen.facts,
  Cert.ReferenceMlpIdeal.Gen.facts, Cert.KernelProj.Gen.facts, Cert.KernelProjIdeal.Gen.facts, Cert.ReferenceProjIdeal.Gen.facts,
  Cert.KernelFwd.Gen.facts, Cert.KernelFwdIdeal.Gen.facts, Cert.ReferenceFwdIdeal.Gen.facts, Cert.KernelLoss.Gen.facts,
  Cert.KernelLossIdeal.Gen.facts, Cert.ReferenceLossIdeal.Gen.facts,
  Cert.KernelAdamUp.Gen.facts, Cert.KernelAdamUpIdeal.Gen.facts, Cert.ReferenceAdamUpIdeal.Gen.facts,
  Cert.KernelAdamDown.Gen.facts, Cert.KernelAdamDownIdeal.Gen.facts, Cert.ReferenceAdamDownIdeal.Gen.facts,
  Cert.KernelAdamOut.Gen.facts, Cert.KernelAdamOutIdeal.Gen.facts, Cert.ReferenceAdamOutIdeal.Gen.facts,
  Cert.KernelAdamIn.Gen.facts, Cert.KernelAdamInIdeal.Gen.facts, Cert.ReferenceAdamInIdeal.Gen.facts,
  Cert.Fox.Pre.facts, Cert.Fox.frame_kernel,
  fun m ρ _ => Cert.Fox.frame m ρ, fun m ρ _ => Cert.Fox.frame m ρ, frame_r, fun m ρ _ => frame_r m ρ trivial,
  fun m ρ _ => Cert.KernelAct.Gen.frame m ρ, fun m ρ _ => Cert.KernelActIdeal.Gen.frame m ρ, Cert.StepAct.frame_r,
  fun m ρ _ => Cert.KernelDown.Gen.frame m ρ, fun m ρ _ => Cert.KernelDownIdeal.Gen.frame m ρ, Cert.StepDown.frame_r,
  fun m ρ _ => Cert.KernelUp.Gen.frame m ρ, fun m ρ _ => Cert.KernelUpIdeal.Gen.frame m ρ, Cert.StepUp.frame_r,
  fun m ρ _ => Cert.KernelWin.Gen.frame m ρ, fun m ρ _ => Cert.KernelWinIdeal.Gen.frame m ρ, Cert.StepWin.frame_r,
  fun m ρ _ => Cert.KernelWout.Gen.frame m ρ, fun m ρ _ => Cert.KernelWoutIdeal.Gen.frame m ρ, Cert.StepWout.frame_r,
  fun m ρ _ => Cert.KernelIn.Gen.frame m ρ, fun m ρ _ => Cert.KernelInIdeal.Gen.frame m ρ, Cert.StepIn.frame_r,
  fun m ρ _ => Cert.KernelMlp.Gen.frame m ρ, fun m ρ _ => Cert.KernelMlpIdeal.Gen.frame m ρ, Cert.StepMlp.frame_r,
  fun m ρ _ => Cert.KernelProj.Gen.frame m ρ, fun m ρ _ => Cert.KernelProjIdeal.Gen.frame m ρ, Cert.StepProj.frame_r,
  fun m ρ _ => Cert.KernelFwd.Gen.frame m ρ, fun m ρ _ => Cert.KernelFwdIdeal.Gen.frame m ρ, Cert.StepFwd.frame_r,
  fun m ρ _ => Cert.KernelLoss.Gen.frame m ρ, fun m ρ _ => Cert.KernelLossIdeal.Gen.frame m ρ, Cert.StepLoss.frame_r,
  fun m ρ _ => Cert.KernelAdamUp.Gen.frame m ρ (Cert.StepAdamUp.Printed.ok m), fun m ρ _ => Cert.KernelAdamUpIdeal.Gen.frame m ρ (Cert.StepAdamUp.ok m), Cert.StepAdamUp.frame_r,
  fun m ρ _ => Cert.KernelAdamDown.Gen.frame m ρ (Cert.StepAdamDown.Printed.ok m), fun m ρ _ => Cert.KernelAdamDownIdeal.Gen.frame m ρ (Cert.StepAdamDown.ok m), Cert.StepAdamDown.frame_r,
  fun m ρ _ => Cert.KernelAdamOut.Gen.frame m ρ (Cert.StepAdamOut.Printed.ok m), fun m ρ _ => Cert.KernelAdamOutIdeal.Gen.frame m ρ (Cert.StepAdamOut.ok m), Cert.StepAdamOut.frame_r,
  fun m ρ _ => Cert.KernelAdamIn.Gen.frame m ρ (Cert.StepAdamIn.Printed.ok m), fun m ρ _ => Cert.KernelAdamInIdeal.Gen.frame m ρ (Cert.StepAdamIn.ok m), Cert.StepAdamIn.frame_r,
  preserved, value,
  trivial, Cert.StepAct.value, trivial, Cert.StepDown.value, trivial, Cert.StepUp.value, trivial, Cert.StepWin.value, trivial,
  Cert.StepWout.value, trivial, Cert.StepIn.value, trivial, Cert.StepMlp.value, trivial, Cert.StepProj.value, trivial,
  Cert.StepFwd.value, trivial, Cert.StepLoss.value,
  trivial, Cert.StepAdamUp.value, trivial, Cert.StepAdamDown.value, trivial, Cert.StepAdamOut.value, trivial, Cert.StepAdamIn.value⟩

end Cert.Proof

end
